-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormKernelIdeal_norm_finite [hPre_norm_finite : Cert.Pre_norm_finite.Facts] (m : (ℓ : Loc Cert.NormKernelIdeal.nD Cert.NormKernelIdeal.τ Cert.NormKernelIdeal.sig) → Buf (Elt Ideal) ℓ) : Prop :=
  ∀ c : Dev Cert.NormKernelIdeal.nD,
    (Cert.Pre_norm_finite.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3)) (m ((c.tc : Thread Cert.NormKernelIdeal.nD Cert.NormKernelIdeal.τ).loc Cert.NormKernelIdeal.main_arg4)) (m ((c.tc : Thread Cert.NormKernelIdeal.nD Cert.NormKernelIdeal.τ).loc Cert.NormKernelIdeal.main_arg5)) (m ((c.tc : Thread Cert.NormKernelIdeal.nD Cert.NormKernelIdeal.τ).loc Cert.NormKernelIdeal.main_arg6))) = (fun _ => 1#1)

def Pre_NormReferenceIdeal (m : (ℓ : Loc Cert.NormReferenceIdeal.nD Cert.NormReferenceIdeal.τ Cert.NormReferenceIdeal.sig) → Buf (Elt Ideal) ℓ) : Prop :=
  True

def Pre_NormReferenceIdeal_norm_finite [hPre_norm_finite : Cert.Pre_norm_finite.Facts] (m : (ℓ : Loc Cert.NormReferenceIdeal.nD Cert.NormReferenceIdeal.τ Cert.NormReferenceIdeal.sig) → Buf (Elt Ideal) ℓ) : Prop :=
  ∀ c : Dev Cert.NormReferenceIdeal.nD,
    (Cert.Pre_norm_finite.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4)) (m ((c.tc : Thread Cert.NormReferenceIdeal.nD Cert.NormReferenceIdeal.τ).loc Cert.NormReferenceIdeal.main_arg5)) (m ((c.tc : Thread Cert.NormReferenceIdeal.nD Cert.NormReferenceIdeal.τ).loc Cert.NormReferenceIdeal.main_arg6))) = (fun _ => 1#1)

def Pre_GluKernel (m : (ℓ : Loc Cert.GluKernel.nD Cert.GluKernel.τ Cert.GluKernel.sig) → Buf (Elt Bits) ℓ) : Prop :=
  True

def Pre_GluKernelIdeal (m : (ℓ : Loc Cert.GluKernelIdeal.nD Cert.GluKernelIdeal.τ Cert.GluKernelIdeal.sig) → Buf (Elt Ideal) ℓ) : Prop :=
  True

def Pre_GluKernelIdeal_glu_finite [hPre_glu_finite : Cert.Pre_glu_finite.Facts] (m : (ℓ : Loc Cert.GluKernelIdeal.nD Cert.GluKernelIdeal.τ Cert.GluKernelIdeal.sig) → Buf (Elt Ideal) ℓ) : Prop :=
  ∀ c : Dev Cert.GluKernelIdeal.nD,
    (Cert.Pre_glu_finite.fn (F := Ideal) (m ((c.tc : Thread Cert.GluKernelIdeal.nD Cert.GluKernelIdeal.τ).loc Cert.GluKernelIdeal.main_arg0)) (m ((c.tc : Thread Cert.GluKernelIdeal.nD Cert.GluKernelIdeal.τ).loc Cert.GluKernelIdeal.main_arg1)) (m ((c.tc : Thread Cert.GluKernelIdeal.nD Cert.GluKernelIdeal.τ).loc Cert.GluKernelIdeal.main_arg2)) (m ((c.tc : Thread Cert.GluKernelIdeal.nD Cert.GluKernelIdeal.τ).loc Cert.GluKernelIdeal.main_arg3))) = (fun _ => 1#1)

def Pre_GluReferenceIdeal (m : (ℓ : Loc Cert.GluReferenceIdeal.nD Cert.GluReferenceIdeal.τ Cert.GluReferenceIdeal.sig) → Buf (Elt Ideal) ℓ) : Prop :=
  True

def Pre_GluReferenceIdeal_glu_finite [hPre_glu_finite : Cert.Pre_glu_finite.Facts] (m : (ℓ : Loc Cert.GluReferenceIdeal.nD Cert.GluReferenceIdeal.τ Cert.GluReferenceIdeal.sig) → Buf (Elt Ideal) ℓ) : Prop :=
  ∀ c : Dev Cert.GluReferenceIdeal.nD,
    (Cert.Pre_glu_finite.fn (F := Ideal) (m ((c.tc : Thread Cert.GluReferenceIdeal.nD Cert.GluReferenceIdeal.τ).loc Cert.GluReferenceIdeal.main_arg0)) (m ((c.tc : Thread Cert.GluReferenceIdeal.nD Cert.GluReferenceIdeal.τ).loc Cert.GluReferenceIdeal.main_arg1)) (m ((c.tc : Thread Cert.GluReferenceIdeal.nD Cert.GluReferenceIdeal.τ).loc Cert.GluReferenceIdeal.main_arg2)) (m ((c.tc : Thread Cert.GluReferenceIdeal.nD Cert.GluReferenceIdeal.τ).loc Cert.GluReferenceIdeal.main_arg3))) = (fun _ => 1#1)

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_HiddenKernel (m : (ℓ : Loc Cert.HiddenKernel.nD Cert.HiddenKernel.τ Cert.HiddenKernel.sig) → Buf (Elt Bits) ℓ) : Prop :=
  True

def Pre_HiddenKernelIdeal (m : (ℓ : Loc Cert.HiddenKernelIdeal.nD Cert.HiddenKernelIdeal.τ Cert.HiddenKernelIdeal.sig) → Buf (Elt Ideal) ℓ) : Prop :=
  True

def Pre_HiddenKernelIdeal_hidden_finite [hPre_hidden_finite : Cert.Pre_hidden_finite.Facts] (m : (ℓ : Loc Cert.HiddenKernelIdeal.nD Cert.HiddenKernelIdeal.τ Cert.HiddenKernelIdeal.sig) → Buf (Elt Ideal) ℓ) : Prop :=
  ∀ c : Dev Cert.HiddenKernelIdeal.nD,
    (Cert.Pre_hidden_finite.fn (F := Ideal) (m ((c.tc : Thread Cert.HiddenKernelIdeal.nD Cert.HiddenKernelIdeal.τ).loc Cert.HiddenKernelIdeal.main_arg0)) (m ((c.tc : Thread Cert.HiddenKernelIdeal.nD Cert.HiddenKernelIdeal.τ).loc Cert.HiddenKernelIdeal.main_arg1)) (m ((c.tc : Thread Cert.HiddenKernelIdeal.nD Cert.HiddenKernelIdeal.τ).loc Cert.HiddenKernelIdeal.main_arg2))) = (fun _ => 1#1)

def Pre_HiddenReferenceIdeal (m : (ℓ : Loc Cert.HiddenReferenceIdeal.nD Cert.HiddenReferenceIdeal.τ Cert.HiddenReferenceIdeal.sig) → Buf (Elt Ideal) ℓ) : Prop :=
  True

def Pre_HiddenReferenceIdeal_hidden_finite [hPre_hidden_finite : Cert.Pre_hidden_finite.Facts] (m : (ℓ : Loc Cert.HiddenReferenceIdeal.nD Cert.HiddenReferenceIdeal.τ Cert.HiddenReferenceIdeal.sig) → Buf (Elt Ideal) ℓ) : Prop :=
  ∀ c : Dev Cert.HiddenReferenceIdeal.nD,
    (Cert.Pre_hidden_finite.fn (F := Ideal) (m ((c.tc : Thread Cert.HiddenReferenceIdeal.nD Cert.HiddenReferenceIdeal.τ).loc Cert.HiddenReferenceIdeal.main_arg0)) (m ((c.tc : Thread Cert.HiddenReferenceIdeal.nD Cert.HiddenReferenceIdeal.τ).loc Cert.HiddenReferenceIdeal.main_arg1)) (m ((c.tc : Thread Cert.HiddenReferenceIdeal.nD Cert.HiddenReferenceIdeal.τ).loc Cert.HiddenReferenceIdeal.main_arg2))) = (fun _ => 1#1)

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixKernelIdeal_mix_finite [hPre_mix_finite : Cert.Pre_mix_finite.Facts] (m : (ℓ : Loc Cert.MixKernelIdeal.nD Cert.MixKernelIdeal.τ Cert.MixKernelIdeal.sig) → Buf (Elt Ideal) ℓ) : Prop :=
  ∀ c : Dev Cert.MixKernelIdeal.nD,
    (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4))) = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_mix_finite [hPre_mix_finite : Cert.Pre_mix_finite.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4))) = (fun _ => 1#1)

def Pre_InGradKernel (m : (ℓ : Loc Cert.InGradKernel.nD Cert.InGradKernel.τ Cert.InGradKernel.sig) → Buf (Elt Bits) ℓ) : Prop :=
  True

def Pre_InGradKernelIdeal (m : (ℓ : Loc Cert.InGradKernelIdeal.nD Cert.InGradKernelIdeal.τ Cert.InGradKernelIdeal.sig) → Buf (Elt Ideal) ℓ) : Prop :=
  True

def Pre_InGradReferenceIdeal (m : (ℓ : Loc Cert.InGradReferenceIdeal.nD Cert.InGradReferenceIdeal.τ Cert.InGradReferenceIdeal.sig) → Buf (Elt Ideal) ℓ) : Prop :=
  True

def Pre_IntoKernel (m : (ℓ : Loc Cert.IntoKernel.nD Cert.IntoKernel.τ Cert.IntoKernel.sig) → Buf (Elt Bits) ℓ) : Prop :=
  True

def Pre_IntoKernelIdeal (m : (ℓ : Loc Cert.IntoKernelIdeal.nD Cert.IntoKernelIdeal.τ Cert.IntoKernelIdeal.sig) → Buf (Elt Ideal) ℓ) : Prop :=
  True

def Pre_IntoReferenceIdeal (m : (ℓ : Loc Cert.IntoReferenceIdeal.nD Cert.IntoReferenceIdeal.τ Cert.IntoReferenceIdeal.sig) → Buf (Elt Ideal) ℓ) : Prop :=
  True

def Pre_ResidualKernel (m : (ℓ : Loc Cert.ResidualKernel.nD Cert.ResidualKernel.τ Cert.ResidualKernel.sig) → Buf (Elt Bits) ℓ) : Prop :=
  True

def Pre_ResidualKernelIdeal (m : (ℓ : Loc Cert.ResidualKernelIdeal.nD Cert.ResidualKernelIdeal.τ Cert.ResidualKernelIdeal.sig) → Buf (Elt Ideal) ℓ) : Prop :=
  True

def Pre_ResidualReferenceIdeal (m : (ℓ : Loc Cert.ResidualReferenceIdeal.nD Cert.ResidualReferenceIdeal.τ Cert.ResidualReferenceIdeal.sig) → Buf (Elt Ideal) ℓ) : Prop :=
  True

def Pre_UpdateKernel (m : (ℓ : Loc Cert.UpdateKernel.nD Cert.UpdateKernel.τ Cert.UpdateKernel.sig) → Buf (Elt Bits) ℓ) : Prop :=
  True

def Pre_UpdateKernelIdeal (m : (ℓ : Loc Cert.UpdateKernelIdeal.nD Cert.UpdateKernelIdeal.τ Cert.UpdateKernelIdeal.sig) → Buf (Elt Ideal) ℓ) : Prop :=
  True

def Pre_UpdateReferenceIdeal (m : (ℓ : Loc Cert.UpdateReferenceIdeal.nD Cert.UpdateReferenceIdeal.τ Cert.UpdateReferenceIdeal.sig) → Buf (Elt Ideal) ℓ) : Prop :=
  True

def Pre_GainKernel (m : (ℓ : Loc Cert.GainKernel.nD Cert.GainKernel.τ Cert.GainKernel.sig) → Buf (Elt Bits) ℓ) : Prop :=
  True

def Pre_GainKernelIdeal (m : (ℓ : Loc Cert.GainKernelIdeal.nD Cert.GainKernelIdeal.τ Cert.GainKernelIdeal.sig) → Buf (Elt Ideal) ℓ) : Prop :=
  True

def Pre_GainReferenceIdeal (m : (ℓ : Loc Cert.GainReferenceIdeal.nD Cert.GainReferenceIdeal.τ Cert.GainReferenceIdeal.sig) → Buf (Elt Ideal) ℓ) : Prop :=
  True

def Pre_SumKernel (m : (ℓ : Loc Cert.SumKernel.nD Cert.SumKernel.τ Cert.SumKernel.sig) → Buf (Elt Bits) ℓ) : Prop :=
  True

def Pre_SumKernelIdeal (m : (ℓ : Loc Cert.SumKernelIdeal.nD Cert.SumKernelIdeal.τ Cert.SumKernelIdeal.sig) → Buf (Elt Ideal) ℓ) : Prop :=
  True

def Pre_SumReferenceIdeal (m : (ℓ : Loc Cert.SumReferenceIdeal.nD Cert.SumReferenceIdeal.τ Cert.SumReferenceIdeal.sig) → Buf (Elt Ideal) ℓ) : Prop :=
  True

def Pre_UpdateOutKernel (m : (ℓ : Loc Cert.UpdateOutKernel.nD Cert.UpdateOutKernel.τ Cert.UpdateOutKernel.sig) → Buf (Elt Bits) ℓ) : Prop :=
  True

def Pre_UpdateOutKernelIdeal (m : (ℓ : Loc Cert.UpdateOutKernelIdeal.nD Cert.UpdateOutKernelIdeal.τ Cert.UpdateOutKernelIdeal.sig) → Buf (Elt Ideal) ℓ) : Prop :=
  True

def Pre_UpdateOutReferenceIdeal (m : (ℓ : Loc Cert.UpdateOutReferenceIdeal.nD Cert.UpdateOutReferenceIdeal.τ Cert.UpdateOutReferenceIdeal.sig) → Buf (Elt Ideal) ℓ) : Prop :=
  True

def Pre_UpdateInKernel (m : (ℓ : Loc Cert.UpdateInKernel.nD Cert.UpdateInKernel.τ Cert.UpdateInKernel.sig) → Buf (Elt Bits) ℓ) : Prop :=
  True

def Pre_UpdateInKernelIdeal (m : (ℓ : Loc Cert.UpdateInKernelIdeal.nD Cert.UpdateInKernelIdeal.τ Cert.UpdateInKernelIdeal.sig) → Buf (Elt Ideal) ℓ) : Prop :=
  True

def Pre_UpdateInReferenceIdeal (m : (ℓ : Loc Cert.UpdateInReferenceIdeal.nD Cert.UpdateInReferenceIdeal.τ Cert.UpdateInReferenceIdeal.sig) → Buf (Elt Ideal) ℓ) : Prop :=
  True

def Pre_UpdateProjKernel (m : (ℓ : Loc Cert.UpdateProjKernel.nD Cert.UpdateProjKernel.τ Cert.UpdateProjKernel.sig) → Buf (Elt Bits) ℓ) : Prop :=
  True

def Pre_UpdateProjKernelIdeal (m : (ℓ : Loc Cert.UpdateProjKernelIdeal.nD Cert.UpdateProjKernelIdeal.τ Cert.UpdateProjKernelIdeal.sig) → Buf (Elt Ideal) ℓ) : Prop :=
  True

def Pre_UpdateProjReferenceIdeal (m : (ℓ : Loc Cert.UpdateProjReferenceIdeal.nD Cert.UpdateProjReferenceIdeal.τ Cert.UpdateProjReferenceIdeal.sig) → Buf (Elt Ideal) ℓ) : Prop :=
  True

def Pre_OutGradKernel (m : (ℓ : Loc Cert.OutGradKernel.nD Cert.OutGradKernel.τ Cert.OutGradKernel.sig) → Buf (Elt Bits) ℓ) : Prop :=
  True

def Pre_OutGradKernelIdeal (m : (ℓ : Loc Cert.OutGradKernelIdeal.nD Cert.OutGradKernelIdeal.τ Cert.OutGradKernelIdeal.sig) → Buf (Elt Ideal) ℓ) : Prop :=
  True

def Pre_OutGradReferenceIdeal (m : (ℓ : Loc Cert.OutGradReferenceIdeal.nD Cert.OutGradReferenceIdeal.τ Cert.OutGradReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_BlendKernel (m : (ℓ : Loc Cert.BlendKernel.nD Cert.BlendKernel.τ Cert.BlendKernel.sig) → Buf (Elt Bits) ℓ) : Prop :=
  True

def Pre_BlendKernelIdeal (m : (ℓ : Loc Cert.BlendKernelIdeal.nD Cert.BlendKernelIdeal.τ Cert.BlendKernelIdeal.sig) → Buf (Elt Ideal) ℓ) : Prop :=
  True

def Pre_BlendReferenceIdeal (m : (ℓ : Loc Cert.BlendReferenceIdeal.nD Cert.BlendReferenceIdeal.τ Cert.BlendReferenceIdeal.sig) → Buf (Elt Ideal) ℓ) : Prop :=
  True

def Pre_UnblendKernel (m : (ℓ : Loc Cert.UnblendKernel.nD Cert.UnblendKernel.τ Cert.UnblendKernel.sig) → Buf (Elt Bits) ℓ) : Prop :=
  True

def Pre_UnblendKernelIdeal (m : (ℓ : Loc Cert.UnblendKernelIdeal.nD Cert.UnblendKernelIdeal.τ Cert.UnblendKernelIdeal.sig) → Buf (Elt Ideal) ℓ) : Prop :=
  True

def Pre_UnblendReferenceIdeal (m : (ℓ : Loc Cert.UnblendReferenceIdeal.nD Cert.UnblendReferenceIdeal.τ Cert.UnblendReferenceIdeal.sig) → Buf (Elt Ideal) ℓ) : Prop :=
  True

def Pre_ProjGradKernel (m : (ℓ : Loc Cert.ProjGradKernel.nD Cert.ProjGradKernel.τ Cert.ProjGradKernel.sig) → Buf (Elt Bits) ℓ) : Prop :=
  True

def Pre_ProjGradKernelIdeal (m : (ℓ : Loc Cert.ProjGradKernelIdeal.nD Cert.ProjGradKernelIdeal.τ Cert.ProjGradKernelIdeal.sig) → Buf (Elt Ideal) ℓ) : Prop :=
  True

def Pre_ProjGradReferenceIdeal (m : (ℓ : Loc Cert.ProjGradReferenceIdeal.nD Cert.ProjGradReferenceIdeal.τ Cert.ProjGradReferenceIdeal.sig) → Buf (Elt Ideal) ℓ) : Prop :=
  True

def Pre_ProjBackKernel (m : (ℓ : Loc Cert.ProjBackKernel.nD Cert.ProjBackKernel.τ Cert.ProjBackKernel.sig) → Buf (Elt Bits) ℓ) : Prop :=
  True

def Pre_ProjBackKernelIdeal (m : (ℓ : Loc Cert.ProjBackKernelIdeal.nD Cert.ProjBackKernelIdeal.τ Cert.ProjBackKernelIdeal.sig) → Buf (Elt Ideal) ℓ) : Prop :=
  True

def Pre_ProjBackReferenceIdeal (m : (ℓ : Loc Cert.ProjBackReferenceIdeal.nD Cert.ProjBackReferenceIdeal.τ Cert.ProjBackReferenceIdeal.sig) → Buf (Elt Ideal) ℓ) : Prop :=
  True

def Pre_FirstNormKernel (m : (ℓ : Loc Cert.FirstNormKernel.nD Cert.FirstNormKernel.τ Cert.FirstNormKernel.sig) → Buf (Elt Bits) ℓ) : Prop :=
  True

def Pre_FirstNormKernelIdeal (m : (ℓ : Loc Cert.FirstNormKernelIdeal.nD Cert.FirstNormKernelIdeal.τ Cert.FirstNormKernelIdeal.sig) → Buf (Elt Ideal) ℓ) : Prop :=
  True

def Pre_FirstNormReferenceIdeal (m : (ℓ : Loc Cert.FirstNormReferenceIdeal.nD Cert.FirstNormReferenceIdeal.τ Cert.FirstNormReferenceIdeal.sig) → Buf (Elt Ideal) ℓ) : Prop :=
  True

def Pre_LastKernel (m : (ℓ : Loc Cert.LastKernel.nD Cert.LastKernel.τ Cert.LastKernel.sig) → Buf (Elt Bits) ℓ) : Prop :=
  True

def Pre_LastKernelIdeal (m : (ℓ : Loc Cert.LastKernelIdeal.nD Cert.LastKernelIdeal.τ Cert.LastKernelIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_InnerKernel (m : (ℓ : Loc Cert.InnerKernel.nD Cert.InnerKernel.τ Cert.InnerKernel.sig) → Buf (Elt Bits) ℓ) : Prop :=
  True

def Pre_InnerKernelIdeal (m : (ℓ : Loc Cert.InnerKernelIdeal.nD Cert.InnerKernelIdeal.τ Cert.InnerKernelIdeal.sig) → Buf (Elt Ideal) ℓ) : Prop :=
  True

def Pre_InnerReferenceIdeal (m : (ℓ : Loc Cert.InnerReferenceIdeal.nD Cert.InnerReferenceIdeal.τ Cert.InnerReferenceIdeal.sig) → Buf (Elt Ideal) ℓ) : Prop :=
  True

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_loss_finite [hPre_loss_finite : Cert.Pre_loss_finite.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))) = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_loss_finite [hPre_loss_finite : Cert.Pre_loss_finite.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3)
      ∧ r.2.mem ((c.tc : Thread Cert.NormKernel.nD Cert.NormKernel.τ).loc Cert.NormKernel.main_arg4) = m ((c.tc : Thread Cert.NormKernel.nD Cert.NormKernel.τ).loc Cert.NormKernel.main_arg4)
      ∧ r.2.mem ((c.tc : Thread Cert.NormKernel.nD Cert.NormKernel.τ).loc Cert.NormKernel.main_arg5) = m ((c.tc : Thread Cert.NormKernel.nD Cert.NormKernel.τ).loc Cert.NormKernel.main_arg5)
      ∧ r.2.mem ((c.tc : Thread Cert.NormKernel.nD Cert.NormKernel.τ).loc Cert.NormKernel.main_arg6) = m ((c.tc : Thread Cert.NormKernel.nD Cert.NormKernel.τ).loc Cert.NormKernel.main_arg6))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
      ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
      ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5)
      ∧ r.2.mem ((c.tc : Thread Cert.NormKernelIdeal.nD Cert.NormKernelIdeal.τ).loc Cert.NormKernelIdeal.main_arg6) = m ((c.tc : Thread Cert.NormKernelIdeal.nD Cert.NormKernelIdeal.τ).loc Cert.NormKernelIdeal.main_arg6))
      ∧ r.2.sem = fun _ => 0)

def quiescent_NormKernelIdeal_pre_norm_finite [hNormKernelIdeal : Cert.NormKernelIdeal.Facts] [hPre_norm_finite : Cert.Pre_norm_finite.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal_norm_finite m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
      ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
      ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5)
      ∧ r.2.mem ((c.tc : Thread Cert.NormKernelIdeal.nD Cert.NormKernelIdeal.τ).loc Cert.NormKernelIdeal.main_arg6) = m ((c.tc : Thread Cert.NormKernelIdeal.nD Cert.NormKernelIdeal.τ).loc Cert.NormKernelIdeal.main_arg6))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5)
      ∧ r.2.mem ((c.tc : Thread Cert.NormReferenceIdeal.nD Cert.NormReferenceIdeal.τ).loc Cert.NormReferenceIdeal.main_arg6) = m ((c.tc : Thread Cert.NormReferenceIdeal.nD Cert.NormReferenceIdeal.τ).loc Cert.NormReferenceIdeal.main_arg6))
      ∧ r.2.sem = fun _ => 0)

def quiescent_NormReferenceIdeal_pre_norm_finite [hNormReferenceIdeal : Cert.NormReferenceIdeal.Facts] [hPre_norm_finite : Cert.Pre_norm_finite.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal_norm_finite m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5)
      ∧ r.2.mem ((c.tc : Thread Cert.NormReferenceIdeal.nD Cert.NormReferenceIdeal.τ).loc Cert.NormReferenceIdeal.main_arg6) = m ((c.tc : Thread Cert.NormReferenceIdeal.nD Cert.NormReferenceIdeal.τ).loc Cert.NormReferenceIdeal.main_arg6))
      ∧ r.2.sem = fun _ => 0)

def quiescent_GluKernel [hGluKernel : Cert.GluKernel.Facts] : Prop :=
  ∀ (m : (ℓ : Loc Cert.GluKernel.nD Cert.GluKernel.τ Cert.GluKernel.sig) → Buf (Elt Bits) ℓ) (g : Dev Cert.GluKernel.nD → PrngReg), Pre_GluKernel m →
    θ_run (Cert.GluKernel.defs (F := Bits)) (onTc (τ := Cert.GluKernel.τ) (Cert.GluKernel.main (F := Bits))) ⟨m, fun _ => 0, g⟩ (fun r => (∀ c : Dev Cert.GluKernel.nD,
      r.2.mem ((c.tc : Thread Cert.GluKernel.nD Cert.GluKernel.τ).loc Cert.GluKernel.main_arg0) = m ((c.tc : Thread Cert.GluKernel.nD Cert.GluKernel.τ).loc Cert.GluKernel.main_arg0)
      ∧ r.2.mem ((c.tc : Thread Cert.GluKernel.nD Cert.GluKernel.τ).loc Cert.GluKernel.main_arg1) = m ((c.tc : Thread Cert.GluKernel.nD Cert.GluKernel.τ).loc Cert.GluKernel.main_arg1)
      ∧ r.2.mem ((c.tc : Thread Cert.GluKernel.nD Cert.GluKernel.τ).loc Cert.GluKernel.main_arg2) = m ((c.tc : Thread Cert.GluKernel.nD Cert.GluKernel.τ).loc Cert.GluKernel.main_arg2)
      ∧ r.2.mem ((c.tc : Thread Cert.GluKernel.nD Cert.GluKernel.τ).loc Cert.GluKernel.main_arg3) = m ((c.tc : Thread Cert.GluKernel.nD Cert.GluKernel.τ).loc Cert.GluKernel.main_arg3))
      ∧ r.2.sem = fun _ => 0)

def quiescent_GluKernelIdeal [hGluKernelIdeal : Cert.GluKernelIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg), Pre_GluKernelIdeal m →
    θ_run (Cert.GluKernelIdeal.defs (F := Ideal)) (onTc (τ := Cert.GluKernelIdeal.τ) (Cert.GluKernelIdeal.main (F := Ideal))) ⟨m, fun _ => 0, g⟩ (fun r => (∀ c : Dev Cert.GluKernelIdeal.nD,
      r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
      ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
      ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2)
      ∧ r.2.mem ((c.tc : Thread Cert.GluKernelIdeal.nD Cert.GluKernelIdeal.τ).loc Cert.GluKernelIdeal.main_arg3) = m ((c.tc : Thread Cert.GluKernelIdeal.nD Cert.GluKernelIdeal.τ).loc Cert.GluKernelIdeal.main_arg3))
      ∧ r.2.sem = fun _ => 0)

def quiescent_GluKernelIdeal_pre_glu_finite [hGluKernelIdeal : Cert.GluKernelIdeal.Facts] [hPre_glu_finite : Cert.Pre_glu_finite.Facts] : Prop :=
  ∀ (m : (ℓ : Loc Cert.GluKernelIdeal.nD Cert.GluKernelIdeal.τ Cert.GluKernelIdeal.sig) → Buf (Elt Ideal) ℓ) (g : Dev Cert.GluKernelIdeal.nD → PrngReg), Pre_GluKernelIdeal_glu_finite m →
    θ_run (Cert.GluKernelIdeal.defs (F := Ideal)) (onTc (τ := Cert.GluKernelIdeal.τ) (Cert.GluKernelIdeal.main (F := Ideal))) ⟨m, fun _ => 0, g⟩ (fun r => (∀ c : Dev Cert.GluKernelIdeal.nD,
      r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
      ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
      ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2)
      ∧ r.2.mem ((c.tc : Thread Cert.GluKernelIdeal.nD Cert.GluKernelIdeal.τ).loc Cert.GluKernelIdeal.main_arg3) = m ((c.tc : Thread Cert.GluKernelIdeal.nD Cert.GluKernelIdeal.τ).loc Cert.GluKernelIdeal.main_arg3))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2)
      ∧ r.2.mem ((c.tc : Thread Cert.GluReferenceIdeal.nD Cert.GluReferenceIdeal.τ).loc Cert.GluReferenceIdeal.main_arg3) = m ((c.tc : Thread Cert.GluReferenceIdeal.nD Cert.GluReferenceIdeal.τ).loc Cert.GluReferenceIdeal.main_arg3))
      ∧ r.2.sem = fun _ => 0)

def quiescent_GluReferenceIdeal_pre_glu_finite [hGluReferenceIdeal : Cert.GluReferenceIdeal.Facts] [hPre_glu_finite : Cert.Pre_glu_finite.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal_glu_finite m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2)
      ∧ r.2.mem ((c.tc : Thread Cert.GluReferenceIdeal.nD Cert.GluReferenceIdeal.τ).loc Cert.GluReferenceIdeal.main_arg3) = m ((c.tc : Thread Cert.GluReferenceIdeal.nD Cert.GluReferenceIdeal.τ).loc Cert.GluReferenceIdeal.main_arg3))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def quiescent_HiddenKernel [hHiddenKernel : Cert.HiddenKernel.Facts] : Prop :=
  ∀ (m : (ℓ : Loc Cert.HiddenKernel.nD Cert.HiddenKernel.τ Cert.HiddenKernel.sig) → Buf (Elt Bits) ℓ) (g : Dev Cert.HiddenKernel.nD → PrngReg), Pre_HiddenKernel m →
    θ_run (Cert.HiddenKernel.defs (F := Bits)) (onTc (τ := Cert.HiddenKernel.τ) (Cert.HiddenKernel.main (F := Bits))) ⟨m, fun _ => 0, g⟩ (fun r => (∀ c : Dev Cert.HiddenKernel.nD,
      r.2.mem ((c.tc : Thread Cert.HiddenKernel.nD Cert.HiddenKernel.τ).loc Cert.HiddenKernel.main_arg0) = m ((c.tc : Thread Cert.HiddenKernel.nD Cert.HiddenKernel.τ).loc Cert.HiddenKernel.main_arg0)
      ∧ r.2.mem ((c.tc : Thread Cert.HiddenKernel.nD Cert.HiddenKernel.τ).loc Cert.HiddenKernel.main_arg1) = m ((c.tc : Thread Cert.HiddenKernel.nD Cert.HiddenKernel.τ).loc Cert.HiddenKernel.main_arg1)
      ∧ r.2.mem ((c.tc : Thread Cert.HiddenKernel.nD Cert.HiddenKernel.τ).loc Cert.HiddenKernel.main_arg2) = m ((c.tc : Thread Cert.HiddenKernel.nD Cert.HiddenKernel.τ).loc Cert.HiddenKernel.main_arg2))
      ∧ r.2.sem = fun _ => 0)

def quiescent_HiddenKernelIdeal [hHiddenKernelIdeal : Cert.HiddenKernelIdeal.Facts] : Prop :=
  ∀ (m : (ℓ : Loc Cert.HiddenKernelIdeal.nD Cert.HiddenKernelIdeal.τ Cert.HiddenKernelIdeal.sig) → Buf (Elt Ideal) ℓ) (g : Dev Cert.HiddenKernelIdeal.nD → PrngReg), Pre_HiddenKernelIdeal m →
    θ_run (Cert.HiddenKernelIdeal.defs (F := Ideal)) (onTc (τ := Cert.HiddenKernelIdeal.τ) (Cert.HiddenKernelIdeal.main (F := Ideal))) ⟨m, fun _ => 0, g⟩ (fun r => (∀ c : Dev Cert.HiddenKernelIdeal.nD,
      r.2.mem ((c.tc : Thread Cert.HiddenKernelIdeal.nD Cert.HiddenKernelIdeal.τ).loc Cert.HiddenKernelIdeal.main_arg0) = m ((c.tc : Thread Cert.HiddenKernelIdeal.nD Cert.HiddenKernelIdeal.τ).loc Cert.HiddenKernelIdeal.main_arg0)
      ∧ r.2.mem ((c.tc : Thread Cert.HiddenKernelIdeal.nD Cert.HiddenKernelIdeal.τ).loc Cert.HiddenKernelIdeal.main_arg1) = m ((c.tc : Thread Cert.HiddenKernelIdeal.nD Cert.HiddenKernelIdeal.τ).loc Cert.HiddenKernelIdeal.main_arg1)
      ∧ r.2.mem ((c.tc : Thread Cert.HiddenKernelIdeal.nD Cert.HiddenKernelIdeal.τ).loc Cert.HiddenKernelIdeal.main_arg2) = m ((c.tc : Thread Cert.HiddenKernelIdeal.nD Cert.HiddenKernelIdeal.τ).loc Cert.HiddenKernelIdeal.main_arg2))
      ∧ r.2.sem = fun _ => 0)

def quiescent_HiddenKernelIdeal_pre_hidden_finite [hHiddenKernelIdeal : Cert.HiddenKernelIdeal.Facts] [hPre_hidden_finite : Cert.Pre_hidden_finite.Facts] : Prop :=
  ∀ (m : (ℓ : Loc Cert.HiddenKernelIdeal.nD Cert.HiddenKernelIdeal.τ Cert.HiddenKernelIdeal.sig) → Buf (Elt Ideal) ℓ) (g : Dev Cert.HiddenKernelIdeal.nD → PrngReg), Pre_HiddenKernelIdeal_hidden_finite m →
    θ_run (Cert.HiddenKernelIdeal.defs (F := Ideal)) (onTc (τ := Cert.HiddenKernelIdeal.τ) (Cert.HiddenKernelIdeal.main (F := Ideal))) ⟨m, fun _ => 0, g⟩ (fun r => (∀ c : Dev Cert.HiddenKernelIdeal.nD,
      r.2.mem ((c.tc : Thread Cert.HiddenKernelIdeal.nD Cert.HiddenKernelIdeal.τ).loc Cert.HiddenKernelIdeal.main_arg0) = m ((c.tc : Thread Cert.HiddenKernelIdeal.nD Cert.HiddenKernelIdeal.τ).loc Cert.HiddenKernelIdeal.main_arg0)
      ∧ r.2.mem ((c.tc : Thread Cert.HiddenKernelIdeal.nD Cert.HiddenKernelIdeal.τ).loc Cert.HiddenKernelIdeal.main_arg1) = m ((c.tc : Thread Cert.HiddenKernelIdeal.nD Cert.HiddenKernelIdeal.τ).loc Cert.HiddenKernelIdeal.main_arg1)
      ∧ r.2.mem ((c.tc : Thread Cert.HiddenKernelIdeal.nD Cert.HiddenKernelIdeal.τ).loc Cert.HiddenKernelIdeal.main_arg2) = m ((c.tc : Thread Cert.HiddenKernelIdeal.nD Cert.HiddenKernelIdeal.τ).loc Cert.HiddenKernelIdeal.main_arg2))
      ∧ r.2.sem = fun _ => 0)

def quiescent_HiddenReferenceIdeal [hHiddenReferenceIdeal : Cert.HiddenReferenceIdeal.Facts] : Prop :=
  ∀ (m : (ℓ : Loc Cert.HiddenReferenceIdeal.nD Cert.HiddenReferenceIdeal.τ Cert.HiddenReferenceIdeal.sig) → Buf (Elt Ideal) ℓ) (g : Dev Cert.HiddenReferenceIdeal.nD → PrngReg), Pre_HiddenReferenceIdeal m →
    θ_run (Cert.HiddenReferenceIdeal.defs (F := Ideal)) (onTc (τ := Cert.HiddenReferenceIdeal.τ) (Cert.HiddenReferenceIdeal.main (F := Ideal))) ⟨m, fun _ => 0, g⟩ (fun r => (∀ c : Dev Cert.HiddenReferenceIdeal.nD,
      r.2.mem ((c.tc : Thread Cert.HiddenReferenceIdeal.nD Cert.HiddenReferenceIdeal.τ).loc Cert.HiddenReferenceIdeal.main_arg0) = m ((c.tc : Thread Cert.HiddenReferenceIdeal.nD Cert.HiddenReferenceIdeal.τ).loc Cert.HiddenReferenceIdeal.main_arg0)
      ∧ r.2.mem ((c.tc : Thread Cert.HiddenReferenceIdeal.nD Cert.HiddenReferenceIdeal.τ).loc Cert.HiddenReferenceIdeal.main_arg1) = m ((c.tc : Thread Cert.HiddenReferenceIdeal.nD Cert.HiddenReferenceIdeal.τ).loc Cert.HiddenReferenceIdeal.main_arg1)
      ∧ r.2.mem ((c.tc : Thread Cert.HiddenReferenceIdeal.nD Cert.HiddenReferenceIdeal.τ).loc Cert.HiddenReferenceIdeal.main_arg2) = m ((c.tc : Thread Cert.HiddenReferenceIdeal.nD Cert.HiddenReferenceIdeal.τ).loc Cert.HiddenReferenceIdeal.main_arg2))
      ∧ r.2.sem = fun _ => 0)

def quiescent_HiddenReferenceIdeal_pre_hidden_finite [hHiddenReferenceIdeal : Cert.HiddenReferenceIdeal.Facts] [hPre_hidden_finite : Cert.Pre_hidden_finite.Facts] : Prop :=
  ∀ (m : (ℓ : Loc Cert.HiddenReferenceIdeal.nD Cert.HiddenReferenceIdeal.τ Cert.HiddenReferenceIdeal.sig) → Buf (Elt Ideal) ℓ) (g : Dev Cert.HiddenReferenceIdeal.nD → PrngReg), Pre_HiddenReferenceIdeal_hidden_finite m →
    θ_run (Cert.HiddenReferenceIdeal.defs (F := Ideal)) (onTc (τ := Cert.HiddenReferenceIdeal.τ) (Cert.HiddenReferenceIdeal.main (F := Ideal))) ⟨m, fun _ => 0, g⟩ (fun r => (∀ c : Dev Cert.HiddenReferenceIdeal.nD,
      r.2.mem ((c.tc : Thread Cert.HiddenReferenceIdeal.nD Cert.HiddenReferenceIdeal.τ).loc Cert.HiddenReferenceIdeal.main_arg0) = m ((c.tc : Thread Cert.HiddenReferenceIdeal.nD Cert.HiddenReferenceIdeal.τ).loc Cert.HiddenReferenceIdeal.main_arg0)
      ∧ r.2.mem ((c.tc : Thread Cert.HiddenReferenceIdeal.nD Cert.HiddenReferenceIdeal.τ).loc Cert.HiddenReferenceIdeal.main_arg1) = m ((c.tc : Thread Cert.HiddenReferenceIdeal.nD Cert.HiddenReferenceIdeal.τ).loc Cert.HiddenReferenceIdeal.main_arg1)
      ∧ r.2.mem ((c.tc : Thread Cert.HiddenReferenceIdeal.nD Cert.HiddenReferenceIdeal.τ).loc Cert.HiddenReferenceIdeal.main_arg2) = m ((c.tc : Thread Cert.HiddenReferenceIdeal.nD Cert.HiddenReferenceIdeal.τ).loc Cert.HiddenReferenceIdeal.main_arg2))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ r.2.sem = fun _ => 0)

def quiescent_MixKernelIdeal_pre_mix_finite [hMixKernelIdeal : Cert.MixKernelIdeal.Facts] [hPre_mix_finite : Cert.Pre_mix_finite.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal_mix_finite m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4))
      ∧ r.2.sem = fun _ => 0)

def quiescent_MixReferenceIdeal_pre_mix_finite [hMixReferenceIdeal : Cert.MixReferenceIdeal.Facts] [hPre_mix_finite : Cert.Pre_mix_finite.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_mix_finite m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4))
      ∧ r.2.sem = fun _ => 0)

def quiescent_InGradKernel [hInGradKernel : Cert.InGradKernel.Facts] : Prop :=
  ∀ (m : (ℓ : Loc Cert.InGradKernel.nD Cert.InGradKernel.τ Cert.InGradKernel.sig) → Buf (Elt Bits) ℓ) (g : Dev Cert.InGradKernel.nD → PrngReg), Pre_InGradKernel m →
    θ_run (Cert.InGradKernel.defs (F := Bits)) (onTc (τ := Cert.InGradKernel.τ) (Cert.InGradKernel.main (F := Bits))) ⟨m, fun _ => 0, g⟩ (fun r => (∀ c : Dev Cert.InGradKernel.nD,
      r.2.mem ((c.tc : Thread Cert.InGradKernel.nD Cert.InGradKernel.τ).loc Cert.InGradKernel.main_arg0) = m ((c.tc : Thread Cert.InGradKernel.nD Cert.InGradKernel.τ).loc Cert.InGradKernel.main_arg0)
      ∧ r.2.mem ((c.tc : Thread Cert.InGradKernel.nD Cert.InGradKernel.τ).loc Cert.InGradKernel.main_arg1) = m ((c.tc : Thread Cert.InGradKernel.nD Cert.InGradKernel.τ).loc Cert.InGradKernel.main_arg1))
      ∧ r.2.sem = fun _ => 0)

def quiescent_InGradKernelIdeal [hInGradKernelIdeal : Cert.InGradKernelIdeal.Facts] : Prop :=
  ∀ (m : (ℓ : Loc Cert.InGradKernelIdeal.nD Cert.InGradKernelIdeal.τ Cert.InGradKernelIdeal.sig) → Buf (Elt Ideal) ℓ) (g : Dev Cert.InGradKernelIdeal.nD → PrngReg), Pre_InGradKernelIdeal m →
    θ_run (Cert.InGradKernelIdeal.defs (F := Ideal)) (onTc (τ := Cert.InGradKernelIdeal.τ) (Cert.InGradKernelIdeal.main (F := Ideal))) ⟨m, fun _ => 0, g⟩ (fun r => (∀ c : Dev Cert.InGradKernelIdeal.nD,
      r.2.mem ((c.tc : Thread Cert.InGradKernelIdeal.nD Cert.InGradKernelIdeal.τ).loc Cert.InGradKernelIdeal.main_arg0) = m ((c.tc : Thread Cert.InGradKernelIdeal.nD Cert.InGradKernelIdeal.τ).loc Cert.InGradKernelIdeal.main_arg0)
      ∧ r.2.mem ((c.tc : Thread Cert.InGradKernelIdeal.nD Cert.InGradKernelIdeal.τ).loc Cert.InGradKernelIdeal.main_arg1) = m ((c.tc : Thread Cert.InGradKernelIdeal.nD Cert.InGradKernelIdeal.τ).loc Cert.InGradKernelIdeal.main_arg1))
      ∧ r.2.sem = fun _ => 0)

def quiescent_InGradReferenceIdeal [hInGradReferenceIdeal : Cert.InGradReferenceIdeal.Facts] : Prop :=
  ∀ (m : (ℓ : Loc Cert.InGradReferenceIdeal.nD Cert.InGradReferenceIdeal.τ Cert.InGradReferenceIdeal.sig) → Buf (Elt Ideal) ℓ) (g : Dev Cert.InGradReferenceIdeal.nD → PrngReg), Pre_InGradReferenceIdeal m →
    θ_run (Cert.InGradReferenceIdeal.defs (F := Ideal)) (onTc (τ := Cert.InGradReferenceIdeal.τ) (Cert.InGradReferenceIdeal.main (F := Ideal))) ⟨m, fun _ => 0, g⟩ (fun r => (∀ c : Dev Cert.InGradReferenceIdeal.nD,
      r.2.mem ((c.tc : Thread Cert.InGradReferenceIdeal.nD Cert.InGradReferenceIdeal.τ).loc Cert.InGradReferenceIdeal.main_arg0) = m ((c.tc : Thread Cert.InGradReferenceIdeal.nD Cert.InGradReferenceIdeal.τ).loc Cert.InGradReferenceIdeal.main_arg0)
      ∧ r.2.mem ((c.tc : Thread Cert.InGradReferenceIdeal.nD Cert.InGradReferenceIdeal.τ).loc Cert.InGradReferenceIdeal.main_arg1) = m ((c.tc : Thread Cert.InGradReferenceIdeal.nD Cert.InGradReferenceIdeal.τ).loc Cert.InGradReferenceIdeal.main_arg1))
      ∧ r.2.sem = fun _ => 0)

def quiescent_IntoKernel [hIntoKernel : Cert.IntoKernel.Facts] : Prop :=
  ∀ (m : (ℓ : Loc Cert.IntoKernel.nD Cert.IntoKernel.τ Cert.IntoKernel.sig) → Buf (Elt Bits) ℓ) (g : Dev Cert.IntoKernel.nD → PrngReg), Pre_IntoKernel m →
    θ_run (Cert.IntoKernel.defs (F := Bits)) (onTc (τ := Cert.IntoKernel.τ) (Cert.IntoKernel.main (F := Bits))) ⟨m, fun _ => 0, g⟩ (fun r => (∀ c : Dev Cert.IntoKernel.nD,
      r.2.mem ((c.tc : Thread Cert.IntoKernel.nD Cert.IntoKernel.τ).loc Cert.IntoKernel.main_arg0) = m ((c.tc : Thread Cert.IntoKernel.nD Cert.IntoKernel.τ).loc Cert.IntoKernel.main_arg0)
      ∧ r.2.mem ((c.tc : Thread Cert.IntoKernel.nD Cert.IntoKernel.τ).loc Cert.IntoKernel.main_arg1) = m ((c.tc : Thread Cert.IntoKernel.nD Cert.IntoKernel.τ).loc Cert.IntoKernel.main_arg1))
      ∧ r.2.sem = fun _ => 0)

def quiescent_IntoKernelIdeal [hIntoKernelIdeal : Cert.IntoKernelIdeal.Facts] : Prop :=
  ∀ (m : (ℓ : Loc Cert.IntoKernelIdeal.nD Cert.IntoKernelIdeal.τ Cert.IntoKernelIdeal.sig) → Buf (Elt Ideal) ℓ) (g : Dev Cert.IntoKernelIdeal.nD → PrngReg), Pre_IntoKernelIdeal m →
    θ_run (Cert.IntoKernelIdeal.defs (F := Ideal)) (onTc (τ := Cert.IntoKernelIdeal.τ) (Cert.IntoKernelIdeal.main (F := Ideal))) ⟨m, fun _ => 0, g⟩ (fun r => (∀ c : Dev Cert.IntoKernelIdeal.nD,
      r.2.mem ((c.tc : Thread Cert.IntoKernelIdeal.nD Cert.IntoKernelIdeal.τ).loc Cert.IntoKernelIdeal.main_arg0) = m ((c.tc : Thread Cert.IntoKernelIdeal.nD Cert.IntoKernelIdeal.τ).loc Cert.IntoKernelIdeal.main_arg0)
      ∧ r.2.mem ((c.tc : Thread Cert.IntoKernelIdeal.nD Cert.IntoKernelIdeal.τ).loc Cert.IntoKernelIdeal.main_arg1) = m ((c.tc : Thread Cert.IntoKernelIdeal.nD Cert.IntoKernelIdeal.τ).loc Cert.IntoKernelIdeal.main_arg1))
      ∧ r.2.sem = fun _ => 0)

def quiescent_IntoReferenceIdeal [hIntoReferenceIdeal : Cert.IntoReferenceIdeal.Facts] : Prop :=
  ∀ (m : (ℓ : Loc Cert.IntoReferenceIdeal.nD Cert.IntoReferenceIdeal.τ Cert.IntoReferenceIdeal.sig) → Buf (Elt Ideal) ℓ) (g : Dev Cert.IntoReferenceIdeal.nD → PrngReg), Pre_IntoReferenceIdeal m →
    θ_run (Cert.IntoReferenceIdeal.defs (F := Ideal)) (onTc (τ := Cert.IntoReferenceIdeal.τ) (Cert.IntoReferenceIdeal.main (F := Ideal))) ⟨m, fun _ => 0, g⟩ (fun r => (∀ c : Dev Cert.IntoReferenceIdeal.nD,
      r.2.mem ((c.tc : Thread Cert.IntoReferenceIdeal.nD Cert.IntoReferenceIdeal.τ).loc Cert.IntoReferenceIdeal.main_arg0) = m ((c.tc : Thread Cert.IntoReferenceIdeal.nD Cert.IntoReferenceIdeal.τ).loc Cert.IntoReferenceIdeal.main_arg0)
      ∧ r.2.mem ((c.tc : Thread Cert.IntoReferenceIdeal.nD Cert.IntoReferenceIdeal.τ).loc Cert.IntoReferenceIdeal.main_arg1) = m ((c.tc : Thread Cert.IntoReferenceIdeal.nD Cert.IntoReferenceIdeal.τ).loc Cert.IntoReferenceIdeal.main_arg1))
      ∧ r.2.sem = fun _ => 0)

def quiescent_ResidualKernel [hResidualKernel : Cert.ResidualKernel.Facts] : Prop :=
  ∀ (m : (ℓ : Loc Cert.ResidualKernel.nD Cert.ResidualKernel.τ Cert.ResidualKernel.sig) → Buf (Elt Bits) ℓ) (g : Dev Cert.ResidualKernel.nD → PrngReg), Pre_ResidualKernel m →
    θ_run (Cert.ResidualKernel.defs (F := Bits)) (onTc (τ := Cert.ResidualKernel.τ) (Cert.ResidualKernel.main (F := Bits))) ⟨m, fun _ => 0, g⟩ (fun r => (∀ c : Dev Cert.ResidualKernel.nD,
      r.2.mem ((c.tc : Thread Cert.ResidualKernel.nD Cert.ResidualKernel.τ).loc Cert.ResidualKernel.main_arg0) = m ((c.tc : Thread Cert.ResidualKernel.nD Cert.ResidualKernel.τ).loc Cert.ResidualKernel.main_arg0)
      ∧ r.2.mem ((c.tc : Thread Cert.ResidualKernel.nD Cert.ResidualKernel.τ).loc Cert.ResidualKernel.main_arg1) = m ((c.tc : Thread Cert.ResidualKernel.nD Cert.ResidualKernel.τ).loc Cert.ResidualKernel.main_arg1)
      ∧ r.2.mem ((c.tc : Thread Cert.ResidualKernel.nD Cert.ResidualKernel.τ).loc Cert.ResidualKernel.main_arg2) = m ((c.tc : Thread Cert.ResidualKernel.nD Cert.ResidualKernel.τ).loc Cert.ResidualKernel.main_arg2)
      ∧ r.2.mem ((c.tc : Thread Cert.ResidualKernel.nD Cert.ResidualKernel.τ).loc Cert.ResidualKernel.main_arg3) = m ((c.tc : Thread Cert.ResidualKernel.nD Cert.ResidualKernel.τ).loc Cert.ResidualKernel.main_arg3))
      ∧ r.2.sem = fun _ => 0)

def quiescent_ResidualKernelIdeal [hResidualKernelIdeal : Cert.ResidualKernelIdeal.Facts] : Prop :=
  ∀ (m : (ℓ : Loc Cert.ResidualKernelIdeal.nD Cert.ResidualKernelIdeal.τ Cert.ResidualKernelIdeal.sig) → Buf (Elt Ideal) ℓ) (g : Dev Cert.ResidualKernelIdeal.nD → PrngReg), Pre_ResidualKernelIdeal m →
    θ_run (Cert.ResidualKernelIdeal.defs (F := Ideal)) (onTc (τ := Cert.ResidualKernelIdeal.τ) (Cert.ResidualKernelIdeal.main (F := Ideal))) ⟨m, fun _ => 0, g⟩ (fun r => (∀ c : Dev Cert.ResidualKernelIdeal.nD,
      r.2.mem ((c.tc : Thread Cert.ResidualKernelIdeal.nD Cert.ResidualKernelIdeal.τ).loc Cert.ResidualKernelIdeal.main_arg0) = m ((c.tc : Thread Cert.ResidualKernelIdeal.nD Cert.ResidualKernelIdeal.τ).loc Cert.ResidualKernelIdeal.main_arg0)
      ∧ r.2.mem ((c.tc : Thread Cert.ResidualKernelIdeal.nD Cert.ResidualKernelIdeal.τ).loc Cert.ResidualKernelIdeal.main_arg1) = m ((c.tc : Thread Cert.ResidualKernelIdeal.nD Cert.ResidualKernelIdeal.τ).loc Cert.ResidualKernelIdeal.main_arg1)
      ∧ r.2.mem ((c.tc : Thread Cert.ResidualKernelIdeal.nD Cert.ResidualKernelIdeal.τ).loc Cert.ResidualKernelIdeal.main_arg2) = m ((c.tc : Thread Cert.ResidualKernelIdeal.nD Cert.ResidualKernelIdeal.τ).loc Cert.ResidualKernelIdeal.main_arg2)
      ∧ r.2.mem ((c.tc : Thread Cert.ResidualKernelIdeal.nD Cert.ResidualKernelIdeal.τ).loc Cert.ResidualKernelIdeal.main_arg3) = m ((c.tc : Thread Cert.ResidualKernelIdeal.nD Cert.ResidualKernelIdeal.τ).loc Cert.ResidualKernelIdeal.main_arg3))
      ∧ r.2.sem = fun _ => 0)

def quiescent_ResidualReferenceIdeal [hResidualReferenceIdeal : Cert.ResidualReferenceIdeal.Facts] : Prop :=
  ∀ (m : (ℓ : Loc Cert.ResidualReferenceIdeal.nD Cert.ResidualReferenceIdeal.τ Cert.ResidualReferenceIdeal.sig) → Buf (Elt Ideal) ℓ) (g : Dev Cert.ResidualReferenceIdeal.nD → PrngReg), Pre_ResidualReferenceIdeal m →
    θ_run (Cert.ResidualReferenceIdeal.defs (F := Ideal)) (onTc (τ := Cert.ResidualReferenceIdeal.τ) (Cert.ResidualReferenceIdeal.main (F := Ideal))) ⟨m, fun _ => 0, g⟩ (fun r => (∀ c : Dev Cert.ResidualReferenceIdeal.nD,
      r.2.mem ((c.tc : Thread Cert.ResidualReferenceIdeal.nD Cert.ResidualReferenceIdeal.τ).loc Cert.ResidualReferenceIdeal.main_arg0) = m ((c.tc : Thread Cert.ResidualReferenceIdeal.nD Cert.ResidualReferenceIdeal.τ).loc Cert.ResidualReferenceIdeal.main_arg0)
      ∧ r.2.mem ((c.tc : Thread Cert.ResidualReferenceIdeal.nD Cert.ResidualReferenceIdeal.τ).loc Cert.ResidualReferenceIdeal.main_arg1) = m ((c.tc : Thread Cert.ResidualReferenceIdeal.nD Cert.ResidualReferenceIdeal.τ).loc Cert.ResidualReferenceIdeal.main_arg1)
      ∧ r.2.mem ((c.tc : Thread Cert.ResidualReferenceIdeal.nD Cert.ResidualReferenceIdeal.τ).loc Cert.ResidualReferenceIdeal.main_arg2) = m ((c.tc : Thread Cert.ResidualReferenceIdeal.nD Cert.ResidualReferenceIdeal.τ).loc Cert.ResidualReferenceIdeal.main_arg2)
      ∧ r.2.mem ((c.tc : Thread Cert.ResidualReferenceIdeal.nD Cert.ResidualReferenceIdeal.τ).loc Cert.ResidualReferenceIdeal.main_arg3) = m ((c.tc : Thread Cert.ResidualReferenceIdeal.nD Cert.ResidualReferenceIdeal.τ).loc Cert.ResidualReferenceIdeal.main_arg3))
      ∧ r.2.sem = fun _ => 0)

def quiescent_UpdateKernel [hUpdateKernel : Cert.UpdateKernel.Facts] : Prop :=
  ∀ (m : (ℓ : Loc Cert.UpdateKernel.nD Cert.UpdateKernel.τ Cert.UpdateKernel.sig) → Buf (Elt Bits) ℓ) (g : Dev Cert.UpdateKernel.nD → PrngReg), Pre_UpdateKernel m →
    θ_run (Cert.UpdateKernel.defs (F := Bits)) (onTc (τ := Cert.UpdateKernel.τ) (Cert.UpdateKernel.main (F := Bits))) ⟨m, fun _ => 0, g⟩ (fun r => (∀ c : Dev Cert.UpdateKernel.nD,
      r.2.mem ((c.tc : Thread Cert.UpdateKernel.nD Cert.UpdateKernel.τ).loc Cert.UpdateKernel.main_arg0) = m ((c.tc : Thread Cert.UpdateKernel.nD Cert.UpdateKernel.τ).loc Cert.UpdateKernel.main_arg0)
      ∧ r.2.mem ((c.tc : Thread Cert.UpdateKernel.nD Cert.UpdateKernel.τ).loc Cert.UpdateKernel.main_arg1) = m ((c.tc : Thread Cert.UpdateKernel.nD Cert.UpdateKernel.τ).loc Cert.UpdateKernel.main_arg1)
      ∧ r.2.mem ((c.tc : Thread Cert.UpdateKernel.nD Cert.UpdateKernel.τ).loc Cert.UpdateKernel.main_arg2) = m ((c.tc : Thread Cert.UpdateKernel.nD Cert.UpdateKernel.τ).loc Cert.UpdateKernel.main_arg2)
      ∧ r.2.mem ((c.tc : Thread Cert.UpdateKernel.nD Cert.UpdateKernel.τ).loc Cert.UpdateKernel.main_arg3) = m ((c.tc : Thread Cert.UpdateKernel.nD Cert.UpdateKernel.τ).loc Cert.UpdateKernel.main_arg3)
      ∧ r.2.mem ((c.tc : Thread Cert.UpdateKernel.nD Cert.UpdateKernel.τ).loc Cert.UpdateKernel.main_arg4) = m ((c.tc : Thread Cert.UpdateKernel.nD Cert.UpdateKernel.τ).loc Cert.UpdateKernel.main_arg4))
      ∧ r.2.sem = fun _ => 0)

def quiescent_UpdateKernelIdeal [hUpdateKernelIdeal : Cert.UpdateKernelIdeal.Facts] : Prop :=
  ∀ (m : (ℓ : Loc Cert.UpdateKernelIdeal.nD Cert.UpdateKernelIdeal.τ Cert.UpdateKernelIdeal.sig) → Buf (Elt Ideal) ℓ) (g : Dev Cert.UpdateKernelIdeal.nD → PrngReg), Pre_UpdateKernelIdeal m →
    θ_run (Cert.UpdateKernelIdeal.defs (F := Ideal)) (onTc (τ := Cert.UpdateKernelIdeal.τ) (Cert.UpdateKernelIdeal.main (F := Ideal))) ⟨m, fun _ => 0, g⟩ (fun r => (∀ c : Dev Cert.UpdateKernelIdeal.nD,
      r.2.mem ((c.tc : Thread Cert.UpdateKernelIdeal.nD Cert.UpdateKernelIdeal.τ).loc Cert.UpdateKernelIdeal.main_arg0) = m ((c.tc : Thread Cert.UpdateKernelIdeal.nD Cert.UpdateKernelIdeal.τ).loc Cert.UpdateKernelIdeal.main_arg0)
      ∧ r.2.mem ((c.tc : Thread Cert.UpdateKernelIdeal.nD Cert.UpdateKernelIdeal.τ).loc Cert.UpdateKernelIdeal.main_arg1) = m ((c.tc : Thread Cert.UpdateKernelIdeal.nD Cert.UpdateKernelIdeal.τ).loc Cert.UpdateKernelIdeal.main_arg1)
      ∧ r.2.mem ((c.tc : Thread Cert.UpdateKernelIdeal.nD Cert.UpdateKernelIdeal.τ).loc Cert.UpdateKernelIdeal.main_arg2) = m ((c.tc : Thread Cert.UpdateKernelIdeal.nD Cert.UpdateKernelIdeal.τ).loc Cert.UpdateKernelIdeal.main_arg2)
      ∧ r.2.mem ((c.tc : Thread Cert.UpdateKernelIdeal.nD Cert.UpdateKernelIdeal.τ).loc Cert.UpdateKernelIdeal.main_arg3) = m ((c.tc : Thread Cert.UpdateKernelIdeal.nD Cert.UpdateKernelIdeal.τ).loc Cert.UpdateKernelIdeal.main_arg3)
      ∧ r.2.mem ((c.tc : Thread Cert.UpdateKernelIdeal.nD Cert.UpdateKernelIdeal.τ).loc Cert.UpdateKernelIdeal.main_arg4) = m ((c.tc : Thread Cert.UpdateKernelIdeal.nD Cert.UpdateKernelIdeal.τ).loc Cert.UpdateKernelIdeal.main_arg4))
      ∧ r.2.sem = fun _ => 0)

def quiescent_UpdateReferenceIdeal [hUpdateReferenceIdeal : Cert.UpdateReferenceIdeal.Facts] : Prop :=
  ∀ (m : (ℓ : Loc Cert.UpdateReferenceIdeal.nD Cert.UpdateReferenceIdeal.τ Cert.UpdateReferenceIdeal.sig) → Buf (Elt Ideal) ℓ) (g : Dev Cert.UpdateReferenceIdeal.nD → PrngReg), Pre_UpdateReferenceIdeal m →
    θ_run (Cert.UpdateReferenceIdeal.defs (F := Ideal)) (onTc (τ := Cert.UpdateReferenceIdeal.τ) (Cert.UpdateReferenceIdeal.main (F := Ideal))) ⟨m, fun _ => 0, g⟩ (fun r => (∀ c : Dev Cert.UpdateReferenceIdeal.nD,
      r.2.mem ((c.tc : Thread Cert.UpdateReferenceIdeal.nD Cert.UpdateReferenceIdeal.τ).loc Cert.UpdateReferenceIdeal.main_arg0) = m ((c.tc : Thread Cert.UpdateReferenceIdeal.nD Cert.UpdateReferenceIdeal.τ).loc Cert.UpdateReferenceIdeal.main_arg0)
      ∧ r.2.mem ((c.tc : Thread Cert.UpdateReferenceIdeal.nD Cert.UpdateReferenceIdeal.τ).loc Cert.UpdateReferenceIdeal.main_arg1) = m ((c.tc : Thread Cert.UpdateReferenceIdeal.nD Cert.UpdateReferenceIdeal.τ).loc Cert.UpdateReferenceIdeal.main_arg1)
      ∧ r.2.mem ((c.tc : Thread Cert.UpdateReferenceIdeal.nD Cert.UpdateReferenceIdeal.τ).loc Cert.UpdateReferenceIdeal.main_arg2) = m ((c.tc : Thread Cert.UpdateReferenceIdeal.nD Cert.UpdateReferenceIdeal.τ).loc Cert.UpdateReferenceIdeal.main_arg2)
      ∧ r.2.mem ((c.tc : Thread Cert.UpdateReferenceIdeal.nD Cert.UpdateReferenceIdeal.τ).loc Cert.UpdateReferenceIdeal.main_arg3) = m ((c.tc : Thread Cert.UpdateReferenceIdeal.nD Cert.UpdateReferenceIdeal.τ).loc Cert.UpdateReferenceIdeal.main_arg3)
      ∧ r.2.mem ((c.tc : Thread Cert.UpdateReferenceIdeal.nD Cert.UpdateReferenceIdeal.τ).loc Cert.UpdateReferenceIdeal.main_arg4) = m ((c.tc : Thread Cert.UpdateReferenceIdeal.nD Cert.UpdateReferenceIdeal.τ).loc Cert.UpdateReferenceIdeal.main_arg4))
      ∧ r.2.sem = fun _ => 0)

def quiescent_GainKernel [hGainKernel : Cert.GainKernel.Facts] : Prop :=
  ∀ (m : (ℓ : Loc Cert.GainKernel.nD Cert.GainKernel.τ Cert.GainKernel.sig) → Buf (Elt Bits) ℓ) (g : Dev Cert.GainKernel.nD → PrngReg), Pre_GainKernel m →
    θ_run (Cert.GainKernel.defs (F := Bits)) (onTc (τ := Cert.GainKernel.τ) (Cert.GainKernel.main (F := Bits))) ⟨m, fun _ => 0, g⟩ (fun r => (∀ c : Dev Cert.GainKernel.nD,
      r.2.mem ((c.tc : Thread Cert.GainKernel.nD Cert.GainKernel.τ).loc Cert.GainKernel.main_arg0) = m ((c.tc : Thread Cert.GainKernel.nD Cert.GainKernel.τ).loc Cert.GainKernel.main_arg0)
      ∧ r.2.mem ((c.tc : Thread Cert.GainKernel.nD Cert.GainKernel.τ).loc Cert.GainKernel.main_arg1) = m ((c.tc : Thread Cert.GainKernel.nD Cert.GainKernel.τ).loc Cert.GainKernel.main_arg1)
      ∧ r.2.mem ((c.tc : Thread Cert.GainKernel.nD Cert.GainKernel.τ).loc Cert.GainKernel.main_arg2) = m ((c.tc : Thread Cert.GainKernel.nD Cert.GainKernel.τ).loc Cert.GainKernel.main_arg2)
      ∧ r.2.mem ((c.tc : Thread Cert.GainKernel.nD Cert.GainKernel.τ).loc Cert.GainKernel.main_arg3) = m ((c.tc : Thread Cert.GainKernel.nD Cert.GainKernel.τ).loc Cert.GainKernel.main_arg3))
      ∧ r.2.sem = fun _ => 0)

def quiescent_GainKernelIdeal [hGainKernelIdeal : Cert.GainKernelIdeal.Facts] : Prop :=
  ∀ (m : (ℓ : Loc Cert.GainKernelIdeal.nD Cert.GainKernelIdeal.τ Cert.GainKernelIdeal.sig) → Buf (Elt Ideal) ℓ) (g : Dev Cert.GainKernelIdeal.nD → PrngReg), Pre_GainKernelIdeal m →
    θ_run (Cert.GainKernelIdeal.defs (F := Ideal)) (onTc (τ := Cert.GainKernelIdeal.τ) (Cert.GainKernelIdeal.main (F := Ideal))) ⟨m, fun _ => 0, g⟩ (fun r => (∀ c : Dev Cert.GainKernelIdeal.nD,
      r.2.mem ((c.tc : Thread Cert.GainKernelIdeal.nD Cert.GainKernelIdeal.τ).loc Cert.GainKernelIdeal.main_arg0) = m ((c.tc : Thread Cert.GainKernelIdeal.nD Cert.GainKernelIdeal.τ).loc Cert.GainKernelIdeal.main_arg0)
      ∧ r.2.mem ((c.tc : Thread Cert.GainKernelIdeal.nD Cert.GainKernelIdeal.τ).loc Cert.GainKernelIdeal.main_arg1) = m ((c.tc : Thread Cert.GainKernelIdeal.nD Cert.GainKernelIdeal.τ).loc Cert.GainKernelIdeal.main_arg1)
      ∧ r.2.mem ((c.tc : Thread Cert.GainKernelIdeal.nD Cert.GainKernelIdeal.τ).loc Cert.GainKernelIdeal.main_arg2) = m ((c.tc : Thread Cert.GainKernelIdeal.nD Cert.GainKernelIdeal.τ).loc Cert.GainKernelIdeal.main_arg2)
      ∧ r.2.mem ((c.tc : Thread Cert.GainKernelIdeal.nD Cert.GainKernelIdeal.τ).loc Cert.GainKernelIdeal.main_arg3) = m ((c.tc : Thread Cert.GainKernelIdeal.nD Cert.GainKernelIdeal.τ).loc Cert.GainKernelIdeal.main_arg3))
      ∧ r.2.sem = fun _ => 0)

def quiescent_GainReferenceIdeal [hGainReferenceIdeal : Cert.GainReferenceIdeal.Facts] : Prop :=
  ∀ (m : (ℓ : Loc Cert.GainReferenceIdeal.nD Cert.GainReferenceIdeal.τ Cert.GainReferenceIdeal.sig) → Buf (Elt Ideal) ℓ) (g : Dev Cert.GainReferenceIdeal.nD → PrngReg), Pre_GainReferenceIdeal m →
    θ_run (Cert.GainReferenceIdeal.defs (F := Ideal)) (onTc (τ := Cert.GainReferenceIdeal.τ) (Cert.GainReferenceIdeal.main (F := Ideal))) ⟨m, fun _ => 0, g⟩ (fun r => (∀ c : Dev Cert.GainReferenceIdeal.nD,
      r.2.mem ((c.tc : Thread Cert.GainReferenceIdeal.nD Cert.GainReferenceIdeal.τ).loc Cert.GainReferenceIdeal.main_arg0) = m ((c.tc : Thread Cert.GainReferenceIdeal.nD Cert.GainReferenceIdeal.τ).loc Cert.GainReferenceIdeal.main_arg0)
      ∧ r.2.mem ((c.tc : Thread Cert.GainReferenceIdeal.nD Cert.GainReferenceIdeal.τ).loc Cert.GainReferenceIdeal.main_arg1) = m ((c.tc : Thread Cert.GainReferenceIdeal.nD Cert.GainReferenceIdeal.τ).loc Cert.GainReferenceIdeal.main_arg1)
      ∧ r.2.mem ((c.tc : Thread Cert.GainReferenceIdeal.nD Cert.GainReferenceIdeal.τ).loc Cert.GainReferenceIdeal.main_arg2) = m ((c.tc : Thread Cert.GainReferenceIdeal.nD Cert.GainReferenceIdeal.τ).loc Cert.GainReferenceIdeal.main_arg2)
      ∧ r.2.mem ((c.tc : Thread Cert.GainReferenceIdeal.nD Cert.GainReferenceIdeal.τ).loc Cert.GainReferenceIdeal.main_arg3) = m ((c.tc : Thread Cert.GainReferenceIdeal.nD Cert.GainReferenceIdeal.τ).loc Cert.GainReferenceIdeal.main_arg3))
      ∧ r.2.sem = fun _ => 0)

def quiescent_SumKernel [hSumKernel : Cert.SumKernel.Facts] : Prop :=
  ∀ (m : (ℓ : Loc Cert.SumKernel.nD Cert.SumKernel.τ Cert.SumKernel.sig) → Buf (Elt Bits) ℓ) (g : Dev Cert.SumKernel.nD → PrngReg), Pre_SumKernel m →
    θ_run (Cert.SumKernel.defs (F := Bits)) (onTc (τ := Cert.SumKernel.τ) (Cert.SumKernel.main (F := Bits))) ⟨m, fun _ => 0, g⟩ (fun r => (∀ c : Dev Cert.SumKernel.nD,
      r.2.mem ((c.tc : Thread Cert.SumKernel.nD Cert.SumKernel.τ).loc Cert.SumKernel.main_arg0) = m ((c.tc : Thread Cert.SumKernel.nD Cert.SumKernel.τ).loc Cert.SumKernel.main_arg0))
      ∧ r.2.sem = fun _ => 0)

def quiescent_SumKernelIdeal [hSumKernelIdeal : Cert.SumKernelIdeal.Facts] : Prop :=
  ∀ (m : (ℓ : Loc Cert.SumKernelIdeal.nD Cert.SumKernelIdeal.τ Cert.SumKernelIdeal.sig) → Buf (Elt Ideal) ℓ) (g : Dev Cert.SumKernelIdeal.nD → PrngReg), Pre_SumKernelIdeal m →
    θ_run (Cert.SumKernelIdeal.defs (F := Ideal)) (onTc (τ := Cert.SumKernelIdeal.τ) (Cert.SumKernelIdeal.main (F := Ideal))) ⟨m, fun _ => 0, g⟩ (fun r => (∀ c : Dev Cert.SumKernelIdeal.nD,
      r.2.mem ((c.tc : Thread Cert.SumKernelIdeal.nD Cert.SumKernelIdeal.τ).loc Cert.SumKernelIdeal.main_arg0) = m ((c.tc : Thread Cert.SumKernelIdeal.nD Cert.SumKernelIdeal.τ).loc Cert.SumKernelIdeal.main_arg0))
      ∧ r.2.sem = fun _ => 0)

def quiescent_SumReferenceIdeal [hSumReferenceIdeal : Cert.SumReferenceIdeal.Facts] : Prop :=
  ∀ (m : (ℓ : Loc Cert.SumReferenceIdeal.nD Cert.SumReferenceIdeal.τ Cert.SumReferenceIdeal.sig) → Buf (Elt Ideal) ℓ) (g : Dev Cert.SumReferenceIdeal.nD → PrngReg), Pre_SumReferenceIdeal m →
    θ_run (Cert.SumReferenceIdeal.defs (F := Ideal)) (onTc (τ := Cert.SumReferenceIdeal.τ) (Cert.SumReferenceIdeal.main (F := Ideal))) ⟨m, fun _ => 0, g⟩ (fun r => (∀ c : Dev Cert.SumReferenceIdeal.nD,
      r.2.mem ((c.tc : Thread Cert.SumReferenceIdeal.nD Cert.SumReferenceIdeal.τ).loc Cert.SumReferenceIdeal.main_arg0) = m ((c.tc : Thread Cert.SumReferenceIdeal.nD Cert.SumReferenceIdeal.τ).loc Cert.SumReferenceIdeal.main_arg0))
      ∧ r.2.sem = fun _ => 0)

def quiescent_UpdateOutKernel [hUpdateOutKernel : Cert.UpdateOutKernel.Facts] : Prop :=
  ∀ (m : (ℓ : Loc Cert.UpdateOutKernel.nD Cert.UpdateOutKernel.τ Cert.UpdateOutKernel.sig) → Buf (Elt Bits) ℓ) (g : Dev Cert.UpdateOutKernel.nD → PrngReg), Pre_UpdateOutKernel m →
    θ_run (Cert.UpdateOutKernel.defs (F := Bits)) (onTc (τ := Cert.UpdateOutKernel.τ) (Cert.UpdateOutKernel.main (F := Bits))) ⟨m, fun _ => 0, g⟩ (fun r => (∀ c : Dev Cert.UpdateOutKernel.nD,
      r.2.mem ((c.tc : Thread Cert.UpdateOutKernel.nD Cert.UpdateOutKernel.τ).loc Cert.UpdateOutKernel.main_arg0) = m ((c.tc : Thread Cert.UpdateOutKernel.nD Cert.UpdateOutKernel.τ).loc Cert.UpdateOutKernel.main_arg0)
      ∧ r.2.mem ((c.tc : Thread Cert.UpdateOutKernel.nD Cert.UpdateOutKernel.τ).loc Cert.UpdateOutKernel.main_arg1) = m ((c.tc : Thread Cert.UpdateOutKernel.nD Cert.UpdateOutKernel.τ).loc Cert.UpdateOutKernel.main_arg1)
      ∧ r.2.mem ((c.tc : Thread Cert.UpdateOutKernel.nD Cert.UpdateOutKernel.τ).loc Cert.UpdateOutKernel.main_arg2) = m ((c.tc : Thread Cert.UpdateOutKernel.nD Cert.UpdateOutKernel.τ).loc Cert.UpdateOutKernel.main_arg2)
      ∧ r.2.mem ((c.tc : Thread Cert.UpdateOutKernel.nD Cert.UpdateOutKernel.τ).loc Cert.UpdateOutKernel.main_arg3) = m ((c.tc : Thread Cert.UpdateOutKernel.nD Cert.UpdateOutKernel.τ).loc Cert.UpdateOutKernel.main_arg3)
      ∧ r.2.mem ((c.tc : Thread Cert.UpdateOutKernel.nD Cert.UpdateOutKernel.τ).loc Cert.UpdateOutKernel.main_arg4) = m ((c.tc : Thread Cert.UpdateOutKernel.nD Cert.UpdateOutKernel.τ).loc Cert.UpdateOutKernel.main_arg4))
      ∧ r.2.sem = fun _ => 0)

def quiescent_UpdateOutKernelIdeal [hUpdateOutKernelIdeal : Cert.UpdateOutKernelIdeal.Facts] : Prop :=
  ∀ (m : (ℓ : Loc Cert.UpdateOutKernelIdeal.nD Cert.UpdateOutKernelIdeal.τ Cert.UpdateOutKernelIdeal.sig) → Buf (Elt Ideal) ℓ) (g : Dev Cert.UpdateOutKernelIdeal.nD → PrngReg), Pre_UpdateOutKernelIdeal m →
    θ_run (Cert.UpdateOutKernelIdeal.defs (F := Ideal)) (onTc (τ := Cert.UpdateOutKernelIdeal.τ) (Cert.UpdateOutKernelIdeal.main (F := Ideal))) ⟨m, fun _ => 0, g⟩ (fun r => (∀ c : Dev Cert.UpdateOutKernelIdeal.nD,
      r.2.mem ((c.tc : Thread Cert.UpdateOutKernelIdeal.nD Cert.UpdateOutKernelIdeal.τ).loc Cert.UpdateOutKernelIdeal.main_arg0) = m ((c.tc : Thread Cert.UpdateOutKernelIdeal.nD Cert.UpdateOutKernelIdeal.τ).loc Cert.UpdateOutKernelIdeal.main_arg0)
      ∧ r.2.mem ((c.tc : Thread Cert.UpdateOutKernelIdeal.nD Cert.UpdateOutKernelIdeal.τ).loc Cert.UpdateOutKernelIdeal.main_arg1) = m ((c.tc : Thread Cert.UpdateOutKernelIdeal.nD Cert.UpdateOutKernelIdeal.τ).loc Cert.UpdateOutKernelIdeal.main_arg1)
      ∧ r.2.mem ((c.tc : Thread Cert.UpdateOutKernelIdeal.nD Cert.UpdateOutKernelIdeal.τ).loc Cert.UpdateOutKernelIdeal.main_arg2) = m ((c.tc : Thread Cert.UpdateOutKernelIdeal.nD Cert.UpdateOutKernelIdeal.τ).loc Cert.UpdateOutKernelIdeal.main_arg2)
      ∧ r.2.mem ((c.tc : Thread Cert.UpdateOutKernelIdeal.nD Cert.UpdateOutKernelIdeal.τ).loc Cert.UpdateOutKernelIdeal.main_arg3) = m ((c.tc : Thread Cert.UpdateOutKernelIdeal.nD Cert.UpdateOutKernelIdeal.τ).loc Cert.UpdateOutKernelIdeal.main_arg3)
      ∧ r.2.mem ((c.tc : Thread Cert.UpdateOutKernelIdeal.nD Cert.UpdateOutKernelIdeal.τ).loc Cert.UpdateOutKernelIdeal.main_arg4) = m ((c.tc : Thread Cert.UpdateOutKernelIdeal.nD Cert.UpdateOutKernelIdeal.τ).loc Cert.UpdateOutKernelIdeal.main_arg4))
      ∧ r.2.sem = fun _ => 0)

def quiescent_UpdateOutReferenceIdeal [hUpdateOutReferenceIdeal : Cert.UpdateOutReferenceIdeal.Facts] : Prop :=
  ∀ (m : (ℓ : Loc Cert.UpdateOutReferenceIdeal.nD Cert.UpdateOutReferenceIdeal.τ Cert.UpdateOutReferenceIdeal.sig) → Buf (Elt Ideal) ℓ) (g : Dev Cert.UpdateOutReferenceIdeal.nD → PrngReg), Pre_UpdateOutReferenceIdeal m →
    θ_run (Cert.UpdateOutReferenceIdeal.defs (F := Ideal)) (onTc (τ := Cert.UpdateOutReferenceIdeal.τ) (Cert.UpdateOutReferenceIdeal.main (F := Ideal))) ⟨m, fun _ => 0, g⟩ (fun r => (∀ c : Dev Cert.UpdateOutReferenceIdeal.nD,
      r.2.mem ((c.tc : Thread Cert.UpdateOutReferenceIdeal.nD Cert.UpdateOutReferenceIdeal.τ).loc Cert.UpdateOutReferenceIdeal.main_arg0) = m ((c.tc : Thread Cert.UpdateOutReferenceIdeal.nD Cert.UpdateOutReferenceIdeal.τ).loc Cert.UpdateOutReferenceIdeal.main_arg0)
      ∧ r.2.mem ((c.tc : Thread Cert.UpdateOutReferenceIdeal.nD Cert.UpdateOutReferenceIdeal.τ).loc Cert.UpdateOutReferenceIdeal.main_arg1) = m ((c.tc : Thread Cert.UpdateOutReferenceIdeal.nD Cert.UpdateOutReferenceIdeal.τ).loc Cert.UpdateOutReferenceIdeal.main_arg1)
      ∧ r.2.mem ((c.tc : Thread Cert.UpdateOutReferenceIdeal.nD Cert.UpdateOutReferenceIdeal.τ).loc Cert.UpdateOutReferenceIdeal.main_arg2) = m ((c.tc : Thread Cert.UpdateOutReferenceIdeal.nD Cert.UpdateOutReferenceIdeal.τ).loc Cert.UpdateOutReferenceIdeal.main_arg2)
      ∧ r.2.mem ((c.tc : Thread Cert.UpdateOutReferenceIdeal.nD Cert.UpdateOutReferenceIdeal.τ).loc Cert.UpdateOutReferenceIdeal.main_arg3) = m ((c.tc : Thread Cert.UpdateOutReferenceIdeal.nD Cert.UpdateOutReferenceIdeal.τ).loc Cert.UpdateOutReferenceIdeal.main_arg3)
      ∧ r.2.mem ((c.tc : Thread Cert.UpdateOutReferenceIdeal.nD Cert.UpdateOutReferenceIdeal.τ).loc Cert.UpdateOutReferenceIdeal.main_arg4) = m ((c.tc : Thread Cert.UpdateOutReferenceIdeal.nD Cert.UpdateOutReferenceIdeal.τ).loc Cert.UpdateOutReferenceIdeal.main_arg4))
      ∧ r.2.sem = fun _ => 0)

def quiescent_UpdateInKernel [hUpdateInKernel : Cert.UpdateInKernel.Facts] : Prop :=
  ∀ (m : (ℓ : Loc Cert.UpdateInKernel.nD Cert.UpdateInKernel.τ Cert.UpdateInKernel.sig) → Buf (Elt Bits) ℓ) (g : Dev Cert.UpdateInKernel.nD → PrngReg), Pre_UpdateInKernel m →
    θ_run (Cert.UpdateInKernel.defs (F := Bits)) (onTc (τ := Cert.UpdateInKernel.τ) (Cert.UpdateInKernel.main (F := Bits))) ⟨m, fun _ => 0, g⟩ (fun r => (∀ c : Dev Cert.UpdateInKernel.nD,
      r.2.mem ((c.tc : Thread Cert.UpdateInKernel.nD Cert.UpdateInKernel.τ).loc Cert.UpdateInKernel.main_arg0) = m ((c.tc : Thread Cert.UpdateInKernel.nD Cert.UpdateInKernel.τ).loc Cert.UpdateInKernel.main_arg0)
      ∧ r.2.mem ((c.tc : Thread Cert.UpdateInKernel.nD Cert.UpdateInKernel.τ).loc Cert.UpdateInKernel.main_arg1) = m ((c.tc : Thread Cert.UpdateInKernel.nD Cert.UpdateInKernel.τ).loc Cert.UpdateInKernel.main_arg1)
      ∧ r.2.mem ((c.tc : Thread Cert.UpdateInKernel.nD Cert.UpdateInKernel.τ).loc Cert.UpdateInKernel.main_arg2) = m ((c.tc : Thread Cert.UpdateInKernel.nD Cert.UpdateInKernel.τ).loc Cert.UpdateInKernel.main_arg2)
      ∧ r.2.mem ((c.tc : Thread Cert.UpdateInKernel.nD Cert.UpdateInKernel.τ).loc Cert.UpdateInKernel.main_arg3) = m ((c.tc : Thread Cert.UpdateInKernel.nD Cert.UpdateInKernel.τ).loc Cert.UpdateInKernel.main_arg3)
      ∧ r.2.mem ((c.tc : Thread Cert.UpdateInKernel.nD Cert.UpdateInKernel.τ).loc Cert.UpdateInKernel.main_arg4) = m ((c.tc : Thread Cert.UpdateInKernel.nD Cert.UpdateInKernel.τ).loc Cert.UpdateInKernel.main_arg4))
      ∧ r.2.sem = fun _ => 0)

def quiescent_UpdateInKernelIdeal [hUpdateInKernelIdeal : Cert.UpdateInKernelIdeal.Facts] : Prop :=
  ∀ (m : (ℓ : Loc Cert.UpdateInKernelIdeal.nD Cert.UpdateInKernelIdeal.τ Cert.UpdateInKernelIdeal.sig) → Buf (Elt Ideal) ℓ) (g : Dev Cert.UpdateInKernelIdeal.nD → PrngReg), Pre_UpdateInKernelIdeal m →
    θ_run (Cert.UpdateInKernelIdeal.defs (F := Ideal)) (onTc (τ := Cert.UpdateInKernelIdeal.τ) (Cert.UpdateInKernelIdeal.main (F := Ideal))) ⟨m, fun _ => 0, g⟩ (fun r => (∀ c : Dev Cert.UpdateInKernelIdeal.nD,
      r.2.mem ((c.tc : Thread Cert.UpdateInKernelIdeal.nD Cert.UpdateInKernelIdeal.τ).loc Cert.UpdateInKernelIdeal.main_arg0) = m ((c.tc : Thread Cert.UpdateInKernelIdeal.nD Cert.UpdateInKernelIdeal.τ).loc Cert.UpdateInKernelIdeal.main_arg0)
      ∧ r.2.mem ((c.tc : Thread Cert.UpdateInKernelIdeal.nD Cert.UpdateInKernelIdeal.τ).loc Cert.UpdateInKernelIdeal.main_arg1) = m ((c.tc : Thread Cert.UpdateInKernelIdeal.nD Cert.UpdateInKernelIdeal.τ).loc Cert.UpdateInKernelIdeal.main_arg1)
      ∧ r.2.mem ((c.tc : Thread Cert.UpdateInKernelIdeal.nD Cert.UpdateInKernelIdeal.τ).loc Cert.UpdateInKernelIdeal.main_arg2) = m ((c.tc : Thread Cert.UpdateInKernelIdeal.nD Cert.UpdateInKernelIdeal.τ).loc Cert.UpdateInKernelIdeal.main_arg2)
      ∧ r.2.mem ((c.tc : Thread Cert.UpdateInKernelIdeal.nD Cert.UpdateInKernelIdeal.τ).loc Cert.UpdateInKernelIdeal.main_arg3) = m ((c.tc : Thread Cert.UpdateInKernelIdeal.nD Cert.UpdateInKernelIdeal.τ).loc Cert.UpdateInKernelIdeal.main_arg3)
      ∧ r.2.mem ((c.tc : Thread Cert.UpdateInKernelIdeal.nD Cert.UpdateInKernelIdeal.τ).loc Cert.UpdateInKernelIdeal.main_arg4) = m ((c.tc : Thread Cert.UpdateInKernelIdeal.nD Cert.UpdateInKernelIdeal.τ).loc Cert.UpdateInKernelIdeal.main_arg4))
      ∧ r.2.sem = fun _ => 0)

def quiescent_UpdateInReferenceIdeal [hUpdateInReferenceIdeal : Cert.UpdateInReferenceIdeal.Facts] : Prop :=
  ∀ (m : (ℓ : Loc Cert.UpdateInReferenceIdeal.nD Cert.UpdateInReferenceIdeal.τ Cert.UpdateInReferenceIdeal.sig) → Buf (Elt Ideal) ℓ) (g : Dev Cert.UpdateInReferenceIdeal.nD → PrngReg), Pre_UpdateInReferenceIdeal m →
    θ_run (Cert.UpdateInReferenceIdeal.defs (F := Ideal)) (onTc (τ := Cert.UpdateInReferenceIdeal.τ) (Cert.UpdateInReferenceIdeal.main (F := Ideal))) ⟨m, fun _ => 0, g⟩ (fun r => (∀ c : Dev Cert.UpdateInReferenceIdeal.nD,
      r.2.mem ((c.tc : Thread Cert.UpdateInReferenceIdeal.nD Cert.UpdateInReferenceIdeal.τ).loc Cert.UpdateInReferenceIdeal.main_arg0) = m ((c.tc : Thread Cert.UpdateInReferenceIdeal.nD Cert.UpdateInReferenceIdeal.τ).loc Cert.UpdateInReferenceIdeal.main_arg0)
      ∧ r.2.mem ((c.tc : Thread Cert.UpdateInReferenceIdeal.nD Cert.UpdateInReferenceIdeal.τ).loc Cert.UpdateInReferenceIdeal.main_arg1) = m ((c.tc : Thread Cert.UpdateInReferenceIdeal.nD Cert.UpdateInReferenceIdeal.τ).loc Cert.UpdateInReferenceIdeal.main_arg1)
      ∧ r.2.mem ((c.tc : Thread Cert.UpdateInReferenceIdeal.nD Cert.UpdateInReferenceIdeal.τ).loc Cert.UpdateInReferenceIdeal.main_arg2) = m ((c.tc : Thread Cert.UpdateInReferenceIdeal.nD Cert.UpdateInReferenceIdeal.τ).loc Cert.UpdateInReferenceIdeal.main_arg2)
      ∧ r.2.mem ((c.tc : Thread Cert.UpdateInReferenceIdeal.nD Cert.UpdateInReferenceIdeal.τ).loc Cert.UpdateInReferenceIdeal.main_arg3) = m ((c.tc : Thread Cert.UpdateInReferenceIdeal.nD Cert.UpdateInReferenceIdeal.τ).loc Cert.UpdateInReferenceIdeal.main_arg3)
      ∧ r.2.mem ((c.tc : Thread Cert.UpdateInReferenceIdeal.nD Cert.UpdateInReferenceIdeal.τ).loc Cert.UpdateInReferenceIdeal.main_arg4) = m ((c.tc : Thread Cert.UpdateInReferenceIdeal.nD Cert.UpdateInReferenceIdeal.τ).loc Cert.UpdateInReferenceIdeal.main_arg4))
      ∧ r.2.sem = fun _ => 0)

def quiescent_UpdateProjKernel [hUpdateProjKernel : Cert.UpdateProjKernel.Facts] : Prop :=
  ∀ (m : (ℓ : Loc Cert.UpdateProjKernel.nD Cert.UpdateProjKernel.τ Cert.UpdateProjKernel.sig) → Buf (Elt Bits) ℓ) (g : Dev Cert.UpdateProjKernel.nD → PrngReg), Pre_UpdateProjKernel m →
    θ_run (Cert.UpdateProjKernel.defs (F := Bits)) (onTc (τ := Cert.UpdateProjKernel.τ) (Cert.UpdateProjKernel.main (F := Bits))) ⟨m, fun _ => 0, g⟩ (fun r => (∀ c : Dev Cert.UpdateProjKernel.nD,
      r.2.mem ((c.tc : Thread Cert.UpdateProjKernel.nD Cert.UpdateProjKernel.τ).loc Cert.UpdateProjKernel.main_arg0) = m ((c.tc : Thread Cert.UpdateProjKernel.nD Cert.UpdateProjKernel.τ).loc Cert.UpdateProjKernel.main_arg0)
      ∧ r.2.mem ((c.tc : Thread Cert.UpdateProjKernel.nD Cert.UpdateProjKernel.τ).loc Cert.UpdateProjKernel.main_arg1) = m ((c.tc : Thread Cert.UpdateProjKernel.nD Cert.UpdateProjKernel.τ).loc Cert.UpdateProjKernel.main_arg1)
      ∧ r.2.mem ((c.tc : Thread Cert.UpdateProjKernel.nD Cert.UpdateProjKernel.τ).loc Cert.UpdateProjKernel.main_arg2) = m ((c.tc : Thread Cert.UpdateProjKernel.nD Cert.UpdateProjKernel.τ).loc Cert.UpdateProjKernel.main_arg2)
      ∧ r.2.mem ((c.tc : Thread Cert.UpdateProjKernel.nD Cert.UpdateProjKernel.τ).loc Cert.UpdateProjKernel.main_arg3) = m ((c.tc : Thread Cert.UpdateProjKernel.nD Cert.UpdateProjKernel.τ).loc Cert.UpdateProjKernel.main_arg3)
      ∧ r.2.mem ((c.tc : Thread Cert.UpdateProjKernel.nD Cert.UpdateProjKernel.τ).loc Cert.UpdateProjKernel.main_arg4) = m ((c.tc : Thread Cert.UpdateProjKernel.nD Cert.UpdateProjKernel.τ).loc Cert.UpdateProjKernel.main_arg4))
      ∧ r.2.sem = fun _ => 0)

def quiescent_UpdateProjKernelIdeal [hUpdateProjKernelIdeal : Cert.UpdateProjKernelIdeal.Facts] : Prop :=
  ∀ (m : (ℓ : Loc Cert.UpdateProjKernelIdeal.nD Cert.UpdateProjKernelIdeal.τ Cert.UpdateProjKernelIdeal.sig) → Buf (Elt Ideal) ℓ) (g : Dev Cert.UpdateProjKernelIdeal.nD → PrngReg), Pre_UpdateProjKernelIdeal m →
    θ_run (Cert.UpdateProjKernelIdeal.defs (F := Ideal)) (onTc (τ := Cert.UpdateProjKernelIdeal.τ) (Cert.UpdateProjKernelIdeal.main (F := Ideal))) ⟨m, fun _ => 0, g⟩ (fun r => (∀ c : Dev Cert.UpdateProjKernelIdeal.nD,
      r.2.mem ((c.tc : Thread Cert.UpdateProjKernelIdeal.nD Cert.UpdateProjKernelIdeal.τ).loc Cert.UpdateProjKernelIdeal.main_arg0) = m ((c.tc : Thread Cert.UpdateProjKernelIdeal.nD Cert.UpdateProjKernelIdeal.τ).loc Cert.UpdateProjKernelIdeal.main_arg0)
      ∧ r.2.mem ((c.tc : Thread Cert.UpdateProjKernelIdeal.nD Cert.UpdateProjKernelIdeal.τ).loc Cert.UpdateProjKernelIdeal.main_arg1) = m ((c.tc : Thread Cert.UpdateProjKernelIdeal.nD Cert.UpdateProjKernelIdeal.τ).loc Cert.UpdateProjKernelIdeal.main_arg1)
      ∧ r.2.mem ((c.tc : Thread Cert.UpdateProjKernelIdeal.nD Cert.UpdateProjKernelIdeal.τ).loc Cert.UpdateProjKernelIdeal.main_arg2) = m ((c.tc : Thread Cert.UpdateProjKernelIdeal.nD Cert.UpdateProjKernelIdeal.τ).loc Cert.UpdateProjKernelIdeal.main_arg2)
      ∧ r.2.mem ((c.tc : Thread Cert.UpdateProjKernelIdeal.nD Cert.UpdateProjKernelIdeal.τ).loc Cert.UpdateProjKernelIdeal.main_arg3) = m ((c.tc : Thread Cert.UpdateProjKernelIdeal.nD Cert.UpdateProjKernelIdeal.τ).loc Cert.UpdateProjKernelIdeal.main_arg3)
      ∧ r.2.mem ((c.tc : Thread Cert.UpdateProjKernelIdeal.nD Cert.UpdateProjKernelIdeal.τ).loc Cert.UpdateProjKernelIdeal.main_arg4) = m ((c.tc : Thread Cert.UpdateProjKernelIdeal.nD Cert.UpdateProjKernelIdeal.τ).loc Cert.UpdateProjKernelIdeal.main_arg4))
      ∧ r.2.sem = fun _ => 0)

def quiescent_UpdateProjReferenceIdeal [hUpdateProjReferenceIdeal : Cert.UpdateProjReferenceIdeal.Facts] : Prop :=
  ∀ (m : (ℓ : Loc Cert.UpdateProjReferenceIdeal.nD Cert.UpdateProjReferenceIdeal.τ Cert.UpdateProjReferenceIdeal.sig) → Buf (Elt Ideal) ℓ) (g : Dev Cert.UpdateProjReferenceIdeal.nD → PrngReg), Pre_UpdateProjReferenceIdeal m →
    θ_run (Cert.UpdateProjReferenceIdeal.defs (F := Ideal)) (onTc (τ := Cert.UpdateProjReferenceIdeal.τ) (Cert.UpdateProjReferenceIdeal.main (F := Ideal))) ⟨m, fun _ => 0, g⟩ (fun r => (∀ c : Dev Cert.UpdateProjReferenceIdeal.nD,
      r.2.mem ((c.tc : Thread Cert.UpdateProjReferenceIdeal.nD Cert.UpdateProjReferenceIdeal.τ).loc Cert.UpdateProjReferenceIdeal.main_arg0) = m ((c.tc : Thread Cert.UpdateProjReferenceIdeal.nD Cert.UpdateProjReferenceIdeal.τ).loc Cert.UpdateProjReferenceIdeal.main_arg0)
      ∧ r.2.mem ((c.tc : Thread Cert.UpdateProjReferenceIdeal.nD Cert.UpdateProjReferenceIdeal.τ).loc Cert.UpdateProjReferenceIdeal.main_arg1) = m ((c.tc : Thread Cert.UpdateProjReferenceIdeal.nD Cert.UpdateProjReferenceIdeal.τ).loc Cert.UpdateProjReferenceIdeal.main_arg1)
      ∧ r.2.mem ((c.tc : Thread Cert.UpdateProjReferenceIdeal.nD Cert.UpdateProjReferenceIdeal.τ).loc Cert.UpdateProjReferenceIdeal.main_arg2) = m ((c.tc : Thread Cert.UpdateProjReferenceIdeal.nD Cert.UpdateProjReferenceIdeal.τ).loc Cert.UpdateProjReferenceIdeal.main_arg2)
      ∧ r.2.mem ((c.tc : Thread Cert.UpdateProjReferenceIdeal.nD Cert.UpdateProjReferenceIdeal.τ).loc Cert.UpdateProjReferenceIdeal.main_arg3) = m ((c.tc : Thread Cert.UpdateProjReferenceIdeal.nD Cert.UpdateProjReferenceIdeal.τ).loc Cert.UpdateProjReferenceIdeal.main_arg3)
      ∧ r.2.mem ((c.tc : Thread Cert.UpdateProjReferenceIdeal.nD Cert.UpdateProjReferenceIdeal.τ).loc Cert.UpdateProjReferenceIdeal.main_arg4) = m ((c.tc : Thread Cert.UpdateProjReferenceIdeal.nD Cert.UpdateProjReferenceIdeal.τ).loc Cert.UpdateProjReferenceIdeal.main_arg4))
      ∧ r.2.sem = fun _ => 0)

def quiescent_OutGradKernel [hOutGradKernel : Cert.OutGradKernel.Facts] : Prop :=
  ∀ (m : (ℓ : Loc Cert.OutGradKernel.nD Cert.OutGradKernel.τ Cert.OutGradKernel.sig) → Buf (Elt Bits) ℓ) (g : Dev Cert.OutGradKernel.nD → PrngReg), Pre_OutGradKernel m →
    θ_run (Cert.OutGradKernel.defs (F := Bits)) (onTc (τ := Cert.OutGradKernel.τ) (Cert.OutGradKernel.main (F := Bits))) ⟨m, fun _ => 0, g⟩ (fun r => (∀ c : Dev Cert.OutGradKernel.nD,
      r.2.mem ((c.tc : Thread Cert.OutGradKernel.nD Cert.OutGradKernel.τ).loc Cert.OutGradKernel.main_arg0) = m ((c.tc : Thread Cert.OutGradKernel.nD Cert.OutGradKernel.τ).loc Cert.OutGradKernel.main_arg0)
      ∧ r.2.mem ((c.tc : Thread Cert.OutGradKernel.nD Cert.OutGradKernel.τ).loc Cert.OutGradKernel.main_arg1) = m ((c.tc : Thread Cert.OutGradKernel.nD Cert.OutGradKernel.τ).loc Cert.OutGradKernel.main_arg1))
      ∧ r.2.sem = fun _ => 0)

def quiescent_OutGradKernelIdeal [hOutGradKernelIdeal : Cert.OutGradKernelIdeal.Facts] : Prop :=
  ∀ (m : (ℓ : Loc Cert.OutGradKernelIdeal.nD Cert.OutGradKernelIdeal.τ Cert.OutGradKernelIdeal.sig) → Buf (Elt Ideal) ℓ) (g : Dev Cert.OutGradKernelIdeal.nD → PrngReg), Pre_OutGradKernelIdeal m →
    θ_run (Cert.OutGradKernelIdeal.defs (F := Ideal)) (onTc (τ := Cert.OutGradKernelIdeal.τ) (Cert.OutGradKernelIdeal.main (F := Ideal))) ⟨m, fun _ => 0, g⟩ (fun r => (∀ c : Dev Cert.OutGradKernelIdeal.nD,
      r.2.mem ((c.tc : Thread Cert.OutGradKernelIdeal.nD Cert.OutGradKernelIdeal.τ).loc Cert.OutGradKernelIdeal.main_arg0) = m ((c.tc : Thread Cert.OutGradKernelIdeal.nD Cert.OutGradKernelIdeal.τ).loc Cert.OutGradKernelIdeal.main_arg0)
      ∧ r.2.mem ((c.tc : Thread Cert.OutGradKernelIdeal.nD Cert.OutGradKernelIdeal.τ).loc Cert.OutGradKernelIdeal.main_arg1) = m ((c.tc : Thread Cert.OutGradKernelIdeal.nD Cert.OutGradKernelIdeal.τ).loc Cert.OutGradKernelIdeal.main_arg1))
      ∧ r.2.sem = fun _ => 0)

def quiescent_OutGradReferenceIdeal [hOutGradReferenceIdeal : Cert.OutGradReferenceIdeal.Facts] : Prop :=
  ∀ (m : (ℓ : Loc Cert.OutGradReferenceIdeal.nD Cert.OutGradReferenceIdeal.τ Cert.OutGradReferenceIdeal.sig) → Buf (Elt Ideal) ℓ) (g : Dev Cert.OutGradReferenceIdeal.nD → PrngReg), Pre_OutGradReferenceIdeal m →
    θ_run (Cert.OutGradReferenceIdeal.defs (F := Ideal)) (onTc (τ := Cert.OutGradReferenceIdeal.τ) (Cert.OutGradReferenceIdeal.main (F := Ideal))) ⟨m, fun _ => 0, g⟩ (fun r => (∀ c : Dev Cert.OutGradReferenceIdeal.nD,
      r.2.mem ((c.tc : Thread Cert.OutGradReferenceIdeal.nD Cert.OutGradReferenceIdeal.τ).loc Cert.OutGradReferenceIdeal.main_arg0) = m ((c.tc : Thread Cert.OutGradReferenceIdeal.nD Cert.OutGradReferenceIdeal.τ).loc Cert.OutGradReferenceIdeal.main_arg0)
      ∧ r.2.mem ((c.tc : Thread Cert.OutGradReferenceIdeal.nD Cert.OutGradReferenceIdeal.τ).loc Cert.OutGradReferenceIdeal.main_arg1) = m ((c.tc : Thread Cert.OutGradReferenceIdeal.nD Cert.OutGradReferenceIdeal.τ).loc Cert.OutGradReferenceIdeal.main_arg1))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_BlendKernel [hBlendKernel : Cert.BlendKernel.Facts] : Prop :=
  ∀ (m : (ℓ : Loc Cert.BlendKernel.nD Cert.BlendKernel.τ Cert.BlendKernel.sig) → Buf (Elt Bits) ℓ) (g : Dev Cert.BlendKernel.nD → PrngReg), Pre_BlendKernel m →
    θ_run (Cert.BlendKernel.defs (F := Bits)) (onTc (τ := Cert.BlendKernel.τ) (Cert.BlendKernel.main (F := Bits))) ⟨m, fun _ => 0, g⟩ (fun r => (∀ c : Dev Cert.BlendKernel.nD,
      r.2.mem ((c.tc : Thread Cert.BlendKernel.nD Cert.BlendKernel.τ).loc Cert.BlendKernel.main_arg0) = m ((c.tc : Thread Cert.BlendKernel.nD Cert.BlendKernel.τ).loc Cert.BlendKernel.main_arg0)
      ∧ r.2.mem ((c.tc : Thread Cert.BlendKernel.nD Cert.BlendKernel.τ).loc Cert.BlendKernel.main_arg1) = m ((c.tc : Thread Cert.BlendKernel.nD Cert.BlendKernel.τ).loc Cert.BlendKernel.main_arg1)
      ∧ r.2.mem ((c.tc : Thread Cert.BlendKernel.nD Cert.BlendKernel.τ).loc Cert.BlendKernel.main_arg2) = m ((c.tc : Thread Cert.BlendKernel.nD Cert.BlendKernel.τ).loc Cert.BlendKernel.main_arg2)
      ∧ r.2.mem ((c.tc : Thread Cert.BlendKernel.nD Cert.BlendKernel.τ).loc Cert.BlendKernel.main_arg3) = m ((c.tc : Thread Cert.BlendKernel.nD Cert.BlendKernel.τ).loc Cert.BlendKernel.main_arg3)
      ∧ r.2.mem ((c.tc : Thread Cert.BlendKernel.nD Cert.BlendKernel.τ).loc Cert.BlendKernel.main_arg4) = m ((c.tc : Thread Cert.BlendKernel.nD Cert.BlendKernel.τ).loc Cert.BlendKernel.main_arg4))
      ∧ r.2.sem = fun _ => 0)

def quiescent_BlendKernelIdeal [hBlendKernelIdeal : Cert.BlendKernelIdeal.Facts] : Prop :=
  ∀ (m : (ℓ : Loc Cert.BlendKernelIdeal.nD Cert.BlendKernelIdeal.τ Cert.BlendKernelIdeal.sig) → Buf (Elt Ideal) ℓ) (g : Dev Cert.BlendKernelIdeal.nD → PrngReg), Pre_BlendKernelIdeal m →
    θ_run (Cert.BlendKernelIdeal.defs (F := Ideal)) (onTc (τ := Cert.BlendKernelIdeal.τ) (Cert.BlendKernelIdeal.main (F := Ideal))) ⟨m, fun _ => 0, g⟩ (fun r => (∀ c : Dev Cert.BlendKernelIdeal.nD,
      r.2.mem ((c.tc : Thread Cert.BlendKernelIdeal.nD Cert.BlendKernelIdeal.τ).loc Cert.BlendKernelIdeal.main_arg0) = m ((c.tc : Thread Cert.BlendKernelIdeal.nD Cert.BlendKernelIdeal.τ).loc Cert.BlendKernelIdeal.main_arg0)
      ∧ r.2.mem ((c.tc : Thread Cert.BlendKernelIdeal.nD Cert.BlendKernelIdeal.τ).loc Cert.BlendKernelIdeal.main_arg1) = m ((c.tc : Thread Cert.BlendKernelIdeal.nD Cert.BlendKernelIdeal.τ).loc Cert.BlendKernelIdeal.main_arg1)
      ∧ r.2.mem ((c.tc : Thread Cert.BlendKernelIdeal.nD Cert.BlendKernelIdeal.τ).loc Cert.BlendKernelIdeal.main_arg2) = m ((c.tc : Thread Cert.BlendKernelIdeal.nD Cert.BlendKernelIdeal.τ).loc Cert.BlendKernelIdeal.main_arg2)
      ∧ r.2.mem ((c.tc : Thread Cert.BlendKernelIdeal.nD Cert.BlendKernelIdeal.τ).loc Cert.BlendKernelIdeal.main_arg3) = m ((c.tc : Thread Cert.BlendKernelIdeal.nD Cert.BlendKernelIdeal.τ).loc Cert.BlendKernelIdeal.main_arg3)
      ∧ r.2.mem ((c.tc : Thread Cert.BlendKernelIdeal.nD Cert.BlendKernelIdeal.τ).loc Cert.BlendKernelIdeal.main_arg4) = m ((c.tc : Thread Cert.BlendKernelIdeal.nD Cert.BlendKernelIdeal.τ).loc Cert.BlendKernelIdeal.main_arg4))
      ∧ r.2.sem = fun _ => 0)

def quiescent_BlendReferenceIdeal [hBlendReferenceIdeal : Cert.BlendReferenceIdeal.Facts] : Prop :=
  ∀ (m : (ℓ : Loc Cert.BlendReferenceIdeal.nD Cert.BlendReferenceIdeal.τ Cert.BlendReferenceIdeal.sig) → Buf (Elt Ideal) ℓ) (g : Dev Cert.BlendReferenceIdeal.nD → PrngReg), Pre_BlendReferenceIdeal m →
    θ_run (Cert.BlendReferenceIdeal.defs (F := Ideal)) (onTc (τ := Cert.BlendReferenceIdeal.τ) (Cert.BlendReferenceIdeal.main (F := Ideal))) ⟨m, fun _ => 0, g⟩ (fun r => (∀ c : Dev Cert.BlendReferenceIdeal.nD,
      r.2.mem ((c.tc : Thread Cert.BlendReferenceIdeal.nD Cert.BlendReferenceIdeal.τ).loc Cert.BlendReferenceIdeal.main_arg0) = m ((c.tc : Thread Cert.BlendReferenceIdeal.nD Cert.BlendReferenceIdeal.τ).loc Cert.BlendReferenceIdeal.main_arg0)
      ∧ r.2.mem ((c.tc : Thread Cert.BlendReferenceIdeal.nD Cert.BlendReferenceIdeal.τ).loc Cert.BlendReferenceIdeal.main_arg1) = m ((c.tc : Thread Cert.BlendReferenceIdeal.nD Cert.BlendReferenceIdeal.τ).loc Cert.BlendReferenceIdeal.main_arg1)
      ∧ r.2.mem ((c.tc : Thread Cert.BlendReferenceIdeal.nD Cert.BlendReferenceIdeal.τ).loc Cert.BlendReferenceIdeal.main_arg2) = m ((c.tc : Thread Cert.BlendReferenceIdeal.nD Cert.BlendReferenceIdeal.τ).loc Cert.BlendReferenceIdeal.main_arg2)
      ∧ r.2.mem ((c.tc : Thread Cert.BlendReferenceIdeal.nD Cert.BlendReferenceIdeal.τ).loc Cert.BlendReferenceIdeal.main_arg3) = m ((c.tc : Thread Cert.BlendReferenceIdeal.nD Cert.BlendReferenceIdeal.τ).loc Cert.BlendReferenceIdeal.main_arg3)
      ∧ r.2.mem ((c.tc : Thread Cert.BlendReferenceIdeal.nD Cert.BlendReferenceIdeal.τ).loc Cert.BlendReferenceIdeal.main_arg4) = m ((c.tc : Thread Cert.BlendReferenceIdeal.nD Cert.BlendReferenceIdeal.τ).loc Cert.BlendReferenceIdeal.main_arg4))
      ∧ r.2.sem = fun _ => 0)

def quiescent_UnblendKernel [hUnblendKernel : Cert.UnblendKernel.Facts] : Prop :=
  ∀ (m : (ℓ : Loc Cert.UnblendKernel.nD Cert.UnblendKernel.τ Cert.UnblendKernel.sig) → Buf (Elt Bits) ℓ) (g : Dev Cert.UnblendKernel.nD → PrngReg), Pre_UnblendKernel m →
    θ_run (Cert.UnblendKernel.defs (F := Bits)) (onTc (τ := Cert.UnblendKernel.τ) (Cert.UnblendKernel.main (F := Bits))) ⟨m, fun _ => 0, g⟩ (fun r => (∀ c : Dev Cert.UnblendKernel.nD,
      r.2.mem ((c.tc : Thread Cert.UnblendKernel.nD Cert.UnblendKernel.τ).loc Cert.UnblendKernel.main_arg0) = m ((c.tc : Thread Cert.UnblendKernel.nD Cert.UnblendKernel.τ).loc Cert.UnblendKernel.main_arg0)
      ∧ r.2.mem ((c.tc : Thread Cert.UnblendKernel.nD Cert.UnblendKernel.τ).loc Cert.UnblendKernel.main_arg1) = m ((c.tc : Thread Cert.UnblendKernel.nD Cert.UnblendKernel.τ).loc Cert.UnblendKernel.main_arg1)
      ∧ r.2.mem ((c.tc : Thread Cert.UnblendKernel.nD Cert.UnblendKernel.τ).loc Cert.UnblendKernel.main_arg2) = m ((c.tc : Thread Cert.UnblendKernel.nD Cert.UnblendKernel.τ).loc Cert.UnblendKernel.main_arg2)
      ∧ r.2.mem ((c.tc : Thread Cert.UnblendKernel.nD Cert.UnblendKernel.τ).loc Cert.UnblendKernel.main_arg3) = m ((c.tc : Thread Cert.UnblendKernel.nD Cert.UnblendKernel.τ).loc Cert.UnblendKernel.main_arg3)
      ∧ r.2.mem ((c.tc : Thread Cert.UnblendKernel.nD Cert.UnblendKernel.τ).loc Cert.UnblendKernel.main_arg4) = m ((c.tc : Thread Cert.UnblendKernel.nD Cert.UnblendKernel.τ).loc Cert.UnblendKernel.main_arg4))
      ∧ r.2.sem = fun _ => 0)

def quiescent_UnblendKernelIdeal [hUnblendKernelIdeal : Cert.UnblendKernelIdeal.Facts] : Prop :=
  ∀ (m : (ℓ : Loc Cert.UnblendKernelIdeal.nD Cert.UnblendKernelIdeal.τ Cert.UnblendKernelIdeal.sig) → Buf (Elt Ideal) ℓ) (g : Dev Cert.UnblendKernelIdeal.nD → PrngReg), Pre_UnblendKernelIdeal m →
    θ_run (Cert.UnblendKernelIdeal.defs (F := Ideal)) (onTc (τ := Cert.UnblendKernelIdeal.τ) (Cert.UnblendKernelIdeal.main (F := Ideal))) ⟨m, fun _ => 0, g⟩ (fun r => (∀ c : Dev Cert.UnblendKernelIdeal.nD,
      r.2.mem ((c.tc : Thread Cert.UnblendKernelIdeal.nD Cert.UnblendKernelIdeal.τ).loc Cert.UnblendKernelIdeal.main_arg0) = m ((c.tc : Thread Cert.UnblendKernelIdeal.nD Cert.UnblendKernelIdeal.τ).loc Cert.UnblendKernelIdeal.main_arg0)
      ∧ r.2.mem ((c.tc : Thread Cert.UnblendKernelIdeal.nD Cert.UnblendKernelIdeal.τ).loc Cert.UnblendKernelIdeal.main_arg1) = m ((c.tc : Thread Cert.UnblendKernelIdeal.nD Cert.UnblendKernelIdeal.τ).loc Cert.UnblendKernelIdeal.main_arg1)
      ∧ r.2.mem ((c.tc : Thread Cert.UnblendKernelIdeal.nD Cert.UnblendKernelIdeal.τ).loc Cert.UnblendKernelIdeal.main_arg2) = m ((c.tc : Thread Cert.UnblendKernelIdeal.nD Cert.UnblendKernelIdeal.τ).loc Cert.UnblendKernelIdeal.main_arg2)
      ∧ r.2.mem ((c.tc : Thread Cert.UnblendKernelIdeal.nD Cert.UnblendKernelIdeal.τ).loc Cert.UnblendKernelIdeal.main_arg3) = m ((c.tc : Thread Cert.UnblendKernelIdeal.nD Cert.UnblendKernelIdeal.τ).loc Cert.UnblendKernelIdeal.main_arg3)
      ∧ r.2.mem ((c.tc : Thread Cert.UnblendKernelIdeal.nD Cert.UnblendKernelIdeal.τ).loc Cert.UnblendKernelIdeal.main_arg4) = m ((c.tc : Thread Cert.UnblendKernelIdeal.nD Cert.UnblendKernelIdeal.τ).loc Cert.UnblendKernelIdeal.main_arg4))
      ∧ r.2.sem = fun _ => 0)

def quiescent_UnblendReferenceIdeal [hUnblendReferenceIdeal : Cert.UnblendReferenceIdeal.Facts] : Prop :=
  ∀ (m : (ℓ : Loc Cert.UnblendReferenceIdeal.nD Cert.UnblendReferenceIdeal.τ Cert.UnblendReferenceIdeal.sig) → Buf (Elt Ideal) ℓ) (g : Dev Cert.UnblendReferenceIdeal.nD → PrngReg), Pre_UnblendReferenceIdeal m →
    θ_run (Cert.UnblendReferenceIdeal.defs (F := Ideal)) (onTc (τ := Cert.UnblendReferenceIdeal.τ) (Cert.UnblendReferenceIdeal.main (F := Ideal))) ⟨m, fun _ => 0, g⟩ (fun r => (∀ c : Dev Cert.UnblendReferenceIdeal.nD,
      r.2.mem ((c.tc : Thread Cert.UnblendReferenceIdeal.nD Cert.UnblendReferenceIdeal.τ).loc Cert.UnblendReferenceIdeal.main_arg0) = m ((c.tc : Thread Cert.UnblendReferenceIdeal.nD Cert.UnblendReferenceIdeal.τ).loc Cert.UnblendReferenceIdeal.main_arg0)
      ∧ r.2.mem ((c.tc : Thread Cert.UnblendReferenceIdeal.nD Cert.UnblendReferenceIdeal.τ).loc Cert.UnblendReferenceIdeal.main_arg1) = m ((c.tc : Thread Cert.UnblendReferenceIdeal.nD Cert.UnblendReferenceIdeal.τ).loc Cert.UnblendReferenceIdeal.main_arg1)
      ∧ r.2.mem ((c.tc : Thread Cert.UnblendReferenceIdeal.nD Cert.UnblendReferenceIdeal.τ).loc Cert.UnblendReferenceIdeal.main_arg2) = m ((c.tc : Thread Cert.UnblendReferenceIdeal.nD Cert.UnblendReferenceIdeal.τ).loc Cert.UnblendReferenceIdeal.main_arg2)
      ∧ r.2.mem ((c.tc : Thread Cert.UnblendReferenceIdeal.nD Cert.UnblendReferenceIdeal.τ).loc Cert.UnblendReferenceIdeal.main_arg3) = m ((c.tc : Thread Cert.UnblendReferenceIdeal.nD Cert.UnblendReferenceIdeal.τ).loc Cert.UnblendReferenceIdeal.main_arg3)
      ∧ r.2.mem ((c.tc : Thread Cert.UnblendReferenceIdeal.nD Cert.UnblendReferenceIdeal.τ).loc Cert.UnblendReferenceIdeal.main_arg4) = m ((c.tc : Thread Cert.UnblendReferenceIdeal.nD Cert.UnblendReferenceIdeal.τ).loc Cert.UnblendReferenceIdeal.main_arg4))
      ∧ r.2.sem = fun _ => 0)

def quiescent_ProjGradKernel [hProjGradKernel : Cert.ProjGradKernel.Facts] : Prop :=
  ∀ (m : (ℓ : Loc Cert.ProjGradKernel.nD Cert.ProjGradKernel.τ Cert.ProjGradKernel.sig) → Buf (Elt Bits) ℓ) (g : Dev Cert.ProjGradKernel.nD → PrngReg), Pre_ProjGradKernel m →
    θ_run (Cert.ProjGradKernel.defs (F := Bits)) (onTc (τ := Cert.ProjGradKernel.τ) (Cert.ProjGradKernel.main (F := Bits))) ⟨m, fun _ => 0, g⟩ (fun r => (∀ c : Dev Cert.ProjGradKernel.nD,
      r.2.mem ((c.tc : Thread Cert.ProjGradKernel.nD Cert.ProjGradKernel.τ).loc Cert.ProjGradKernel.main_arg0) = m ((c.tc : Thread Cert.ProjGradKernel.nD Cert.ProjGradKernel.τ).loc Cert.ProjGradKernel.main_arg0)
      ∧ r.2.mem ((c.tc : Thread Cert.ProjGradKernel.nD Cert.ProjGradKernel.τ).loc Cert.ProjGradKernel.main_arg1) = m ((c.tc : Thread Cert.ProjGradKernel.nD Cert.ProjGradKernel.τ).loc Cert.ProjGradKernel.main_arg1))
      ∧ r.2.sem = fun _ => 0)

def quiescent_ProjGradKernelIdeal [hProjGradKernelIdeal : Cert.ProjGradKernelIdeal.Facts] : Prop :=
  ∀ (m : (ℓ : Loc Cert.ProjGradKernelIdeal.nD Cert.ProjGradKernelIdeal.τ Cert.ProjGradKernelIdeal.sig) → Buf (Elt Ideal) ℓ) (g : Dev Cert.ProjGradKernelIdeal.nD → PrngReg), Pre_ProjGradKernelIdeal m →
    θ_run (Cert.ProjGradKernelIdeal.defs (F := Ideal)) (onTc (τ := Cert.ProjGradKernelIdeal.τ) (Cert.ProjGradKernelIdeal.main (F := Ideal))) ⟨m, fun _ => 0, g⟩ (fun r => (∀ c : Dev Cert.ProjGradKernelIdeal.nD,
      r.2.mem ((c.tc : Thread Cert.ProjGradKernelIdeal.nD Cert.ProjGradKernelIdeal.τ).loc Cert.ProjGradKernelIdeal.main_arg0) = m ((c.tc : Thread Cert.ProjGradKernelIdeal.nD Cert.ProjGradKernelIdeal.τ).loc Cert.ProjGradKernelIdeal.main_arg0)
      ∧ r.2.mem ((c.tc : Thread Cert.ProjGradKernelIdeal.nD Cert.ProjGradKernelIdeal.τ).loc Cert.ProjGradKernelIdeal.main_arg1) = m ((c.tc : Thread Cert.ProjGradKernelIdeal.nD Cert.ProjGradKernelIdeal.τ).loc Cert.ProjGradKernelIdeal.main_arg1))
      ∧ r.2.sem = fun _ => 0)

def quiescent_ProjGradReferenceIdeal [hProjGradReferenceIdeal : Cert.ProjGradReferenceIdeal.Facts] : Prop :=
  ∀ (m : (ℓ : Loc Cert.ProjGradReferenceIdeal.nD Cert.ProjGradReferenceIdeal.τ Cert.ProjGradReferenceIdeal.sig) → Buf (Elt Ideal) ℓ) (g : Dev Cert.ProjGradReferenceIdeal.nD → PrngReg), Pre_ProjGradReferenceIdeal m →
    θ_run (Cert.ProjGradReferenceIdeal.defs (F := Ideal)) (onTc (τ := Cert.ProjGradReferenceIdeal.τ) (Cert.ProjGradReferenceIdeal.main (F := Ideal))) ⟨m, fun _ => 0, g⟩ (fun r => (∀ c : Dev Cert.ProjGradReferenceIdeal.nD,
      r.2.mem ((c.tc : Thread Cert.ProjGradReferenceIdeal.nD Cert.ProjGradReferenceIdeal.τ).loc Cert.ProjGradReferenceIdeal.main_arg0) = m ((c.tc : Thread Cert.ProjGradReferenceIdeal.nD Cert.ProjGradReferenceIdeal.τ).loc Cert.ProjGradReferenceIdeal.main_arg0)
      ∧ r.2.mem ((c.tc : Thread Cert.ProjGradReferenceIdeal.nD Cert.ProjGradReferenceIdeal.τ).loc Cert.ProjGradReferenceIdeal.main_arg1) = m ((c.tc : Thread Cert.ProjGradReferenceIdeal.nD Cert.ProjGradReferenceIdeal.τ).loc Cert.ProjGradReferenceIdeal.main_arg1))
      ∧ r.2.sem = fun _ => 0)

def quiescent_ProjBackKernel [hProjBackKernel : Cert.ProjBackKernel.Facts] : Prop :=
  ∀ (m : (ℓ : Loc Cert.ProjBackKernel.nD Cert.ProjBackKernel.τ Cert.ProjBackKernel.sig) → Buf (Elt Bits) ℓ) (g : Dev Cert.ProjBackKernel.nD → PrngReg), Pre_ProjBackKernel m →
    θ_run (Cert.ProjBackKernel.defs (F := Bits)) (onTc (τ := Cert.ProjBackKernel.τ) (Cert.ProjBackKernel.main (F := Bits))) ⟨m, fun _ => 0, g⟩ (fun r => (∀ c : Dev Cert.ProjBackKernel.nD,
      r.2.mem ((c.tc : Thread Cert.ProjBackKernel.nD Cert.ProjBackKernel.τ).loc Cert.ProjBackKernel.main_arg0) = m ((c.tc : Thread Cert.ProjBackKernel.nD Cert.ProjBackKernel.τ).loc Cert.ProjBackKernel.main_arg0)
      ∧ r.2.mem ((c.tc : Thread Cert.ProjBackKernel.nD Cert.ProjBackKernel.τ).loc Cert.ProjBackKernel.main_arg1) = m ((c.tc : Thread Cert.ProjBackKernel.nD Cert.ProjBackKernel.τ).loc Cert.ProjBackKernel.main_arg1))
      ∧ r.2.sem = fun _ => 0)

def quiescent_ProjBackKernelIdeal [hProjBackKernelIdeal : Cert.ProjBackKernelIdeal.Facts] : Prop :=
  ∀ (m : (ℓ : Loc Cert.ProjBackKernelIdeal.nD Cert.ProjBackKernelIdeal.τ Cert.ProjBackKernelIdeal.sig) → Buf (Elt Ideal) ℓ) (g : Dev Cert.ProjBackKernelIdeal.nD → PrngReg), Pre_ProjBackKernelIdeal m →
    θ_run (Cert.ProjBackKernelIdeal.defs (F := Ideal)) (onTc (τ := Cert.ProjBackKernelIdeal.τ) (Cert.ProjBackKernelIdeal.main (F := Ideal))) ⟨m, fun _ => 0, g⟩ (fun r => (∀ c : Dev Cert.ProjBackKernelIdeal.nD,
      r.2.mem ((c.tc : Thread Cert.ProjBackKernelIdeal.nD Cert.ProjBackKernelIdeal.τ).loc Cert.ProjBackKernelIdeal.main_arg0) = m ((c.tc : Thread Cert.ProjBackKernelIdeal.nD Cert.ProjBackKernelIdeal.τ).loc Cert.ProjBackKernelIdeal.main_arg0)
      ∧ r.2.mem ((c.tc : Thread Cert.ProjBackKernelIdeal.nD Cert.ProjBackKernelIdeal.τ).loc Cert.ProjBackKernelIdeal.main_arg1) = m ((c.tc : Thread Cert.ProjBackKernelIdeal.nD Cert.ProjBackKernelIdeal.τ).loc Cert.ProjBackKernelIdeal.main_arg1))
      ∧ r.2.sem = fun _ => 0)

def quiescent_ProjBackReferenceIdeal [hProjBackReferenceIdeal : Cert.ProjBackReferenceIdeal.Facts] : Prop :=
  ∀ (m : (ℓ : Loc Cert.ProjBackReferenceIdeal.nD Cert.ProjBackReferenceIdeal.τ Cert.ProjBackReferenceIdeal.sig) → Buf (Elt Ideal) ℓ) (g : Dev Cert.ProjBackReferenceIdeal.nD → PrngReg), Pre_ProjBackReferenceIdeal m →
    θ_run (Cert.ProjBackReferenceIdeal.defs (F := Ideal)) (onTc (τ := Cert.ProjBackReferenceIdeal.τ) (Cert.ProjBackReferenceIdeal.main (F := Ideal))) ⟨m, fun _ => 0, g⟩ (fun r => (∀ c : Dev Cert.ProjBackReferenceIdeal.nD,
      r.2.mem ((c.tc : Thread Cert.ProjBackReferenceIdeal.nD Cert.ProjBackReferenceIdeal.τ).loc Cert.ProjBackReferenceIdeal.main_arg0) = m ((c.tc : Thread Cert.ProjBackReferenceIdeal.nD Cert.ProjBackReferenceIdeal.τ).loc Cert.ProjBackReferenceIdeal.main_arg0)
      ∧ r.2.mem ((c.tc : Thread Cert.ProjBackReferenceIdeal.nD Cert.ProjBackReferenceIdeal.τ).loc Cert.ProjBackReferenceIdeal.main_arg1) = m ((c.tc : Thread Cert.ProjBackReferenceIdeal.nD Cert.ProjBackReferenceIdeal.τ).loc Cert.ProjBackReferenceIdeal.main_arg1))
      ∧ r.2.sem = fun _ => 0)

def quiescent_FirstNormKernel [hFirstNormKernel : Cert.FirstNormKernel.Facts] : Prop :=
  ∀ (m : (ℓ : Loc Cert.FirstNormKernel.nD Cert.FirstNormKernel.τ Cert.FirstNormKernel.sig) → Buf (Elt Bits) ℓ) (g : Dev Cert.FirstNormKernel.nD → PrngReg), Pre_FirstNormKernel m →
    θ_run (Cert.FirstNormKernel.defs (F := Bits)) (onTc (τ := Cert.FirstNormKernel.τ) (Cert.FirstNormKernel.main (F := Bits))) ⟨m, fun _ => 0, g⟩ (fun r => (∀ c : Dev Cert.FirstNormKernel.nD,
      r.2.mem ((c.tc : Thread Cert.FirstNormKernel.nD Cert.FirstNormKernel.τ).loc Cert.FirstNormKernel.main_arg0) = m ((c.tc : Thread Cert.FirstNormKernel.nD Cert.FirstNormKernel.τ).loc Cert.FirstNormKernel.main_arg0)
      ∧ r.2.mem ((c.tc : Thread Cert.FirstNormKernel.nD Cert.FirstNormKernel.τ).loc Cert.FirstNormKernel.main_arg1) = m ((c.tc : Thread Cert.FirstNormKernel.nD Cert.FirstNormKernel.τ).loc Cert.FirstNormKernel.main_arg1))
      ∧ r.2.sem = fun _ => 0)

def quiescent_FirstNormKernelIdeal [hFirstNormKernelIdeal : Cert.FirstNormKernelIdeal.Facts] : Prop :=
  ∀ (m : (ℓ : Loc Cert.FirstNormKernelIdeal.nD Cert.FirstNormKernelIdeal.τ Cert.FirstNormKernelIdeal.sig) → Buf (Elt Ideal) ℓ) (g : Dev Cert.FirstNormKernelIdeal.nD → PrngReg), Pre_FirstNormKernelIdeal m →
    θ_run (Cert.FirstNormKernelIdeal.defs (F := Ideal)) (onTc (τ := Cert.FirstNormKernelIdeal.τ) (Cert.FirstNormKernelIdeal.main (F := Ideal))) ⟨m, fun _ => 0, g⟩ (fun r => (∀ c : Dev Cert.FirstNormKernelIdeal.nD,
      r.2.mem ((c.tc : Thread Cert.FirstNormKernelIdeal.nD Cert.FirstNormKernelIdeal.τ).loc Cert.FirstNormKernelIdeal.main_arg0) = m ((c.tc : Thread Cert.FirstNormKernelIdeal.nD Cert.FirstNormKernelIdeal.τ).loc Cert.FirstNormKernelIdeal.main_arg0)
      ∧ r.2.mem ((c.tc : Thread Cert.FirstNormKernelIdeal.nD Cert.FirstNormKernelIdeal.τ).loc Cert.FirstNormKernelIdeal.main_arg1) = m ((c.tc : Thread Cert.FirstNormKernelIdeal.nD Cert.FirstNormKernelIdeal.τ).loc Cert.FirstNormKernelIdeal.main_arg1))
      ∧ r.2.sem = fun _ => 0)

def quiescent_FirstNormReferenceIdeal [hFirstNormReferenceIdeal : Cert.FirstNormReferenceIdeal.Facts] : Prop :=
  ∀ (m : (ℓ : Loc Cert.FirstNormReferenceIdeal.nD Cert.FirstNormReferenceIdeal.τ Cert.FirstNormReferenceIdeal.sig) → Buf (Elt Ideal) ℓ) (g : Dev Cert.FirstNormReferenceIdeal.nD → PrngReg), Pre_FirstNormReferenceIdeal m →
    θ_run (Cert.FirstNormReferenceIdeal.defs (F := Ideal)) (onTc (τ := Cert.FirstNormReferenceIdeal.τ) (Cert.FirstNormReferenceIdeal.main (F := Ideal))) ⟨m, fun _ => 0, g⟩ (fun r => (∀ c : Dev Cert.FirstNormReferenceIdeal.nD,
      r.2.mem ((c.tc : Thread Cert.FirstNormReferenceIdeal.nD Cert.FirstNormReferenceIdeal.τ).loc Cert.FirstNormReferenceIdeal.main_arg0) = m ((c.tc : Thread Cert.FirstNormReferenceIdeal.nD Cert.FirstNormReferenceIdeal.τ).loc Cert.FirstNormReferenceIdeal.main_arg0)
      ∧ r.2.mem ((c.tc : Thread Cert.FirstNormReferenceIdeal.nD Cert.FirstNormReferenceIdeal.τ).loc Cert.FirstNormReferenceIdeal.main_arg1) = m ((c.tc : Thread Cert.FirstNormReferenceIdeal.nD Cert.FirstNormReferenceIdeal.τ).loc Cert.FirstNormReferenceIdeal.main_arg1))
      ∧ r.2.sem = fun _ => 0)

def quiescent_LastKernel [hLastKernel : Cert.LastKernel.Facts] : Prop :=
  ∀ (m : (ℓ : Loc Cert.LastKernel.nD Cert.LastKernel.τ Cert.LastKernel.sig) → Buf (Elt Bits) ℓ) (g : Dev Cert.LastKernel.nD → PrngReg), Pre_LastKernel m →
    θ_run (Cert.LastKernel.defs (F := Bits)) (onTc (τ := Cert.LastKernel.τ) (Cert.LastKernel.main (F := Bits))) ⟨m, fun _ => 0, g⟩ (fun r => (∀ c : Dev Cert.LastKernel.nD,
      r.2.mem ((c.tc : Thread Cert.LastKernel.nD Cert.LastKernel.τ).loc Cert.LastKernel.main_arg0) = m ((c.tc : Thread Cert.LastKernel.nD Cert.LastKernel.τ).loc Cert.LastKernel.main_arg0)
      ∧ r.2.mem ((c.tc : Thread Cert.LastKernel.nD Cert.LastKernel.τ).loc Cert.LastKernel.main_arg1) = m ((c.tc : Thread Cert.LastKernel.nD Cert.LastKernel.τ).loc Cert.LastKernel.main_arg1)
      ∧ r.2.mem ((c.tc : Thread Cert.LastKernel.nD Cert.LastKernel.τ).loc Cert.LastKernel.main_arg2) = m ((c.tc : Thread Cert.LastKernel.nD Cert.LastKernel.τ).loc Cert.LastKernel.main_arg2))
      ∧ r.2.sem = fun _ => 0)

def quiescent_LastKernelIdeal [hLastKernelIdeal : Cert.LastKernelIdeal.Facts] : Prop :=
  ∀ (m : (ℓ : Loc Cert.LastKernelIdeal.nD Cert.LastKernelIdeal.τ Cert.LastKernelIdeal.sig) → Buf (Elt Ideal) ℓ) (g : Dev Cert.LastKernelIdeal.nD → PrngReg), Pre_LastKernelIdeal m →
    θ_run (Cert.LastKernelIdeal.defs (F := Ideal)) (onTc (τ := Cert.LastKernelIdeal.τ) (Cert.LastKernelIdeal.main (F := Ideal))) ⟨m, fun _ => 0, g⟩ (fun r => (∀ c : Dev Cert.LastKernelIdeal.nD,
      r.2.mem ((c.tc : Thread Cert.LastKernelIdeal.nD Cert.LastKernelIdeal.τ).loc Cert.LastKernelIdeal.main_arg0) = m ((c.tc : Thread Cert.LastKernelIdeal.nD Cert.LastKernelIdeal.τ).loc Cert.LastKernelIdeal.main_arg0)
      ∧ r.2.mem ((c.tc : Thread Cert.LastKernelIdeal.nD Cert.LastKernelIdeal.τ).loc Cert.LastKernelIdeal.main_arg1) = m ((c.tc : Thread Cert.LastKernelIdeal.nD Cert.LastKernelIdeal.τ).loc Cert.LastKernelIdeal.main_arg1)
      ∧ r.2.mem ((c.tc : Thread Cert.LastKernelIdeal.nD Cert.LastKernelIdeal.τ).loc Cert.LastKernelIdeal.main_arg2) = m ((c.tc : Thread Cert.LastKernelIdeal.nD Cert.LastKernelIdeal.τ).loc Cert.LastKernelIdeal.main_arg2))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2))
      ∧ r.2.sem = fun _ => 0)

def quiescent_InnerKernel [hInnerKernel : Cert.InnerKernel.Facts] : Prop :=
  ∀ (m : (ℓ : Loc Cert.InnerKernel.nD Cert.InnerKernel.τ Cert.InnerKernel.sig) → Buf (Elt Bits) ℓ) (g : Dev Cert.InnerKernel.nD → PrngReg), Pre_InnerKernel m →
    θ_run (Cert.InnerKernel.defs (F := Bits)) (onTc (τ := Cert.InnerKernel.τ) (Cert.InnerKernel.main (F := Bits))) ⟨m, fun _ => 0, g⟩ (fun r => (∀ c : Dev Cert.InnerKernel.nD,
      r.2.mem ((c.tc : Thread Cert.InnerKernel.nD Cert.InnerKernel.τ).loc Cert.InnerKernel.main_arg0) = m ((c.tc : Thread Cert.InnerKernel.nD Cert.InnerKernel.τ).loc Cert.InnerKernel.main_arg0)
      ∧ r.2.mem ((c.tc : Thread Cert.InnerKernel.nD Cert.InnerKernel.τ).loc Cert.InnerKernel.main_arg1) = m ((c.tc : Thread Cert.InnerKernel.nD Cert.InnerKernel.τ).loc Cert.InnerKernel.main_arg1))
      ∧ r.2.sem = fun _ => 0)

def quiescent_InnerKernelIdeal [hInnerKernelIdeal : Cert.InnerKernelIdeal.Facts] : Prop :=
  ∀ (m : (ℓ : Loc Cert.InnerKernelIdeal.nD Cert.InnerKernelIdeal.τ Cert.InnerKernelIdeal.sig) → Buf (Elt Ideal) ℓ) (g : Dev Cert.InnerKernelIdeal.nD → PrngReg), Pre_InnerKernelIdeal m →
    θ_run (Cert.InnerKernelIdeal.defs (F := Ideal)) (onTc (τ := Cert.InnerKernelIdeal.τ) (Cert.InnerKernelIdeal.main (F := Ideal))) ⟨m, fun _ => 0, g⟩ (fun r => (∀ c : Dev Cert.InnerKernelIdeal.nD,
      r.2.mem ((c.tc : Thread Cert.InnerKernelIdeal.nD Cert.InnerKernelIdeal.τ).loc Cert.InnerKernelIdeal.main_arg0) = m ((c.tc : Thread Cert.InnerKernelIdeal.nD Cert.InnerKernelIdeal.τ).loc Cert.InnerKernelIdeal.main_arg0)
      ∧ r.2.mem ((c.tc : Thread Cert.InnerKernelIdeal.nD Cert.InnerKernelIdeal.τ).loc Cert.InnerKernelIdeal.main_arg1) = m ((c.tc : Thread Cert.InnerKernelIdeal.nD Cert.InnerKernelIdeal.τ).loc Cert.InnerKernelIdeal.main_arg1))
      ∧ r.2.sem = fun _ => 0)

def quiescent_InnerReferenceIdeal [hInnerReferenceIdeal : Cert.InnerReferenceIdeal.Facts] : Prop :=
  ∀ (m : (ℓ : Loc Cert.InnerReferenceIdeal.nD Cert.InnerReferenceIdeal.τ Cert.InnerReferenceIdeal.sig) → Buf (Elt Ideal) ℓ) (g : Dev Cert.InnerReferenceIdeal.nD → PrngReg), Pre_InnerReferenceIdeal m →
    θ_run (Cert.InnerReferenceIdeal.defs (F := Ideal)) (onTc (τ := Cert.InnerReferenceIdeal.τ) (Cert.InnerReferenceIdeal.main (F := Ideal))) ⟨m, fun _ => 0, g⟩ (fun r => (∀ c : Dev Cert.InnerReferenceIdeal.nD,
      r.2.mem ((c.tc : Thread Cert.InnerReferenceIdeal.nD Cert.InnerReferenceIdeal.τ).loc Cert.InnerReferenceIdeal.main_arg0) = m ((c.tc : Thread Cert.InnerReferenceIdeal.nD Cert.InnerReferenceIdeal.τ).loc Cert.InnerReferenceIdeal.main_arg0)
      ∧ r.2.mem ((c.tc : Thread Cert.InnerReferenceIdeal.nD Cert.InnerReferenceIdeal.τ).loc Cert.InnerReferenceIdeal.main_arg1) = m ((c.tc : Thread Cert.InnerReferenceIdeal.nD Cert.InnerReferenceIdeal.τ).loc Cert.InnerReferenceIdeal.main_arg1))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossKernelIdeal_pre_loss_finite [hLossKernelIdeal : Cert.LossKernelIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_loss_finite m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_LossReferenceIdeal_pre_loss_finite [hLossReferenceIdeal : Cert.LossReferenceIdeal.Facts] [hPre_loss_finite : Cert.Pre_loss_finite.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_loss_finite m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)) (v2 : (c : Dev Cert.KernelIdeal.nD) → Buf (Elt Ideal) ((c.tc : Thread Cert.KernelIdeal.nD Cert.KernelIdeal.τ).loc Cert.KernelIdeal.main_v37_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_v37_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_NormKernel_NormKernelIdeal : Prop :=
  True

def algebraic_NormKernelIdeal_NormReferenceIdeal_pre_norm_finite [hNormKernelIdeal : Cert.NormKernelIdeal.Facts] [hNormReferenceIdeal : Cert.NormReferenceIdeal.Facts] [hPre_norm_finite : Cert.Pre_norm_finite.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal_norm_finite m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)
      ∧ m' ((c.tc : Thread Cert.NormReferenceIdeal.nD Cert.NormReferenceIdeal.τ).loc Cert.NormReferenceIdeal.main_arg3) = m ((c.tc : Thread Cert.NormKernelIdeal.nD Cert.NormKernelIdeal.τ).loc Cert.NormKernelIdeal.main_arg3)
      ∧ m' ((c.tc : Thread Cert.NormReferenceIdeal.nD Cert.NormReferenceIdeal.τ).loc Cert.NormReferenceIdeal.main_arg4) = m ((c.tc : Thread Cert.NormKernelIdeal.nD Cert.NormKernelIdeal.τ).loc Cert.NormKernelIdeal.main_arg4)
      ∧ m' ((c.tc : Thread Cert.NormReferenceIdeal.nD Cert.NormReferenceIdeal.τ).loc Cert.NormReferenceIdeal.main_arg5) = m ((c.tc : Thread Cert.NormKernelIdeal.nD Cert.NormKernelIdeal.τ).loc Cert.NormKernelIdeal.main_arg5)
      ∧ m' ((c.tc : Thread Cert.NormReferenceIdeal.nD Cert.NormReferenceIdeal.τ).loc Cert.NormReferenceIdeal.main_arg6) = m ((c.tc : Thread Cert.NormKernelIdeal.nD Cert.NormKernelIdeal.τ).loc Cert.NormKernelIdeal.main_arg6)) →
    ∃ (v0 : (c : Dev Cert.NormKernelIdeal.nD) → Buf (Elt Ideal) ((c.tc : Thread Cert.NormKernelIdeal.nD Cert.NormKernelIdeal.τ).loc Cert.NormKernelIdeal.main_v7_0)) (v1 : (c : Dev Cert.NormKernelIdeal.nD) → Buf (Elt Ideal) ((c.tc : Thread Cert.NormKernelIdeal.nD Cert.NormKernelIdeal.τ).loc Cert.NormKernelIdeal.main_v7_1)) (v2 : (c : Dev Cert.NormKernelIdeal.nD) → Buf (Elt Ideal) ((c.tc : Thread Cert.NormKernelIdeal.nD Cert.NormKernelIdeal.τ).loc Cert.NormKernelIdeal.main_v7_2)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v7_0) = v0 c
          ∧ r.2.mem ((c.tc : Thread Cert.NormKernelIdeal.nD Cert.NormKernelIdeal.τ).loc Cert.NormKernelIdeal.main_v7_1) = v1 c
          ∧ r.2.mem ((c.tc : Thread Cert.NormKernelIdeal.nD Cert.NormKernelIdeal.τ).loc Cert.NormKernelIdeal.main_v7_2) = v2 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
          ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
          ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5)
          ∧ r.2.mem ((c.tc : Thread Cert.NormKernelIdeal.nD Cert.NormKernelIdeal.τ).loc Cert.NormKernelIdeal.main_arg6) = m ((c.tc : Thread Cert.NormKernelIdeal.nD Cert.NormKernelIdeal.τ).loc Cert.NormKernelIdeal.main_arg6))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v41) = v0 c
          ∧ r.2.mem ((c.tc : Thread Cert.NormReferenceIdeal.nD Cert.NormReferenceIdeal.τ).loc Cert.NormReferenceIdeal.main_v43) = v1 c
          ∧ r.2.mem ((c.tc : Thread Cert.NormReferenceIdeal.nD Cert.NormReferenceIdeal.τ).loc Cert.NormReferenceIdeal.main_v44) = v2 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4)
          ∧ r.2.mem ((c.tc : Thread Cert.NormReferenceIdeal.nD Cert.NormReferenceIdeal.τ).loc Cert.NormReferenceIdeal.main_arg5) = m' ((c.tc : Thread Cert.NormReferenceIdeal.nD Cert.NormReferenceIdeal.τ).loc Cert.NormReferenceIdeal.main_arg5)
          ∧ r.2.mem ((c.tc : Thread Cert.NormReferenceIdeal.nD Cert.NormReferenceIdeal.τ).loc Cert.NormReferenceIdeal.main_arg6) = m' ((c.tc : Thread Cert.NormReferenceIdeal.nD Cert.NormReferenceIdeal.τ).loc Cert.NormReferenceIdeal.main_arg6))

def preserves_GluKernel_GluKernelIdeal : Prop :=
  True

def algebraic_GluKernelIdeal_GluReferenceIdeal_pre_glu_finite [hGluKernelIdeal : Cert.GluKernelIdeal.Facts] [hGluReferenceIdeal : Cert.GluReferenceIdeal.Facts] [hPre_glu_finite : Cert.Pre_glu_finite.Facts] : Prop :=
  ∀ (m : (ℓ : Loc Cert.GluKernelIdeal.nD Cert.GluKernelIdeal.τ Cert.GluKernelIdeal.sig) → Buf (Elt Ideal) ℓ) (g : Dev Cert.GluKernelIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluKernelIdeal_glu_finite m →
    (∀ c : Dev Cert.GluKernelIdeal.nD,
      m' ((c.tc : Thread Cert.GluReferenceIdeal.nD Cert.GluReferenceIdeal.τ).loc Cert.GluReferenceIdeal.main_arg0) = m ((c.tc : Thread Cert.GluKernelIdeal.nD Cert.GluKernelIdeal.τ).loc Cert.GluKernelIdeal.main_arg0)
      ∧ m' ((c.tc : Thread Cert.GluReferenceIdeal.nD Cert.GluReferenceIdeal.τ).loc Cert.GluReferenceIdeal.main_arg1) = m ((c.tc : Thread Cert.GluKernelIdeal.nD Cert.GluKernelIdeal.τ).loc Cert.GluKernelIdeal.main_arg1)
      ∧ m' ((c.tc : Thread Cert.GluReferenceIdeal.nD Cert.GluReferenceIdeal.τ).loc Cert.GluReferenceIdeal.main_arg2) = m ((c.tc : Thread Cert.GluKernelIdeal.nD Cert.GluKernelIdeal.τ).loc Cert.GluKernelIdeal.main_arg2)
      ∧ m' ((c.tc : Thread Cert.GluReferenceIdeal.nD Cert.GluReferenceIdeal.τ).loc Cert.GluReferenceIdeal.main_arg3) = m ((c.tc : Thread Cert.GluKernelIdeal.nD Cert.GluKernelIdeal.τ).loc Cert.GluKernelIdeal.main_arg3)) →
    ∃ (v0 : (c : Dev Cert.GluKernelIdeal.nD) → Buf (Elt Ideal) ((c.tc : Thread Cert.GluKernelIdeal.nD Cert.GluKernelIdeal.τ).loc Cert.GluKernelIdeal.main_v6_0)) (v1 : (c : Dev Cert.GluKernelIdeal.nD) → Buf (Elt Ideal) ((c.tc : Thread Cert.GluKernelIdeal.nD Cert.GluKernelIdeal.τ).loc Cert.GluKernelIdeal.main_v6_1)),
      θ_run (Cert.GluKernelIdeal.defs (F := Ideal)) (onTc (τ := Cert.GluKernelIdeal.τ) (Cert.GluKernelIdeal.main (F := Ideal))) ⟨m, fun _ => 0, g⟩ (fun r => ∀ c : Dev Cert.GluKernelIdeal.nD,
          r.2.mem ((c.tc : Thread Cert.GluKernelIdeal.nD Cert.GluKernelIdeal.τ).loc Cert.GluKernelIdeal.main_v6_0) = v0 c
          ∧ r.2.mem ((c.tc : Thread Cert.GluKernelIdeal.nD Cert.GluKernelIdeal.τ).loc Cert.GluKernelIdeal.main_v6_1) = v1 c
          ∧ r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
          ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
          ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2)
          ∧ r.2.mem ((c.tc : Thread Cert.GluKernelIdeal.nD Cert.GluKernelIdeal.τ).loc Cert.GluKernelIdeal.main_arg3) = m ((c.tc : Thread Cert.GluKernelIdeal.nD Cert.GluKernelIdeal.τ).loc Cert.GluKernelIdeal.main_arg3))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v11) = v0 c
          ∧ r.2.mem ((c.tc : Thread Cert.GluReferenceIdeal.nD Cert.GluReferenceIdeal.τ).loc Cert.GluReferenceIdeal.main_v12) = v1 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2)
          ∧ r.2.mem ((c.tc : Thread Cert.GluReferenceIdeal.nD Cert.GluReferenceIdeal.τ).loc Cert.GluReferenceIdeal.main_arg3) = m' ((c.tc : Thread Cert.GluReferenceIdeal.nD Cert.GluReferenceIdeal.τ).loc Cert.GluReferenceIdeal.main_arg3))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)) →
    ∃ (v0 : (c : Dev Cert.DownKernelIdeal.nD) → Buf (Elt Ideal) ((c.tc : Thread Cert.DownKernelIdeal.nD Cert.DownKernelIdeal.τ).loc Cert.DownKernelIdeal.main_v2)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v2) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v8) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)) →
    ∃ (v0 : (c : Dev Cert.GateKernelIdeal.nD) → Buf (Elt Ideal) ((c.tc : Thread Cert.GateKernelIdeal.nD Cert.GateKernelIdeal.τ).loc Cert.GateKernelIdeal.main_v2)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v2) = v0 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v5) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1))

def preserves_HiddenKernel_HiddenKernelIdeal : Prop :=
  True

def algebraic_HiddenKernelIdeal_HiddenReferenceIdeal_pre_hidden_finite [hHiddenKernelIdeal : Cert.HiddenKernelIdeal.Facts] [hHiddenReferenceIdeal : Cert.HiddenReferenceIdeal.Facts] [hPre_hidden_finite : Cert.Pre_hidden_finite.Facts] : Prop :=
  ∀ (m : (ℓ : Loc Cert.HiddenKernelIdeal.nD Cert.HiddenKernelIdeal.τ Cert.HiddenKernelIdeal.sig) → Buf (Elt Ideal) ℓ) (g : Dev Cert.HiddenKernelIdeal.nD → PrngReg)
    (m' : (ℓ : Loc Cert.HiddenReferenceIdeal.nD Cert.HiddenReferenceIdeal.τ Cert.HiddenReferenceIdeal.sig) → Buf (Elt Ideal) ℓ) (g' : Dev Cert.HiddenReferenceIdeal.nD → PrngReg), Pre_HiddenKernelIdeal_hidden_finite m →
    (∀ c : Dev Cert.HiddenKernelIdeal.nD,
      m' ((c.tc : Thread Cert.HiddenReferenceIdeal.nD Cert.HiddenReferenceIdeal.τ).loc Cert.HiddenReferenceIdeal.main_arg0) = m ((c.tc : Thread Cert.HiddenKernelIdeal.nD Cert.HiddenKernelIdeal.τ).loc Cert.HiddenKernelIdeal.main_arg0)
      ∧ m' ((c.tc : Thread Cert.HiddenReferenceIdeal.nD Cert.HiddenReferenceIdeal.τ).loc Cert.HiddenReferenceIdeal.main_arg1) = m ((c.tc : Thread Cert.HiddenKernelIdeal.nD Cert.HiddenKernelIdeal.τ).loc Cert.HiddenKernelIdeal.main_arg1)
      ∧ m' ((c.tc : Thread Cert.HiddenReferenceIdeal.nD Cert.HiddenReferenceIdeal.τ).loc Cert.HiddenReferenceIdeal.main_arg2) = m ((c.tc : Thread Cert.HiddenKernelIdeal.nD Cert.HiddenKernelIdeal.τ).loc Cert.HiddenKernelIdeal.main_arg2)) →
    ∃ (v0 : (c : Dev Cert.HiddenKernelIdeal.nD) → Buf (Elt Ideal) ((c.tc : Thread Cert.HiddenKernelIdeal.nD Cert.HiddenKernelIdeal.τ).loc Cert.HiddenKernelIdeal.main_v5_0)) (v1 : (c : Dev Cert.HiddenKernelIdeal.nD) → Buf (Elt Ideal) ((c.tc : Thread Cert.HiddenKernelIdeal.nD Cert.HiddenKernelIdeal.τ).loc Cert.HiddenKernelIdeal.main_v5_1)) (v2 : (c : Dev Cert.HiddenKernelIdeal.nD) → Buf (Elt Ideal) ((c.tc : Thread Cert.HiddenKernelIdeal.nD Cert.HiddenKernelIdeal.τ).loc Cert.HiddenKernelIdeal.main_v5_2)),
      θ_run (Cert.HiddenKernelIdeal.defs (F := Ideal)) (onTc (τ := Cert.HiddenKernelIdeal.τ) (Cert.HiddenKernelIdeal.main (F := Ideal))) ⟨m, fun _ => 0, g⟩ (fun r => ∀ c : Dev Cert.HiddenKernelIdeal.nD,
          r.2.mem ((c.tc : Thread Cert.HiddenKernelIdeal.nD Cert.HiddenKernelIdeal.τ).loc Cert.HiddenKernelIdeal.main_v5_0) = v0 c
          ∧ r.2.mem ((c.tc : Thread Cert.HiddenKernelIdeal.nD Cert.HiddenKernelIdeal.τ).loc Cert.HiddenKernelIdeal.main_v5_1) = v1 c
          ∧ r.2.mem ((c.tc : Thread Cert.HiddenKernelIdeal.nD Cert.HiddenKernelIdeal.τ).loc Cert.HiddenKernelIdeal.main_v5_2) = v2 c
          ∧ r.2.mem ((c.tc : Thread Cert.HiddenKernelIdeal.nD Cert.HiddenKernelIdeal.τ).loc Cert.HiddenKernelIdeal.main_arg0) = m ((c.tc : Thread Cert.HiddenKernelIdeal.nD Cert.HiddenKernelIdeal.τ).loc Cert.HiddenKernelIdeal.main_arg0)
          ∧ r.2.mem ((c.tc : Thread Cert.HiddenKernelIdeal.nD Cert.HiddenKernelIdeal.τ).loc Cert.HiddenKernelIdeal.main_arg1) = m ((c.tc : Thread Cert.HiddenKernelIdeal.nD Cert.HiddenKernelIdeal.τ).loc Cert.HiddenKernelIdeal.main_arg1)
          ∧ r.2.mem ((c.tc : Thread Cert.HiddenKernelIdeal.nD Cert.HiddenKernelIdeal.τ).loc Cert.HiddenKernelIdeal.main_arg2) = m ((c.tc : Thread Cert.HiddenKernelIdeal.nD Cert.HiddenKernelIdeal.τ).loc Cert.HiddenKernelIdeal.main_arg2))
      ∧ θ_run (Cert.HiddenReferenceIdeal.defs (F := Ideal)) (onTc (τ := Cert.HiddenReferenceIdeal.τ) (Cert.HiddenReferenceIdeal.main (F := Ideal))) ⟨m', fun _ => 0, g'⟩ (fun r => ∀ c : Dev Cert.HiddenReferenceIdeal.nD,
          r.2.mem ((c.tc : Thread Cert.HiddenReferenceIdeal.nD Cert.HiddenReferenceIdeal.τ).loc Cert.HiddenReferenceIdeal.main_v4) = v0 c
          ∧ r.2.mem ((c.tc : Thread Cert.HiddenReferenceIdeal.nD Cert.HiddenReferenceIdeal.τ).loc Cert.HiddenReferenceIdeal.main_v5) = v1 c
          ∧ r.2.mem ((c.tc : Thread Cert.HiddenReferenceIdeal.nD Cert.HiddenReferenceIdeal.τ).loc Cert.HiddenReferenceIdeal.main_v7) = v2 c
          ∧ r.2.mem ((c.tc : Thread Cert.HiddenReferenceIdeal.nD Cert.HiddenReferenceIdeal.τ).loc Cert.HiddenReferenceIdeal.main_arg0) = m' ((c.tc : Thread Cert.HiddenReferenceIdeal.nD Cert.HiddenReferenceIdeal.τ).loc Cert.HiddenReferenceIdeal.main_arg0)
          ∧ r.2.mem ((c.tc : Thread Cert.HiddenReferenceIdeal.nD Cert.HiddenReferenceIdeal.τ).loc Cert.HiddenReferenceIdeal.main_arg1) = m' ((c.tc : Thread Cert.HiddenReferenceIdeal.nD Cert.HiddenReferenceIdeal.τ).loc Cert.HiddenReferenceIdeal.main_arg1)
          ∧ r.2.mem ((c.tc : Thread Cert.HiddenReferenceIdeal.nD Cert.HiddenReferenceIdeal.τ).loc Cert.HiddenReferenceIdeal.main_arg2) = m' ((c.tc : Thread Cert.HiddenReferenceIdeal.nD Cert.HiddenReferenceIdeal.τ).loc Cert.HiddenReferenceIdeal.main_arg2))

def preserves_MixKernel_MixKernelIdeal : Prop :=
  True

def algebraic_MixKernelIdeal_MixReferenceIdeal_pre_mix_finite [hMixKernelIdeal : Cert.MixKernelIdeal.Facts] [hMixReferenceIdeal : Cert.MixReferenceIdeal.Facts] [hPre_mix_finite : Cert.Pre_mix_finite.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal_mix_finite m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)) →
    ∃ (v0 : (c : Dev Cert.MixKernelIdeal.nD) → Buf (Elt Ideal) ((c.tc : Thread Cert.MixKernelIdeal.nD Cert.MixKernelIdeal.τ).loc Cert.MixKernelIdeal.main_v4_0)) (v1 : (c : Dev Cert.MixKernelIdeal.nD) → Buf (Elt Ideal) ((c.tc : Thread Cert.MixKernelIdeal.nD Cert.MixKernelIdeal.τ).loc Cert.MixKernelIdeal.main_v4_1)) (v2 : (c : Dev Cert.MixKernelIdeal.nD) → Buf (Elt Ideal) ((c.tc : Thread Cert.MixKernelIdeal.nD Cert.MixKernelIdeal.τ).loc Cert.MixKernelIdeal.main_v4_2)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v4_0) = v0 c
          ∧ r.2.mem ((c.tc : Thread Cert.MixKernelIdeal.nD Cert.MixKernelIdeal.τ).loc Cert.MixKernelIdeal.main_v4_1) = v1 c
          ∧ r.2.mem ((c.tc : Thread Cert.MixKernelIdeal.nD Cert.MixKernelIdeal.τ).loc Cert.MixKernelIdeal.main_v4_2) = v2 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v38) = v0 c
          ∧ r.2.mem ((c.tc : Thread Cert.MixReferenceIdeal.nD Cert.MixReferenceIdeal.τ).loc Cert.MixReferenceIdeal.main_v40) = v1 c
          ∧ r.2.mem ((c.tc : Thread Cert.MixReferenceIdeal.nD Cert.MixReferenceIdeal.τ).loc Cert.MixReferenceIdeal.main_v41) = v2 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4))

def preserves_InGradKernel_InGradKernelIdeal : Prop :=
  True

def algebraic_InGradKernelIdeal_InGradReferenceIdeal [hInGradKernelIdeal : Cert.InGradKernelIdeal.Facts] [hInGradReferenceIdeal : Cert.InGradReferenceIdeal.Facts] : Prop :=
  ∀ (m : (ℓ : Loc Cert.InGradKernelIdeal.nD Cert.InGradKernelIdeal.τ Cert.InGradKernelIdeal.sig) → Buf (Elt Ideal) ℓ) (g : Dev Cert.InGradKernelIdeal.nD → PrngReg)
    (m' : (ℓ : Loc Cert.InGradReferenceIdeal.nD Cert.InGradReferenceIdeal.τ Cert.InGradReferenceIdeal.sig) → Buf (Elt Ideal) ℓ) (g' : Dev Cert.InGradReferenceIdeal.nD → PrngReg), Pre_InGradKernelIdeal m →
    (∀ c : Dev Cert.InGradKernelIdeal.nD,
      m' ((c.tc : Thread Cert.InGradReferenceIdeal.nD Cert.InGradReferenceIdeal.τ).loc Cert.InGradReferenceIdeal.main_arg0) = m ((c.tc : Thread Cert.InGradKernelIdeal.nD Cert.InGradKernelIdeal.τ).loc Cert.InGradKernelIdeal.main_arg0)
      ∧ m' ((c.tc : Thread Cert.InGradReferenceIdeal.nD Cert.InGradReferenceIdeal.τ).loc Cert.InGradReferenceIdeal.main_arg1) = m ((c.tc : Thread Cert.InGradKernelIdeal.nD Cert.InGradKernelIdeal.τ).loc Cert.InGradKernelIdeal.main_arg1)) →
    ∃ (v0 : (c : Dev Cert.InGradKernelIdeal.nD) → Buf (Elt Ideal) ((c.tc : Thread Cert.InGradKernelIdeal.nD Cert.InGradKernelIdeal.τ).loc Cert.InGradKernelIdeal.main_v2)),
      θ_run (Cert.InGradKernelIdeal.defs (F := Ideal)) (onTc (τ := Cert.InGradKernelIdeal.τ) (Cert.InGradKernelIdeal.main (F := Ideal))) ⟨m, fun _ => 0, g⟩ (fun r => ∀ c : Dev Cert.InGradKernelIdeal.nD,
          r.2.mem ((c.tc : Thread Cert.InGradKernelIdeal.nD Cert.InGradKernelIdeal.τ).loc Cert.InGradKernelIdeal.main_v2) = v0 c
          ∧ r.2.mem ((c.tc : Thread Cert.InGradKernelIdeal.nD Cert.InGradKernelIdeal.τ).loc Cert.InGradKernelIdeal.main_arg0) = m ((c.tc : Thread Cert.InGradKernelIdeal.nD Cert.InGradKernelIdeal.τ).loc Cert.InGradKernelIdeal.main_arg0)
          ∧ r.2.mem ((c.tc : Thread Cert.InGradKernelIdeal.nD Cert.InGradKernelIdeal.τ).loc Cert.InGradKernelIdeal.main_arg1) = m ((c.tc : Thread Cert.InGradKernelIdeal.nD Cert.InGradKernelIdeal.τ).loc Cert.InGradKernelIdeal.main_arg1))
      ∧ θ_run (Cert.InGradReferenceIdeal.defs (F := Ideal)) (onTc (τ := Cert.InGradReferenceIdeal.τ) (Cert.InGradReferenceIdeal.main (F := Ideal))) ⟨m', fun _ => 0, g'⟩ (fun r => ∀ c : Dev Cert.InGradReferenceIdeal.nD,
          r.2.mem ((c.tc : Thread Cert.InGradReferenceIdeal.nD Cert.InGradReferenceIdeal.τ).loc Cert.InGradReferenceIdeal.main_v5) = v0 c
          ∧ r.2.mem ((c.tc : Thread Cert.InGradReferenceIdeal.nD Cert.InGradReferenceIdeal.τ).loc Cert.InGradReferenceIdeal.main_arg0) = m' ((c.tc : Thread Cert.InGradReferenceIdeal.nD Cert.InGradReferenceIdeal.τ).loc Cert.InGradReferenceIdeal.main_arg0)
          ∧ r.2.mem ((c.tc : Thread Cert.InGradReferenceIdeal.nD Cert.InGradReferenceIdeal.τ).loc Cert.InGradReferenceIdeal.main_arg1) = m' ((c.tc : Thread Cert.InGradReferenceIdeal.nD Cert.InGradReferenceIdeal.τ).loc Cert.InGradReferenceIdeal.main_arg1))

def preserves_IntoKernel_IntoKernelIdeal : Prop :=
  True

def algebraic_IntoKernelIdeal_IntoReferenceIdeal [hIntoKernelIdeal : Cert.IntoKernelIdeal.Facts] [hIntoReferenceIdeal : Cert.IntoReferenceIdeal.Facts] : Prop :=
  ∀ (m : (ℓ : Loc Cert.IntoKernelIdeal.nD Cert.IntoKernelIdeal.τ Cert.IntoKernelIdeal.sig) → Buf (Elt Ideal) ℓ) (g : Dev Cert.IntoKernelIdeal.nD → PrngReg)
    (m' : (ℓ : Loc Cert.IntoReferenceIdeal.nD Cert.IntoReferenceIdeal.τ Cert.IntoReferenceIdeal.sig) → Buf (Elt Ideal) ℓ) (g' : Dev Cert.IntoReferenceIdeal.nD → PrngReg), Pre_IntoKernelIdeal m →
    (∀ c : Dev Cert.IntoKernelIdeal.nD,
      m' ((c.tc : Thread Cert.IntoReferenceIdeal.nD Cert.IntoReferenceIdeal.τ).loc Cert.IntoReferenceIdeal.main_arg0) = m ((c.tc : Thread Cert.IntoKernelIdeal.nD Cert.IntoKernelIdeal.τ).loc Cert.IntoKernelIdeal.main_arg0)
      ∧ m' ((c.tc : Thread Cert.IntoReferenceIdeal.nD Cert.IntoReferenceIdeal.τ).loc Cert.IntoReferenceIdeal.main_arg1) = m ((c.tc : Thread Cert.IntoKernelIdeal.nD Cert.IntoKernelIdeal.τ).loc Cert.IntoKernelIdeal.main_arg1)) →
    ∃ (v0 : (c : Dev Cert.IntoKernelIdeal.nD) → Buf (Elt Ideal) ((c.tc : Thread Cert.IntoKernelIdeal.nD Cert.IntoKernelIdeal.τ).loc Cert.IntoKernelIdeal.main_v3)),
      θ_run (Cert.IntoKernelIdeal.defs (F := Ideal)) (onTc (τ := Cert.IntoKernelIdeal.τ) (Cert.IntoKernelIdeal.main (F := Ideal))) ⟨m, fun _ => 0, g⟩ (fun r => ∀ c : Dev Cert.IntoKernelIdeal.nD,
          r.2.mem ((c.tc : Thread Cert.IntoKernelIdeal.nD Cert.IntoKernelIdeal.τ).loc Cert.IntoKernelIdeal.main_v3) = v0 c
          ∧ r.2.mem ((c.tc : Thread Cert.IntoKernelIdeal.nD Cert.IntoKernelIdeal.τ).loc Cert.IntoKernelIdeal.main_arg0) = m ((c.tc : Thread Cert.IntoKernelIdeal.nD Cert.IntoKernelIdeal.τ).loc Cert.IntoKernelIdeal.main_arg0)
          ∧ r.2.mem ((c.tc : Thread Cert.IntoKernelIdeal.nD Cert.IntoKernelIdeal.τ).loc Cert.IntoKernelIdeal.main_arg1) = m ((c.tc : Thread Cert.IntoKernelIdeal.nD Cert.IntoKernelIdeal.τ).loc Cert.IntoKernelIdeal.main_arg1))
      ∧ θ_run (Cert.IntoReferenceIdeal.defs (F := Ideal)) (onTc (τ := Cert.IntoReferenceIdeal.τ) (Cert.IntoReferenceIdeal.main (F := Ideal))) ⟨m', fun _ => 0, g'⟩ (fun r => ∀ c : Dev Cert.IntoReferenceIdeal.nD,
          r.2.mem ((c.tc : Thread Cert.IntoReferenceIdeal.nD Cert.IntoReferenceIdeal.τ).loc Cert.IntoReferenceIdeal.main_v1) = v0 c
          ∧ r.2.mem ((c.tc : Thread Cert.IntoReferenceIdeal.nD Cert.IntoReferenceIdeal.τ).loc Cert.IntoReferenceIdeal.main_arg0) = m' ((c.tc : Thread Cert.IntoReferenceIdeal.nD Cert.IntoReferenceIdeal.τ).loc Cert.IntoReferenceIdeal.main_arg0)
          ∧ r.2.mem ((c.tc : Thread Cert.IntoReferenceIdeal.nD Cert.IntoReferenceIdeal.τ).loc Cert.IntoReferenceIdeal.main_arg1) = m' ((c.tc : Thread Cert.IntoReferenceIdeal.nD Cert.IntoReferenceIdeal.τ).loc Cert.IntoReferenceIdeal.main_arg1))

def preserves_ResidualKernel_ResidualKernelIdeal : Prop :=
  True

def algebraic_ResidualKernelIdeal_ResidualReferenceIdeal [hResidualKernelIdeal : Cert.ResidualKernelIdeal.Facts] [hResidualReferenceIdeal : Cert.ResidualReferenceIdeal.Facts] : Prop :=
  ∀ (m : (ℓ : Loc Cert.ResidualKernelIdeal.nD Cert.ResidualKernelIdeal.τ Cert.ResidualKernelIdeal.sig) → Buf (Elt Ideal) ℓ) (g : Dev Cert.ResidualKernelIdeal.nD → PrngReg)
    (m' : (ℓ : Loc Cert.ResidualReferenceIdeal.nD Cert.ResidualReferenceIdeal.τ Cert.ResidualReferenceIdeal.sig) → Buf (Elt Ideal) ℓ) (g' : Dev Cert.ResidualReferenceIdeal.nD → PrngReg), Pre_ResidualKernelIdeal m →
    (∀ c : Dev Cert.ResidualKernelIdeal.nD,
      m' ((c.tc : Thread Cert.ResidualReferenceIdeal.nD Cert.ResidualReferenceIdeal.τ).loc Cert.ResidualReferenceIdeal.main_arg0) = m ((c.tc : Thread Cert.ResidualKernelIdeal.nD Cert.ResidualKernelIdeal.τ).loc Cert.ResidualKernelIdeal.main_arg0)
      ∧ m' ((c.tc : Thread Cert.ResidualReferenceIdeal.nD Cert.ResidualReferenceIdeal.τ).loc Cert.ResidualReferenceIdeal.main_arg1) = m ((c.tc : Thread Cert.ResidualKernelIdeal.nD Cert.ResidualKernelIdeal.τ).loc Cert.ResidualKernelIdeal.main_arg1)
      ∧ m' ((c.tc : Thread Cert.ResidualReferenceIdeal.nD Cert.ResidualReferenceIdeal.τ).loc Cert.ResidualReferenceIdeal.main_arg2) = m ((c.tc : Thread Cert.ResidualKernelIdeal.nD Cert.ResidualKernelIdeal.τ).loc Cert.ResidualKernelIdeal.main_arg2)
      ∧ m' ((c.tc : Thread Cert.ResidualReferenceIdeal.nD Cert.ResidualReferenceIdeal.τ).loc Cert.ResidualReferenceIdeal.main_arg3) = m ((c.tc : Thread Cert.ResidualKernelIdeal.nD Cert.ResidualKernelIdeal.τ).loc Cert.ResidualKernelIdeal.main_arg3)) →
    ∃ (v0 : (c : Dev Cert.ResidualKernelIdeal.nD) → Buf (Elt Ideal) ((c.tc : Thread Cert.ResidualKernelIdeal.nD Cert.ResidualKernelIdeal.τ).loc Cert.ResidualKernelIdeal.main_v3_0)) (v1 : (c : Dev Cert.ResidualKernelIdeal.nD) → Buf (Elt Ideal) ((c.tc : Thread Cert.ResidualKernelIdeal.nD Cert.ResidualKernelIdeal.τ).loc Cert.ResidualKernelIdeal.main_v3_1)),
      θ_run (Cert.ResidualKernelIdeal.defs (F := Ideal)) (onTc (τ := Cert.ResidualKernelIdeal.τ) (Cert.ResidualKernelIdeal.main (F := Ideal))) ⟨m, fun _ => 0, g⟩ (fun r => ∀ c : Dev Cert.ResidualKernelIdeal.nD,
          r.2.mem ((c.tc : Thread Cert.ResidualKernelIdeal.nD Cert.ResidualKernelIdeal.τ).loc Cert.ResidualKernelIdeal.main_v3_0) = v0 c
          ∧ r.2.mem ((c.tc : Thread Cert.ResidualKernelIdeal.nD Cert.ResidualKernelIdeal.τ).loc Cert.ResidualKernelIdeal.main_v3_1) = v1 c
          ∧ r.2.mem ((c.tc : Thread Cert.ResidualKernelIdeal.nD Cert.ResidualKernelIdeal.τ).loc Cert.ResidualKernelIdeal.main_arg0) = m ((c.tc : Thread Cert.ResidualKernelIdeal.nD Cert.ResidualKernelIdeal.τ).loc Cert.ResidualKernelIdeal.main_arg0)
          ∧ r.2.mem ((c.tc : Thread Cert.ResidualKernelIdeal.nD Cert.ResidualKernelIdeal.τ).loc Cert.ResidualKernelIdeal.main_arg1) = m ((c.tc : Thread Cert.ResidualKernelIdeal.nD Cert.ResidualKernelIdeal.τ).loc Cert.ResidualKernelIdeal.main_arg1)
          ∧ r.2.mem ((c.tc : Thread Cert.ResidualKernelIdeal.nD Cert.ResidualKernelIdeal.τ).loc Cert.ResidualKernelIdeal.main_arg2) = m ((c.tc : Thread Cert.ResidualKernelIdeal.nD Cert.ResidualKernelIdeal.τ).loc Cert.ResidualKernelIdeal.main_arg2)
          ∧ r.2.mem ((c.tc : Thread Cert.ResidualKernelIdeal.nD Cert.ResidualKernelIdeal.τ).loc Cert.ResidualKernelIdeal.main_arg3) = m ((c.tc : Thread Cert.ResidualKernelIdeal.nD Cert.ResidualKernelIdeal.τ).loc Cert.ResidualKernelIdeal.main_arg3))
      ∧ θ_run (Cert.ResidualReferenceIdeal.defs (F := Ideal)) (onTc (τ := Cert.ResidualReferenceIdeal.τ) (Cert.ResidualReferenceIdeal.main (F := Ideal))) ⟨m', fun _ => 0, g'⟩ (fun r => ∀ c : Dev Cert.ResidualReferenceIdeal.nD,
          r.2.mem ((c.tc : Thread Cert.ResidualReferenceIdeal.nD Cert.ResidualReferenceIdeal.τ).loc Cert.ResidualReferenceIdeal.main_v3) = v0 c
          ∧ r.2.mem ((c.tc : Thread Cert.ResidualReferenceIdeal.nD Cert.ResidualReferenceIdeal.τ).loc Cert.ResidualReferenceIdeal.main_v17) = v1 c
          ∧ r.2.mem ((c.tc : Thread Cert.ResidualReferenceIdeal.nD Cert.ResidualReferenceIdeal.τ).loc Cert.ResidualReferenceIdeal.main_arg0) = m' ((c.tc : Thread Cert.ResidualReferenceIdeal.nD Cert.ResidualReferenceIdeal.τ).loc Cert.ResidualReferenceIdeal.main_arg0)
          ∧ r.2.mem ((c.tc : Thread Cert.ResidualReferenceIdeal.nD Cert.ResidualReferenceIdeal.τ).loc Cert.ResidualReferenceIdeal.main_arg1) = m' ((c.tc : Thread Cert.ResidualReferenceIdeal.nD Cert.ResidualReferenceIdeal.τ).loc Cert.ResidualReferenceIdeal.main_arg1)
          ∧ r.2.mem ((c.tc : Thread Cert.ResidualReferenceIdeal.nD Cert.ResidualReferenceIdeal.τ).loc Cert.ResidualReferenceIdeal.main_arg2) = m' ((c.tc : Thread Cert.ResidualReferenceIdeal.nD Cert.ResidualReferenceIdeal.τ).loc Cert.ResidualReferenceIdeal.main_arg2)
          ∧ r.2.mem ((c.tc : Thread Cert.ResidualReferenceIdeal.nD Cert.ResidualReferenceIdeal.τ).loc Cert.ResidualReferenceIdeal.main_arg3) = m' ((c.tc : Thread Cert.ResidualReferenceIdeal.nD Cert.ResidualReferenceIdeal.τ).loc Cert.ResidualReferenceIdeal.main_arg3))

def preserves_UpdateKernel_UpdateKernelIdeal : Prop :=
  True

def algebraic_UpdateKernelIdeal_UpdateReferenceIdeal [hUpdateKernelIdeal : Cert.UpdateKernelIdeal.Facts] [hUpdateReferenceIdeal : Cert.UpdateReferenceIdeal.Facts] : Prop :=
  ∀ (m : (ℓ : Loc Cert.UpdateKernelIdeal.nD Cert.UpdateKernelIdeal.τ Cert.UpdateKernelIdeal.sig) → Buf (Elt Ideal) ℓ) (g : Dev Cert.UpdateKernelIdeal.nD → PrngReg)
    (m' : (ℓ : Loc Cert.UpdateReferenceIdeal.nD Cert.UpdateReferenceIdeal.τ Cert.UpdateReferenceIdeal.sig) → Buf (Elt Ideal) ℓ) (g' : Dev Cert.UpdateReferenceIdeal.nD → PrngReg), Pre_UpdateKernelIdeal m →
    (∀ c : Dev Cert.UpdateKernelIdeal.nD,
      m' ((c.tc : Thread Cert.UpdateReferenceIdeal.nD Cert.UpdateReferenceIdeal.τ).loc Cert.UpdateReferenceIdeal.main_arg0) = m ((c.tc : Thread Cert.UpdateKernelIdeal.nD Cert.UpdateKernelIdeal.τ).loc Cert.UpdateKernelIdeal.main_arg0)
      ∧ m' ((c.tc : Thread Cert.UpdateReferenceIdeal.nD Cert.UpdateReferenceIdeal.τ).loc Cert.UpdateReferenceIdeal.main_arg1) = m ((c.tc : Thread Cert.UpdateKernelIdeal.nD Cert.UpdateKernelIdeal.τ).loc Cert.UpdateKernelIdeal.main_arg1)
      ∧ m' ((c.tc : Thread Cert.UpdateReferenceIdeal.nD Cert.UpdateReferenceIdeal.τ).loc Cert.UpdateReferenceIdeal.main_arg2) = m ((c.tc : Thread Cert.UpdateKernelIdeal.nD Cert.UpdateKernelIdeal.τ).loc Cert.UpdateKernelIdeal.main_arg2)
      ∧ m' ((c.tc : Thread Cert.UpdateReferenceIdeal.nD Cert.UpdateReferenceIdeal.τ).loc Cert.UpdateReferenceIdeal.main_arg3) = m ((c.tc : Thread Cert.UpdateKernelIdeal.nD Cert.UpdateKernelIdeal.τ).loc Cert.UpdateKernelIdeal.main_arg3)
      ∧ m' ((c.tc : Thread Cert.UpdateReferenceIdeal.nD Cert.UpdateReferenceIdeal.τ).loc Cert.UpdateReferenceIdeal.main_arg4) = m ((c.tc : Thread Cert.UpdateKernelIdeal.nD Cert.UpdateKernelIdeal.τ).loc Cert.UpdateKernelIdeal.main_arg4)) →
    ∃ (v0 : (c : Dev Cert.UpdateKernelIdeal.nD) → Buf (Elt Ideal) ((c.tc : Thread Cert.UpdateKernelIdeal.nD Cert.UpdateKernelIdeal.τ).loc Cert.UpdateKernelIdeal.main_v0_0)) (v1 : (c : Dev Cert.UpdateKernelIdeal.nD) → Buf (Elt Ideal) ((c.tc : Thread Cert.UpdateKernelIdeal.nD Cert.UpdateKernelIdeal.τ).loc Cert.UpdateKernelIdeal.main_v0_1)) (v2 : (c : Dev Cert.UpdateKernelIdeal.nD) → Buf (Elt Ideal) ((c.tc : Thread Cert.UpdateKernelIdeal.nD Cert.UpdateKernelIdeal.τ).loc Cert.UpdateKernelIdeal.main_v0_2)) (v3 : (c : Dev Cert.UpdateKernelIdeal.nD) → Buf (Elt Ideal) ((c.tc : Thread Cert.UpdateKernelIdeal.nD Cert.UpdateKernelIdeal.τ).loc Cert.UpdateKernelIdeal.main_v0_3)),
      θ_run (Cert.UpdateKernelIdeal.defs (F := Ideal)) (onTc (τ := Cert.UpdateKernelIdeal.τ) (Cert.UpdateKernelIdeal.main (F := Ideal))) ⟨m, fun _ => 0, g⟩ (fun r => ∀ c : Dev Cert.UpdateKernelIdeal.nD,
          r.2.mem ((c.tc : Thread Cert.UpdateKernelIdeal.nD Cert.UpdateKernelIdeal.τ).loc Cert.UpdateKernelIdeal.main_v0_0) = v0 c
          ∧ r.2.mem ((c.tc : Thread Cert.UpdateKernelIdeal.nD Cert.UpdateKernelIdeal.τ).loc Cert.UpdateKernelIdeal.main_v0_1) = v1 c
          ∧ r.2.mem ((c.tc : Thread Cert.UpdateKernelIdeal.nD Cert.UpdateKernelIdeal.τ).loc Cert.UpdateKernelIdeal.main_v0_2) = v2 c
          ∧ r.2.mem ((c.tc : Thread Cert.UpdateKernelIdeal.nD Cert.UpdateKernelIdeal.τ).loc Cert.UpdateKernelIdeal.main_v0_3) = v3 c
          ∧ r.2.mem ((c.tc : Thread Cert.UpdateKernelIdeal.nD Cert.UpdateKernelIdeal.τ).loc Cert.UpdateKernelIdeal.main_arg0) = m ((c.tc : Thread Cert.UpdateKernelIdeal.nD Cert.UpdateKernelIdeal.τ).loc Cert.UpdateKernelIdeal.main_arg0)
          ∧ r.2.mem ((c.tc : Thread Cert.UpdateKernelIdeal.nD Cert.UpdateKernelIdeal.τ).loc Cert.UpdateKernelIdeal.main_arg1) = m ((c.tc : Thread Cert.UpdateKernelIdeal.nD Cert.UpdateKernelIdeal.τ).loc Cert.UpdateKernelIdeal.main_arg1)
          ∧ r.2.mem ((c.tc : Thread Cert.UpdateKernelIdeal.nD Cert.UpdateKernelIdeal.τ).loc Cert.UpdateKernelIdeal.main_arg2) = m ((c.tc : Thread Cert.UpdateKernelIdeal.nD Cert.UpdateKernelIdeal.τ).loc Cert.UpdateKernelIdeal.main_arg2)
          ∧ r.2.mem ((c.tc : Thread Cert.UpdateKernelIdeal.nD Cert.UpdateKernelIdeal.τ).loc Cert.UpdateKernelIdeal.main_arg3) = m ((c.tc : Thread Cert.UpdateKernelIdeal.nD Cert.UpdateKernelIdeal.τ).loc Cert.UpdateKernelIdeal.main_arg3)
          ∧ r.2.mem ((c.tc : Thread Cert.UpdateKernelIdeal.nD Cert.UpdateKernelIdeal.τ).loc Cert.UpdateKernelIdeal.main_arg4) = m ((c.tc : Thread Cert.UpdateKernelIdeal.nD Cert.UpdateKernelIdeal.τ).loc Cert.UpdateKernelIdeal.main_arg4))
      ∧ θ_run (Cert.UpdateReferenceIdeal.defs (F := Ideal)) (onTc (τ := Cert.UpdateReferenceIdeal.τ) (Cert.UpdateReferenceIdeal.main (F := Ideal))) ⟨m', fun _ => 0, g'⟩ (fun r => ∀ c : Dev Cert.UpdateReferenceIdeal.nD,
          r.2.mem ((c.tc : Thread Cert.UpdateReferenceIdeal.nD Cert.UpdateReferenceIdeal.τ).loc Cert.UpdateReferenceIdeal.main_v6) = v0 c
          ∧ r.2.mem ((c.tc : Thread Cert.UpdateReferenceIdeal.nD Cert.UpdateReferenceIdeal.τ).loc Cert.UpdateReferenceIdeal.main_v30) = v1 c
          ∧ r.2.mem ((c.tc : Thread Cert.UpdateReferenceIdeal.nD Cert.UpdateReferenceIdeal.τ).loc Cert.UpdateReferenceIdeal.main_v11) = v2 c
          ∧ r.2.mem ((c.tc : Thread Cert.UpdateReferenceIdeal.nD Cert.UpdateReferenceIdeal.τ).loc Cert.UpdateReferenceIdeal.main_v17) = v3 c
          ∧ r.2.mem ((c.tc : Thread Cert.UpdateReferenceIdeal.nD Cert.UpdateReferenceIdeal.τ).loc Cert.UpdateReferenceIdeal.main_arg0) = m' ((c.tc : Thread Cert.UpdateReferenceIdeal.nD Cert.UpdateReferenceIdeal.τ).loc Cert.UpdateReferenceIdeal.main_arg0)
          ∧ r.2.mem ((c.tc : Thread Cert.UpdateReferenceIdeal.nD Cert.UpdateReferenceIdeal.τ).loc Cert.UpdateReferenceIdeal.main_arg1) = m' ((c.tc : Thread Cert.UpdateReferenceIdeal.nD Cert.UpdateReferenceIdeal.τ).loc Cert.UpdateReferenceIdeal.main_arg1)
          ∧ r.2.mem ((c.tc : Thread Cert.UpdateReferenceIdeal.nD Cert.UpdateReferenceIdeal.τ).loc Cert.UpdateReferenceIdeal.main_arg2) = m' ((c.tc : Thread Cert.UpdateReferenceIdeal.nD Cert.UpdateReferenceIdeal.τ).loc Cert.UpdateReferenceIdeal.main_arg2)
          ∧ r.2.mem ((c.tc : Thread Cert.UpdateReferenceIdeal.nD Cert.UpdateReferenceIdeal.τ).loc Cert.UpdateReferenceIdeal.main_arg3) = m' ((c.tc : Thread Cert.UpdateReferenceIdeal.nD Cert.UpdateReferenceIdeal.τ).loc Cert.UpdateReferenceIdeal.main_arg3)
          ∧ r.2.mem ((c.tc : Thread Cert.UpdateReferenceIdeal.nD Cert.UpdateReferenceIdeal.τ).loc Cert.UpdateReferenceIdeal.main_arg4) = m' ((c.tc : Thread Cert.UpdateReferenceIdeal.nD Cert.UpdateReferenceIdeal.τ).loc Cert.UpdateReferenceIdeal.main_arg4))

def preserves_GainKernel_GainKernelIdeal : Prop :=
  True

def algebraic_GainKernelIdeal_GainReferenceIdeal [hGainKernelIdeal : Cert.GainKernelIdeal.Facts] [hGainReferenceIdeal : Cert.GainReferenceIdeal.Facts] : Prop :=
  ∀ (m : (ℓ : Loc Cert.GainKernelIdeal.nD Cert.GainKernelIdeal.τ Cert.GainKernelIdeal.sig) → Buf (Elt Ideal) ℓ) (g : Dev Cert.GainKernelIdeal.nD → PrngReg)
    (m' : (ℓ : Loc Cert.GainReferenceIdeal.nD Cert.GainReferenceIdeal.τ Cert.GainReferenceIdeal.sig) → Buf (Elt Ideal) ℓ) (g' : Dev Cert.GainReferenceIdeal.nD → PrngReg), Pre_GainKernelIdeal m →
    (∀ c : Dev Cert.GainKernelIdeal.nD,
      m' ((c.tc : Thread Cert.GainReferenceIdeal.nD Cert.GainReferenceIdeal.τ).loc Cert.GainReferenceIdeal.main_arg0) = m ((c.tc : Thread Cert.GainKernelIdeal.nD Cert.GainKernelIdeal.τ).loc Cert.GainKernelIdeal.main_arg0)
      ∧ m' ((c.tc : Thread Cert.GainReferenceIdeal.nD Cert.GainReferenceIdeal.τ).loc Cert.GainReferenceIdeal.main_arg1) = m ((c.tc : Thread Cert.GainKernelIdeal.nD Cert.GainKernelIdeal.τ).loc Cert.GainKernelIdeal.main_arg1)
      ∧ m' ((c.tc : Thread Cert.GainReferenceIdeal.nD Cert.GainReferenceIdeal.τ).loc Cert.GainReferenceIdeal.main_arg2) = m ((c.tc : Thread Cert.GainKernelIdeal.nD Cert.GainKernelIdeal.τ).loc Cert.GainKernelIdeal.main_arg2)
      ∧ m' ((c.tc : Thread Cert.GainReferenceIdeal.nD Cert.GainReferenceIdeal.τ).loc Cert.GainReferenceIdeal.main_arg3) = m ((c.tc : Thread Cert.GainKernelIdeal.nD Cert.GainKernelIdeal.τ).loc Cert.GainKernelIdeal.main_arg3)) →
    ∃ (v0 : (c : Dev Cert.GainKernelIdeal.nD) → Buf (Elt Ideal) ((c.tc : Thread Cert.GainKernelIdeal.nD Cert.GainKernelIdeal.τ).loc Cert.GainKernelIdeal.main_v0_0)) (v1 : (c : Dev Cert.GainKernelIdeal.nD) → Buf (Elt Ideal) ((c.tc : Thread Cert.GainKernelIdeal.nD Cert.GainKernelIdeal.τ).loc Cert.GainKernelIdeal.main_v0_1)) (v2 : (c : Dev Cert.GainKernelIdeal.nD) → Buf (Elt Ideal) ((c.tc : Thread Cert.GainKernelIdeal.nD Cert.GainKernelIdeal.τ).loc Cert.GainKernelIdeal.main_v0_2)),
      θ_run (Cert.GainKernelIdeal.defs (F := Ideal)) (onTc (τ := Cert.GainKernelIdeal.τ) (Cert.GainKernelIdeal.main (F := Ideal))) ⟨m, fun _ => 0, g⟩ (fun r => ∀ c : Dev Cert.GainKernelIdeal.nD,
          r.2.mem ((c.tc : Thread Cert.GainKernelIdeal.nD Cert.GainKernelIdeal.τ).loc Cert.GainKernelIdeal.main_v0_0) = v0 c
          ∧ r.2.mem ((c.tc : Thread Cert.GainKernelIdeal.nD Cert.GainKernelIdeal.τ).loc Cert.GainKernelIdeal.main_v0_1) = v1 c
          ∧ r.2.mem ((c.tc : Thread Cert.GainKernelIdeal.nD Cert.GainKernelIdeal.τ).loc Cert.GainKernelIdeal.main_v0_2) = v2 c
          ∧ r.2.mem ((c.tc : Thread Cert.GainKernelIdeal.nD Cert.GainKernelIdeal.τ).loc Cert.GainKernelIdeal.main_arg0) = m ((c.tc : Thread Cert.GainKernelIdeal.nD Cert.GainKernelIdeal.τ).loc Cert.GainKernelIdeal.main_arg0)
          ∧ r.2.mem ((c.tc : Thread Cert.GainKernelIdeal.nD Cert.GainKernelIdeal.τ).loc Cert.GainKernelIdeal.main_arg1) = m ((c.tc : Thread Cert.GainKernelIdeal.nD Cert.GainKernelIdeal.τ).loc Cert.GainKernelIdeal.main_arg1)
          ∧ r.2.mem ((c.tc : Thread Cert.GainKernelIdeal.nD Cert.GainKernelIdeal.τ).loc Cert.GainKernelIdeal.main_arg2) = m ((c.tc : Thread Cert.GainKernelIdeal.nD Cert.GainKernelIdeal.τ).loc Cert.GainKernelIdeal.main_arg2)
          ∧ r.2.mem ((c.tc : Thread Cert.GainKernelIdeal.nD Cert.GainKernelIdeal.τ).loc Cert.GainKernelIdeal.main_arg3) = m ((c.tc : Thread Cert.GainKernelIdeal.nD Cert.GainKernelIdeal.τ).loc Cert.GainKernelIdeal.main_arg3))
      ∧ θ_run (Cert.GainReferenceIdeal.defs (F := Ideal)) (onTc (τ := Cert.GainReferenceIdeal.τ) (Cert.GainReferenceIdeal.main (F := Ideal))) ⟨m', fun _ => 0, g'⟩ (fun r => ∀ c : Dev Cert.GainReferenceIdeal.nD,
          r.2.mem ((c.tc : Thread Cert.GainReferenceIdeal.nD Cert.GainReferenceIdeal.τ).loc Cert.GainReferenceIdeal.main_v23) = v0 c
          ∧ r.2.mem ((c.tc : Thread Cert.GainReferenceIdeal.nD Cert.GainReferenceIdeal.τ).loc Cert.GainReferenceIdeal.main_v4) = v1 c
          ∧ r.2.mem ((c.tc : Thread Cert.GainReferenceIdeal.nD Cert.GainReferenceIdeal.τ).loc Cert.GainReferenceIdeal.main_v10) = v2 c
          ∧ r.2.mem ((c.tc : Thread Cert.GainReferenceIdeal.nD Cert.GainReferenceIdeal.τ).loc Cert.GainReferenceIdeal.main_arg0) = m' ((c.tc : Thread Cert.GainReferenceIdeal.nD Cert.GainReferenceIdeal.τ).loc Cert.GainReferenceIdeal.main_arg0)
          ∧ r.2.mem ((c.tc : Thread Cert.GainReferenceIdeal.nD Cert.GainReferenceIdeal.τ).loc Cert.GainReferenceIdeal.main_arg1) = m' ((c.tc : Thread Cert.GainReferenceIdeal.nD Cert.GainReferenceIdeal.τ).loc Cert.GainReferenceIdeal.main_arg1)
          ∧ r.2.mem ((c.tc : Thread Cert.GainReferenceIdeal.nD Cert.GainReferenceIdeal.τ).loc Cert.GainReferenceIdeal.main_arg2) = m' ((c.tc : Thread Cert.GainReferenceIdeal.nD Cert.GainReferenceIdeal.τ).loc Cert.GainReferenceIdeal.main_arg2)
          ∧ r.2.mem ((c.tc : Thread Cert.GainReferenceIdeal.nD Cert.GainReferenceIdeal.τ).loc Cert.GainReferenceIdeal.main_arg3) = m' ((c.tc : Thread Cert.GainReferenceIdeal.nD Cert.GainReferenceIdeal.τ).loc Cert.GainReferenceIdeal.main_arg3))

def preserves_SumKernel_SumKernelIdeal : Prop :=
  True

def algebraic_SumKernelIdeal_SumReferenceIdeal [hSumKernelIdeal : Cert.SumKernelIdeal.Facts] [hSumReferenceIdeal : Cert.SumReferenceIdeal.Facts] : Prop :=
  ∀ (m : (ℓ : Loc Cert.SumKernelIdeal.nD Cert.SumKernelIdeal.τ Cert.SumKernelIdeal.sig) → Buf (Elt Ideal) ℓ) (g : Dev Cert.SumKernelIdeal.nD → PrngReg)
    (m' : (ℓ : Loc Cert.SumReferenceIdeal.nD Cert.SumReferenceIdeal.τ Cert.SumReferenceIdeal.sig) → Buf (Elt Ideal) ℓ) (g' : Dev Cert.SumReferenceIdeal.nD → PrngReg), Pre_SumKernelIdeal m →
    (∀ c : Dev Cert.SumKernelIdeal.nD,
      m' ((c.tc : Thread Cert.SumReferenceIdeal.nD Cert.SumReferenceIdeal.τ).loc Cert.SumReferenceIdeal.main_arg0) = m ((c.tc : Thread Cert.SumKernelIdeal.nD Cert.SumKernelIdeal.τ).loc Cert.SumKernelIdeal.main_arg0)) →
    ∃ (v0 : (c : Dev Cert.SumKernelIdeal.nD) → Buf (Elt Ideal) ((c.tc : Thread Cert.SumKernelIdeal.nD Cert.SumKernelIdeal.τ).loc Cert.SumKernelIdeal.main_v0)),
      θ_run (Cert.SumKernelIdeal.defs (F := Ideal)) (onTc (τ := Cert.SumKernelIdeal.τ) (Cert.SumKernelIdeal.main (F := Ideal))) ⟨m, fun _ => 0, g⟩ (fun r => ∀ c : Dev Cert.SumKernelIdeal.nD,
          r.2.mem ((c.tc : Thread Cert.SumKernelIdeal.nD Cert.SumKernelIdeal.τ).loc Cert.SumKernelIdeal.main_v0) = v0 c
          ∧ r.2.mem ((c.tc : Thread Cert.SumKernelIdeal.nD Cert.SumKernelIdeal.τ).loc Cert.SumKernelIdeal.main_arg0) = m ((c.tc : Thread Cert.SumKernelIdeal.nD Cert.SumKernelIdeal.τ).loc Cert.SumKernelIdeal.main_arg0))
      ∧ θ_run (Cert.SumReferenceIdeal.defs (F := Ideal)) (onTc (τ := Cert.SumReferenceIdeal.τ) (Cert.SumReferenceIdeal.main (F := Ideal))) ⟨m', fun _ => 0, g'⟩ (fun r => ∀ c : Dev Cert.SumReferenceIdeal.nD,
          r.2.mem ((c.tc : Thread Cert.SumReferenceIdeal.nD Cert.SumReferenceIdeal.τ).loc Cert.SumReferenceIdeal.main_v0) = v0 c
          ∧ r.2.mem ((c.tc : Thread Cert.SumReferenceIdeal.nD Cert.SumReferenceIdeal.τ).loc Cert.SumReferenceIdeal.main_arg0) = m' ((c.tc : Thread Cert.SumReferenceIdeal.nD Cert.SumReferenceIdeal.τ).loc Cert.SumReferenceIdeal.main_arg0))

def preserves_UpdateOutKernel_UpdateOutKernelIdeal : Prop :=
  True

def algebraic_UpdateOutKernelIdeal_UpdateOutReferenceIdeal [hUpdateOutKernelIdeal : Cert.UpdateOutKernelIdeal.Facts] [hUpdateOutReferenceIdeal : Cert.UpdateOutReferenceIdeal.Facts] : Prop :=
  ∀ (m : (ℓ : Loc Cert.UpdateOutKernelIdeal.nD Cert.UpdateOutKernelIdeal.τ Cert.UpdateOutKernelIdeal.sig) → Buf (Elt Ideal) ℓ) (g : Dev Cert.UpdateOutKernelIdeal.nD → PrngReg)
    (m' : (ℓ : Loc Cert.UpdateOutReferenceIdeal.nD Cert.UpdateOutReferenceIdeal.τ Cert.UpdateOutReferenceIdeal.sig) → Buf (Elt Ideal) ℓ) (g' : Dev Cert.UpdateOutReferenceIdeal.nD → PrngReg), Pre_UpdateOutKernelIdeal m →
    (∀ c : Dev Cert.UpdateOutKernelIdeal.nD,
      m' ((c.tc : Thread Cert.UpdateOutReferenceIdeal.nD Cert.UpdateOutReferenceIdeal.τ).loc Cert.UpdateOutReferenceIdeal.main_arg0) = m ((c.tc : Thread Cert.UpdateOutKernelIdeal.nD Cert.UpdateOutKernelIdeal.τ).loc Cert.UpdateOutKernelIdeal.main_arg0)
      ∧ m' ((c.tc : Thread Cert.UpdateOutReferenceIdeal.nD Cert.UpdateOutReferenceIdeal.τ).loc Cert.UpdateOutReferenceIdeal.main_arg1) = m ((c.tc : Thread Cert.UpdateOutKernelIdeal.nD Cert.UpdateOutKernelIdeal.τ).loc Cert.UpdateOutKernelIdeal.main_arg1)
      ∧ m' ((c.tc : Thread Cert.UpdateOutReferenceIdeal.nD Cert.UpdateOutReferenceIdeal.τ).loc Cert.UpdateOutReferenceIdeal.main_arg2) = m ((c.tc : Thread Cert.UpdateOutKernelIdeal.nD Cert.UpdateOutKernelIdeal.τ).loc Cert.UpdateOutKernelIdeal.main_arg2)
      ∧ m' ((c.tc : Thread Cert.UpdateOutReferenceIdeal.nD Cert.UpdateOutReferenceIdeal.τ).loc Cert.UpdateOutReferenceIdeal.main_arg3) = m ((c.tc : Thread Cert.UpdateOutKernelIdeal.nD Cert.UpdateOutKernelIdeal.τ).loc Cert.UpdateOutKernelIdeal.main_arg3)
      ∧ m' ((c.tc : Thread Cert.UpdateOutReferenceIdeal.nD Cert.UpdateOutReferenceIdeal.τ).loc Cert.UpdateOutReferenceIdeal.main_arg4) = m ((c.tc : Thread Cert.UpdateOutKernelIdeal.nD Cert.UpdateOutKernelIdeal.τ).loc Cert.UpdateOutKernelIdeal.main_arg4)) →
    ∃ (v0 : (c : Dev Cert.UpdateOutKernelIdeal.nD) → Buf (Elt Ideal) ((c.tc : Thread Cert.UpdateOutKernelIdeal.nD Cert.UpdateOutKernelIdeal.τ).loc Cert.UpdateOutKernelIdeal.main_v0_0)) (v1 : (c : Dev Cert.UpdateOutKernelIdeal.nD) → Buf (Elt Ideal) ((c.tc : Thread Cert.UpdateOutKernelIdeal.nD Cert.UpdateOutKernelIdeal.τ).loc Cert.UpdateOutKernelIdeal.main_v0_1)) (v2 : (c : Dev Cert.UpdateOutKernelIdeal.nD) → Buf (Elt Ideal) ((c.tc : Thread Cert.UpdateOutKernelIdeal.nD Cert.UpdateOutKernelIdeal.τ).loc Cert.UpdateOutKernelIdeal.main_v0_2)) (v3 : (c : Dev Cert.UpdateOutKernelIdeal.nD) → Buf (Elt Ideal) ((c.tc : Thread Cert.UpdateOutKernelIdeal.nD Cert.UpdateOutKernelIdeal.τ).loc Cert.UpdateOutKernelIdeal.main_v0_3)),
      θ_run (Cert.UpdateOutKernelIdeal.defs (F := Ideal)) (onTc (τ := Cert.UpdateOutKernelIdeal.τ) (Cert.UpdateOutKernelIdeal.main (F := Ideal))) ⟨m, fun _ => 0, g⟩ (fun r => ∀ c : Dev Cert.UpdateOutKernelIdeal.nD,
          r.2.mem ((c.tc : Thread Cert.UpdateOutKernelIdeal.nD Cert.UpdateOutKernelIdeal.τ).loc Cert.UpdateOutKernelIdeal.main_v0_0) = v0 c
          ∧ r.2.mem ((c.tc : Thread Cert.UpdateOutKernelIdeal.nD Cert.UpdateOutKernelIdeal.τ).loc Cert.UpdateOutKernelIdeal.main_v0_1) = v1 c
          ∧ r.2.mem ((c.tc : Thread Cert.UpdateOutKernelIdeal.nD Cert.UpdateOutKernelIdeal.τ).loc Cert.UpdateOutKernelIdeal.main_v0_2) = v2 c
          ∧ r.2.mem ((c.tc : Thread Cert.UpdateOutKernelIdeal.nD Cert.UpdateOutKernelIdeal.τ).loc Cert.UpdateOutKernelIdeal.main_v0_3) = v3 c
          ∧ r.2.mem ((c.tc : Thread Cert.UpdateOutKernelIdeal.nD Cert.UpdateOutKernelIdeal.τ).loc Cert.UpdateOutKernelIdeal.main_arg0) = m ((c.tc : Thread Cert.UpdateOutKernelIdeal.nD Cert.UpdateOutKernelIdeal.τ).loc Cert.UpdateOutKernelIdeal.main_arg0)
          ∧ r.2.mem ((c.tc : Thread Cert.UpdateOutKernelIdeal.nD Cert.UpdateOutKernelIdeal.τ).loc Cert.UpdateOutKernelIdeal.main_arg1) = m ((c.tc : Thread Cert.UpdateOutKernelIdeal.nD Cert.UpdateOutKernelIdeal.τ).loc Cert.UpdateOutKernelIdeal.main_arg1)
          ∧ r.2.mem ((c.tc : Thread Cert.UpdateOutKernelIdeal.nD Cert.UpdateOutKernelIdeal.τ).loc Cert.UpdateOutKernelIdeal.main_arg2) = m ((c.tc : Thread Cert.UpdateOutKernelIdeal.nD Cert.UpdateOutKernelIdeal.τ).loc Cert.UpdateOutKernelIdeal.main_arg2)
          ∧ r.2.mem ((c.tc : Thread Cert.UpdateOutKernelIdeal.nD Cert.UpdateOutKernelIdeal.τ).loc Cert.UpdateOutKernelIdeal.main_arg3) = m ((c.tc : Thread Cert.UpdateOutKernelIdeal.nD Cert.UpdateOutKernelIdeal.τ).loc Cert.UpdateOutKernelIdeal.main_arg3)
          ∧ r.2.mem ((c.tc : Thread Cert.UpdateOutKernelIdeal.nD Cert.UpdateOutKernelIdeal.τ).loc Cert.UpdateOutKernelIdeal.main_arg4) = m ((c.tc : Thread Cert.UpdateOutKernelIdeal.nD Cert.UpdateOutKernelIdeal.τ).loc Cert.UpdateOutKernelIdeal.main_arg4))
      ∧ θ_run (Cert.UpdateOutReferenceIdeal.defs (F := Ideal)) (onTc (τ := Cert.UpdateOutReferenceIdeal.τ) (Cert.UpdateOutReferenceIdeal.main (F := Ideal))) ⟨m', fun _ => 0, g'⟩ (fun r => ∀ c : Dev Cert.UpdateOutReferenceIdeal.nD,
          r.2.mem ((c.tc : Thread Cert.UpdateOutReferenceIdeal.nD Cert.UpdateOutReferenceIdeal.τ).loc Cert.UpdateOutReferenceIdeal.main_v6) = v0 c
          ∧ r.2.mem ((c.tc : Thread Cert.UpdateOutReferenceIdeal.nD Cert.UpdateOutReferenceIdeal.τ).loc Cert.UpdateOutReferenceIdeal.main_v30) = v1 c
          ∧ r.2.mem ((c.tc : Thread Cert.UpdateOutReferenceIdeal.nD Cert.UpdateOutReferenceIdeal.τ).loc Cert.UpdateOutReferenceIdeal.main_v11) = v2 c
          ∧ r.2.mem ((c.tc : Thread Cert.UpdateOutReferenceIdeal.nD Cert.UpdateOutReferenceIdeal.τ).loc Cert.UpdateOutReferenceIdeal.main_v17) = v3 c
          ∧ r.2.mem ((c.tc : Thread Cert.UpdateOutReferenceIdeal.nD Cert.UpdateOutReferenceIdeal.τ).loc Cert.UpdateOutReferenceIdeal.main_arg0) = m' ((c.tc : Thread Cert.UpdateOutReferenceIdeal.nD Cert.UpdateOutReferenceIdeal.τ).loc Cert.UpdateOutReferenceIdeal.main_arg0)
          ∧ r.2.mem ((c.tc : Thread Cert.UpdateOutReferenceIdeal.nD Cert.UpdateOutReferenceIdeal.τ).loc Cert.UpdateOutReferenceIdeal.main_arg1) = m' ((c.tc : Thread Cert.UpdateOutReferenceIdeal.nD Cert.UpdateOutReferenceIdeal.τ).loc Cert.UpdateOutReferenceIdeal.main_arg1)
          ∧ r.2.mem ((c.tc : Thread Cert.UpdateOutReferenceIdeal.nD Cert.UpdateOutReferenceIdeal.τ).loc Cert.UpdateOutReferenceIdeal.main_arg2) = m' ((c.tc : Thread Cert.UpdateOutReferenceIdeal.nD Cert.UpdateOutReferenceIdeal.τ).loc Cert.UpdateOutReferenceIdeal.main_arg2)
          ∧ r.2.mem ((c.tc : Thread Cert.UpdateOutReferenceIdeal.nD Cert.UpdateOutReferenceIdeal.τ).loc Cert.UpdateOutReferenceIdeal.main_arg3) = m' ((c.tc : Thread Cert.UpdateOutReferenceIdeal.nD Cert.UpdateOutReferenceIdeal.τ).loc Cert.UpdateOutReferenceIdeal.main_arg3)
          ∧ r.2.mem ((c.tc : Thread Cert.UpdateOutReferenceIdeal.nD Cert.UpdateOutReferenceIdeal.τ).loc Cert.UpdateOutReferenceIdeal.main_arg4) = m' ((c.tc : Thread Cert.UpdateOutReferenceIdeal.nD Cert.UpdateOutReferenceIdeal.τ).loc Cert.UpdateOutReferenceIdeal.main_arg4))

def preserves_UpdateInKernel_UpdateInKernelIdeal : Prop :=
  True

def algebraic_UpdateInKernelIdeal_UpdateInReferenceIdeal [hUpdateInKernelIdeal : Cert.UpdateInKernelIdeal.Facts] [hUpdateInReferenceIdeal : Cert.UpdateInReferenceIdeal.Facts] : Prop :=
  ∀ (m : (ℓ : Loc Cert.UpdateInKernelIdeal.nD Cert.UpdateInKernelIdeal.τ Cert.UpdateInKernelIdeal.sig) → Buf (Elt Ideal) ℓ) (g : Dev Cert.UpdateInKernelIdeal.nD → PrngReg)
    (m' : (ℓ : Loc Cert.UpdateInReferenceIdeal.nD Cert.UpdateInReferenceIdeal.τ Cert.UpdateInReferenceIdeal.sig) → Buf (Elt Ideal) ℓ) (g' : Dev Cert.UpdateInReferenceIdeal.nD → PrngReg), Pre_UpdateInKernelIdeal m →
    (∀ c : Dev Cert.UpdateInKernelIdeal.nD,
      m' ((c.tc : Thread Cert.UpdateInReferenceIdeal.nD Cert.UpdateInReferenceIdeal.τ).loc Cert.UpdateInReferenceIdeal.main_arg0) = m ((c.tc : Thread Cert.UpdateInKernelIdeal.nD Cert.UpdateInKernelIdeal.τ).loc Cert.UpdateInKernelIdeal.main_arg0)
      ∧ m' ((c.tc : Thread Cert.UpdateInReferenceIdeal.nD Cert.UpdateInReferenceIdeal.τ).loc Cert.UpdateInReferenceIdeal.main_arg1) = m ((c.tc : Thread Cert.UpdateInKernelIdeal.nD Cert.UpdateInKernelIdeal.τ).loc Cert.UpdateInKernelIdeal.main_arg1)
      ∧ m' ((c.tc : Thread Cert.UpdateInReferenceIdeal.nD Cert.UpdateInReferenceIdeal.τ).loc Cert.UpdateInReferenceIdeal.main_arg2) = m ((c.tc : Thread Cert.UpdateInKernelIdeal.nD Cert.UpdateInKernelIdeal.τ).loc Cert.UpdateInKernelIdeal.main_arg2)
      ∧ m' ((c.tc : Thread Cert.UpdateInReferenceIdeal.nD Cert.UpdateInReferenceIdeal.τ).loc Cert.UpdateInReferenceIdeal.main_arg3) = m ((c.tc : Thread Cert.UpdateInKernelIdeal.nD Cert.UpdateInKernelIdeal.τ).loc Cert.UpdateInKernelIdeal.main_arg3)
      ∧ m' ((c.tc : Thread Cert.UpdateInReferenceIdeal.nD Cert.UpdateInReferenceIdeal.τ).loc Cert.UpdateInReferenceIdeal.main_arg4) = m ((c.tc : Thread Cert.UpdateInKernelIdeal.nD Cert.UpdateInKernelIdeal.τ).loc Cert.UpdateInKernelIdeal.main_arg4)) →
    ∃ (v0 : (c : Dev Cert.UpdateInKernelIdeal.nD) → Buf (Elt Ideal) ((c.tc : Thread Cert.UpdateInKernelIdeal.nD Cert.UpdateInKernelIdeal.τ).loc Cert.UpdateInKernelIdeal.main_v0_0)) (v1 : (c : Dev Cert.UpdateInKernelIdeal.nD) → Buf (Elt Ideal) ((c.tc : Thread Cert.UpdateInKernelIdeal.nD Cert.UpdateInKernelIdeal.τ).loc Cert.UpdateInKernelIdeal.main_v0_1)) (v2 : (c : Dev Cert.UpdateInKernelIdeal.nD) → Buf (Elt Ideal) ((c.tc : Thread Cert.UpdateInKernelIdeal.nD Cert.UpdateInKernelIdeal.τ).loc Cert.UpdateInKernelIdeal.main_v0_2)) (v3 : (c : Dev Cert.UpdateInKernelIdeal.nD) → Buf (Elt Ideal) ((c.tc : Thread Cert.UpdateInKernelIdeal.nD Cert.UpdateInKernelIdeal.τ).loc Cert.UpdateInKernelIdeal.main_v0_3)),
      θ_run (Cert.UpdateInKernelIdeal.defs (F := Ideal)) (onTc (τ := Cert.UpdateInKernelIdeal.τ) (Cert.UpdateInKernelIdeal.main (F := Ideal))) ⟨m, fun _ => 0, g⟩ (fun r => ∀ c : Dev Cert.UpdateInKernelIdeal.nD,
          r.2.mem ((c.tc : Thread Cert.UpdateInKernelIdeal.nD Cert.UpdateInKernelIdeal.τ).loc Cert.UpdateInKernelIdeal.main_v0_0) = v0 c
          ∧ r.2.mem ((c.tc : Thread Cert.UpdateInKernelIdeal.nD Cert.UpdateInKernelIdeal.τ).loc Cert.UpdateInKernelIdeal.main_v0_1) = v1 c
          ∧ r.2.mem ((c.tc : Thread Cert.UpdateInKernelIdeal.nD Cert.UpdateInKernelIdeal.τ).loc Cert.UpdateInKernelIdeal.main_v0_2) = v2 c
          ∧ r.2.mem ((c.tc : Thread Cert.UpdateInKernelIdeal.nD Cert.UpdateInKernelIdeal.τ).loc Cert.UpdateInKernelIdeal.main_v0_3) = v3 c
          ∧ r.2.mem ((c.tc : Thread Cert.UpdateInKernelIdeal.nD Cert.UpdateInKernelIdeal.τ).loc Cert.UpdateInKernelIdeal.main_arg0) = m ((c.tc : Thread Cert.UpdateInKernelIdeal.nD Cert.UpdateInKernelIdeal.τ).loc Cert.UpdateInKernelIdeal.main_arg0)
          ∧ r.2.mem ((c.tc : Thread Cert.UpdateInKernelIdeal.nD Cert.UpdateInKernelIdeal.τ).loc Cert.UpdateInKernelIdeal.main_arg1) = m ((c.tc : Thread Cert.UpdateInKernelIdeal.nD Cert.UpdateInKernelIdeal.τ).loc Cert.UpdateInKernelIdeal.main_arg1)
          ∧ r.2.mem ((c.tc : Thread Cert.UpdateInKernelIdeal.nD Cert.UpdateInKernelIdeal.τ).loc Cert.UpdateInKernelIdeal.main_arg2) = m ((c.tc : Thread Cert.UpdateInKernelIdeal.nD Cert.UpdateInKernelIdeal.τ).loc Cert.UpdateInKernelIdeal.main_arg2)
          ∧ r.2.mem ((c.tc : Thread Cert.UpdateInKernelIdeal.nD Cert.UpdateInKernelIdeal.τ).loc Cert.UpdateInKernelIdeal.main_arg3) = m ((c.tc : Thread Cert.UpdateInKernelIdeal.nD Cert.UpdateInKernelIdeal.τ).loc Cert.UpdateInKernelIdeal.main_arg3)
          ∧ r.2.mem ((c.tc : Thread Cert.UpdateInKernelIdeal.nD Cert.UpdateInKernelIdeal.τ).loc Cert.UpdateInKernelIdeal.main_arg4) = m ((c.tc : Thread Cert.UpdateInKernelIdeal.nD Cert.UpdateInKernelIdeal.τ).loc Cert.UpdateInKernelIdeal.main_arg4))
      ∧ θ_run (Cert.UpdateInReferenceIdeal.defs (F := Ideal)) (onTc (τ := Cert.UpdateInReferenceIdeal.τ) (Cert.UpdateInReferenceIdeal.main (F := Ideal))) ⟨m', fun _ => 0, g'⟩ (fun r => ∀ c : Dev Cert.UpdateInReferenceIdeal.nD,
          r.2.mem ((c.tc : Thread Cert.UpdateInReferenceIdeal.nD Cert.UpdateInReferenceIdeal.τ).loc Cert.UpdateInReferenceIdeal.main_v8) = v0 c
          ∧ r.2.mem ((c.tc : Thread Cert.UpdateInReferenceIdeal.nD Cert.UpdateInReferenceIdeal.τ).loc Cert.UpdateInReferenceIdeal.main_v32) = v1 c
          ∧ r.2.mem ((c.tc : Thread Cert.UpdateInReferenceIdeal.nD Cert.UpdateInReferenceIdeal.τ).loc Cert.UpdateInReferenceIdeal.main_v13) = v2 c
          ∧ r.2.mem ((c.tc : Thread Cert.UpdateInReferenceIdeal.nD Cert.UpdateInReferenceIdeal.τ).loc Cert.UpdateInReferenceIdeal.main_v19) = v3 c
          ∧ r.2.mem ((c.tc : Thread Cert.UpdateInReferenceIdeal.nD Cert.UpdateInReferenceIdeal.τ).loc Cert.UpdateInReferenceIdeal.main_arg0) = m' ((c.tc : Thread Cert.UpdateInReferenceIdeal.nD Cert.UpdateInReferenceIdeal.τ).loc Cert.UpdateInReferenceIdeal.main_arg0)
          ∧ r.2.mem ((c.tc : Thread Cert.UpdateInReferenceIdeal.nD Cert.UpdateInReferenceIdeal.τ).loc Cert.UpdateInReferenceIdeal.main_arg1) = m' ((c.tc : Thread Cert.UpdateInReferenceIdeal.nD Cert.UpdateInReferenceIdeal.τ).loc Cert.UpdateInReferenceIdeal.main_arg1)
          ∧ r.2.mem ((c.tc : Thread Cert.UpdateInReferenceIdeal.nD Cert.UpdateInReferenceIdeal.τ).loc Cert.UpdateInReferenceIdeal.main_arg2) = m' ((c.tc : Thread Cert.UpdateInReferenceIdeal.nD Cert.UpdateInReferenceIdeal.τ).loc Cert.UpdateInReferenceIdeal.main_arg2)
          ∧ r.2.mem ((c.tc : Thread Cert.UpdateInReferenceIdeal.nD Cert.UpdateInReferenceIdeal.τ).loc Cert.UpdateInReferenceIdeal.main_arg3) = m' ((c.tc : Thread Cert.UpdateInReferenceIdeal.nD Cert.UpdateInReferenceIdeal.τ).loc Cert.UpdateInReferenceIdeal.main_arg3)
          ∧ r.2.mem ((c.tc : Thread Cert.UpdateInReferenceIdeal.nD Cert.UpdateInReferenceIdeal.τ).loc Cert.UpdateInReferenceIdeal.main_arg4) = m' ((c.tc : Thread Cert.UpdateInReferenceIdeal.nD Cert.UpdateInReferenceIdeal.τ).loc Cert.UpdateInReferenceIdeal.main_arg4))

def preserves_UpdateProjKernel_UpdateProjKernelIdeal : Prop :=
  True

def algebraic_UpdateProjKernelIdeal_UpdateProjReferenceIdeal [hUpdateProjKernelIdeal : Cert.UpdateProjKernelIdeal.Facts] [hUpdateProjReferenceIdeal : Cert.UpdateProjReferenceIdeal.Facts] : Prop :=
  ∀ (m : (ℓ : Loc Cert.UpdateProjKernelIdeal.nD Cert.UpdateProjKernelIdeal.τ Cert.UpdateProjKernelIdeal.sig) → Buf (Elt Ideal) ℓ) (g : Dev Cert.UpdateProjKernelIdeal.nD → PrngReg)
    (m' : (ℓ : Loc Cert.UpdateProjReferenceIdeal.nD Cert.UpdateProjReferenceIdeal.τ Cert.UpdateProjReferenceIdeal.sig) → Buf (Elt Ideal) ℓ) (g' : Dev Cert.UpdateProjReferenceIdeal.nD → PrngReg), Pre_UpdateProjKernelIdeal m →
    (∀ c : Dev Cert.UpdateProjKernelIdeal.nD,
      m' ((c.tc : Thread Cert.UpdateProjReferenceIdeal.nD Cert.UpdateProjReferenceIdeal.τ).loc Cert.UpdateProjReferenceIdeal.main_arg0) = m ((c.tc : Thread Cert.UpdateProjKernelIdeal.nD Cert.UpdateProjKernelIdeal.τ).loc Cert.UpdateProjKernelIdeal.main_arg0)
      ∧ m' ((c.tc : Thread Cert.UpdateProjReferenceIdeal.nD Cert.UpdateProjReferenceIdeal.τ).loc Cert.UpdateProjReferenceIdeal.main_arg1) = m ((c.tc : Thread Cert.UpdateProjKernelIdeal.nD Cert.UpdateProjKernelIdeal.τ).loc Cert.UpdateProjKernelIdeal.main_arg1)
      ∧ m' ((c.tc : Thread Cert.UpdateProjReferenceIdeal.nD Cert.UpdateProjReferenceIdeal.τ).loc Cert.UpdateProjReferenceIdeal.main_arg2) = m ((c.tc : Thread Cert.UpdateProjKernelIdeal.nD Cert.UpdateProjKernelIdeal.τ).loc Cert.UpdateProjKernelIdeal.main_arg2)
      ∧ m' ((c.tc : Thread Cert.UpdateProjReferenceIdeal.nD Cert.UpdateProjReferenceIdeal.τ).loc Cert.UpdateProjReferenceIdeal.main_arg3) = m ((c.tc : Thread Cert.UpdateProjKernelIdeal.nD Cert.UpdateProjKernelIdeal.τ).loc Cert.UpdateProjKernelIdeal.main_arg3)
      ∧ m' ((c.tc : Thread Cert.UpdateProjReferenceIdeal.nD Cert.UpdateProjReferenceIdeal.τ).loc Cert.UpdateProjReferenceIdeal.main_arg4) = m ((c.tc : Thread Cert.UpdateProjKernelIdeal.nD Cert.UpdateProjKernelIdeal.τ).loc Cert.UpdateProjKernelIdeal.main_arg4)) →
    ∃ (v0 : (c : Dev Cert.UpdateProjKernelIdeal.nD) → Buf (Elt Ideal) ((c.tc : Thread Cert.UpdateProjKernelIdeal.nD Cert.UpdateProjKernelIdeal.τ).loc Cert.UpdateProjKernelIdeal.main_v0_0)) (v1 : (c : Dev Cert.UpdateProjKernelIdeal.nD) → Buf (Elt Ideal) ((c.tc : Thread Cert.UpdateProjKernelIdeal.nD Cert.UpdateProjKernelIdeal.τ).loc Cert.UpdateProjKernelIdeal.main_v0_1)) (v2 : (c : Dev Cert.UpdateProjKernelIdeal.nD) → Buf (Elt Ideal) ((c.tc : Thread Cert.UpdateProjKernelIdeal.nD Cert.UpdateProjKernelIdeal.τ).loc Cert.UpdateProjKernelIdeal.main_v0_2)) (v3 : (c : Dev Cert.UpdateProjKernelIdeal.nD) → Buf (Elt Ideal) ((c.tc : Thread Cert.UpdateProjKernelIdeal.nD Cert.UpdateProjKernelIdeal.τ).loc Cert.UpdateProjKernelIdeal.main_v0_3)),
      θ_run (Cert.UpdateProjKernelIdeal.defs (F := Ideal)) (onTc (τ := Cert.UpdateProjKernelIdeal.τ) (Cert.UpdateProjKernelIdeal.main (F := Ideal))) ⟨m, fun _ => 0, g⟩ (fun r => ∀ c : Dev Cert.UpdateProjKernelIdeal.nD,
          r.2.mem ((c.tc : Thread Cert.UpdateProjKernelIdeal.nD Cert.UpdateProjKernelIdeal.τ).loc Cert.UpdateProjKernelIdeal.main_v0_0) = v0 c
          ∧ r.2.mem ((c.tc : Thread Cert.UpdateProjKernelIdeal.nD Cert.UpdateProjKernelIdeal.τ).loc Cert.UpdateProjKernelIdeal.main_v0_1) = v1 c
          ∧ r.2.mem ((c.tc : Thread Cert.UpdateProjKernelIdeal.nD Cert.UpdateProjKernelIdeal.τ).loc Cert.UpdateProjKernelIdeal.main_v0_2) = v2 c
          ∧ r.2.mem ((c.tc : Thread Cert.UpdateProjKernelIdeal.nD Cert.UpdateProjKernelIdeal.τ).loc Cert.UpdateProjKernelIdeal.main_v0_3) = v3 c
          ∧ r.2.mem ((c.tc : Thread Cert.UpdateProjKernelIdeal.nD Cert.UpdateProjKernelIdeal.τ).loc Cert.UpdateProjKernelIdeal.main_arg0) = m ((c.tc : Thread Cert.UpdateProjKernelIdeal.nD Cert.UpdateProjKernelIdeal.τ).loc Cert.UpdateProjKernelIdeal.main_arg0)
          ∧ r.2.mem ((c.tc : Thread Cert.UpdateProjKernelIdeal.nD Cert.UpdateProjKernelIdeal.τ).loc Cert.UpdateProjKernelIdeal.main_arg1) = m ((c.tc : Thread Cert.UpdateProjKernelIdeal.nD Cert.UpdateProjKernelIdeal.τ).loc Cert.UpdateProjKernelIdeal.main_arg1)
          ∧ r.2.mem ((c.tc : Thread Cert.UpdateProjKernelIdeal.nD Cert.UpdateProjKernelIdeal.τ).loc Cert.UpdateProjKernelIdeal.main_arg2) = m ((c.tc : Thread Cert.UpdateProjKernelIdeal.nD Cert.UpdateProjKernelIdeal.τ).loc Cert.UpdateProjKernelIdeal.main_arg2)
          ∧ r.2.mem ((c.tc : Thread Cert.UpdateProjKernelIdeal.nD Cert.UpdateProjKernelIdeal.τ).loc Cert.UpdateProjKernelIdeal.main_arg3) = m ((c.tc : Thread Cert.UpdateProjKernelIdeal.nD Cert.UpdateProjKernelIdeal.τ).loc Cert.UpdateProjKernelIdeal.main_arg3)
          ∧ r.2.mem ((c.tc : Thread Cert.UpdateProjKernelIdeal.nD Cert.UpdateProjKernelIdeal.τ).loc Cert.UpdateProjKernelIdeal.main_arg4) = m ((c.tc : Thread Cert.UpdateProjKernelIdeal.nD Cert.UpdateProjKernelIdeal.τ).loc Cert.UpdateProjKernelIdeal.main_arg4))
      ∧ θ_run (Cert.UpdateProjReferenceIdeal.defs (F := Ideal)) (onTc (τ := Cert.UpdateProjReferenceIdeal.τ) (Cert.UpdateProjReferenceIdeal.main (F := Ideal))) ⟨m', fun _ => 0, g'⟩ (fun r => ∀ c : Dev Cert.UpdateProjReferenceIdeal.nD,
          r.2.mem ((c.tc : Thread Cert.UpdateProjReferenceIdeal.nD Cert.UpdateProjReferenceIdeal.τ).loc Cert.UpdateProjReferenceIdeal.main_v8) = v0 c
          ∧ r.2.mem ((c.tc : Thread Cert.UpdateProjReferenceIdeal.nD Cert.UpdateProjReferenceIdeal.τ).loc Cert.UpdateProjReferenceIdeal.main_v32) = v1 c
          ∧ r.2.mem ((c.tc : Thread Cert.UpdateProjReferenceIdeal.nD Cert.UpdateProjReferenceIdeal.τ).loc Cert.UpdateProjReferenceIdeal.main_v13) = v2 c
          ∧ r.2.mem ((c.tc : Thread Cert.UpdateProjReferenceIdeal.nD Cert.UpdateProjReferenceIdeal.τ).loc Cert.UpdateProjReferenceIdeal.main_v19) = v3 c
          ∧ r.2.mem ((c.tc : Thread Cert.UpdateProjReferenceIdeal.nD Cert.UpdateProjReferenceIdeal.τ).loc Cert.UpdateProjReferenceIdeal.main_arg0) = m' ((c.tc : Thread Cert.UpdateProjReferenceIdeal.nD Cert.UpdateProjReferenceIdeal.τ).loc Cert.UpdateProjReferenceIdeal.main_arg0)
          ∧ r.2.mem ((c.tc : Thread Cert.UpdateProjReferenceIdeal.nD Cert.UpdateProjReferenceIdeal.τ).loc Cert.UpdateProjReferenceIdeal.main_arg1) = m' ((c.tc : Thread Cert.UpdateProjReferenceIdeal.nD Cert.UpdateProjReferenceIdeal.τ).loc Cert.UpdateProjReferenceIdeal.main_arg1)
          ∧ r.2.mem ((c.tc : Thread Cert.UpdateProjReferenceIdeal.nD Cert.UpdateProjReferenceIdeal.τ).loc Cert.UpdateProjReferenceIdeal.main_arg2) = m' ((c.tc : Thread Cert.UpdateProjReferenceIdeal.nD Cert.UpdateProjReferenceIdeal.τ).loc Cert.UpdateProjReferenceIdeal.main_arg2)
          ∧ r.2.mem ((c.tc : Thread Cert.UpdateProjReferenceIdeal.nD Cert.UpdateProjReferenceIdeal.τ).loc Cert.UpdateProjReferenceIdeal.main_arg3) = m' ((c.tc : Thread Cert.UpdateProjReferenceIdeal.nD Cert.UpdateProjReferenceIdeal.τ).loc Cert.UpdateProjReferenceIdeal.main_arg3)
          ∧ r.2.mem ((c.tc : Thread Cert.UpdateProjReferenceIdeal.nD Cert.UpdateProjReferenceIdeal.τ).loc Cert.UpdateProjReferenceIdeal.main_arg4) = m' ((c.tc : Thread Cert.UpdateProjReferenceIdeal.nD Cert.UpdateProjReferenceIdeal.τ).loc Cert.UpdateProjReferenceIdeal.main_arg4))

def preserves_OutGradKernel_OutGradKernelIdeal : Prop :=
  True

def algebraic_OutGradKernelIdeal_OutGradReferenceIdeal [hOutGradKernelIdeal : Cert.OutGradKernelIdeal.Facts] [hOutGradReferenceIdeal : Cert.OutGradReferenceIdeal.Facts] : Prop :=
  ∀ (m : (ℓ : Loc Cert.OutGradKernelIdeal.nD Cert.OutGradKernelIdeal.τ Cert.OutGradKernelIdeal.sig) → Buf (Elt Ideal) ℓ) (g : Dev Cert.OutGradKernelIdeal.nD → PrngReg)
    (m' : (ℓ : Loc Cert.OutGradReferenceIdeal.nD Cert.OutGradReferenceIdeal.τ Cert.OutGradReferenceIdeal.sig) → Buf (Elt Ideal) ℓ) (g' : Dev Cert.OutGradReferenceIdeal.nD → PrngReg), Pre_OutGradKernelIdeal m →
    (∀ c : Dev Cert.OutGradKernelIdeal.nD,
      m' ((c.tc : Thread Cert.OutGradReferenceIdeal.nD Cert.OutGradReferenceIdeal.τ).loc Cert.OutGradReferenceIdeal.main_arg0) = m ((c.tc : Thread Cert.OutGradKernelIdeal.nD Cert.OutGradKernelIdeal.τ).loc Cert.OutGradKernelIdeal.main_arg0)
      ∧ m' ((c.tc : Thread Cert.OutGradReferenceIdeal.nD Cert.OutGradReferenceIdeal.τ).loc Cert.OutGradReferenceIdeal.main_arg1) = m ((c.tc : Thread Cert.OutGradKernelIdeal.nD Cert.OutGradKernelIdeal.τ).loc Cert.OutGradKernelIdeal.main_arg1)) →
    ∃ (v0 : (c : Dev Cert.OutGradKernelIdeal.nD) → Buf (Elt Ideal) ((c.tc : Thread Cert.OutGradKernelIdeal.nD Cert.OutGradKernelIdeal.τ).loc Cert.OutGradKernelIdeal.main_v2)),
      θ_run (Cert.OutGradKernelIdeal.defs (F := Ideal)) (onTc (τ := Cert.OutGradKernelIdeal.τ) (Cert.OutGradKernelIdeal.main (F := Ideal))) ⟨m, fun _ => 0, g⟩ (fun r => ∀ c : Dev Cert.OutGradKernelIdeal.nD,
          r.2.mem ((c.tc : Thread Cert.OutGradKernelIdeal.nD Cert.OutGradKernelIdeal.τ).loc Cert.OutGradKernelIdeal.main_v2) = v0 c
          ∧ r.2.mem ((c.tc : Thread Cert.OutGradKernelIdeal.nD Cert.OutGradKernelIdeal.τ).loc Cert.OutGradKernelIdeal.main_arg0) = m ((c.tc : Thread Cert.OutGradKernelIdeal.nD Cert.OutGradKernelIdeal.τ).loc Cert.OutGradKernelIdeal.main_arg0)
          ∧ r.2.mem ((c.tc : Thread Cert.OutGradKernelIdeal.nD Cert.OutGradKernelIdeal.τ).loc Cert.OutGradKernelIdeal.main_arg1) = m ((c.tc : Thread Cert.OutGradKernelIdeal.nD Cert.OutGradKernelIdeal.τ).loc Cert.OutGradKernelIdeal.main_arg1))
      ∧ θ_run (Cert.OutGradReferenceIdeal.defs (F := Ideal)) (onTc (τ := Cert.OutGradReferenceIdeal.τ) (Cert.OutGradReferenceIdeal.main (F := Ideal))) ⟨m', fun _ => 0, g'⟩ (fun r => ∀ c : Dev Cert.OutGradReferenceIdeal.nD,
          r.2.mem ((c.tc : Thread Cert.OutGradReferenceIdeal.nD Cert.OutGradReferenceIdeal.τ).loc Cert.OutGradReferenceIdeal.main_v4) = v0 c
          ∧ r.2.mem ((c.tc : Thread Cert.OutGradReferenceIdeal.nD Cert.OutGradReferenceIdeal.τ).loc Cert.OutGradReferenceIdeal.main_arg0) = m' ((c.tc : Thread Cert.OutGradReferenceIdeal.nD Cert.OutGradReferenceIdeal.τ).loc Cert.OutGradReferenceIdeal.main_arg0)
          ∧ r.2.mem ((c.tc : Thread Cert.OutGradReferenceIdeal.nD Cert.OutGradReferenceIdeal.τ).loc Cert.OutGradReferenceIdeal.main_arg1) = m' ((c.tc : Thread Cert.OutGradReferenceIdeal.nD Cert.OutGradReferenceIdeal.τ).loc Cert.OutGradReferenceIdeal.main_arg1))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)) →
    ∃ (v0 : (c : Dev Cert.OutKernelIdeal.nD) → Buf (Elt Ideal) ((c.tc : Thread Cert.OutKernelIdeal.nD Cert.OutKernelIdeal.τ).loc Cert.OutKernelIdeal.main_v3_0)) (v1 : (c : Dev Cert.OutKernelIdeal.nD) → Buf (Elt Ideal) ((c.tc : Thread Cert.OutKernelIdeal.nD Cert.OutKernelIdeal.τ).loc Cert.OutKernelIdeal.main_v3_1)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v3_0) = v0 c
          ∧ r.2.mem ((c.tc : Thread Cert.OutKernelIdeal.nD Cert.OutKernelIdeal.τ).loc Cert.OutKernelIdeal.main_v3_1) = v1 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v1) = v0 c
          ∧ r.2.mem ((c.tc : Thread Cert.OutReferenceIdeal.nD Cert.OutReferenceIdeal.τ).loc Cert.OutReferenceIdeal.main_v15) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_BlendKernel_BlendKernelIdeal : Prop :=
  True

def algebraic_BlendKernelIdeal_BlendReferenceIdeal [hBlendKernelIdeal : Cert.BlendKernelIdeal.Facts] [hBlendReferenceIdeal : Cert.BlendReferenceIdeal.Facts] : Prop :=
  ∀ (m : (ℓ : Loc Cert.BlendKernelIdeal.nD Cert.BlendKernelIdeal.τ Cert.BlendKernelIdeal.sig) → Buf (Elt Ideal) ℓ) (g : Dev Cert.BlendKernelIdeal.nD → PrngReg)
    (m' : (ℓ : Loc Cert.BlendReferenceIdeal.nD Cert.BlendReferenceIdeal.τ Cert.BlendReferenceIdeal.sig) → Buf (Elt Ideal) ℓ) (g' : Dev Cert.BlendReferenceIdeal.nD → PrngReg), Pre_BlendKernelIdeal m →
    (∀ c : Dev Cert.BlendKernelIdeal.nD,
      m' ((c.tc : Thread Cert.BlendReferenceIdeal.nD Cert.BlendReferenceIdeal.τ).loc Cert.BlendReferenceIdeal.main_arg0) = m ((c.tc : Thread Cert.BlendKernelIdeal.nD Cert.BlendKernelIdeal.τ).loc Cert.BlendKernelIdeal.main_arg0)
      ∧ m' ((c.tc : Thread Cert.BlendReferenceIdeal.nD Cert.BlendReferenceIdeal.τ).loc Cert.BlendReferenceIdeal.main_arg1) = m ((c.tc : Thread Cert.BlendKernelIdeal.nD Cert.BlendKernelIdeal.τ).loc Cert.BlendKernelIdeal.main_arg1)
      ∧ m' ((c.tc : Thread Cert.BlendReferenceIdeal.nD Cert.BlendReferenceIdeal.τ).loc Cert.BlendReferenceIdeal.main_arg2) = m ((c.tc : Thread Cert.BlendKernelIdeal.nD Cert.BlendKernelIdeal.τ).loc Cert.BlendKernelIdeal.main_arg2)
      ∧ m' ((c.tc : Thread Cert.BlendReferenceIdeal.nD Cert.BlendReferenceIdeal.τ).loc Cert.BlendReferenceIdeal.main_arg3) = m ((c.tc : Thread Cert.BlendKernelIdeal.nD Cert.BlendKernelIdeal.τ).loc Cert.BlendKernelIdeal.main_arg3)
      ∧ m' ((c.tc : Thread Cert.BlendReferenceIdeal.nD Cert.BlendReferenceIdeal.τ).loc Cert.BlendReferenceIdeal.main_arg4) = m ((c.tc : Thread Cert.BlendKernelIdeal.nD Cert.BlendKernelIdeal.τ).loc Cert.BlendKernelIdeal.main_arg4)) →
    ∃ (v0 : (c : Dev Cert.BlendKernelIdeal.nD) → Buf (Elt Ideal) ((c.tc : Thread Cert.BlendKernelIdeal.nD Cert.BlendKernelIdeal.τ).loc Cert.BlendKernelIdeal.main_v4_0)) (v1 : (c : Dev Cert.BlendKernelIdeal.nD) → Buf (Elt Ideal) ((c.tc : Thread Cert.BlendKernelIdeal.nD Cert.BlendKernelIdeal.τ).loc Cert.BlendKernelIdeal.main_v4_1)) (v2 : (c : Dev Cert.BlendKernelIdeal.nD) → Buf (Elt Ideal) ((c.tc : Thread Cert.BlendKernelIdeal.nD Cert.BlendKernelIdeal.τ).loc Cert.BlendKernelIdeal.main_v4_2)),
      θ_run (Cert.BlendKernelIdeal.defs (F := Ideal)) (onTc (τ := Cert.BlendKernelIdeal.τ) (Cert.BlendKernelIdeal.main (F := Ideal))) ⟨m, fun _ => 0, g⟩ (fun r => ∀ c : Dev Cert.BlendKernelIdeal.nD,
          r.2.mem ((c.tc : Thread Cert.BlendKernelIdeal.nD Cert.BlendKernelIdeal.τ).loc Cert.BlendKernelIdeal.main_v4_0) = v0 c
          ∧ r.2.mem ((c.tc : Thread Cert.BlendKernelIdeal.nD Cert.BlendKernelIdeal.τ).loc Cert.BlendKernelIdeal.main_v4_1) = v1 c
          ∧ r.2.mem ((c.tc : Thread Cert.BlendKernelIdeal.nD Cert.BlendKernelIdeal.τ).loc Cert.BlendKernelIdeal.main_v4_2) = v2 c
          ∧ r.2.mem ((c.tc : Thread Cert.BlendKernelIdeal.nD Cert.BlendKernelIdeal.τ).loc Cert.BlendKernelIdeal.main_arg0) = m ((c.tc : Thread Cert.BlendKernelIdeal.nD Cert.BlendKernelIdeal.τ).loc Cert.BlendKernelIdeal.main_arg0)
          ∧ r.2.mem ((c.tc : Thread Cert.BlendKernelIdeal.nD Cert.BlendKernelIdeal.τ).loc Cert.BlendKernelIdeal.main_arg1) = m ((c.tc : Thread Cert.BlendKernelIdeal.nD Cert.BlendKernelIdeal.τ).loc Cert.BlendKernelIdeal.main_arg1)
          ∧ r.2.mem ((c.tc : Thread Cert.BlendKernelIdeal.nD Cert.BlendKernelIdeal.τ).loc Cert.BlendKernelIdeal.main_arg2) = m ((c.tc : Thread Cert.BlendKernelIdeal.nD Cert.BlendKernelIdeal.τ).loc Cert.BlendKernelIdeal.main_arg2)
          ∧ r.2.mem ((c.tc : Thread Cert.BlendKernelIdeal.nD Cert.BlendKernelIdeal.τ).loc Cert.BlendKernelIdeal.main_arg3) = m ((c.tc : Thread Cert.BlendKernelIdeal.nD Cert.BlendKernelIdeal.τ).loc Cert.BlendKernelIdeal.main_arg3)
          ∧ r.2.mem ((c.tc : Thread Cert.BlendKernelIdeal.nD Cert.BlendKernelIdeal.τ).loc Cert.BlendKernelIdeal.main_arg4) = m ((c.tc : Thread Cert.BlendKernelIdeal.nD Cert.BlendKernelIdeal.τ).loc Cert.BlendKernelIdeal.main_arg4))
      ∧ θ_run (Cert.BlendReferenceIdeal.defs (F := Ideal)) (onTc (τ := Cert.BlendReferenceIdeal.τ) (Cert.BlendReferenceIdeal.main (F := Ideal))) ⟨m', fun _ => 0, g'⟩ (fun r => ∀ c : Dev Cert.BlendReferenceIdeal.nD,
          r.2.mem ((c.tc : Thread Cert.BlendReferenceIdeal.nD Cert.BlendReferenceIdeal.τ).loc Cert.BlendReferenceIdeal.main_v21) = v0 c
          ∧ r.2.mem ((c.tc : Thread Cert.BlendReferenceIdeal.nD Cert.BlendReferenceIdeal.τ).loc Cert.BlendReferenceIdeal.main_v22) = v1 c
          ∧ r.2.mem ((c.tc : Thread Cert.BlendReferenceIdeal.nD Cert.BlendReferenceIdeal.τ).loc Cert.BlendReferenceIdeal.main_v23) = v2 c
          ∧ r.2.mem ((c.tc : Thread Cert.BlendReferenceIdeal.nD Cert.BlendReferenceIdeal.τ).loc Cert.BlendReferenceIdeal.main_arg0) = m' ((c.tc : Thread Cert.BlendReferenceIdeal.nD Cert.BlendReferenceIdeal.τ).loc Cert.BlendReferenceIdeal.main_arg0)
          ∧ r.2.mem ((c.tc : Thread Cert.BlendReferenceIdeal.nD Cert.BlendReferenceIdeal.τ).loc Cert.BlendReferenceIdeal.main_arg1) = m' ((c.tc : Thread Cert.BlendReferenceIdeal.nD Cert.BlendReferenceIdeal.τ).loc Cert.BlendReferenceIdeal.main_arg1)
          ∧ r.2.mem ((c.tc : Thread Cert.BlendReferenceIdeal.nD Cert.BlendReferenceIdeal.τ).loc Cert.BlendReferenceIdeal.main_arg2) = m' ((c.tc : Thread Cert.BlendReferenceIdeal.nD Cert.BlendReferenceIdeal.τ).loc Cert.BlendReferenceIdeal.main_arg2)
          ∧ r.2.mem ((c.tc : Thread Cert.BlendReferenceIdeal.nD Cert.BlendReferenceIdeal.τ).loc Cert.BlendReferenceIdeal.main_arg3) = m' ((c.tc : Thread Cert.BlendReferenceIdeal.nD Cert.BlendReferenceIdeal.τ).loc Cert.BlendReferenceIdeal.main_arg3)
          ∧ r.2.mem ((c.tc : Thread Cert.BlendReferenceIdeal.nD Cert.BlendReferenceIdeal.τ).loc Cert.BlendReferenceIdeal.main_arg4) = m' ((c.tc : Thread Cert.BlendReferenceIdeal.nD Cert.BlendReferenceIdeal.τ).loc Cert.BlendReferenceIdeal.main_arg4))

def preserves_UnblendKernel_UnblendKernelIdeal : Prop :=
  True

def algebraic_UnblendKernelIdeal_UnblendReferenceIdeal [hUnblendKernelIdeal : Cert.UnblendKernelIdeal.Facts] [hUnblendReferenceIdeal : Cert.UnblendReferenceIdeal.Facts] : Prop :=
  ∀ (m : (ℓ : Loc Cert.UnblendKernelIdeal.nD Cert.UnblendKernelIdeal.τ Cert.UnblendKernelIdeal.sig) → Buf (Elt Ideal) ℓ) (g : Dev Cert.UnblendKernelIdeal.nD → PrngReg)
    (m' : (ℓ : Loc Cert.UnblendReferenceIdeal.nD Cert.UnblendReferenceIdeal.τ Cert.UnblendReferenceIdeal.sig) → Buf (Elt Ideal) ℓ) (g' : Dev Cert.UnblendReferenceIdeal.nD → PrngReg), Pre_UnblendKernelIdeal m →
    (∀ c : Dev Cert.UnblendKernelIdeal.nD,
      m' ((c.tc : Thread Cert.UnblendReferenceIdeal.nD Cert.UnblendReferenceIdeal.τ).loc Cert.UnblendReferenceIdeal.main_arg0) = m ((c.tc : Thread Cert.UnblendKernelIdeal.nD Cert.UnblendKernelIdeal.τ).loc Cert.UnblendKernelIdeal.main_arg0)
      ∧ m' ((c.tc : Thread Cert.UnblendReferenceIdeal.nD Cert.UnblendReferenceIdeal.τ).loc Cert.UnblendReferenceIdeal.main_arg1) = m ((c.tc : Thread Cert.UnblendKernelIdeal.nD Cert.UnblendKernelIdeal.τ).loc Cert.UnblendKernelIdeal.main_arg1)
      ∧ m' ((c.tc : Thread Cert.UnblendReferenceIdeal.nD Cert.UnblendReferenceIdeal.τ).loc Cert.UnblendReferenceIdeal.main_arg2) = m ((c.tc : Thread Cert.UnblendKernelIdeal.nD Cert.UnblendKernelIdeal.τ).loc Cert.UnblendKernelIdeal.main_arg2)
      ∧ m' ((c.tc : Thread Cert.UnblendReferenceIdeal.nD Cert.UnblendReferenceIdeal.τ).loc Cert.UnblendReferenceIdeal.main_arg3) = m ((c.tc : Thread Cert.UnblendKernelIdeal.nD Cert.UnblendKernelIdeal.τ).loc Cert.UnblendKernelIdeal.main_arg3)
      ∧ m' ((c.tc : Thread Cert.UnblendReferenceIdeal.nD Cert.UnblendReferenceIdeal.τ).loc Cert.UnblendReferenceIdeal.main_arg4) = m ((c.tc : Thread Cert.UnblendKernelIdeal.nD Cert.UnblendKernelIdeal.τ).loc Cert.UnblendKernelIdeal.main_arg4)) →
    ∃ (v0 : (c : Dev Cert.UnblendKernelIdeal.nD) → Buf (Elt Ideal) ((c.tc : Thread Cert.UnblendKernelIdeal.nD Cert.UnblendKernelIdeal.τ).loc Cert.UnblendKernelIdeal.main_v4_0)) (v1 : (c : Dev Cert.UnblendKernelIdeal.nD) → Buf (Elt Ideal) ((c.tc : Thread Cert.UnblendKernelIdeal.nD Cert.UnblendKernelIdeal.τ).loc Cert.UnblendKernelIdeal.main_v4_1)) (v2 : (c : Dev Cert.UnblendKernelIdeal.nD) → Buf (Elt Ideal) ((c.tc : Thread Cert.UnblendKernelIdeal.nD Cert.UnblendKernelIdeal.τ).loc Cert.UnblendKernelIdeal.main_v4_2)),
      θ_run (Cert.UnblendKernelIdeal.defs (F := Ideal)) (onTc (τ := Cert.UnblendKernelIdeal.τ) (Cert.UnblendKernelIdeal.main (F := Ideal))) ⟨m, fun _ => 0, g⟩ (fun r => ∀ c : Dev Cert.UnblendKernelIdeal.nD,
          r.2.mem ((c.tc : Thread Cert.UnblendKernelIdeal.nD Cert.UnblendKernelIdeal.τ).loc Cert.UnblendKernelIdeal.main_v4_0) = v0 c
          ∧ r.2.mem ((c.tc : Thread Cert.UnblendKernelIdeal.nD Cert.UnblendKernelIdeal.τ).loc Cert.UnblendKernelIdeal.main_v4_1) = v1 c
          ∧ r.2.mem ((c.tc : Thread Cert.UnblendKernelIdeal.nD Cert.UnblendKernelIdeal.τ).loc Cert.UnblendKernelIdeal.main_v4_2) = v2 c
          ∧ r.2.mem ((c.tc : Thread Cert.UnblendKernelIdeal.nD Cert.UnblendKernelIdeal.τ).loc Cert.UnblendKernelIdeal.main_arg0) = m ((c.tc : Thread Cert.UnblendKernelIdeal.nD Cert.UnblendKernelIdeal.τ).loc Cert.UnblendKernelIdeal.main_arg0)
          ∧ r.2.mem ((c.tc : Thread Cert.UnblendKernelIdeal.nD Cert.UnblendKernelIdeal.τ).loc Cert.UnblendKernelIdeal.main_arg1) = m ((c.tc : Thread Cert.UnblendKernelIdeal.nD Cert.UnblendKernelIdeal.τ).loc Cert.UnblendKernelIdeal.main_arg1)
          ∧ r.2.mem ((c.tc : Thread Cert.UnblendKernelIdeal.nD Cert.UnblendKernelIdeal.τ).loc Cert.UnblendKernelIdeal.main_arg2) = m ((c.tc : Thread Cert.UnblendKernelIdeal.nD Cert.UnblendKernelIdeal.τ).loc Cert.UnblendKernelIdeal.main_arg2)
          ∧ r.2.mem ((c.tc : Thread Cert.UnblendKernelIdeal.nD Cert.UnblendKernelIdeal.τ).loc Cert.UnblendKernelIdeal.main_arg3) = m ((c.tc : Thread Cert.UnblendKernelIdeal.nD Cert.UnblendKernelIdeal.τ).loc Cert.UnblendKernelIdeal.main_arg3)
          ∧ r.2.mem ((c.tc : Thread Cert.UnblendKernelIdeal.nD Cert.UnblendKernelIdeal.τ).loc Cert.UnblendKernelIdeal.main_arg4) = m ((c.tc : Thread Cert.UnblendKernelIdeal.nD Cert.UnblendKernelIdeal.τ).loc Cert.UnblendKernelIdeal.main_arg4))
      ∧ θ_run (Cert.UnblendReferenceIdeal.defs (F := Ideal)) (onTc (τ := Cert.UnblendReferenceIdeal.τ) (Cert.UnblendReferenceIdeal.main (F := Ideal))) ⟨m', fun _ => 0, g'⟩ (fun r => ∀ c : Dev Cert.UnblendReferenceIdeal.nD,
          r.2.mem ((c.tc : Thread Cert.UnblendReferenceIdeal.nD Cert.UnblendReferenceIdeal.τ).loc Cert.UnblendReferenceIdeal.main_v33) = v0 c
          ∧ r.2.mem ((c.tc : Thread Cert.UnblendReferenceIdeal.nD Cert.UnblendReferenceIdeal.τ).loc Cert.UnblendReferenceIdeal.main_v34) = v1 c
          ∧ r.2.mem ((c.tc : Thread Cert.UnblendReferenceIdeal.nD Cert.UnblendReferenceIdeal.τ).loc Cert.UnblendReferenceIdeal.main_v36) = v2 c
          ∧ r.2.mem ((c.tc : Thread Cert.UnblendReferenceIdeal.nD Cert.UnblendReferenceIdeal.τ).loc Cert.UnblendReferenceIdeal.main_arg0) = m' ((c.tc : Thread Cert.UnblendReferenceIdeal.nD Cert.UnblendReferenceIdeal.τ).loc Cert.UnblendReferenceIdeal.main_arg0)
          ∧ r.2.mem ((c.tc : Thread Cert.UnblendReferenceIdeal.nD Cert.UnblendReferenceIdeal.τ).loc Cert.UnblendReferenceIdeal.main_arg1) = m' ((c.tc : Thread Cert.UnblendReferenceIdeal.nD Cert.UnblendReferenceIdeal.τ).loc Cert.UnblendReferenceIdeal.main_arg1)
          ∧ r.2.mem ((c.tc : Thread Cert.UnblendReferenceIdeal.nD Cert.UnblendReferenceIdeal.τ).loc Cert.UnblendReferenceIdeal.main_arg2) = m' ((c.tc : Thread Cert.UnblendReferenceIdeal.nD Cert.UnblendReferenceIdeal.τ).loc Cert.UnblendReferenceIdeal.main_arg2)
          ∧ r.2.mem ((c.tc : Thread Cert.UnblendReferenceIdeal.nD Cert.UnblendReferenceIdeal.τ).loc Cert.UnblendReferenceIdeal.main_arg3) = m' ((c.tc : Thread Cert.UnblendReferenceIdeal.nD Cert.UnblendReferenceIdeal.τ).loc Cert.UnblendReferenceIdeal.main_arg3)
          ∧ r.2.mem ((c.tc : Thread Cert.UnblendReferenceIdeal.nD Cert.UnblendReferenceIdeal.τ).loc Cert.UnblendReferenceIdeal.main_arg4) = m' ((c.tc : Thread Cert.UnblendReferenceIdeal.nD Cert.UnblendReferenceIdeal.τ).loc Cert.UnblendReferenceIdeal.main_arg4))

def preserves_ProjGradKernel_ProjGradKernelIdeal : Prop :=
  True

def algebraic_ProjGradKernelIdeal_ProjGradReferenceIdeal [hProjGradKernelIdeal : Cert.ProjGradKernelIdeal.Facts] [hProjGradReferenceIdeal : Cert.ProjGradReferenceIdeal.Facts] : Prop :=
  ∀ (m : (ℓ : Loc Cert.ProjGradKernelIdeal.nD Cert.ProjGradKernelIdeal.τ Cert.ProjGradKernelIdeal.sig) → Buf (Elt Ideal) ℓ) (g : Dev Cert.ProjGradKernelIdeal.nD → PrngReg)
    (m' : (ℓ : Loc Cert.ProjGradReferenceIdeal.nD Cert.ProjGradReferenceIdeal.τ Cert.ProjGradReferenceIdeal.sig) → Buf (Elt Ideal) ℓ) (g' : Dev Cert.ProjGradReferenceIdeal.nD → PrngReg), Pre_ProjGradKernelIdeal m →
    (∀ c : Dev Cert.ProjGradKernelIdeal.nD,
      m' ((c.tc : Thread Cert.ProjGradReferenceIdeal.nD Cert.ProjGradReferenceIdeal.τ).loc Cert.ProjGradReferenceIdeal.main_arg0) = m ((c.tc : Thread Cert.ProjGradKernelIdeal.nD Cert.ProjGradKernelIdeal.τ).loc Cert.ProjGradKernelIdeal.main_arg0)
      ∧ m' ((c.tc : Thread Cert.ProjGradReferenceIdeal.nD Cert.ProjGradReferenceIdeal.τ).loc Cert.ProjGradReferenceIdeal.main_arg1) = m ((c.tc : Thread Cert.ProjGradKernelIdeal.nD Cert.ProjGradKernelIdeal.τ).loc Cert.ProjGradKernelIdeal.main_arg1)) →
    ∃ (v0 : (c : Dev Cert.ProjGradKernelIdeal.nD) → Buf (Elt Ideal) ((c.tc : Thread Cert.ProjGradKernelIdeal.nD Cert.ProjGradKernelIdeal.τ).loc Cert.ProjGradKernelIdeal.main_v1)),
      θ_run (Cert.ProjGradKernelIdeal.defs (F := Ideal)) (onTc (τ := Cert.ProjGradKernelIdeal.τ) (Cert.ProjGradKernelIdeal.main (F := Ideal))) ⟨m, fun _ => 0, g⟩ (fun r => ∀ c : Dev Cert.ProjGradKernelIdeal.nD,
          r.2.mem ((c.tc : Thread Cert.ProjGradKernelIdeal.nD Cert.ProjGradKernelIdeal.τ).loc Cert.ProjGradKernelIdeal.main_v1) = v0 c
          ∧ r.2.mem ((c.tc : Thread Cert.ProjGradKernelIdeal.nD Cert.ProjGradKernelIdeal.τ).loc Cert.ProjGradKernelIdeal.main_arg0) = m ((c.tc : Thread Cert.ProjGradKernelIdeal.nD Cert.ProjGradKernelIdeal.τ).loc Cert.ProjGradKernelIdeal.main_arg0)
          ∧ r.2.mem ((c.tc : Thread Cert.ProjGradKernelIdeal.nD Cert.ProjGradKernelIdeal.τ).loc Cert.ProjGradKernelIdeal.main_arg1) = m ((c.tc : Thread Cert.ProjGradKernelIdeal.nD Cert.ProjGradKernelIdeal.τ).loc Cert.ProjGradKernelIdeal.main_arg1))
      ∧ θ_run (Cert.ProjGradReferenceIdeal.defs (F := Ideal)) (onTc (τ := Cert.ProjGradReferenceIdeal.τ) (Cert.ProjGradReferenceIdeal.main (F := Ideal))) ⟨m', fun _ => 0, g'⟩ (fun r => ∀ c : Dev Cert.ProjGradReferenceIdeal.nD,
          r.2.mem ((c.tc : Thread Cert.ProjGradReferenceIdeal.nD Cert.ProjGradReferenceIdeal.τ).loc Cert.ProjGradReferenceIdeal.main_v5) = v0 c
          ∧ r.2.mem ((c.tc : Thread Cert.ProjGradReferenceIdeal.nD Cert.ProjGradReferenceIdeal.τ).loc Cert.ProjGradReferenceIdeal.main_arg0) = m' ((c.tc : Thread Cert.ProjGradReferenceIdeal.nD Cert.ProjGradReferenceIdeal.τ).loc Cert.ProjGradReferenceIdeal.main_arg0)
          ∧ r.2.mem ((c.tc : Thread Cert.ProjGradReferenceIdeal.nD Cert.ProjGradReferenceIdeal.τ).loc Cert.ProjGradReferenceIdeal.main_arg1) = m' ((c.tc : Thread Cert.ProjGradReferenceIdeal.nD Cert.ProjGradReferenceIdeal.τ).loc Cert.ProjGradReferenceIdeal.main_arg1))

def preserves_ProjBackKernel_ProjBackKernelIdeal : Prop :=
  True

def algebraic_ProjBackKernelIdeal_ProjBackReferenceIdeal [hProjBackKernelIdeal : Cert.ProjBackKernelIdeal.Facts] [hProjBackReferenceIdeal : Cert.ProjBackReferenceIdeal.Facts] : Prop :=
  ∀ (m : (ℓ : Loc Cert.ProjBackKernelIdeal.nD Cert.ProjBackKernelIdeal.τ Cert.ProjBackKernelIdeal.sig) → Buf (Elt Ideal) ℓ) (g : Dev Cert.ProjBackKernelIdeal.nD → PrngReg)
    (m' : (ℓ : Loc Cert.ProjBackReferenceIdeal.nD Cert.ProjBackReferenceIdeal.τ Cert.ProjBackReferenceIdeal.sig) → Buf (Elt Ideal) ℓ) (g' : Dev Cert.ProjBackReferenceIdeal.nD → PrngReg), Pre_ProjBackKernelIdeal m →
    (∀ c : Dev Cert.ProjBackKernelIdeal.nD,
      m' ((c.tc : Thread Cert.ProjBackReferenceIdeal.nD Cert.ProjBackReferenceIdeal.τ).loc Cert.ProjBackReferenceIdeal.main_arg0) = m ((c.tc : Thread Cert.ProjBackKernelIdeal.nD Cert.ProjBackKernelIdeal.τ).loc Cert.ProjBackKernelIdeal.main_arg0)
      ∧ m' ((c.tc : Thread Cert.ProjBackReferenceIdeal.nD Cert.ProjBackReferenceIdeal.τ).loc Cert.ProjBackReferenceIdeal.main_arg1) = m ((c.tc : Thread Cert.ProjBackKernelIdeal.nD Cert.ProjBackKernelIdeal.τ).loc Cert.ProjBackKernelIdeal.main_arg1)) →
    ∃ (v0 : (c : Dev Cert.ProjBackKernelIdeal.nD) → Buf (Elt Ideal) ((c.tc : Thread Cert.ProjBackKernelIdeal.nD Cert.ProjBackKernelIdeal.τ).loc Cert.ProjBackKernelIdeal.main_v3)),
      θ_run (Cert.ProjBackKernelIdeal.defs (F := Ideal)) (onTc (τ := Cert.ProjBackKernelIdeal.τ) (Cert.ProjBackKernelIdeal.main (F := Ideal))) ⟨m, fun _ => 0, g⟩ (fun r => ∀ c : Dev Cert.ProjBackKernelIdeal.nD,
          r.2.mem ((c.tc : Thread Cert.ProjBackKernelIdeal.nD Cert.ProjBackKernelIdeal.τ).loc Cert.ProjBackKernelIdeal.main_v3) = v0 c
          ∧ r.2.mem ((c.tc : Thread Cert.ProjBackKernelIdeal.nD Cert.ProjBackKernelIdeal.τ).loc Cert.ProjBackKernelIdeal.main_arg0) = m ((c.tc : Thread Cert.ProjBackKernelIdeal.nD Cert.ProjBackKernelIdeal.τ).loc Cert.ProjBackKernelIdeal.main_arg0)
          ∧ r.2.mem ((c.tc : Thread Cert.ProjBackKernelIdeal.nD Cert.ProjBackKernelIdeal.τ).loc Cert.ProjBackKernelIdeal.main_arg1) = m ((c.tc : Thread Cert.ProjBackKernelIdeal.nD Cert.ProjBackKernelIdeal.τ).loc Cert.ProjBackKernelIdeal.main_arg1))
      ∧ θ_run (Cert.ProjBackReferenceIdeal.defs (F := Ideal)) (onTc (τ := Cert.ProjBackReferenceIdeal.τ) (Cert.ProjBackReferenceIdeal.main (F := Ideal))) ⟨m', fun _ => 0, g'⟩ (fun r => ∀ c : Dev Cert.ProjBackReferenceIdeal.nD,
          r.2.mem ((c.tc : Thread Cert.ProjBackReferenceIdeal.nD Cert.ProjBackReferenceIdeal.τ).loc Cert.ProjBackReferenceIdeal.main_v2) = v0 c
          ∧ r.2.mem ((c.tc : Thread Cert.ProjBackReferenceIdeal.nD Cert.ProjBackReferenceIdeal.τ).loc Cert.ProjBackReferenceIdeal.main_arg0) = m' ((c.tc : Thread Cert.ProjBackReferenceIdeal.nD Cert.ProjBackReferenceIdeal.τ).loc Cert.ProjBackReferenceIdeal.main_arg0)
          ∧ r.2.mem ((c.tc : Thread Cert.ProjBackReferenceIdeal.nD Cert.ProjBackReferenceIdeal.τ).loc Cert.ProjBackReferenceIdeal.main_arg1) = m' ((c.tc : Thread Cert.ProjBackReferenceIdeal.nD Cert.ProjBackReferenceIdeal.τ).loc Cert.ProjBackReferenceIdeal.main_arg1))

def preserves_FirstNormKernel_FirstNormKernelIdeal : Prop :=
  True

def algebraic_FirstNormKernelIdeal_FirstNormReferenceIdeal [hFirstNormKernelIdeal : Cert.FirstNormKernelIdeal.Facts] [hFirstNormReferenceIdeal : Cert.FirstNormReferenceIdeal.Facts] : Prop :=
  ∀ (m : (ℓ : Loc Cert.FirstNormKernelIdeal.nD Cert.FirstNormKernelIdeal.τ Cert.FirstNormKernelIdeal.sig) → Buf (Elt Ideal) ℓ) (g : Dev Cert.FirstNormKernelIdeal.nD → PrngReg)
    (m' : (ℓ : Loc Cert.FirstNormReferenceIdeal.nD Cert.FirstNormReferenceIdeal.τ Cert.FirstNormReferenceIdeal.sig) → Buf (Elt Ideal) ℓ) (g' : Dev Cert.FirstNormReferenceIdeal.nD → PrngReg), Pre_FirstNormKernelIdeal m →
    (∀ c : Dev Cert.FirstNormKernelIdeal.nD,
      m' ((c.tc : Thread Cert.FirstNormReferenceIdeal.nD Cert.FirstNormReferenceIdeal.τ).loc Cert.FirstNormReferenceIdeal.main_arg0) = m ((c.tc : Thread Cert.FirstNormKernelIdeal.nD Cert.FirstNormKernelIdeal.τ).loc Cert.FirstNormKernelIdeal.main_arg0)
      ∧ m' ((c.tc : Thread Cert.FirstNormReferenceIdeal.nD Cert.FirstNormReferenceIdeal.τ).loc Cert.FirstNormReferenceIdeal.main_arg1) = m ((c.tc : Thread Cert.FirstNormKernelIdeal.nD Cert.FirstNormKernelIdeal.τ).loc Cert.FirstNormKernelIdeal.main_arg1)) →
    ∃ (v0 : (c : Dev Cert.FirstNormKernelIdeal.nD) → Buf (Elt Ideal) ((c.tc : Thread Cert.FirstNormKernelIdeal.nD Cert.FirstNormKernelIdeal.τ).loc Cert.FirstNormKernelIdeal.main_v1)),
      θ_run (Cert.FirstNormKernelIdeal.defs (F := Ideal)) (onTc (τ := Cert.FirstNormKernelIdeal.τ) (Cert.FirstNormKernelIdeal.main (F := Ideal))) ⟨m, fun _ => 0, g⟩ (fun r => ∀ c : Dev Cert.FirstNormKernelIdeal.nD,
          r.2.mem ((c.tc : Thread Cert.FirstNormKernelIdeal.nD Cert.FirstNormKernelIdeal.τ).loc Cert.FirstNormKernelIdeal.main_v1) = v0 c
          ∧ r.2.mem ((c.tc : Thread Cert.FirstNormKernelIdeal.nD Cert.FirstNormKernelIdeal.τ).loc Cert.FirstNormKernelIdeal.main_arg0) = m ((c.tc : Thread Cert.FirstNormKernelIdeal.nD Cert.FirstNormKernelIdeal.τ).loc Cert.FirstNormKernelIdeal.main_arg0)
          ∧ r.2.mem ((c.tc : Thread Cert.FirstNormKernelIdeal.nD Cert.FirstNormKernelIdeal.τ).loc Cert.FirstNormKernelIdeal.main_arg1) = m ((c.tc : Thread Cert.FirstNormKernelIdeal.nD Cert.FirstNormKernelIdeal.τ).loc Cert.FirstNormKernelIdeal.main_arg1))
      ∧ θ_run (Cert.FirstNormReferenceIdeal.defs (F := Ideal)) (onTc (τ := Cert.FirstNormReferenceIdeal.τ) (Cert.FirstNormReferenceIdeal.main (F := Ideal))) ⟨m', fun _ => 0, g'⟩ (fun r => ∀ c : Dev Cert.FirstNormReferenceIdeal.nD,
          r.2.mem ((c.tc : Thread Cert.FirstNormReferenceIdeal.nD Cert.FirstNormReferenceIdeal.τ).loc Cert.FirstNormReferenceIdeal.main_v13) = v0 c
          ∧ r.2.mem ((c.tc : Thread Cert.FirstNormReferenceIdeal.nD Cert.FirstNormReferenceIdeal.τ).loc Cert.FirstNormReferenceIdeal.main_arg0) = m' ((c.tc : Thread Cert.FirstNormReferenceIdeal.nD Cert.FirstNormReferenceIdeal.τ).loc Cert.FirstNormReferenceIdeal.main_arg0)
          ∧ r.2.mem ((c.tc : Thread Cert.FirstNormReferenceIdeal.nD Cert.FirstNormReferenceIdeal.τ).loc Cert.FirstNormReferenceIdeal.main_arg1) = m' ((c.tc : Thread Cert.FirstNormReferenceIdeal.nD Cert.FirstNormReferenceIdeal.τ).loc Cert.FirstNormReferenceIdeal.main_arg1))

def preserves_LastKernel_LastKernelIdeal : Prop :=
  True

def algebraic_LastKernelIdeal_LastReferenceIdeal [hLastKernelIdeal : Cert.LastKernelIdeal.Facts] [hLastReferenceIdeal : Cert.LastReferenceIdeal.Facts] : Prop :=
  ∀ (m : (ℓ : Loc Cert.LastKernelIdeal.nD Cert.LastKernelIdeal.τ Cert.LastKernelIdeal.sig) → Buf (Elt Ideal) ℓ) (g : Dev Cert.LastKernelIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastKernelIdeal m →
    (∀ c : Dev Cert.LastKernelIdeal.nD,
      m' ((c.tc : Thread Cert.LastReferenceIdeal.nD Cert.LastReferenceIdeal.τ).loc Cert.LastReferenceIdeal.main_arg0) = m ((c.tc : Thread Cert.LastKernelIdeal.nD Cert.LastKernelIdeal.τ).loc Cert.LastKernelIdeal.main_arg0)
      ∧ m' ((c.tc : Thread Cert.LastReferenceIdeal.nD Cert.LastReferenceIdeal.τ).loc Cert.LastReferenceIdeal.main_arg1) = m ((c.tc : Thread Cert.LastKernelIdeal.nD Cert.LastKernelIdeal.τ).loc Cert.LastKernelIdeal.main_arg1)
      ∧ m' ((c.tc : Thread Cert.LastReferenceIdeal.nD Cert.LastReferenceIdeal.τ).loc Cert.LastReferenceIdeal.main_arg2) = m ((c.tc : Thread Cert.LastKernelIdeal.nD Cert.LastKernelIdeal.τ).loc Cert.LastKernelIdeal.main_arg2)) →
    ∃ (v0 : (c : Dev Cert.LastKernelIdeal.nD) → Buf (Elt Ideal) ((c.tc : Thread Cert.LastKernelIdeal.nD Cert.LastKernelIdeal.τ).loc Cert.LastKernelIdeal.main_v2)),
      θ_run (Cert.LastKernelIdeal.defs (F := Ideal)) (onTc (τ := Cert.LastKernelIdeal.τ) (Cert.LastKernelIdeal.main (F := Ideal))) ⟨m, fun _ => 0, g⟩ (fun r => ∀ c : Dev Cert.LastKernelIdeal.nD,
          r.2.mem ((c.tc : Thread Cert.LastKernelIdeal.nD Cert.LastKernelIdeal.τ).loc Cert.LastKernelIdeal.main_v2) = v0 c
          ∧ r.2.mem ((c.tc : Thread Cert.LastKernelIdeal.nD Cert.LastKernelIdeal.τ).loc Cert.LastKernelIdeal.main_arg0) = m ((c.tc : Thread Cert.LastKernelIdeal.nD Cert.LastKernelIdeal.τ).loc Cert.LastKernelIdeal.main_arg0)
          ∧ r.2.mem ((c.tc : Thread Cert.LastKernelIdeal.nD Cert.LastKernelIdeal.τ).loc Cert.LastKernelIdeal.main_arg1) = m ((c.tc : Thread Cert.LastKernelIdeal.nD Cert.LastKernelIdeal.τ).loc Cert.LastKernelIdeal.main_arg1)
          ∧ r.2.mem ((c.tc : Thread Cert.LastKernelIdeal.nD Cert.LastKernelIdeal.τ).loc Cert.LastKernelIdeal.main_arg2) = m ((c.tc : Thread Cert.LastKernelIdeal.nD Cert.LastKernelIdeal.τ).loc Cert.LastKernelIdeal.main_arg2))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v3) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2))

def preserves_InnerKernel_InnerKernelIdeal : Prop :=
  True

def algebraic_InnerKernelIdeal_InnerReferenceIdeal [hInnerKernelIdeal : Cert.InnerKernelIdeal.Facts] [hInnerReferenceIdeal : Cert.InnerReferenceIdeal.Facts] : Prop :=
  ∀ (m : (ℓ : Loc Cert.InnerKernelIdeal.nD Cert.InnerKernelIdeal.τ Cert.InnerKernelIdeal.sig) → Buf (Elt Ideal) ℓ) (g : Dev Cert.InnerKernelIdeal.nD → PrngReg)
    (m' : (ℓ : Loc Cert.InnerReferenceIdeal.nD Cert.InnerReferenceIdeal.τ Cert.InnerReferenceIdeal.sig) → Buf (Elt Ideal) ℓ) (g' : Dev Cert.InnerReferenceIdeal.nD → PrngReg), Pre_InnerKernelIdeal m →
    (∀ c : Dev Cert.InnerKernelIdeal.nD,
      m' ((c.tc : Thread Cert.InnerReferenceIdeal.nD Cert.InnerReferenceIdeal.τ).loc Cert.InnerReferenceIdeal.main_arg0) = m ((c.tc : Thread Cert.InnerKernelIdeal.nD Cert.InnerKernelIdeal.τ).loc Cert.InnerKernelIdeal.main_arg0)
      ∧ m' ((c.tc : Thread Cert.InnerReferenceIdeal.nD Cert.InnerReferenceIdeal.τ).loc Cert.InnerReferenceIdeal.main_arg1) = m ((c.tc : Thread Cert.InnerKernelIdeal.nD Cert.InnerKernelIdeal.τ).loc Cert.InnerKernelIdeal.main_arg1)) →
    ∃ (v0 : (c : Dev Cert.InnerKernelIdeal.nD) → Buf (Elt Ideal) ((c.tc : Thread Cert.InnerKernelIdeal.nD Cert.InnerKernelIdeal.τ).loc Cert.InnerKernelIdeal.main_v0)),
      θ_run (Cert.InnerKernelIdeal.defs (F := Ideal)) (onTc (τ := Cert.InnerKernelIdeal.τ) (Cert.InnerKernelIdeal.main (F := Ideal))) ⟨m, fun _ => 0, g⟩ (fun r => ∀ c : Dev Cert.InnerKernelIdeal.nD,
          r.2.mem ((c.tc : Thread Cert.InnerKernelIdeal.nD Cert.InnerKernelIdeal.τ).loc Cert.InnerKernelIdeal.main_v0) = v0 c
          ∧ r.2.mem ((c.tc : Thread Cert.InnerKernelIdeal.nD Cert.InnerKernelIdeal.τ).loc Cert.InnerKernelIdeal.main_arg0) = m ((c.tc : Thread Cert.InnerKernelIdeal.nD Cert.InnerKernelIdeal.τ).loc Cert.InnerKernelIdeal.main_arg0)
          ∧ r.2.mem ((c.tc : Thread Cert.InnerKernelIdeal.nD Cert.InnerKernelIdeal.τ).loc Cert.InnerKernelIdeal.main_arg1) = m ((c.tc : Thread Cert.InnerKernelIdeal.nD Cert.InnerKernelIdeal.τ).loc Cert.InnerKernelIdeal.main_arg1))
      ∧ θ_run (Cert.InnerReferenceIdeal.defs (F := Ideal)) (onTc (τ := Cert.InnerReferenceIdeal.τ) (Cert.InnerReferenceIdeal.main (F := Ideal))) ⟨m', fun _ => 0, g'⟩ (fun r => ∀ c : Dev Cert.InnerReferenceIdeal.nD,
          r.2.mem ((c.tc : Thread Cert.InnerReferenceIdeal.nD Cert.InnerReferenceIdeal.τ).loc Cert.InnerReferenceIdeal.main_v6) = v0 c
          ∧ r.2.mem ((c.tc : Thread Cert.InnerReferenceIdeal.nD Cert.InnerReferenceIdeal.τ).loc Cert.InnerReferenceIdeal.main_arg0) = m' ((c.tc : Thread Cert.InnerReferenceIdeal.nD Cert.InnerReferenceIdeal.τ).loc Cert.InnerReferenceIdeal.main_arg0)
          ∧ r.2.mem ((c.tc : Thread Cert.InnerReferenceIdeal.nD Cert.InnerReferenceIdeal.τ).loc Cert.InnerReferenceIdeal.main_arg1) = m' ((c.tc : Thread Cert.InnerReferenceIdeal.nD Cert.InnerReferenceIdeal.τ).loc Cert.InnerReferenceIdeal.main_arg1))

def preserves_LossKernel_LossKernelIdeal : Prop :=
  True

def algebraic_LossKernelIdeal_LossReferenceIdeal_pre_loss_finite [hLossKernelIdeal : Cert.LossKernelIdeal.Facts] [hLossReferenceIdeal : Cert.LossReferenceIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_loss_finite m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v1_0)) (v1 : (c : Dev Cert.LossKernelIdeal.nD) → Buf (Elt Ideal) ((c.tc : Thread Cert.LossKernelIdeal.nD Cert.LossKernelIdeal.τ).loc Cert.LossKernelIdeal.main_v1_1)) (v2 : (c : Dev Cert.LossKernelIdeal.nD) → Buf (Elt Ideal) ((c.tc : Thread Cert.LossKernelIdeal.nD Cert.LossKernelIdeal.τ).loc Cert.LossKernelIdeal.main_v1_2)) (v3 : (c : Dev Cert.LossKernelIdeal.nD) → Buf (Elt Ideal) ((c.tc : Thread Cert.LossKernelIdeal.nD Cert.LossKernelIdeal.τ).loc Cert.LossKernelIdeal.main_v1_3)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v1_0) = v0 c
          ∧ r.2.mem ((c.tc : Thread Cert.LossKernelIdeal.nD Cert.LossKernelIdeal.τ).loc Cert.LossKernelIdeal.main_v1_1) = v1 c
          ∧ r.2.mem ((c.tc : Thread Cert.LossKernelIdeal.nD Cert.LossKernelIdeal.τ).loc Cert.LossKernelIdeal.main_v1_2) = v2 c
          ∧ r.2.mem ((c.tc : Thread Cert.LossKernelIdeal.nD Cert.LossKernelIdeal.τ).loc Cert.LossKernelIdeal.main_v1_3) = v3 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v50) = v0 c
          ∧ r.2.mem ((c.tc : Thread Cert.LossReferenceIdeal.nD Cert.LossReferenceIdeal.τ).loc Cert.LossReferenceIdeal.main_v51) = v1 c
          ∧ r.2.mem ((c.tc : Thread Cert.LossReferenceIdeal.nD Cert.LossReferenceIdeal.τ).loc Cert.LossReferenceIdeal.main_v52) = v2 c
          ∧ r.2.mem ((c.tc : Thread Cert.LossReferenceIdeal.nD Cert.LossReferenceIdeal.τ).loc Cert.LossReferenceIdeal.main_v53) = v3 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def Claim : Prop :=
  ∃ (hKernel : Cert.Kernel.Facts) (hKernelIdeal : Cert.KernelIdeal.Facts) (hReferenceIdeal : Cert.ReferenceIdeal.Facts) (hNormKernel : Cert.NormKernel.Facts) (hNormKernelIdeal : Cert.NormKernelIdeal.Facts) (hNormReferenceIdeal : Cert.NormReferenceIdeal.Facts) (hGluKernel : Cert.GluKernel.Facts) (hGluKernelIdeal : Cert.GluKernelIdeal.Facts) (hGluReferenceIdeal : Cert.GluReferenceIdeal.Facts) (hDownKernel : Cert.DownKernel.Facts) (hDownKernelIdeal : Cert.DownKernelIdeal.Facts) (hDownReferenceIdeal : Cert.DownReferenceIdeal.Facts) (hGateKernel : Cert.GateKernel.Facts) (hGateKernelIdeal : Cert.GateKernelIdeal.Facts) (hGateReferenceIdeal : Cert.GateReferenceIdeal.Facts) (hHiddenKernel : Cert.HiddenKernel.Facts) (hHiddenKernelIdeal : Cert.HiddenKernelIdeal.Facts) (hHiddenReferenceIdeal : Cert.HiddenReferenceIdeal.Facts) (hMixKernel : Cert.MixKernel.Facts) (hMixKernelIdeal : Cert.MixKernelIdeal.Facts) (hMixReferenceIdeal : Cert.MixReferenceIdeal.Facts) (hInGradKernel : Cert.InGradKernel.Facts) (hInGradKernelIdeal : Cert.InGradKernelIdeal.Facts) (hInGradReferenceIdeal : Cert.InGradReferenceIdeal.Facts) (hIntoKernel : Cert.IntoKernel.Facts) (hIntoKernelIdeal : Cert.IntoKernelIdeal.Facts) (hIntoReferenceIdeal : Cert.IntoReferenceIdeal.Facts) (hResidualKernel : Cert.ResidualKernel.Facts) (hResidualKernelIdeal : Cert.ResidualKernelIdeal.Facts) (hResidualReferenceIdeal : Cert.ResidualReferenceIdeal.Facts) (hUpdateKernel : Cert.UpdateKernel.Facts) (hUpdateKernelIdeal : Cert.UpdateKernelIdeal.Facts) (hUpdateReferenceIdeal : Cert.UpdateReferenceIdeal.Facts) (hGainKernel : Cert.GainKernel.Facts) (hGainKernelIdeal : Cert.GainKernelIdeal.Facts) (hGainReferenceIdeal : Cert.GainReferenceIdeal.Facts) (hSumKernel : Cert.SumKernel.Facts) (hSumKernelIdeal : Cert.SumKernelIdeal.Facts) (hSumReferenceIdeal : Cert.SumReferenceIdeal.Facts) (hUpdateOutKernel : Cert.UpdateOutKernel.Facts) (hUpdateOutKernelIdeal : Cert.UpdateOutKernelIdeal.Facts) (hUpdateOutReferenceIdeal : Cert.UpdateOutReferenceIdeal.Facts) (hUpdateInKernel : Cert.UpdateInKernel.Facts) (hUpdateInKernelIdeal : Cert.UpdateInKernelIdeal.Facts) (hUpdateInReferenceIdeal : Cert.UpdateInReferenceIdeal.Facts) (hUpdateProjKernel : Cert.UpdateProjKernel.Facts) (hUpdateProjKernelIdeal : Cert.UpdateProjKernelIdeal.Facts) (hUpdateProjReferenceIdeal : Cert.UpdateProjReferenceIdeal.Facts) (hOutGradKernel : Cert.OutGradKernel.Facts) (hOutGradKernelIdeal : Cert.OutGradKernelIdeal.Facts) (hOutGradReferenceIdeal : Cert.OutGradReferenceIdeal.Facts) (hOutKernel : Cert.OutKernel.Facts) (hOutKernelIdeal : Cert.OutKernelIdeal.Facts) (hOutReferenceIdeal : Cert.OutReferenceIdeal.Facts) (hBlendKernel : Cert.BlendKernel.Facts) (hBlendKernelIdeal : Cert.BlendKernelIdeal.Facts) (hBlendReferenceIdeal : Cert.BlendReferenceIdeal.Facts) (hUnblendKernel : Cert.UnblendKernel.Facts) (hUnblendKernelIdeal : Cert.UnblendKernelIdeal.Facts) (hUnblendReferenceIdeal : Cert.UnblendReferenceIdeal.Facts) (hProjGradKernel : Cert.ProjGradKernel.Facts) (hProjGradKernelIdeal : Cert.ProjGradKernelIdeal.Facts) (hProjGradReferenceIdeal : Cert.ProjGradReferenceIdeal.Facts) (hProjBackKernel : Cert.ProjBackKernel.Facts) (hProjBackKernelIdeal : Cert.ProjBackKernelIdeal.Facts) (hProjBackReferenceIdeal : Cert.ProjBackReferenceIdeal.Facts) (hFirstNormKernel : Cert.FirstNormKernel.Facts) (hFirstNormKernelIdeal : Cert.FirstNormKernelIdeal.Facts) (hFirstNormReferenceIdeal : Cert.FirstNormReferenceIdeal.Facts) (hLastKernel : Cert.LastKernel.Facts) (hLastKernelIdeal : Cert.LastKernelIdeal.Facts) (hLastReferenceIdeal : Cert.LastReferenceIdeal.Facts) (hInnerKernel : Cert.InnerKernel.Facts) (hInnerKernelIdeal : Cert.InnerKernelIdeal.Facts) (hInnerReferenceIdeal : Cert.InnerReferenceIdeal.Facts) (hLossKernel : Cert.LossKernel.Facts) (hLossKernelIdeal : Cert.LossKernelIdeal.Facts) (hLossReferenceIdeal : Cert.LossReferenceIdeal.Facts) (hPre_finite : Cert.Pre_finite.Facts) (hPre_norm_finite : Cert.Pre_norm_finite.Facts) (hPre_glu_finite : Cert.Pre_glu_finite.Facts) (hPre_hidden_finite : Cert.Pre_hidden_finite.Facts) (hPre_mix_finite : Cert.Pre_mix_finite.Facts) (hPre_loss_finite : Cert.Pre_loss_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_NormKernel (hNormKernel := hNormKernel)
    ∧ quiescent_NormKernelIdeal (hNormKernelIdeal := hNormKernelIdeal)
    ∧ quiescent_NormKernelIdeal_pre_norm_finite (hNormKernelIdeal := hNormKernelIdeal) (hPre_norm_finite := hPre_norm_finite)
    ∧ quiescent_NormReferenceIdeal (hNormReferenceIdeal := hNormReferenceIdeal)
    ∧ quiescent_NormReferenceIdeal_pre_norm_finite (hNormReferenceIdeal := hNormReferenceIdeal) (hPre_norm_finite := hPre_norm_finite)
    ∧ quiescent_GluKernel (hGluKernel := hGluKernel)
    ∧ quiescent_GluKernelIdeal (hGluKernelIdeal := hGluKernelIdeal)
    ∧ quiescent_GluKernelIdeal_pre_glu_finite (hGluKernelIdeal := hGluKernelIdeal) (hPre_glu_finite := hPre_glu_finite)
    ∧ quiescent_GluReferenceIdeal (hGluReferenceIdeal := hGluReferenceIdeal)
    ∧ quiescent_GluReferenceIdeal_pre_glu_finite (hGluReferenceIdeal := hGluReferenceIdeal) (hPre_glu_finite := hPre_glu_finite)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_HiddenKernel (hHiddenKernel := hHiddenKernel)
    ∧ quiescent_HiddenKernelIdeal (hHiddenKernelIdeal := hHiddenKernelIdeal)
    ∧ quiescent_HiddenKernelIdeal_pre_hidden_finite (hHiddenKernelIdeal := hHiddenKernelIdeal) (hPre_hidden_finite := hPre_hidden_finite)
    ∧ quiescent_HiddenReferenceIdeal (hHiddenReferenceIdeal := hHiddenReferenceIdeal)
    ∧ quiescent_HiddenReferenceIdeal_pre_hidden_finite (hHiddenReferenceIdeal := hHiddenReferenceIdeal) (hPre_hidden_finite := hPre_hidden_finite)
    ∧ quiescent_MixKernel (hMixKernel := hMixKernel)
    ∧ quiescent_MixKernelIdeal (hMixKernelIdeal := hMixKernelIdeal)
    ∧ quiescent_MixKernelIdeal_pre_mix_finite (hMixKernelIdeal := hMixKernelIdeal) (hPre_mix_finite := hPre_mix_finite)
    ∧ quiescent_MixReferenceIdeal (hMixReferenceIdeal := hMixReferenceIdeal)
    ∧ quiescent_MixReferenceIdeal_pre_mix_finite (hMixReferenceIdeal := hMixReferenceIdeal) (hPre_mix_finite := hPre_mix_finite)
    ∧ quiescent_InGradKernel (hInGradKernel := hInGradKernel)
    ∧ quiescent_InGradKernelIdeal (hInGradKernelIdeal := hInGradKernelIdeal)
    ∧ quiescent_InGradReferenceIdeal (hInGradReferenceIdeal := hInGradReferenceIdeal)
    ∧ quiescent_IntoKernel (hIntoKernel := hIntoKernel)
    ∧ quiescent_IntoKernelIdeal (hIntoKernelIdeal := hIntoKernelIdeal)
    ∧ quiescent_IntoReferenceIdeal (hIntoReferenceIdeal := hIntoReferenceIdeal)
    ∧ quiescent_ResidualKernel (hResidualKernel := hResidualKernel)
    ∧ quiescent_ResidualKernelIdeal (hResidualKernelIdeal := hResidualKernelIdeal)
    ∧ quiescent_ResidualReferenceIdeal (hResidualReferenceIdeal := hResidualReferenceIdeal)
    ∧ quiescent_UpdateKernel (hUpdateKernel := hUpdateKernel)
    ∧ quiescent_UpdateKernelIdeal (hUpdateKernelIdeal := hUpdateKernelIdeal)
    ∧ quiescent_UpdateReferenceIdeal (hUpdateReferenceIdeal := hUpdateReferenceIdeal)
    ∧ quiescent_GainKernel (hGainKernel := hGainKernel)
    ∧ quiescent_GainKernelIdeal (hGainKernelIdeal := hGainKernelIdeal)
    ∧ quiescent_GainReferenceIdeal (hGainReferenceIdeal := hGainReferenceIdeal)
    ∧ quiescent_SumKernel (hSumKernel := hSumKernel)
    ∧ quiescent_SumKernelIdeal (hSumKernelIdeal := hSumKernelIdeal)
    ∧ quiescent_SumReferenceIdeal (hSumReferenceIdeal := hSumReferenceIdeal)
    ∧ quiescent_UpdateOutKernel (hUpdateOutKernel := hUpdateOutKernel)
    ∧ quiescent_UpdateOutKernelIdeal (hUpdateOutKernelIdeal := hUpdateOutKernelIdeal)
    ∧ quiescent_UpdateOutReferenceIdeal (hUpdateOutReferenceIdeal := hUpdateOutReferenceIdeal)
    ∧ quiescent_UpdateInKernel (hUpdateInKernel := hUpdateInKernel)
    ∧ quiescent_UpdateInKernelIdeal (hUpdateInKernelIdeal := hUpdateInKernelIdeal)
    ∧ quiescent_UpdateInReferenceIdeal (hUpdateInReferenceIdeal := hUpdateInReferenceIdeal)
    ∧ quiescent_UpdateProjKernel (hUpdateProjKernel := hUpdateProjKernel)
    ∧ quiescent_UpdateProjKernelIdeal (hUpdateProjKernelIdeal := hUpdateProjKernelIdeal)
    ∧ quiescent_UpdateProjReferenceIdeal (hUpdateProjReferenceIdeal := hUpdateProjReferenceIdeal)
    ∧ quiescent_OutGradKernel (hOutGradKernel := hOutGradKernel)
    ∧ quiescent_OutGradKernelIdeal (hOutGradKernelIdeal := hOutGradKernelIdeal)
    ∧ quiescent_OutGradReferenceIdeal (hOutGradReferenceIdeal := hOutGradReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_BlendKernel (hBlendKernel := hBlendKernel)
    ∧ quiescent_BlendKernelIdeal (hBlendKernelIdeal := hBlendKernelIdeal)
    ∧ quiescent_BlendReferenceIdeal (hBlendReferenceIdeal := hBlendReferenceIdeal)
    ∧ quiescent_UnblendKernel (hUnblendKernel := hUnblendKernel)
    ∧ quiescent_UnblendKernelIdeal (hUnblendKernelIdeal := hUnblendKernelIdeal)
    ∧ quiescent_UnblendReferenceIdeal (hUnblendReferenceIdeal := hUnblendReferenceIdeal)
    ∧ quiescent_ProjGradKernel (hProjGradKernel := hProjGradKernel)
    ∧ quiescent_ProjGradKernelIdeal (hProjGradKernelIdeal := hProjGradKernelIdeal)
    ∧ quiescent_ProjGradReferenceIdeal (hProjGradReferenceIdeal := hProjGradReferenceIdeal)
    ∧ quiescent_ProjBackKernel (hProjBackKernel := hProjBackKernel)
    ∧ quiescent_ProjBackKernelIdeal (hProjBackKernelIdeal := hProjBackKernelIdeal)
    ∧ quiescent_ProjBackReferenceIdeal (hProjBackReferenceIdeal := hProjBackReferenceIdeal)
    ∧ quiescent_FirstNormKernel (hFirstNormKernel := hFirstNormKernel)
    ∧ quiescent_FirstNormKernelIdeal (hFirstNormKernelIdeal := hFirstNormKernelIdeal)
    ∧ quiescent_FirstNormReferenceIdeal (hFirstNormReferenceIdeal := hFirstNormReferenceIdeal)
    ∧ quiescent_LastKernel (hLastKernel := hLastKernel)
    ∧ quiescent_LastKernelIdeal (hLastKernelIdeal := hLastKernelIdeal)
    ∧ quiescent_LastReferenceIdeal (hLastReferenceIdeal := hLastReferenceIdeal)
    ∧ quiescent_InnerKernel (hInnerKernel := hInnerKernel)
    ∧ quiescent_InnerKernelIdeal (hInnerKernelIdeal := hInnerKernelIdeal)
    ∧ quiescent_InnerReferenceIdeal (hInnerReferenceIdeal := hInnerReferenceIdeal)
    ∧ quiescent_LossKernel (hLossKernel := hLossKernel)
    ∧ quiescent_LossKernelIdeal (hLossKernelIdeal := hLossKernelIdeal)
    ∧ quiescent_LossKernelIdeal_pre_loss_finite (hLossKernelIdeal := hLossKernelIdeal) (hPre_loss_finite := hPre_loss_finite)
    ∧ quiescent_LossReferenceIdeal (hLossReferenceIdeal := hLossReferenceIdeal)
    ∧ quiescent_LossReferenceIdeal_pre_loss_finite (hLossReferenceIdeal := hLossReferenceIdeal) (hPre_loss_finite := hPre_loss_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_NormKernel_NormKernelIdeal
    ∧ algebraic_NormKernelIdeal_NormReferenceIdeal_pre_norm_finite (hNormKernelIdeal := hNormKernelIdeal) (hNormReferenceIdeal := hNormReferenceIdeal) (hPre_norm_finite := hPre_norm_finite)
    ∧ preserves_GluKernel_GluKernelIdeal
    ∧ algebraic_GluKernelIdeal_GluReferenceIdeal_pre_glu_finite (hGluKernelIdeal := hGluKernelIdeal) (hGluReferenceIdeal := hGluReferenceIdeal) (hPre_glu_finite := hPre_glu_finite)
    ∧ preserves_DownKernel_DownKernelIdeal
    ∧ algebraic_DownKernelIdeal_DownReferenceIdeal (hDownKernelIdeal := hDownKernelIdeal) (hDownReferenceIdeal := hDownReferenceIdeal)
    ∧ preserves_GateKernel_GateKernelIdeal
    ∧ algebraic_GateKernelIdeal_GateReferenceIdeal (hGateKernelIdeal := hGateKernelIdeal) (hGateReferenceIdeal := hGateReferenceIdeal)
    ∧ preserves_HiddenKernel_HiddenKernelIdeal
    ∧ algebraic_HiddenKernelIdeal_HiddenReferenceIdeal_pre_hidden_finite (hHiddenKernelIdeal := hHiddenKernelIdeal) (hHiddenReferenceIdeal := hHiddenReferenceIdeal) (hPre_hidden_finite := hPre_hidden_finite)
    ∧ preserves_MixKernel_MixKernelIdeal
    ∧ algebraic_MixKernelIdeal_MixReferenceIdeal_pre_mix_finite (hMixKernelIdeal := hMixKernelIdeal) (hMixReferenceIdeal := hMixReferenceIdeal) (hPre_mix_finite := hPre_mix_finite)
    ∧ preserves_InGradKernel_InGradKernelIdeal
    ∧ algebraic_InGradKernelIdeal_InGradReferenceIdeal (hInGradKernelIdeal := hInGradKernelIdeal) (hInGradReferenceIdeal := hInGradReferenceIdeal)
    ∧ preserves_IntoKernel_IntoKernelIdeal
    ∧ algebraic_IntoKernelIdeal_IntoReferenceIdeal (hIntoKernelIdeal := hIntoKernelIdeal) (hIntoReferenceIdeal := hIntoReferenceIdeal)
    ∧ preserves_ResidualKernel_ResidualKernelIdeal
    ∧ algebraic_ResidualKernelIdeal_ResidualReferenceIdeal (hResidualKernelIdeal := hResidualKernelIdeal) (hResidualReferenceIdeal := hResidualReferenceIdeal)
    ∧ preserves_UpdateKernel_UpdateKernelIdeal
    ∧ algebraic_UpdateKernelIdeal_UpdateReferenceIdeal (hUpdateKernelIdeal := hUpdateKernelIdeal) (hUpdateReferenceIdeal := hUpdateReferenceIdeal)
    ∧ preserves_GainKernel_GainKernelIdeal
    ∧ algebraic_GainKernelIdeal_GainReferenceIdeal (hGainKernelIdeal := hGainKernelIdeal) (hGainReferenceIdeal := hGainReferenceIdeal)
    ∧ preserves_SumKernel_SumKernelIdeal
    ∧ algebraic_SumKernelIdeal_SumReferenceIdeal (hSumKernelIdeal := hSumKernelIdeal) (hSumReferenceIdeal := hSumReferenceIdeal)
    ∧ preserves_UpdateOutKernel_UpdateOutKernelIdeal
    ∧ algebraic_UpdateOutKernelIdeal_UpdateOutReferenceIdeal (hUpdateOutKernelIdeal := hUpdateOutKernelIdeal) (hUpdateOutReferenceIdeal := hUpdateOutReferenceIdeal)
    ∧ preserves_UpdateInKernel_UpdateInKernelIdeal
    ∧ algebraic_UpdateInKernelIdeal_UpdateInReferenceIdeal (hUpdateInKernelIdeal := hUpdateInKernelIdeal) (hUpdateInReferenceIdeal := hUpdateInReferenceIdeal)
    ∧ preserves_UpdateProjKernel_UpdateProjKernelIdeal
    ∧ algebraic_UpdateProjKernelIdeal_UpdateProjReferenceIdeal (hUpdateProjKernelIdeal := hUpdateProjKernelIdeal) (hUpdateProjReferenceIdeal := hUpdateProjReferenceIdeal)
    ∧ preserves_OutGradKernel_OutGradKernelIdeal
    ∧ algebraic_OutGradKernelIdeal_OutGradReferenceIdeal (hOutGradKernelIdeal := hOutGradKernelIdeal) (hOutGradReferenceIdeal := hOutGradReferenceIdeal)
    ∧ preserves_OutKernel_OutKernelIdeal
    ∧ algebraic_OutKernelIdeal_OutReferenceIdeal (hOutKernelIdeal := hOutKernelIdeal) (hOutReferenceIdeal := hOutReferenceIdeal)
    ∧ preserves_BlendKernel_BlendKernelIdeal
    ∧ algebraic_BlendKernelIdeal_BlendReferenceIdeal (hBlendKernelIdeal := hBlendKernelIdeal) (hBlendReferenceIdeal := hBlendReferenceIdeal)
    ∧ preserves_UnblendKernel_UnblendKernelIdeal
    ∧ algebraic_UnblendKernelIdeal_UnblendReferenceIdeal (hUnblendKernelIdeal := hUnblendKernelIdeal) (hUnblendReferenceIdeal := hUnblendReferenceIdeal)
    ∧ preserves_ProjGradKernel_ProjGradKernelIdeal
    ∧ algebraic_ProjGradKernelIdeal_ProjGradReferenceIdeal (hProjGradKernelIdeal := hProjGradKernelIdeal) (hProjGradReferenceIdeal := hProjGradReferenceIdeal)
    ∧ preserves_ProjBackKernel_ProjBackKernelIdeal
    ∧ algebraic_ProjBackKernelIdeal_ProjBackReferenceIdeal (hProjBackKernelIdeal := hProjBackKernelIdeal) (hProjBackReferenceIdeal := hProjBackReferenceIdeal)
    ∧ preserves_FirstNormKernel_FirstNormKernelIdeal
    ∧ algebraic_FirstNormKernelIdeal_FirstNormReferenceIdeal (hFirstNormKernelIdeal := hFirstNormKernelIdeal) (hFirstNormReferenceIdeal := hFirstNormReferenceIdeal)
    ∧ preserves_LastKernel_LastKernelIdeal
    ∧ algebraic_LastKernelIdeal_LastReferenceIdeal (hLastKernelIdeal := hLastKernelIdeal) (hLastReferenceIdeal := hLastReferenceIdeal)
    ∧ preserves_InnerKernel_InnerKernelIdeal
    ∧ algebraic_InnerKernelIdeal_InnerReferenceIdeal (hInnerKernelIdeal := hInnerKernelIdeal) (hInnerReferenceIdeal := hInnerReferenceIdeal)
    ∧ preserves_LossKernel_LossKernelIdeal
    ∧ algebraic_LossKernelIdeal_LossReferenceIdeal_pre_loss_finite (hLossKernelIdeal := hLossKernelIdeal) (hLossReferenceIdeal := hLossReferenceIdeal) (hPre_loss_finite := hPre_loss_finite)
-- ==== Pre_finite.lean ====
abbrev S4096x5120 : Shape := ⟨2, ![4096, 5120]⟩
abbrev S4096x256 : Shape := ⟨2, ![4096, 256]⟩
abbrev S_ : Shape := ⟨0, ![]⟩

class Facts : Prop where
  bitsLt_bf16_f32 : FTy.bits .bf16 < FTy.bits .f32
  bcast_S_S4096x5120 : S_.BroadcastsInDim S4096x5120 (![] : Fin 0 → Fin S4096x5120.rank)
  reducesTo_S4096x5120_S_d0_1 : S4096x5120.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn {F : FTy → Type} [FloatOps F] (main_arg0 : FVec F S4096x5120 .bf16) (main_arg1 : FVec F S4096x256 .f32) : IVec S_ 1 :=
  let main_v0 : FVec F S4096x5120 .f32 := (extf .f32 · bitsLt_bf16_f32) main_arg0
  let main_v1 : FVec F S4096x5120 .f32 := Host.absf main_v0
  let main_cst : FVec F S_ .f32 := constant S_ .f32 0x7F800000#32
  let main_v2 : FVec F S4096x5120 .f32 := broadcastInDim S4096x5120 ![] bcast_S_S4096x5120 main_cst
  let main_v3 : IVec S4096x5120 1 := cmpf .olt main_v1 main_v2
  let main_c : IVec S_ 1 := constantI S_ 1 1#1
  let main_v4 : IVec S_ 1 := (fun x v => Host.reduce IntOp.andi x v reducesTo_S4096x5120_S_d0_1 h_S_) main_v3 main_c
  let main_v5 : FVec F S4096x256 .f32 := Host.absf main_arg1
  let main_cst_0 : FVec F S_ .f32 := constant S_ .f32 0x7F800000#32
  let main_v6 : FVec F S4096x256 .f32 := broadcastInDim S4096x256 ![] bcast_S_S4096x256 main_cst_0
  let main_v7 : IVec S4096x256 1 := cmpf .olt main_v5 main_v6
  let main_c_1 : IVec S_ 1 := constantI S_ 1 1#1
  let main_v8 : IVec S_ 1 := (fun x v => Host.reduce IntOp.andi x v reducesTo_S4096x256_S_d0_1 h_S_) main_v7 main_c_1
  let main_v9 : IVec S_ 1 := andi main_v4 main_v8
  main_v9
-- ==== Pre_glu_finite.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x2816 .f32) (main_arg1 : FVec F S4096x2816 .f32) (main_arg2 : FVec F S2816x1024 .f32) (main_arg3 : FVec F S4096x1024 .f32) : IVec S_ 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_v4 : FVec F S4096x2816 .f32 := Host.absf main_arg1
  let main_cst_0 : FVec F S_ .f32 := constant S_ .f32 0x7F800000#32
  let main_v5 : FVec F S4096x2816 .f32 := broadcastInDim S4096x2816 ![] bcast_S_S4096x2816 main_cst_0
  let main_v6 : IVec S4096x2816 1 := cmpf .olt main_v4 main_v5
  let main_c_1 : IVec S_ 1 := constantI S_ 1 1#1
  let main_v7 : IVec S_ 1 := (fun x v => Host.reduce IntOp.andi x v reducesTo_S4096x2816_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_hidden_finite.lean ====
abbrev S4096x1024 : Shape := ⟨2, ![4096, 1024]⟩
abbrev S1024x2816 : Shape := ⟨2, ![1024, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_

variable [Facts]

def fn {F : FTy → Type} [FloatOps F] (main_arg0 : FVec F S4096x1024 .f32) (main_arg1 : FVec F S1024x2816 .f32) (main_arg2 : FVec F S1024x2816 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  main_v13
-- ==== Pre_loss_finite.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4096x1024 .f32) (main_arg1 : FVec F S1024 .f32) (main_arg2 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Pre_mix_finite.lean ====
abbrev S4096x1024 : Shape := ⟨2, ![4096, 1024]⟩
abbrev S1024 : Shape := ⟨1, ![1024]⟩
abbrev S1024x5120 : Shape := ⟨2, ![1024, 5120]⟩
abbrev S4096x5120 : Shape := ⟨2, ![4096, 5120]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5120 : S_.BroadcastsInDim S1024x5120 (![] : Fin 0 → Fin S1024x5120.rank)
  reducesTo_S1024x5120_S_d0_1 : S1024x5120.ReducesTo [0, 1] S_
  bcast_S_S4096x5120 : S_.BroadcastsInDim S4096x5120 (![] : Fin 0 → Fin S4096x5120.rank)
  reducesTo_S4096x5120_S_d0_1 : S4096x5120.ReducesTo [0, 1] S_

variable [Facts]

def fn_part1 {F : FTy → Type} [FloatOps F] (main_v13 : IVec S_ 1) (main_v16 : IVec S4096x5120 1) : IVec S_ 1 :=
  let main_c_5 : IVec S_ 1 := constantI S_ 1 1#1
  let main_v17 : IVec S_ 1 := (fun x v => Host.reduce IntOp.andi x v reducesTo_S4096x5120_S_d0_1 h_S_) main_v16 main_c_5
  let main_v18 : IVec S_ 1 := andi main_v13 main_v17
  main_v18

def fn {F : FTy → Type} [FloatOps F] (main_arg0 : FVec F S4096x1024 .f32) (main_arg1 : FVec F S1024 .f32) (main_arg2 : FVec F S1024x5120 .f32) (main_arg3 : FVec F S4096x5120 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5120 .f32 := Host.absf main_arg2
  let main_cst_2 : FVec F S_ .f32 := constant S_ .f32 0x7F800000#32
  let main_v10 : FVec F S1024x5120 .f32 := broadcastInDim S1024x5120 ![] bcast_S_S1024x5120 main_cst_2
  let main_v11 : IVec S1024x5120 1 := cmpf .olt main_v9 main_v10
  let main_c_3 : IVec S_ 1 := constantI S_ 1 1#1
  let main_v12 : IVec S_ 1 := (fun x v => Host.reduce IntOp.andi x v reducesTo_S1024x5120_S_d0_1 h_S_) main_v11 main_c_3
  let main_v13 : IVec S_ 1 := andi main_v8 main_v12
  let main_v14 : FVec F S4096x5120 .f32 := Host.absf main_arg3
  let main_cst_4 : FVec F S_ .f32 := constant S_ .f32 0x7F800000#32
  let main_v15 : FVec F S4096x5120 .f32 := broadcastInDim S4096x5120 ![] bcast_S_S4096x5120 main_cst_4
  let main_v16 : IVec S4096x5120 1 := cmpf .olt main_v14 main_v15
  fn_part1 (F := F) main_v13 main_v16
-- ==== Pre_norm_finite.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S4096x2816 : S_.BroadcastsInDim S4096x2816 (![] : Fin 0 → Fin S4096x2816.rank)
  reducesTo_S4096x2816_S_d0_1 : S4096x2816.ReducesTo [0, 1] S_

variable [Facts]

def fn_part1 {F : FTy → Type} [FloatOps F] (main_arg4 : FVec F S4096x2816 .f32) (main_arg5 : FVec F S4096x2816 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S4096x2816 .f32 := Host.absf main_arg4
  let main_cst_6 : FVec F S_ .f32 := constant S_ .f32 0x7F800000#32
  let main_v20 : FVec F S4096x2816 .f32 := broadcastInDim S4096x2816 ![] bcast_S_S4096x2816 main_cst_6
  let main_v21 : IVec S4096x2816 1 := cmpf .olt main_v19 main_v20
  let main_c_7 : IVec S_ 1 := constantI S_ 1 1#1
  let main_v22 : IVec S_ 1 := (fun x v => Host.reduce IntOp.andi x v reducesTo_S4096x2816_S_d0_1 h_S_) main_v21 main_c_7
  let main_v23 : IVec S_ 1 := andi main_v18 main_v22
  let main_v24 : FVec F S4096x2816 .f32 := Host.absf main_arg5
  let main_cst_8 : FVec F S_ .f32 := constant S_ .f32 0x7F800000#32
  let main_v25 : FVec F S4096x2816 .f32 := broadcastInDim S4096x2816 ![] bcast_S_S4096x2816 main_cst_8
  let main_v26 : IVec S4096x2816 1 := cmpf .olt main_v24 main_v25
  let main_c_9 : IVec S_ 1 := constantI S_ 1 1#1
  let main_v27 : IVec S_ 1 := (fun x v => Host.reduce IntOp.andi x v reducesTo_S4096x2816_S_d0_1 h_S_) main_v26 main_c_9
  let main_v28 : IVec S_ 1 := andi main_v23 main_v27
  main_v28

def fn {F : FTy → Type} [FloatOps F] (main_arg0 : FVec F S4096x1024 .f32) (main_arg1 : FVec F S1024 .f32) (main_arg2 : FVec F S1024x2816 .f32) (main_arg3 : FVec F S1024x2816 .f32) (main_arg4 : FVec F S4096x2816 .f32) (main_arg5 : FVec F S4096x2816 .f32) (main_arg6 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Kernel.lean ====
abbrev S4096x5120 : Shape := ⟨2, ![4096, 5120]⟩
abbrev S4096x256 : Shape := ⟨2, ![4096, 256]⟩
abbrev S4096x768 : Shape := ⟨2, ![4096, 768]⟩
abbrev S4096x3x4x64 : Shape := ⟨4, ![4096, 3, 4, 64]⟩
abbrev S3x4x4096x64 : Shape := ⟨4, ![3, 4, 4096, 64]⟩
abbrev S1x4x4096x64 : Shape := ⟨4, ![1, 4, 4096, 64]⟩
abbrev S4x4096x64 : Shape := ⟨3, ![4, 4096, 64]⟩
abbrev S4x4096x4096 : Shape := ⟨3, ![4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4096x4x64 : Shape := ⟨3, ![4096, 4, 64]⟩
abbrev S4096x4 : Shape := ⟨2, ![4096, 4]⟩
abbrev S4096x4x1 : Shape := ⟨3, ![4096, 4, 1]⟩
abbrev S4096x4x128 : Shape := ⟨3, ![4096, 4, 128]⟩
abbrev S4096x512 : Shape := ⟨2, ![4096, 512]⟩
abbrev S512x256 : Shape := ⟨2, ![512, 256]⟩
abbrev S512x512 : Shape := ⟨2, ![512, 512]⟩
abbrev S2048x256 : Shape := ⟨2, ![2048, 256]⟩
abbrev S1x256 : Shape := ⟨2, ![1, 256]⟩
abbrev S512x128 : Shape := ⟨2, ![512, 128]⟩
abbrev S512 : Shape := ⟨1, ![512]⟩
abbrev S512x1 : Shape := ⟨2, ![512, 1]⟩
abbrev S2048x1 : Shape := ⟨2, ![2048, 1]⟩
abbrev S256x256 : Shape := ⟨2, ![256, 256]⟩
abbrev S2048x512 : Shape := ⟨2, ![2048, 512]⟩
abbrev S2048 : Shape := ⟨1, ![2048]⟩

abbrev nBuf : Space → Nat
  | .hbm => 84
  | .vmem => 13
  | .smem => 0
  | _ => 0

abbrev bufTy : (tb : Table) → Fin (tcTables nBuf tb) → BufTy
  | .hbm, ⟨0, _⟩ => ⟨S4096x5120, .bf16⟩
  | .hbm, ⟨1, _⟩ => ⟨S4096x256, .f32⟩
  | .hbm, ⟨2, _⟩ => ⟨S4096x5120, .f32⟩
  | .hbm, ⟨3, _⟩ => ⟨S4096x768, .f32⟩
  | .hbm, ⟨4, _⟩ => ⟨S4096x3x4x64, .f32⟩
  | .hbm, ⟨5, _⟩ => ⟨S3x4x4096x64, .f32⟩
  | .hbm, ⟨6, _⟩ => ⟨S1x4x4096x64, .f32⟩
  | .hbm, ⟨7, _⟩ => ⟨S4x4096x64, .f32⟩
  | .hbm, ⟨8, _⟩ => ⟨S1x4x4096x64, .f32⟩
  | .hbm, ⟨9, _⟩ => ⟨S4x4096x64, .f32⟩
  | .hbm, ⟨10, _⟩ => ⟨S1x4x4096x64, .f32⟩
  | .hbm, ⟨11, _⟩ => ⟨S4x4096x64, .f32⟩
  | .hbm, ⟨12, _⟩ => ⟨S4x4096x4096, .f32⟩
  | .hbm, ⟨13, _⟩ => ⟨S_, .f32⟩
  | .hbm, ⟨14, _⟩ => ⟨S4x4096x4096, .f32⟩
  | .hbm, ⟨15, _⟩ => ⟨S4x4096x4096, .f32⟩
  | .hbm, ⟨16, _⟩ => ⟨S4096, .i32⟩
  | .hbm, ⟨17, _⟩ => ⟨S1x4096, .i32⟩
  | .hbm, ⟨18, _⟩ => ⟨S4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S4x4096x4096, .f32⟩
  | .hbm, ⟨24, _⟩ => ⟨S_, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | .hbm, ⟨29, _⟩ => ⟨S4x4096x4096, .i1⟩
  | .hbm, ⟨30, _⟩ => ⟨S4x4096x4096, .f32⟩
  | .hbm, ⟨31, _⟩ => ⟨S4x4096x4096, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S4x4096x4096, .f32⟩
  | .hbm, ⟨36, _⟩ => ⟨S4x4096x4096, .f32⟩
  | .hbm, ⟨37, _⟩ => ⟨S4x4096x4096, .f32⟩
  | .hbm, ⟨38, _⟩ => ⟨S4x4096x4096, .f32⟩
  | .hbm, ⟨39, _⟩ => ⟨S4x4096x4096, .f32⟩
  | .hbm, ⟨40, _⟩ => ⟨S4x4096x4096, .f32⟩
  | .hbm, ⟨41, _⟩ => ⟨S_, .f32⟩
  | .hbm, ⟨42, _⟩ => ⟨S4x4096x4096, .f32⟩
  | .hbm, ⟨43, _⟩ => ⟨S4x4096x4096, .f32⟩
  | .hbm, ⟨44, _⟩ => ⟨S4x4096x4096, .f32⟩
  | .hbm, ⟨45, _⟩ => ⟨S4x4096x4096, .f32⟩
  | .hbm, ⟨46, _⟩ => ⟨S4x4096x4096, .i1⟩
  | .hbm, ⟨47, _⟩ => ⟨S4x4096x4096, .f32⟩
  | .hbm, ⟨48, _⟩ => ⟨S4x4096x4096, .f32⟩
  | .hbm, ⟨49, _⟩ => ⟨S4x4096x4096, .f32⟩
  | .hbm, ⟨50, _⟩ => ⟨S4x4096x4096, .f32⟩
  | .hbm, ⟨51, _⟩ => ⟨S4x4096x4096, .f32⟩
  | .hbm, ⟨52, _⟩ => ⟨S4x4096x4096, .f32⟩
  | .hbm, ⟨53, _⟩ => ⟨S4x4096x4096, .f32⟩
  | .hbm, ⟨54, _⟩ => ⟨S4x4096x4096, .f32⟩
  | .hbm, ⟨55, _⟩ => ⟨S4x4096x4096, .f32⟩
  | .hbm, ⟨56, _⟩ => ⟨S_, .f32⟩
  | .hbm, ⟨57, _⟩ => ⟨S_, .f32⟩
  | .hbm, ⟨58, _⟩ => ⟨S4x4096x4096, .i1⟩
  | .hbm, ⟨59, _⟩ => ⟨S4x4096x4096, .f32⟩
  | .hbm, ⟨60, _⟩ => ⟨S4x4096x4096, .f32⟩
  | .hbm, ⟨61, _⟩ => ⟨S_, .f32⟩
  | .hbm, ⟨62, _⟩ => ⟨S_, .f32⟩
  | .hbm, ⟨63, _⟩ => ⟨S4x4096x4096, .f32⟩
  | .hbm, ⟨64, _⟩ => ⟨S4x4096x4096, .f32⟩
  | .hbm, ⟨65, _⟩ => ⟨S4x4096x4096, .f32⟩
  | .hbm, ⟨66, _⟩ => ⟨S4x4096x4096, .f32⟩
  | .hbm, ⟨67, _⟩ => ⟨S_, .f32⟩
  | .hbm, ⟨68, _⟩ => ⟨S_, .f32⟩
  | .hbm, ⟨69, _⟩ => ⟨S4x4096x4096, .i1⟩
  | .hbm, ⟨70, _⟩ => ⟨S4x4096x4096, .f32⟩
  | .hbm, ⟨71, _⟩ => ⟨S4x4096x4096, .f32⟩
  | .hbm, ⟨72, _⟩ => ⟨S4x4096x64, .f32⟩
  | .hbm, ⟨73, _⟩ => ⟨S4096x4x64, .f32⟩
  | .hbm, ⟨74, _⟩ => ⟨S4096x4x64, .f32⟩
  | .hbm, ⟨75, _⟩ => ⟨S4096x4x64, .f32⟩
  | .hbm, ⟨76, _⟩ => ⟨S_, .f32⟩
  | .hbm, ⟨77, _⟩ => ⟨S4096x4, .f32⟩
  | .hbm, ⟨78, _⟩ => ⟨S4096x4x1, .f32⟩
  | .hbm, ⟨79, _⟩ => ⟨S4096x4x128, .f32⟩
  | .hbm, ⟨80, _⟩ => ⟨S4096x512, .f32⟩
  | .hbm, ⟨81, _⟩ => ⟨S4096x256, .f32⟩
  | .hbm, ⟨82, _⟩ => ⟨S4096x256, .f32⟩
  | .hbm, ⟨83, _⟩ => ⟨S4096x256, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S512x256, .f32⟩
  | .local _ .vmem, ⟨5, _⟩ => ⟨S512x256, .f32⟩
  | .local _ .vmem, ⟨6, _⟩ => ⟨S512x512, .f32⟩
  | .local _ .vmem, ⟨7, _⟩ => ⟨S512x512, .f32⟩
  | .local _ .vmem, ⟨8, _⟩ => ⟨S512x256, .f32⟩
  | .local _ .vmem, ⟨9, _⟩ => ⟨S512x256, .f32⟩
  | .local _ .vmem, ⟨10, _⟩ => ⟨S4096x256, .f32⟩
  | .local _ .vmem, ⟨11, _⟩ => ⟨S4096x256, .f32⟩
  | .local _ .vmem, ⟨12, _⟩ => ⟨S2048x256, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v20 : Ref sig .tc := ⟨.hbm, 38, rfl⟩
abbrev main_v21 : Ref sig .tc := ⟨.hbm, 39, rfl⟩
abbrev main_call1_v0 : Ref sig .tc := ⟨.hbm, 40, rfl⟩
abbrev main_call1_call0_cst : Ref sig .tc := ⟨.hbm, 41, rfl⟩
abbrev main_call1_call0_v0 : Ref sig .tc := ⟨.hbm, 42, rfl⟩
abbrev main_call1_call0_v1 : Ref sig .tc := ⟨.hbm, 43, rfl⟩
abbrev main_call1_call0_v2 : Ref sig .tc := ⟨.hbm, 44, rfl⟩
abbrev main_call1_call0_v3 : Ref sig .tc := ⟨.hbm, 45, rfl⟩
abbrev main_call1_call0_v4 : Ref sig .tc := ⟨.hbm, 46, rfl⟩
abbrev main_call1_call0_v5 : Ref sig .tc := ⟨.hbm, 47, rfl⟩
abbrev main_call1_call0_v6 : Ref sig .tc := ⟨.hbm, 48, rfl⟩
abbrev main_call1_call0_v7 : Ref sig .tc := ⟨.hbm, 49, rfl⟩
abbrev main_call1_call0_v8 : Ref sig .tc := ⟨.hbm, 50, rfl⟩
abbrev main_call1_call0_v9 : Ref sig .tc := ⟨.hbm, 51, rfl⟩
abbrev main_call1_call0_v10 : Ref sig .tc := ⟨.hbm, 52, rfl⟩
abbrev main_call1_call0_v11 : Ref sig .tc := ⟨.hbm, 53, rfl⟩
abbrev main_call1_v1 : Ref sig .tc := ⟨.hbm, 54, rfl⟩
abbrev main_v22 : Ref sig .tc := ⟨.hbm, 55, rfl⟩
abbrev main_cst_0 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v23 : Ref sig .tc := ⟨.hbm, 60, rfl⟩
abbrev main_call3_cst : Ref sig .tc := ⟨.hbm, 61, rfl⟩
abbrev main_call3_v0 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_cst_1 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_cst_2 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37_0 : Ref sig .tc := ⟨.hbm, 81, rfl⟩
abbrev main_v37_1 : Ref sig .tc := ⟨.hbm, 82, rfl⟩
abbrev main_v37_2 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c512_i32 : BitVec 32 := 512#32
  let v286 : BitVec 32 := Scalar.muli arg0 c512_i32
  let c256_i32 : BitVec 32 := 256#32
  let v287 : BitVec 32 := Scalar.addi v286 c256_i32
  v287
def k0_off1 (i : grid0.Coords) (c256_i32 : BitVec 32) : Fin 2 → Nat :=
  let arg0 : BitVec 32 := BitVec.ofNat 32 (i 0).val
  let c512_i32 : BitVec 32 := 512#32
  let v286 : BitVec 32 := Scalar.muli arg0 c512_i32
  let v287 : BitVec 32 := Scalar.addi v286 c256_i32
  let v288 : BitVec 32 := v287
  let v289 : Index := Scalar.indexCast v288
  let c0_82 : Index := 0#32
  ![v289.toNat, 0]
def k0_mult2 (i : grid0.Coords) : BitVec 32 :=
  let arg0 : BitVec 32 := BitVec.ofNat 32 (i 0).val
  let c512_i32_112 : BitVec 32 := 512#32
  let v390 : BitVec 32 := Scalar.muli arg0 c512_i32_112
  let c0_i32_113 : BitVec 32 := 0#32
  let v391 : BitVec 32 := Scalar.addi v390 c0_i32_113
  v391
@[reducible] def k0_t1_loop (i : grid0.Coords) : Scf.Loop 32 :=
  let c0_i32_147 : BitVec 32 := 0#32
  let arg0 : BitVec 32 := BitVec.ofNat 32 (i 0).val
  let c2_i32_146 : BitVec 32 := 2#32
  let v496 : BitVec 32 := Scalar.muli arg0 c2_i32_146
  let v497 : BitVec 32 := Scalar.subi v496 c0_i32_147
  let c1_i32_148 : BitVec 32 := 1#32
  let v499 : BitVec 32 := Scalar.divsi v497 c1_i32_148
  let v500 : BitVec 32 := Scalar.muli v499 c1_i32_148
  let v501 : BitVec 32 := Scalar.addi c0_i32_147 v500
  let c1_i32_149 : BitVec 32 := 1#32
  ⟨c0_i32_147, v501, c1_i32_149⟩
def k0_mult3 (i : grid0.Coords) (k0_t1 : Fin (k0_t1_loop i).trips) : BitVec 32 :=
  let arg0 : BitVec 32 := BitVec.ofNat 32 (i 0).val
  let c2_i32_146 : BitVec 32 := 2#32
  let v496 : BitVec 32 := Scalar.muli arg0 c2_i32_146
  let c1_i32_180 : BitVec 32 := 1#32
  let v604 : BitVec 32 := Scalar.subi v496 c1_i32_180
  let c0_i32_147 : BitVec 32 := 0#32
  let c1_i32_149 : BitVec 32 := 1#32
  let arg10 : BitVec 32 := Scf.iv c0_i32_147 c1_i32_149 k0_t1
  let v605 : BitVec 32 := Scalar.subi v604 arg10
  let c256_i32_181 : BitVec 32 := 256#32
  let v606 : BitVec 32 := Scalar.muli v605 c256_i32_181
  v606
def k0_off2 (i : grid0.Coords) (k0_t1 : Fin (k0_t1_loop i).trips) : Fin 2 → Nat :=
  let arg0 : BitVec 32 := BitVec.ofNat 32 (i 0).val
  let c2_i32_146 : BitVec 32 := 2#32
  let v496 : BitVec 32 := Scalar.muli arg0 c2_i32_146
  let c1_i32_180 : BitVec 32 := 1#32
  let v604 : BitVec 32 := Scalar.subi v496 c1_i32_180
  let c0_i32_147 : BitVec 32 := 0#32
  let c1_i32_149 : BitVec 32 := 1#32
  let arg10 : BitVec 32 := Scf.iv c0_i32_147 c1_i32_149 k0_t1
  let v605 : BitVec 32 := Scalar.subi v604 arg10
  let c256_i32_181 : BitVec 32 := 256#32
  let v606 : BitVec 32 := Scalar.muli v605 c256_i32_181
  let v607 : BitVec 32 := v606
  let v608 : Index := Scalar.indexCast v607
  let c0_182 : Index := 0#32
  ![v608.toNat, 0]
@[reducible] def k0_t2_loop (i : grid0.Coords) : Scf.Loop 32 :=
  let c0_i32_147 : BitVec 32 := 0#32
  let arg0 : BitVec 32 := BitVec.ofNat 32 (i 0).val
  let c2_i32_146 : BitVec 32 := 2#32
  let v496 : BitVec 32 := Scalar.muli arg0 c2_i32_146
  let v497 : BitVec 32 := Scalar.subi v496 c0_i32_147
  let c1_i32_148 : BitVec 32 := 1#32
  let v499 : BitVec 32 := Scalar.divsi v497 c1_i32_148
  let v500 : BitVec 32 := Scalar.muli v499 c1_i32_148
  let v501 : BitVec 32 := Scalar.addi c0_i32_147 v500
  let v498 : BitVec 32 := Scalar.addi c0_i32_147 v497
  let c1_i32_150 : BitVec 32 := 1#32
  ⟨v501, v498, c1_i32_150⟩
def k0_mult4 (i : grid0.Coords) (k0_t2 : Fin (k0_t2_loop i).trips) : BitVec 32 :=
  let arg0 : BitVec 32 := BitVec.ofNat 32 (i 0).val
  let c2_i32_146 : BitVec 32 := 2#32
  let v496 : BitVec 32 := Scalar.muli arg0 c2_i32_146
  let c1_i32_180 : BitVec 32 := 1#32
  let v604 : BitVec 32 := Scalar.subi v496 c1_i32_180
  let c0_i32_147 : BitVec 32 := 0#32
  let v497 : BitVec 32 := Scalar.subi v496 c0_i32_147
  let c1_i32_148 : BitVec 32 := 1#32
  let v499 : BitVec 32 := Scalar.divsi v497 c1_i32_148
  let v500 : BitVec 32 := Scalar.muli v499 c1_i32_148
  let v501 : BitVec 32 := Scalar.addi c0_i32_147 v500
  let c1_i32_150 : BitVec 32 := 1#32
  let arg10 : BitVec 32 := Scf.iv v501 c1_i32_150 k0_t2
  let v605 : BitVec 32 := Scalar.subi v604 arg10
  let c256_i32_181 : BitVec 32 := 256#32
  let v606 : BitVec 32 := Scalar.muli v605 c256_i32_181
  v606
def k0_off3 (i : grid0.Coords) (k0_t2 : Fin (k0_t2_loop i).trips) : Fin 2 → Nat :=
  let arg0 : BitVec 32 := BitVec.ofNat 32 (i 0).val
  let c2_i32_146 : BitVec 32 := 2#32
  let v496 : BitVec 32 := Scalar.muli arg0 c2_i32_146
  let c1_i32_180 : BitVec 32 := 1#32
  let v604 : BitVec 32 := Scalar.subi v496 c1_i32_180
  let c0_i32_147 : BitVec 32 := 0#32
  let v497 : BitVec 32 := Scalar.subi v496 c0_i32_147
  let c1_i32_148 : BitVec 32 := 1#32
  let v499 : BitVec 32 := Scalar.divsi v497 c1_i32_148
  let v500 : BitVec 32 := Scalar.muli v499 c1_i32_148
  let v501 : BitVec 32 := Scalar.addi c0_i32_147 v500
  let c1_i32_150 : BitVec 32 := 1#32
  let arg10 : BitVec 32 := Scf.iv v501 c1_i32_150 k0_t2
  let v605 : BitVec 32 := Scalar.subi v604 arg10
  let c256_i32_181 : BitVec 32 := 256#32
  let v606 : BitVec 32 := Scalar.muli v605 c256_i32_181
  let v607 : BitVec 32 := v606
  let v608 : Index := Scalar.indexCast v607
  let c0_182 : Index := 0#32
  ![v608.toNat, 0]
def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c0_i32 : BitVec 32 := 0#32
  let c10_i32 : BitVec 32 := 10#32
  let c0_i32_0 : BitVec 32 := 0#32
  ![c0_i32.toNat, c10_i32.toNat]

def cc0_transform_2 (i : grid0.Coords) : Fin 2 → Nat :=
  let arg0 : BitVec 32 := BitVec.ofNat 32 (i 0).val
  let c0_i32 : BitVec 32 := 0#32
  let c11_i32 : BitVec 32 := 11#32
  let c0_i32_0 : BitVec 32 := 0#32
  ![c0_i32.toNat, c11_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4096x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4096x5120 : Shape := ⟨2, ![4096, 5120]⟩
abbrev S4096x256 : Shape := ⟨2, ![4096, 256]⟩
abbrev S4096x768 : Shape := ⟨2, ![4096, 768]⟩
abbrev S4096x3x4x64 : Shape := ⟨4, ![4096, 3, 4, 64]⟩
abbrev S3x4x4096x64 : Shape := ⟨4, ![3, 4, 4096, 64]⟩
abbrev S1x4x4096x64 : Shape := ⟨4, ![1, 4, 4096, 64]⟩
abbrev S4x4096x64 : Shape := ⟨3, ![4, 4096, 64]⟩
abbrev S4096x4x64 : Shape := ⟨3, ![4096, 4, 64]⟩
abbrev S4x4096x4096 : Shape := ⟨3, ![4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x64x4096 : Shape := ⟨3, ![4, 64, 4096]⟩

abbrev nBuf : Space → Nat
  | .hbm => 177
  | .vmem => 0
  | .smem => 0
  | _ => 0

abbrev hbmTy0_0 (i : Nat) : BufTy := match i % 128 with
  | 0 => ⟨S4096x5120, .bf16⟩
  | 1 => ⟨S4096x256, .f32⟩
  | 2 => ⟨S4096x5120, .f32⟩
  | 3 => ⟨S4096x768, .f32⟩
  | 4 => ⟨S4096x3x4x64, .f32⟩
  | 5 => ⟨S3x4x4096x64, .f32⟩
  | 6 => ⟨S1x4x4096x64, .f32⟩
  | 7 => ⟨S4x4096x64, .f32⟩
  | 8 => ⟨S1x4x4096x64, .f32⟩
  | 9 => ⟨S4x4096x64, .f32⟩
  | 10 => ⟨S1x4x4096x64, .f32⟩
  | 11 => ⟨S4x4096x64, .f32⟩
  | 12 => ⟨S4096x4x64, .f32⟩
  | 13 => ⟨S4x4096x64, .f32⟩
  | 14 => ⟨S4x4096x4096, .f32⟩
  | 15 => ⟨S_, .f32⟩
  | 16 => ⟨S4x4096x4096, .f32⟩
  | 17 => ⟨S4x4096x4096, .f32⟩
  | 18 => ⟨S4096, .i32⟩
  | 19 => ⟨S1x4096, .i32⟩
  | 20 => ⟨S4096, .i32⟩
  | 21 => ⟨S4096x1, .i32⟩
  | 22 => ⟨S4096x4096, .i32⟩
  | 23 => ⟨S4096x4096, .i32⟩
  | 24 => ⟨S4096x4096, .i1⟩
  | 25 => ⟨S4x4096x4096, .f32⟩
  | 26 => ⟨S_, .f32⟩
  | 27 => ⟨S4x4096x4096, .f32⟩
  | 28 => ⟨S4x4096x4096, .f32⟩
  | 29 => ⟨S4x4096x4096, .f32⟩
  | 30 => ⟨S4x4096x4096, .f32⟩
  | 31 => ⟨S4x4096x4096, .i1⟩
  | 32 => ⟨S4x4096x4096, .f32⟩
  | 33 => ⟨S4x4096x4096, .f32⟩
  | 34 => ⟨S4x4096x4096, .f32⟩
  | 35 => ⟨S4x4096x4096, .f32⟩
  | 36 => ⟨S4x4096x4096, .f32⟩
  | 37 => ⟨S4x4096x4096, .f32⟩
  | 38 => ⟨S4x4096x4096, .f32⟩
  | 39 => ⟨S4x4096x4096, .f32⟩
  | 40 => ⟨S_, .f32⟩
  | 41 => ⟨S4x4096x4096, .f32⟩
  | 42 => ⟨S4x4096x4096, .i1⟩
  | 43 => ⟨S_, .f32⟩
  | 44 => ⟨S4x4096x4096, .f32⟩
  | 45 => ⟨S4x4096x4096, .f32⟩
  | 46 => ⟨S_, .f32⟩
  | 47 => ⟨S4x4096x4096, .f32⟩
  | 48 => ⟨S4x4096x4096, .i1⟩
  | 49 => ⟨S_, .f32⟩
  | 50 => ⟨S4x4096x4096, .f32⟩
  | 51 => ⟨S4x4096x4096, .f32⟩
  | 52 => ⟨S4x4096x4096, .f32⟩
  | 53 => ⟨S4x4096x4096, .f32⟩
  | 54 => ⟨S_, .f32⟩
  | 55 => ⟨S_, .f32⟩
  | 56 => ⟨S_, .i1⟩
  | 57 => ⟨S_, .f32⟩
  | 58 => ⟨S_, .f32⟩
  | 59 => ⟨S_, .f32⟩
  | 60 => ⟨S_, .f32⟩
  | 61 => ⟨S4x4096x4096, .f32⟩
  | 62 => ⟨S4x4096x4096, .i1⟩
  | 63 => ⟨S_, .f32⟩
  | 64 => ⟨S4x4096x4096, .f32⟩
  | 65 => ⟨S4x4096x4096, .f32⟩
  | 66 => ⟨S4x4096x4096, .f32⟩
  | 67 => ⟨S4x4096x4096, .f32⟩
  | 68 => ⟨S4x4096x4096, .f32⟩
  | 69 => ⟨S_, .f32⟩
  | 70 => ⟨S4x4096x4096, .f32⟩
  | 71 => ⟨S4x4096x4096, .f32⟩
  | 72 => ⟨S4x4096x4096, .f32⟩
  | 73 => ⟨S4x4096x4096, .f32⟩
  | 74 => ⟨S4x4096x4096, .f32⟩
  | 75 => ⟨S_, .f32⟩
  | 76 => ⟨S4x4096x4096, .f32⟩
  | 77 => ⟨S4x4096x4096, .f32⟩
  | 78 => ⟨S4x4096x4096, .f32⟩
  | 79 => ⟨S4x4096x4096, .f32⟩
  | 80 => ⟨S4x4096x4096, .i1⟩
  | 81 => ⟨S4x4096x4096, .f32⟩
  | 82 => ⟨S4x4096x4096, .f32⟩
  | 83 => ⟨S4x4096x4096, .f32⟩
  | 84 => ⟨S4x4096x4096, .f32⟩
  | 85 => ⟨S4x4096x4096, .f32⟩
  | 86 => ⟨S4x4096x4096, .f32⟩
  | 87 => ⟨S4x4096x4096, .f32⟩
  | 88 => ⟨S4x4096x4096, .f32⟩
  | 89 => ⟨S_, .f32⟩
  | 90 => ⟨S4x4096x4096, .f32⟩
  | 91 => ⟨S4x4096x4096, .i1⟩
  | 92 => ⟨S_, .f32⟩
  | 93 => ⟨S4x4096x4096, .f32⟩
  | 94 => ⟨S4x4096x4096, .f32⟩
  | 95 => ⟨S_, .f32⟩
  | 96 => ⟨S4x4096x4096, .f32⟩
  | 97 => ⟨S4x4096x4096, .i1⟩
  | 98 => ⟨S_, .f32⟩
  | 99 => ⟨S4x4096x4096, .f32⟩
  | 100 => ⟨S4x4096x4096, .f32⟩
  | 101 => ⟨S4x4096x4096, .f32⟩
  | 102 => ⟨S4x4096x4096, .f32⟩
  | 103 => ⟨S_, .f32⟩
  | 104 => ⟨S_, .f32⟩
  | 105 => ⟨S_, .i1⟩
  | 106 => ⟨S_, .f32⟩
  | 107 => ⟨S_, .f32⟩
  | 108 => ⟨S_, .f32⟩
  | 109 => ⟨S_, .f32⟩
  | 110 => ⟨S4x4096x4096, .f32⟩
  | 111 => ⟨S4x4096x4096, .i1⟩
  | 112 => ⟨S_, .f32⟩
  | 113 => ⟨S4x4096x4096, .f32⟩
  | 114 => ⟨S4x4096x4096, .f32⟩
  | 115 => ⟨S4x4096x4096, .f32⟩
  | 116 => ⟨S4x4096x4096, .f32⟩
  | 117 => ⟨S4x4096x4096, .f32⟩
  | 118 => ⟨S_, .f32⟩
  | 119 => ⟨S4x4096x4096, .f32⟩
  | 120 => ⟨S4x4096x4096, .f32⟩
  | 121 => ⟨S4x4096x4096, .f32⟩
  | 122 => ⟨S_, .f32⟩
  | 123 => ⟨S_, .f32⟩
  | 124 => ⟨S4x4096x4096, .i1⟩
  | 125 => ⟨S4x4096x4096, .f32⟩
  | 126 => ⟨S4x4096x4096, .f32⟩
  | 127 => ⟨S_, .f32⟩
  | _ => ⟨S4096x5120, .bf16⟩

abbrev hbmTy0_1 (i : Nat) : BufTy := match i % 128 with
  | 0 => ⟨S4x4096x4096, .f32⟩
  | 1 => ⟨S_, .f32⟩
  | 2 => ⟨S_, .f32⟩
  | 3 => ⟨S4x4096x4096, .f32⟩
  | 4 => ⟨S4x4096x4096, .f32⟩
  | 5 => ⟨S4x4096x4096, .f32⟩
  | 6 => ⟨S4x4096x4096, .f32⟩
  | 7 => ⟨S_, .f32⟩
  | 8 => ⟨S_, .f32⟩
  | 9 => ⟨S4x4096x4096, .i1⟩
  | 10 => ⟨S4x4096x4096, .f32⟩
  | 11 => ⟨S4x4096x4096, .f32⟩
  | 12 => ⟨S_, .f32⟩
  | 13 => ⟨S4x4096x4096, .f32⟩
  | 14 => ⟨S4x4096x64, .f32⟩
  | 15 => ⟨S4x64x4096, .f32⟩
  | 16 => ⟨S4x4096x64, .f32⟩
  | 17 => ⟨S4x4096x4096, .f32⟩
  | 18 => ⟨S_, .f32⟩
  | 19 => ⟨S4x4096x4096, .f32⟩
  | 20 => ⟨S4x4096x4096, .f32⟩
  | 21 => ⟨S4x4096x4096, .f32⟩
  | 22 => ⟨S4x4096x4096, .f32⟩
  | 23 => ⟨S_, .f32⟩
  | 24 => ⟨S_, .f32⟩
  | 25 => ⟨S4x4096x4096, .f32⟩
  | 26 => ⟨S4x4096x4096, .f32⟩
  | 27 => ⟨S_, .f32⟩
  | 28 => ⟨S4x4096x4096, .f32⟩
  | 29 => ⟨S4x4096x4096, .f32⟩
  | 30 => ⟨S4x4096x4096, .f32⟩
  | 31 => ⟨S4x4096x4096, .f32⟩
  | 32 => ⟨S4x4096x4096, .f32⟩
  | 33 => ⟨S4x4096x4096, .f32⟩
  | 34 => ⟨S4x4096x4096, .f32⟩
  | 35 => ⟨S4x4096x4096, .f32⟩
  | 36 => ⟨S4x4096x4096, .f32⟩
  | 37 => ⟨S4x4096x4096, .f32⟩
  | 38 => ⟨S_, .f32⟩
  | 39 => ⟨S4x4096x4096, .f32⟩
  | 40 => ⟨S4x4096x4096, .f32⟩
  | 41 => ⟨S4x4096x64, .f32⟩
  | 42 => ⟨S4x4096x64, .f32⟩
  | 43 => ⟨S4096x4x64, .f32⟩
  | 44 => ⟨S4096x256, .f32⟩
  | 45 => ⟨S4096x4x64, .f32⟩
  | 46 => ⟨S4096x256, .f32⟩
  | 47 => ⟨S4096x4x64, .f32⟩
  | 48 => ⟨S4096x256, .f32⟩
  | _ => ⟨S4096x5120, .bf16⟩

abbrev hbmTy (i : Nat) : BufTy := match i / 128 with
  | 0 => hbmTy0_0 i
  | 1 => hbmTy0_1 i
  | _ => ⟨S4096x5120, .bf16⟩

abbrev bufTy : (tb : Table) → Fin (tcTables nBuf tb) → BufTy
  | .hbm, ⟨i, _⟩ => hbmTy i
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1_0 : Ref sig .tc := ⟨.hbm, 39, rfl⟩
abbrev main_call0_call0_cst_0 : Ref sig .tc := ⟨.hbm, 40, rfl⟩
abbrev main_call0_call0_v13 : Ref sig .tc := ⟨.hbm, 41, rfl⟩
abbrev main_call0_call0_v14 : Ref sig .tc := ⟨.hbm, 42, rfl⟩
abbrev main_call0_call0_cst_1 : Ref sig .tc := ⟨.hbm, 43, rfl⟩
abbrev main_call0_call0_v15 : Ref sig .tc := ⟨.hbm, 44, rfl⟩
abbrev main_call0_call0_v16 : Ref sig .tc := ⟨.hbm, 45, rfl⟩
abbrev main_call0_call0_cst_2 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_cst_3 : Ref sig .tc := ⟨.hbm, 49, rfl⟩
abbrev main_call0_call0_v19 : Ref sig .tc := ⟨.hbm, 50, rfl⟩
abbrev main_call0_call0_v20 : Ref sig .tc := ⟨.hbm, 51, rfl⟩
abbrev main_call0_call0_v21 : Ref sig .tc := ⟨.hbm, 52, rfl⟩
abbrev main_v22_1 : Ref sig .tc := ⟨.hbm, 53, rfl⟩
abbrev main_call0_call0_cst_4 : Ref sig .tc := ⟨.hbm, 54, rfl⟩
abbrev main_call0_call0_cst_5 : Ref sig .tc := ⟨.hbm, 55, rfl⟩
abbrev main_call0_call0_v23 : Ref sig .tc := ⟨.hbm, 56, rfl⟩
abbrev main_call0_call0_cst_6 : Ref sig .tc := ⟨.hbm, 57, rfl⟩
abbrev main_call0_call0_cst_7 : Ref sig .tc := ⟨.hbm, 58, rfl⟩
abbrev main_call0_call0_v24 : Ref sig .tc := ⟨.hbm, 59, rfl⟩
abbrev main_call0_call0_cst_8 : Ref sig .tc := ⟨.hbm, 60, rfl⟩
abbrev main_call0_call0_v25 : Ref sig .tc := ⟨.hbm, 61, rfl⟩
abbrev main_call0_call0_v26 : Ref sig .tc := ⟨.hbm, 62, rfl⟩
abbrev main_call0_call0_cst_9 : Ref sig .tc := ⟨.hbm, 63, rfl⟩
abbrev main_call0_call0_v27 : Ref sig .tc := ⟨.hbm, 64, rfl⟩
abbrev main_call0_call0_v28 : Ref sig .tc := ⟨.hbm, 65, rfl⟩
abbrev main_call0_call0_v29 : Ref sig .tc := ⟨.hbm, 66, rfl⟩
abbrev main_call0_call0_v30 : Ref sig .tc := ⟨.hbm, 67, rfl⟩
abbrev main_call0_call0_v31 : Ref sig .tc := ⟨.hbm, 68, rfl⟩
abbrev main_call0_call0_cst_10 : Ref sig .tc := ⟨.hbm, 69, rfl⟩
abbrev main_call0_call0_v32 : Ref sig .tc := ⟨.hbm, 70, rfl⟩
abbrev main_v22_2 : Ref sig .tc := ⟨.hbm, 71, rfl⟩
abbrev main_v22_0 : Ref sig .tc := ⟨.hbm, 72, rfl⟩
abbrev main_v23 : Ref sig .tc := ⟨.hbm, 73, rfl⟩
abbrev main_call1_v0 : Ref sig .tc := ⟨.hbm, 74, rfl⟩
abbrev main_call1_call0_cst : Ref sig .tc := ⟨.hbm, 75, rfl⟩
abbrev main_call1_call0_v0 : Ref sig .tc := ⟨.hbm, 76, rfl⟩
abbrev main_call1_call0_v1 : Ref sig .tc := ⟨.hbm, 77, rfl⟩
abbrev main_call1_call0_v2 : Ref sig .tc := ⟨.hbm, 78, rfl⟩
abbrev main_call1_call0_v3 : Ref sig .tc := ⟨.hbm, 79, rfl⟩
abbrev main_call1_call0_v4 : Ref sig .tc := ⟨.hbm, 80, rfl⟩
abbrev main_call1_call0_v5 : Ref sig .tc := ⟨.hbm, 81, rfl⟩
abbrev main_call1_call0_v6 : Ref sig .tc := ⟨.hbm, 82, rfl⟩
abbrev main_call1_call0_v7 : Ref sig .tc := ⟨.hbm, 83, rfl⟩
abbrev main_call1_call0_v8 : Ref sig .tc := ⟨.hbm, 84, rfl⟩
abbrev main_call1_call0_v9 : Ref sig .tc := ⟨.hbm, 85, rfl⟩
abbrev main_call1_call0_v10 : Ref sig .tc := ⟨.hbm, 86, rfl⟩
abbrev main_call1_call0_v11 : Ref sig .tc := ⟨.hbm, 87, rfl⟩
abbrev main_call1_v1_0 : Ref sig .tc := ⟨.hbm, 88, rfl⟩
abbrev main_call1_call0_cst_0 : Ref sig .tc := ⟨.hbm, 89, rfl⟩
abbrev main_call1_call0_v13 : Ref sig .tc := ⟨.hbm, 90, rfl⟩
abbrev main_call1_call0_v14 : Ref sig .tc := ⟨.hbm, 91, rfl⟩
abbrev main_call1_call0_cst_1 : Ref sig .tc := ⟨.hbm, 92, rfl⟩
abbrev main_call1_call0_v15 : Ref sig .tc := ⟨.hbm, 93, rfl⟩
abbrev main_call1_call0_v16 : Ref sig .tc := ⟨.hbm, 94, rfl⟩
abbrev main_call1_call0_cst_2 : Ref sig .tc := ⟨.hbm, 95, rfl⟩
abbrev main_call1_call0_v17 : Ref sig .tc := ⟨.hbm, 96, rfl⟩
abbrev main_call1_call0_v18 : Ref sig .tc := ⟨.hbm, 97, rfl⟩
abbrev main_call1_call0_cst_3 : Ref sig .tc := ⟨.hbm, 98, rfl⟩
abbrev main_call1_call0_v19 : Ref sig .tc := ⟨.hbm, 99, rfl⟩
abbrev main_call1_call0_v20 : Ref sig .tc := ⟨.hbm, 100, rfl⟩
abbrev main_call1_call0_v21 : Ref sig .tc := ⟨.hbm, 101, rfl⟩
abbrev main_v24_1 : Ref sig .tc := ⟨.hbm, 102, rfl⟩
abbrev main_call1_call0_cst_4 : Ref sig .tc := ⟨.hbm, 103, rfl⟩
abbrev main_call1_call0_cst_5 : Ref sig .tc := ⟨.hbm, 104, rfl⟩
abbrev main_call1_call0_v23 : Ref sig .tc := ⟨.hbm, 105, rfl⟩
abbrev main_call1_call0_cst_6 : Ref sig .tc := ⟨.hbm, 106, rfl⟩
abbrev main_call1_call0_cst_7 : Ref sig .tc := ⟨.hbm, 107, rfl⟩
abbrev main_call1_call0_v24 : Ref sig .tc := ⟨.hbm, 108, rfl⟩
abbrev main_call1_call0_cst_8 : Ref sig .tc := ⟨.hbm, 109, rfl⟩
abbrev main_call1_call0_v25 : Ref sig .tc := ⟨.hbm, 110, rfl⟩
abbrev main_call1_call0_v26 : Ref sig .tc := ⟨.hbm, 111, rfl⟩
abbrev main_call1_call0_cst_9 : Ref sig .tc := ⟨.hbm, 112, rfl⟩
abbrev main_call1_call0_v27 : Ref sig .tc := ⟨.hbm, 113, rfl⟩
abbrev main_call1_call0_v28 : Ref sig .tc := ⟨.hbm, 114, rfl⟩
abbrev main_call1_call0_v29 : Ref sig .tc := ⟨.hbm, 115, rfl⟩
abbrev main_call1_call0_v30 : Ref sig .tc := ⟨.hbm, 116, rfl⟩
abbrev main_call1_call0_v31 : Ref sig .tc := ⟨.hbm, 117, rfl⟩
abbrev main_call1_call0_cst_10 : Ref sig .tc := ⟨.hbm, 118, rfl⟩
abbrev main_call1_call0_v32 : Ref sig .tc := ⟨.hbm, 119, rfl⟩
abbrev main_v24_2 : Ref sig .tc := ⟨.hbm, 120, rfl⟩
abbrev main_v24_0 : Ref sig .tc := ⟨.hbm, 121, rfl⟩
abbrev main_cst_0 : Ref sig .tc := ⟨.hbm, 122, rfl⟩
abbrev main_call2_v0 : Ref sig .tc := ⟨.hbm, 123, rfl⟩
abbrev main_v25_1 : Ref sig .tc := ⟨.hbm, 124, rfl⟩
abbrev main_call2_v2 : Ref sig .tc := ⟨.hbm, 125, rfl⟩
abbrev main_v25_0 : Ref sig .tc := ⟨.hbm, 126, rfl⟩
abbrev main_call2_cst : Ref sig .tc := ⟨.hbm, 127, rfl⟩
abbrev main_v25_2 : Ref sig .tc := ⟨.hbm, 128, rfl⟩
abbrev main_call3_cst : Ref sig .tc := ⟨.hbm, 129, rfl⟩
abbrev main_call3_v0 : Ref sig .tc := ⟨.hbm, 130, rfl⟩
abbrev main_v26 : Ref sig .tc := ⟨.hbm, 131, rfl⟩
abbrev main_v27 : Ref sig .tc := ⟨.hbm, 132, rfl⟩
abbrev main_v28 : Ref sig .tc := ⟨.hbm, 133, rfl⟩
abbrev main_v29 : Ref sig .tc := ⟨.hbm, 134, rfl⟩
abbrev main_cst_1 : Ref sig .tc := ⟨.hbm, 135, rfl⟩
abbrev main_call4_v0 : Ref sig .tc := ⟨.hbm, 136, rfl⟩
abbrev main_v30_1 : Ref sig .tc := ⟨.hbm, 137, rfl⟩
abbrev main_call4_v2 : Ref sig .tc := ⟨.hbm, 138, rfl⟩
abbrev main_v30_0 : Ref sig .tc := ⟨.hbm, 139, rfl⟩
abbrev main_call4_cst : Ref sig .tc := ⟨.hbm, 140, rfl⟩
abbrev main_v30_2 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_call5_cst : Ref sig .tc := ⟨.hbm, 146, rfl⟩
abbrev main_call5_v0 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev main_call6_cst : Ref sig .tc := ⟨.hbm, 151, rfl⟩
abbrev main_call6_v0 : Ref sig .tc := ⟨.hbm, 152, rfl⟩
abbrev main_v38 : Ref sig .tc := ⟨.hbm, 153, rfl⟩
abbrev main_v39 : Ref sig .tc := ⟨.hbm, 154, rfl⟩
abbrev main_call7_cst : Ref sig .tc := ⟨.hbm, 155, rfl⟩
abbrev main_call7_v0 : Ref sig .tc := ⟨.hbm, 156, rfl⟩
abbrev main_v40 : Ref sig .tc := ⟨.hbm, 157, rfl⟩
abbrev main_call8_v0 : Ref sig .tc := ⟨.hbm, 158, rfl⟩
abbrev main_call8_v1 : Ref sig .tc := ⟨.hbm, 159, rfl⟩
abbrev main_v41 : Ref sig .tc := ⟨.hbm, 160, rfl⟩
abbrev main_v42 : Ref sig .tc := ⟨.hbm, 161, rfl⟩
abbrev main_call9_v0 : Ref sig .tc := ⟨.hbm, 162, rfl⟩
abbrev main_call9_v1 : Ref sig .tc := ⟨.hbm, 163, rfl⟩
abbrev main_v43 : Ref sig .tc := ⟨.hbm, 164, rfl⟩
abbrev main_v44 : Ref sig .tc := ⟨.hbm, 165, rfl⟩
abbrev main_cst_2 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩

abbrev nD : Nat := 1
abbrev τ : Topo := Topo.v7x

variable {F : FTy → Type} [FloatOps F]
-- ==== NormKernel.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S2816x1024 : Shape := ⟨2, ![2816, 1024]⟩
abbrev S1x1024 : Shape := ⟨2, ![1, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 17
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x2816, .f32⟩
  | .hbm, ⟨5, _⟩ => ⟨S4096x2816, .f32⟩
  | .hbm, ⟨6, _⟩ => ⟨S4096x1024, .f32⟩
  | .hbm, ⟨7, _⟩ => ⟨S4096x2816, .bf16⟩
  | .hbm, ⟨8, _⟩ => ⟨S2816x1024, .f32⟩
  | .hbm, ⟨9, _⟩ => ⟨S2816x1024, .bf16⟩
  | .hbm, ⟨10, _⟩ => ⟨S4096x2816, .bf16⟩
  | .hbm, ⟨11, _⟩ => ⟨S2816x1024, .f32⟩
  | .hbm, ⟨12, _⟩ => ⟨S2816x1024, .bf16⟩
  | .hbm, ⟨13, _⟩ => ⟨S1x1024, .f32⟩
  | .hbm, ⟨14, _⟩ => ⟨S4096x1024, .f32⟩
  | .hbm, ⟨15, _⟩ => ⟨S4096x1024, .bf16⟩
  | .hbm, ⟨16, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v48 : BitVec 1 := Scalar.cmpi .eq arg0 c0_i32
  let v49 : BitVec 32 := Scalar.extui v48
  let c0_i32_24 : BitVec 32 := 0#32
  let v50 : BitVec 1 := Scalar.cmpi .ne v49 c0_i32_24
  v50

def k0_cond2 (i : grid0.Coords) : BitVec 1 :=
  let arg0 : BitVec 32 := BitVec.ofNat 32 (i 0).val
  let c0_i32_25 : BitVec 32 := 0#32
  let v51 : BitVec 1 := Scalar.cmpi .sgt arg0 c0_i32_25
  let v52 : BitVec 32 := Scalar.extui v51
  let c0_i32_26 : BitVec 32 := 0#32
  let v53 : BitVec 1 := Scalar.cmpi .ne v52 c0_i32_26
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormReferenceIdeal.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x2816, .f32⟩
  | .hbm, ⟨5, _⟩ => ⟨S4096x2816, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .bf16⟩
  | .hbm, ⟨60, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== GluKernel.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 27
  | .vmem => 12
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x1024, .bf16⟩
  | .hbm, ⟨18, _⟩ => ⟨S2816x1024, .bf16⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .bf16⟩
  | .hbm, ⟨24, _⟩ => ⟨S4096x2816, .bf16⟩
  | .hbm, ⟨25, _⟩ => ⟨S4096x2816, .bf16⟩
  | .hbm, ⟨26, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6_0 : Ref sig .tc := ⟨.hbm, 25, rfl⟩
abbrev main_v6_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GluReferenceIdeal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .bf16⟩
  | .hbm, ⟨33, _⟩ => ⟨S4096x2816, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩

abbrev nD : Nat := 1
abbrev τ : Topo := Topo.v7x

variable {F : FTy → Type} [FloatOps F]
-- ==== DownKernel.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S1024x2816, .f32⟩
  | .hbm, ⟨12, _⟩ => ⟨S2816x1024, .f32⟩
  | .hbm, ⟨13, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== GateKernel.lean ====
abbrev S4096x1024 : Shape := ⟨2, ![4096, 1024]⟩
abbrev S4096x2816 : Shape := ⟨2, ![4096, 2816]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .bf16⟩
  | .hbm, ⟨3, _⟩ => ⟨S4096x1024, .bf16⟩
  | .hbm, ⟨4, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateReferenceIdeal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S_, .f32⟩
  | .hbm, ⟨3, _⟩ => ⟨S1024x2816, .f32⟩
  | .hbm, ⟨4, _⟩ => ⟨S4096x2816, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== HiddenKernel.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 11
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x1024, .bf16⟩
  | .hbm, ⟨4, _⟩ => ⟨S2816x1024, .f32⟩
  | .hbm, ⟨5, _⟩ => ⟨S2816x1024, .bf16⟩
  | .hbm, ⟨6, _⟩ => ⟨S2816x1024, .f32⟩
  | .hbm, ⟨7, _⟩ => ⟨S2816x1024, .bf16⟩
  | .hbm, ⟨8, _⟩ => ⟨S4096x2816, .bf16⟩
  | .hbm, ⟨9, _⟩ => ⟨S4096x2816, .bf16⟩
  | .hbm, ⟨10, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== HiddenReferenceIdeal.lean ====
abbrev S4096x1024 : Shape := ⟨2, ![4096, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .bf16⟩
  | .hbm, ⟨23, _⟩ => ⟨S4096x2816, .bf16⟩
  | .hbm, ⟨24, _⟩ => ⟨S4096x2816, .f32⟩
  | .hbm, ⟨25, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩

abbrev nD : Nat := 1
abbrev τ : Topo := Topo.v7x

variable {F : FTy → Type} [FloatOps F]
-- ==== MixKernel.lean ====
abbrev S4096x1024 : Shape := ⟨2, ![4096, 1024]⟩
abbrev S1024 : Shape := ⟨1, ![1024]⟩
abbrev S1024x5120 : Shape := ⟨2, ![1024, 5120]⟩
abbrev S4096x5120 : Shape := ⟨2, ![4096, 5120]⟩
abbrev S5120x1024 : Shape := ⟨2, ![5120, 1024]⟩
abbrev S1x1024 : Shape := ⟨2, ![1, 1024]⟩
abbrev S256x5120 : Shape := ⟨2, ![256, 5120]⟩
abbrev S256x1024 : Shape := ⟨2, ![256, 1024]⟩
abbrev S256 : Shape := ⟨1, ![256]⟩
abbrev S256x1 : Shape := ⟨2, ![256, 1]⟩

abbrev nBuf : Space → Nat
  | .hbm => 12
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5120, .f32⟩
  | .hbm, ⟨3, _⟩ => ⟨S4096x5120, .f32⟩
  | .hbm, ⟨4, _⟩ => ⟨S4096x1024, .f32⟩
  | .hbm, ⟨5, _⟩ => ⟨S4096x5120, .bf16⟩
  | .hbm, ⟨6, _⟩ => ⟨S5120x1024, .f32⟩
  | .hbm, ⟨7, _⟩ => ⟨S5120x1024, .bf16⟩
  | .hbm, ⟨8, _⟩ => ⟨S1x1024, .f32⟩
  | .hbm, ⟨9, _⟩ => ⟨S4096x1024, .f32⟩
  | .hbm, ⟨10, _⟩ => ⟨S4096x1024, .bf16⟩
  | .hbm, ⟨11, _⟩ => ⟨S1x1024, .f32⟩
  | .local _ .vmem, ⟨0, _⟩ => ⟨S256x5120, .bf16⟩
  | .local _ .vmem, ⟨1, _⟩ => ⟨S256x5120, .bf16⟩
  | .local _ .vmem, ⟨2, _⟩ => ⟨S5120x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_19 : BitVec 32 := 0#32
  let v44 : BitVec 1 := Scalar.cmpi .ne v43 c0_i32_19
  v44

def k0_cond2 (i : grid0.Coords) : BitVec 1 :=
  let arg0 : BitVec 32 := BitVec.ofNat 32 (i 0).val
  let c0_i32_20 : BitVec 32 := 0#32
  let v45 : BitVec 1 := Scalar.cmpi .sgt arg0 c0_i32_20
  let v46 : BitVec 32 := Scalar.extui v45
  let c0_i32_21 : BitVec 32 := 0#32
  let v47 : BitVec 1 := Scalar.cmpi .ne v46 c0_i32_21
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5120x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MixReferenceIdeal.lean ====
abbrev S4096x1024 : Shape := ⟨2, ![4096, 1024]⟩
abbrev S1024 : Shape := ⟨1, ![1024]⟩
abbrev S1024x5120 : Shape := ⟨2, ![1024, 5120]⟩
abbrev S4096x5120 : Shape := ⟨2, ![4096, 5120]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5120, .f32⟩
  | .hbm, ⟨3, _⟩ => ⟨S4096x5120, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5120, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | .hbm, ⟨55, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== InGradKernel.lean ====
abbrev S4096x1024 : Shape := ⟨2, ![4096, 1024]⟩
abbrev S4096x5120 : Shape := ⟨2, ![4096, 5120]⟩
abbrev S5120x1024 : Shape := ⟨2, ![5120, 1024]⟩
abbrev S2048x1280 : Shape := ⟨2, ![2048, 1280]⟩
abbrev S2048x1024 : Shape := ⟨2, ![2048, 1024]⟩
abbrev S1280x1024 : Shape := ⟨2, ![1280, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x5120, .f32⟩
  | .hbm, ⟨2, _⟩ => ⟨S4096x5120, .bf16⟩
  | .hbm, ⟨3, _⟩ => ⟨S4096x1024, .bf16⟩
  | .hbm, ⟨4, _⟩ => ⟨S5120x1024, .bf16⟩
  | .local _ .vmem, ⟨0, _⟩ => ⟨S2048x1280, .bf16⟩
  | .local _ .vmem, ⟨1, _⟩ => ⟨S2048x1280, .bf16⟩
  | .local _ .vmem, ⟨2, _⟩ => ⟨S2048x1024, .bf16⟩
  | .local _ .vmem, ⟨3, _⟩ => ⟨S2048x1024, .bf16⟩
  | .local _ .vmem, ⟨4, _⟩ => ⟨S1280x1024, .bf16⟩
  | .local _ .vmem, ⟨5, _⟩ => ⟨S1280x1024, .bf16⟩
  | .local _ .vmem, ⟨6, _⟩ => ⟨S1280x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGradReferenceIdeal.lean ====
abbrev S4096x1024 : Shape := ⟨2, ![4096, 1024]⟩
abbrev S4096x5120 : Shape := ⟨2, ![4096, 5120]⟩
abbrev S_ : Shape := ⟨0, ![]⟩
abbrev S1024x5120 : Shape := ⟨2, ![1024, 5120]⟩
abbrev S5120x1024 : Shape := ⟨2, ![5120, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5120, .f32⟩
  | .hbm, ⟨2, _⟩ => ⟨S_, .f32⟩
  | .hbm, ⟨3, _⟩ => ⟨S1024x5120, .f32⟩
  | .hbm, ⟨4, _⟩ => ⟨S4096x5120, .f32⟩
  | .hbm, ⟨5, _⟩ => ⟨S5120x1024, .f32⟩
  | .hbm, ⟨6, _⟩ => ⟨S1024x5120, .f32⟩
  | .hbm, ⟨7, _⟩ => ⟨S5120x1024, .f32⟩
  | .hbm, ⟨8, _⟩ => ⟨S5120x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== IntoKernel.lean ====
abbrev S4096x1024 : Shape := ⟨2, ![4096, 1024]⟩
abbrev S1024x5120 : Shape := ⟨2, ![1024, 5120]⟩
abbrev S5120x1024 : Shape := ⟨2, ![5120, 1024]⟩
abbrev S4096x5120 : Shape := ⟨2, ![4096, 5120]⟩
abbrev S1024x1024 : Shape := ⟨2, ![1024, 1024]⟩
abbrev S1280x1024 : Shape := ⟨2, ![1280, 1024]⟩
abbrev S1024x1280 : Shape := ⟨2, ![1024, 1280]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x5120, .f32⟩
  | .hbm, ⟨2, _⟩ => ⟨S4096x1024, .bf16⟩
  | .hbm, ⟨3, _⟩ => ⟨S5120x1024, .f32⟩
  | .hbm, ⟨4, _⟩ => ⟨S5120x1024, .bf16⟩
  | .hbm, ⟨5, _⟩ => ⟨S4096x5120, .bf16⟩
  | .local _ .vmem, ⟨0, _⟩ => ⟨S1024x1024, .bf16⟩
  | .local _ .vmem, ⟨1, _⟩ => ⟨S1024x1024, .bf16⟩
  | .local _ .vmem, ⟨2, _⟩ => ⟨S1280x1024, .bf16⟩
  | .local _ .vmem, ⟨3, _⟩ => ⟨S1280x1024, .bf16⟩
  | .local _ .vmem, ⟨4, _⟩ => ⟨S1024x1280, .bf16⟩
  | .local _ .vmem, ⟨5, _⟩ => ⟨S1024x1280, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== IntoReferenceIdeal.lean ====
abbrev S4096x1024 : Shape := ⟨2, ![4096, 1024]⟩
abbrev S1024x5120 : Shape := ⟨2, ![1024, 5120]⟩
abbrev S4096x5120 : Shape := ⟨2, ![4096, 5120]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5120, .f32⟩
  | .hbm, ⟨2, _⟩ => ⟨S4096x5120, .f32⟩
  | .hbm, ⟨3, _⟩ => ⟨S4096x5120, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ResidualKernel.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S4096x2816, .bf16⟩
  | .hbm, ⟨5, _⟩ => ⟨S2816x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResidualReferenceIdeal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== UpdateKernel.lean ====
abbrev S8x352x1024 : Shape := ⟨3, ![8, 352, 1024]⟩
abbrev S2x352x1024 : Shape := ⟨3, ![2, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== UpdateReferenceIdeal.lean ====
abbrev S8x352x1024 : Shape := ⟨3, ![8, 352, 1024]⟩
abbrev S2x352x1024 : Shape := ⟨3, ![2, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S8x352x1024, .f32⟩
  | .hbm, ⟨6, _⟩ => ⟨S_, .f32⟩
  | .hbm, ⟨7, _⟩ => ⟨S352x1024, .f32⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S1x352x1024, .f32⟩
  | .hbm, ⟨12, _⟩ => ⟨S1x352x1024, .f32⟩
  | .hbm, ⟨13, _⟩ => ⟨S2x352x1024, .f32⟩
  | .hbm, ⟨14, _⟩ => ⟨S_, .f32⟩
  | .hbm, ⟨15, _⟩ => ⟨S2x352x1024, .f32⟩
  | .hbm, ⟨16, _⟩ => ⟨S2x352x1024, .f32⟩
  | .hbm, ⟨17, _⟩ => ⟨S_, .f32⟩
  | .hbm, ⟨18, _⟩ => ⟨S2x352x1024, .f32⟩
  | .hbm, ⟨19, _⟩ => ⟨S2x352x1024, .f32⟩
  | .hbm, ⟨20, _⟩ => ⟨S2x352x1024, .f32⟩
  | .hbm, ⟨21, _⟩ => ⟨S_, .f32⟩
  | .hbm, ⟨22, _⟩ => ⟨S2x352x1024, .f32⟩
  | .hbm, ⟨23, _⟩ => ⟨S2x352x1024, .f32⟩
  | .hbm, ⟨24, _⟩ => ⟨S2x352x1024, .f32⟩
  | .hbm, ⟨25, _⟩ => ⟨S_, .f32⟩
  | .hbm, ⟨26, _⟩ => ⟨S2x352x1024, .f32⟩
  | .hbm, ⟨27, _⟩ => ⟨S2x352x1024, .f32⟩
  | .hbm, ⟨28, _⟩ => ⟨S2x352x1024, .f32⟩
  | .hbm, ⟨29, _⟩ => ⟨S_, .f32⟩
  | .hbm, ⟨30, _⟩ => ⟨S2x352x1024, .f32⟩
  | .hbm, ⟨31, _⟩ => ⟨S2x352x1024, .f32⟩
  | .hbm, ⟨32, _⟩ => ⟨S_, .f32⟩
  | .hbm, ⟨33, _⟩ => ⟨S2x352x1024, .f32⟩
  | .hbm, ⟨34, _⟩ => ⟨S2x352x1024, .f32⟩
  | .hbm, ⟨35, _⟩ => ⟨S2x352x1024, .f32⟩
  | .hbm, ⟨36, _⟩ => ⟨S_, .f32⟩
  | .hbm, ⟨37, _⟩ => ⟨S2x352x1024, .f32⟩
  | .hbm, ⟨38, _⟩ => ⟨S2x352x1024, .f32⟩
  | .hbm, ⟨39, _⟩ => ⟨S2x352x1024, .f32⟩
  | .hbm, ⟨40, _⟩ => ⟨S_, .f32⟩
  | .hbm, ⟨41, _⟩ => ⟨S2x352x1024, .f32⟩
  | .hbm, ⟨42, _⟩ => ⟨S2x352x1024, .f32⟩
  | .hbm, ⟨43, _⟩ => ⟨S2x352x1024, .f32⟩
  | .hbm, ⟨44, _⟩ => ⟨S_, .f32⟩
  | .hbm, ⟨45, _⟩ => ⟨S2x352x1024, .f32⟩
  | .hbm, ⟨46, _⟩ => ⟨S2x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== GainKernel.lean ====
abbrev S1x8x1024 : Shape := ⟨3, ![1, 8, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x8x1024, .f32⟩
  | .hbm, ⟨1, _⟩ => ⟨S1x8x1024, .f32⟩
  | .hbm, ⟨2, _⟩ => ⟨S1x8x1024, .f32⟩
  | .hbm, ⟨3, _⟩ => ⟨S1x8x1024, .f32⟩
  | .hbm, ⟨4, _⟩ => ⟨S1x8x1024, .f32⟩
  | .hbm, ⟨5, _⟩ => ⟨S1x8x1024, .f32⟩
  | .hbm, ⟨6, _⟩ => ⟨S1x8x1024, .f32⟩
  | .local _ .vmem, ⟨0, _⟩ => ⟨S1x8x1024, .f32⟩
  | .local _ .vmem, ⟨1, _⟩ => ⟨S1x8x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x8x1024, .f32⟩
  | _, _ => ⟨S1x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== GainReferenceIdeal.lean ====
abbrev S1x8x1024 : Shape := ⟨3, ![1, 8, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x8x1024, .f32⟩
  | .hbm, ⟨1, _⟩ => ⟨S1x8x1024, .f32⟩
  | .hbm, ⟨2, _⟩ => ⟨S1x8x1024, .f32⟩
  | .hbm, ⟨3, _⟩ => ⟨S1x8x1024, .f32⟩
  | .hbm, ⟨4, _⟩ => ⟨S_, .f32⟩
  | .hbm, ⟨5, _⟩ => ⟨S1x8x1024, .f32⟩
  | .hbm, ⟨6, _⟩ => ⟨S1x8x1024, .f32⟩
  | .hbm, ⟨7, _⟩ => ⟨S_, .f32⟩
  | .hbm, ⟨8, _⟩ => ⟨S1x8x1024, .f32⟩
  | .hbm, ⟨9, _⟩ => ⟨S1x8x1024, .f32⟩
  | .hbm, ⟨10, _⟩ => ⟨S1x8x1024, .f32⟩
  | .hbm, ⟨11, _⟩ => ⟨S_, .f32⟩
  | .hbm, ⟨12, _⟩ => ⟨S1x8x1024, .f32⟩
  | .hbm, ⟨13, _⟩ => ⟨S1x8x1024, .f32⟩
  | .hbm, ⟨14, _⟩ => ⟨S1x8x1024, .f32⟩
  | .hbm, ⟨15, _⟩ => ⟨S_, .f32⟩
  | .hbm, ⟨16, _⟩ => ⟨S1x8x1024, .f32⟩
  | .hbm, ⟨17, _⟩ => ⟨S1x8x1024, .f32⟩
  | .hbm, ⟨18, _⟩ => ⟨S1x8x1024, .f32⟩
  | .hbm, ⟨19, _⟩ => ⟨S_, .f32⟩
  | .hbm, ⟨20, _⟩ => ⟨S1x8x1024, .f32⟩
  | .hbm, ⟨21, _⟩ => ⟨S1x8x1024, .f32⟩
  | .hbm, ⟨22, _⟩ => ⟨S_, .f32⟩
  | .hbm, ⟨23, _⟩ => ⟨S1x8x1024, .f32⟩
  | .hbm, ⟨24, _⟩ => ⟨S1x8x1024, .f32⟩
  | .hbm, ⟨25, _⟩ => ⟨S1x8x1024, .f32⟩
  | .hbm, ⟨26, _⟩ => ⟨S_, .f32⟩
  | .hbm, ⟨27, _⟩ => ⟨S1x8x1024, .f32⟩
  | .hbm, ⟨28, _⟩ => ⟨S1x8x1024, .f32⟩
  | .hbm, ⟨29, _⟩ => ⟨S1x8x1024, .f32⟩
  | .hbm, ⟨30, _⟩ => ⟨S_, .f32⟩
  | .hbm, ⟨31, _⟩ => ⟨S1x8x1024, .f32⟩
  | .hbm, ⟨32, _⟩ => ⟨S1x8x1024, .f32⟩
  | .hbm, ⟨33, _⟩ => ⟨S1x8x1024, .f32⟩
  | .hbm, ⟨34, _⟩ => ⟨S_, .f32⟩
  | .hbm, ⟨35, _⟩ => ⟨S1x8x1024, .f32⟩
  | .hbm, ⟨36, _⟩ => ⟨S1x8x1024, .f32⟩
  | _, _ => ⟨S1x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumKernel.lean ====
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .local _ .vmem, ⟨0, _⟩ => ⟨S8x8x1024, .f32⟩
  | .local _ .vmem, ⟨1, _⟩ => ⟨S8x1024, .f32⟩
  | _, _ => ⟨S8x8x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumReferenceIdeal.lean ====
abbrev S8x8x1024 : Shape := ⟨3, ![8, 8, 1024]⟩
abbrev S_ : Shape := ⟨0, ![]⟩
abbrev S8x1024 : Shape := ⟨2, ![8, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x8x1024, .f32⟩
  | .hbm, ⟨1, _⟩ => ⟨S_, .f32⟩
  | .hbm, ⟨2, _⟩ => ⟨S8x1024, .f32⟩
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UpdateOutKernel.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== UpdateOutReferenceIdeal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== UpdateInKernel.lean ====
abbrev S8x640x1024 : Shape := ⟨3, ![8, 640, 1024]⟩
abbrev S2x1024x640 : Shape := ⟨3, ![2, 1024, 640]⟩
abbrev S8x640x256 : Shape := ⟨3, ![8, 640, 256]⟩
abbrev S1x256x640 : Shape := ⟨3, ![1, 256, 640]⟩
abbrev S1x640x256 : Shape := ⟨3, ![1, 640, 256]⟩
abbrev S640x256 : Shape := ⟨2, ![640, 256]⟩
abbrev S256x640 : Shape := ⟨2, ![256, 640]⟩

abbrev nBuf : Space → Nat
  | .hbm => 9
  | .vmem => 18
  | .smem => 0
  | _ => 0

abbrev bufTy : (tb : Table) → Fin (tcTables nBuf tb) → BufTy
  | .hbm, ⟨0, _⟩ => ⟨S8x640x1024, .bf16⟩
  | .hbm, ⟨1, _⟩ => ⟨S8x640x1024, .bf16⟩
  | .hbm, ⟨2, _⟩ => ⟨S2x1024x640, .f32⟩
  | .hbm, ⟨3, _⟩ => ⟨S2x1024x640, .f32⟩
  | .hbm, ⟨4, _⟩ => ⟨S2x1024x640, .f32⟩
  | .hbm, ⟨5, _⟩ => ⟨S2x1024x640, .f32⟩
  | .hbm, ⟨6, _⟩ => ⟨S2x1024x640, .f32⟩
  | .hbm, ⟨7, _⟩ => ⟨S2x1024x640, .f32⟩
  | .hbm, ⟨8, _⟩ => ⟨S2x1024x640, .f32⟩
  | .local _ .vmem, ⟨0, _⟩ => ⟨S8x640x256, .bf16⟩
  | .local _ .vmem, ⟨1, _⟩ => ⟨S8x640x256, .bf16⟩
  | .local _ .vmem, ⟨2, _⟩ => ⟨S8x640x256, .bf16⟩
  | .local _ .vmem, ⟨3, _⟩ => ⟨S8x640x256, .bf16⟩
  | .local _ .vmem, ⟨4, _⟩ => ⟨S1x256x640, .f32⟩
  | .local _ .vmem, ⟨5, _⟩ => ⟨S1x256x640, .f32⟩
  | .local _ .vmem, ⟨6, _⟩ => ⟨S1x256x640, .f32⟩
  | .local _ .vmem, ⟨7, _⟩ => ⟨S1x256x640, .f32⟩
  | .local _ .vmem, ⟨8, _⟩ => ⟨S1x256x640, .f32⟩
  | .local _ .vmem, ⟨9, _⟩ => ⟨S1x256x640, .f32⟩
  | .local _ .vmem, ⟨10, _⟩ => ⟨S1x256x640, .f32⟩
  | .local _ .vmem, ⟨11, _⟩ => ⟨S1x256x640, .f32⟩
  | .local _ .vmem, ⟨12, _⟩ => ⟨S1x256x640, .f32⟩
  | .local _ .vmem, ⟨13, _⟩ => ⟨S1x256x640, .f32⟩
  | .local _ .vmem, ⟨14, _⟩ => ⟨S1x256x640, .f32⟩
  | .local _ .vmem, ⟨15, _⟩ => ⟨S1x256x640, .f32⟩
  | .local _ .vmem, ⟨16, _⟩ => ⟨S1x256x640, .f32⟩
  | .local _ .vmem, ⟨17, _⟩ => ⟨S1x256x640, .f32⟩
  | _, _ => ⟨S8x640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let c0_i32_0 : BitVec 32 := 0#32
  let c0_i32_1 : BitVec 32 := 0#32
  ![c0_i32.toNat, c0_i32_0.toNat, v1.toNat]

def cc0_transform_1 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x640x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x640x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== UpdateInReferenceIdeal.lean ====
abbrev S8x640x1024 : Shape := ⟨3, ![8, 640, 1024]⟩
abbrev S2x1024x640 : Shape := ⟨3, ![2, 1024, 640]⟩
abbrev S_ : Shape := ⟨0, ![]⟩
abbrev S640x1024 : Shape := ⟨2, ![640, 1024]⟩
abbrev S1024x640 : Shape := ⟨2, ![1024, 640]⟩
abbrev S1x1024x640 : Shape := ⟨3, ![1, 1024, 640]⟩

abbrev nBuf : Space → Nat
  | .hbm => 49
  | .vmem => 0
  | .smem => 0
  | _ => 0

abbrev bufTy : (tb : Table) → Fin (tcTables nBuf tb) → BufTy
  | .hbm, ⟨0, _⟩ => ⟨S8x640x1024, .bf16⟩
  | .hbm, ⟨1, _⟩ => ⟨S8x640x1024, .bf16⟩
  | .hbm, ⟨2, _⟩ => ⟨S2x1024x640, .f32⟩
  | .hbm, ⟨3, _⟩ => ⟨S2x1024x640, .f32⟩
  | .hbm, ⟨4, _⟩ => ⟨S2x1024x640, .f32⟩
  | .hbm, ⟨5, _⟩ => ⟨S8x640x1024, .f32⟩
  | .hbm, ⟨6, _⟩ => ⟨S_, .f32⟩
  | .hbm, ⟨7, _⟩ => ⟨S640x1024, .f32⟩
  | .hbm, ⟨8, _⟩ => ⟨S1024x640, .f32⟩
  | .hbm, ⟨9, _⟩ => ⟨S8x640x1024, .f32⟩
  | .hbm, ⟨10, _⟩ => ⟨S_, .f32⟩
  | .hbm, ⟨11, _⟩ => ⟨S640x1024, .f32⟩
  | .hbm, ⟨12, _⟩ => ⟨S1024x640, .f32⟩
  | .hbm, ⟨13, _⟩ => ⟨S1x1024x640, .f32⟩
  | .hbm, ⟨14, _⟩ => ⟨S1x1024x640, .f32⟩
  | .hbm, ⟨15, _⟩ => ⟨S2x1024x640, .f32⟩
  | .hbm, ⟨16, _⟩ => ⟨S_, .f32⟩
  | .hbm, ⟨17, _⟩ => ⟨S2x1024x640, .f32⟩
  | .hbm, ⟨18, _⟩ => ⟨S2x1024x640, .f32⟩
  | .hbm, ⟨19, _⟩ => ⟨S_, .f32⟩
  | .hbm, ⟨20, _⟩ => ⟨S2x1024x640, .f32⟩
  | .hbm, ⟨21, _⟩ => ⟨S2x1024x640, .f32⟩
  | .hbm, ⟨22, _⟩ => ⟨S2x1024x640, .f32⟩
  | .hbm, ⟨23, _⟩ => ⟨S_, .f32⟩
  | .hbm, ⟨24, _⟩ => ⟨S2x1024x640, .f32⟩
  | .hbm, ⟨25, _⟩ => ⟨S2x1024x640, .f32⟩
  | .hbm, ⟨26, _⟩ => ⟨S2x1024x640, .f32⟩
  | .hbm, ⟨27, _⟩ => ⟨S_, .f32⟩
  | .hbm, ⟨28, _⟩ => ⟨S2x1024x640, .f32⟩
  | .hbm, ⟨29, _⟩ => ⟨S2x1024x640, .f32⟩
  | .hbm, ⟨30, _⟩ => ⟨S2x1024x640, .f32⟩
  | .hbm, ⟨31, _⟩ => ⟨S_, .f32⟩
  | .hbm, ⟨32, _⟩ => ⟨S2x1024x640, .f32⟩
  | .hbm, ⟨33, _⟩ => ⟨S2x1024x640, .f32⟩
  | .hbm, ⟨34, _⟩ => ⟨S_, .f32⟩
  | .hbm, ⟨35, _⟩ => ⟨S2x1024x640, .f32⟩
  | .hbm, ⟨36, _⟩ => ⟨S2x1024x640, .f32⟩
  | .hbm, ⟨37, _⟩ => ⟨S2x1024x640, .f32⟩
  | .hbm, ⟨38, _⟩ => ⟨S_, .f32⟩
  | .hbm, ⟨39, _⟩ => ⟨S2x1024x640, .f32⟩
  | .hbm, ⟨40, _⟩ => ⟨S2x1024x640, .f32⟩
  | .hbm, ⟨41, _⟩ => ⟨S2x1024x640, .f32⟩
  | .hbm, ⟨42, _⟩ => ⟨S_, .f32⟩
  | .hbm, ⟨43, _⟩ => ⟨S2x1024x640, .f32⟩
  | .hbm, ⟨44, _⟩ => ⟨S2x1024x640, .f32⟩
  | .hbm, ⟨45, _⟩ => ⟨S2x1024x640, .f32⟩
  | .hbm, ⟨46, _⟩ => ⟨S_, .f32⟩
  | .hbm, ⟨47, _⟩ => ⟨S2x1024x640, .f32⟩
  | .hbm, ⟨48, _⟩ => ⟨S2x1024x640, .f32⟩
  | _, _ => ⟨S8x640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== UpdateProjKernel.lean ====
abbrev S8x128x256 : Shape := ⟨3, ![8, 128, 256]⟩
abbrev S2x256x128 : Shape := ⟨3, ![2, 256, 128]⟩
abbrev S1x256x128 : Shape := ⟨3, ![1, 256, 128]⟩
abbrev S1x128x256 : Shape := ⟨3, ![1, 128, 256]⟩
abbrev S128x256 : Shape := ⟨2, ![128, 256]⟩
abbrev S256x128 : Shape := ⟨2, ![256, 128]⟩

abbrev nBuf : Space → Nat
  | .hbm => 9
  | .vmem => 18
  | .smem => 0
  | _ => 0

abbrev bufTy : (tb : Table) → Fin (tcTables nBuf tb) → BufTy
  | .hbm, ⟨0, _⟩ => ⟨S8x128x256, .bf16⟩
  | .hbm, ⟨1, _⟩ => ⟨S8x128x256, .bf16⟩
  | .hbm, ⟨2, _⟩ => ⟨S2x256x128, .f32⟩
  | .hbm, ⟨3, _⟩ => ⟨S2x256x128, .f32⟩
  | .hbm, ⟨4, _⟩ => ⟨S2x256x128, .f32⟩
  | .hbm, ⟨5, _⟩ => ⟨S2x256x128, .f32⟩
  | .hbm, ⟨6, _⟩ => ⟨S2x256x128, .f32⟩
  | .hbm, ⟨7, _⟩ => ⟨S2x256x128, .f32⟩
  | .hbm, ⟨8, _⟩ => ⟨S2x256x128, .f32⟩
  | .local _ .vmem, ⟨0, _⟩ => ⟨S8x128x256, .bf16⟩
  | .local _ .vmem, ⟨1, _⟩ => ⟨S8x128x256, .bf16⟩
  | .local _ .vmem, ⟨2, _⟩ => ⟨S8x128x256, .bf16⟩
  | .local _ .vmem, ⟨3, _⟩ => ⟨S8x128x256, .bf16⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | _, _ => ⟨S8x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let c0_i32_0 : BitVec 32 := 0#32
  let c0_i32_1 : BitVec 32 := 0#32
  ![c0_i32.toNat, c0_i32_0.toNat, v1.toNat]

def cc0_transform_1 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== UpdateProjReferenceIdeal.lean ====
abbrev S8x128x256 : Shape := ⟨3, ![8, 128, 256]⟩
abbrev S2x256x128 : Shape := ⟨3, ![2, 256, 128]⟩
abbrev S_ : Shape := ⟨0, ![]⟩
abbrev S128x256 : Shape := ⟨2, ![128, 256]⟩
abbrev S256x128 : Shape := ⟨2, ![256, 128]⟩
abbrev S1x256x128 : Shape := ⟨3, ![1, 256, 128]⟩

abbrev nBuf : Space → Nat
  | .hbm => 49
  | .vmem => 0
  | .smem => 0
  | _ => 0

abbrev bufTy : (tb : Table) → Fin (tcTables nBuf tb) → BufTy
  | .hbm, ⟨0, _⟩ => ⟨S8x128x256, .bf16⟩
  | .hbm, ⟨1, _⟩ => ⟨S8x128x256, .bf16⟩
  | .hbm, ⟨2, _⟩ => ⟨S2x256x128, .f32⟩
  | .hbm, ⟨3, _⟩ => ⟨S2x256x128, .f32⟩
  | .hbm, ⟨4, _⟩ => ⟨S2x256x128, .f32⟩
  | .hbm, ⟨5, _⟩ => ⟨S8x128x256, .f32⟩
  | .hbm, ⟨6, _⟩ => ⟨S_, .f32⟩
  | .hbm, ⟨7, _⟩ => ⟨S128x256, .f32⟩
  | .hbm, ⟨8, _⟩ => ⟨S256x128, .f32⟩
  | .hbm, ⟨9, _⟩ => ⟨S8x128x256, .f32⟩
  | .hbm, ⟨10, _⟩ => ⟨S_, .f32⟩
  | .hbm, ⟨11, _⟩ => ⟨S128x256, .f32⟩
  | .hbm, ⟨12, _⟩ => ⟨S256x128, .f32⟩
  | .hbm, ⟨13, _⟩ => ⟨S1x256x128, .f32⟩
  | .hbm, ⟨14, _⟩ => ⟨S1x256x128, .f32⟩
  | .hbm, ⟨15, _⟩ => ⟨S2x256x128, .f32⟩
  | .hbm, ⟨16, _⟩ => ⟨S_, .f32⟩
  | .hbm, ⟨17, _⟩ => ⟨S2x256x128, .f32⟩
  | .hbm, ⟨18, _⟩ => ⟨S2x256x128, .f32⟩
  | .hbm, ⟨19, _⟩ => ⟨S_, .f32⟩
  | .hbm, ⟨20, _⟩ => ⟨S2x256x128, .f32⟩
  | .hbm, ⟨21, _⟩ => ⟨S2x256x128, .f32⟩
  | .hbm, ⟨22, _⟩ => ⟨S2x256x128, .f32⟩
  | .hbm, ⟨23, _⟩ => ⟨S_, .f32⟩
  | .hbm, ⟨24, _⟩ => ⟨S2x256x128, .f32⟩
  | .hbm, ⟨25, _⟩ => ⟨S2x256x128, .f32⟩
  | .hbm, ⟨26, _⟩ => ⟨S2x256x128, .f32⟩
  | .hbm, ⟨27, _⟩ => ⟨S_, .f32⟩
  | .hbm, ⟨28, _⟩ => ⟨S2x256x128, .f32⟩
  | .hbm, ⟨29, _⟩ => ⟨S2x256x128, .f32⟩
  | .hbm, ⟨30, _⟩ => ⟨S2x256x128, .f32⟩
  | .hbm, ⟨31, _⟩ => ⟨S_, .f32⟩
  | .hbm, ⟨32, _⟩ => ⟨S2x256x128, .f32⟩
  | .hbm, ⟨33, _⟩ => ⟨S2x256x128, .f32⟩
  | .hbm, ⟨34, _⟩ => ⟨S_, .f32⟩
  | .hbm, ⟨35, _⟩ => ⟨S2x256x128, .f32⟩
  | .hbm, ⟨36, _⟩ => ⟨S2x256x128, .f32⟩
  | .hbm, ⟨37, _⟩ => ⟨S2x256x128, .f32⟩
  | .hbm, ⟨38, _⟩ => ⟨S_, .f32⟩
  | .hbm, ⟨39, _⟩ => ⟨S2x256x128, .f32⟩
  | .hbm, ⟨40, _⟩ => ⟨S2x256x128, .f32⟩
  | .hbm, ⟨41, _⟩ => ⟨S2x256x128, .f32⟩
  | .hbm, ⟨42, _⟩ => ⟨S_, .f32⟩
  | .hbm, ⟨43, _⟩ => ⟨S2x256x128, .f32⟩
  | .hbm, ⟨44, _⟩ => ⟨S2x256x128, .f32⟩
  | .hbm, ⟨45, _⟩ => ⟨S2x256x128, .f32⟩
  | .hbm, ⟨46, _⟩ => ⟨S_, .f32⟩
  | .hbm, ⟨47, _⟩ => ⟨S2x256x128, .f32⟩
  | .hbm, ⟨48, _⟩ => ⟨S2x256x128, .f32⟩
  | _, _ => ⟨S8x128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== OutGradKernel.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutGradReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutKernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .bf16⟩
  | .hbm, ⟨5, _⟩ => ⟨S1024x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutReferenceIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== BlendKernel.lean ====
abbrev S4096x256 : Shape := ⟨2, ![4096, 256]⟩
abbrev S256x1024 : Shape := ⟨2, ![256, 1024]⟩
abbrev S4096x5120 : Shape := ⟨2, ![4096, 5120]⟩
abbrev S1024x256 : Shape := ⟨2, ![1024, 256]⟩
abbrev S4096x1024 : Shape := ⟨2, ![4096, 1024]⟩
abbrev S1024x1024 : Shape := ⟨2, ![1024, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256x1024, .f32⟩
  | .hbm, ⟨3, _⟩ => ⟨S256x1024, .f32⟩
  | .hbm, ⟨4, _⟩ => ⟨S4096x5120, .bf16⟩
  | .hbm, ⟨5, _⟩ => ⟨S1024x256, .f32⟩
  | .hbm, ⟨6, _⟩ => ⟨S1024x256, .bf16⟩
  | .hbm, ⟨7, _⟩ => ⟨S1024x256, .f32⟩
  | .hbm, ⟨8, _⟩ => ⟨S1024x256, .bf16⟩
  | .hbm, ⟨9, _⟩ => ⟨S4096x1024, .bf16⟩
  | .hbm, ⟨10, _⟩ => ⟨S4096x1024, .bf16⟩
  | .hbm, ⟨11, _⟩ => ⟨S4096x1024, .bf16⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .bf16⟩
  | .local _ .vmem, ⟨5, _⟩ => ⟨S1024x256, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== BlendReferenceIdeal.lean ====
abbrev S4096x256 : Shape := ⟨2, ![4096, 256]⟩
abbrev S256x1024 : Shape := ⟨2, ![256, 1024]⟩
abbrev S4096x5120 : Shape := ⟨2, ![4096, 5120]⟩
abbrev S4096x1024 : Shape := ⟨2, ![4096, 1024]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256x1024, .f32⟩
  | .hbm, ⟨3, _⟩ => ⟨S256x1024, .f32⟩
  | .hbm, ⟨4, _⟩ => ⟨S4096x5120, .bf16⟩
  | .hbm, ⟨5, _⟩ => ⟨S4096x1024, .f32⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S4096x1024, .bf16⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .bf16⟩
  | .hbm, ⟨31, _⟩ => ⟨S4096x1024, .bf16⟩
  | .hbm, ⟨32, _⟩ => ⟨S4096x1024, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== UnblendKernel.lean ====
abbrev S4096x1024 : Shape := ⟨2, ![4096, 1024]⟩
abbrev S1024x1024 : Shape := ⟨2, ![1024, 1024]⟩
abbrev S4096x5120 : Shape := ⟨2, ![4096, 5120]⟩
abbrev S4096x2048 : Shape := ⟨2, ![4096, 2048]⟩
abbrev S512x1024 : Shape := ⟨2, ![512, 1024]⟩
abbrev S512x2048 : Shape := ⟨2, ![512, 2048]⟩

abbrev nBuf : Space → Nat
  | .hbm => 12
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x5120, .bf16⟩
  | .hbm, ⟨5, _⟩ => ⟨S4096x1024, .bf16⟩
  | .hbm, ⟨6, _⟩ => ⟨S1024x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S4096x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | .local _ .vmem, ⟨16, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== UnblendReferenceIdeal.lean ====
abbrev S4096x1024 : Shape := ⟨2, ![4096, 1024]⟩
abbrev S1024x1024 : Shape := ⟨2, ![1024, 1024]⟩
abbrev S4096x5120 : Shape := ⟨2, ![4096, 5120]⟩
abbrev S_ : Shape := ⟨0, ![]⟩
abbrev S4096x2048 : Shape := ⟨2, ![4096, 2048]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x5120, .bf16⟩
  | .hbm, ⟨5, _⟩ => ⟨S4096x1024, .bf16⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .bf16⟩
  | .hbm, ⟨45, _⟩ => ⟨S4096x1024, .bf16⟩
  | .hbm, ⟨46, _⟩ => ⟨S4096x2048, .f32⟩
  | .hbm, ⟨47, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== ProjGradKernel.lean ====
abbrev S4096x256 : Shape := ⟨2, ![4096, 256]⟩
abbrev S4096x1024 : Shape := ⟨2, ![4096, 1024]⟩
abbrev S1024x256 : Shape := ⟨2, ![1024, 256]⟩
abbrev S2048x1024 : Shape := ⟨2, ![2048, 1024]⟩
abbrev S2048x256 : Shape := ⟨2, ![2048, 256]⟩

abbrev nBuf : Space → Nat
  | .hbm => 4
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S4096x1024, .bf16⟩
  | .hbm, ⟨3, _⟩ => ⟨S1024x256, .bf16⟩
  | .local _ .vmem, ⟨0, _⟩ => ⟨S2048x1024, .bf16⟩
  | .local _ .vmem, ⟨1, _⟩ => ⟨S2048x1024, .bf16⟩
  | .local _ .vmem, ⟨2, _⟩ => ⟨S2048x256, .f32⟩
  | .local _ .vmem, ⟨3, _⟩ => ⟨S2048x256, .f32⟩
  | .local _ .vmem, ⟨4, _⟩ => ⟨S1024x256, .bf16⟩
  | .local _ .vmem, ⟨5, _⟩ => ⟨S1024x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProjGradReferenceIdeal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S_, .f32⟩
  | .hbm, ⟨3, _⟩ => ⟨S256x1024, .f32⟩
  | .hbm, ⟨4, _⟩ => ⟨S4096x1024, .f32⟩
  | .hbm, ⟨5, _⟩ => ⟨S1024x256, .f32⟩
  | .hbm, ⟨6, _⟩ => ⟨S256x1024, .f32⟩
  | .hbm, ⟨7, _⟩ => ⟨S1024x256, .f32⟩
  | .hbm, ⟨8, _⟩ => ⟨S1024x256, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjBackKernel.lean ====
abbrev S4096x1024 : Shape := ⟨2, ![4096, 1024]⟩
abbrev S256x1024 : Shape := ⟨2, ![256, 1024]⟩
abbrev S1024x256 : Shape := ⟨2, ![1024, 256]⟩
abbrev S4096x256 : Shape := ⟨2, ![4096, 256]⟩
abbrev S512x1024 : Shape := ⟨2, ![512, 1024]⟩
abbrev S512x256 : Shape := ⟨2, ![512, 256]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S4096x1024, .bf16⟩
  | .hbm, ⟨3, _⟩ => ⟨S1024x256, .f32⟩
  | .hbm, ⟨4, _⟩ => ⟨S1024x256, .bf16⟩
  | .hbm, ⟨5, _⟩ => ⟨S4096x256, .f32⟩
  | .local _ .vmem, ⟨0, _⟩ => ⟨S512x1024, .bf16⟩
  | .local _ .vmem, ⟨1, _⟩ => ⟨S512x1024, .bf16⟩
  | .local _ .vmem, ⟨2, _⟩ => ⟨S1024x256, .bf16⟩
  | .local _ .vmem, ⟨3, _⟩ => ⟨S512x256, .f32⟩
  | .local _ .vmem, ⟨4, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBackReferenceIdeal.lean ====
abbrev S4096x1024 : Shape := ⟨2, ![4096, 1024]⟩
abbrev S256x1024 : Shape := ⟨2, ![256, 1024]⟩
abbrev S_ : Shape := ⟨0, ![]⟩
abbrev S4096x256 : Shape := ⟨2, ![4096, 256]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S_, .f32⟩
  | .hbm, ⟨3, _⟩ => ⟨S4096x256, .f32⟩
  | .hbm, ⟨4, _⟩ => ⟨S4096x1024, .f32⟩
  | .hbm, ⟨5, _⟩ => ⟨S4096x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== FirstNormKernel.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FirstNormReferenceIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== LastKernel.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x2816, .bf16⟩
  | .hbm, ⟨4, _⟩ => ⟨S2816x1024, .bf16⟩
  | .hbm, ⟨5, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LastReferenceIdeal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== InnerKernel.lean ====
abbrev S4096x256 : Shape := ⟨2, ![4096, 256]⟩
abbrev S4096x512 : Shape := ⟨2, ![4096, 512]⟩
abbrev S512x256 : Shape := ⟨2, ![512, 256]⟩
abbrev S512x512 : Shape := ⟨2, ![512, 512]⟩
abbrev S1x256 : Shape := ⟨2, ![1, 256]⟩
abbrev S512 : Shape := ⟨1, ![512]⟩
abbrev S512x1 : Shape := ⟨2, ![512, 1]⟩
abbrev S512x128 : Shape := ⟨2, ![512, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x512, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InnerReferenceIdeal.lean ====
abbrev S4096x256 : Shape := ⟨2, ![4096, 256]⟩
abbrev S4096x4x64 : Shape := ⟨3, ![4096, 4, 64]⟩
abbrev S_ : Shape := ⟨0, ![]⟩
abbrev S4096x4 : Shape := ⟨2, ![4096, 4]⟩
abbrev S4096x4x1 : Shape := ⟨3, ![4096, 4, 1]⟩
abbrev S4096x4x128 : Shape := ⟨3, ![4096, 4, 128]⟩
abbrev S4096x512 : Shape := ⟨2, ![4096, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x4x64, .f32⟩
  | .hbm, ⟨3, _⟩ => ⟨S4096x4x64, .f32⟩
  | .hbm, ⟨4, _⟩ => ⟨S4096x4x64, .f32⟩
  | .hbm, ⟨5, _⟩ => ⟨S_, .f32⟩
  | .hbm, ⟨6, _⟩ => ⟨S4096x4, .f32⟩
  | .hbm, ⟨7, _⟩ => ⟨S4096x4x1, .f32⟩
  | .hbm, ⟨8, _⟩ => ⟨S4096x4x128, .f32⟩
  | .hbm, ⟨9, _⟩ => ⟨S4096x512, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== LossKernel.lean ====
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v50 : BitVec 1 := Scalar.cmpi .eq arg0 c0_i32
  let v51 : BitVec 32 := Scalar.extui v50
  let c0_i32_18 : BitVec 32 := 0#32
  let v52 : BitVec 1 := Scalar.cmpi .ne v51 c0_i32_18
  v52

def k0_cond2 (i : grid0.Coords) : BitVec 1 :=
  let arg0 : BitVec 32 := BitVec.ofNat 32 (i 0).val
  let c0_i32_19 : BitVec 32 := 0#32
  let v53 : BitVec 1 := Scalar.cmpi .sgt arg0 c0_i32_19
  let v54 : BitVec 32 := Scalar.extui v53
  let c0_i32_20 : BitVec 32 := 0#32
  let v55 : BitVec 1 := Scalar.cmpi .ne v54 c0_i32_20
  v55

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossReferenceIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .bf16⟩
  | .hbm, ⟨72, _⟩ => ⟨S1x1024, .f32⟩
  | .hbm, ⟨73, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Proof.Model.lean ====
/-
  What one grid point of the stick-breaking attention gradient computes, as pure functions on arrays.

  A point handles 512 queries of four heads, stacked into 2048 rows (`stack`): row `512 h + r` is query `r` of head `h`,
  with the lanes of the other heads zeroed. It walks the keys in tiles of 256, from the last tile the queries can see
  down to the first, and carries five things (`St`): the sum so far of the log keep-probabilities of each row, the sum
  so far of the weighted products of each row, the gradients of the keys and of the values, and the gradient of the
  queries. `tile` is one step of the walk.
-/
module

public import proofs.«01_k».proof.Proof.Gen.KernelIdeal.Skeleton
public import Idealize.ShloMosaic.Lib.VecWindow

@[expose] public section

set_option maxRecDepth 16384

noncomputable section

namespace Cert.KernelIdeal.Sb

open Cert.KernelIdeal Cert.KernelIdeal.Gen
open Idealize.ShloMosaic Idealize.ShloMosaic.TcCoe

variable {F : FTy → Type} [FloatOps F]

/-! ## The heads, stacked -/

/-- The head of each of the 256 lanes: the lane's number divided by 64. -/
def laneHead : IVec S1x256 32 :=
  let lane := iota .tc S1x256 32 [1] iota_S1x256_d1_w32
  let quo := divsi lane (broadcast S1x256 64#32)
  let sgn := subi (extui 32 (cmpi .sgt lane (broadcast S1x256 0#32)) natLt_1_32)
    (extui 32 (cmpi .slt lane (broadcast S1x256 0#32)) natLt_1_32)
  let sgn64 := Scalar.subi (Scalar.extui (Scalar.cmpi .sgt 64#32 0#32)) (Scalar.extui (Scalar.cmpi .slt 64#32 0#32))
  let odd := andi (cmpi .ne sgn (broadcast S1x256 sgn64)) (cmpi .ne (remsi lane (broadcast S1x256 64#32)) (broadcast S1x256 0#32))
  select odd (subi quo (broadcast S1x256 1#32)) quo

/-- The lanes of head `h`, on every one of 512 rows. -/
def ofHead (h : BitVec 32) : IVec S512x256 1 :=
  broadcastTo S512x256 (shapeCast S1x256 (cmpi .eq laneHead (broadcast S1x256 h)) shapeCasts_S1x256_S1x256) broadcasts_S1x256_S512x256

/-- `a` with the lanes of every head but `h` at zero. -/
def onlyHead (h : BitVec 32) (a : FVec F S512x256 .bf16) : FVec F S512x256 .bf16 :=
  select (ofHead h) a (broadcast S512x256 (Scalar.ofBits .bf16 0x0000#16))

/-- The four heads of `a`, one under the other. -/
def stack (a : FVec F S512x256 .bf16) : FVec F S2048x256 .bf16 :=
  concatenate S2048x256 0 [⟨S512x256, onlyHead 0#32 a⟩, ⟨S512x256, onlyHead 1#32 a⟩, ⟨S512x256, onlyHead 2#32 a⟩, ⟨S512x256, onlyHead 3#32 a⟩]
    concatenates_S512x256_S512x256_S512x256_S512x256_S2048x256_d0

/-- Back from the stack: lane by lane the rows of the lane's own head. -/
def unstack (a : FVec F S2048x256 .f32) : FVec F S512x256 .f32 :=
  select (ofHead 3#32) (extractStridedSlice S512x256 ![1536, 0] a slices_S2048x256_o1536_0_S512x256)
    (select (ofHead 2#32) (extractStridedSlice S512x256 ![1024, 0] a slices_S2048x256_o1024_0_S512x256)
      (select (ofHead 1#32) (extractStridedSlice S512x256 ![512, 0] a slices_S2048x256_o512_0_S512x256)
        (extractStridedSlice S512x256 ![0, 0] a slices_S2048x256_o0_0_S512x256)))

/-- The stacked queries, times 1/8. -/
def qStack (q : Vec F S512x256 .bf16) : FVec F S2048x256 .bf16 :=
  stack (mulf q (broadcast S512x256 (Scalar.ofBits .bf16 0x3E00#16)))

/-- The stacked cotangents. -/
def oStack (o : Vec F S512x256 .f32) : FVec F S2048x256 .bf16 := stack (truncf .bf16 o bitsLt_bf16_f32)

/-- Lanes `128 h … 128 h + 127` of the totals. -/
def lanesOf (g : Vec F S512x512 .f32) (off : Fin 2 → ℕ) (inb : ∀ a, off a + S512x128.size a ≤ S512x512.size a) : Vec F S512x128 .f32 :=
  VecWindow.window g off S512x128.size inb

/-- The largest of 128 lanes, as a column. -/
def laneMax (x : Vec F S512x128 .f32) : FVec F S512x1 .f32 :=
  shapeCast S512x1 (multiReduction .maximumf [1] S512 (shapeCast S512x128 x shapeCasts_S512x128_S512x128) 0xFF800000#32 reduces_S512x128_S512 (.inl rfl) rfl)
    shapeCasts_S512_S512x1

/-- The totals, stacked: one number a row. -/
def gStack (g : Vec F S512x512 .f32) : FVec F S2048x1 .f32 :=
  concatenate S2048x1 0 [⟨S512x1, laneMax (lanesOf g ![0, 0] inb_S512x512_S512x128_0_0)⟩, ⟨S512x1, laneMax (lanesOf g ![0, 128] inb_S512x512_S512x128_0_128)⟩,
    ⟨S512x1, laneMax (lanesOf g ![0, 256] inb_S512x512_S512x128_0_256)⟩, ⟨S512x1, laneMax (lanesOf g ![0, 384] inb_S512x512_S512x128_0_384)⟩]
    concatenates_S512x1_S512x1_S512x1_S512x1_S2048x1_d0

/-! ## Tiles of keys -/

/-- Where tile `J` begins. -/
def off (J : Fin 16) : Fin 2 → ℕ := ![256 * J.val, 0]

theorem off_inb (J : Fin 16) : ∀ a, off J a + S256x256.size a ≤ S4096x256.size a := fun a => by
  have := J.isLt
  match a with
  | ⟨0, _⟩ => show 256 * J.val + 256 ≤ 4096; omega
  | ⟨1, _⟩ => show 0 + 256 ≤ 256; omega

/-- Tile `J` of an array of 4096 rows. -/
def rows {e : EltTy} (x : Vec F S4096x256 e) (J : Fin 16) : Vec F S256x256 e := VecWindow.window x (off J) S256x256.size (off_inb J)

/-- The array with tile `J` replaced. -/
def setRows {e : EltTy} (x : Vec F S4096x256 e) (J : Fin 16) (w : Vec F S256x256 e) : Vec F S4096x256 e := VecWindow.put x (off J) S256x256.size w

/-! ## One tile -/

/-- Row by row and key by key the scores of a tile. -/
def score (q : FVec F S2048x256 .bf16) (k : Vec F S256x256 .bf16) : FVec F S2048x256 .f32 :=
  matmul dot_S2048x256_S256x256_S2048x256_1_1_0_0_n_n none q k (constant S2048x256 .f32 0x00000000#32)

/-- The logarithm of the sigmoid of a score. -/
def logBeta (z : FVec F S2048x256 .f32) : FVec F S2048x256 .f32 :=
  subf (minimumf z (broadcast S2048x256 (Scalar.ofBits .f32 0x00000000#32)))
    (log (addf (broadcast S2048x256 (Scalar.ofBits .f32 0x3F800000#32)) (exp (subf (broadcast S2048x256 (Scalar.ofBits .f32 0x00000000#32)) (absf z)))))

/-- `x` times the triangle `b`, `x` taken as a rounded part and a rest. -/
def triDot (x : FVec F S2048x256 .f32) (b : FVec F S256x256 .bf16) : FVec F S2048x256 .f32 :=
  matmul dot_S2048x512_S512x256_S2048x256_1_0_0_1_n_n none
    (concatenate S2048x512 1 [⟨S2048x256, truncf .bf16 x bitsLt_bf16_f32⟩,
      ⟨S2048x256, truncf .bf16 (subf x (extf .f32 (truncf .bf16 x bitsLt_bf16_f32) bitsLt_bf16_f32)) bitsLt_bf16_f32⟩] concatenates_S2048x256_S2048x256_S2048x512_d1)
    (concatenate S512x256 0 [⟨S256x256, b⟩, ⟨S256x256, b⟩] concatenates_S256x256_S256x256_S512x256_d0) (constant S2048x256 .f32 0x00000000#32)

/-- A column, the same on every key. -/
def spread (x : FVec F S2048x1 .f32) : FVec F S2048x256 .f32 := broadcastTo S2048x256 x broadcasts_S2048x1_S2048x256

/-- The sum of each row, as a column. -/
def rowSum (x : FVec F S2048x256 .f32) : FVec F S2048x1 .f32 :=
  shapeCast S2048x1 (multiReduction .add [1] S2048 x 0x00000000#32 reduces_S2048x256_S2048 (.inl rfl) rfl) shapeCasts_S2048_S2048x1

/-- The triangle of the keys that come strictly later. -/
def later : FVec F S256x256 .bf16 :=
  truncf .bf16 (sitofp .f32 (extui 32 (cmpi .sgt (iota .tc S256x256 32 [0] iota_S256x256_d0_w32) (iota .tc S256x256 32 [1] iota_S256x256_d1_w32)) natLt_1_32)) bitsLt_bf16_f32

/-- The triangle of the keys that do not come earlier. -/
def fromOn : FVec F S256x256 .bf16 :=
  truncf .bf16 (sitofp .f32 (extui 32 (cmpi .sge (iota .tc S256x256 32 [0] iota_S256x256_d0_w32) (iota .tc S256x256 32 [1] iota_S256x256_d1_w32)) natLt_1_32)) bitsLt_bf16_f32

/-- What happens to the keys that a row cannot see: `none` (it sees the whole tile), or the mask of the keys it sees. -/
def masked (mk : Option (IVec S2048x256 1)) (x : FVec F S2048x256 .f32) : FVec F S2048x256 .f32 :=
  match mk with
  | none => x
  | some p => select p x (broadcast S2048x256 (Scalar.ofBits .f32 0x00000000#32))

/-- The logarithm of the probability of passing each key by. -/
def logKeep (mk : Option (IVec S2048x256 1)) (z : FVec F S2048x256 .f32) : FVec F S2048x256 .f32 := masked mk (subf (logBeta z) z)

/-- The weights of a tile, `ck` being the sum of `logKeep` over the tiles already walked. -/
def weight (mk : Option (IVec S2048x256 1)) (z : FVec F S2048x256 .f32) (ck : FVec F S2048x1 .f32) : FVec F S2048x256 .f32 :=
  masked mk (exp (addf (addf (logBeta z) (triDot (logKeep mk z) later)) (spread ck)))

/-- The weights times the cotangents' products with the values. -/
def wprod (w : FVec F S2048x256 .f32) (o : FVec F S2048x256 .bf16) (v : Vec F S256x256 .bf16) : FVec F S2048x256 .f32 :=
  mulf w (matmul dot_S2048x256_S256x256_S2048x256_1_1_0_0_n_n none o v (constant S2048x256 .f32 0x00000000#32))

/-- The gradient of the scores. -/
def dscore (mk : Option (IVec S2048x256 1)) (z gw : FVec F S2048x256 .f32) (gt cg : FVec F S2048x1 .f32) : FVec F S2048x256 .bf16 :=
  truncf .bf16 (masked mk (subf (mulf gw (exp (subf (logBeta z) z)))
    (mulf (subf (spread gt) (addf (triDot gw fromOn) (spread cg))) (exp (logBeta z))))) bitsLt_bf16_f32

/-- The product over the rows: what a tile adds to its rows of dk or dv. -/
def overRows (x y : FVec F S2048x256 .bf16) : FVec F S256x256 .f32 :=
  matmul dot_S2048x256_S2048x256_S256x256_0_0_1_1_n_n none x y (constant S256x256 .f32 0x00000000#32)

/-- The product over the keys: what a tile adds to the gradient of the queries. -/
def overKeys (x : FVec F S2048x256 .bf16) (k : Vec F S256x256 .bf16) : FVec F S2048x256 .f32 :=
  matmul dot_S2048x256_S256x256_S2048x256_1_0_0_1_n_n none x k (constant S2048x256 .f32 0x00000000#32)

/-! ## The walk -/

/-- What is carried from tile to tile. -/
@[ext] structure St (F : FTy → Type) [FloatOps F] where
  ck : FVec F S2048x1 .f32
  cg : FVec F S2048x1 .f32
  dk : Vec F S4096x256 .f32
  dv : Vec F S4096x256 .f32
  dq : Vec F S2048x256 .f32

/-- The arrays a walk reads: the stacked queries, cotangents and totals; the keys; the values. -/
structure Args (F : FTy → Type) [FloatOps F] where
  q : FVec F S2048x256 .bf16
  o : FVec F S2048x256 .bf16
  g : FVec F S2048x1 .f32
  k : Vec F S4096x256 .bf16
  v : Vec F S4096x256 .bf16

/-- The scores of tile `J`, -/
def zOf (A : Args F) (J : Fin 16) : FVec F S2048x256 .f32 := score A.q (rows A.k J)
/-- its weights, -/
def wOf (A : Args F) (mk : Option (IVec S2048x256 1)) (J : Fin 16) (s : St F) : FVec F S2048x256 .f32 := weight mk (zOf A J) s.ck
/-- the weights' products, -/
def gwOf (A : Args F) (mk : Option (IVec S2048x256 1)) (J : Fin 16) (s : St F) : FVec F S2048x256 .f32 := wprod (wOf A mk J s) A.o (rows A.v J)
/-- and the gradient of its scores. -/
def dzOf (A : Args F) (mk : Option (IVec S2048x256 1)) (J : Fin 16) (s : St F) : FVec F S2048x256 .bf16 := dscore mk (zOf A J) (gwOf A mk J s) A.g s.cg

/-- One tile of the walk; `first`: the gradient of the queries begins here. -/
def tile (A : Args F) (mk : Option (IVec S2048x256 1)) (J : Fin 16) (first : Bool) (s : St F) : St F where
  ck := addf s.ck (rowSum (logKeep mk (zOf A J)))
  cg := addf s.cg (rowSum (gwOf A mk J s))
  dk := setRows s.dk J (addf (rows s.dk J) (overRows (dzOf A mk J s) A.q))
  dv := setRows s.dv J (addf (rows s.dv J) (overRows (truncf .bf16 (wOf A mk J s) bitsLt_bf16_f32) A.o))
  dq := if first then overKeys (dzOf A mk J s) (rows A.k J) else addf s.dq (overKeys (dzOf A mk J s) (rows A.k J))

/-- The number of the query of each stacked row, among the point's 512. -/
def rowQuery : IVec S2048x256 32 :=
  let n : BitVec 32 := Scalar.select (Scalar.cmpi .eq 512#32 0#32) 1#32 512#32
  let rem := remsi (iota .tc S2048x256 32 [0] iota_S2048x256_d0_w32) (broadcast S2048x256 n)
  select (andi (xori (cmpi .slt rem (broadcast S2048x256 0#32)) (broadcastTo S2048x256 (broadcast S2048x256 (Scalar.cmpi .slt n 0#32)) broadcasts_S2048x256_S2048x256))
      (cmpi .ne rem (broadcast S2048x256 0#32)))
    (addi rem (broadcast S2048x256 n)) rem

/-- The keys of a tile that begins `lead` keys after the point's first query, and come before the row's query. -/
def sees (lead : BitVec 32) : IVec S2048x256 1 :=
  cmpi .slt (addi (iota .tc S2048x256 32 [1] iota_S2048x256_d1_w32) (broadcast S2048x256 lead)) rowQuery

/-- Nothing summed yet; the gradients of keys and values as the point finds them. -/
def start (dk dv : Vec F S4096x256 .f32) : St F where
  ck := broadcast S2048x1 (Scalar.ofBits .f32 0x00000000#32)
  cg := broadcast S2048x1 (Scalar.ofBits .f32 0x00000000#32)
  dk := dk
  dv := dv
  dq := broadcast S2048x256 (Scalar.ofBits .f32 0x00000000#32)

/-- The two tiles on the diagonal of point `b`. -/
def diag (A : Args F) (b : ℕ) (dk dv : Vec F S4096x256 .f32) : St F :=
  tile A (some (sees 0#32)) (Fin.ofNat 16 (2 * b)) false (tile A (some (sees 256#32)) (Fin.ofNat 16 (2 * b + 1)) true (start dk dv))

/-- The walk of point `b` after `n` of the tiles before the diagonal, -/
def walk (A : Args F) (b : ℕ) (dk dv : Vec F S4096x256 .f32) : ℕ → St F
  | 0 => diag A b dk dv
  | n + 1 => tile A none (Fin.ofNat 16 (2 * b - 1 - n)) false (walk A b dk dv n)

/-- and after all of them. -/
def whole (A : Args F) (b : ℕ) (dk dv : Vec F S4096x256 .f32) : St F := walk A b dk dv (2 * b)

/-- The gradient of the point's queries. -/
def dqOut (A : Args F) (b : ℕ) (dk dv : Vec F S4096x256 .f32) : FVec F S512x256 .f32 :=
  mulf (unstack (whole A b dk dv).dq) (broadcast S512x256 (Scalar.ofBits .f32 0x3E000000#32))

/-- What a point reads, from its blocks. -/
def args (q : Vec F S512x256 .bf16) (k v : Vec F S4096x256 .bf16) (o : Vec F S512x256 .f32) (g : Vec F S512x512 .f32) : Args F where
  q := qStack q
  o := oStack o
  g := gStack g
  k := k
  v := v

end Cert.KernelIdeal.Sb
end
-- ==== Proof.Trip.lean ====
/-
  One trip of the loop over the tiles before the diagonal, and the whole loop, as steps of the walk of `Model`.
-/
module

public import proofs.«01_k».proof.Proof.Model
public import proofs.«01_k».proof.Proof.Gen.KernelIdeal.Loops
public import Idealize.ShloMosaic.Lib.Pointwise.Reshape

@[expose] public section

set_option maxRecDepth 16384

noncomputable section

namespace Cert.KernelIdeal.Sb

open Cert.KernelIdeal Cert.KernelIdeal.Gen
open Idealize.ShloMosaic Idealize.ShloMosaic.TcCoe

variable {F : FTy → Type} [FloatOps F]

/-! ## The numbers of the loops -/

/-- The point's number. -/
abbrev pt (i : grid0.Coords) : ℕ := (i 0).val

theorem off1_256 : ∀ i : grid0.Coords, k0_off1 i 256#32 = off (Fin.ofNat 16 (2 * pt i + 1)) := by decide +kernel
theorem off1_0 : ∀ i : grid0.Coords, k0_off1 i 0#32 = off (Fin.ofNat 16 (2 * pt i)) := by decide +kernel
theorem off2_eq : ∀ (i : grid0.Coords) (k : Fin (k0_t1_loop i).trips), k0_off2 i k = off (Fin.ofNat 16 (2 * pt i - 1 - k.val)) := by
  decide +kernel
theorem trips1 : ∀ i : grid0.Coords, (k0_t1_loop i).trips = 2 * pt i := by decide +kernel
theorem trips2 : ∀ i : grid0.Coords, (k0_t2_loop i).trips = 0 := by decide +kernel

theorem hz : (![0, 0] : Fin 2 → ℕ) = fun _ => 0 := funext fun a => by fin_cases a <;> rfl

theorem ne_diag : ∀ i : grid0.Coords, Fin.ofNat 16 (2 * pt i + 1) ≠ Fin.ofNat 16 (2 * pt i) := by decide +kernel

/-- Writing one block of rows leaves the others. -/
theorem rows_setRows_ne {e : EltTy} (x : Vec F S4096x256 e) {J J' : Fin 16} (w : Vec F S256x256 e) (h : J' ≠ J) :
    rows (setRows x J' w) J = rows x J := by
  refine VecWindow.window_put_of_disjoint _ _ _ _ _ _ _ (0 : Fin 2) ?_
  have : J'.val ≠ J.val := fun e => h (Fin.ext e)
  show 256 * J.val + 256 ≤ 256 * J'.val ∨ 256 * J'.val + 256 ≤ 256 * J.val
  omega

/-- What a load of the rows of a diagonal tile reads. -/
theorem read_diag1 (i : grid0.Coords) {e : EltTy} (v : View sig .tc .vmem S4096x256 e) (f : v.ty.Contents (Elt F)) (inb) :
    v.readAt (Elt F) (Rect.unit (s := S4096x256) (k0_off1 i 256#32) S256x256.size inb).toLoadRect f = rows (v.read (Elt F) f) (Fin.ofNat 16 (2 * pt i + 1)) :=
  View.readAt_unit _ _ _ (off1_256 i) (off_inb _)
theorem read_diag0 (i : grid0.Coords) {e : EltTy} (v : View sig .tc .vmem S4096x256 e) (f : v.ty.Contents (Elt F)) (inb) :
    v.readAt (Elt F) (Rect.unit (s := S4096x256) (k0_off1 i 0#32) S256x256.size inb).toLoadRect f = rows (v.read (Elt F) f) (Fin.ofNat 16 (2 * pt i)) :=
  View.readAt_unit _ _ _ (off1_0 i) (off_inb _)

/-- What a store of the rows of a diagonal tile leaves. -/
theorem write_diag1 (i : grid0.Coords) {e : EltTy} (v : View sig .tc .vmem S4096x256 e) (f : v.ty.Contents (Elt F)) (inb) (w : Vec F S256x256 e) (L) :
    v.read (Elt F) (v.writes (Elt F) f (⟨Rect.unit (s := S4096x256) (k0_off1 i 256#32) S256x256.size inb, w⟩ :: L))
      = setRows (v.read (Elt F) (v.writes (Elt F) f L)) (Fin.ofNat 16 (2 * pt i + 1)) w :=
  View.read_writes_cons_put _ _ _ _ _ (off1_256 i)
theorem write_diag0 (i : grid0.Coords) {e : EltTy} (v : View sig .tc .vmem S4096x256 e) (f : v.ty.Contents (Elt F)) (inb) (w : Vec F S256x256 e) (L) :
    v.read (Elt F) (v.writes (Elt F) f (⟨Rect.unit (s := S4096x256) (k0_off1 i 0#32) S256x256.size inb, w⟩ :: L))
      = setRows (v.read (Elt F) (v.writes (Elt F) f L)) (Fin.ofNat 16 (2 * pt i)) w :=
  View.read_writes_cons_put _ _ _ _ _ (off1_0 i)

/-- The body zeroes dk and dv: the point is the first. -/
abbrev IsFirst (i : grid0.Coords) : Prop :=
  (Scalar.cmpi .ne (Scalar.extui (Scalar.cmpi .eq (BitVec.ofNat 32 (i 0).val) 0#32)) 0#32) = 1#1

/-- Nothing summed into the gradients of keys or values. -/
def zeros : Vec F S4096x256 .f32 := broadcast S4096x256 (Scalar.ofBits .f32 0x00000000#32)

/-- A load of rows of an array filled as a whole, -/
theorem read_fill1 (i : grid0.Coords) (v : View sig .tc .vmem S4096x256 .f32) (f : v.ty.Contents (Elt F)) (inb) {z : Vec F S4096x256 .f32} (inb') :
    v.readAt (Elt F) (Rect.unit (s := S4096x256) (k0_off1 i 256#32) S256x256.size inb).toLoadRect
      (v.writes (Elt F) f [⟨Rect.unit (s := S4096x256) ![0, 0] S4096x256.size inb', z⟩]) = rows z (Fin.ofNat 16 (2 * pt i + 1)) := by
  rw [read_diag1, View.read_writes_full]

/-- and of the next rows, after the first were replaced. -/
theorem read_fill0 (i : grid0.Coords) (v : View sig .tc .vmem S4096x256 .f32) (f : v.ty.Contents (Elt F)) (inb) {z : Vec F S4096x256 .f32} (inb')
    (inb1) (w : Vec F S256x256 .f32) :
    v.readAt (Elt F) (Rect.unit (s := S4096x256) (k0_off1 i 0#32) S256x256.size inb).toLoadRect
      (v.writes (Elt F) f [⟨Rect.unit (s := S4096x256) (k0_off1 i 256#32) S256x256.size inb1, w⟩, ⟨Rect.unit (s := S4096x256) ![0, 0] S4096x256.size inb', z⟩])
      = rows z (Fin.ofNat 16 (2 * pt i)) := by
  rw [read_diag0, write_diag1, View.read_writes_full, rows_setRows_ne _ _ (ne_diag i)]

theorem pay18_eq : (k0_pay18 : FVec F S4096x256 .f32) = zeros := shapeCast_id _ _
theorem pay19_eq : (k0_pay19 : FVec F S4096x256 .f32) = zeros := shapeCast_id _ _

/-! ## One trip -/

section
variable (𝒱 : Variants) (c : Dev nD) (bd : Option 𝒱.V) (i : grid0.Coords) (arg1 : Memref sig .tc .vmem S512x256 .bf16) (harg1 : arg1.IsWhole)
  (arg2 : Memref sig .tc .vmem S4096x256 .bf16) (harg2 : arg2.IsWhole) (arg3 : Memref sig .tc .vmem S4096x256 .bf16) (harg3 : arg3.IsWhole)
  (arg4 : Memref sig .tc .vmem S512x256 .f32) (harg4 : arg4.IsWhole) (arg5 : Memref sig .tc .vmem S512x512 .f32) (harg5 : arg5.IsWhole)
  (arg6 : Memref sig .tc .vmem S512x256 .f32) (harg6 : arg6.IsWhole) (arg7 : Memref sig .tc .vmem S4096x256 .f32) (harg7 : arg7.IsWhole)
  (arg8 : Memref sig .tc .vmem S4096x256 .f32) (harg8 : arg8.IsWhole) (arg9 : Memref sig .tc .vmem S2048x256 .f32) (harg9 : arg9.IsWhole)
  (arg0 : BitVec 32) (q o : FVec F S2048x256 .bf16) (g : FVec F S2048x1 .f32) (v389 v492 : FVec F S2048x1 .f32) (v493 : FVec F S2048 .f32)
  (v496 : BitVec 32) (x1 x2 : Vec F S4096x256 .bf16)

/-- The carried state read off the loop's carried pair and the three buffers it writes. -/
def stOf (acc : FVec F S2048x1 .f32 × FVec F S2048x1 .f32) (f7 : BufTy.Contents (Elt F) arg7.view.ty) (f8 : BufTy.Contents (Elt F) arg8.view.ty)
    (f9 : BufTy.Contents (Elt F) arg9.view.ty) : St F :=
  ⟨acc.1, acc.2, arg7.view.read (Elt F) f7, arg8.view.read (Elt F) f8, arg9.view.read (Elt F) f9⟩

set_option maxHeartbeats 4000000 in
theorem trip_eq (k : Fin (k0_t1_loop i).trips) (acc : FVec F S2048x1 .f32 × FVec F S2048x1 .f32)
    (f7 : BufTy.Contents (Elt F) arg7.view.ty) (f8 : BufTy.Contents (Elt F) arg8.view.ty) (f9 : BufTy.Contents (Elt F) arg9.view.ty) :
    stOf arg7 arg8 arg9
      (tripR_k0_t1 𝒱 c bd i arg1 harg1 arg2 harg2 arg3 harg3 arg4 harg4 arg5 harg5 arg6 harg6 arg7 harg7 arg8 harg8 arg9 harg9 arg0 q o g
        later fromOn v389 v492 v493 v496 (harg2.unread x1) (harg3.unread x2) k acc f7 f8 f9)
      (arg7.view.writes (Elt F) f7 (tripL_k0_t1 𝒱 c bd i arg1 harg1 arg2 harg2 arg3 harg3 arg4 harg4 arg5 harg5 arg6 harg6 arg7 harg7 arg8 harg8 arg9 harg9 arg0 q o g
        later fromOn v389 v492 v493 v496 (harg2.unread x1) (harg3.unread x2) k acc f7 f8 f9).1)
      (arg8.view.writes (Elt F) f8 (tripL_k0_t1 𝒱 c bd i arg1 harg1 arg2 harg2 arg3 harg3 arg4 harg4 arg5 harg5 arg6 harg6 arg7 harg7 arg8 harg8 arg9 harg9 arg0 q o g
        later fromOn v389 v492 v493 v496 (harg2.unread x1) (harg3.unread x2) k acc f7 f8 f9).2.1)
      (arg9.view.writes (Elt F) f9 (tripL_k0_t1 𝒱 c bd i arg1 harg1 arg2 harg2 arg3 harg3 arg4 harg4 arg5 harg5 arg6 harg6 arg7 harg7 arg8 harg8 arg9 harg9 arg0 q o g
        later fromOn v389 v492 v493 v496 (harg2.unread x1) (harg3.unread x2) k acc f7 f8 f9).2.2)
    = tile ⟨q, o, g, x1, x2⟩ none (Fin.ofNat 16 (2 * pt i - 1 - k.val)) false (stOf arg7 arg8 arg9 acc f7 f8 f9) := by
  have hk : View.readAt (Elt F) arg2.view (Rect.unit (s := S4096x256) (k0_off2 i k) S256x256.size (k0_off2_inb i k)).toLoadRect (harg2.unread x1)
      = rows x1 (Fin.ofNat 16 (2 * pt i - 1 - k.val)) := by
    rw [View.readAt_unit _ _ _ (off2_eq i k) (off_inb _), harg2.read_unread]; rfl
  have hv : View.readAt (Elt F) arg3.view (Rect.unit (s := S4096x256) (k0_off2 i k) S256x256.size (k0_off2_inb i k)).toLoadRect (harg3.unread x2)
      = rows x2 (Fin.ofNat 16 (2 * pt i - 1 - k.val)) := by
    rw [View.readAt_unit _ _ _ (off2_eq i k) (off_inb _), harg3.read_unread]; rfl
  have h7 : View.readAt (Elt F) arg7.view (Rect.unit (s := S4096x256) (k0_off2 i k) S256x256.size (k0_off2_inb i k)).toLoadRect f7
      = rows (arg7.view.read (Elt F) f7) (Fin.ofNat 16 (2 * pt i - 1 - k.val)) := by
    rw [View.readAt_unit _ _ _ (off2_eq i k) (off_inb _)]; rfl
  have h8 : View.readAt (Elt F) arg8.view (Rect.unit (s := S4096x256) (k0_off2 i k) S256x256.size (k0_off2_inb i k)).toLoadRect f8
      = rows (arg8.view.read (Elt F) f8) (Fin.ofNat 16 (2 * pt i - 1 - k.val)) := by
    rw [View.readAt_unit _ _ _ (off2_eq i k) (off_inb _)]; rfl
  have h9 : View.readAt (Elt F) arg9.view (Rect.unit (s := S2048x256) ![0, 0] S2048x256.size inb_S2048x256_S2048x256_0_0).toLoadRect f9
      = arg9.view.read (Elt F) f9 := View.readAt_full _ _ _
  unfold tripR_k0_t1 tripL_k0_t1 trip_k0_t1
  dsimp only
  unfold trip_k0_t1.sl.r trip_k0_t1.sl.r_1 trip_k0_t1.sl.r_2 trip_k0_t1.sl.r_3 trip_k0_t1.sl.r_4 trip_k0_t1.sl.r_5 trip_k0_t1.sl.r_6
  simp only [hk, hv, h7, h8, h9]
  apply St.ext
  · rfl
  · rfl
  · show arg7.view.read (Elt F) _ = setRows _ _ _
    rw [View.read_writes_cons_put _ _ _ _ _ (off2_eq i k)]
    exact congrArg (setRows _ _) (shapeCast_id _ _)
  · show arg8.view.read (Elt F) _ = setRows _ _ _
    rw [View.read_writes_cons_put _ _ _ _ _ (off2_eq i k)]
    exact congrArg (setRows _ _) (shapeCast_id _ _)
  · show arg9.view.read (Elt F) _ = addf _ _
    rw [View.read_writes_full]
    exact shapeCast_id _ _

set_option maxHeartbeats 4000000 in
/-- The state after `n` trips is the walk's. -/
theorem loop_eq (G7 : BufTy.Contents (Elt F) arg7.view.ty) (G8 : BufTy.Contents (Elt F) arg8.view.ty) (G9 : BufTy.Contents (Elt F) arg9.view.ty)
    (init : FVec F S2048x1 .f32 × FVec F S2048x1 .f32) (dk dv : Vec F S4096x256 .f32)
    (h0 : stOf arg7 arg8 arg9 init G7 G8 G9 = diag ⟨q, o, g, x1, x2⟩ (pt i) dk dv) : ∀ n ≤ (k0_t1_loop i).trips,
    stOf arg7 arg8 arg9
      (st_k0_t1 𝒱 c bd i arg1 harg1 arg2 harg2 arg3 harg3 arg4 harg4 arg5 harg5 arg6 harg6 arg7 harg7 arg8 harg8 arg9 harg9 arg0 q o g
        later fromOn v389 v492 v493 v496 (harg2.unread x1) (harg3.unread x2) G7 G8 G9 init n).1
      (arg7.view.writes (Elt F) G7 (st_k0_t1 𝒱 c bd i arg1 harg1 arg2 harg2 arg3 harg3 arg4 harg4 arg5 harg5 arg6 harg6 arg7 harg7 arg8 harg8 arg9 harg9 arg0 q o g
        later fromOn v389 v492 v493 v496 (harg2.unread x1) (harg3.unread x2) G7 G8 G9 init n).2.1)
      (arg8.view.writes (Elt F) G8 (st_k0_t1 𝒱 c bd i arg1 harg1 arg2 harg2 arg3 harg3 arg4 harg4 arg5 harg5 arg6 harg6 arg7 harg7 arg8 harg8 arg9 harg9 arg0 q o g
        later fromOn v389 v492 v493 v496 (harg2.unread x1) (harg3.unread x2) G7 G8 G9 init n).2.2.1)
      (arg9.view.writes (Elt F) G9 (st_k0_t1 𝒱 c bd i arg1 harg1 arg2 harg2 arg3 harg3 arg4 harg4 arg5 harg5 arg6 harg6 arg7 harg7 arg8 harg8 arg9 harg9 arg0 q o g
        later fromOn v389 v492 v493 v496 (harg2.unread x1) (harg3.unread x2) G7 G8 G9 init n).2.2.2)
    = walk ⟨q, o, g, x1, x2⟩ (pt i) dk dv n
  | 0, _ => by
    show stOf arg7 arg8 arg9 init (arg7.view.writes (Elt F) G7 []) (arg8.view.writes (Elt F) G8 []) (arg9.view.writes (Elt F) G9 []) = _
    rw [View.writes_nil, View.writes_nil, View.writes_nil]; exact h0
  | n + 1, hn => by
    have ih := loop_eq G7 G8 G9 init dk dv h0 n (Nat.le_of_succ_le hn)
    have e := st_k0_t1_succ 𝒱 c bd i arg1 harg1 arg2 harg2 arg3 harg3 arg4 harg4 arg5 harg5 arg6 harg6 arg7 harg7 arg8 harg8 arg9 harg9 arg0 q o g
        later fromOn v389 v492 v493 v496 (harg2.unread x1) (harg3.unread x2) G7 G8 G9 init ⟨n, hn⟩
    dsimp only at e
    rw [e]
    dsimp only
    rw [View.writes_append, View.writes_append, View.writes_append]
    rw [show walk ⟨q, o, g, x1, x2⟩ (pt i) dk dv (n + 1) = tile ⟨q, o, g, x1, x2⟩ none (Fin.ofNat 16 (2 * pt i - 1 - n)) false (walk ⟨q, o, g, x1, x2⟩ (pt i) dk dv n) from rfl, ← ih]
    exact trip_eq 𝒱 c bd i arg1 harg1 arg2 harg2 arg3 harg3 arg4 harg4 arg5 harg5 arg6 harg6 arg7 harg7 arg8 harg8 arg9 harg9 arg0 q o g
      v389 v492 v493 v496 x1 x2 ⟨n, hn⟩ _ _ _ _

/-- The state after the loop. -/
theorem whole_eq (G7 : BufTy.Contents (Elt F) arg7.view.ty) (G8 : BufTy.Contents (Elt F) arg8.view.ty) (G9 : BufTy.Contents (Elt F) arg9.view.ty)
    (init : FVec F S2048x1 .f32 × FVec F S2048x1 .f32) (dk dv : Vec F S4096x256 .f32)
    (h0 : stOf arg7 arg8 arg9 init G7 G8 G9 = diag ⟨q, o, g, x1, x2⟩ (pt i) dk dv) :
    stOf arg7 arg8 arg9
      (st_k0_t1 𝒱 c bd i arg1 harg1 arg2 harg2 arg3 harg3 arg4 harg4 arg5 harg5 arg6 harg6 arg7 harg7 arg8 harg8 arg9 harg9 arg0 q o g
        later fromOn v389 v492 v493 v496 (harg2.unread x1) (harg3.unread x2) G7 G8 G9 init (Scf.trips (k0_t1_loop i).lb (k0_t1_loop i).ub (k0_t1_loop i).st)).1
      (arg7.view.writes (Elt F) G7 (st_k0_t1 𝒱 c bd i arg1 harg1 arg2 harg2 arg3 harg3 arg4 harg4 arg5 harg5 arg6 harg6 arg7 harg7 arg8 harg8 arg9 harg9 arg0 q o g
        later fromOn v389 v492 v493 v496 (harg2.unread x1) (harg3.unread x2) G7 G8 G9 init (Scf.trips (k0_t1_loop i).lb (k0_t1_loop i).ub (k0_t1_loop i).st)).2.1)
      (arg8.view.writes (Elt F) G8 (st_k0_t1 𝒱 c bd i arg1 harg1 arg2 harg2 arg3 harg3 arg4 harg4 arg5 harg5 arg6 harg6 arg7 harg7 arg8 harg8 arg9 harg9 arg0 q o g
        later fromOn v389 v492 v493 v496 (harg2.unread x1) (harg3.unread x2) G7 G8 G9 init (Scf.trips (k0_t1_loop i).lb (k0_t1_loop i).ub (k0_t1_loop i).st)).2.2.1)
      (arg9.view.writes (Elt F) G9 (st_k0_t1 𝒱 c bd i arg1 harg1 arg2 harg2 arg3 harg3 arg4 harg4 arg5 harg5 arg6 harg6 arg7 harg7 arg8 harg8 arg9 harg9 arg0 q o g
        later fromOn v389 v492 v493 v496 (harg2.unread x1) (harg3.unread x2) G7 G8 G9 init (Scf.trips (k0_t1_loop i).lb (k0_t1_loop i).ub (k0_t1_loop i).st)).2.2.2)
    = whole ⟨q, o, g, x1, x2⟩ (pt i) dk dv
:= by
  have h := loop_eq 𝒱 c bd i arg1 harg1 arg2 harg2 arg3 harg3 arg4 harg4 arg5 harg5 arg6 harg6 arg7 harg7 arg8 harg8 arg9 harg9 arg0 q o g
      v389 v492 v493 v496 x1 x2 G7 G8 G9 init dk dv h0 (k0_t1_loop i).trips le_rfl
  exact h.trans (congrArg (walk _ _ _ _) (trips1 i))

end

end Cert.KernelIdeal.Sb
end
-- ==== Proof.RunA.lean ====
module

public import proofs.«01_k».proof.Proof.Gen.KernelIdeal.Frame
public import proofs.«01_k».proof.Proof.Trip
public import proofs.«01_k».proof.Proof.Gen.KernelIdeal.Points
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
theorem runA (c : Dev nD) (i : grid0.Coords) (arg1 : Memref sig .tc .vmem S512x256 .bf16) (harg1 : arg1.IsWhole) (arg2 : Memref sig .tc .vmem S4096x256 .bf16) (harg2 : arg2.IsWhole) (arg3 : Memref sig .tc .vmem S4096x256 .bf16) (harg3 : arg3.IsWhole) (arg4 : Memref sig .tc .vmem S512x256 .f32) (harg4 : arg4.IsWhole) (arg5 : Memref sig .tc .vmem S512x512 .f32) (harg5 : arg5.IsWhole) (arg6 : Memref sig .tc .vmem S512x256 .f32) (harg6 : arg6.IsWhole) (arg7 : Memref sig .tc .vmem S4096x256 .f32) (harg7 : arg7.IsWhole) (arg8 : Memref sig .tc .vmem S4096x256 .f32) (harg8 : arg8.IsWhole) (arg9 : Memref sig .tc .vmem S2048x256 .f32) (harg9 : arg9.IsWhole) (hc0 : IsFirst i)
    (x0 : Vec F S512x256 .bf16) (x1 : Vec F S4096x256 .bf16) (x2 : Vec F S4096x256 .bf16) (x3 : Vec F S512x256 .f32) (x4 : Vec F S512x512 .f32) (y6 y7 : Vec F S4096x256 .f32) (y5 : Vec F S512x256 .f32) (hy6 : (whole (args x0 x1 x2 x3 x4) (pt i) zeros zeros).dk = y6) (hy7 : (whole (args x0 x1 x2 x3 x4) (pt i) zeros zeros).dv = y7) (hy5 : dqOut (args x0 x1 x2 x3 x4) (pt i) zeros zeros = y5) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ owns (c : Thread nD τ) arg7 fullShare y6 ∗ owns (c : Thread nD τ) arg8 fullShare y7 ∗ (∃ d, owns (c : Thread nD τ) arg9 fullShare d)) -∗ K ⟨⟩))
          ⊢ wp frame (wpE (defs₀ (F := F)) Variants.none c none) E (cc0_dsb i arg1 harg1 arg2 harg2 arg3 harg3 arg4 harg4 arg5 harg5 arg6 harg6 arg7 harg7 arg8 harg8 arg9 harg9) K := by
    intro E K
    simp only [cc0_dsb_eq_skeleton]; unfold cc0_dsb_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    have ea : View.readAt (Elt F) arg1.view (Rect.unit (s := S512x256) ![0, 0] S512x256.size inb_S512x256_S512x256_0_0).toLoadRect (harg1.unread x0) = x0 :=
      (View.readAt_full _ _ _).trans (harg1.read_unread _)
    have eb : View.readAt (Elt F) arg4.view (Rect.unit (s := S512x256) ![0, 0] S512x256.size inb_S512x256_S512x256_0_0).toLoadRect (harg4.unread x3) = x3 :=
      (View.readAt_full _ _ _).trans (harg4.read_unread _)
    have ec : ∀ (o : Fin 2 → ℕ) (inb), View.readAt (Elt F) arg5.view (Rect.unit (s := S512x512) o S512x128.size inb).toLoadRect (harg5.unread x4) = lanesOf x4 o inb :=
      fun o inb => (View.readAt_unit _ _ _ rfl inb).trans (by rw [harg5.read_unread]; rfl)
    have e21 : ∀ inb, View.readAt (Elt F) arg2.view (Rect.unit (s := S4096x256) (k0_off1 i 256#32) S256x256.size inb).toLoadRect (harg2.unread x1) = rows x1 (Fin.ofNat 16 (2 * pt i + 1)) :=
      fun inb => (read_diag1 i _ _ inb).trans (by rw [harg2.read_unread])
    have e20 : ∀ inb, View.readAt (Elt F) arg2.view (Rect.unit (s := S4096x256) (k0_off1 i 0#32) S256x256.size inb).toLoadRect (harg2.unread x1) = rows x1 (Fin.ofNat 16 (2 * pt i)) :=
      fun inb => (read_diag0 i _ _ inb).trans (by rw [harg2.read_unread])
    have e31 : ∀ inb, View.readAt (Elt F) arg3.view (Rect.unit (s := S4096x256) (k0_off1 i 256#32) S256x256.size inb).toLoadRect (harg3.unread x2) = rows x2 (Fin.ofNat 16 (2 * pt i + 1)) :=
      fun inb => (read_diag1 i _ _ inb).trans (by rw [harg3.read_unread])
    have e30 : ∀ inb, View.readAt (Elt F) arg3.view (Rect.unit (s := S4096x256) (k0_off1 i 0#32) S256x256.size inb).toLoadRect (harg3.unread x2) = rows x2 (Fin.ofNat 16 (2 * pt i)) :=
      fun inb => (read_diag0 i _ _ inb).trans (by rw [harg3.read_unread])
    have e71 : ∀ inb inb', View.readAt (Elt F) arg7.view (Rect.unit (s := S4096x256) (k0_off1 i 256#32) S256x256.size inb).toLoadRect
        (arg7.view.writes (Elt F) arg7.view.junk [⟨Rect.unit (s := S4096x256) ![0, 0] S4096x256.size inb', k0_pay18⟩]) = rows zeros (Fin.ofNat 16 (2 * pt i + 1)) :=
      fun inb inb' => (read_fill1 i _ _ inb inb').trans (by rw [pay18_eq])
    have e70 : ∀ inb inb' inb1 w, View.readAt (Elt F) arg7.view (Rect.unit (s := S4096x256) (k0_off1 i 0#32) S256x256.size inb).toLoadRect
        (arg7.view.writes (Elt F) arg7.view.junk [⟨Rect.unit (s := S4096x256) (k0_off1 i 256#32) S256x256.size inb1, w⟩, ⟨Rect.unit (s := S4096x256) ![0, 0] S4096x256.size inb', k0_pay18⟩])
          = rows zeros (Fin.ofNat 16 (2 * pt i)) :=
      fun inb inb' inb1 w => (read_fill0 i _ _ inb inb' inb1 w).trans (by rw [pay18_eq])
    have e81 : ∀ inb inb', View.readAt (Elt F) arg8.view (Rect.unit (s := S4096x256) (k0_off1 i 256#32) S256x256.size inb).toLoadRect
        (arg8.view.writes (Elt F) arg8.view.junk [⟨Rect.unit (s := S4096x256) ![0, 0] S4096x256.size inb', k0_pay19⟩]) = rows zeros (Fin.ofNat 16 (2 * pt i + 1)) :=
      fun inb inb' => (read_fill1 i _ _ inb inb').trans (by rw [pay19_eq])
    have e80 : ∀ inb inb' inb1 w, View.readAt (Elt F) arg8.view (Rect.unit (s := S4096x256) (k0_off1 i 0#32) S256x256.size inb).toLoadRect
        (arg8.view.writes (Elt F) arg8.view.junk [⟨Rect.unit (s := S4096x256) (k0_off1 i 256#32) S256x256.size inb1, w⟩, ⟨Rect.unit (s := S4096x256) ![0, 0] S4096x256.size inb', k0_pay19⟩])
          = rows zeros (Fin.ofNat 16 (2 * pt i)) :=
      fun inb inb' inb1 w => (read_fill0 i _ _ inb inb' inb1 w).trans (by rw [pay19_eq])
    have hq : runA.sl.r_3 c arg1 harg1 x0 = qStack x0 := by
      delta runA.sl.r_3 runA.sl.r_2 runA.sl.r_1 runA.sl.r runA.sl.v37; simp only [ea]; rfl
    have ho : runA.sl.r_8 c arg4 harg4 x3 = oStack x3 := by
      delta runA.sl.r_8 runA.sl.r_7 runA.sl.r_6 runA.sl.r_5 runA.sl.r_4 runA.sl.v37; simp only [eb]; rfl
    have hg : runA.sl.r_12 c arg5 harg5 x4 = gStack x4 := by
      delta runA.sl.r_12 runA.sl.r_11 runA.sl.r_10 runA.sl.r_9; simp only [ec]; rfl
    have H := whole_eq Variants.none c none i arg1 harg1 arg2 harg2 arg3 harg3 arg4 harg4 arg5 harg5 arg6 harg6 arg7 harg7 arg8 harg8 arg9 harg9
      (BitVec.ofNat 32 ↑(i 0)) (runA.sl.r_3 c arg1 harg1 x0) (runA.sl.r_8 c arg4 harg4 x3) (runA.sl.r_12 c arg5 harg5 x4)
      (runA.sl.r_23 c i arg1 harg1 arg2 harg2 arg3 harg3 arg4 harg4 x0 x1 x2 x3) (runA.sl.r_34 c i arg1 harg1 arg2 harg2 x0 x1) (runA.sl.r_35 c i arg1 harg1 arg2 harg2 arg3 harg3 arg4 harg4 x0 x1 x2 x3) (runA.sl.v496 i) x1 x2
      (arg7.view.writes (Elt F) arg7.view.junk
        (⟨Rect.unit (s := S4096x256) (k0_off1 i 0#32) S256x256.size (k0_off1_inb i 0),
            k0_pay69 (runA.sl.r_3 c arg1 harg1 x0) (runA.sl.r_12 c arg5 harg5 x4) k0_pay41 (runA.sl.r_23 c i arg1 harg1 arg2 harg2 arg3 harg3 arg4 harg4 x0 x1 x2 x3) (runA.sl.r_26 c i arg1 harg1 arg2 harg2 x0 x1) (runA.sl.r_29 c i arg1 harg1 arg2 harg2 x0 x1) k0_pay63
              (runA.sl.r_32 c i arg1 harg1 arg2 harg2 arg3 harg3 arg4 harg4 x0 x1 x2 x3) (runA.sl.r_33 c i arg1 harg1 arg2 harg2 arg3 harg3 arg4 harg4 x0 x1 x2 x3) (runA.sl.v468 c i arg1 harg1 arg2 harg2 arg3 harg3 arg4 harg4 arg5 harg5 arg7 x0 x1 x2 x3 x4)⟩ :: runA.sl.H6_2 c i arg1 harg1 arg2 harg2 arg3 harg3 arg4 harg4 arg5 harg5 arg7 x0 x1 x2 x3 x4))
      (arg8.view.writes (Elt F) arg8.view.junk
        (⟨Rect.unit (s := S4096x256) (k0_off1 i 0#32) S256x256.size (k0_off1_inb i 0),
            k0_pay70 (runA.sl.r_8 c arg4 harg4 x3) (runA.sl.r_31 c i arg1 harg1 arg2 harg2 x0 x1) (runA.sl.v476 c i arg1 harg1 arg2 harg2 arg4 harg4 arg8 x0 x1 x3)⟩ :: runA.sl.H7_2 c i arg1 harg1 arg2 harg2 arg4 harg4 arg8 x0 x1 x3))
      (arg9.view.writes (Elt F) arg9.view.junk (runA.sl.HS0_2 c i arg1 harg1 arg2 harg2 arg3 harg3 arg4 harg4 arg5 harg5 arg9 x0 x1 x2 x3 x4))
      (runA.sl.r_34 c i arg1 harg1 arg2 harg2 x0 x1, k0_pay74 (runA.sl.r_23 c i arg1 harg1 arg2 harg2 arg3 harg3 arg4 harg4 x0 x1 x2 x3) (runA.sl.r_35 c i arg1 harg1 arg2 harg2 arg3 harg3 arg4 harg4 x0 x1 x2 x3)) zeros zeros (by
        delta runA.sl.H6_1 runA.sl.H6_2 runA.sl.H7_1 runA.sl.H7_2 runA.sl.v364 runA.sl.v372 runA.sl.HS0_1 runA.sl.HS0_2 runA.sl.r runA.sl.r_1 runA.sl.r_2 runA.sl.r_3 runA.sl.r_4 runA.sl.r_5 runA.sl.r_6 runA.sl.r_7 runA.sl.r_8 runA.sl.r_9 runA.sl.r_10 runA.sl.r_11 runA.sl.r_12 runA.sl.r_13 runA.sl.r_14 runA.sl.r_15 runA.sl.r_16 runA.sl.r_17 runA.sl.r_18 runA.sl.r_19 runA.sl.r_20 runA.sl.r_21 runA.sl.r_22 runA.sl.r_23 runA.sl.r_24 runA.sl.r_25 runA.sl.r_26 runA.sl.r_27 runA.sl.r_28 runA.sl.r_29 runA.sl.r_30 runA.sl.r_31 runA.sl.r_32 runA.sl.r_33 runA.sl.r_34 runA.sl.r_35 runA.sl.v37 runA.sl.v468 runA.sl.v476 runA.sl.v485
        simp only [ea, eb, ec]
        simp only [e21, e20, e31, e30, e71, e70, e81, e80]
        clear ea eb ec e21 e20 e31 e30 e71 e70 e81 e80
        apply St.ext
        · rfl
        · rfl
        · show arg7.view.read (Elt F) (arg7.view.writes (Elt F) _ [_, _, _]) = setRows (setRows zeros _ _) _ (addf (rows (setRows zeros _ _) _) _)
          rw [write_diag0, write_diag1, View.read_writes_full, pay18_eq, rows_setRows_ne _ _ (ne_diag i)]
          exact congrArg₂ (fun a b => setRows a _ b) (congrArg (setRows _ _) (shapeCast_id _ _)) (shapeCast_id _ _)
        · show arg8.view.read (Elt F) (arg8.view.writes (Elt F) _ [_, _, _]) = setRows (setRows zeros _ _) _ (addf (rows (setRows zeros _ _) _) _)
          rw [write_diag0, write_diag1, View.read_writes_full, pay19_eq, rows_setRows_ne _ _ (ne_diag i)]
          exact congrArg₂ (fun a b => setRows a _ b) (congrArg (setRows _ _) (shapeCast_id _ _)) (shapeCast_id _ _)
        · show arg9.view.read (Elt F) (arg9.view.writes (Elt F) _ [_, _]) = _
          rw [View.read_writes_full, View.readCov_full]
          exact (shapeCast_id _ _).trans (congrArg (fun a => addf a _) (shapeCast_id _ _)))
    rw [show (⟨runA.sl.r_3 c arg1 harg1 x0, runA.sl.r_8 c arg4 harg4 x3, runA.sl.r_12 c arg5 harg5 x4, x1, x2⟩ : Args F) = args x0 x1 x2 x3 x4 by rw [hq, ho, hg]; rfl] at H
    have e2 : Scf.trips (k0_t2_loop i).lb (k0_t2_loop i).ub (k0_t2_loop i).st = 0 := trips2 i
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      delta runA.sl.r_37 runA.sl.r_36
      generalize hv : runA.sl.v504 c i arg1 harg1 arg2 harg2 arg3 harg3 arg4 harg4 arg5 harg5 arg6 harg6 arg7 harg7 arg8 harg8 arg9 harg9 x0 x1 x2 x3 x4 = a
      have ha : a = (whole (args x0 x1 x2 x3 x4) (pt i) zeros zeros).dq := by
        rw [← hv]
        delta runA.sl.v504
        rw [e2]
        simp only [st_k0_t2, List.nil_append]
        refine (View.readAt_full _ _ _).trans ?_
        rw [View.writes_append]
        exact congrArg St.dq H
      rw [View.read_writes_full, ← hy5, dqOut, ← ha]
      exact shapeCast_id _ _
    isplitl [H6]
    · iexists _; isplitr; swap; · iexact H6
      ipureintro
      rw [e2]
      simp only [st_k0_t2, List.nil_append]
      rw [View.writes_append]
      exact (congrArg St.dk H).trans hy6
    isplitl [H7]
    · iexists _; isplitr; swap; · iexact H7
      ipureintro
      rw [e2]
      simp only [st_k0_t2, List.nil_append]
      rw [View.writes_append]
      exact (congrArg St.dv H).trans hy7
    iexists _, _; isplitr; swap; · iexact HS0
    ipureintro; rfl

end Cert.KernelIdeal.Sb
end
-- ==== Proof.RunB.lean ====
module

public import proofs.«01_k».proof.Proof.Gen.KernelIdeal.Frame
public import proofs.«01_k».proof.Proof.Trip
public import proofs.«01_k».proof.Proof.Gen.KernelIdeal.Points
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
theorem runB (c : Dev nD) (i : grid0.Coords) (arg1 : Memref sig .tc .vmem S512x256 .bf16) (harg1 : arg1.IsWhole) (arg2 : Memref sig .tc .vmem S4096x256 .bf16) (harg2 : arg2.IsWhole) (arg3 : Memref sig .tc .vmem S4096x256 .bf16) (harg3 : arg3.IsWhole) (arg4 : Memref sig .tc .vmem S512x256 .f32) (harg4 : arg4.IsWhole) (arg5 : Memref sig .tc .vmem S512x512 .f32) (harg5 : arg5.IsWhole) (arg6 : Memref sig .tc .vmem S512x256 .f32) (harg6 : arg6.IsWhole) (arg7 : Memref sig .tc .vmem S4096x256 .f32) (harg7 : arg7.IsWhole) (arg8 : Memref sig .tc .vmem S4096x256 .f32) (harg8 : arg8.IsWhole) (arg9 : Memref sig .tc .vmem S2048x256 .f32) (harg9 : arg9.IsWhole) (hc0 : ¬IsFirst i)
    (x0 : Vec F S512x256 .bf16) (x1 : Vec F S4096x256 .bf16) (x2 : Vec F S4096x256 .bf16) (x3 : Vec F S512x256 .f32) (x4 : Vec F S512x512 .f32) (x6 x7 y6 y7 : Vec F S4096x256 .f32) (y5 : Vec F S512x256 .f32) (hy6 : (whole (args x0 x1 x2 x3 x4) (pt i) x6 x7).dk = y6) (hy7 : (whole (args x0 x1 x2 x3 x4) (pt i) x6 x7).dv = y7) (hy5 : dqOut (args x0 x1 x2 x3 x4) (pt i) x6 x7 = y5) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare x6 ∗ owns (c : Thread nD τ) arg8 fullShare x7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ owns (c : Thread nD τ) arg7 fullShare y6 ∗ owns (c : Thread nD τ) arg8 fullShare y7 ∗ (∃ d, owns (c : Thread nD τ) arg9 fullShare d)) -∗ K ⟨⟩))
          ⊢ wp frame (wpE (defs₀ (F := F)) Variants.none c none) E (cc0_dsb i arg1 harg1 arg2 harg2 arg3 harg3 arg4 harg4 arg5 harg5 arg6 harg6 arg7 harg7 arg8 harg8 arg9 harg9) K := by
    intro E K
    simp only [cc0_dsb_eq_skeleton]; unfold cc0_dsb_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    have ea : View.readAt (Elt F) arg1.view (Rect.unit (s := S512x256) ![0, 0] S512x256.size inb_S512x256_S512x256_0_0).toLoadRect (harg1.unread x0) = x0 :=
      (View.readAt_full _ _ _).trans (harg1.read_unread _)
    have eb : View.readAt (Elt F) arg4.view (Rect.unit (s := S512x256) ![0, 0] S512x256.size inb_S512x256_S512x256_0_0).toLoadRect (harg4.unread x3) = x3 :=
      (View.readAt_full _ _ _).trans (harg4.read_unread _)
    have ec : ∀ (o : Fin 2 → ℕ) (inb), View.readAt (Elt F) arg5.view (Rect.unit (s := S512x512) o S512x128.size inb).toLoadRect (harg5.unread x4) = lanesOf x4 o inb :=
      fun o inb => (View.readAt_unit _ _ _ rfl inb).trans (by rw [harg5.read_unread]; rfl)
    have e21 : ∀ inb, View.readAt (Elt F) arg2.view (Rect.unit (s := S4096x256) (k0_off1 i 256#32) S256x256.size inb).toLoadRect (harg2.unread x1) = rows x1 (Fin.ofNat 16 (2 * pt i + 1)) :=
      fun inb => (read_diag1 i _ _ inb).trans (by rw [harg2.read_unread])
    have e20 : ∀ inb, View.readAt (Elt F) arg2.view (Rect.unit (s := S4096x256) (k0_off1 i 0#32) S256x256.size inb).toLoadRect (harg2.unread x1) = rows x1 (Fin.ofNat 16 (2 * pt i)) :=
      fun inb => (read_diag0 i _ _ inb).trans (by rw [harg2.read_unread])
    have e31 : ∀ inb, View.readAt (Elt F) arg3.view (Rect.unit (s := S4096x256) (k0_off1 i 256#32) S256x256.size inb).toLoadRect (harg3.unread x2) = rows x2 (Fin.ofNat 16 (2 * pt i + 1)) :=
      fun inb => (read_diag1 i _ _ inb).trans (by rw [harg3.read_unread])
    have e30 : ∀ inb, View.readAt (Elt F) arg3.view (Rect.unit (s := S4096x256) (k0_off1 i 0#32) S256x256.size inb).toLoadRect (harg3.unread x2) = rows x2 (Fin.ofNat 16 (2 * pt i)) :=
      fun inb => (read_diag0 i _ _ inb).trans (by rw [harg3.read_unread])
    have e71 : ∀ inb, View.readAt (Elt F) arg7.view (Rect.unit (s := S4096x256) (k0_off1 i 256#32) S256x256.size inb).toLoadRect f6 = rows x6 (Fin.ofNat 16 (2 * pt i + 1)) :=
      fun inb => (read_diag1 i _ _ inb).trans (by rw [hf6])
    have e70 : ∀ inb, View.readAt (Elt F) arg7.view (Rect.unit (s := S4096x256) (k0_off1 i 0#32) S256x256.size inb).toLoadRect f6 = rows x6 (Fin.ofNat 16 (2 * pt i)) :=
      fun inb => (read_diag0 i _ _ inb).trans (by rw [hf6])
    have e81 : ∀ inb, View.readAt (Elt F) arg8.view (Rect.unit (s := S4096x256) (k0_off1 i 256#32) S256x256.size inb).toLoadRect f7 = rows x7 (Fin.ofNat 16 (2 * pt i + 1)) :=
      fun inb => (read_diag1 i _ _ inb).trans (by rw [hf7])
    have e80 : ∀ inb, View.readAt (Elt F) arg8.view (Rect.unit (s := S4096x256) (k0_off1 i 0#32) S256x256.size inb).toLoadRect f7 = rows x7 (Fin.ofNat 16 (2 * pt i)) :=
      fun inb => (read_diag0 i _ _ inb).trans (by rw [hf7])
    have hq : runB.sl.r_3 c arg1 harg1 x0 = qStack x0 := by
      delta runB.sl.r_3 runB.sl.r_2 runB.sl.r_1 runB.sl.r runB.sl.v37; simp only [ea]; rfl
    have ho : runB.sl.r_8 c arg4 harg4 x3 = oStack x3 := by
      delta runB.sl.r_8 runB.sl.r_7 runB.sl.r_6 runB.sl.r_5 runB.sl.r_4 runB.sl.v37; simp only [eb]; rfl
    have hg : runB.sl.r_12 c arg5 harg5 x4 = gStack x4 := by
      delta runB.sl.r_12 runB.sl.r_11 runB.sl.r_10 runB.sl.r_9; simp only [ec]; rfl
    have H := whole_eq Variants.none c none i arg1 harg1 arg2 harg2 arg3 harg3 arg4 harg4 arg5 harg5 arg6 harg6 arg7 harg7 arg8 harg8 arg9 harg9
      (BitVec.ofNat 32 ↑(i 0)) (runB.sl.r_3 c arg1 harg1 x0) (runB.sl.r_8 c arg4 harg4 x3) (runB.sl.r_12 c arg5 harg5 x4)
      (runB.sl.r_23 c i arg1 harg1 arg2 harg2 arg3 harg3 arg4 harg4 x0 x1 x2 x3) (runB.sl.r_34 c i arg1 harg1 arg2 harg2 x0 x1) (runB.sl.r_35 c i arg1 harg1 arg2 harg2 arg3 harg3 arg4 harg4 x0 x1 x2 x3) (runB.sl.v496 i) x1 x2
      (arg7.view.writes (Elt F) f6
        [⟨Rect.unit (s := S4096x256) (k0_off1 i 0#32) S256x256.size (k0_off1_inb i 0),
            k0_pay69 (runB.sl.r_3 c arg1 harg1 x0) (runB.sl.r_12 c arg5 harg5 x4) k0_pay41 (runB.sl.r_23 c i arg1 harg1 arg2 harg2 arg3 harg3 arg4 harg4 x0 x1 x2 x3) (runB.sl.r_26 c i arg1 harg1 arg2 harg2 x0 x1) (runB.sl.r_29 c i arg1 harg1 arg2 harg2 x0 x1) k0_pay63
              (runB.sl.r_32 c i arg1 harg1 arg2 harg2 arg3 harg3 arg4 harg4 x0 x1 x2 x3) (runB.sl.r_33 c i arg1 harg1 arg2 harg2 arg3 harg3 arg4 harg4 x0 x1 x2 x3) (runB.sl.v468 c i arg7 f6)⟩,
          ⟨Rect.unit (s := S4096x256) (k0_off1 i 256#32) S256x256.size (k0_off1_inb i 1),
            k0_pay54 (runB.sl.r_3 c arg1 harg1 x0) (runB.sl.r_21 c i arg1 harg1 arg2 harg2 arg3 harg3 arg4 harg4 arg5 harg5 x0 x1 x2 x3 x4)
              (View.readAt (Elt F) arg7.view (Rect.unit (s := S4096x256) (k0_off1 i 256#32) S256x256.size (k0_off1_inb i 1)).toLoadRect f6)⟩])
      (arg8.view.writes (Elt F) f7
        [⟨Rect.unit (s := S4096x256) (k0_off1 i 0#32) S256x256.size (k0_off1_inb i 0),
            k0_pay70 (runB.sl.r_8 c arg4 harg4 x3) (runB.sl.r_31 c i arg1 harg1 arg2 harg2 x0 x1) (runB.sl.v476 c i arg8 f7)⟩,
          ⟨Rect.unit (s := S4096x256) (k0_off1 i 256#32) S256x256.size (k0_off1_inb i 1),
            k0_pay55 (runB.sl.r_8 c arg4 harg4 x3) (runB.sl.r_19 c i arg1 harg1 arg2 harg2 x0 x1)
              (View.readAt (Elt F) arg8.view (Rect.unit (s := S4096x256) (k0_off1 i 256#32) S256x256.size (k0_off1_inb i 1)).toLoadRect f7)⟩])
      (arg9.view.writes (Elt F) arg9.view.junk (runB.sl.HS0_2 c i arg1 harg1 arg2 harg2 arg3 harg3 arg4 harg4 arg5 harg5 arg9 x0 x1 x2 x3 x4))
      (runB.sl.r_34 c i arg1 harg1 arg2 harg2 x0 x1, k0_pay74 (runB.sl.r_23 c i arg1 harg1 arg2 harg2 arg3 harg3 arg4 harg4 x0 x1 x2 x3) (runB.sl.r_35 c i arg1 harg1 arg2 harg2 arg3 harg3 arg4 harg4 x0 x1 x2 x3)) x6 x7 (by
        delta runB.sl.HS0_1 runB.sl.HS0_2 runB.sl.r runB.sl.r_1 runB.sl.r_2 runB.sl.r_3 runB.sl.r_4 runB.sl.r_5 runB.sl.r_6 runB.sl.r_7 runB.sl.r_8 runB.sl.r_9 runB.sl.r_10 runB.sl.r_11 runB.sl.r_12 runB.sl.r_13 runB.sl.r_14 runB.sl.r_15 runB.sl.r_16 runB.sl.r_17 runB.sl.r_18 runB.sl.r_19 runB.sl.r_20 runB.sl.r_21 runB.sl.r_22 runB.sl.r_23 runB.sl.r_24 runB.sl.r_25 runB.sl.r_26 runB.sl.r_27 runB.sl.r_28 runB.sl.r_29 runB.sl.r_30 runB.sl.r_31 runB.sl.r_32 runB.sl.r_33 runB.sl.r_34 runB.sl.r_35 runB.sl.v37 runB.sl.v468 runB.sl.v476 runB.sl.v485
        simp only [ea, eb, ec]
        simp only [e21, e20, e31, e30, e71, e70, e81, e80]
        clear ea eb ec e21 e20 e31 e30 e71 e70 e81 e80
        apply St.ext
        · rfl
        · rfl
        · show arg7.view.read (Elt F) (arg7.view.writes (Elt F) f6 [_, _]) = setRows (setRows x6 _ _) _ (addf (rows (setRows x6 _ _) _) _)
          rw [write_diag0, write_diag1, View.writes_nil, hf6, rows_setRows_ne _ _ (ne_diag i)]
          exact congrArg₂ (fun a b => setRows a _ b) (congrArg (setRows _ _) (shapeCast_id _ _)) (shapeCast_id _ _)
        · show arg8.view.read (Elt F) (arg8.view.writes (Elt F) f7 [_, _]) = setRows (setRows x7 _ _) _ (addf (rows (setRows x7 _ _) _) _)
          rw [write_diag0, write_diag1, View.writes_nil, hf7, rows_setRows_ne _ _ (ne_diag i)]
          exact congrArg₂ (fun a b => setRows a _ b) (congrArg (setRows _ _) (shapeCast_id _ _)) (shapeCast_id _ _)
        · show arg9.view.read (Elt F) (arg9.view.writes (Elt F) _ [_, _]) = _
          rw [View.read_writes_full, View.readCov_full]
          exact (shapeCast_id _ _).trans (congrArg (fun a => addf a _) (shapeCast_id _ _)))
    rw [show (⟨runB.sl.r_3 c arg1 harg1 x0, runB.sl.r_8 c arg4 harg4 x3, runB.sl.r_12 c arg5 harg5 x4, x1, x2⟩ : Args F) = args x0 x1 x2 x3 x4 by rw [hq, ho, hg]; rfl] at H
    have e2 : Scf.trips (k0_t2_loop i).lb (k0_t2_loop i).ub (k0_t2_loop i).st = 0 := trips2 i
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      delta runB.sl.r_37 runB.sl.r_36
      generalize hv : runB.sl.v504 c i arg1 harg1 arg2 harg2 arg3 harg3 arg4 harg4 arg5 harg5 arg6 harg6 arg7 harg7 arg8 harg8 arg9 harg9 x0 x1 x2 x3 x4 f6 f7 = a
      have ha : a = (whole (args x0 x1 x2 x3 x4) (pt i) x6 x7).dq := by
        rw [← hv]
        delta runB.sl.v504
        rw [e2]
        simp only [st_k0_t2, List.nil_append]
        refine (View.readAt_full _ _ _).trans ?_
        rw [View.writes_append]
        exact congrArg St.dq H
      rw [View.read_writes_full, ← hy5, dqOut, ← ha]
      exact shapeCast_id _ _
    isplitl [H6]
    · iexists _; isplitr; swap; · iexact H6
      ipureintro
      rw [e2]
      simp only [st_k0_t2, List.nil_append]
      rw [View.writes_append]
      exact (congrArg St.dk H).trans hy6
    isplitl [H7]
    · iexists _; isplitr; swap; · iexact H7
      ipureintro
      rw [e2]
      simp only [st_k0_t2, List.nil_append]
      rw [View.writes_append]
      exact (congrArg St.dv H).trans hy7
    iexists _, _; isplitr; swap; · iexact HS0
    ipureintro; rfl

end Cert.KernelIdeal.Sb
end
-- ==== Proof.Launch.lean ====
/-
  The run of the program: what its three arrays end holding, by the walks of the eight points one after the other.
-/
module

public import proofs.«01_k».proof.Proof.RunA
public import proofs.«01_k».proof.Proof.RunB
public import Idealize.ShloMosaic.Lib.Pipeline.Value
public import Idealize.ShloMosaic.Lib.Claim

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The walks, one after the other -/

theorem coord_pt (t : Fin cfg0.N) : pt (grid0.coords t) = t.val := by
  have ht : t.val < 8 := Nat.lt_of_lt_of_eq t.isLt N_0
  have e : (grid0.coords t 0).val = t.val / 1 % 8 := Pipeline.Grid.coords_val t 0 (by decide) rfl
  exact e.trans (by omega)

theorem isFirst_iff (t : Fin cfg0.N) : IsFirst (grid0.coords t) ↔ t.val = 0 := by
  have ht : t.val < 8 := Nat.lt_of_lt_of_eq t.isLt N_0
  have e : (grid0.coords t 0).val = t.val := coord_pt t
  simp only [IsFirst, e]
  word_cmp

/-- Point number `n`. -/
def pnt (n : ℕ) : Fin cfg0.N := ⟨n % 8, Nat.lt_of_lt_of_eq (Nat.mod_lt _ (by decide)) N_0.symm⟩

theorem pnt_val (t : Fin cfg0.N) : pnt t.val = t :=
  Fin.ext (Nat.mod_eq_of_lt (Nat.lt_of_lt_of_eq t.isLt N_0))

/-- What point `n` reads. -/
def argsAt (c : Dev nD) (n : ℕ) : Args F :=
  args (iblk m c 0 (pnt n)) (iblk m c 1 (pnt n)) (iblk m c 2 (pnt n)) (iblk m c 3 (pnt n)) (iblk m c 4 (pnt n))

/-- The gradients of keys and values before point `n`. -/
def base (c : Dev nD) : ℕ → Vec F S4096x256 .f32 × Vec F S4096x256 .f32
  | 0 => (zeros, zeros)
  | n + 1 => ((whole (argsAt m c n) n (base c n).1 (base c n).2).dk, (whole (argsAt m c n) n (base c n).1 (base c n).2).dv)

/-- The gradient of the queries of point `n`. -/
def dqAt (c : Dev nD) (n : ℕ) : FVec F S512x256 .f32 := dqOut (argsAt m c n) n (base m c n).1 (base m c n).2

/-! ## The proof data -/

/-- The arrays as the launch finds them; after a point the inputs at their blocks and the outputs as the walk leaves them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dqAt m c t.val
    | ⟨6, _⟩ => (base m c (t.val + 1)).1
    | ⟨7, _⟩ => (base m c (t.val + 1)).2
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = dqAt m c t.val := by dsimp only [dats]
theorem after_6 (c : Dev nD) (t : Fin cfg0.N) : (dats m 0 c).after 6 t = (base m c (t.val + 1)).1 := by dsimp only [dats]
theorem after_7 (c : Dev nD) (t : Fin cfg0.N) : (dats m 0 c).after 7 t = (base m c (t.val + 1)).2 := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d

theorem not_flushed_6 (t : Fin cfg0.N) (h : t.val ≠ 7) : (cfg0.win 6).flush t = false := by
  have ht : t.val < 8 := Nat.lt_of_lt_of_eq t.isLt N_0
  refine Bool.eq_false_iff.mpr fun e => ?_
  have := (flush0_6 t).mp e
  omega
theorem not_flushed_7 (t : Fin cfg0.N) (h : t.val ≠ 7) : (cfg0.win 7).flush t = false := by
  have ht : t.val < 8 := Nat.lt_of_lt_of_eq t.isLt N_0
  refine Bool.eq_false_iff.mpr fun e => ?_
  have := (flush0_7 t).mp e
  omega

/-- A later point finds the gradients of keys and values as the one before left them. -/
theorem before_6 (c : Dev nD) (t : Fin cfg0.N) (ht : t.val ≠ 0) (d) : (dats m 0 c).before 6 t d = (base m c t.val).1 := by
  have hN : t.val < 8 := Nat.lt_of_lt_of_eq t.isLt N_0
  rw [(dats m 0 c).before_out_kept 6 rfl t ht (not_flushed_6 _ (by show t.val - 1 ≠ 7; omega)) (fun _ => rfl) (fun _ _ => rfl) d, after_6]
  show (base m c (t.val - 1 + 1)).1 = _
  rw [Nat.sub_add_cancel (Nat.pos_of_ne_zero ht)]
theorem before_7 (c : Dev nD) (t : Fin cfg0.N) (ht : t.val ≠ 0) (d) : (dats m 0 c).before 7 t d = (base m c t.val).2 := by
  have hN : t.val < 8 := Nat.lt_of_lt_of_eq t.isLt N_0
  rw [(dats m 0 c).before_out_kept 7 rfl t ht (not_flushed_7 _ (by show t.val - 1 ≠ 7; omega)) (fun _ => rfl) (fun _ _ => rfl) d, after_7]
  show (base m c (t.val - 1 + 1)).2 = _
  rw [Nat.sub_add_cancel (Nat.pos_of_ne_zero ht)]

/-! ## The body at a point -/

abbrev st_0 (t : Fin cfg0.N) : Memref sig .tc .vmem S512x256 .bf16 := win0_0.stage (cfg0.slots t 0)
abbrev st_1 (t : Fin cfg0.N) : Memref sig .tc .vmem S4096x256 .bf16 := win0_1.stage (cfg0.slots t 1)
abbrev st_2 (t : Fin cfg0.N) : Memref sig .tc .vmem S4096x256 .bf16 := win0_2.stage (cfg0.slots t 2)
abbrev st_3 (t : Fin cfg0.N) : Memref sig .tc .vmem S512x256 .f32 := win0_3.stage (cfg0.slots t 3)
abbrev st_4 (t : Fin cfg0.N) : Memref sig .tc .vmem S512x512 .f32 := win0_4.stage (cfg0.slots t 4)
abbrev st_5 (t : Fin cfg0.N) : Memref sig .tc .vmem S512x256 .f32 := win0_5.stage (cfg0.slots t 5)
abbrev st_6 (t : Fin cfg0.N) : Memref sig .tc .vmem S4096x256 .f32 := win0_6.stage (cfg0.slots t 6)
abbrev st_7 (t : Fin cfg0.N) : Memref sig .tc .vmem S4096x256 .f32 := win0_7.stage (cfg0.slots t 7)
abbrev st_acc : Memref sig .tc .vmem S2048x256 .f32 := Memref.whole cc0_scratch0

theorem PhiA_eq (c : Dev nD) :
    (Pipeline.ΦA spec0 c : sProp 𝕄) = iprop(iprop((∃ d, owns (c : Thread nD τ) st_acc fullShare d)) ∗ (∃ r, prngReg c r)) := by
  unfold Pipeline.ΦA; rw [scopedRest0_eq]; simp only [st_acc, owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (st_0 t) fullShare ((dats m 0 c).before 0 t d))
    ∗ (∃ d, owns (c : Thread nD τ) (st_1 t) fullShare ((dats m 0 c).before 1 t d))
    ∗ (∃ d, owns (c : Thread nD τ) (st_2 t) fullShare ((dats m 0 c).before 2 t d))
    ∗ (∃ d, owns (c : Thread nD τ) (st_3 t) fullShare ((dats m 0 c).before 3 t d))
    ∗ (∃ d, owns (c : Thread nD τ) (st_4 t) fullShare ((dats m 0 c).before 4 t d))
    ∗ (∃ d, owns (c : Thread nD τ) (st_5 t) fullShare ((dats m 0 c).before 5 t d))
    ∗ (∃ d, owns (c : Thread nD τ) (st_6 t) fullShare ((dats m 0 c).before 6 t d))
    ∗ (∃ d, owns (c : Thread nD τ) (st_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st_0 t) fullShare ((dats m 0 c).after 0 t)
    ∗ owns (c : Thread nD τ) (st_1 t) fullShare ((dats m 0 c).after 1 t)
    ∗ owns (c : Thread nD τ) (st_2 t) fullShare ((dats m 0 c).after 2 t)
    ∗ owns (c : Thread nD τ) (st_3 t) fullShare ((dats m 0 c).after 3 t)
    ∗ owns (c : Thread nD τ) (st_4 t) fullShare ((dats m 0 c).after 4 t)
    ∗ owns (c : Thread nD τ) (st_5 t) fullShare ((dats m 0 c).after 5 t)
    ∗ owns (c : Thread nD τ) (st_6 t) fullShare ((dats m 0 c).after 6 t)
    ∗ owns (c : Thread nD τ) (st_7 t) fullShare ((dats m 0 c).after 7 t))

theorem argsAt_point (c : Dev nD) (t : Fin cfg0.N) :
    argsAt m c t.val = args (iblk m c 0 t) (iblk m c 1 t) (iblk m c 2 t) (iblk m c 3 t) (iblk m c 4 t) := by
  unfold argsAt; rw [pnt_val]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  rw [show (dats m 0 c).Φ t.castSucc = Pipeline.ΦA spec0 c from rfl, PhiA_eq]
  by_cases h0 : t.val = 0
  · iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA c (grid0.coords t) _ _ _ _ _ _ _ _ _ _ _ _ _ _ _ _ _ _ ((isFirst_iff t).mpr h0)
      (iblk m c 0 t) (iblk m c 1 t) (iblk m c 2 t) (iblk m c 3 t) (iblk m c 4 t) (base m c (t.val + 1)).1 (base m c (t.val + 1)).2 (dqAt m c t.val)
      (by rw [coord_pt, ← argsAt_point]; show _ = (whole _ _ _ _).dk; rw [h0]; rfl)
      (by rw [coord_pt, ← argsAt_point]; show _ = (whole _ _ _ _).dv; rw [h0]; rfl)
      (by rw [coord_pt, ← argsAt_point]; unfold dqAt; rw [h0]; rfl)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · simp only [before_6 m c t h0, before_7 m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB c (grid0.coords t) _ _ _ _ _ _ _ _ _ _ _ _ _ _ _ _ _ _ (fun h => h0 ((isFirst_iff t).mp h))
      (iblk m c 0 t) (iblk m c 1 t) (iblk m c 2 t) (iblk m c 3 t) (iblk m c 4 t) (base m c t.val).1 (base m c t.val).2
      (base m c (t.val + 1)).1 (base m c (t.val + 1)).2 (dqAt m c t.val)
      (by rw [coord_pt, ← argsAt_point]; rfl)
      (by rw [coord_pt, ← argsAt_point]; rfl)
      (by rw [coord_pt, ← argsAt_point]; rfl)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem row_eq (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-! ## The launch -/

set_option backward.isDefEq.respectTransparency.types false in
/-- The run: the arrays as the proof data have them at the end, and no semaphore left raised. -/
theorem run_all : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The arguments end as they began, and every semaphore at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.KernelIdeal.Sb
end
-- ==== Proof.Same.lean ====
/-
  The kernel and its ideal reading are one text: what is proved of the one's run, over any numbers, holds of the other's.
-/
module

public import proofs.«01_k».proof.Proof.Gen.Kernel.Launch
public import proofs.«01_k».proof.Proof.Gen.KernelIdeal.Launch

@[expose] public section

set_option maxRecDepth 16384
set_option maxHeartbeats 4000000

namespace Cert.Same

open Idealize.ShloMosaic Idealize.SL.Sem

variable {F : FTy → Type} [FloatOps F]

theorem rows_eq : Cert.Kernel.defs₀ (F := F) = Cert.KernelIdeal.defs₀ (F := F) := by
  unfold Cert.Kernel.defs₀ Cert.KernelIdeal.defs₀
  refine congrArg Defs.onTc ?_
  funext l x
  match l, x with
  | 0, (t, s) => rfl

theorem defs_eq : Cert.Kernel.defs (F := F) = Cert.KernelIdeal.defs (F := F) := by
  unfold Cert.Kernel.defs Cert.KernelIdeal.defs
  rw [rows_eq]; rfl

theorem main_eq : Cert.Kernel.main (F := F) = Cert.KernelIdeal.main (F := F) :=
  funext fun c => (Cert.Kernel.Gen.main_chain c).trans (Cert.KernelIdeal.Gen.main_chain c).symm

theorem run_same (s : MemSt Cert.KernelIdeal.nD Cert.KernelIdeal.τ Cert.KernelIdeal.sig (Elt F))
    (Q : PUnit × MemSt Cert.KernelIdeal.nD Cert.KernelIdeal.τ Cert.KernelIdeal.sig (Elt F) → Prop)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  rw [defs_eq, main_eq]
  exact h

end Cert.Same

end
-- ==== Proof.Lines.lean ====
/-
  The reference's own lines, as named functions of the arrays: the heads, the scores, the logarithm of the sigmoid and its
  derivative, the sums over keys in both directions, the weights and the gradients. What the reference returns is these
  functions of its two arguments (`dq_eq`, `dk_eq`, `dv_eq`).
-/
module

public import proofs.«01_k».proof.Proof.Gen.ReferenceIdeal
public import proofs.«01_k».proof.Proof.Gen.ReferenceIdeal.Run

@[expose] public section

set_option maxRecDepth 16384

noncomputable section

namespace Cert.ReferenceIdeal.Sb

open Cert.ReferenceIdeal Cert.ReferenceIdeal.Gen
open Idealize.ShloMosaic Idealize.ShloMosaic.TcCoe

variable {F : FTy → Type} [FloatOps F]

/-- Numbers for each head, query and key. -/
abbrev Pairs (F : FTy → Type) [FloatOps F] := FVec F S4x4096x4096 .f32
/-- Numbers for each head, row and lane. -/
abbrev Rows (F : FTy → Type) [FloatOps F] := FVec F S4x4096x64 .f32

/-- Queries, keys and values by head. -/
def heads (P : FVec F S4096x5120 .bf16) : FVec F S3x4x4096x64 .f32 :=
  transpose S3x4x4096x64 [1, 2, 0, 3]
    (shapeCast S4096x3x4x64 (extractStridedSlice S4096x768 ![0, 2304] (extf .f32 P bitsLt_bf16_f32) slices_S4096x5120_S4096x768_0_2304) shapeCasts_S4096x768_S4096x3x4x64)
    transposes_S4096x3x4x64_S3x4x4096x64_1_2_0_3

def queries (P : FVec F S4096x5120 .bf16) : Rows F :=
  shapeCast S4x4096x64 (extractStridedSlice S1x4x4096x64 ![0, 0, 0, 0] (heads P) slices_S3x4x4096x64_S1x4x4096x64_0_0_0_0) shapeCasts_S1x4x4096x64_S4x4096x64
def keys (P : FVec F S4096x5120 .bf16) : Rows F :=
  shapeCast S4x4096x64 (extractStridedSlice S1x4x4096x64 ![1, 0, 0, 0] (heads P) slices_S3x4x4096x64_S1x4x4096x64_1_0_0_0) shapeCasts_S1x4x4096x64_S4x4096x64
def values (P : FVec F S4096x5120 .bf16) : Rows F :=
  shapeCast S4x4096x64 (extractStridedSlice S1x4x4096x64 ![2, 0, 0, 0] (heads P) slices_S3x4x4096x64_S1x4x4096x64_2_0_0_0) shapeCasts_S1x4x4096x64_S4x4096x64

/-- The cotangents by head. -/
def cots (D : FVec F S4096x256 .f32) : Rows F :=
  transpose S4x4096x64 [1, 0, 2] (shapeCast S4096x4x64 D shapeCasts_S4096x256_S4096x4x64) transposes_S4096x4x64_S4x4096x64_1_0_2

/-- One number for all pairs. -/
def every (b : BitVec 32) : Pairs F := broadcastInDim S4x4096x4096 ![] bcast_S_S4x4096x4096 (constant S_ .f32 b)

/-- The inner products of the rows of each head. -/
def inner (x y : Rows F) : Pairs F := Host.dotGeneral dot_S4x4096x64_S4x4096x64_S4x4096x4096_2_2_1_1_0_0 none x y

def scores (q k : Rows F) : Pairs F := mulf (inner q k) (every 0x3E000000#32)

/-- The pairs whose key comes before the query. -/
def past : IVec S4x4096x4096 1 :=
  broadcastInDim S4x4096x4096 ![1, 2] bcast_S4096x4096_S4x4096x4096_1_2
    (cmpi .slt (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))

/-- Zero where the key does not come before the query. -/
def seen (x : Pairs F) : Pairs F := select past x (every 0x00000000#32)

/-- log (1 + exp a). -/
def splus (a : Pairs F) : Pairs F :=
  select (cmpf .une (subf a (every 0x00000000#32)) (subf a (every 0x00000000#32))) (addf a (every 0x00000000#32))
    (addf (maximumf a (every 0x00000000#32)) (Host.log1p (Host.exp (Host.negf (Host.absf (subf a (every 0x00000000#32)))))))

/-- The logarithm of the sigmoid. -/
def logSig (x : Pairs F) : Pairs F := Host.negf (splus (Host.negf x))

/-- Its derivative. -/
def dSig (x : Pairs F) : Pairs F :=
  Host.exp (subf (select (cmpf .oeq (Host.negf x) (every 0x7F800000#32)) (every 0x00000000#32) (Host.negf x))
    (select (cmpf .oeq (splus (Host.negf x)) (every 0x7F800000#32)) (every 0x00000000#32) (splus (Host.negf x))))

/-- The logarithms of the probabilities of passing each key by. -/
def keep (z : Pairs F) : Pairs F := seen (logSig (Host.negf z))

/-- Sums over the keys from each key on, -/
def fromSum (x : Pairs F) : Pairs F :=
  Host.reduceWindowAdd ![1, 1, 4096] ![1, 1, 1] ![0, 0, 0] ![0, 0, 4095] x (broadcastInDim S_ ![] bcast_S_S_ (constant S_ .f32 0x00000000#32))
    reduceWindows_S4x4096x4096_S4x4096x4096_w1s1p0_0_w1s1p0_0_w4096s1p0_4095 h_S_
/-- and up to each key. -/
def upToSum (x : Pairs F) : Pairs F :=
  Host.reduceWindowAdd ![1, 1, 4096] ![1, 1, 1] ![0, 0, 4095] ![0, 0, 0] x (broadcastInDim S_ ![] bcast_S_S_ (constant S_ .f32 0x00000000#32))
    reduceWindows_S4x4096x4096_S4x4096x4096_w1s1p0_0_w1s1p0_0_w4096s1p4095_0 h_S_

/-- The weights before the mask, -/
def open' (z : Pairs F) : Pairs F := Host.exp (addf (logSig z) (subf (fromSum (keep z)) (keep z)))
/-- the weights, -/
def weights (z : Pairs F) : Pairs F := seen (open' z)
/-- the weights' products with their cotangents, -/
def prods (z p : Pairs F) : Pairs F := mulf (seen p) (open' z)
/-- their sums over the earlier keys, -/
def earlier (g : Pairs F) : Pairs F := seen (addf (Host.negf g) (upToSum g))
/-- and the gradient of the inner products of queries and keys. -/
def dInner (z p : Pairs F) : Pairs F :=
  mulf (addf (Host.negf (Host.negf (mulf (Host.negf (earlier (prods z p))) (dSig (Host.negf z))))) (Host.negf (mulf (Host.negf (prods z p)) (dSig z))))
    (every 0x3E000000#32)

/-- Back from heads to lanes. -/
def flat (x : Rows F) : FVec F S4096x256 .f32 :=
  shapeCast S4096x256 (transpose S4096x4x64 [1, 0, 2] x transposes_S4x4096x64_S4096x4x64_1_0_2) shapeCasts_S4096x4x64_S4096x256

section
variable (P : FVec F S4096x5120 .bf16) (D : FVec F S4096x256 .f32)

/-- The scores of the arguments, -/
def zH : Pairs F := scores (queries P) (keys P)
/-- the gradient of the inner products, -/
def dH : Pairs F := dInner (zH P) (inner (cots D) (values P))
/-- of the queries, -/
def dqH : Rows F := Host.dotGeneral dot_S4x4096x4096_S4x4096x64_S4x4096x64_2_1_1_2_0_0 none (dH P D) (keys P)
/-- of the keys, -/
def dkH : Rows F := Host.dotGeneral dot_S4x4096x4096_S4x4096x64_S4x4096x64_1_1_2_2_0_0 none (dH P D) (queries P)
/-- and of the values. -/
def dvH : Rows F :=
  transpose S4x4096x64 [0, 2, 1] (Host.dotGeneral dot_S4x4096x64_S4x4096x4096_S4x64x4096_1_1_2_2_0_0 none (cots D) (weights (zH P))) transposes_S4x64x4096_S4x4096x64_0_2_1
end

variable (m : (ℓ : Loc nD τ sig) → Buf (Elt F) ℓ) (c : Dev nD)

theorem dv_eq : Cert.ReferenceIdeal.Value.res_main_v54 m c = flat (dvH (m ((c.tc : Thread nD τ).loc main_arg0)) (m ((c.tc : Thread nD τ).loc main_arg1))) := by
  unfold Cert.ReferenceIdeal.Value.res_main_v54
  rfl

theorem dk_eq : Cert.ReferenceIdeal.Value.res_main_v52 m c = flat (dkH (m ((c.tc : Thread nD τ).loc main_arg0)) (m ((c.tc : Thread nD τ).loc main_arg1))) := by
  unfold Cert.ReferenceIdeal.Value.res_main_v52
  rfl

theorem dq_eq : Cert.ReferenceIdeal.Value.res_main_v50 m c = flat (dqH (m ((c.tc : Thread nD τ).loc main_arg0)) (m ((c.tc : Thread nD τ).loc main_arg1))) := by
  unfold Cert.ReferenceIdeal.Value.res_main_v50
  rfl

end Cert.ReferenceIdeal.Sb
end
-- ==== Proof.Elements.lean ====
/-
  The steps of a tile, entry by entry, when every entry is a real number: each array is then given by a real function of
  row and column (`Is`), and each step by the formula that one expects.
-/
module

public import proofs.«01_k».proof.Proof.Model
public import Idealize.ShloMosaic.Lib.Pointwise
public import Idealize.ShloMosaic.Lib.StableHlo.Predicate

@[expose] public section

set_option maxRecDepth 16384

noncomputable section

namespace Cert.KernelIdeal.Sb

open Cert.KernelIdeal Cert.KernelIdeal.Gen
open Idealize.ShloMosaic Idealize.ShloMosaic.TcCoe
open Finset (range)

/-- The array's entry at row `r` and column `c` is the real number `f r c`. -/
def Is {M N : ℕ} {φ : FTy} (x : FVec Ideal ⟨2, ![M, N]⟩ φ) (f : ℕ → ℕ → ℝ) : Prop :=
  ∀ (r : Fin M) (c : Fin N), x (ix2 r c) = ((f r.val c.val : ℝ) : EReal)

theorem Is.congr {M N : ℕ} {φ : FTy} {x : FVec Ideal ⟨2, ![M, N]⟩ φ} {f g : ℕ → ℕ → ℝ} (h : Is x f)
    (e : ∀ r c, r < M → c < N → f r c = g r c) : Is x g := fun r c => by rw [h r c, e r c r.isLt c.isLt]

/-- A sum of real numbers, read among the extended reals. -/
theorem sum_coe (n : ℕ) (f : ℕ → ℝ) : ∑ l : Fin n, ((f l.val : ℝ) : EReal) = ((∑ l ∈ range n, f l : ℝ) : EReal) := by
  induction n with
  | zero => simp
  | succ n ih => rw [Fin.sum_univ_castSucc, Finset.sum_range_succ, EReal.coe_add, ← ih]; rfl

theorem sum_mul_coe (n : ℕ) (f g : ℕ → ℝ) :
    ∑ l : Fin n, ((f l.val : ℝ) : EReal) * ((g l.val : ℝ) : EReal) = ((∑ l ∈ range n, f l * g l : ℝ) : EReal) := by
  rw [← sum_coe n fun l => f l * g l]
  exact Finset.sum_congr rfl fun l _ => (EReal.coe_mul _ _).symm

/-- The logarithm of the sigmoid. -/
def lsig (x : ℝ) : ℝ := min x 0 - Real.log (1 + Real.exp (-|x|))

variable {q k o v : FVec Ideal S2048x256 .bf16}

theorem score_is {q : FVec Ideal S2048x256 .bf16} {k : Vec Ideal S256x256 .bf16} {f g : ℕ → ℕ → ℝ} (hq : Is q f) (hk : Is (φ := .bf16) k g) :
    Is (score q k) (fun r c => ∑ l ∈ range 256, f r l * g c l) := fun r c => by
  unfold score
  pointwise
  unfold Is at hq hk
  simp only [hq, hk]
  rw [sum_mul_coe 256 (fun l => f r l) (fun l => g c l)]

theorem ereal_min (a b : ℝ) : min (a : EReal) (b : EReal) = ((min a b : ℝ) : EReal) := (EReal.coe_strictMono.monotone.map_min).symm
theorem ereal_max (a b : ℝ) : max (a : EReal) (b : EReal) = ((max a b : ℝ) : EReal) := (EReal.coe_strictMono.monotone.map_max).symm

theorem log_pos_coe {r : ℝ} (h : 0 < r) : Ideal.log (r : EReal) = ((Real.log r : ℝ) : EReal) := by
  rw [Ideal.log_coe, if_neg (not_le.mpr h)]

theorem logBeta_is {z : FVec Ideal S2048x256 .f32} {f : ℕ → ℕ → ℝ} (hz : Is z f) : Is (logBeta z) (fun r c => lsig (f r c)) := fun r c => by
  unfold logBeta
  pointwise
  rw [hz r c]
  generalize f r.val c.val = a
  show min (a : EReal) 0 - Ideal.log (1 + Ideal.exp (0 - max (a : EReal) (-(a : EReal)))) = _
  rw [← EReal.coe_neg, ereal_max, ← EReal.coe_zero, ereal_min, ← EReal.coe_sub, Ideal.exp_coe, ← EReal.coe_one, ← EReal.coe_add,
    log_pos_coe (by positivity), ← EReal.coe_sub, zero_sub]
  rfl

theorem triDot_is {x : FVec Ideal S2048x256 .f32} {b : FVec Ideal S256x256 .bf16} {f g : ℕ → ℕ → ℝ} (hx : Is x f) (hb : Is b g) :
    Is (triDot x b) (fun r c => ∑ s ∈ range 256, f r s * g s c) := fun r c => by
  unfold triDot
  pointwise
  unfold Is at hx hb
  simp only [hx, hb, ← EReal.coe_sub, sub_self]
  rw [sum_mul_coe 256 (fun s => f r s) (fun s => g s c), sum_mul_coe 256 (fun _ => 0) (fun s => g s c), ← EReal.coe_add]
  simp only [zero_mul, Finset.sum_const_zero, add_zero]

theorem rowSum_is {x : FVec Ideal S2048x256 .f32} {f : ℕ → ℕ → ℝ} (hx : Is x f) : Is (rowSum x) (fun r _ => ∑ c ∈ range 256, f r c) := fun r c => by
  unfold rowSum
  pointwise
  unfold Is at hx
  simp only [hx]
  rw [sum_coe 256 (fun c => f r c)]

theorem spread_is {x : FVec Ideal S2048x1 .f32} {f : ℕ → ℕ → ℝ} (hx : Is x f) : Is (spread x) (fun r _ => f r 0) := fun r c => by
  unfold spread
  pointwise
  exact hx r 0

/-- A comparison's bit as a number. -/
theorem bit_coe {p : BitVec 1} {P : Prop} [Decidable P] (h : p = 1#1 ↔ P) :
    FloatOps.sitofp (F := Ideal) FTy.f32 (BitVec.setWidth 32 p) = (((if P then 1 else 0 : ℝ)) : EReal) := by
  show (((BitVec.setWidth 32 p).toInt : ℝ) : EReal) = _
  by_cases hP : P
  · rw [h.mpr hP, if_pos hP]; norm_num
  · have e : p = 0#1 := (BitVec.eq_zero_or_eq_one p).resolve_right (mt h.mp hP)
    rw [e, if_neg hP]; norm_num

theorem small {n : ℕ} (h : n < 2 ^ 31) : (BitVec.ofNat 32 n).toNat = n := by
  rw [BitVec.toNat_ofNat]; exact Nat.mod_eq_of_lt (by omega)

theorem later_is : Is later (fun s c => if c < s then 1 else 0) := fun s c => by
  unfold later
  pointwise
  have hs := s.isLt
  have hc := c.isLt
  refine bit_coe ?_
  rw [StableHlo.Predicate.sgt_iff_toNat (by rw [small] <;> omega) (by rw [small] <;> omega), small (by omega), small (by omega)]

theorem fromOn_is : Is fromOn (fun s c => if c ≤ s then 1 else 0) := fun s c => by
  unfold fromOn
  pointwise
  have hs := s.isLt
  have hc := c.isLt
  refine bit_coe ?_
  rw [StableHlo.Predicate.sge_iff_toNat (by rw [small] <;> omega) (by rw [small] <;> omega), small (by omega), small (by omega)]

theorem overRows_is {x y : FVec Ideal S2048x256 .bf16} {f g : ℕ → ℕ → ℝ} (hx : Is x f) (hy : Is y g) :
    Is (overRows x y) (fun r c => ∑ s ∈ range 2048, f s r * g s c) := fun r c => by
  unfold overRows
  pointwise
  unfold Is at hx hy
  simp only [hx, hy]
  rw [sum_mul_coe 2048 (fun s => f s r) (fun s => g s c)]

theorem overKeys_is {x : FVec Ideal S2048x256 .bf16} {k : Vec Ideal S256x256 .bf16} {f g : ℕ → ℕ → ℝ} (hx : Is x f) (hk : Is (φ := .bf16) k g) :
    Is (overKeys x k) (fun r c => ∑ s ∈ range 256, f r s * g s c) := fun r c => by
  unfold overKeys
  pointwise
  unfold Is at hx hk
  simp only [hx, hk]
  rw [sum_mul_coe 256 (fun s => f r s) (fun s => g s c)]

/-! ## Tiles -/

theorem rows_at {e : EltTy} (x : Vec Ideal S4096x256 e) (J : Fin 16) (s l : Fin 256) (h : 256 * J.val + s.val < 4096) :
    rows x J (ix2 s l) = x (ix2 ⟨256 * J.val + s.val, h⟩ l) := by
  refine congrArg x ?_
  funext a; apply Fin.ext
  match a with
  | ⟨0, _⟩ => show 256 * J.val + 1 * s.val = 256 * J.val + s.val; omega
  | ⟨1, _⟩ => show 0 + 1 * l.val = l.val; omega

theorem rows_is {x : Vec Ideal S4096x256 .f32} {f : ℕ → ℕ → ℝ} (hx : Is (φ := .f32) x f) (J : Fin 16) :
    Is (M := 256) (N := 256) (φ := .f32) (rows (F := Ideal) x J) (fun s l => f (256 * J.val + s) l) := fun s l => by
  have := J.isLt
  have hs := s.isLt
  exact (rows_at x J s l (by omega)).trans (hx _ l)

theorem keyRows_is {x : Vec Ideal S4096x256 .bf16} {f : ℕ → ℕ → ℝ} (hx : Is (φ := .bf16) x f) (J : Fin 16) :
    Is (M := 256) (N := 256) (φ := .bf16) (rows (F := Ideal) x J) (fun s l => f (256 * J.val + s) l) := fun s l => by
  have := J.isLt
  have hs := s.isLt
  exact (rows_at x J s l (by omega)).trans (hx _ l)

theorem setRows_is {x : Vec Ideal S4096x256 .f32} {w : FVec Ideal S256x256 .f32} {f g : ℕ → ℕ → ℝ} (hx : Is (φ := .f32) x f) (hw : Is w g) (J : Fin 16) :
    Is (M := 4096) (N := 256) (φ := .f32) (setRows (F := Ideal) x J w)
      (fun j l => if 256 * J.val ≤ j ∧ j < 256 * J.val + 256 then g (j - 256 * J.val) l else f j l) := fun j l => by
  have := J.isLt
  have hj := j.isLt
  have hl := l.isLt
  unfold setRows VecWindow.put
  by_cases h : 256 * J.val ≤ j.val ∧ j.val < 256 * J.val + 256
  · refine (dif_pos (fun a => ?_)).trans ?_
    · match a with
      | ⟨0, _⟩ => exact h
      | ⟨1, _⟩ => exact ⟨Nat.zero_le _, by show l.val < 0 + 256; omega⟩
    · refine (congrArg w ?_).trans ((hw ⟨j.val - 256 * J.val, by omega⟩ l).trans ?_)
      · funext a; apply Fin.ext
        match a with
        | ⟨0, _⟩ => rfl
        | ⟨1, _⟩ => rfl
      · simp only [if_pos h]
  · refine (dif_neg (fun e => h (e 0))).trans ((hx j l).trans ?_)
    simp only [if_neg h]

/-! ## Masks -/

theorem select_iff {α : Type} {p : BitVec 1} {P : Prop} [Decidable P] (h : p = 1#1 ↔ P) (a b : α) : Scalar.select p a b = if P then a else b := by
  unfold Scalar.select
  by_cases hP : P
  · rw [if_pos hP]; exact if_pos (h.mpr hP)
  · rw [if_neg hP]; exact if_neg (mt h.mp hP)

/-- The mask keeps row `r` and key `c` where `P r c`, and has zero elsewhere. -/
def Keeps (mk : Option (IVec S2048x256 1)) (P : ℕ → ℕ → Prop) [∀ r c, Decidable (P r c)] : Prop :=
  ∀ (x : FVec Ideal S2048x256 .f32) (r : Fin 2048) (c : Fin 256), masked mk x (ix2 r c) = if P r.val c.val then x (ix2 r c) else 0

theorem keeps_none {P : ℕ → ℕ → Prop} [∀ r c, Decidable (P r c)] (h : ∀ r c, r < 2048 → c < 256 → P r c) : Keeps none P := fun x r c => by
  rw [if_pos (h _ _ r.isLt c.isLt)]; rfl

theorem rowQuery_eq (r : Fin 2048) (c : Fin 256) : rowQuery (ix2 r c) = BitVec.ofNat 32 (r.val % 512) := by
  unfold rowQuery
  pointwise
  revert r
  decide +kernel

theorem keeps_sees (lead : ℕ) (hl : lead < 4096) : Keeps (some (sees (BitVec.ofNat 32 lead))) (fun r c => c + lead < r % 512) := fun x r c => by
  have hc := c.isLt
  have hr := r.isLt
  unfold masked sees
  pointwise
  rw [rowQuery_eq]
  refine select_iff ?_ _ _
  have e : (IntOp.addi (BitVec.ofNat 32 c.val) (BitVec.ofNat 32 lead)).toNat = c.val + lead := by
    show (BitVec.ofNat 32 c.val + BitVec.ofNat 32 lead).toNat = _
    rw [← BitVec.ofNat_add, small (by omega)]
  have h5 : r.val % 512 < 512 := Nat.mod_lt _ (by decide)
  rw [StableHlo.Predicate.slt_iff_toNat (by rw [e]; omega) (by rw [small] <;> omega), e, small (by omega)]

theorem masked_is {mk : Option (IVec S2048x256 1)} {P : ℕ → ℕ → Prop} [∀ r c, Decidable (P r c)] (hm : Keeps mk P)
    {x : FVec Ideal S2048x256 .f32} {f : ℕ → ℕ → ℝ} (hx : ∀ (r : Fin 2048) (c : Fin 256), P r.val c.val → x (ix2 r c) = ((f r.val c.val : ℝ) : EReal)) :
    Is (masked mk x) (fun r c => if P r c then f r c else 0) := fun r c => by
  rw [hm x r c]
  by_cases h : P r.val c.val
  · simp only [if_pos h, hx r c h]
  · simp only [if_neg h, EReal.coe_zero]

/-! ## The stacked heads -/

theorem laneHead_eq (c : Fin 256) : laneHead (ix2 0 c) = BitVec.ofNat 32 (c.val / 64) := by
  unfold laneHead
  pointwise
  revert c
  decide +kernel

theorem ofHead_eq (h : ℕ) (hh : h < 4) (r : Fin 512) (c : Fin 256) : ofHead (BitVec.ofNat 32 h) (ix2 r c) = 1#1 ↔ c.val / 64 = h := by
  have hc := c.isLt
  unfold ofHead
  pointwise
  rw [laneHead_eq, StableHlo.Predicate.cmpi_eq_iff]
  refine ⟨fun e => ?_, fun e => by rw [e]⟩
  have := congrArg BitVec.toNat e
  rwa [small (by omega), small (by omega)] at this

theorem onlyHead_is {a : FVec Ideal S512x256 .bf16} {f : ℕ → ℕ → ℝ} (ha : Is a f) (h : ℕ) (hh : h < 4) :
    Is (onlyHead (BitVec.ofNat 32 h) a) (fun r c => if c / 64 = h then f r c else 0) := fun r c => by
  unfold onlyHead
  pointwise
  rw [select_iff (ofHead_eq h hh r c), ha r c]
  by_cases e : c.val / 64 = h
  · simp only [if_pos e]
  · simp only [if_neg e, EReal.coe_zero]

theorem stack_is {a : FVec Ideal S512x256 .bf16} {f : ℕ → ℕ → ℝ} (ha : Is a f) :
    Is (stack a) (fun r c => if c / 64 = r / 512 then f (r % 512) c else 0) := fun r c => by
  have h0 := onlyHead_is ha 0 (by decide)
  have h1 := onlyHead_is ha 1 (by decide)
  have h2 := onlyHead_is ha 2 (by decide)
  have h3 := onlyHead_is ha 3 (by decide)
  unfold stack
  generalize onlyHead 0#32 a = x0 at h0 ⊢
  generalize onlyHead 1#32 a = x1 at h1 ⊢
  generalize onlyHead 2#32 a = x2 at h2 ⊢
  generalize onlyHead 3#32 a = x3 at h3 ⊢
  have hr := r.isLt
  pointwise
  split_ifs <;> first
    | (refine (h0 _ _).trans ?_; rw [show r.val / 512 = 0 by omega, show r.val % 512 = r.val by omega])
    | (refine (h1 _ _).trans ?_; rw [show r.val / 512 = 1 by omega, show r.val % 512 = r.val - 512 by omega])
    | (refine (h2 _ _).trans ?_; rw [show r.val / 512 = 2 by omega, show r.val % 512 = r.val - 512 - 512 by omega])
    | (refine (h3 _ _).trans ?_; rw [show r.val / 512 = 3 by omega, show r.val % 512 = r.val - 512 - 512 - 512 by omega])
    | (exfalso; omega)

theorem unstack_is {a : FVec Ideal S2048x256 .f32} {f : ℕ → ℕ → ℝ} (ha : Is a f) :
    Is (unstack a) (fun r c => f (512 * (c / 64) + r) c) := fun r c => by
  have hc := c.isLt
  unfold unstack
  pointwise
  rw [select_iff (ofHead_eq 3 (by decide) r c), select_iff (ofHead_eq 2 (by decide) r c), select_iff (ofHead_eq 1 (by decide) r c)]
  split_ifs with h1 h2 h3
  · rw [h1]; exact ha _ c
  · rw [h2]; exact ha _ c
  · rw [h3]; exact ha _ c
  · rw [show c.val / 64 = 0 by omega, show 512 * 0 + r.val = r.val by omega]; exact ha _ c

theorem laneMax_is {a : Vec Ideal S512x128 .f32} {f : ℕ → ℝ} (ha : Is (φ := .f32) a (fun r _ => f r)) : Is (laneMax a) (fun r _ => f r) := fun r c => by
  unfold laneMax
  pointwise
  unfold Is at ha
  simp only [ha]
  rw [show Ideal.ofBits FTy.f32 4286578688#32 = ⊥ from by
    simp only [Ideal.ofBits, Ideal.ieee]
    rw [if_pos (by decide), if_pos (by decide), if_pos (by decide)]]
  refine le_antisymm ?_ ?_
  · exact Finset.fold_max_le _ |>.mpr ⟨bot_le, fun _ _ => le_rfl⟩
  · exact Finset.le_fold_max _ |>.mpr (Or.inr ⟨0, Finset.mem_univ _, le_rfl⟩)

theorem gStack_is {g : Vec Ideal S512x512 .f32} {f : ℕ → ℕ → ℝ} (hg : Is (φ := .f32) g (fun r c => f r (c / 128))) :
    Is (gStack g) (fun r _ => f (r % 512) (r / 512)) := fun r c => by
  have hr := r.isLt
  have part : ∀ (h : ℕ) (hh : h < 4) (inb : ∀ a, (![0, 128 * h] : Fin 2 → ℕ) a + S512x128.size a ≤ S512x512.size a),
      Is (φ := .f32) (lanesOf (F := Ideal) g ![0, 128 * h] inb) (fun r _ => f r h) := fun h hh inb r c => by
    have hc := c.isLt
    refine (congrArg g ?_).trans ((hg r ⟨128 * h + c.val, by omega⟩).trans ?_)
    · funext a; apply Fin.ext
      match a with
      | ⟨0, _⟩ => show 0 + 1 * r.val = r.val; omega
      | ⟨1, _⟩ => show 128 * h + 1 * c.val = 128 * h + c.val; omega
    · show ((f r.val ((128 * h + c.val) / 128) : ℝ) : EReal) = _
      rw [show (128 * h + c.val) / 128 = h by omega]
  have h0 := laneMax_is (part 0 (by decide) inb_S512x512_S512x128_0_0)
  have h1 := laneMax_is (part 1 (by decide) inb_S512x512_S512x128_0_128)
  have h2 := laneMax_is (part 2 (by decide) inb_S512x512_S512x128_0_256)
  have h3 := laneMax_is (part 3 (by decide) inb_S512x512_S512x128_0_384)
  unfold gStack
  change Is (φ := .f32) (laneMax (lanesOf (F := Ideal) g ![0, 0] inb_S512x512_S512x128_0_0)) _ at h0
  change Is (φ := .f32) (laneMax (lanesOf (F := Ideal) g ![0, 128] inb_S512x512_S512x128_0_128)) _ at h1
  change Is (φ := .f32) (laneMax (lanesOf (F := Ideal) g ![0, 256] inb_S512x512_S512x128_0_256)) _ at h2
  change Is (φ := .f32) (laneMax (lanesOf (F := Ideal) g ![0, 384] inb_S512x512_S512x128_0_384)) _ at h3
  generalize laneMax (lanesOf (F := Ideal) g ![0, 0] inb_S512x512_S512x128_0_0) = x0 at h0 ⊢
  generalize laneMax (lanesOf (F := Ideal) g ![0, 128] inb_S512x512_S512x128_0_128) = x1 at h1 ⊢
  generalize laneMax (lanesOf (F := Ideal) g ![0, 256] inb_S512x512_S512x128_0_256) = x2 at h2 ⊢
  generalize laneMax (lanesOf (F := Ideal) g ![0, 384] inb_S512x512_S512x128_0_384) = x3 at h3 ⊢
  pointwise
  split_ifs <;> first
    | (refine (h0 _ _).trans ?_; rw [show r.val / 512 = 0 by omega, show r.val % 512 = r.val by omega])
    | (refine (h1 _ _).trans ?_; rw [show r.val / 512 = 1 by omega, show r.val % 512 = r.val - 512 by omega])
    | (refine (h2 _ _).trans ?_; rw [show r.val / 512 = 2 by omega, show r.val % 512 = r.val - 512 - 512 by omega])
    | (refine (h3 _ _).trans ?_; rw [show r.val / 512 = 3 by omega, show r.val % 512 = r.val - 512 - 512 - 512 by omega])
    | (exfalso; omega)

end Cert.KernelIdeal.Sb
end
-- ==== Proof.Windows.lean ====
/-
  Running sums along the last axis of an array with three axes: a window as long as the axis, padded on one side, adds up the
  entries from each place on, or those up to it.
-/
module

public import proofs.«01_k».proof.Proof.Elements

@[expose] public section

set_option maxRecDepth 16384

noncomputable section

namespace Cert.ReferenceIdeal.Sb

open Idealize.ShloMosaic Idealize.ShloMosaic.TcCoe
open Cert.KernelIdeal.Sb (sum_coe)
open Finset (range Ico)

/-- The array's entry at `(h, i, j)` is the real number `f h i j`. -/
def Is3 {A B C : ℕ} {φ : FTy} (x : FVec Ideal ⟨3, ![A, B, C]⟩ φ) (f : ℕ → ℕ → ℕ → ℝ) : Prop :=
  ∀ (h : Fin A) (i : Fin B) (j : Fin C), x (ix3 h i j) = ((f h.val i.val j.val : ℝ) : EReal)

theorem Is3.congr {A B C : ℕ} {φ : FTy} {x : FVec Ideal ⟨3, ![A, B, C]⟩ φ} {f g : ℕ → ℕ → ℕ → ℝ} (h : Is3 x f)
    (e : ∀ a b c, a < A → b < B → c < C → f a b c = g a b c) : Is3 x g := fun a b c => by rw [h a b c, e a b c a.isLt b.isLt c.isLt]

/-- Adding the entries of a list one after the other adds their sum. -/
theorem foldl_sum {α : Type} (l : List α) (g : α → EReal) (v : EReal) : l.foldl (fun r n => r + g n) v = v + (l.map g).sum := by
  induction l generalizing v with
  | nil => simp
  | cons a l ih => rw [List.foldl_cons, ih, List.map_cons, List.sum_cons, add_assoc]

/-- Each entry of a window sum along the last axis. -/
theorem window_at {A B C : ℕ} {φ : FTy} (lo hi : ℕ) (x : FVec Ideal ⟨3, ![A, B, C]⟩ φ) {f : ℕ → ℕ → ℕ → ℝ} (hx : Is3 x f)
    (hw : (⟨3, ![A, B, C]⟩ : Shape).ReduceWindows ![1, 1, C] ![1, 1, 1] ![0, 0, lo] ![0, 0, hi] ⟨3, ![A, B, C]⟩) (h : Fin A) (i : Fin B) (j : Fin C) :
    Ideal.hostReduceWindowAdd ![1, 1, C] ![1, 1, 1] ![0, 0, lo] ![0, 0, hi] hw x 0 (ix3 h i j)
      = ((∑ w ∈ range C, if lo ≤ j.val + w ∧ j.val + w - lo < C then f h i (j.val + w - lo) else 0 : ℝ) : EReal) := by
  unfold Ideal.hostReduceWindowAdd Host.reduceWindow
  dsimp only
  rw [foldl_sum, zero_add, ← Fin.sum_univ_def]
  refine (Finset.sum_congr rfl fun n _ => ?_).trans ((Equiv.sum_comp (⟨3, ![1, 1, C]⟩ : Shape).rowMajor.symm
    (fun q : (⟨3, ![1, 1, C]⟩ : Shape).Idx =>
      ((if lo ≤ j.val + (q 2).val ∧ j.val + (q 2).val - lo < C then f h i (j.val + (q 2).val - lo) else 0 : ℝ) : EReal))).trans ?_)
  · let q := (⟨3, ![1, 1, C]⟩ : Shape).rowMajor.symm n
    show _ = ((if lo ≤ j.val + (q 2).val ∧ j.val + (q 2).val - lo < C then f h i (j.val + (q 2).val - lo) else 0 : ℝ) : EReal)
    have q0 : (q 0).val = 0 := Nat.lt_one_iff.mp (q 0).isLt
    have q1 : (q 1).val = 0 := Nat.lt_one_iff.mp (q 1).isLt
    by_cases hc : lo ≤ j.val + (q 2).val ∧ j.val + (q 2).val - lo < C
    · rw [if_pos hc, dif_pos (by
        intro a
        match a with
        | ⟨0, _⟩ => exact ⟨Nat.zero_le _, by show h.val * 1 + (q 0).val - 0 < A; have := h.isLt; omega⟩
        | ⟨1, _⟩ => exact ⟨Nat.zero_le _, by show i.val * 1 + (q 1).val - 0 < B; have := i.isLt; omega⟩
        | ⟨2, _⟩ => show lo ≤ j.val * 1 + (q 2).val ∧ j.val * 1 + (q 2).val - lo < C; rw [Nat.mul_one]; exact hc)]
      refine Eq.trans (congrArg x (funext fun a => Fin.ext ?_)) (hx h i ⟨j.val + (q 2).val - lo, hc.2⟩)
      match a with
      | ⟨0, _⟩ => show h.val * 1 + (q 0).val - 0 = h.val; omega
      | ⟨1, _⟩ => show i.val * 1 + (q 1).val - 0 = i.val; omega
      | ⟨2, _⟩ => show j.val * 1 + (q 2).val - lo = j.val + (q 2).val - lo; omega
    · rw [if_neg hc, dif_neg (by
        intro hin
        have := hin ⟨2, by decide⟩
        change lo ≤ j.val * 1 + (q 2).val ∧ j.val * 1 + (q 2).val - lo < C at this
        rw [Nat.mul_one] at this
        exact hc this)]
      rfl
  · rw [sum_idx3, Fin.sum_univ_one, Fin.sum_univ_one]
    exact sum_coe C fun w => if lo ≤ j.val + w ∧ j.val + w - lo < C then f h i (j.val + w - lo) else 0

theorem host_window_at {A B C : ℕ} {φ : FTy} (lo hi : ℕ) (x : FVec Ideal ⟨3, ![A, B, C]⟩ φ) {f : ℕ → ℕ → ℕ → ℝ} (hx : Is3 x f)
    (hw : (⟨3, ![A, B, C]⟩ : Shape).ReduceWindows ![1, 1, C] ![1, 1, 1] ![0, 0, lo] ![0, 0, hi] ⟨3, ![A, B, C]⟩)
    (init : FVec Ideal ⟨0, ![]⟩ φ) (hu : 0 < (⟨0, ![]⟩ : Shape).numel) (h0 : ∀ y, init y = (0 : EReal)) (h : Fin A) (i : Fin B) (j : Fin C) :
    Host.reduceWindowAdd ![1, 1, C] ![1, 1, 1] ![0, 0, lo] ![0, 0, hi] x init hw hu (ix3 h i j)
      = ((∑ w ∈ range C, if lo ≤ j.val + w ∧ j.val + w - lo < C then f h i (j.val + w - lo) else 0 : ℝ) : EReal) := by
  rw [← window_at lo hi x hx hw h i j, ← h0 (Shape.Idx.first hu)]
  rfl

/-- Padding behind: the entries from each place on. -/
theorem from_sum (f : ℕ → ℝ) {C j : ℕ} (hj : j < C) :
    (∑ w ∈ range C, if 0 ≤ j + w ∧ j + w - 0 < C then f (j + w - 0) else 0) = ∑ s ∈ Ico j C, f s := by
  rw [Finset.sum_Ico_eq_sum_range, ← Finset.sum_filter]
  refine Finset.sum_congr ?_ fun w _ => by rw [Nat.sub_zero]
  ext w
  simp only [Finset.mem_filter, Finset.mem_range]
  omega

/-- Padding before: the entries up to each place. -/
theorem upTo_sum (f : ℕ → ℝ) {C j : ℕ} (hj : j < C + 1) :
    (∑ w ∈ range (C + 1), if C ≤ j + w ∧ j + w - C < C + 1 then f (j + w - C) else 0) = ∑ s ∈ range (j + 1), f s := by
  rw [← Finset.sum_filter]
  refine Finset.sum_bij (fun w _ => j + w - C) ?_ ?_ ?_ fun _ _ => rfl
  · intro w hw
    simp only [Finset.mem_filter, Finset.mem_range] at hw ⊢
    omega
  · intro a ha b hb e
    simp only [Finset.mem_filter, Finset.mem_range] at ha hb
    omega
  · intro s hs
    simp only [Finset.mem_range] at hs
    exact ⟨s + C - j, by simp only [Finset.mem_filter, Finset.mem_range]; omega, by omega⟩

end Cert.ReferenceIdeal.Sb
end
-- ==== Proof.Row.lean ====
/-
  The mathematics of one row, in the real numbers: the weights of stick-breaking attention, their products with the
  cotangents, and the gradient of the scores, with every sum over keys taken from the last key backwards.
-/
module

public import proofs.«01_k».proof.Proof.Elements

@[expose] public section

noncomputable section

namespace Cert.KernelIdeal.Sb

open Finset (range Ico)

/-! ## Sums over tiles of 256 -/

/-- A sum from tile `J` on is the tile's sum and the sum from the next tile on. -/
theorem sum_tile (f : ℕ → ℝ) {J : ℕ} (h : J < 16) :
    ∑ j ∈ Ico (256 * J) 4096, f j = ∑ j ∈ Ico (256 * (J + 1)) 4096, f j + ∑ s ∈ range 256, f (256 * J + s) := by
  rw [← Finset.sum_Ico_consecutive f (show 256 * J ≤ 256 * (J + 1) by omega) (by omega), Finset.sum_Ico_eq_sum_range f (256 * J),
    show 256 * (J + 1) - 256 * J = 256 by omega, add_comm]

/-- A sum from a key of tile `J` on, the key's own tile by a mask. -/
theorem sum_from (f : ℕ → ℝ) {J c : ℕ} (h : J < 16) (hc : c ≤ 256) (P : ℕ → Prop) [DecidablePred P] (hP : ∀ s, s < 256 → (P s ↔ c ≤ s)) :
    ∑ s ∈ range 256, f (256 * J + s) * (if P s then 1 else 0) + ∑ j ∈ Ico (256 * (J + 1)) 4096, f j = ∑ j ∈ Ico (256 * J + c) 4096, f j := by
  rw [← Finset.sum_Ico_consecutive f (show 256 * J + c ≤ 256 * (J + 1) by omega) (by omega)]
  congr 1
  rw [Finset.sum_Ico_eq_sum_range f (256 * J + c), Finset.range_eq_Ico, ← Finset.sum_Ico_consecutive _ (Nat.zero_le c) hc,
    Finset.sum_eq_zero (s := Ico 0 c), zero_add, Finset.sum_Ico_eq_sum_range, show 256 * (J + 1) - (256 * J + c) = 256 - c by omega]
  · refine Finset.sum_congr rfl fun s hs => ?_
    have := Finset.mem_range.mp hs
    rw [if_pos ((hP _ (by omega)).mpr (by omega)), mul_one, add_assoc]
  · intro s hs
    have := Finset.mem_Ico.mp hs
    rw [if_neg (fun e => by have := (hP s (by omega)).mp e; omega), mul_zero]

/-! ## One row -/

/-- The logarithm of the probability of passing key `j` by; only the keys before `i` are seen. -/
def lk (z : ℕ → ℝ) (i j : ℕ) : ℝ := if j < i then lsig (z j) - z j else 0

/-- The weight of key `j`. -/
def wt (z : ℕ → ℝ) (i j : ℕ) : ℝ := if j < i then Real.exp (lsig (z j) + ∑ s ∈ Ico (j + 1) 4096, lk z i s) else 0

/-- The weight times its cotangent. -/
def gwt (z p : ℕ → ℝ) (i j : ℕ) : ℝ := wt z i j * p j

/-- The gradient of the score of key `j`, with `T` the total of `gwt`. -/
def dzt (z p : ℕ → ℝ) (i : ℕ) (T : ℝ) (j : ℕ) : ℝ :=
  if j < i then gwt z p i j * Real.exp (lsig (z j) - z j) - (T - ∑ s ∈ Ico j 4096, gwt z p i s) * Real.exp (lsig (z j)) else 0

theorem lk_out {z : ℕ → ℝ} {i j : ℕ} (h : i ≤ j) : lk z i j = 0 := if_neg (by omega)
theorem wt_out {z : ℕ → ℝ} {i j : ℕ} (h : i ≤ j) : wt z i j = 0 := if_neg (by omega)
theorem gwt_out {z p : ℕ → ℝ} {i j : ℕ} (h : i ≤ j) : gwt z p i j = 0 := by rw [gwt, wt_out h, zero_mul]
theorem dzt_out {z p : ℕ → ℝ} {i j : ℕ} {T : ℝ} (h : i ≤ j) : dzt z p i T j = 0 := if_neg (by omega)

end Cert.KernelIdeal.Sb
end
-- ==== Proof.Tile.lean ====
/-
  The walk over the tiles of keys, in the real numbers: after the tiles from `J` on, every carried array holds the sums over
  the keys from `256 J` on.
-/
module

public import proofs.«01_k».proof.Proof.Row

@[expose] public section

set_option maxRecDepth 16384

noncomputable section

namespace Cert.KernelIdeal.Sb

open Cert.KernelIdeal Cert.KernelIdeal.Gen
open Idealize.ShloMosaic Idealize.ShloMosaic.TcCoe
open Finset (range Ico)

/-- The arrays that a walk reads, as real functions: row by row the query, the cotangent, the total and the number of keys that
    the row sees; key by key the key and the value. -/
structure Reals where
  q : ℕ → ℕ → ℝ
  o : ℕ → ℕ → ℝ
  g : ℕ → ℝ
  i : ℕ → ℕ
  k : ℕ → ℕ → ℝ
  v : ℕ → ℕ → ℝ

namespace Reals
variable (R : Reals)

/-- The scores of row `r`, -/
def z (r j : ℕ) : ℝ := ∑ l ∈ range 256, R.q r l * R.k j l
/-- and the cotangents of its weights. -/
def p (r j : ℕ) : ℝ := ∑ l ∈ range 256, R.o r l * R.v j l
/-- The weights, -/
def w (r j : ℕ) : ℝ := wt (R.z r) (R.i r) j
/-- their products, -/
def gw (r j : ℕ) : ℝ := gwt (R.z r) (R.p r) (R.i r) j
/-- and the gradient of the scores. -/
def dz (r j : ℕ) : ℝ := dzt (R.z r) (R.p r) (R.i r) (R.g r) j

end Reals

/-- `R` is what `A` holds. -/
structure Holds (A : Args Ideal) (R : Reals) : Prop where
  q : Is A.q R.q
  o : Is A.o R.o
  g : Is A.g (fun r _ => R.g r)
  k : Is (φ := .bf16) A.k R.k
  v : Is (φ := .bf16) A.v R.v

/-- What is carried after the tiles from `J` on, the walk having begun on `dk` and `dv`. -/
structure Inv (R : Reals) (dk dv : ℕ → ℕ → ℝ) (J : ℕ) (s : St Ideal) : Prop where
  ck : Is s.ck (fun r _ => ∑ j ∈ Ico (256 * J) 4096, lk (R.z r) (R.i r) j)
  cg : Is s.cg (fun r _ => ∑ j ∈ Ico (256 * J) 4096, R.gw r j)
  dk : Is (φ := .f32) s.dk (fun j l => dk j l + if 256 * J ≤ j then ∑ r ∈ range 2048, R.dz r j * R.q r l else 0)
  dv : Is (φ := .f32) s.dv (fun j l => dv j l + if 256 * J ≤ j then ∑ r ∈ range 2048, R.w r j * R.o r l else 0)
  dq : Is (φ := .f32) s.dq (fun r l => ∑ j ∈ Ico (256 * J) 4096, R.dz r j * R.k j l)

variable {A : Args Ideal} {R : Reals} {dk dv : ℕ → ℕ → ℝ}

section
variable (hA : Holds A R) {J : ℕ} (hJ : J < 16) {mk : Option (IVec S2048x256 1)} (hm : Keeps mk (fun r c => 256 * J + c < R.i r))
  {s : St Ideal} (hs : Inv R dk dv (J + 1) s)

include hA hJ in
theorem zOf_is : Is (zOf A (Fin.ofNat 16 J)) (fun r c => R.z r (256 * J + c)) := by
  have e : (Fin.ofNat 16 J).val = J := Nat.mod_eq_of_lt hJ
  refine (score_is hA.q (keyRows_is hA.k (Fin.ofNat 16 J))).congr fun r c _ _ => ?_
  rw [e]; rfl

include hA hJ hm in
theorem logKeep_is : Is (logKeep mk (zOf A (Fin.ofNat 16 J))) (fun r c => lk (R.z r) (R.i r) (256 * J + c)) := by
  refine (masked_is hm (f := fun r c => lsig (R.z r (256 * J + c)) - R.z r (256 * J + c)) fun r c _ => ?_).congr fun r c _ _ => rfl
  show logBeta (zOf A (Fin.ofNat 16 J)) (ix2 r c) - zOf A (Fin.ofNat 16 J) (ix2 r c) = _
  rw [logBeta_is (zOf_is hA hJ) r c, zOf_is hA hJ r c, ← EReal.coe_sub]

include hA hJ hm hs in
theorem wOf_is : Is (wOf A mk (Fin.ofNat 16 J) s) (fun r c => R.w r (256 * J + c)) := by
  refine (masked_is hm (f := fun r c => Real.exp (lsig (R.z r (256 * J + c)) + ∑ s ∈ Ico (256 * J + c + 1) 4096, lk (R.z r) (R.i r) s))
    fun r c _ => ?_).congr fun r c _ _ => rfl
  show Ideal.exp (logBeta (zOf A (Fin.ofNat 16 J)) (ix2 r c) + triDot (logKeep mk (zOf A (Fin.ofNat 16 J))) later (ix2 r c) + spread s.ck (ix2 r c)) = _
  rw [logBeta_is (zOf_is hA hJ) r c, triDot_is (logKeep_is hA hJ hm) later_is r c, spread_is hs.ck r c, ← EReal.coe_add, ← EReal.coe_add, Ideal.exp_coe]
  rw [add_assoc, sum_from (lk (R.z r.val) (R.i r.val)) hJ (show c.val + 1 ≤ 256 from c.isLt) (fun s => c.val < s) (fun s _ => Iff.rfl), add_assoc]

include hA hJ hm hs in
theorem gwOf_is : Is (gwOf A mk (Fin.ofNat 16 J) s) (fun r c => R.gw r (256 * J + c)) := fun r c => by
  have e : (Fin.ofNat 16 J).val = J := Nat.mod_eq_of_lt hJ
  refine (show gwOf A mk (Fin.ofNat 16 J) s (ix2 r c) = wOf A mk (Fin.ofNat 16 J) s (ix2 r c) * score A.o (rows A.v (Fin.ofNat 16 J)) (ix2 r c) from rfl).trans ?_
  rw [wOf_is hA hJ hm hs r c, score_is hA.o (keyRows_is hA.v (Fin.ofNat 16 J)) r c, ← EReal.coe_mul, e]
  rfl

include hA hJ hm hs in
theorem dzOf_is : Is (dzOf A mk (Fin.ofNat 16 J) s) (fun r c => R.dz r (256 * J + c)) := by
  have h := masked_is hm (x := subf (mulf (gwOf A mk (Fin.ofNat 16 J) s) (exp (subf (logBeta (zOf A (Fin.ofNat 16 J))) (zOf A (Fin.ofNat 16 J)))))
      (mulf (subf (spread A.g) (addf (triDot (gwOf A mk (Fin.ofNat 16 J) s) fromOn) (spread s.cg))) (exp (logBeta (zOf A (Fin.ofNat 16 J))))))
    (f := fun r c => R.gw r (256 * J + c) * Real.exp (lsig (R.z r (256 * J + c)) - R.z r (256 * J + c))
      - (R.g r - ∑ s ∈ Ico (256 * J + c) 4096, R.gw r s) * Real.exp (lsig (R.z r (256 * J + c)))) (fun r c _ => by
    show gwOf A mk (Fin.ofNat 16 J) s (ix2 r c) * Ideal.exp (logBeta (zOf A (Fin.ofNat 16 J)) (ix2 r c) - zOf A (Fin.ofNat 16 J) (ix2 r c))
      - (spread A.g (ix2 r c) - (triDot (gwOf A mk (Fin.ofNat 16 J) s) fromOn (ix2 r c) + spread s.cg (ix2 r c)))
        * Ideal.exp (logBeta (zOf A (Fin.ofNat 16 J)) (ix2 r c)) = _
    rw [gwOf_is hA hJ hm hs r c, logBeta_is (zOf_is hA hJ) r c, zOf_is hA hJ r c, spread_is hA.g r c, spread_is hs.cg r c,
      triDot_is (gwOf_is hA hJ hm hs) fromOn_is r c]
    simp only [← EReal.coe_sub, ← EReal.coe_add, ← EReal.coe_mul, Ideal.exp_coe]
    rw [sum_from (R.gw r.val) hJ (show c.val ≤ 256 from c.isLt.le) (fun s => c.val ≤ s) (fun s _ => Iff.rfl)])
  exact fun r c => h r c

include hA hJ hm hs in
/-- A tile keeps the invariant. -/
theorem tile_inv (first : Bool) (hf : first = true → ∀ r l, r < 2048 → l < 256 → ∑ j ∈ Ico (256 * (J + 1)) 4096, R.dz r j * R.k j l = 0) :
    Inv R dk dv J (tile A mk (Fin.ofNat 16 J) first s) := by
  have e : (Fin.ofNat 16 J).val = J := Nat.mod_eq_of_lt hJ
  have hz := dzOf_is hA hJ hm hs
  have hw := wOf_is hA hJ hm hs
  have hk : Is (M := 2048) (N := 256) (φ := .f32) (overKeys (dzOf A mk (Fin.ofNat 16 J) s) (rows A.k (Fin.ofNat 16 J)))
      (fun r l => ∑ c ∈ range 256, R.dz r (256 * J + c) * R.k (256 * J + c) l) := by
    refine (overKeys_is hz (keyRows_is hA.k (Fin.ofNat 16 J))).congr fun r l _ _ => ?_
    rw [e]
  refine ⟨fun r c => ?_, fun r c => ?_, ?_, ?_, ?_⟩
  · show s.ck (ix2 r c) + rowSum (logKeep mk (zOf A (Fin.ofNat 16 J))) (ix2 r c) = _
    rw [hs.ck r c, rowSum_is (logKeep_is hA hJ hm) r c, ← EReal.coe_add, ← sum_tile (fun j => lk (R.z r.val) (R.i r.val) j) hJ]
  · show s.cg (ix2 r c) + rowSum (gwOf A mk (Fin.ofNat 16 J) s) (ix2 r c) = _
    rw [hs.cg r c, rowSum_is (gwOf_is hA hJ hm hs) r c, ← EReal.coe_add, ← sum_tile (fun j => R.gw r.val j) hJ]
  · refine (setRows_is hs.dk (g := fun t l => dk (256 * J + t) l + ∑ r ∈ range 2048, R.dz r (256 * J + t) * R.q r l) (fun t l => ?_) (Fin.ofNat 16 J)).congr fun j l hj _ => ?_
    · show rows s.dk (Fin.ofNat 16 J) (ix2 t l) + overRows (dzOf A mk (Fin.ofNat 16 J) s) A.q (ix2 t l) = _
      have ht := t.isLt
      rw [rows_is hs.dk (Fin.ofNat 16 J) t l, overRows_is hz hA.q t l, ← EReal.coe_add, e]
      simp only [if_neg (show ¬ 256 * (J + 1) ≤ 256 * J + t.val by omega), add_zero]
    · rw [e]
      by_cases h : 256 * J ≤ j ∧ j < 256 * J + 256
      · rw [if_pos h, if_pos h.1, show 256 * J + (j - 256 * J) = j by omega]
      · rw [if_neg h]
        by_cases h' : 256 * (J + 1) ≤ j
        · rw [if_pos h', if_pos (by omega)]
        · rw [if_neg h', if_neg (by omega)]
  · refine (setRows_is hs.dv (g := fun t l => dv (256 * J + t) l + ∑ r ∈ range 2048, R.w r (256 * J + t) * R.o r l) (fun t l => ?_) (Fin.ofNat 16 J)).congr fun j l hj _ => ?_
    · show rows s.dv (Fin.ofNat 16 J) (ix2 t l) + overRows (wOf A mk (Fin.ofNat 16 J) s : FVec Ideal S2048x256 .bf16) A.o (ix2 t l) = _
      have ht := t.isLt
      have hw' : Is (φ := .bf16) (wOf A mk (Fin.ofNat 16 J) s : FVec Ideal S2048x256 .bf16) (fun r c => R.w r (256 * J + c)) := hw
      rw [rows_is hs.dv (Fin.ofNat 16 J) t l, overRows_is hw' hA.o t l, ← EReal.coe_add, e]
      simp only [if_neg (show ¬ 256 * (J + 1) ≤ 256 * J + t.val by omega), add_zero]
    · rw [e]
      by_cases h : 256 * J ≤ j ∧ j < 256 * J + 256
      · rw [if_pos h, if_pos h.1, show 256 * J + (j - 256 * J) = j by omega]
      · rw [if_neg h]
        by_cases h' : 256 * (J + 1) ≤ j
        · rw [if_pos h', if_pos (by omega)]
        · rw [if_neg h', if_neg (by omega)]
  · cases first with
    | true =>
      refine Is.congr hk fun r l hr hl => ?_
      rw [sum_tile (fun j => R.dz r j * R.k j l) hJ, hf rfl r l hr hl, zero_add]
    | false =>
      intro r l
      show s.dq (ix2 r l) + overKeys (dzOf A mk (Fin.ofNat 16 J) s) (rows A.k (Fin.ofNat 16 J)) (ix2 r l) = _
      rw [hs.dq r l, hk r l, ← EReal.coe_add, ← sum_tile (fun j => R.dz r.val j * R.k j l.val) hJ]
end

/-! ## The walk of a point -/

section
variable (hA : Holds A R) {b : ℕ} (hb : b < 8) (hi : ∀ r, r < 2048 → R.i r = 512 * b + r % 512)
  {dk₀ dv₀ : Vec Ideal S4096x256 .f32} (hk : Is (φ := .f32) dk₀ dk) (hv : Is (φ := .f32) dv₀ dv)

include hb hi hk hv in
theorem start_inv : Inv R dk dv (2 * b + 2) (start dk₀ dv₀) := by
  have out : ∀ r j, r < 2048 → 256 * (2 * b + 2) ≤ j → R.i r ≤ j := fun r j hr hj => by rw [hi r hr]; omega
  have none : ∀ {N : ℕ} (g : ℕ → ℕ → ℝ), (∀ r c, r < 2048 → c < N → g r c = 0) →
      Is (M := 2048) (N := N) (φ := .f32) (fun _ => Ideal.ofBits .f32 0x00000000#32) g :=
    fun g h r c => by rw [h r c r.isLt c.isLt]; exact Ideal.ofBits_zero_f32
  refine ⟨none _ fun r c hr _ => Finset.sum_eq_zero fun j hj => lk_out (out r j hr (Finset.mem_Ico.mp hj).1),
    none _ fun r c hr _ => Finset.sum_eq_zero fun j hj => gwt_out (out r j hr (Finset.mem_Ico.mp hj).1),
    hk.congr fun j l _ _ => ?_, hv.congr fun j l _ _ => ?_,
    none _ fun r c hr _ => Finset.sum_eq_zero fun j hj => by rw [Reals.dz, dzt_out (out r j hr (Finset.mem_Ico.mp hj).1), zero_mul]⟩
  · split_ifs with h
    · rw [Finset.sum_eq_zero fun r hr => by
        rw [Reals.dz, dzt_out (out r j (Finset.mem_range.mp hr) h), zero_mul], add_zero]
    · rw [add_zero]
  · split_ifs with h
    · rw [Finset.sum_eq_zero fun r hr => by
        rw [Reals.w, wt_out (out r j (Finset.mem_range.mp hr) h), zero_mul], add_zero]
    · rw [add_zero]

include hA hb hi hk hv in
theorem diag_inv : Inv R dk dv (2 * b) (diag A b dk₀ dv₀) := by
  have sees' : ∀ (J lead : ℕ), 256 * J = 512 * b + lead → lead < 4096 → Keeps (some (sees (BitVec.ofNat 32 lead))) (fun r c => 256 * J + c < R.i r) := by
    intro J lead e hl x r c
    refine (keeps_sees lead hl x r c).trans ?_
    have := hi r.val r.isLt
    by_cases h : c.val + lead < r.val % 512
    · rw [if_pos h, if_pos (by omega)]
    · rw [if_neg h, if_neg (by omega)]
  have out : ∀ r j, r < 2048 → 256 * (2 * b + 2) ≤ j → R.i r ≤ j := fun r j hr hj => by rw [hi r hr]; omega
  have h1 := tile_inv hA (J := 2 * b + 1) (by omega) (sees' (2 * b + 1) 256 (by omega) (by omega)) (start_inv hb hi hk hv) true
    fun _ r l hr _ => Finset.sum_eq_zero fun j hj => by rw [Reals.dz, dzt_out (out r j hr (Finset.mem_Ico.mp hj).1), zero_mul]
  exact tile_inv hA (J := 2 * b) (by omega) (sees' (2 * b) 0 (by omega) (by omega)) h1 false (fun h => nomatch h)

include hA hb hi hk hv in
theorem walk_inv (n : ℕ) (hn : n ≤ 2 * b) : Inv R dk dv (2 * b - n) (walk A b dk₀ dv₀ n) := by
  induction n with
  | zero => exact diag_inv hA hb hi hk hv
  | succ n ih =>
    have h := ih (by omega)
    rw [show 2 * b - n = (2 * b - 1 - n) + 1 by omega] at h
    rw [show 2 * b - (n + 1) = 2 * b - 1 - n by omega]
    exact tile_inv hA (by omega) (keeps_none fun r c hr hc => by rw [hi r hr]; omega) h false (fun h => nomatch h)

include hA hb hi hk hv in
/-- What a point leaves. -/
theorem whole_inv : Inv R dk dv 0 (whole A b dk₀ dv₀) := by
  have h := walk_inv hA hb hi hk hv (2 * b) le_rfl
  rwa [Nat.sub_self] at h
end

end Cert.KernelIdeal.Sb
end
-- ==== Proof.Blocks.lean ====
/-
  What each grid point reads: its blocks, entry by entry, of the arrays that the call is given.
-/
module

public import proofs.«01_k».proof.Proof.Launch
public import proofs.«01_k».proof.Proof.Tile

@[expose] public section

set_option maxRecDepth 16384

noncomputable section

namespace Cert.KernelIdeal.Sb

open Cert.KernelIdeal Cert.KernelIdeal.Gen
open Idealize.ShloMosaic Idealize.ShloMosaic.TcCoe
open Finset (range Ico)

variable (m : (ℓ : Loc nD τ sig) → Buf (Elt Ideal) ℓ) (c : Dev nD)

/-- The totals that the host lines leave for the call. -/
def totals : Vec Ideal S4096x512 .f32 := V m c (Pipeline.arrRef spec0 4)

theorem qBlock_is {f : ℕ → ℕ → ℝ} (hf : Is (M := 4096) (N := 5120) (φ := .bf16) (m ((c : Thread nD τ).loc main_arg0)) f) (t : Fin cfg0.N) :
    Is (M := 512) (N := 256) (φ := .bf16) (iblk m c 0 t) (fun r l => f (512 * t.val + r) (2304 + l)) := by
  have hi : win0_0.index t 0 = t.val ∧ win0_0.index t 1 = 9 := by
    have := t.isLt; revert t; decide
  intro r l
  have ht : t.val < 8 := t.isLt
  have hr := r.isLt
  have hl := l.isLt
  refine Eq.trans ?_ (hf ⟨512 * t.val + r.val, by omega⟩ ⟨2304 + l.val, by omega⟩)
  unfold iblk
  rw [View.read_apply]
  show V m c main_arg0 _ = _
  rw [V_main_arg0]
  refine congrArg (m (c.tc.loc main_arg0)) ?_
  funext a
  apply Fin.ext
  match a with
  | ⟨0, _⟩ => show win0_0.index t 0 * 512 + 1 * r.val = 512 * t.val + r.val; rw [hi.1]; omega
  | ⟨1, _⟩ => show win0_0.index t 1 * 256 + 1 * l.val = 2304 + l.val; rw [hi.2]; omega

theorem kBlock_is {f : ℕ → ℕ → ℝ} (hf : Is (M := 4096) (N := 5120) (φ := .bf16) (m ((c : Thread nD τ).loc main_arg0)) f) (t : Fin cfg0.N) :
    Is (M := 4096) (N := 256) (φ := .bf16) (iblk m c 1 t) (fun r l => f r (2560 + l)) := by
  have hi : win0_1.index t 0 = 0 ∧ win0_1.index t 1 = 10 := by
    have := t.isLt; revert t; decide
  intro r l
  have ht : t.val < 8 := t.isLt
  have hr := r.isLt
  have hl := l.isLt
  refine Eq.trans ?_ (hf r ⟨2560 + l.val, by omega⟩)
  unfold iblk
  rw [View.read_apply]
  show V m c main_arg0 _ = _
  rw [V_main_arg0]
  refine congrArg (m (c.tc.loc main_arg0)) ?_
  funext a
  apply Fin.ext
  match a with
  | ⟨0, _⟩ => show win0_1.index t 0 * 4096 + 1 * r.val = r.val; rw [hi.1]; omega
  | ⟨1, _⟩ => show win0_1.index t 1 * 256 + 1 * l.val = 2560 + l.val; rw [hi.2]; omega

theorem vBlock_is {f : ℕ → ℕ → ℝ} (hf : Is (M := 4096) (N := 5120) (φ := .bf16) (m ((c : Thread nD τ).loc main_arg0)) f) (t : Fin cfg0.N) :
    Is (M := 4096) (N := 256) (φ := .bf16) (iblk m c 2 t) (fun r l => f r (2816 + l)) := by
  have hi : win0_2.index t 0 = 0 ∧ win0_2.index t 1 = 11 := by
    have := t.isLt; revert t; decide
  intro r l
  have ht : t.val < 8 := t.isLt
  have hr := r.isLt
  have hl := l.isLt
  refine Eq.trans ?_ (hf r ⟨2816 + l.val, by omega⟩)
  unfold iblk
  rw [View.read_apply]
  show V m c main_arg0 _ = _
  rw [V_main_arg0]
  refine congrArg (m (c.tc.loc main_arg0)) ?_
  funext a
  apply Fin.ext
  match a with
  | ⟨0, _⟩ => show win0_2.index t 0 * 4096 + 1 * r.val = r.val; rw [hi.1]; omega
  | ⟨1, _⟩ => show win0_2.index t 1 * 256 + 1 * l.val = 2816 + l.val; rw [hi.2]; omega

theorem oBlock_is {f : ℕ → ℕ → ℝ} (hf : Is (M := 4096) (N := 256) (φ := .f32) (m ((c : Thread nD τ).loc main_arg1)) f) (t : Fin cfg0.N) :
    Is (M := 512) (N := 256) (φ := .f32) (iblk m c 3 t) (fun r l => f (512 * t.val + r) l) := by
  have hi : win0_3.index t 0 = t.val ∧ win0_3.index t 1 = 0 := by
    have := t.isLt; revert t; decide
  intro r l
  have ht : t.val < 8 := t.isLt
  have hr := r.isLt
  have hl := l.isLt
  refine Eq.trans ?_ (hf ⟨512 * t.val + r.val, by omega⟩ l)
  unfold iblk
  rw [View.read_apply]
  show V m c main_arg1 _ = _
  rw [V_main_arg1]
  refine congrArg (m (c.tc.loc main_arg1)) ?_
  funext a
  apply Fin.ext
  match a with
  | ⟨0, _⟩ => show win0_3.index t 0 * 512 + 1 * r.val = 512 * t.val + r.val; rw [hi.1]; omega
  | ⟨1, _⟩ => show win0_3.index t 1 * 256 + 1 * l.val = l.val; rw [hi.2]; omega

theorem gBlock_is {f : ℕ → ℕ → ℝ} (hf : Is (M := 4096) (N := 512) (φ := .f32) (totals m c) f) (t : Fin cfg0.N) :
    Is (M := 512) (N := 512) (φ := .f32) (iblk m c 4 t) (fun r l => f (512 * t.val + r) l) := by
  have hi : win0_4.index t 0 = t.val ∧ win0_4.index t 1 = 0 := by
    have := t.isLt; revert t; decide
  intro r l
  have ht : t.val < 8 := t.isLt
  have hr := r.isLt
  have hl := l.isLt
  refine Eq.trans ?_ (hf ⟨512 * t.val + r.val, by omega⟩ l)
  unfold iblk
  rw [View.read_apply]
  show V m c (Pipeline.arrRef spec0 4) _ = _
  refine congrArg (V m c (Pipeline.arrRef spec0 4)) ?_
  funext a
  apply Fin.ext
  match a with
  | ⟨0, _⟩ => show win0_4.index t 0 * 512 + 1 * r.val = 512 * t.val + r.val; rw [hi.1]; omega
  | ⟨1, _⟩ => show win0_4.index t 1 * 512 + 1 * l.val = l.val; rw [hi.2]; omega

end Cert.KernelIdeal.Sb
end
-- ==== Proof.Points.lean ====
/-
  The grid points one after another, in the real numbers: the gradients of keys and values are sums over all queries before
  them; the gradient of a point's queries is a sum over all keys.
-/
module

public import proofs.«01_k».proof.Proof.Blocks

@[expose] public section

set_option maxRecDepth 16384

noncomputable section

namespace Cert.KernelIdeal.Sb

open Cert.KernelIdeal Cert.KernelIdeal.Gen
open Idealize.ShloMosaic Idealize.ShloMosaic.TcCoe
open Finset (range Ico)

/-! ## Sums over the stacked heads -/

/-- Over the 2048 stacked rows, when only the rows of head `h` count: the sum over that head's 512. -/
theorem sum_stack (f : ℕ → ℕ → ℝ) (h : ℕ) (hh : h < 4) :
    ∑ r ∈ range 2048, (if h = r / 512 then f (r / 512) (r % 512) else 0) = ∑ t ∈ range 512, f h t := by
  have part : ∀ n, ∑ t ∈ range 512, (if h = (512 * n + t) / 512 then f ((512 * n + t) / 512) ((512 * n + t) % 512) else 0)
      = if h = n then ∑ t ∈ range 512, f h t else 0 := fun n => by
    by_cases e : h = n
    · rw [if_pos e]
      refine Finset.sum_congr rfl fun t ht => ?_
      have := Finset.mem_range.mp ht
      rw [show (512 * n + t) / 512 = n by omega, show (512 * n + t) % 512 = t by omega, if_pos e, e]
    · rw [if_neg e]
      refine Finset.sum_eq_zero fun t ht => ?_
      have := Finset.mem_range.mp ht
      rw [if_neg (by omega)]
  rw [show (2048 : ℕ) = 512 * 3 + 512 from rfl, Finset.sum_range_add, show (512 * 3 : ℕ) = 512 * 2 + 512 from rfl, Finset.sum_range_add,
    show (512 * 2 : ℕ) = 512 * 1 + 512 from rfl, Finset.sum_range_add, show (512 * 1 + 512 : ℕ) = 512 * 2 from rfl, show (512 * 2 + 512 : ℕ) = 512 * 3 from rfl,
    part 1, part 2, part 3]
  have p0 := part 0
  simp only [mul_zero, zero_add] at p0
  rw [show (512 * 1 : ℕ) = 512 from rfl, p0]
  have : h = 0 ∨ h = 1 ∨ h = 2 ∨ h = 3 := by omega
  rcases this with rfl | rfl | rfl | rfl <;> simp

/-! ## The whole call, in the real numbers -/

/-- Queries, keys, values and cotangents (4096 rows of four heads' 64 lanes), and the totals of each query and head. -/
structure Data where
  q : ℕ → ℕ → ℝ
  k : ℕ → ℕ → ℝ
  v : ℕ → ℕ → ℝ
  o : ℕ → ℕ → ℝ
  g : ℕ → ℕ → ℝ

namespace Data
variable (D : Data)

/-- The score of query `i` and key `j` at head `h`. -/
def z (h i j : ℕ) : ℝ := ∑ l ∈ range 256, (if l / 64 = h then D.q i l * (1 / 8) else 0) * D.k j l
/-- The cotangent of their weight, -/
def p (h i j : ℕ) : ℝ := ∑ l ∈ range 256, (if l / 64 = h then D.o i l else 0) * D.v j l
/-- their weight, -/
def w (h i j : ℕ) : ℝ := wt (D.z h i) i j
/-- and the gradient of their score. -/
def dz (h i j : ℕ) : ℝ := dzt (D.z h i) (D.p h i) i (D.g i h) j

/-- What point `b` reads. -/
def at' (b : ℕ) : Reals where
  q := fun r l => if l / 64 = r / 512 then D.q (512 * b + r % 512) l * (1 / 8) else 0
  o := fun r l => if l / 64 = r / 512 then D.o (512 * b + r % 512) l else 0
  g := fun r => D.g (512 * b + r % 512) (r / 512)
  i := fun r => 512 * b + r % 512
  k := D.k
  v := D.v

theorem at_w (b r j : ℕ) : (D.at' b).w r j = D.w (r / 512) (512 * b + r % 512) j := rfl
theorem at_dz (b r j : ℕ) : (D.at' b).dz r j = D.dz (r / 512) (512 * b + r % 512) j := rfl

end Data

theorem eighth_bf16 : (FloatOps.ofBits (F := Ideal) .bf16 0x3E00#16 : EReal) = (((1 / 8 : ℝ)) : EReal) := by
  show Ideal.ofBits .bf16 0x3E00#16 = _
  simp only [Ideal.ofBits, Ideal.ieee]
  rw [if_neg (by decide), if_neg (by decide)]
  congr 1
  simp
  norm_num

theorem eighth_f32 : (FloatOps.ofBits (F := Ideal) .f32 0x3E000000#32 : EReal) = (((1 / 8 : ℝ)) : EReal) := by
  show Ideal.ofBits .f32 0x3E000000#32 = _
  simp only [Ideal.ofBits, Ideal.ieee]
  rw [if_neg (by decide), if_neg (by decide)]
  congr 1
  simp
  norm_num

theorem qStack_is {q : Vec Ideal S512x256 .bf16} {f : ℕ → ℕ → ℝ} (hq : Is (φ := .bf16) q f) :
    Is (qStack q) (fun r l => if l / 64 = r / 512 then f (r % 512) l * (1 / 8) else 0) := by
  refine stack_is (f := fun r l => f r l * (1 / 8)) fun r l => ?_
  show q (ix2 r l) * FloatOps.ofBits (F := Ideal) .bf16 0x3E00#16 = _
  rw [hq r l, eighth_bf16, ← EReal.coe_mul]

theorem oStack_is {o : Vec Ideal S512x256 .f32} {f : ℕ → ℕ → ℝ} (ho : Is (φ := .f32) o f) :
    Is (oStack o) (fun r l => if l / 64 = r / 512 then f (r % 512) l else 0) :=
  stack_is fun r l => ho r l

variable (m : (ℓ : Loc nD τ sig) → Buf (Elt Ideal) ℓ) (c : Dev nD)

/-- The arrays of the launch hold `D`. -/
structure Loads (D : Data) : Prop where
  proj : ∃ f, Is (M := 4096) (N := 5120) (φ := .bf16) (m ((c : Thread nD τ).loc main_arg0)) f
    ∧ D.q = (fun i l => f i (2304 + l)) ∧ D.k = (fun i l => f i (2560 + l)) ∧ D.v = (fun i l => f i (2816 + l))
  do' : Is (M := 4096) (N := 256) (φ := .f32) (m ((c : Thread nD τ).loc main_arg1)) D.o
  tot : Is (M := 4096) (N := 512) (φ := .f32) (totals m c) (fun i l => D.g i (l / 128))

variable {m c} {D : Data} (hD : Loads m c D)

include hD in
theorem args_hold {n : ℕ} (hn : n < 8) : Holds (argsAt m c n) (D.at' n) := by
  obtain ⟨f, hf, hq, hk, hv⟩ := hD.proj
  have e : (pnt n).val = n := Nat.mod_eq_of_lt hn
  refine ⟨?_, ?_, ?_, ?_, ?_⟩
  · have h := qStack_is (qBlock_is m c hf (pnt n))
    rw [e] at h
    have e' : (fun r l : ℕ => if l / 64 = r / 512 then f (512 * n + r % 512) (2304 + l) * (1 / 8) else 0) = (D.at' n).q := by
      rw [Data.at', hq]
    exact e' ▸ h
  · have h := oStack_is (oBlock_is m c hD.do' (pnt n))
    rw [e] at h
    exact h
  · have h := gStack_is (f := fun r h => D.g (512 * n + r) h) (g := iblk m c 4 (pnt n)) (by
      have h := gBlock_is m c hD.tot (pnt n)
      rw [e] at h
      exact h)
    exact h
  · have h := kBlock_is m c hf (pnt n)
    rw [← hk] at h
    exact h
  · have h := vBlock_is m c hf (pnt n)
    rw [← hv] at h
    exact h

theorem zeros_is : Is (M := 4096) (N := 256) (φ := .f32) (zeros (F := Ideal)) (fun _ _ => 0) := fun j l => by
  unfold zeros
  pointwise
  exact EReal.coe_zero.symm

include hD in
/-- The gradients of keys and values after `n` points. -/
theorem base_is (n : ℕ) (hn : n ≤ 8) :
    Is (M := 4096) (N := 256) (φ := .f32) (base m c n).1 (fun j l => ∑ i ∈ range (512 * n), D.dz (l / 64) i j * (D.q i l * (1 / 8)))
    ∧ Is (M := 4096) (N := 256) (φ := .f32) (base m c n).2 (fun j l => ∑ i ∈ range (512 * n), D.w (l / 64) i j * D.o i l) := by
  induction n with
  | zero =>
    have e1 : (base m c 0).1 = zeros := rfl
    have e2 : (base m c 0).2 = zeros := rfl
    rw [e1, e2]
    exact ⟨zeros_is.congr fun j l _ _ => by rw [mul_zero, Finset.range_zero, Finset.sum_empty],
      zeros_is.congr fun j l _ _ => by rw [mul_zero, Finset.range_zero, Finset.sum_empty]⟩
  | succ n ih =>
    obtain ⟨h1, h2⟩ := ih (by omega)
    have h := whole_inv (args_hold hD (show n < 8 by omega)) (show n < 8 by omega) (fun r _ => rfl) h1 h2
    refine ⟨Is.congr h.dk fun j l hj hl => ?_, Is.congr h.dv fun j l hj hl => ?_⟩
    · rw [if_pos (Nat.zero_le _), Nat.mul_succ, Finset.sum_range_add]
      congr 1
      rw [← sum_stack (fun h t => D.dz h (512 * n + t) j * (D.q (512 * n + t) l * (1 / 8))) (l / 64) (by omega)]
      refine Finset.sum_congr rfl fun r _ => ?_
      show D.dz (r / 512) (512 * n + r % 512) j * (if l / 64 = r / 512 then D.q (512 * n + r % 512) l * (1 / 8) else 0) = _
      split_ifs <;> simp
    · rw [if_pos (Nat.zero_le _), Nat.mul_succ, Finset.sum_range_add]
      congr 1
      rw [← sum_stack (fun h t => D.w h (512 * n + t) j * D.o (512 * n + t) l) (l / 64) (by omega)]
      refine Finset.sum_congr rfl fun r _ => ?_
      show D.w (r / 512) (512 * n + r % 512) j * (if l / 64 = r / 512 then D.o (512 * n + r % 512) l else 0) = _
      split_ifs <;> simp

include hD in
/-- The gradient of the queries of point `n`. -/
theorem dqAt_is (n : ℕ) (hn : n < 8) :
    Is (M := 512) (N := 256) (φ := .f32) (dqAt m c n) (fun r l => (∑ j ∈ range 4096, D.dz (l / 64) (512 * n + r) j * D.k j l) * (1 / 8)) := by
  obtain ⟨h1, h2⟩ := base_is hD n hn.le
  have h := whole_inv (args_hold hD hn) hn (fun r _ => rfl) h1 h2
  intro r l
  have hr := r.isLt
  have hl := l.isLt
  show unstack (whole (argsAt m c n) n (base m c n).1 (base m c n).2).dq (ix2 r l) * FloatOps.ofBits (F := Ideal) .f32 0x3E000000#32 = _
  rw [unstack_is h.dq r l, eighth_f32, ← EReal.coe_mul, mul_zero, ← Finset.range_eq_Ico]
  congr 2
  refine Finset.sum_congr rfl fun j _ => ?_
  rw [Data.at_dz, show (512 * (l.val / 64) + r.val) / 512 = l.val / 64 by omega, show (512 * (l.val / 64) + r.val) % 512 = r.val by omega]
  rfl

end Cert.KernelIdeal.Sb
end
-- ==== Proof.Entries.lean ====
/-
  The reference's lines, entry by entry, when every entry of its arguments is a real number.
-/
module

public import proofs.«01_k».proof.Proof.Lines
public import proofs.«01_k».proof.Proof.Windows
public import proofs.«01_k».proof.Proof.Points
public import proofs.«01_k».proof.Proof.Row

@[expose] public section

set_option maxRecDepth 16384

noncomputable section

namespace Cert.ReferenceIdeal.Sb

open Cert.ReferenceIdeal Cert.ReferenceIdeal.Gen
open Idealize.ShloMosaic Idealize.ShloMosaic.TcCoe
open Cert.KernelIdeal.Sb (Is sum_coe sum_mul_coe lsig ereal_max log_pos_coe small select_iff eighth_f32)
open Finset (range Ico)

section
variable {P : FVec Ideal S4096x5120 .bf16} {f : ℕ → ℕ → ℝ} (hP : Is P f)
include hP

theorem queries_is : Is3 (queries P) (fun h i d => f i (2304 + (64 * h + d))) := fun h i d => by
  have hh := h.isLt
  have hd := d.isLt
  unfold queries heads
  pointwise
  refine (hP i ⟨2304 + (h.val * 64 + d.val), by omega⟩).trans ?_
  show ((f i.val (2304 + (h.val * 64 + d.val)) : ℝ) : EReal) = _
  rw [Nat.mul_comm h.val 64]

theorem values_is : Is3 (values P) (fun h i d => f i (2816 + (64 * h + d))) := fun h i d => by
  have hh := h.isLt
  have hd := d.isLt
  unfold values heads
  pointwise
  refine (hP i ⟨2304 + (512 + h.val * 64 + d.val), by omega⟩).trans ?_
  show ((f i.val (2304 + (512 + h.val * 64 + d.val)) : ℝ) : EReal) = _
  rw [show 2304 + (512 + h.val * 64 + d.val) = 2816 + (64 * h.val + d.val) by omega]

theorem keys_is : Is3 (keys P) (fun h i d => f i (2560 + (64 * h + d))) := fun h i d => by
  have hh := h.isLt
  have hd := d.isLt
  unfold keys heads
  pointwise
  refine (hP i ⟨2304 + (256 + h.val * 64 + d.val), by omega⟩).trans ?_
  show ((f i.val (2304 + (256 + h.val * 64 + d.val)) : ℝ) : EReal) = _
  rw [show 2304 + (256 + h.val * 64 + d.val) = 2560 + (64 * h.val + d.val) by omega]
end

theorem cots_is {D : FVec Ideal S4096x256 .f32} {o : ℕ → ℕ → ℝ} (hD : Is D o) : Is3 (cots D) (fun h i d => o i (64 * h + d)) := fun h i d => by
  have hh := h.isLt
  have hd := d.isLt
  unfold cots
  pointwise
  refine (hD i ⟨h.val * 64 + d.val, by omega⟩).trans ?_
  show ((o i.val (h.val * 64 + d.val) : ℝ) : EReal) = _
  rw [Nat.mul_comm h.val 64]

theorem flat_is {x : Rows Ideal} {f : ℕ → ℕ → ℕ → ℝ} (hx : Is3 x f) : Is (flat x) (fun i l => f (l / 64) i (l % 64)) := fun i l => by
  unfold flat
  pointwise
  exact hx _ _ _

theorem inner_is {x y : Rows Ideal} {f g : ℕ → ℕ → ℕ → ℝ} (hx : Is3 x f) (hy : Is3 y g) :
    Is3 (inner x y) (fun h i j => ∑ d ∈ range 64, f h i d * g h j d) := fun h i j => by
  unfold inner
  pointwise
  unfold Is3 at hx hy
  simp only [hx, hy]
  rw [sum_mul_coe 64 (fun d => f h i d) (fun d => g h j d)]

theorem scores_is {x y : Rows Ideal} {f g : ℕ → ℕ → ℕ → ℝ} (hx : Is3 x f) (hy : Is3 y g) :
    Is3 (scores x y) (fun h i j => (∑ d ∈ range 64, f h i d * g h j d) * (1 / 8)) := fun h i j => by
  show inner x y (ix3 h i j) * FloatOps.ofBits (F := Ideal) .f32 0x3E000000#32 = _
  rw [inner_is hx hy h i j, eighth_f32, ← EReal.coe_mul]

theorem past_at (h : Fin 4) (i j : Fin 4096) : past (ix3 h i j) = 1#1 ↔ j.val < i.val := by
  have hi := i.isLt
  have hj := j.isLt
  unfold past
  pointwise
  rw [StableHlo.Predicate.slt_iff_toNat (by rw [small] <;> omega) (by rw [small] <;> omega), small (by omega), small (by omega)]

theorem zero_f32 : (FloatOps.ofBits (F := Ideal) .f32 0x00000000#32 : EReal) = ((0 : ℝ) : EReal) := Ideal.ofBits_zero_f32

theorem inf_f32 : (FloatOps.ofBits (F := Ideal) .f32 0x7F800000#32 : EReal) = ⊤ := by
  show Ideal.ofBits .f32 0x7F800000#32 = _
  simp only [Ideal.ofBits, Ideal.ieee]
  rw [if_pos (by decide), if_pos (by decide), if_neg (by decide)]

theorem seen_is {x : Pairs Ideal} {f : ℕ → ℕ → ℕ → ℝ} (hx : Is3 x f) : Is3 (seen x) (fun h i j => if j < i then f h i j else 0) := fun h i j => by
  show Scalar.select (past (ix3 h i j)) (x (ix3 h i j)) (FloatOps.ofBits (F := Ideal) .f32 0x00000000#32) = _
  rw [select_iff (past_at h i j), hx h i j, zero_f32]
  show _ = (((if j.val < i.val then f h i j else 0) : ℝ) : EReal)
  by_cases c : j.val < i.val
  · rw [if_pos c, if_pos c]
  · rw [if_neg c, if_neg c]

theorem splus_is {x : Pairs Ideal} {f : ℕ → ℕ → ℕ → ℝ} (hx : Is3 x f) : Is3 (splus x) (fun h i j => - lsig (- f h i j)) := fun h i j => by
  unfold splus every
  pointwise
  rw [hx h i j]
  generalize f h.val i.val j.val = a
  rw [if_neg (by simp)]
  show max (a : EReal) 0 + Ideal.log (1 + Ideal.exp (-max (a : EReal) (-(a : EReal)))) = _
  rw [← EReal.coe_neg, ereal_max, ← EReal.coe_zero, ereal_max, ← EReal.coe_neg, Ideal.exp_coe, ← EReal.coe_one, ← EReal.coe_add,
    log_pos_coe (by positivity), ← EReal.coe_add]
  congr 1
  rw [lsig, abs_neg, neg_sub, sub_eq_neg_add, ← max_neg_neg, neg_neg, neg_zero]
  rfl

theorem logSig_is {x : Pairs Ideal} {f : ℕ → ℕ → ℕ → ℝ} (hx : Is3 x f) : Is3 (logSig x) (fun h i j => lsig (f h i j)) := fun h i j => by
  unfold logSig
  show - splus (Host.negf x) (ix3 h i j) = _
  rw [splus_is (f := fun h i j => - f h i j) (fun h i j => by show - x (ix3 h i j) = _; rw [hx h i j, EReal.coe_neg]) h i j, ← EReal.coe_neg, neg_neg, neg_neg]

theorem dSig_is {x : Pairs Ideal} {f : ℕ → ℕ → ℕ → ℝ} (hx : Is3 x f) : Is3 (dSig x) (fun h i j => Real.exp (lsig (f h i j) - f h i j)) := fun h i j => by
  unfold dSig every
  pointwise
  have e : splus (Host.negf x) (ix3 h i j) = ((- lsig (f h i j) : ℝ) : EReal) := by
    rw [splus_is (f := fun h i j => - f h i j) (fun h i j => by show - x (ix3 h i j) = _; rw [hx h i j, EReal.coe_neg]) h i j]
    simp only [neg_neg]
  rw [show Ideal.ofBits .f32 2139095040#32 = ⊤ from inf_f32, e, hx h i j, ← EReal.coe_neg, if_neg (EReal.coe_ne_top _), if_neg (EReal.coe_ne_top _),
    ← EReal.coe_sub, Ideal.exp_coe]
  congr 2
  ring

theorem keep_is {z : Pairs Ideal} {f : ℕ → ℕ → ℕ → ℝ} (hz : Is3 z f) : Is3 (keep z) (fun h i j => if j < i then lsig (- f h i j) else 0) :=
  seen_is (logSig_is fun h i j => by show - z (ix3 h i j) = _; rw [hz h i j, EReal.coe_neg])

theorem fromSum_is {x : Pairs Ideal} {f : ℕ → ℕ → ℕ → ℝ} (hx : Is3 x f) : Is3 (fromSum x) (fun h i j => ∑ s ∈ Ico j 4096, f h i s) := fun h i j => by
  show _ = ((∑ s ∈ Ico j.val 4096, f h i s : ℝ) : EReal)
  rw [← from_sum (f h i) j.isLt]
  exact host_window_at 0 4095 x hx reduceWindows_S4x4096x4096_S4x4096x4096_w1s1p0_0_w1s1p0_0_w4096s1p0_4095 _ h_S_ (fun _ => Ideal.ofBits_zero_f32) h i j

theorem upToSum_is {x : Pairs Ideal} {f : ℕ → ℕ → ℕ → ℝ} (hx : Is3 x f) : Is3 (upToSum x) (fun h i j => ∑ s ∈ range (j + 1), f h i s) := fun h i j => by
  show _ = ((∑ s ∈ range (j.val + 1), f h i s : ℝ) : EReal)
  rw [← upTo_sum (C := 4095) (f h i) j.isLt]
  exact host_window_at 4095 0 x hx reduceWindows_S4x4096x4096_S4x4096x4096_w1s1p0_0_w1s1p0_0_w4096s1p4095_0 _ h_S_ (fun _ => Ideal.ofBits_zero_f32) h i j

/-- The logarithm of the weight before the mask. -/
def lw (z : ℕ → ℝ) (i j : ℕ) : ℝ := lsig (z j) + (∑ s ∈ Ico j 4096, (if s < i then lsig (- z s) else 0) - if j < i then lsig (- z j) else 0)

theorem open_is {z : Pairs Ideal} {f : ℕ → ℕ → ℕ → ℝ} (hz : Is3 z f) : Is3 (open' z) (fun h i j => Real.exp (lw (f h i) i j)) := fun h i j => by
  show Ideal.exp (logSig z (ix3 h i j) + (fromSum (keep z) (ix3 h i j) - keep z (ix3 h i j))) = _
  rw [logSig_is hz h i j, fromSum_is (keep_is hz) h i j, keep_is hz h i j, ← EReal.coe_sub, ← EReal.coe_add, Ideal.exp_coe]
  rfl

theorem weights_is {z : Pairs Ideal} {f : ℕ → ℕ → ℕ → ℝ} (hz : Is3 z f) : Is3 (weights z) (fun h i j => if j < i then Real.exp (lw (f h i) i j) else 0) :=
  seen_is (open_is hz)

theorem prods_is {z p : Pairs Ideal} {f g : ℕ → ℕ → ℕ → ℝ} (hz : Is3 z f) (hp : Is3 p g) :
    Is3 (prods z p) (fun h i j => (if j < i then g h i j else 0) * Real.exp (lw (f h i) i j)) := fun h i j => by
  show seen p (ix3 h i j) * open' z (ix3 h i j) = _
  rw [seen_is hp h i j, open_is hz h i j, ← EReal.coe_mul]

theorem earlier_is {x : Pairs Ideal} {f : ℕ → ℕ → ℕ → ℝ} (hx : Is3 x f) :
    Is3 (earlier x) (fun h i j => if j < i then ∑ s ∈ range j, f h i s else 0) := by
  refine (seen_is (f := fun h i j => ∑ s ∈ range j, f h i s) fun h i j => ?_)
  show - x (ix3 h i j) + upToSum x (ix3 h i j) = _
  rw [hx h i j, upToSum_is hx h i j, ← EReal.coe_neg, ← EReal.coe_add]
  congr 1
  simp only [Finset.sum_range_succ]
  ring

theorem dInner_is {z p : Pairs Ideal} {f g w : ℕ → ℕ → ℕ → ℝ} (hz : Is3 z f) (hp : Is3 p g) (hw : Is3 (prods z p) w) :
    Is3 (dInner z p) (fun h i j => (w h i j * Real.exp (lsig (f h i j) - f h i j)
      - (if j < i then ∑ s ∈ range j, w h i s else 0) * Real.exp (lsig (- f h i j) + f h i j)) * (1 / 8)) := fun h i j => by
  show (- -(-(earlier (prods z p) (ix3 h i j)) * dSig (Host.negf z) (ix3 h i j)) + -(-(prods z p (ix3 h i j)) * dSig z (ix3 h i j)))
    * FloatOps.ofBits (F := Ideal) .f32 0x3E000000#32 = _
  rw [earlier_is hw h i j, hw h i j, dSig_is hz h i j,
    dSig_is (f := fun h i j => - f h i j) (fun h i j => by show - z (ix3 h i j) = _; rw [hz h i j, EReal.coe_neg]) h i j, eighth_f32]
  simp only [← EReal.coe_neg, ← EReal.coe_mul, ← EReal.coe_add]
  congr 1
  simp only [sub_neg_eq_add]
  ring

end Cert.ReferenceIdeal.Sb
end
-- ==== Proof.Totals.lean ====
/-
  The totals that the host lines leave for the call, as the same functions of the arguments as the reference's.
-/
module

public import proofs.«01_k».proof.Proof.Lines
public import proofs.«01_k».proof.Proof.Blocks
public import Idealize.ShloMosaic.Lib.StableHlo.RunRead

@[expose] public section

set_option maxRecDepth 65536

noncomputable section

namespace Cert.KernelIdeal.Sb

open Cert.KernelIdeal Cert.KernelIdeal.Gen
open Idealize.ShloMosaic Idealize.ShloMosaic.TcCoe Idealize.ShloMosaic.StableHlo
open Cert.ReferenceIdeal.Sb

/-- The outputs of the attention, by row and head. -/
def outs (P : FVec Ideal S4096x5120 .bf16) : FVec Ideal S4096x4x64 .f32 :=
  transpose S4096x4x64 [1, 0, 2] (Host.dotGeneral dot_S4x4096x4096_S4x4096x64_S4x4096x64_2_1_1_2_0_0 none (weights (zH P)) (values P))
    transposes_S4x4096x64_S4096x4x64_1_0_2

/-- Each query's and head's inner product of cotangent and output. -/
def rowTotals (P : FVec Ideal S4096x5120 .bf16) (D : FVec Ideal S4096x256 .f32) : FVec Ideal S4096x4 .f32 :=
  Host.reduceAdd (mulf (shapeCast S4096x4x64 D shapeCasts_S4096x256_S4096x4x64) (outs P)) (constant S_ .f32 0x00000000#32) reducesTo_S4096x4x64_S4096x4_d2 h_S_

/-- The same, 128 lanes for each head. -/
def spreadTotals (P : FVec Ideal S4096x5120 .bf16) (D : FVec Ideal S4096x256 .f32) : FVec Ideal S4096x512 .f32 :=
  shapeCast S4096x512 (broadcastInDim S4096x4x128 ![0, 1, 2] bcast_S4096x4x1_S4096x4x128_0_1_2
    (broadcastInDim S4096x4x1 ![0, 1] bcast_S4096x4_S4096x4x1_0_1 (rowTotals P D))) shapeCasts_S4096x4x128_S4096x512

variable (m : (ℓ : Loc nD τ sig) → Buf (Elt Ideal) ℓ) (c : Dev nD)

theorem totals_eq : totals m c = spreadTotals (m ((c : Thread nD τ).loc main_arg0)) (m ((c : Thread nD τ).loc main_arg1)) := by
  unfold totals
  after_reads_simp
  rfl

end Cert.KernelIdeal.Sb
end
-- ==== Proof.Final.lean ====
/-
  What the call's three result arrays hold in the end.
-/
module

public import proofs.«01_k».proof.Proof.Points
public import Idealize.ShloMosaic.Lib.Pipeline.ValueKit

@[expose] public section

set_option maxRecDepth 16384

noncomputable section

namespace Cert.KernelIdeal.Sb

open Cert.KernelIdeal Cert.KernelIdeal.Gen
open Idealize.ShloMosaic Idealize.ShloMosaic.TcCoe
open Finset (range Ico)

variable (m : (ℓ : Loc nD τ sig) → Buf (Elt Ideal) ℓ) (c : Dev nD)

/-- The gradient of the keys is what the last point leaves, -/
theorem final_dk : (dats m 0 c).arrAt 6 cfg0.N = (base m c 8).1 := by
  refine (dats m 0 c).arrAt_eq_of_after_last 6 (pnt 7) (by decide +kernel) _ fun j => ?_
  blk_simp
  rw [after_6]
  rfl

/-- and so is the gradient of the values. -/
theorem final_dv : (dats m 0 c).arrAt 7 cfg0.N = (base m c 8).2 := by
  refine (dats m 0 c).arrAt_eq_of_after_last 7 (pnt 7) (by decide +kernel) _ fun j => ?_
  blk_simp
  rw [after_7]
  rfl

variable {m c} {D : Data} (hD : Loads m c D)

include hD in
theorem final_dk_is : Is (M := 4096) (N := 256) (φ := .f32) ((dats m 0 c).arrAt 6 cfg0.N)
    (fun j l => ∑ i ∈ range 4096, D.dz (l / 64) i j * (D.q i l * (1 / 8))) := by
  rw [final_dk]
  exact (base_is hD 8 le_rfl).1

include hD in
theorem final_dv_is : Is (M := 4096) (N := 256) (φ := .f32) ((dats m 0 c).arrAt 7 cfg0.N)
    (fun j l => ∑ i ∈ range 4096, D.w (l / 64) i j * D.o i l) := by
  rw [final_dv]
  exact (base_is hD 8 le_rfl).2

theorem ix2_self {M N : ℕ} (y : (⟨2, ![M, N]⟩ : Shape).Idx) : y = ix2 (y 0) (y 1) := by
  funext a
  match a with
  | ⟨0, _⟩ => rfl
  | ⟨1, _⟩ => rfl

theorem Is.at_idx {M N : ℕ} {φ : FTy} {x : FVec Ideal ⟨2, ![M, N]⟩ φ} {f : ℕ → ℕ → ℝ} (h : Is x f) (y : (⟨2, ![M, N]⟩ : Shape).Idx) :
    x y = ((f (y 0).val (y 1).val : ℝ) : EReal) := (congrArg x (ix2_self y)).trans (h _ _)

include hD in
/-- The gradient of the queries, block by block. -/
theorem final_dq_at (x : main_v37_0.ty.Idx) : (dats m 0 c).arrAt 5 cfg0.N x
    = (((∑ j ∈ range 4096, D.dz ((x 1).val / 64) (x 0).val j * D.k j (x 1).val) * (1 / 8) : ℝ) : EReal) := by
  refine (dats m 0 c).arrAt_forall_of_covers 5
    (fun x v => v = (((∑ j ∈ range 4096, D.dz ((x 1).val / 64) (x 0).val j * D.k j (x 1).val) * (1 / 8) : ℝ) : EReal))
    (by decide +kernel) (fun t hf y => ?_) x
  have e : ∀ t : Fin cfg0.N, win0_5.index t = ![t.val, 0] := (by decide +kernel : ∀ t : Fin grid0.N, _)
  have ht : t.val < 8 := t.isLt
  blk_simp [e]
  rw [after_5, mul_comm t.val 512]
  exact (dqAt_is hD t.val ht).at_idx y

include hD in
theorem final_dq_is : Is (M := 4096) (N := 256) (φ := .f32) ((dats m 0 c).arrAt 5 cfg0.N)
    (fun i l => (∑ j ∈ range 4096, D.dz (l / 64) i j * D.k j l) * (1 / 8)) := fun i l => final_dq_at hD (ix2 i l)

end Cert.KernelIdeal.Sb
end
-- ==== Proof.Bridge.lean ====
/-
  The kernel's formulas and the reference's are the same real functions: a head's inner product is a sum over all lanes with the
  other heads' lanes put to zero, and the sum of a query's products over the earlier keys is its total less the sum over the rest.
-/
module

public import proofs.«01_k».proof.Proof.Entries
public import proofs.«01_k».proof.Proof.Totals
public import proofs.«01_k».proof.Proof.Final

@[expose] public section

set_option maxRecDepth 16384

noncomputable section

namespace Cert.KernelIdeal.Sb

open Cert.KernelIdeal Cert.KernelIdeal.Gen
open Idealize.ShloMosaic Idealize.ShloMosaic.TcCoe
open Cert.ReferenceIdeal.Sb
open Finset (range Ico)

/-- A sum over all lanes with one head's alone is the sum over that head's lanes. -/
theorem sum_head (f : ℕ → ℝ) {h : ℕ} (hh : h < 4) : (∑ l ∈ range 256, if l / 64 = h then f l else 0) = ∑ d ∈ range 64, f (64 * h + d) := by
  rw [← Finset.sum_filter]
  symm
  refine Finset.sum_bij (fun d _ => 64 * h + d) ?_ ?_ ?_ fun _ _ => rfl
  · intro d hd
    simp only [Finset.mem_filter, Finset.mem_range] at hd ⊢
    omega
  · intro a _ b _ e
    omega
  · intro l hl
    simp only [Finset.mem_filter, Finset.mem_range] at hl
    exact ⟨l % 64, Finset.mem_range.mpr (by omega), by omega⟩

theorem sum_head_mul (f g : ℕ → ℝ) {h : ℕ} (hh : h < 4) :
    ∑ l ∈ range 256, (if l / 64 = h then f l else 0) * g l = ∑ d ∈ range 64, f (64 * h + d) * g (64 * h + d) := by
  rw [← sum_head (fun l => f l * g l) hh]
  exact Finset.sum_congr rfl fun l _ => by rw [ite_mul, zero_mul]

/-- The complement's logarithm. -/
theorem lsig_neg (x : ℝ) : lsig (-x) = lsig x - x := by
  unfold lsig
  rw [abs_neg]
  rcases le_total x 0 with h | h
  · rw [min_eq_left h, min_eq_right (by linarith)]; ring
  · rw [min_eq_right h, min_eq_left (by linarith)]; ring

/-- The weight, its logarithm summed in the reference's order. -/
theorem lw_eq (z : ℕ → ℝ) {i j : ℕ} (hj : j < 4096) : (if j < i then Real.exp (lw z i j) else 0) = wt z i j := by
  unfold wt
  by_cases h : j < i
  · rw [if_pos h, if_pos h, lw, Finset.sum_eq_sum_Ico_succ_bot hj, add_sub_cancel_left]
    congr 2
    refine Finset.sum_congr rfl fun s _ => ?_
    rw [lk, lsig_neg]
  · rw [if_neg h, if_neg h]

section
variable (f o : ℕ → ℕ → ℝ)

/-- The scores, -/
def scoreR (h i j : ℕ) : ℝ := (∑ d ∈ range 64, f i (2304 + (64 * h + d)) * f j (2560 + (64 * h + d))) * (1 / 8)
/-- the cotangents of the weights, -/
def cotR (h i j : ℕ) : ℝ := ∑ d ∈ range 64, o i (64 * h + d) * f j (2816 + (64 * h + d))
/-- the weights, -/
def weightR (h i j : ℕ) : ℝ := wt (scoreR f h i) i j
/-- their products with their cotangents, -/
def prodR (h i j : ℕ) : ℝ := gwt (scoreR f h i) (cotR f o h i) i j
/-- and the inner products of cotangents and outputs. -/
def totalR (i h : ℕ) : ℝ := ∑ d ∈ range 64, o i (64 * h + d) * ∑ j ∈ range 4096, weightR f h i j * f j (2816 + (64 * h + d))

/-- What the call reads. -/
def dataOf : Data := ⟨fun i l => f i (2304 + l), fun i l => f i (2560 + l), fun i l => f i (2816 + l), o, totalR f o⟩

theorem dataOf_z {h : ℕ} (hh : h < 4) : (dataOf f o).z h = scoreR f h := by
  funext i j
  refine (sum_head_mul (fun l => f i (2304 + l) * (1 / 8)) (fun l => f j (2560 + l)) hh).trans ?_
  rw [scoreR, Finset.sum_mul]
  exact Finset.sum_congr rfl fun d _ => by ring

theorem dataOf_p {h : ℕ} (hh : h < 4) : (dataOf f o).p h = cotR f o h := by
  funext i j
  exact sum_head_mul (fun l => o i l) (fun l => f j (2816 + l)) hh

theorem dataOf_w {h : ℕ} (hh : h < 4) (i j : ℕ) : (dataOf f o).w h i j = weightR f h i j := by
  rw [Data.w, dataOf_z f o hh]
  rfl

/-- The inner product of a row's cotangent and output is the sum of its products. -/
theorem totalR_eq (i h : ℕ) : totalR f o i h = ∑ j ∈ range 4096, prodR f o h i j := by
  unfold totalR
  simp only [Finset.mul_sum]
  rw [Finset.sum_comm]
  refine Finset.sum_congr rfl fun j _ => ?_
  show _ = weightR f h i j * cotR f o h i j
  rw [cotR, Finset.mul_sum]
  exact Finset.sum_congr rfl fun d _ => by ring

theorem dataOf_dz {h : ℕ} (hh : h < 4) (i : ℕ) {j : ℕ} (hj : j < 4096) : (dataOf f o).dz h i j
    = prodR f o h i j * Real.exp (lsig (scoreR f h i j) - scoreR f h i j)
      - (if j < i then ∑ s ∈ range j, prodR f o h i s else 0) * Real.exp (lsig (- scoreR f h i j) + scoreR f h i j) := by
  rw [Data.dz, dataOf_z f o hh, dataOf_p f o hh]
  show dzt (scoreR f h i) (cotR f o h i) i (totalR f o i h) j = _
  unfold dzt
  by_cases c : j < i
  · rw [if_pos c, if_pos c, totalR_eq, lsig_neg, sub_add_cancel]
    have e := Finset.sum_range_add_sum_Ico (prodR f o h i) hj.le
    rw [← e]
    show _ - (_ + _ - ∑ s ∈ Ico j 4096, prodR f o h i s) * _ = _
    rw [add_sub_cancel_right]
    rfl
  · rw [if_neg c, if_neg c, prodR, gwt_out (by omega)]
    ring
end

section
variable {P : FVec Ideal S4096x5120 .bf16} {A : FVec Ideal S4096x256 .f32} {f o : ℕ → ℕ → ℝ} (hP : Is P f) (hA : Is A o)

include hP in
theorem zH_is : Is3 (zH P) (scoreR f) := scores_is (queries_is hP) (keys_is hP)

include hP in
theorem weightsH_is : Is3 (weights (zH P)) (weightR f) :=
  (weights_is (zH_is hP)).congr fun h i j _ _ hj => lw_eq (scoreR f h i) hj

include hP hA in
theorem prodsH_is : Is3 (prods (zH P) (inner (cots A) (values P))) (prodR f o) := by
  refine (prods_is (zH_is hP) (inner_is (cots_is hA) (values_is hP))).congr fun h i j _ _ hj => ?_
  show _ = wt (scoreR f h i) i j * cotR f o h i j
  rw [← lw_eq (scoreR f h i) hj, ite_mul, zero_mul, ite_mul, zero_mul, mul_comm]
  rfl

include hP hA in
theorem dH_is : Is3 (dH P A) (fun h i j => (dataOf f o).dz h i j * (1 / 8)) := by
  refine (dInner_is (zH_is hP) (inner_is (cots_is hA) (values_is hP)) (prodsH_is hP hA)).congr fun h i j hh _ hj => ?_
  rw [dataOf_dz f o hh i hj]

include hP hA in
theorem dqH_is : Is (flat (dqH P A)) (fun i l => (∑ j ∈ range 4096, (dataOf f o).dz (l / 64) i j * (dataOf f o).k j l) * (1 / 8)) := by
  refine (flat_is (f := fun h i d => ∑ j ∈ range 4096, (dataOf f o).dz h i j * (1 / 8) * f j (2560 + (64 * h + d))) fun h i d => ?_).congr
    fun i l _ _ => ?_
  · unfold dqH
    pointwise
    have e := dH_is hP hA
    have e' := keys_is hP
    unfold Is3 at e e'
    simp only [e, e']
    exact sum_mul_coe 4096 (fun j => (dataOf f o).dz h i j * (1 / 8)) (fun j => f j (2560 + (64 * h.val + d.val)))
  · rw [Finset.sum_mul]
    refine Finset.sum_congr rfl fun j _ => ?_
    rw [Nat.div_add_mod]
    show _ = _ * f j (2560 + l) * _
    ring

include hP hA in
theorem dkH_is : Is (flat (dkH P A)) (fun j l => ∑ i ∈ range 4096, (dataOf f o).dz (l / 64) i j * ((dataOf f o).q i l * (1 / 8))) := by
  refine (flat_is (f := fun h j d => ∑ i ∈ range 4096, (dataOf f o).dz h i j * (1 / 8) * f i (2304 + (64 * h + d))) fun h j d => ?_).congr
    fun j l _ _ => ?_
  · unfold dkH
    pointwise
    have e := dH_is hP hA
    have e' := queries_is hP
    unfold Is3 at e e'
    simp only [e, e']
    exact sum_mul_coe 4096 (fun i => (dataOf f o).dz h i j * (1 / 8)) (fun i => f i (2304 + (64 * h.val + d.val)))
  · refine Finset.sum_congr rfl fun i _ => ?_
    rw [Nat.div_add_mod]
    show _ = _ * (f i (2304 + l) * _)
    ring

include hP hA in
theorem dvH_is : Is (flat (dvH P A)) (fun j l => ∑ i ∈ range 4096, (dataOf f o).w (l / 64) i j * (dataOf f o).o i l) := by
  refine (flat_is (f := fun h j d => ∑ i ∈ range 4096, o i (64 * h + d) * weightR f h i j) fun h j d => ?_).congr
    fun j l _ hl => ?_
  · unfold dvH
    pointwise
    have e := weightsH_is hP
    have e' := cots_is hA
    unfold Is3 at e e'
    simp only [e, e']
    exact sum_mul_coe 4096 (fun i => o i (64 * h.val + d.val)) (fun i => weightR f h i j)
  · refine Finset.sum_congr rfl fun i _ => ?_
    rw [Nat.div_add_mod, dataOf_w f o (by omega), mul_comm]
    rfl

include hP in
theorem outs_is : Is3 (outs P) (fun i h d => ∑ j ∈ range 4096, weightR f h i j * f j (2816 + (64 * h + d))) := fun i h d => by
  unfold outs
  pointwise
  have e := weightsH_is hP
  have e' := values_is hP
  unfold Is3 at e e'
  simp only [e, e']
  exact sum_mul_coe 4096 (fun j => weightR f h i j) (fun j => f j (2816 + (64 * h.val + d.val)))

include hP hA in
theorem rowTotals_is : Is (rowTotals P A) (totalR f o) := fun i h => by
  have hh := h.isLt
  unfold rowTotals
  pointwise
  have e := outs_is hP
  unfold Is3 at e
  unfold Is at hA
  simp only [e, hA]
  rw [sum_mul_coe 64 (fun d => o i.val (h.val * 64 + d)) (fun d => ∑ j ∈ range 4096, weightR f h i j * f j (2816 + (64 * h.val + d))), Nat.mul_comm h.val 64]
  rfl

include hP hA in
theorem spreadTotals_is : Is (spreadTotals P A) (fun i l => (dataOf f o).g i (l / 128)) := fun i l => by
  unfold spreadTotals
  pointwise
  exact rowTotals_is hP hA _ _
end

end Cert.KernelIdeal.Sb
end
-- ==== Proof.Value.lean ====
/-
  The two programs' results agree where every entry of the arguments is a real number.
-/
module

public import proofs.«01_k».proof.Defs
public import proofs.«01_k».proof.Proof.Bridge
public import Idealize.ShloMosaic.Lib.ReduceAll

@[expose] public section

set_option maxRecDepth 16384

noncomputable section

namespace Cert.KernelIdeal.Sb

open Cert.KernelIdeal Cert.KernelIdeal.Gen
open Idealize.ShloMosaic Idealize.ShloMosaic.TcCoe Idealize.SL.Sem
open Cert.ReferenceIdeal.Sb

instance preFacts : Cert.Pre_finite.Facts where
  bitsLt_bf16_f32 := by decide
  bcast_S_S4096x5120 := by decide
  reducesTo_S4096x5120_S_d0_1 := by decide
  h_S_ := by decide
  bcast_S_S4096x256 := by decide
  reducesTo_S4096x256_S_d0_1 := by decide

/-- A matrix without infinite entries is given by a real function. -/
theorem exists_is {M N : ℕ} {φ : FTy} (x : FVec Ideal ⟨2, ![M, N]⟩ φ) (h : ∀ i, (x i : EReal) ≠ ⊤ ∧ (x i : EReal) ≠ ⊥) : ∃ f, Is x f := by
  refine ⟨fun r c => if e : r < M ∧ c < N then EReal.toReal (x (ix2 ⟨r, e.1⟩ ⟨c, e.2⟩)) else 0, fun r c => ?_⟩
  show x (ix2 r c) = ((if e : r.val < M ∧ c.val < N then EReal.toReal (x (ix2 ⟨r.val, e.1⟩ ⟨c.val, e.2⟩)) else 0 : ℝ) : EReal)
  rw [dif_pos ⟨r.isLt, c.isLt⟩]
  exact (EReal.coe_toReal (h _).1 (h _).2).symm

/-- A number whose absolute value is below infinity is neither infinity. -/
theorem finite_of_abs_lt {φ : FTy} {a : Ideal φ} {b : Ideal φ} (hb : (b : EReal) = ⊤) (h : FloatOps.cmpf .olt (FloatOps.hostAbsf a) b = 1#1) :
    (a : EReal) ≠ ⊤ ∧ (a : EReal) ≠ ⊥ := by
  have lt : max (a : EReal) (-(a : EReal)) < b := by
    by_contra hn
    have : BitVec.ofBool (decide (max (a : EReal) (-(a : EReal)) < b)) = 1#1 := h
    rw [decide_eq_false hn] at this
    exact absurd this (by decide)
  rw [hb] at lt
  refine ⟨fun e => ?_, fun e => ?_⟩
  · rw [e] at lt; simp at lt
  · rw [e] at lt; simp at lt

theorem reals_of_pre {P : FVec Ideal S4096x5120 .bf16} {A : FVec Ideal S4096x256 .f32}
    (h : Cert.Pre_finite.fn (F := Ideal) P A = fun _ => 1#1) : (∃ f, Is P f) ∧ ∃ o, Is A o := by
  have e := congrFun h (Shape.Idx.first (by decide))
  unfold Cert.Pre_finite.fn at e
  dsimp only at e
  have both : ∀ a b : BitVec 1, IntOp.andi a b = 1#1 → a = 1#1 ∧ b = 1#1 := by decide
  have e' := both _ _ e
  haveI : Subsingleton S_.Idx := ⟨fun a b => funext fun i => i.elim0⟩
  refine ⟨exists_is P fun i => ?_, exists_is A fun i => ?_⟩
  · exact finite_of_abs_lt inf_f32 (Host.reduce_andi_all _ _ _ _ _ e'.1 i)
  · exact finite_of_abs_lt inf_f32 (Host.reduce_andi_all _ _ _ _ _ e'.2 i)

variable (m : (ℓ : Loc nD τ sig) → Buf (Elt Ideal) ℓ) (c : Dev nD)

/-- Two arrays with the same real entries are equal. -/
theorem Is.unique {M N : ℕ} {φ φ' : FTy} {x : FVec Ideal ⟨2, ![M, N]⟩ φ} {y : FVec Ideal ⟨2, ![M, N]⟩ φ'} {f : ℕ → ℕ → ℝ} (hx : Is x f) (hy : Is y f) :
    (x : (⟨2, ![M, N]⟩ : Shape).Idx → EReal) = y := funext fun i => (hx.at_idx i).trans (hy.at_idx i).symm

theorem loads {f o : ℕ → ℕ → ℝ} (hP : Is (M := 4096) (N := 5120) (φ := .bf16) (m ((c : Thread nD τ).loc main_arg0)) f)
    (hA : Is (M := 4096) (N := 256) (φ := .f32) (m ((c : Thread nD τ).loc main_arg1)) o) : Loads m c (dataOf f o) where
  proj := ⟨f, hP, rfl, rfl, rfl⟩
  do' := hA
  tot := by rw [totals_eq]; exact spreadTotals_is hP hA

/-- What the call leaves is what the reference's functions give of the arguments. -/
theorem results (h : Cert.Pre_finite.fn (F := Ideal) (m ((c : Thread nD τ).loc main_arg0)) (m ((c : Thread nD τ).loc main_arg1)) = fun _ => 1#1) :
    @Eq (FVec Ideal S4096x256 .f32) ((dats m 0 c).arrAt 5 cfg0.N) (flat (dqH (m ((c : Thread nD τ).loc main_arg0)) (m ((c : Thread nD τ).loc main_arg1))))
    ∧ @Eq (FVec Ideal S4096x256 .f32) ((dats m 0 c).arrAt 6 cfg0.N) (flat (dkH (m ((c : Thread nD τ).loc main_arg0)) (m ((c : Thread nD τ).loc main_arg1))))
    ∧ @Eq (FVec Ideal S4096x256 .f32) ((dats m 0 c).arrAt 7 cfg0.N) (flat (dvH (m ((c : Thread nD τ).loc main_arg0)) (m ((c : Thread nD τ).loc main_arg1)))) := by
  obtain ⟨⟨f, hP⟩, o, hA⟩ := reals_of_pre h
  have hD := loads m c hP hA
  exact ⟨(final_dq_is hD).unique (dqH_is hP hA), (final_dk_is hD).unique (dkH_is hP hA), (final_dv_is hD).unique (dvH_is hP hA)⟩

end Cert.KernelIdeal.Sb
end
-- ==== Proof.Numbers.lean ====
module

public import Idealize.ShloMosaic.Lib.Pipeline.ValueKit
public import Idealize.ShloMosaic.Lib.Claim

/-! Facts about sums and real numbers among the extended reals, used by the products, the gate and the norm. -/

@[expose] public section

set_option maxRecDepth 16384

noncomputable section
open Idealize.ShloMosaic
namespace Cert.Numbers

/-- The constants of the programs, as real numbers. -/
theorem half_f32 : (FloatOps.ofBits (F := Ideal) .f32 0x3F000000#32 : EReal) = ((1 / 2 : ℝ) : EReal) := by
  show Ideal.ofBits .f32 0x3F000000#32 = _
  simp only [Ideal.ofBits, Ideal.ieee]
  rw [if_neg (by decide), if_neg (by decide)]
  congr 1
  simp
  norm_num

theorem one_f32 : (FloatOps.ofBits (F := Ideal) .f32 0x3F800000#32 : EReal) = ((1 : ℝ) : EReal) := by
  show Ideal.ofBits .f32 0x3F800000#32 = _
  simp only [Ideal.ofBits, Ideal.ieee]
  rw [if_neg (by decide), if_neg (by decide)]
  congr 1
  simp
  norm_num

theorem zero_f32 : (FloatOps.ofBits (F := Ideal) .f32 0x00000000#32 : EReal) = ((0 : ℝ) : EReal) := Ideal.ofBits_zero_f32

theorem inf_f32 : (FloatOps.ofBits (F := Ideal) .f32 0x7F800000#32 : EReal) = ⊤ := by
  show Ideal.ofBits .f32 0x7F800000#32 = _
  simp only [Ideal.ofBits, Ideal.ieee]
  rw [if_pos (by decide), if_pos (by decide), if_neg (by decide)]

/-- A sum of real numbers, taken among the extended reals, is the real sum. -/
theorem coe_sum {ι : Type} (s : Finset ι) (f : ι → ℝ) : (∑ i ∈ s, ((f i : ℝ) : EReal)) = ((∑ i ∈ s, f i : ℝ) : EReal) := by
  classical
  induction s using Finset.induction_on with
  | empty => rfl
  | insert a s ha h => rw [Finset.sum_insert ha, Finset.sum_insert ha, h, EReal.coe_add]

/-- A nonnegative real factor distributes over every sum of extended reals. -/
theorem sum_mul_real {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha h =>
    rw [Finset.sum_insert ha, Finset.sum_insert ha,
      EReal.right_distrib_of_nonneg_of_ne_top (by exact_mod_cast hc) (EReal.coe_ne_top c), h]

/-- A sum over the 4096 tokens is the sum over the lower half and the sum over the upper half. -/
theorem sum_halves (f : Fin 4096 → EReal) :
    (∑ k : Fin 4096, f k) = (∑ k : Fin 2048, f ⟨k.val, by omega⟩) + ∑ k : Fin 2048, f ⟨2048 + k.val, by omega⟩ :=
  Fin.sum_univ_add (a := 2048) (b := 2048) f

/-- An extended real whose absolute value is below infinity is a real number. -/
theorem real_of_lt {φ : FTy} {a : Ideal φ} {b : Ideal φ} (hb : (b : EReal) = ⊤) (h : FloatOps.cmpf .olt (FloatOps.hostAbsf a) b = 1#1) :
    ∃ r : ℝ, (a : EReal) = (r : EReal) := by
  have lt : max (a : EReal) (-(a : EReal)) < b := by
    by_contra hn
    have : BitVec.ofBool (decide (max (a : EReal) (-(a : EReal)) < b)) = 1#1 := h
    rw [decide_eq_false hn] at this
    exact absurd this (by decide)
  rw [hb] at lt
  have h1 : (a : EReal) ≠ ⊤ := fun e => by rw [e] at lt; simp at lt
  have h2 : (a : EReal) ≠ ⊥ := fun e => by rw [e] at lt; simp at lt
  exact ⟨(a : EReal).toReal, (EReal.coe_toReal h1 h2).symm⟩

/-- The real entries of an array all of whose entries are real. -/
theorem exists_reads {S : Shape} {φ : FTy} {x : FVec Ideal S φ} (h : ∀ i, ∃ r : ℝ, (x i : EReal) = (r : EReal)) :
    ∃ f : S.Idx → ℝ, ∀ i, (x i : EReal) = (f i : EReal) :=
  ⟨fun i => (h i).choose, fun i => (h i).choose_spec⟩

/-- Both bits of a conjunction that is one are one. -/
theorem both : ∀ a b : BitVec 1, IntOp.andi a b = 1#1 → a = 1#1 ∧ b = 1#1 := by decide

end Cert.Numbers
end
-- ==== Proof.NormTerms.lean ====
module

public import proofs.«01_k».proof.Proof.Gen.NormReferenceIdeal
public import proofs.«01_k».proof.Proof.Gen.Pre_norm_finite
public import proofs.«01_k».proof.Proof.Numbers
public import Idealize.ShloMosaic.Lib.Pipeline.ValueKit
public import Idealize.ShloMosaic.Lib.Claim
public import Idealize.ShloMosaic.Lib.ReduceAll

/-! The gradient through the norm of the rows. The kernel writes it as the scale of the row times the difference between the
weighted gradient and its component along the normalised row. The derivative of the forward lines writes the second part with
the derivative of the inverse square root, minus one half of the scale over the mean square, and adds it twice, once for each
factor of the square. For real entries the two are equal, for the scale squared is the inverse of the mean square. The gradient
of the gain is one sum in both, up to the order of the factors. -/

@[expose] public section

set_option maxRecDepth 16384

noncomputable section
open Idealize.ShloMosaic Idealize.ShloMosaic.TcCoe
namespace Cert.Norm
open Cert.NormReferenceIdeal Cert.NormReferenceIdeal.Gen

/-- The length of a row and the small constant of the norm, as the constants read them. -/
abbrev width : EReal := FloatOps.ofBits (F := Ideal) .f32 0x44800000#32
abbrev small : EReal := FloatOps.ofBits (F := Ideal) .f32 0x358637BD#32

theorem width_eq : width = ((1024 : ℝ) : EReal) := by
  show Ideal.ofBits .f32 0x44800000#32 = _
  simp only [Ideal.ofBits, Ideal.ieee]
  rw [if_neg (by decide), if_neg (by decide)]
  congr 1
  simp
  norm_num

theorem small_eq : small = (((8796093 : ℝ) * ((2 : ℝ) ^ 43)⁻¹ : ℝ) : EReal) := by
  show Ideal.ofBits .f32 0x358637BD#32 = _
  simp only [Ideal.ofBits, Ideal.ieee]
  rw [if_neg (by decide), if_neg (by decide)]
  congr 1
  simp

theorem neg_half_f32 : (FloatOps.ofBits (F := Ideal) .f32 0xBF000000#32 : EReal) = ((-(1 / 2) : ℝ) : EReal) := by
  show Ideal.ofBits .f32 0xBF000000#32 = _
  simp only [Ideal.ofBits, Ideal.ieee]
  rw [if_neg (by decide), if_neg (by decide)]
  congr 1
  simp
  norm_num

/-- The mean square of a row, with the small constant, and the scale of the row. -/
def square (x : FVec Ideal S4096x1024 .f32) (r : Fin 4096) : EReal :=
  Ideal.div (∑ j : Fin 1024, (x (ix2 r j) * x (ix2 r j) : EReal)) width + small
def scale (x : FVec Ideal S4096x1024 .f32) (r : Fin 4096) : EReal := Ideal.rsqrt (square x r)

/-- The gradient of the normalised rows: the sum of two products with the weights. -/
def incoming (wg wu : FVec Ideal S1024x2816 .f32) (da db : FVec Ideal S4096x2816 .f32) : FVec Ideal S4096x1024 .f32 := fun i =>
  (∑ k : Fin 2816, (da (ix2 (i 0) k) * wg (ix2 (i 1) k) : EReal)) + ∑ k : Fin 2816, (db (ix2 (i 0) k) * wu (ix2 (i 1) k) : EReal)

/-- The gradient of a row as the kernel writes it, at row `r` and column `z`. -/
def through (x : FVec Ideal S4096x1024 .f32) (g : FVec Ideal S1024 .f32) (d : FVec Ideal S4096x1024 .f32) (r : Fin 4096) (z : Fin 1024) : EReal :=
  scale x r * (d (ix2 r z) * g (ix1 z)
    - (x (ix2 r z) * scale x r) * Ideal.div (∑ j : Fin 1024, (d (ix2 r j) * g (ix1 j) * (x (ix2 r j) * scale x r) : EReal)) width)

/-- The gradient of the rows, with the gradient that passes by, and the gradient of the gain. -/
def rows (x : FVec Ideal S4096x1024 .f32) (g : FVec Ideal S1024 .f32) (d e : FVec Ideal S4096x1024 .f32) : FVec Ideal S4096x1024 .f32 := fun i =>
  (e (ix2 (i 0) (i 1)) + through x g d (i 0) (i 1) : EReal)
def gains (x d : FVec Ideal S4096x1024 .f32) : FVec Ideal S1x1024 .f32 := fun i =>
  (∑ r : Fin 4096, (d (ix2 r (i 1)) * (x (ix2 r (i 1)) * scale x r) : EReal))

/-! The reference's terms. -/

def refSquare (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

def refIncoming (wg wu : FVec Ideal S1024x2816 .f32) (da db : FVec Ideal S4096x2816 .f32) : FVec Ideal S4096x1024 .f32 :=
  addf (Host.dotGeneral dot_S4096x2816_S1024x2816_S4096x1024_1_1_0_0_n_n none db wu) (Host.dotGeneral dot_S4096x2816_S1024x2816_S4096x1024_1_1_0_0_n_n none da wg)

def refWeighted (g : FVec Ideal S1024 .f32) (d : FVec Ideal S4096x1024 .f32) : FVec Ideal S4096x1024 .f32 :=
  mulf d (broadcastInDim S4096x1024 ![0, 1] bcast_S1x1024_S4096x1024_0_1 (broadcastInDim S1x1024 ![1] bcast_S1024_S1x1024_1 g))

def refSlope (x : FVec Ideal S4096x1024 .f32) (g : FVec Ideal S1024 .f32) (d : FVec Ideal S4096x1024 .f32) : FVec Ideal S4096x1024 .f32 :=
  broadcastInDim S4096x1024 ![0] bcast_S4096_S4096x1024_0 (Host.reduceAdd (Host.divf (mulf (shapeCast _ (Host.reduceAdd (mulf x (refWeighted g d)) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (refSquare x)) (refSquare x)))) (broadcastInDim S4096x1 ![] bcast_S_S4096x1 (constant S_ .f32 0x44800000#32))) (constant S_ .f32 0x00000000#32) reducesTo_S4096x1_S4096_d1 h_S_)

def refRows (x : FVec Ideal S4096x1024 .f32) (g : FVec Ideal S1024 .f32) (d e : FVec Ideal S4096x1024 .f32) : FVec Ideal S4096x1024 .f32 :=
  addf e (addf (addf (mulf (refWeighted g d) (broadcastInDim S4096x1024 ![0, 1] bcast_S4096x1_S4096x1024_0_1 (Host.rsqrt (refSquare x))))
    (mulf x (refSlope x g d))) (mulf (refSlope x g d) x))

def refGains (x d : FVec Ideal S4096x1024 .f32) : FVec Ideal S1x1024 .f32 :=
  shapeCast _ (Host.reduceAdd (shapeCast _ (Host.reduceAdd (mulf (mulf x (broadcastInDim S4096x1024 ![0, 1] bcast_S4096x1_S4096x1024_0_1 (Host.rsqrt (refSquare x)))) d) (constant S_ .f32 0x00000000#32) reducesTo_S4096x1024_S1024_d0 h_S_) shapeCasts_S1024_S1x1024) (constant S_ .f32 0x00000000#32) reducesTo_S1x1024_S1024_d0 h_S_) shapeCasts_S1024_S1x1024

theorem refSquare_at (x : FVec Ideal S4096x1024 .f32) (r : Fin 4096) (z : Fin 1) : @Eq EReal (refSquare x (ix2 r z)) (square x r) := by
  pointwise [refSquare, square]

theorem refIncoming_eq (wg wu : FVec Ideal S1024x2816 .f32) (da db : FVec Ideal S4096x2816 .f32) :
    refIncoming wg wu da db = incoming wg wu da db := by
  funext i
  pointwise [refIncoming, incoming]
  exact add_comm _ _

theorem refWeighted_at (g : FVec Ideal S1024 .f32) (d : FVec Ideal S4096x1024 .f32) (r : Fin 4096) (z : Fin 1024) :
    @Eq EReal (refWeighted g d (ix2 r z)) (d (ix2 r z) * g (ix1 z)) := by
  pointwise [refWeighted]

theorem refSlope_at (x : FVec Ideal S4096x1024 .f32) (g : FVec Ideal S1024 .f32) (d : FVec Ideal S4096x1024 .f32) (r : Fin 4096) (z : Fin 1024) :
    @Eq EReal (refSlope x g d (ix2 r z)) (Ideal.div ((∑ j : Fin 1024, (x (ix2 r j) * (d (ix2 r j) * g (ix1 j)) : EReal))
      * (FloatOps.ofBits (F := Ideal) .f32 0xBF000000#32 * Ideal.div (scale x r) (square x r))) width) := by
  pointwise [refSlope]
  simp only [refSquare_at, refWeighted_at]
  exact Fin.sum_univ_one _

theorem refRows_at (x : FVec Ideal S4096x1024 .f32) (g : FVec Ideal S1024 .f32) (d e : FVec Ideal S4096x1024 .f32) (r : Fin 4096) (z : Fin 1024) :
    @Eq EReal (refRows x g d e (ix2 r z)) (e (ix2 r z) + (d (ix2 r z) * g (ix1 z) * scale x r
      + x (ix2 r z) * refSlope x g d (ix2 r z) + refSlope x g d (ix2 r z) * x (ix2 r z))) := by
  pointwise [refRows]
  simp only [refSquare_at, refWeighted_at]
  rfl

/-- The gradient of the gain: no condition is needed. -/
theorem gains_eq (x d : FVec Ideal S4096x1024 .f32) : gains x d = refGains x d := by
  funext i
  pointwise [gains, refGains]
  simp only [refSquare_at]
  exact (Finset.sum_congr rfl fun r _ => mul_comm (d (ix2 r (i 1)) : EReal) (x (ix2 r (i 1)) * scale x r)).trans
    (Fin.sum_univ_one fun _ => ∑ r : Fin 4096, (x (ix2 r (i 1)) * scale x r * d (ix2 r (i 1)) : EReal)).symm

/-- The two forms of the gradient of a row, over the reals: `s` is the root of the mean square. -/
theorem row_real (s a b c : ℝ) (hs : 0 < s) (f h : Fin 1024 → ℝ) :
    s⁻¹ * (b * c - a * s⁻¹ * ((∑ j, h j * (f j * s⁻¹)) * (1 / 1024)))
      = b * c * s⁻¹ + a * ((∑ j, f j * h j) * (-(1 / 2) * (s⁻¹ * (1 / (s * s)))) * (1 / 1024))
        + (∑ j, f j * h j) * (-(1 / 2) * (s⁻¹ * (1 / (s * s)))) * (1 / 1024) * a := by
  have e : (∑ j, h j * (f j * s⁻¹)) = (∑ j, f j * h j) * s⁻¹ := by
    rw [Finset.sum_mul]
    exact Finset.sum_congr rfl fun j _ => by ring
  rw [e]
  have h0 : s ≠ 0 := hs.ne'
  field_simp
  ring

/-- The mean square of a row of real entries is a positive real. -/
theorem square_real (x : FVec Ideal S4096x1024 .f32) (hx : ∀ i, ∃ v : ℝ, @Eq EReal (x i) (v : EReal)) (r : Fin 4096) :
    ∃ u : ℝ, 0 < u ∧ square x r = (u : EReal) := by
  choose f hf using hx
  refine ⟨(∑ j : Fin 1024, f (ix2 r j) * f (ix2 r j)) * (1 / 1024) + (8796093 : ℝ) * ((2 : ℝ) ^ 43)⁻¹, ?_, ?_⟩
  · have : 0 ≤ ∑ j : Fin 1024, f (ix2 r j) * f (ix2 r j) := Finset.sum_nonneg fun j _ => mul_self_nonneg _
    positivity
  · unfold square
    rw [width_eq, small_eq, Ideal.div_coe (by norm_num)]
    simp only [hf, ← EReal.coe_mul]
    rw [Cert.Numbers.coe_sum, ← EReal.coe_mul, ← EReal.coe_add]

/-- The scale of a row of real entries is the inverse of the root of its mean square. -/
theorem scale_real (x : FVec Ideal S4096x1024 .f32) (hx : ∀ i, ∃ v : ℝ, @Eq EReal (x i) (v : EReal)) (r : Fin 4096) :
    ∃ s : ℝ, 0 < s ∧ square x r = ((s * s : ℝ) : EReal) ∧ scale x r = ((s⁻¹ : ℝ) : EReal) := by
  obtain ⟨u, hu, e⟩ := square_real x hx r
  refine ⟨Real.sqrt u, Real.sqrt_pos.mpr hu, ?_, ?_⟩
  · rw [e, Real.mul_self_sqrt hu.le]
  · unfold scale
    rw [e, Ideal.rsqrt_coe, if_neg (not_lt.mpr hu.le), if_neg hu.ne']

/-- The gradient of the rows: where the rows, the gain and the incoming gradient are real, the two forms are equal. -/
theorem rows_eq (x : FVec Ideal S4096x1024 .f32) (g : FVec Ideal S1024 .f32) (d e : FVec Ideal S4096x1024 .f32)
    (hx : ∀ i, ∃ v : ℝ, @Eq EReal (x i) (v : EReal)) (hg : ∀ i, ∃ v : ℝ, @Eq EReal (g i) (v : EReal))
    (hd : ∀ i, ∃ v : ℝ, @Eq EReal (d i) (v : EReal)) : rows x g d e = refRows x g d e := by
  suffices h : ∀ (r : Fin 4096) (z : Fin 1024), @Eq EReal (e (ix2 r z) + through x g d r z) (refRows x g d e (ix2 r z)) by
    funext i
    obtain ⟨r, z, rfl⟩ : ∃ r z, i = ix2 r z := ⟨i 0, i 1, by funext k; fin_cases k <;> rfl⟩
    exact h r z
  intro r z
  rw [refRows_at, refSlope_at]
  congr 1
  obtain ⟨s, hs, e1, e2⟩ := scale_real x hx r
  choose f hf using hx
  choose p hp using hg
  choose q hq using hd
  unfold through
  rw [e1, e2, width_eq, neg_half_f32, Ideal.div_coe (by norm_num), Ideal.div_coe (by norm_num), Ideal.div_coe (mul_pos hs hs).ne']
  simp only [hf, hp, hq, ← EReal.coe_mul, Cert.Numbers.coe_sum, ← EReal.coe_sub, ← EReal.coe_add]
  exact congrArg _ (row_real s (f (ix2 r z)) (q (ix2 r z)) (p (ix1 z)) hs (fun j => f (ix2 r j)) (fun j => q (ix2 r j) * p (ix1 j)))

/-- The incoming gradient is real where its factors are. -/
theorem incoming_real (wg wu : FVec Ideal S1024x2816 .f32) (da db : FVec Ideal S4096x2816 .f32)
    (h1 : ∀ i, ∃ v : ℝ, @Eq EReal (wg i) (v : EReal)) (h2 : ∀ i, ∃ v : ℝ, @Eq EReal (wu i) (v : EReal))
    (h3 : ∀ i, ∃ v : ℝ, @Eq EReal (da i) (v : EReal)) (h4 : ∀ i, ∃ v : ℝ, @Eq EReal (db i) (v : EReal)) (i : S4096x1024.Idx) :
    ∃ v : ℝ, @Eq EReal (incoming wg wu da db i) (v : EReal) := by
  choose f1 e1 using h1
  choose f2 e2 using h2
  choose f3 e3 using h3
  choose f4 e4 using h4
  refine ⟨(∑ k : Fin 2816, f3 (ix2 (i 0) k) * f1 (ix2 (i 1) k)) + ∑ k : Fin 2816, f4 (ix2 (i 0) k) * f2 (ix2 (i 1) k), ?_⟩
  unfold incoming
  simp only [e1, e2, e3, e4, ← EReal.coe_mul]
  rw [Cert.Numbers.coe_sum, Cert.Numbers.coe_sum, ← EReal.coe_add]

/-- The precondition, decoded: every array but the gradient that passes by holds reals. -/
theorem reals_of_pre {x : FVec Ideal S4096x1024 .f32} {g : FVec Ideal S1024 .f32} {wg wu : FVec Ideal S1024x2816 .f32}
    {da db : FVec Ideal S4096x2816 .f32} {e : FVec Ideal S4096x1024 .f32}
    (hpre : Cert.Pre_norm_finite.fn (F := Ideal) x g wg wu da db e = fun _ => 1#1) :
    (∀ i, ∃ v : ℝ, @Eq EReal (x i) (v : EReal)) ∧ (∀ i, ∃ v : ℝ, @Eq EReal (g i) (v : EReal))
      ∧ ∀ i, ∃ v : ℝ, @Eq EReal (incoming wg wu da db i) (v : EReal) := by
  have h := congrFun hpre (Shape.Idx.first (by decide))
  obtain ⟨h, h6⟩ := Cert.Numbers.both _ _ h
  obtain ⟨h, h5⟩ := Cert.Numbers.both _ _ h
  obtain ⟨h, h4⟩ := Cert.Numbers.both _ _ h
  obtain ⟨h, h3⟩ := Cert.Numbers.both _ _ h
  obtain ⟨h1, h2⟩ := Cert.Numbers.both _ _ h
  haveI : Subsingleton Cert.Pre_norm_finite.S_.Idx := ⟨fun a b => funext fun i => i.elim0⟩
  refine ⟨fun i => Cert.Numbers.real_of_lt Cert.Numbers.inf_f32 (Host.reduce_andi_all _ _ _ _ _ h1 i),
    fun i => Cert.Numbers.real_of_lt Cert.Numbers.inf_f32 (Host.reduce_andi_all _ _ _ _ _ h2 i),
    incoming_real wg wu da db (fun i => Cert.Numbers.real_of_lt Cert.Numbers.inf_f32 (Host.reduce_andi_all _ _ _ _ _ h3 i))
      (fun i => Cert.Numbers.real_of_lt Cert.Numbers.inf_f32 (Host.reduce_andi_all _ _ _ _ _ h4 i))
      (fun i => Cert.Numbers.real_of_lt Cert.Numbers.inf_f32 (Host.reduce_andi_all _ _ _ _ _ h5 i))
      (fun i => Cert.Numbers.real_of_lt Cert.Numbers.inf_f32 (Host.reduce_andi_all _ _ _ _ _ h6 i))⟩

end Cert.Norm
end
-- ==== Proof.NormValue.lean ====
module

public import proofs.«01_k».proof.Proof.Gen.NormKernelIdeal.Frame
public import proofs.«01_k».proof.Proof.NormTerms
public import Idealize.ShloMosaic.Lib.StableHlo.RunRead

/-! The gradient through the norm, as the kernel computes it: every point takes one block of rows, adds the two products of the
block with the weights, and leaves the gradient of those rows. The gradient of the gain is summed over the points, in one block
that all points share. -/

@[expose] public section

set_option maxRecDepth 16384

noncomputable section
open Idealize.ShloMosaic Idealize.ShloMosaic.TcCoe Idealize.SL.Sem
open Idealize.ShloMosaic.Pipeline (Dat)
namespace Cert.NormKernelIdeal.Norm
open Cert.NormKernelIdeal Cert.NormKernelIdeal.Gen
open Cert.Norm (width small square scale incoming through rows gains)
variable (m : (ℓ : Loc nD τ sig) → Buf (Elt Ideal) ℓ)

/-- Where the blocks of each point lie. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] ∧ win0_6.index t = ![t.val, 0]
    ∧ win0_7.index t = ![t.val, 0] ∧ win0_8.index t = ![t.val, 0] ∧ win0_9.index t = ![0, 0] :=
  (by decide +kernel : ∀ t : Fin grid0.N, _)

/-- The row of the arrays that row `r` of point `t`'s blocks is. -/
abbrev row (t : Fin cfg0.N) (r : Fin 256) : Fin 4096 :=
  ⟨t.val * 256 + r.val, by have h : t.val < 16 := t.isLt; omega⟩

/-- The blocks of the seven inputs, at their places in the arguments. -/
theorem block_da (c : Dev nD) (t : Fin cfg0.N) (r : Fin 256) (k : Fin 2816) :
    @Eq EReal (iblk m c 0 t (ix2 r k)) (m ((c : Thread nD τ).loc main_arg4) (ix2 (row t r) k)) := by
  blk_simp [iblk]
  entry_read
  pointwise
  blk_ext [idx t]

theorem block_wg (c : Dev nD) (t : Fin cfg0.N) (k : Fin 2816) (z : Fin 1024) :
    @Eq EReal (iblk m c 1 t (ix2 k z)) (m ((c : Thread nD τ).loc main_arg2) (ix2 z k)) := by
  blk_simp [iblk]
  entry_read
  pointwise
  blk_ext [idx t]

theorem block_db (c : Dev nD) (t : Fin cfg0.N) (r : Fin 256) (k : Fin 2816) :
    @Eq EReal (iblk m c 2 t (ix2 r k)) (m ((c : Thread nD τ).loc main_arg5) (ix2 (row t r) k)) := by
  blk_simp [iblk]
  entry_read
  pointwise
  blk_ext [idx t]

theorem block_wu (c : Dev nD) (t : Fin cfg0.N) (k : Fin 2816) (z : Fin 1024) :
    @Eq EReal (iblk m c 3 t (ix2 k z)) (m ((c : Thread nD τ).loc main_arg3) (ix2 z k)) := by
  blk_simp [iblk]
  entry_read
  pointwise
  blk_ext [idx t]

theorem block_x (c : Dev nD) (t : Fin cfg0.N) (r : Fin 256) (z : Fin 1024) :
    @Eq EReal (iblk m c 4 t (ix2 r z)) (m ((c : Thread nD τ).loc main_arg0) (ix2 (row t r) z)) := by
  blk_simp [iblk]
  entry_read
  pointwise
  blk_ext [idx t]

theorem block_gain (c : Dev nD) (t : Fin cfg0.N) (u : Fin 1) (z : Fin 1024) :
    @Eq EReal (iblk m c 5 t (ix2 u z)) (m ((c : Thread nD τ).loc main_arg1) (ix1 z)) := by
  blk_simp [iblk]
  entry_read
  pointwise
  blk_ext [idx t]

theorem block_dx (c : Dev nD) (t : Fin cfg0.N) (r : Fin 256) (z : Fin 1024) :
    @Eq EReal (iblk m c 6 t (ix2 r z)) (m ((c : Thread nD τ).loc main_arg6) (ix2 (row t r) z)) := by
  blk_simp [iblk]
  entry_read
  pointwise
  blk_ext [idx t]

/-- The arguments, by name. -/
abbrev argX (c : Dev nD) : FVec Ideal S4096x1024 .f32 := m ((c : Thread nD τ).loc main_arg0)
abbrev argG (c : Dev nD) : FVec Ideal S1024 .f32 := m ((c : Thread nD τ).loc main_arg1)
abbrev argE (c : Dev nD) : FVec Ideal S4096x1024 .f32 := m ((c : Thread nD τ).loc main_arg6)
abbrev argD (c : Dev nD) : FVec Ideal S4096x1024 .f32 := incoming (m ((c : Thread nD τ).loc main_arg2)) (m ((c : Thread nD τ).loc main_arg3))
  (m ((c : Thread nD τ).loc main_arg4)) (m ((c : Thread nD τ).loc main_arg5))

/-- The payloads of the body, read at an index. -/
theorem read6 (a : Vec Ideal S256x2816 .bf16) (b : Vec Ideal S2816x1024 .bf16) (a' : Vec Ideal S256x2816 .bf16) (b' : Vec Ideal S2816x1024 .bf16)
    (r : Fin 256) (z : Fin 1024) : @Eq EReal (k0_pay6 (F := Ideal) a b a' b' (ix2 r z))
      ((∑ k : Fin 2816, (a (ix2 r k) * b (ix2 k z) : EReal)) + ∑ k : Fin 2816, (a' (ix2 r k) * b' (ix2 k z) : EReal)) := by
  pointwise [k0_pay6]

theorem read7 (x : Vec Ideal S256x1024 .f32) (r : Fin 256) (u : Fin 1) : @Eq EReal (k0_pay7 (F := Ideal) x (ix2 r u))
    (Ideal.rsqrt (Ideal.div (∑ j : Fin 1024, (x (ix2 r j) * x (ix2 r j) : EReal)) width + small)) := by
  pointwise [k0_pay7]

theorem read8 (x : Vec Ideal S256x1024 .f32) (r : Fin 256) (z : Fin 1024) : @Eq EReal (k0_pay8 (F := Ideal) x (ix2 r z))
    (x (ix2 r z) * k0_pay7 (F := Ideal) x (ix2 r 0)) := by
  pointwise [k0_pay8]

theorem read9 (a : Vec Ideal S256x2816 .bf16) (b : Vec Ideal S2816x1024 .bf16) (a' : Vec Ideal S256x2816 .bf16) (b' : Vec Ideal S2816x1024 .bf16)
    (x : Vec Ideal S256x1024 .f32) (g : Vec Ideal S1x1024 .f32) (y : Vec Ideal S256x1024 .f32) (r : Fin 256) (z : Fin 1024) :
    @Eq EReal (k0_pay9 (F := Ideal) a b a' b' x g y (ix2 r z))
      (y (ix2 r z) + k0_pay7 (F := Ideal) x (ix2 r 0) * (k0_pay6 (F := Ideal) a b a' b' (ix2 r z) * g (ix2 0 z)
        - k0_pay8 (F := Ideal) x (ix2 r z) * Ideal.div (∑ j : Fin 1024, (k0_pay6 (F := Ideal) a b a' b' (ix2 r j) * g (ix2 0 j)
          * k0_pay8 (F := Ideal) x (ix2 r j) : EReal)) width)) := by
  pointwise [k0_pay9]

theorem read1 (x y : FVec Ideal S256x1024 .f32) (u : Fin 1) (z : Fin 1024) : @Eq EReal (k0_pay1 (F := Ideal) x y (ix2 u z))
    (∑ k : Fin 256, (x (ix2 k z) * y (ix2 k z) : EReal)) := by
  pointwise [k0_pay1]

/-- The payloads over the blocks of a point. -/
theorem at6 (c : Dev nD) (t : Fin cfg0.N) (r : Fin 256) (z : Fin 1024) :
    @Eq EReal (k0_pay6 (F := Ideal) (iblk m c 0 t) (iblk m c 1 t) (iblk m c 2 t) (iblk m c 3 t) (ix2 r z)) (argD m c (ix2 (row t r) z)) := by
  refine (read6 _ _ _ _ r z).trans ?_
  exact congrArg₂ (· + ·)
    (Finset.sum_congr rfl fun k _ => congrArg₂ (· * ·) (block_da m c t r k) (block_wg m c t k z))
    (Finset.sum_congr rfl fun k _ => congrArg₂ (· * ·) (block_db m c t r k) (block_wu m c t k z))

theorem at7 (c : Dev nD) (t : Fin cfg0.N) (r : Fin 256) (u : Fin 1) :
    @Eq EReal (k0_pay7 (F := Ideal) (iblk m c 4 t) (ix2 r u)) (scale (argX m c) (row t r)) := by
  refine (read7 _ r u).trans ?_
  exact congrArg (fun v => Ideal.rsqrt (Ideal.div v width + small))
    (Finset.sum_congr rfl fun k _ => congrArg₂ (· * ·) (block_x m c t r k) (block_x m c t r k))

theorem at8 (c : Dev nD) (t : Fin cfg0.N) (r : Fin 256) (z : Fin 1024) :
    @Eq EReal (k0_pay8 (F := Ideal) (iblk m c 4 t) (ix2 r z)) (argX m c (ix2 (row t r) z) * scale (argX m c) (row t r)) := by
  refine (read8 _ r z).trans ?_
  exact congrArg₂ (· * ·) (block_x m c t r z) (at7 m c t r 0)

theorem at9 (c : Dev nD) (t : Fin cfg0.N) (r : Fin 256) (z : Fin 1024) :
    @Eq EReal (k0_pay9 (F := Ideal) (iblk m c 0 t) (iblk m c 1 t) (iblk m c 2 t) (iblk m c 3 t) (iblk m c 4 t) (iblk m c 5 t) (iblk m c 6 t) (ix2 r z))
      (argE m c (ix2 (row t r) z) + through (argX m c) (argG m c) (argD m c) (row t r) z) := by
  refine (read9 _ _ _ _ _ _ _ r z).trans ?_
  refine congrArg₂ (· + ·) (block_dx m c t r z) (congrArg₂ (· * ·) (at7 m c t r 0) (congrArg₂ (· - ·)
    (congrArg₂ (· * ·) (at6 m c t r z) (block_gain m c t 0 z))
    (congrArg₂ (· * ·) (at8 m c t r z) (congrArg (fun v => Ideal.div v width) (Finset.sum_congr rfl fun k _ => ?_)))))
  exact congrArg₂ (· * ·) (congrArg₂ (· * ·) (at6 m c t r k) (block_gain m c t 0 k)) (at8 m c t r k)

/-- What a point adds to the gradient of the gain: its block of rows. -/
def part (c : Dev nD) (t : Fin cfg0.N) (z : Fin 1024) : EReal :=
  ∑ r : Fin 256, (argD m c (ix2 (row t r) z) * (argX m c (ix2 (row t r) z) * scale (argX m c) (row t r)) : EReal)

theorem at1 (c : Dev nD) (t : Fin cfg0.N) (u : Fin 1) (z : Fin 1024) :
    @Eq EReal (k0_pay1 (F := Ideal) (k0_pay6 (F := Ideal) (iblk m c 0 t) (iblk m c 1 t) (iblk m c 2 t) (iblk m c 3 t)) (k0_pay8 (F := Ideal) (iblk m c 4 t)) (ix2 u z))
      (part m c t z) := by
  refine (read1 _ _ u z).trans ?_
  exact Finset.sum_congr rfl fun k _ => congrArg₂ (· * ·) (at6 m c t k z) (at8 m c t k z)

/-- What each point leaves: the first, and those after it. -/
theorem out7 (c : Dev nD) (t : Fin cfg0.N) : (outsAt0 m c t.val t.isLt).1
    = k0_pay2 (k0_pay9 (iblk m c 0 t) (iblk m c 1 t) (iblk m c 2 t) (iblk m c 3 t) (iblk m c 4 t) (iblk m c 5 t) (iblk m c 6 t)) := by
  rcases Nat.eq_zero_or_pos t.val with h | h
  · rw [outsAt0_A m c t (by omega) (by omega)]
    frame_out
  · rw [outsAt0_B m c t (by have h : t.val < 16 := t.isLt; omega) (by omega)]
    frame_out

theorem out8 (c : Dev nD) (t : Fin cfg0.N) : (outsAt0 m c t.val t.isLt).2.1
    = k0_pay3 (k0_pay9 (iblk m c 0 t) (iblk m c 1 t) (iblk m c 2 t) (iblk m c 3 t) (iblk m c 4 t) (iblk m c 5 t) (iblk m c 6 t)) := by
  rcases Nat.eq_zero_or_pos t.val with h | h
  · rw [outsAt0_A m c t (by omega) (by omega)]
    frame_out
  · rw [outsAt0_B m c t (by have h : t.val < 16 := t.isLt; omega) (by omega)]
    frame_out

theorem out9_first (c : Dev nD) (t : Fin cfg0.N) (h : t.val % 16 = 0) : (outsAt0 m c t.val t.isLt).2.2
    = k0_pay4 (k0_pay6 (iblk m c 0 t) (iblk m c 1 t) (iblk m c 2 t) (iblk m c 3 t)) (k0_pay8 (iblk m c 4 t)) := by
  rw [outsAt0_A m c t h (by have h : t.val < 16 := t.isLt; omega)]
  frame_out

theorem out9_next (c : Dev nD) (t : Fin cfg0.N) (h : ¬t.val % 16 = 0) : (outsAt0 m c t.val t.isLt).2.2
    = k0_pay5 (k0_pay6 (iblk m c 0 t) (iblk m c 1 t) (iblk m c 2 t) (iblk m c 3 t)) (k0_pay8 (iblk m c 4 t))
      (outsAt0 m c (t.val - 1) (Nat.lt_of_le_of_lt (Nat.sub_le _ _) t.isLt)).2.2 := by
  rw [outsAt0_B m c t h (by omega)]
  frame_out

/-- The arrays of the gradient of the rows after the run, in both formats. -/
theorem final7 (c : Dev nD) : (dats m 0 c).arrAt 7 cfg0.N = rows (argX m c) (argG m c) (argD m c) (argE m c) := by
  refine (dats m 0 c).arrAt_eq_of_covers 7 _ (by decide +kernel) fun t _ y => ?_
  blk_simp
  rw [after0_7, out7]
  have p0 : ((((cfg0.win 7).blk t).view.emb y) 0) = row t (y 0) := Fin.ext (by blk_simp [idx t])
  have p1 : ((((cfg0.win 7).blk t).view.emb y) 1) = y 1 := Fin.ext (by blk_simp [idx t])
  obtain ⟨r, z, rfl⟩ : ∃ r z, y = ix2 r z := ⟨y 0, y 1, by funext k; fin_cases k <;> rfl⟩
  unfold k0_pay2 rows
  simp only [shapeCast_self]
  rw [p0, p1]
  exact at9 m c t r z

theorem final8 (c : Dev nD) : (dats m 0 c).arrAt 8 cfg0.N
    = (truncf .bf16 (rows (argX m c) (argG m c) (argD m c) (argE m c)) bitsLt_bf16_f32 : FVec Ideal S4096x1024 .bf16) := by
  refine (dats m 0 c).arrAt_eq_of_covers 8 _ (by decide +kernel) fun t _ y => ?_
  blk_simp
  rw [after0_8, out8]
  have p0 : ((((cfg0.win 8).blk t).view.emb y) 0) = row t (y 0) := Fin.ext (by blk_simp [idx t])
  have p1 : ((((cfg0.win 8).blk t).view.emb y) 1) = y 1 := Fin.ext (by blk_simp [idx t])
  obtain ⟨r, z, rfl⟩ : ∃ r z, y = ix2 r z := ⟨y 0, y 1, by funext k; fin_cases k <;> rfl⟩
  unfold k0_pay3 rows
  simp only [shapeCast_self]
  show _ = (argE m c (ix2 _ _) + through _ _ _ _ _ : EReal)
  rw [p0, p1]
  exact at9 m c t r z

/-- The gradient of the gain after the last point: the sum over all the rows. -/
theorem total (c : Dev nD) (t : Fin cfg0.N) (ht : t.val + 1 = 16) (z : Fin 1024) (u : Fin 1) :
    @Eq EReal ((outsAt0 m c t.val t.isLt).2.2 (ix2 u z)) (gains (argX m c) (argD m c) (ix2 u z)) := by
  refine (Pipeline.eq_sum_fin_of_reset_step_apply_last (N := 16) (M := EReal)
    (fun n hn (z : Fin 1024) => ((outsAt0 m c n hn).2.2 (ix2 u z) : EReal)) 16 (fun _ => 0) (fun t z => part m c t z) ?_ ?_ (le_refl _) t ht z).trans ?_
  · intro t h z
    show @Eq EReal ((outsAt0 m c t.val t.isLt).2.2 (ix2 u z)) _
    rw [out9_first m c t h]
    unfold k0_pay4
    simp only [shapeCast_self]
    exact (at1 m c t u z).trans (zero_add _).symm
  · intro t h z
    show @Eq EReal ((outsAt0 m c t.val t.isLt).2.2 (ix2 u z)) _
    rw [out9_next m c t h]
    unfold k0_pay5
    simp only [shapeCast_self]
    exact congrArg (((outsAt0 m c (t.val - 1) (Nat.lt_of_le_of_lt (Nat.sub_le _ _) t.isLt)).2.2 (ix2 u z) : EReal) + ·) (at1 m c t u z)
  · rw [zero_add]
    exact Fin.sum_mul_add_congr (fun s k hl => rfl) (by decide)

/-- The array of the gradient of the gain after the run. -/
theorem final9 (c : Dev nD) : (dats m 0 c).arrAt 9 cfg0.N = gains (argX m c) (argD m c) := by
  refine (dats m 0 c).arrAt_eq_of_covers 9 _ (by decide +kernel) fun t hf y => ?_
  have ht : t.val % 16 = 15 := (flush0_9 t).mp hf
  have hl : t.val < 16 := t.isLt
  blk_simp
  rw [after0_9]
  have p : ((cfg0.win 9).blk t).view.emb y = y := by
    funext k
    apply Fin.ext
    fin_cases k <;> blk_simp [idx t]
  rw [p]
  obtain ⟨u, z, rfl⟩ : ∃ u z, y = ix2 u z := ⟨y 0, y 1, by funext k; fin_cases k <;> rfl⟩
  exact total m c t (by omega) z u

end Cert.NormKernelIdeal.Norm
end
-- ==== Proof.GluValue.lean ====
module

public import proofs.«01_k».proof.Proof.Gen.GluKernelIdeal.Frame
public import proofs.«01_k».proof.Proof.Gen.GluReferenceIdeal
public import proofs.«01_k».proof.Proof.Numbers
public import Idealize.ShloMosaic.Lib.Pipeline.ValueKit
public import Idealize.ShloMosaic.Lib.Claim
public import Idealize.ShloMosaic.Lib.StableHlo.RunRead
public import Idealize.ShloMosaic.Lib.ReduceAll
public import proofs.«01_k».proof.Proof.Gen.Pre_glu_finite

/-! The backward call of the gated unit: the gradients of the two projections before the gate. Every block of the two results
is a block of the product of the incoming gradient with the weights, halved, times a factor that the host prepares. The plain
reference is the derivative of the forward lines, in which the product meets the factors one at a time. -/

@[expose] public section

set_option maxRecDepth 16384

noncomputable section
open Idealize.ShloMosaic Idealize.ShloMosaic.TcCoe Idealize.SL.Sem
open Idealize.ShloMosaic.Pipeline (Dat)
namespace Cert.GluKernelIdeal.Glu
open Cert.GluKernelIdeal Cert.GluKernelIdeal.Gen
variable (m : (ℓ : Loc nD τ sig) → Buf (Elt Ideal) ℓ)

/-- Where the blocks of each point lie. -/
theorem idx : ∀ t : Fin cfg0.N, win0_0.index t = ![t.val % 4, 0] ∧ win0_1.index t = ![t.val / 4, 0]
    ∧ win0_2.index t = ![t.val % 4, t.val / 4] ∧ win0_3.index t = ![t.val % 4, t.val / 4]
    ∧ win0_4.index t = ![t.val % 4, t.val / 4] ∧ win0_5.index t = ![t.val % 4, t.val / 4] := (by decide +kernel : ∀ t : Fin grid0.N, _)

/-- The sigmoid of an array, and with it the two factors that the host prepares: the product of the incoming factor with the
derivative of the activation, and the activation. -/
def sig1 (a : FVec Ideal S4096x2816 .f32) : FVec Ideal S4096x2816 .f32 :=
  Host.divf (broadcastInDim S4096x2816 ![] bcast_S_S4096x2816 (constant S_ .f32 0x3F800000#32))
    (addf (broadcastInDim S4096x2816 ![] bcast_S_S4096x2816 (constant S_ .f32 0x3F800000#32)) (Host.exp (Host.negf a)))
def slope (a : FVec Ideal S4096x2816 .f32) : FVec Ideal S4096x2816 .f32 :=
  mulf (sig1 a) (subf (broadcastInDim S4096x2816 ![] bcast_S_S4096x2816 (constant S_ .f32 0x3F800000#32)) (sig1 a))
def gateFactor (a b : FVec Ideal S4096x2816 .f32) : FVec Ideal S4096x2816 .f32 :=
  addf (mulf b (sig1 a)) (mulf (mulf a b) (slope a))

/-- What the host lines leave for the call, as terms of the arguments. -/
theorem entry_ga (c : Dev nD) : V m c main_v4 = gateFactor (m ((c : Thread nD τ).loc main_arg0)) (m ((c : Thread nD τ).loc main_arg1)) := by
  unfold V
  after_reads_simp
  rfl

theorem entry_gb (c : Dev nD) : V m c main_v5 = mulf (m ((c : Thread nD τ).loc main_arg0)) (sig1 (m ((c : Thread nD τ).loc main_arg0))) := by
  unfold V
  after_reads_simp
  rfl

theorem entry_dy (c : Dev nD) : V m c main_v1 = (truncf .bf16 (m ((c : Thread nD τ).loc main_arg3)) bitsLt_bf16_f32 : FVec Ideal S4096x1024 .bf16) := by
  unfold V
  after_reads_simp

theorem entry_w (c : Dev nD) : V m c main_v2 = (truncf .bf16 (m ((c : Thread nD τ).loc main_arg2)) bitsLt_bf16_f32 : FVec Ideal S2816x1024 .bf16) := by
  unfold V
  after_reads_simp

/-- The product of the incoming gradient with the weights. -/
def back (w : FVec Ideal S2816x1024 .f32) (d : FVec Ideal S4096x1024 .f32) : FVec Ideal S4096x2816 .f32 := fun i =>
  (∑ k : Fin 1024, (d (ix2 (i 0) k) * w (ix2 (i 1) k) : EReal)) * FloatOps.ofBits (F := Ideal) .f32 0x3F000000#32

/-- What the call leaves of each of the two factors. -/
def left (g : FVec Ideal S4096x2816 .f32) (w : FVec Ideal S2816x1024 .f32) (d : FVec Ideal S4096x1024 .f32) : FVec Ideal S4096x2816 .bf16 :=
  fun i => (back w d i * g i : EReal)

/-- The blocks of the arguments, each at its place in its array. -/
theorem block_dy (c : Dev nD) (t : Fin cfg0.N) (r k : Fin 1024) (a : Fin 4096) (ha : a.val = t.val % 4 * 1024 + r.val) :
    @Eq EReal (iblk m c 0 t (ix2 r k)) (m ((c : Thread nD τ).loc main_arg3) (ix2 a k)) := by
  blk_simp [iblk]
  rw [entry_dy]
  pointwise
  blk_ext [idx t, ha]

theorem block_w (c : Dev nD) (t : Fin cfg0.N) (r : Fin 1408) (k : Fin 1024) (a : Fin 2816) (ha : a.val = t.val / 4 * 1408 + r.val) :
    @Eq EReal (iblk m c 1 t (ix2 r k)) (m ((c : Thread nD τ).loc main_arg2) (ix2 a k)) := by
  blk_simp [iblk]
  rw [entry_w]
  pointwise
  blk_ext [idx t, ha]

theorem block_ga (c : Dev nD) (t : Fin cfg0.N) (y : S1024x1408.Idx) :
    @Eq EReal (iblk m c 2 t y)
      (gateFactor (m ((c : Thread nD τ).loc main_arg0)) (m ((c : Thread nD τ).loc main_arg1)) (((cfg0.win 4).blk t).view.emb y)) := by
  blk_simp [iblk]
  rw [entry_ga]
  blk_ext [idx t]

theorem block_gb (c : Dev nD) (t : Fin cfg0.N) (y : S1024x1408.Idx) :
    @Eq EReal (iblk m c 3 t y)
      ((mulf (m ((c : Thread nD τ).loc main_arg0)) (sig1 (m ((c : Thread nD τ).loc main_arg0))) : FVec Ideal S4096x2816 .f32) (((cfg0.win 5).blk t).view.emb y)) := by
  blk_simp [iblk]
  rw [entry_gb]
  blk_ext [idx t]

/-- The body of the call at one point, for either factor. -/
theorem core (c : Dev nD) (t : Fin cfg0.N) (y : S1024x1408.Idx) (i : S4096x2816.Idx) (h0 : (i 0).val = t.val % 4 * 1024 + (y 0).val)
    (h1 : (i 1).val = t.val / 4 * 1408 + (y 1).val) :
    @Eq EReal (k0_pay1 (iblk m c 0 t) (iblk m c 1 t) y)
      (back (m ((c : Thread nD τ).loc main_arg2)) (m ((c : Thread nD τ).loc main_arg3)) i) := by
  pointwise [k0_pay1, back]
  refine congrArg₂ (· * ·) (Finset.sum_congr rfl fun k _ => ?_) rfl
  exact congrArg₂ (· * ·) (block_dy m c t (y 0) k (i 0) h0) (block_w m c t (y 1) k (i 1) h1)

theorem point_a (c : Dev nD) (t : Fin cfg0.N) (y) :
    k0_pay2 (iblk m c 0 t) (iblk m c 1 t) (iblk m c 2 t) y
      = left (gateFactor (m ((c : Thread nD τ).loc main_arg0)) (m ((c : Thread nD τ).loc main_arg1)))
        (m ((c : Thread nD τ).loc main_arg2)) (m ((c : Thread nD τ).loc main_arg3)) (((cfg0.win 4).blk t).view.emb y) := by
  have p0 : ((((cfg0.win 4).blk t).view.emb y) 0).val = t.val % 4 * 1024 + (y 0).val := by blk_simp [idx t]
  have p1 : ((((cfg0.win 4).blk t).view.emb y) 1).val = t.val / 4 * 1408 + (y 1).val := by blk_simp [idx t]
  have e : @Eq EReal (k0_pay2 (iblk m c 0 t) (iblk m c 1 t) (iblk m c 2 t) y)
      ((k0_pay1 (iblk m c 0 t) (iblk m c 1 t) y : EReal) * iblk m c 2 t y) := by
    unfold k0_pay2
    simp only [shapeCast_self]
    rfl
  rw [e, core m c t y _ p0 p1, block_ga m c t y]
  rfl

theorem point_b (c : Dev nD) (t : Fin cfg0.N) (y) :
    k0_pay3 (iblk m c 0 t) (iblk m c 1 t) (iblk m c 3 t) y
      = left (mulf (m ((c : Thread nD τ).loc main_arg0)) (sig1 (m ((c : Thread nD τ).loc main_arg0))))
        (m ((c : Thread nD τ).loc main_arg2)) (m ((c : Thread nD τ).loc main_arg3)) (((cfg0.win 5).blk t).view.emb y) := by
  have p0 : ((((cfg0.win 5).blk t).view.emb y) 0).val = t.val % 4 * 1024 + (y 0).val := by blk_simp [idx t]
  have p1 : ((((cfg0.win 5).blk t).view.emb y) 1).val = t.val / 4 * 1408 + (y 1).val := by blk_simp [idx t]
  have e : @Eq EReal (k0_pay3 (iblk m c 0 t) (iblk m c 1 t) (iblk m c 3 t) y)
      ((k0_pay1 (iblk m c 0 t) (iblk m c 1 t) y : EReal) * iblk m c 3 t y) := by
    unfold k0_pay3
    simp only [shapeCast_self]
    rfl
  rw [e, core m c t y _ p0 p1, block_gb m c t y]
  rfl

/-- The two arrays of results after the run. -/
theorem final_a (c : Dev nD) : (dats m 0 c).arrAt 4 cfg0.N
    = left (gateFactor (m ((c : Thread nD τ).loc main_arg0)) (m ((c : Thread nD τ).loc main_arg1)))
        (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point_a m c t y

theorem final_b (c : Dev nD) : (dats m 0 c).arrAt 5 cfg0.N
    = left (mulf (m ((c : Thread nD τ).loc main_arg0)) (sig1 (m ((c : Thread nD τ).loc main_arg0))))
        (m ((c : Thread nD τ).loc main_arg2)) (m ((c : Thread nD τ).loc main_arg3)) := by
  refine (dats m 0 c).arrAt_eq_of_covers 5 _ (by decide +kernel) fun t _ y => ?_
  blk_simp
  rw [after0_5]
  frame_out
  exact point_b m c t y

/-- The reference's product, with the gradient halved first, is the kernel's. -/
def refBack (w : FVec Ideal S2816x1024 .f32) (d : FVec Ideal S4096x1024 .f32) : FVec Ideal S4096x2816 .f32 :=
  Host.dotGeneral Cert.GluReferenceIdeal.dot_S4096x1024_S2816x1024_S4096x2816_1_1_0_0_n_n none
    (mulf (broadcastInDim Cert.GluReferenceIdeal.S4096x1024 ![] Cert.GluReferenceIdeal.Gen.bcast_S_S4096x1024
      (constant Cert.GluReferenceIdeal.S_ .f32 0x3F000000#32)) d) w

theorem refBack_eq (w : FVec Ideal S2816x1024 .f32) (d : FVec Ideal S4096x1024 .f32) : refBack w d = back w d := by
  funext i
  pointwise [refBack, back]
  rw [show Ideal.ofBits FTy.f32 1056964608#32 = _ from Cert.Numbers.half_f32, Cert.Numbers.sum_mul_real _ _ (by norm_num)]
  refine Finset.sum_congr rfl fun k _ => ?_
  rw [mul_assoc, mul_comm]

/-- The gradient of the second projection: no condition is needed. -/
theorem left_b (a : FVec Ideal S4096x2816 .f32) (w : FVec Ideal S2816x1024 .f32) (d : FVec Ideal S4096x1024 .f32) :
    left (mulf a (sig1 a)) w d = truncf .bf16 (mulf (mulf a (sig1 a)) (refBack w d)) bitsLt_bf16_f32 := by
  rw [refBack_eq]
  funext i
  show (back w d i * (a i * sig1 a i) : EReal) = (a i * sig1 a i) * back w d i
  exact mul_comm _ _

/-- The sigmoid of a real number is a real number. -/
theorem sig1_real {a : FVec Ideal S4096x2816 .f32} {f : S4096x2816.Idx → ℝ} (ha : ∀ i, (a i : EReal) = (f i : EReal)) (i) :
    @Eq EReal (sig1 a i) ((1 / (1 + Real.exp (-(f i))) : ℝ) : EReal) := by
  pointwise [sig1]
  rw [ha i, ← EReal.coe_neg, Ideal.exp_coe, show (1 : EReal) = ((1 : ℝ) : EReal) from rfl, ← EReal.coe_add,
    Ideal.div_coe (by positivity), ← EReal.coe_mul, one_mul]

theorem slope_real {a : FVec Ideal S4096x2816 .f32} {f : S4096x2816.Idx → ℝ} (ha : ∀ i, (a i : EReal) = (f i : EReal)) (i) :
    ∃ r : ℝ, @Eq EReal (slope a i) (r : EReal) := by
  refine ⟨1 / (1 + Real.exp (-(f i))) * (1 - 1 / (1 + Real.exp (-(f i)))), ?_⟩
  have h : @Eq EReal (slope a i) ((sig1 a i : EReal) * (FloatOps.ofBits (F := Ideal) .f32 0x3F800000#32 - sig1 a i)) := rfl
  rw [h, sig1_real ha i, Cert.Numbers.one_f32, ← EReal.coe_sub, ← EReal.coe_mul]

theorem back_real {w : FVec Ideal S2816x1024 .f32} {d : FVec Ideal S4096x1024 .f32} {f : S2816x1024.Idx → ℝ} {g : S4096x1024.Idx → ℝ}
    (hw : ∀ i, (w i : EReal) = (f i : EReal)) (hd : ∀ i, (d i : EReal) = (g i : EReal)) (i) :
    ∃ r : ℝ, @Eq EReal (back w d i) (r : EReal) := by
  refine ⟨(∑ k : Fin 1024, g (ix2 (i 0) k) * f (ix2 (i 1) k)) * (1 / 2), ?_⟩
  unfold back
  rw [Cert.Numbers.half_f32, EReal.coe_mul, ← Cert.Numbers.coe_sum]
  refine congrArg (· * _) (Finset.sum_congr rfl fun k _ => ?_)
  rw [hw, hd, EReal.coe_mul]

/-- The gradient of the gate's projection, for real arguments. -/
theorem left_a {a b : FVec Ideal S4096x2816 .f32} {w : FVec Ideal S2816x1024 .f32} {d : FVec Ideal S4096x1024 .f32}
    {fa fb : S4096x2816.Idx → ℝ} {f : S2816x1024.Idx → ℝ} {g : S4096x1024.Idx → ℝ}
    (ha : ∀ i, (a i : EReal) = (fa i : EReal)) (hb : ∀ i, (b i : EReal) = (fb i : EReal))
    (hw : ∀ i, (w i : EReal) = (f i : EReal)) (hd : ∀ i, (d i : EReal) = (g i : EReal)) :
    left (gateFactor a b) w d = truncf .bf16 (addf (mulf (mulf (refBack w d) b) (sig1 a))
      (mulf (mulf a (mulf (refBack w d) b)) (slope a))) bitsLt_bf16_f32 := by
  rw [refBack_eq]
  funext i
  obtain ⟨p, hp⟩ := back_real hw hd i
  obtain ⟨q, hq⟩ := slope_real ha i
  show (back w d i * (b i * sig1 a i + (a i * b i) * slope a i) : EReal)
    = (back w d i * b i) * sig1 a i + (a i * (back w d i * b i)) * slope a i
  rw [hp, hq, sig1_real ha i, ha i, hb i]
  simp only [← EReal.coe_mul, ← EReal.coe_add]
  congr 1
  ring

/-- The precondition says that every entry of the arguments is a real number. -/
theorem reals_of_pre {a b : FVec Ideal S4096x2816 .f32} {w : FVec Ideal S2816x1024 .f32} {d : FVec Ideal S4096x1024 .f32}
    (h : Cert.Pre_glu_finite.fn (F := Ideal) a b w d = fun _ => 1#1) :
    (∃ f : S4096x2816.Idx → ℝ, ∀ i, (a i : EReal) = (f i : EReal)) ∧ (∃ f : S4096x2816.Idx → ℝ, ∀ i, (b i : EReal) = (f i : EReal))
      ∧ (∃ f : S2816x1024.Idx → ℝ, ∀ i, (w i : EReal) = (f i : EReal)) ∧ ∃ f : S4096x1024.Idx → ℝ, ∀ i, (d i : EReal) = (f i : EReal) := by
  have e := congrFun h (Shape.Idx.first (by decide))
  obtain ⟨e, e4⟩ := Cert.Numbers.both _ _ e
  obtain ⟨e, e3⟩ := Cert.Numbers.both _ _ e
  obtain ⟨e1, e2⟩ := Cert.Numbers.both _ _ e
  haveI : Subsingleton Cert.Pre_glu_finite.S_.Idx := ⟨fun a b => funext fun i => i.elim0⟩
  exact ⟨Cert.Numbers.exists_reads fun i => Cert.Numbers.real_of_lt Cert.Numbers.inf_f32 (Host.reduce_andi_all _ _ _ _ _ e1 i),
    Cert.Numbers.exists_reads fun i => Cert.Numbers.real_of_lt Cert.Numbers.inf_f32 (Host.reduce_andi_all _ _ _ _ _ e2 i),
    Cert.Numbers.exists_reads fun i => Cert.Numbers.real_of_lt Cert.Numbers.inf_f32 (Host.reduce_andi_all _ _ _ _ _ e3 i),
    Cert.Numbers.exists_reads fun i => Cert.Numbers.real_of_lt Cert.Numbers.inf_f32 (Host.reduce_andi_all _ _ _ _ _ e4 i)⟩

end Cert.GluKernelIdeal.Glu
end
-- ==== Proof.DownValue.lean ====
module

public import proofs.«01_k».proof.Proof.Gen.DownKernelIdeal.Frame
public import proofs.«01_k».proof.Proof.Gen.DownReferenceIdeal
public import proofs.«01_k».proof.Proof.Numbers
public import Idealize.ShloMosaic.Lib.Pipeline.ValueKit
public import Idealize.ShloMosaic.Lib.Claim

/-! The product that gives the gradient of the down projection: every block of rows of the result is the sum of two half
products, one over each half of the tokens, times one half. The plain reference sums over all the tokens at once the product
with the gradient already halved. Over the extended reals both are the same sum: halving is multiplication by a nonnegative
real number, and that distributes over every sum. -/

@[expose] public section

set_option maxRecDepth 16384

noncomputable section
open Idealize.ShloMosaic Idealize.ShloMosaic.TcCoe Idealize.SL.Sem
open Idealize.ShloMosaic.Pipeline (Dat)
namespace Cert.DownKernelIdeal.Down
open Cert.DownKernelIdeal Cert.DownKernelIdeal.Gen
variable (m : (ℓ : Loc nD τ sig) → Buf (Elt Ideal) ℓ)

/-- The first and the second half of the tokens. -/
abbrev lower (k : Fin 2048) : Fin 4096 := ⟨k.val, by omega⟩
abbrev upper (k : Fin 2048) : Fin 4096 := ⟨2048 + k.val, by omega⟩

/-- One half, as the kernel's constant reads it. -/
abbrev half : EReal := FloatOps.ofBits (F := Ideal) .f32 0x3F000000#32

/-- What the kernel leaves: the two half products added, then halved. -/
def left (s : FVec Ideal S4096x2816 .f32) (d : FVec Ideal S4096x1024 .f32) : FVec Ideal S2816x1024 .bf16 := fun i =>
  ((∑ k : Fin 2048, (s (ix2 (lower k) (i 0)) * d (ix2 (lower k) (i 1)) : EReal))
    + ∑ k : Fin 2048, (s (ix2 (upper k) (i 0)) * d (ix2 (upper k) (i 1)) : EReal)) * half

/-- Where the blocks of each point lie. -/
theorem idx : ∀ t : Fin cfg0.N, win0_0.index t = ![t.val % 2, t.val / 2] ∧ win0_1.index t = ![t.val % 2, 0]
    ∧ win0_2.index t = ![t.val / 2, 0] := (by decide +kernel : ∀ t : Fin grid0.N, _)

/-- A block of the saved product, at its place in the argument. -/
theorem saved (c : Dev nD) (t : Fin cfg0.N) (k : Fin 2048) (r : Fin 1408) (a : Fin 4096) (b : Fin 2816)
    (ha : a.val = t.val % 2 * 2048 + k.val) (hb : b.val = t.val / 2 * 1408 + r.val) :
    @Eq EReal (iblk m c 0 t (ix2 k r)) (m ((c : Thread nD τ).loc main_arg0) (ix2 a b)) := by
  blk_simp [iblk]
  entry_read
  pointwise
  blk_ext [idx t, ha, hb]

/-- A block of the incoming gradient, at its place in the argument. -/
theorem coming (c : Dev nD) (t : Fin cfg0.N) (k : Fin 2048) (r : Fin 1024) (a : Fin 4096)
    (ha : a.val = t.val % 2 * 2048 + k.val) :
    @Eq EReal (iblk m c 1 t (ix2 k r)) (m ((c : Thread nD τ).loc main_arg1) (ix2 a r)) := by
  blk_simp [iblk]
  entry_read
  pointwise
  blk_ext [idx t, ha]

/-- The body at the second point of a pair, over the blocks of both points of the pair. -/
theorem point (c : Dev nD) (t t' : Fin cfg0.N) (ht : t.val % 2 = 1) (h' : t'.val + 1 = t.val) (y) :
    k0_pay3 (k0_pay2 (k0_pay1 (iblk m c 0 t') (iblk m c 1 t')) (iblk m c 0 t) (iblk m c 1 t)) y
      = left (m ((c : Thread nD τ).loc main_arg0)) (m ((c : Thread nD τ).loc main_arg1)) (((cfg0.win 2).blk t).view.emb y) := by
  have e0 : t'.val % 2 = 0 := by omega
  have e1 : t'.val / 2 = t.val / 2 := by omega
  have p0 : ((((cfg0.win 2).blk t).view.emb y) 0).val = t.val / 2 * 1408 + (y 0).val := by blk_simp [idx t]
  have p1 : ((((cfg0.win 2).blk t).view.emb y) 1).val = (y 1).val := by blk_simp [idx t]
  have p1' : ((((cfg0.win 2).blk t).view.emb y) 1) = (y 1) := Fin.ext p1
  pointwise [k0_pay3, k0_pay2, k0_pay1, left]
  refine congrArg (· * half) (congrArg₂ (· + ·) (Finset.sum_congr rfl fun k _ => ?_) (Finset.sum_congr rfl fun k _ => ?_))
  · exact congrArg₂ (· * ·) (saved m c t' k (y 0) (lower k) _ (by rw [e0]; show k.val = _; omega) (by rw [e1]; exact p0))
      ((coming m c t' k (y 1) (lower k) (by rw [e0]; show k.val = _; omega)).trans (by rw [← p1']))
  · exact congrArg₂ (· * ·) (saved m c t k (y 0) (upper k) _ (by rw [ht]) p0)
      ((coming m c t k (y 1) (upper k) (by rw [ht])).trans (by rw [← p1']))

/-- What the first point of a pair leaves in the accumulator. -/
theorem first (c : Dev nD) (t : Fin cfg0.N) (ht : t.val % 2 = 0) (n : ℕ) (hn : n < cfg0.N) (e : n = t.val) :
    (outsAt0 m c n hn).2 = k0_pay1 (iblk m c 0 t) (iblk m c 1 t) := by
  subst e
  rw [show outsAt0 m c t.val hn = _ from outsAt0_A m c t ht (by omega) (by omega)]
  frame_out

/-- What the second point of a pair leaves in the block of the result. -/
theorem second (c : Dev nD) (t t' : Fin cfg0.N) (ht : t.val % 2 = 1) (h' : t'.val + 1 = t.val) :
    (outsAt0 m c t.val t.isLt).1
      = k0_pay3 (k0_pay2 (k0_pay1 (iblk m c 0 t') (iblk m c 1 t')) (iblk m c 0 t) (iblk m c 1 t)) := by
  rw [outsAt0_B m c t (by omega) ht ht]
  frame_out
  rw [first m c t' (by omega) _ _ (by omega), (Memref.isWhole_whole _).read_unread]

/-- The array of the result after the run. -/
theorem final (c : Dev nD) : (dats m 0 c).arrAt 2 cfg0.N
    = left (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  blk_simp
  rw [after0_2, second m c t ⟨t.val - 1, Nat.lt_of_le_of_lt (Nat.sub_le _ _) t.isLt⟩ ht (by show t.val - 1 + 1 = t.val; omega)]
  exact point m c t ⟨t.val - 1, Nat.lt_of_le_of_lt (Nat.sub_le _ _) t.isLt⟩ ht (by show t.val - 1 + 1 = t.val; omega) y

/-- What the kernel leaves is the reference's product. -/
theorem left_eq (s : FVec Ideal S4096x2816 .f32) (d : FVec Ideal S4096x1024 .f32) :
    left s d = truncf .bf16 (transpose Cert.DownReferenceIdeal.S2816x1024 [1, 0]
      (Host.dotGeneral Cert.DownReferenceIdeal.dot_S4096x1024_S4096x2816_S1024x2816_0_0_1_1_n_n none
        (mulf (broadcastInDim Cert.DownReferenceIdeal.S4096x1024 ![] Cert.DownReferenceIdeal.Gen.bcast_S_S4096x1024
          (constant Cert.DownReferenceIdeal.S_ .f32 0x3F000000#32)) d) s)
      Cert.DownReferenceIdeal.Gen.transposes_S1024x2816_S2816x1024_1_0) Cert.DownReferenceIdeal.Gen.bitsLt_bf16_f32 := by
  funext i
  pointwise [left]
  rw [← Cert.Numbers.sum_halves fun k => s (ix2 k (i 0)) * d (ix2 k (i 1)),
    show Ideal.ofBits FTy.f32 1056964608#32 = _ from Cert.Numbers.half_f32,
    Cert.Numbers.sum_mul_real _ _ (by norm_num)]
  refine Finset.sum_congr rfl fun k _ => ?_
  rw [mul_comm (_ * _ : EReal), mul_comm (s _ : EReal), mul_assoc]

end Cert.DownKernelIdeal.Down
end
-- ==== Proof.GateValue.lean ====
module

public import proofs.«01_k».proof.Proof.Gen.GateKernelIdeal.Frame
public import proofs.«01_k».proof.Proof.Gen.GateReferenceIdeal
public import proofs.«01_k».proof.Proof.Numbers
public import Idealize.ShloMosaic.Lib.Pipeline.ValueKit
public import Idealize.ShloMosaic.Lib.Claim

/-! The product that gives the gradient of the gate projection, transposed as the kernel keeps it: every block of rows of the
result is the sum of two half products, one over each half of the tokens. The plain reference sums over all the tokens at
once, and transposes the result of the derivative. -/

@[expose] public section

set_option maxRecDepth 16384

noncomputable section
open Idealize.ShloMosaic Idealize.ShloMosaic.TcCoe Idealize.SL.Sem
open Idealize.ShloMosaic.Pipeline (Dat)
namespace Cert.GateKernelIdeal.Gate
open Cert.GateKernelIdeal Cert.GateKernelIdeal.Gen
variable (m : (ℓ : Loc nD τ sig) → Buf (Elt Ideal) ℓ)

/-- The first and the second half of the tokens. -/
abbrev lower (k : Fin 2048) : Fin 4096 := ⟨k.val, by omega⟩
abbrev upper (k : Fin 2048) : Fin 4096 := ⟨2048 + k.val, by omega⟩

/-- What the kernel leaves: the two half products added. -/
def left (s : FVec Ideal S4096x2816 .f32) (d : FVec Ideal S4096x1024 .f32) : FVec Ideal S2816x1024 .bf16 := fun i =>
  (∑ k : Fin 2048, (s (ix2 (lower k) (i 0)) * d (ix2 (lower k) (i 1)) : EReal))
    + ∑ k : Fin 2048, (s (ix2 (upper k) (i 0)) * d (ix2 (upper k) (i 1)) : EReal)

/-- Where the blocks of each point lie. -/
theorem idx : ∀ t : Fin cfg0.N, win0_0.index t = ![t.val % 2, t.val / 2] ∧ win0_1.index t = ![t.val % 2, 0]
    ∧ win0_2.index t = ![t.val / 2, 0] := (by decide +kernel : ∀ t : Fin grid0.N, _)

/-- A block of the incoming gradient, at its place in the argument. -/
theorem incoming (c : Dev nD) (t : Fin cfg0.N) (k : Fin 2048) (r : Fin 1408) (a : Fin 4096) (b : Fin 2816)
    (ha : a.val = t.val % 2 * 2048 + k.val) (hb : b.val = t.val / 2 * 1408 + r.val) :
    @Eq EReal (iblk m c 0 t (ix2 k r)) (m ((c : Thread nD τ).loc main_arg1) (ix2 a b)) := by
  blk_simp [iblk]
  entry_read
  pointwise
  blk_ext [idx t, ha, hb]

/-- A block of the saved input, at its place in the argument. -/
theorem input (c : Dev nD) (t : Fin cfg0.N) (k : Fin 2048) (r : Fin 1024) (a : Fin 4096)
    (ha : a.val = t.val % 2 * 2048 + k.val) :
    @Eq EReal (iblk m c 1 t (ix2 k r)) (m ((c : Thread nD τ).loc main_arg0) (ix2 a r)) := by
  blk_simp [iblk]
  entry_read
  pointwise
  blk_ext [idx t, ha]

/-- The body at the second point of a pair, over the blocks of both points of the pair. -/
theorem point (c : Dev nD) (t t' : Fin cfg0.N) (ht : t.val % 2 = 1) (h' : t'.val + 1 = t.val) (y) :
    k0_pay3 (k0_pay2 (k0_pay1 (iblk m c 0 t') (iblk m c 1 t')) (iblk m c 0 t) (iblk m c 1 t)) y
      = left (m ((c : Thread nD τ).loc main_arg1)) (m ((c : Thread nD τ).loc main_arg0)) (((cfg0.win 2).blk t).view.emb y) := by
  have e0 : t'.val % 2 = 0 := by omega
  have e1 : t'.val / 2 = t.val / 2 := by omega
  have p0 : ((((cfg0.win 2).blk t).view.emb y) 0).val = t.val / 2 * 1408 + (y 0).val := by blk_simp [idx t]
  have p1 : ((((cfg0.win 2).blk t).view.emb y) 1).val = (y 1).val := by blk_simp [idx t]
  have p1' : ((((cfg0.win 2).blk t).view.emb y) 1) = (y 1) := Fin.ext p1
  pointwise [k0_pay3, k0_pay2, k0_pay1, left]
  refine congrArg₂ (· + ·) (Finset.sum_congr rfl fun k _ => ?_) (Finset.sum_congr rfl fun k _ => ?_)
  · exact congrArg₂ (· * ·) (incoming m c t' k (y 0) (lower k) _ (by rw [e0]; show k.val = _; omega) (by rw [e1]; exact p0))
      ((input m c t' k (y 1) (lower k) (by rw [e0]; show k.val = _; omega)).trans (by rw [← p1']))
  · exact congrArg₂ (· * ·) (incoming m c t k (y 0) (upper k) _ (by rw [ht]) p0)
      ((input m c t k (y 1) (upper k) (by rw [ht])).trans (by rw [← p1']))

/-- What the first point of a pair leaves in the accumulator. -/
theorem first (c : Dev nD) (t : Fin cfg0.N) (ht : t.val % 2 = 0) (n : ℕ) (hn : n < cfg0.N) (e : n = t.val) :
    (outsAt0 m c n hn).2 = k0_pay1 (iblk m c 0 t) (iblk m c 1 t) := by
  subst e
  rw [show outsAt0 m c t.val hn = _ from outsAt0_A m c t ht (by omega) (by omega)]
  frame_out

/-- What the second point of a pair leaves in the block of the result. -/
theorem second (c : Dev nD) (t t' : Fin cfg0.N) (ht : t.val % 2 = 1) (h' : t'.val + 1 = t.val) :
    (outsAt0 m c t.val t.isLt).1
      = k0_pay3 (k0_pay2 (k0_pay1 (iblk m c 0 t') (iblk m c 1 t')) (iblk m c 0 t) (iblk m c 1 t)) := by
  rw [outsAt0_B m c t (by omega) ht ht]
  frame_out
  rw [first m c t' (by omega) _ _ (by omega), (Memref.isWhole_whole _).read_unread]

/-- The array of the result after the run. -/
theorem final (c : Dev nD) : (dats m 0 c).arrAt 2 cfg0.N
    = left (m ((c : Thread nD τ).loc main_arg1)) (m ((c : Thread nD τ).loc main_arg0)) := by
  refine (dats m 0 c).arrAt_eq_of_covers 2 _ (by decide +kernel) fun t hf y => ?_
  have ht : t.val % 2 = 1 := (flush0_2 t).mp hf
  blk_simp
  rw [after0_2, second m c t ⟨t.val - 1, Nat.lt_of_le_of_lt (Nat.sub_le _ _) t.isLt⟩ ht (by show t.val - 1 + 1 = t.val; omega)]
  exact point m c t ⟨t.val - 1, Nat.lt_of_le_of_lt (Nat.sub_le _ _) t.isLt⟩ ht (by show t.val - 1 + 1 = t.val; omega) y

/-- What the kernel leaves is the reference's product. -/
theorem left_eq (s : FVec Ideal S4096x2816 .f32) (d : FVec Ideal S4096x1024 .f32) :
    left s d = truncf .bf16 (transpose Cert.GateReferenceIdeal.S2816x1024 [1, 0]
      (transpose Cert.GateReferenceIdeal.S1024x2816 [1, 0]
        (Host.dotGeneral Cert.GateReferenceIdeal.dot_S4096x2816_S4096x1024_S2816x1024_0_0_1_1_n_n none s d)
        Cert.GateReferenceIdeal.Gen.transposes_S2816x1024_S1024x2816_1_0)
      Cert.GateReferenceIdeal.Gen.transposes_S1024x2816_S2816x1024_1_0) Cert.GateReferenceIdeal.Gen.bitsLt_bf16_f32 := by
  funext i
  pointwise [left]
  exact (Cert.Numbers.sum_halves fun k => s (ix2 k (i 0)) * d (ix2 k (i 1))).symm

end Cert.GateKernelIdeal.Gate
end
-- ==== Proof.HiddenValue.lean ====
module

public import proofs.«01_k».proof.Proof.Gen.HiddenKernelIdeal.Frame
public import proofs.«01_k».proof.Proof.Gen.HiddenReferenceIdeal
public import proofs.«01_k».proof.Proof.Gen.Pre_hidden_finite
public import proofs.«01_k».proof.Proof.Numbers
public import Idealize.ShloMosaic.Lib.Pipeline.ValueKit
public import Idealize.ShloMosaic.Lib.Claim
public import Idealize.ShloMosaic.Lib.StableHlo.RunRead
public import Idealize.ShloMosaic.Lib.ReduceAll

/-! The forward call of the gated unit: two products with the hidden state, the activation of the first, its product with the
second, and the two factors kept for the backward call. The plain reference computes the products over whole arrays, and takes
the factor of the gate's gradient by the derivative of the activation. -/

@[expose] public section

set_option maxRecDepth 16384

noncomputable section
open Idealize.ShloMosaic Idealize.ShloMosaic.TcCoe Idealize.SL.Sem
open Idealize.ShloMosaic.Pipeline (Dat)
namespace Cert.HiddenKernelIdeal.Hidden
open Cert.HiddenKernelIdeal Cert.HiddenKernelIdeal.Gen
variable (m : (ℓ : Loc nD τ sig) → Buf (Elt Ideal) ℓ)

/-- Where the blocks of each point lie. -/
theorem idx : ∀ t : Fin cfg0.N, win0_0.index t = ![t.val % 4, 0] ∧ win0_1.index t = ![t.val / 4, 0]
    ∧ win0_2.index t = ![t.val / 4, 0] ∧ win0_3.index t = ![t.val % 4, t.val / 4]
    ∧ win0_4.index t = ![t.val % 4, t.val / 4] ∧ win0_5.index t = ![t.val % 4, t.val / 4] := (by decide +kernel : ∀ t : Fin grid0.N, _)

/-- One, as the constants read it. -/
abbrev one : EReal := FloatOps.ofBits (F := Ideal) .f32 0x3F800000#32

/-- The sigmoid of a number. -/
def sgm (u : EReal) : EReal := Ideal.div one (one + Ideal.exp (-u))

/-- A product with the hidden state. -/
def proj (h : FVec Ideal S4096x1024 .f32) (w : FVec Ideal S1024x2816 .f32) : FVec Ideal S4096x2816 .f32 := fun i =>
  (∑ k : Fin 1024, (h (ix2 (i 0) k) * w (ix2 k (i 1)) : EReal))

/-- The three arrays that the call leaves. -/
def factor (p q : FVec Ideal S4096x2816 .f32) : FVec Ideal S4096x2816 .bf16 := fun i =>
  (q i * (sgm (p i) * (one + p i * (one - sgm (p i)))) : EReal)
def act (p : FVec Ideal S4096x2816 .f32) : FVec Ideal S4096x2816 .bf16 := fun i => (p i * sgm (p i) : EReal)
def gated (p q : FVec Ideal S4096x2816 .f32) : FVec Ideal S4096x2816 .bf16 := fun i => ((p i * sgm (p i)) * q i : EReal)

/-- What the host lines leave for the call, as terms of the arguments. -/
theorem entry_h (c : Dev nD) : V m c main_v0 = (truncf .bf16 (m ((c : Thread nD τ).loc main_arg0)) bitsLt_bf16_f32 : FVec Ideal S4096x1024 .bf16) := by
  unfold V
  after_reads_simp

theorem entry_g (c : Dev nD) : V m c main_v2 = (truncf .bf16 (transpose S2816x1024 [1, 0] (m ((c : Thread nD τ).loc main_arg1))
    transposes_S1024x2816_S2816x1024_1_0) bitsLt_bf16_f32 : FVec Ideal S2816x1024 .bf16) := by
  unfold V
  after_reads_simp

theorem entry_u (c : Dev nD) : V m c main_v4 = (truncf .bf16 (transpose S2816x1024 [1, 0] (m ((c : Thread nD τ).loc main_arg2))
    transposes_S1024x2816_S2816x1024_1_0) bitsLt_bf16_f32 : FVec Ideal S2816x1024 .bf16) := by
  unfold V
  after_reads_simp

/-- The blocks of the arguments, each at its place in its array. -/
theorem block_h (c : Dev nD) (t : Fin cfg0.N) (r k : Fin 1024) (a : Fin 4096) (ha : a.val = t.val % 4 * 1024 + r.val) :
    @Eq EReal (iblk m c 0 t (ix2 r k)) (m ((c : Thread nD τ).loc main_arg0) (ix2 a k)) := by
  blk_simp [iblk]
  rw [entry_h]
  pointwise
  blk_ext [idx t, ha]

theorem block_g (c : Dev nD) (t : Fin cfg0.N) (r : Fin 1408) (k : Fin 1024) (a : Fin 2816) (ha : a.val = t.val / 4 * 1408 + r.val) :
    @Eq EReal (iblk m c 1 t (ix2 r k)) (m ((c : Thread nD τ).loc main_arg1) (ix2 k a)) := by
  blk_simp [iblk]
  rw [entry_g]
  pointwise
  blk_ext [idx t, ha]

theorem block_u (c : Dev nD) (t : Fin cfg0.N) (r : Fin 1408) (k : Fin 1024) (a : Fin 2816) (ha : a.val = t.val / 4 * 1408 + r.val) :
    @Eq EReal (iblk m c 2 t (ix2 r k)) (m ((c : Thread nD τ).loc main_arg2) (ix2 k a)) := by
  blk_simp [iblk]
  rw [entry_u]
  pointwise
  blk_ext [idx t, ha]

/-- The two products of the body at one point. -/
theorem core_g (c : Dev nD) (t : Fin cfg0.N) (y : S1024x1408.Idx) (i : S4096x2816.Idx) (h0 : (i 0).val = t.val % 4 * 1024 + (y 0).val)
    (h1 : (i 1).val = t.val / 4 * 1408 + (y 1).val) :
    @Eq EReal (k0_pay2 (iblk m c 0 t) (iblk m c 1 t) y)
      (proj (m ((c : Thread nD τ).loc main_arg0)) (m ((c : Thread nD τ).loc main_arg1)) i) := by
  pointwise [k0_pay2, k0_pay1, proj]
  refine Finset.sum_congr rfl fun k _ => ?_
  exact congrArg₂ (· * ·) (block_h m c t (y 0) k (i 0) h0) (block_g m c t (y 1) k (i 1) h1)

theorem core_u (c : Dev nD) (t : Fin cfg0.N) (y : S1024x1408.Idx) (i : S4096x2816.Idx) (h0 : (i 0).val = t.val % 4 * 1024 + (y 0).val)
    (h1 : (i 1).val = t.val / 4 * 1408 + (y 1).val) :
    @Eq EReal (k0_pay3 (iblk m c 0 t) (iblk m c 2 t) y)
      (proj (m ((c : Thread nD τ).loc main_arg0)) (m ((c : Thread nD τ).loc main_arg2)) i) := by
  pointwise [k0_pay3, k0_pay1, proj]
  refine Finset.sum_congr rfl fun k _ => ?_
  exact congrArg₂ (· * ·) (block_h m c t (y 0) k (i 0) h0) (block_u m c t (y 1) k (i 1) h1)

/-- The sigmoid of the body. -/
theorem pay_sgm (x : FVec Ideal S1024x1024 .bf16) (w : FVec Ideal S1408x1024 .bf16) (y) :
    @Eq EReal (k0_pay4 (F := Ideal) x w y) (sgm ((k0_pay2 (F := Ideal) x w y : EReal))) := by
  have h : @Eq EReal (k0_pay4 (F := Ideal) x w y)
      (Ideal.div one (one + Ideal.exp ((FloatOps.ofBits (F := Ideal) .f32 0x00000000#32 : EReal) - (k0_pay2 (F := Ideal) x w y : EReal)))) := rfl
  rw [h, Cert.Numbers.zero_f32, EReal.coe_zero, sub_eq_add_neg, zero_add, sgm]

theorem pay_factor (x : FVec Ideal S1024x1024 .bf16) (w v : FVec Ideal S1408x1024 .bf16) (y) :
    @Eq EReal (k0_pay6 (F := Ideal) x w v y) ((k0_pay3 (F := Ideal) x v y : EReal) * (sgm ((k0_pay2 (F := Ideal) x w y : EReal)) * (one + (k0_pay2 (F := Ideal) x w y : EReal) * (one - sgm ((k0_pay2 (F := Ideal) x w y : EReal)))))) := by
  have e := pay_sgm x w y
  rw [← e]
  unfold k0_pay6
  simp only [shapeCast_self]
  rfl

theorem pay_act (x : FVec Ideal S1024x1024 .bf16) (w : FVec Ideal S1408x1024 .bf16) (y) :
    @Eq EReal (k0_pay7 (F := Ideal) x w y) ((k0_pay2 (F := Ideal) x w y : EReal) * sgm ((k0_pay2 (F := Ideal) x w y : EReal))) := by
  have e := pay_sgm x w y
  rw [← e]
  unfold k0_pay7
  simp only [shapeCast_self]
  rfl

theorem pay_gated (x : FVec Ideal S1024x1024 .bf16) (w v : FVec Ideal S1408x1024 .bf16) (y) :
    @Eq EReal (k0_pay8 (F := Ideal) x w v y) (((k0_pay2 (F := Ideal) x w y : EReal) * sgm ((k0_pay2 (F := Ideal) x w y : EReal))) * (k0_pay3 (F := Ideal) x v y : EReal)) := by
  have e := pay_sgm x w y
  rw [← e]
  unfold k0_pay8
  simp only [shapeCast_self]
  rfl

/-- The three arrays after the run. -/
theorem point_factor (c : Dev nD) (t : Fin cfg0.N) (y) :
    k0_pay6 (iblk m c 0 t) (iblk m c 1 t) (iblk m c 2 t) y
      = factor (proj (m ((c : Thread nD τ).loc main_arg0)) (m ((c : Thread nD τ).loc main_arg1))) (proj (m ((c : Thread nD τ).loc main_arg0)) (m ((c : Thread nD τ).loc main_arg2))) (((cfg0.win 3).blk t).view.emb y) := by
  have p0 : ((((cfg0.win 3).blk t).view.emb y) 0).val = t.val % 4 * 1024 + (y 0).val := by blk_simp [idx t]
  have p1 : ((((cfg0.win 3).blk t).view.emb y) 1).val = t.val / 4 * 1408 + (y 1).val := by blk_simp [idx t]
  rw [pay_factor, core_g m c t y _ p0 p1, core_u m c t y _ p0 p1]
  rfl

theorem final_factor (c : Dev nD) : (dats m 0 c).arrAt 3 cfg0.N
    = factor (proj (m ((c : Thread nD τ).loc main_arg0)) (m ((c : Thread nD τ).loc main_arg1))) (proj (m ((c : Thread nD τ).loc main_arg0)) (m ((c : Thread nD τ).loc main_arg2))) := by
  refine (dats m 0 c).arrAt_eq_of_covers 3 _ (by decide +kernel) fun t _ y => ?_
  blk_simp
  rw [after0_3]
  frame_out
  exact point_factor m c t y

theorem point_act (c : Dev nD) (t : Fin cfg0.N) (y) :
    k0_pay7 (iblk m c 0 t) (iblk m c 1 t) y
      = act (proj (m ((c : Thread nD τ).loc main_arg0)) (m ((c : Thread nD τ).loc main_arg1))) (((cfg0.win 4).blk t).view.emb y) := by
  have p0 : ((((cfg0.win 4).blk t).view.emb y) 0).val = t.val % 4 * 1024 + (y 0).val := by blk_simp [idx t]
  have p1 : ((((cfg0.win 4).blk t).view.emb y) 1).val = t.val / 4 * 1408 + (y 1).val := by blk_simp [idx t]
  rw [pay_act, core_g m c t y _ p0 p1]
  rfl

theorem final_act (c : Dev nD) : (dats m 0 c).arrAt 4 cfg0.N
    = act (proj (m ((c : Thread nD τ).loc main_arg0)) (m ((c : Thread nD τ).loc main_arg1))) := by
  refine (dats m 0 c).arrAt_eq_of_covers 4 _ (by decide +kernel) fun t _ y => ?_
  blk_simp
  rw [after0_4]
  frame_out
  exact point_act m c t y

theorem point_gated (c : Dev nD) (t : Fin cfg0.N) (y) :
    k0_pay8 (iblk m c 0 t) (iblk m c 1 t) (iblk m c 2 t) y
      = gated (proj (m ((c : Thread nD τ).loc main_arg0)) (m ((c : Thread nD τ).loc main_arg1))) (proj (m ((c : Thread nD τ).loc main_arg0)) (m ((c : Thread nD τ).loc main_arg2))) (((cfg0.win 5).blk t).view.emb y) := by
  have p0 : ((((cfg0.win 5).blk t).view.emb y) 0).val = t.val % 4 * 1024 + (y 0).val := by blk_simp [idx t]
  have p1 : ((((cfg0.win 5).blk t).view.emb y) 1).val = t.val / 4 * 1408 + (y 1).val := by blk_simp [idx t]
  rw [pay_gated, core_g m c t y _ p0 p1, core_u m c t y _ p0 p1]
  rfl

theorem final_gated (c : Dev nD) : (dats m 0 c).arrAt 5 cfg0.N
    = gated (proj (m ((c : Thread nD τ).loc main_arg0)) (m ((c : Thread nD τ).loc main_arg1))) (proj (m ((c : Thread nD τ).loc main_arg0)) (m ((c : Thread nD τ).loc main_arg2))) := by
  refine (dats m 0 c).arrAt_eq_of_covers 5 _ (by decide +kernel) fun t _ y => ?_
  blk_simp
  rw [after0_5]
  frame_out
  exact point_gated m c t y

/-- The reference's products, and its sigmoid. -/
def refProj (h : FVec Ideal S4096x1024 .f32) (w : FVec Ideal S1024x2816 .f32) : FVec Ideal S4096x2816 .f32 :=
  Host.dotGeneral Cert.HiddenReferenceIdeal.dot_S4096x1024_S1024x2816_S4096x2816_1_0_0_1_n_n none h w

theorem refProj_eq (h : FVec Ideal S4096x1024 .f32) (w : FVec Ideal S1024x2816 .f32) : refProj h w = proj h w := by
  funext i
  pointwise [refProj, proj]

def ones : FVec Ideal S4096x2816 .f32 :=
  broadcastInDim Cert.HiddenReferenceIdeal.S4096x2816 ![] Cert.HiddenReferenceIdeal.Gen.bcast_S_S4096x2816
    (constant Cert.HiddenReferenceIdeal.S_ .f32 0x3F800000#32)

def refSig (p : FVec Ideal S4096x2816 .f32) : FVec Ideal S4096x2816 .f32 := Host.divf ones (addf ones (Host.exp (Host.negf p)))

theorem refSig_at (p : FVec Ideal S4096x2816 .f32) (i) : @Eq EReal (refSig p i) (sgm (p i)) := rfl

/-- The activation and the gated product: no condition is needed. -/
theorem act_eq (h : FVec Ideal S4096x1024 .f32) (w : FVec Ideal S1024x2816 .f32) :
    act (proj h w) = truncf .bf16 (mulf (refProj h w) (refSig (refProj h w))) bitsLt_bf16_f32 := by
  rw [refProj_eq]
  rfl

theorem gated_eq (h : FVec Ideal S4096x1024 .f32) (w v : FVec Ideal S1024x2816 .f32) :
    gated (proj h w) (proj h v) = truncf .bf16 (mulf (mulf (refProj h w) (refSig (refProj h w))) (refProj h v)) bitsLt_bf16_f32 := by
  rw [refProj_eq, refProj_eq]
  rfl

/-- The sigmoid of a real number is a real number, and so is a product of real arrays. -/
theorem sgm_real (u : ℝ) : sgm (u : EReal) = ((1 / (1 + Real.exp (-u)) : ℝ) : EReal) := by
  unfold sgm
  rw [show one = _ from Cert.Numbers.one_f32, ← EReal.coe_neg, Ideal.exp_coe, ← EReal.coe_add,
    Ideal.div_coe (by positivity), ← EReal.coe_mul, one_mul]

theorem proj_real {h : FVec Ideal S4096x1024 .f32} {w : FVec Ideal S1024x2816 .f32} {f : S4096x1024.Idx → ℝ} {g : S1024x2816.Idx → ℝ}
    (hh : ∀ i, (h i : EReal) = (f i : EReal)) (hw : ∀ i, (w i : EReal) = (g i : EReal)) (i) :
    ∃ r : ℝ, @Eq EReal (proj h w i) (r : EReal) := by
  refine ⟨∑ k : Fin 1024, f (ix2 (i 0) k) * g (ix2 k (i 1)), ?_⟩
  unfold proj
  rw [← Cert.Numbers.coe_sum]
  refine Finset.sum_congr rfl fun k _ => ?_
  rw [hh, hw, EReal.coe_mul]

/-- The factor of the gate's gradient, for real arguments. -/
theorem factor_eq {h : FVec Ideal S4096x1024 .f32} {w v : FVec Ideal S1024x2816 .f32} {f : S4096x1024.Idx → ℝ} {g k : S1024x2816.Idx → ℝ}
    (hh : ∀ i, (h i : EReal) = (f i : EReal)) (hw : ∀ i, (w i : EReal) = (g i : EReal)) (hv : ∀ i, (v i : EReal) = (k i : EReal)) :
    factor (proj h w) (proj h v) = truncf .bf16 (addf (mulf (refProj h v) (refSig (refProj h w)))
      (mulf (mulf (refProj h w) (refProj h v)) (mulf (refSig (refProj h w)) (subf ones (refSig (refProj h w)))))) bitsLt_bf16_f32 := by
  rw [refProj_eq, refProj_eq]
  funext i
  obtain ⟨p, hp⟩ := proj_real hh hw i
  obtain ⟨q, hq⟩ := proj_real hh hv i
  show (proj h v i * (sgm (proj h w i) * (one + proj h w i * (one - sgm (proj h w i)))) : EReal)
    = proj h v i * sgm (proj h w i) + (proj h w i * proj h v i) * (sgm (proj h w i) * (one - sgm (proj h w i)))
  rw [hp, hq, sgm_real, show one = _ from Cert.Numbers.one_f32]
  simp only [← EReal.coe_mul, ← EReal.coe_add, ← EReal.coe_sub]
  congr 1
  ring

/-- The precondition says that every entry of the arguments is a real number. -/
theorem reals_of_pre {h : FVec Ideal S4096x1024 .f32} {w v : FVec Ideal S1024x2816 .f32}
    (hpre : Cert.Pre_hidden_finite.fn (F := Ideal) h w v = fun _ => 1#1) :
    (∃ f : S4096x1024.Idx → ℝ, ∀ i, (h i : EReal) = (f i : EReal)) ∧ (∃ f : S1024x2816.Idx → ℝ, ∀ i, (w i : EReal) = (f i : EReal))
      ∧ ∃ f : S1024x2816.Idx → ℝ, ∀ i, (v i : EReal) = (f i : EReal) := by
  have e := congrFun hpre (Shape.Idx.first (by decide))
  obtain ⟨e, e3⟩ := Cert.Numbers.both _ _ e
  obtain ⟨e1, e2⟩ := Cert.Numbers.both _ _ e
  haveI : Subsingleton Cert.Pre_hidden_finite.S_.Idx := ⟨fun a b => funext fun i => i.elim0⟩
  exact ⟨Cert.Numbers.exists_reads fun i => Cert.Numbers.real_of_lt Cert.Numbers.inf_f32 (Host.reduce_andi_all _ _ _ _ _ e1 i),
    Cert.Numbers.exists_reads fun i => Cert.Numbers.real_of_lt Cert.Numbers.inf_f32 (Host.reduce_andi_all _ _ _ _ _ e2 i),
    Cert.Numbers.exists_reads fun i => Cert.Numbers.real_of_lt Cert.Numbers.inf_f32 (Host.reduce_andi_all _ _ _ _ _ e3 i)⟩

end Cert.HiddenKernelIdeal.Hidden
end
-- ==== Proof.MixValue.lean ====
module

public import proofs.«01_k».proof.Proof.Gen.MixKernelIdeal.Frame
public import proofs.«01_k».proof.Proof.Gen.MixReferenceIdeal
public import proofs.«01_k».proof.Proof.Gen.Pre_mix_finite
public import proofs.«01_k».proof.Proof.NormTerms
public import Idealize.ShloMosaic.Lib.StableHlo.RunRead

/-! The gradient through the norm before the mixer, as the kernel computes it: every point takes one block of rows, multiplies
the block with the weights, and leaves the gradient of those rows. The gradient of the gain is summed over the points, in one
block that all points share. The terms over one row are those of the norm of the half-steps. -/

@[expose] public section

set_option maxRecDepth 16384

noncomputable section
open Idealize.ShloMosaic Idealize.ShloMosaic.TcCoe Idealize.SL.Sem
open Idealize.ShloMosaic.Pipeline (Dat)
namespace Cert.MixKernelIdeal.Mix
open Cert.MixKernelIdeal Cert.MixKernelIdeal.Gen
open Cert.Norm (width small square scale through rows gains)
variable (m : (ℓ : Loc nD τ sig) → Buf (Elt Ideal) ℓ)

/-- Where the blocks of each point lie. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] :=
  (by decide +kernel : ∀ t : Fin grid0.N, _)

/-- The row of the arrays that row `r` of point `t`'s blocks is. -/
abbrev row (t : Fin cfg0.N) (r : Fin 256) : Fin 4096 :=
  ⟨t.val * 256 + r.val, by have h : t.val < 16 := t.isLt; omega⟩

/-- The gradient of the normalised rows: the product of the incoming gradient with the weights. -/
def incoming (w : FVec Ideal S1024x5120 .f32) (p : FVec Ideal S4096x5120 .f32) : FVec Ideal S4096x1024 .f32 := fun i =>
  (∑ k : Fin 5120, (p (ix2 (i 0) k) * w (ix2 (i 1) k) : EReal))

/-- It is the reference's product. -/
theorem refIncoming_eq (w : FVec Ideal S1024x5120 .f32) (p : FVec Ideal S4096x5120 .f32) :
    (Host.dotGeneral Cert.MixReferenceIdeal.dot_S4096x5120_S1024x5120_S4096x1024_1_1_0_0_n_n none p w : FVec Ideal S4096x1024 .f32) = incoming w p := by
  funext i
  pointwise [incoming]

/-- The incoming gradient is real where its factors are. -/
theorem incoming_real (w : FVec Ideal S1024x5120 .f32) (p : FVec Ideal S4096x5120 .f32)
    (h1 : ∀ i, ∃ v : ℝ, @Eq EReal (w i) (v : EReal)) (h2 : ∀ i, ∃ v : ℝ, @Eq EReal (p i) (v : EReal)) (i : S4096x1024.Idx) :
    ∃ v : ℝ, @Eq EReal (incoming w p i) (v : EReal) := by
  choose f1 e1 using h1
  choose f2 e2 using h2
  refine ⟨∑ k : Fin 5120, f2 (ix2 (i 0) k) * f1 (ix2 (i 1) k), ?_⟩
  unfold incoming
  simp only [e1, e2, ← EReal.coe_mul]
  rw [Cert.Numbers.coe_sum]

/-- The precondition, decoded: every array but the gradient that passes by holds reals. -/
theorem reals_of_pre {x : FVec Ideal S4096x1024 .f32} {g : FVec Ideal S1024 .f32} {w : FVec Ideal S1024x5120 .f32}
    {p : FVec Ideal S4096x5120 .f32} {e : FVec Ideal S4096x1024 .f32}
    (hpre : Cert.Pre_mix_finite.fn (F := Ideal) x g w p e = fun _ => 1#1) :
    (∀ i, ∃ v : ℝ, @Eq EReal (x i) (v : EReal)) ∧ (∀ i, ∃ v : ℝ, @Eq EReal (g i) (v : EReal))
      ∧ ∀ i, ∃ v : ℝ, @Eq EReal (incoming w p i) (v : EReal) := by
  have h := congrFun hpre (Shape.Idx.first (by decide))
  obtain ⟨h, h4⟩ := Cert.Numbers.both _ _ h
  obtain ⟨h, h3⟩ := Cert.Numbers.both _ _ h
  obtain ⟨h1, h2⟩ := Cert.Numbers.both _ _ h
  haveI : Subsingleton Cert.Pre_mix_finite.S_.Idx := ⟨fun a b => funext fun i => i.elim0⟩
  refine ⟨fun i => Cert.Numbers.real_of_lt Cert.Numbers.inf_f32 (Host.reduce_andi_all _ _ _ _ _ h1 i),
    fun i => Cert.Numbers.real_of_lt Cert.Numbers.inf_f32 (Host.reduce_andi_all _ _ _ _ _ h2 i),
    incoming_real w p (fun i => Cert.Numbers.real_of_lt Cert.Numbers.inf_f32 (Host.reduce_andi_all _ _ _ _ _ h3 i))
      (fun i => Cert.Numbers.real_of_lt Cert.Numbers.inf_f32 (Host.reduce_andi_all _ _ _ _ _ h4 i))⟩

/-- The blocks of the five inputs, at their places in the arguments. -/
theorem block_p (c : Dev nD) (t : Fin cfg0.N) (r : Fin 256) (k : Fin 5120) :
    @Eq EReal (iblk m c 0 t (ix2 r k)) (m ((c : Thread nD τ).loc main_arg3) (ix2 (row t r) k)) := by
  blk_simp [iblk]
  entry_read
  pointwise
  blk_ext [idx t]

theorem block_w (c : Dev nD) (t : Fin cfg0.N) (k : Fin 5120) (z : Fin 1024) :
    @Eq EReal (iblk m c 1 t (ix2 k z)) (m ((c : Thread nD τ).loc main_arg2) (ix2 z k)) := by
  blk_simp [iblk]
  entry_read
  pointwise
  blk_ext [idx t]

theorem block_x (c : Dev nD) (t : Fin cfg0.N) (r : Fin 256) (z : Fin 1024) :
    @Eq EReal (iblk m c 2 t (ix2 r z)) (m ((c : Thread nD τ).loc main_arg0) (ix2 (row t r) z)) := by
  blk_simp [iblk]
  entry_read
  pointwise
  blk_ext [idx t]

theorem block_gain (c : Dev nD) (t : Fin cfg0.N) (u : Fin 1) (z : Fin 1024) :
    @Eq EReal (iblk m c 3 t (ix2 u z)) (m ((c : Thread nD τ).loc main_arg1) (ix1 z)) := by
  blk_simp [iblk]
  entry_read
  pointwise
  blk_ext [idx t]

theorem block_dx (c : Dev nD) (t : Fin cfg0.N) (r : Fin 256) (z : Fin 1024) :
    @Eq EReal (iblk m c 4 t (ix2 r z)) (m ((c : Thread nD τ).loc main_arg4) (ix2 (row t r) z)) := by
  blk_simp [iblk]
  entry_read
  pointwise
  blk_ext [idx t]

/-- The arguments, by name. -/
abbrev argX (c : Dev nD) : FVec Ideal S4096x1024 .f32 := m ((c : Thread nD τ).loc main_arg0)
abbrev argG (c : Dev nD) : FVec Ideal S1024 .f32 := m ((c : Thread nD τ).loc main_arg1)
abbrev argE (c : Dev nD) : FVec Ideal S4096x1024 .f32 := m ((c : Thread nD τ).loc main_arg4)
abbrev argD (c : Dev nD) : FVec Ideal S4096x1024 .f32 := incoming (m ((c : Thread nD τ).loc main_arg2)) (m ((c : Thread nD τ).loc main_arg3))

/-- The payloads of the body, read at an index. -/
theorem read4 (a : Vec Ideal S256x5120 .bf16) (b : Vec Ideal S5120x1024 .bf16)
    (r : Fin 256) (z : Fin 1024) : @Eq EReal (k0_pay4 (F := Ideal) a b (ix2 r z)) (∑ k : Fin 5120, (a (ix2 r k) * b (ix2 k z) : EReal)) := by
  pointwise [k0_pay4]

theorem read5 (x : Vec Ideal S256x1024 .f32) (r : Fin 256) (u : Fin 1) : @Eq EReal (k0_pay5 (F := Ideal) x (ix2 r u))
    (Ideal.rsqrt (Ideal.div (∑ j : Fin 1024, (x (ix2 r j) * x (ix2 r j) : EReal)) width + small)) := by
  pointwise [k0_pay5]

theorem read6 (x : Vec Ideal S256x1024 .f32) (r : Fin 256) (z : Fin 1024) : @Eq EReal (k0_pay6 (F := Ideal) x (ix2 r z))
    (x (ix2 r z) * k0_pay5 (F := Ideal) x (ix2 r 0)) := by
  pointwise [k0_pay6]

theorem read7 (a : Vec Ideal S256x5120 .bf16) (b : Vec Ideal S5120x1024 .bf16)
    (x : Vec Ideal S256x1024 .f32) (g : Vec Ideal S1x1024 .f32) (y : Vec Ideal S256x1024 .f32) (r : Fin 256) (z : Fin 1024) :
    @Eq EReal (k0_pay7 (F := Ideal) a b x g y (ix2 r z))
      (y (ix2 r z) + k0_pay5 (F := Ideal) x (ix2 r 0) * (k0_pay4 (F := Ideal) a b (ix2 r z) * g (ix2 0 z)
        - k0_pay6 (F := Ideal) x (ix2 r z) * Ideal.div (∑ j : Fin 1024, (k0_pay4 (F := Ideal) a b (ix2 r j) * g (ix2 0 j)
          * k0_pay6 (F := Ideal) x (ix2 r j) : EReal)) width)) := by
  pointwise [k0_pay7]

theorem read8 (a : Vec Ideal S256x5120 .bf16) (b : Vec Ideal S5120x1024 .bf16) (x : Vec Ideal S256x1024 .f32) (u : Fin 1) (z : Fin 1024) :
    @Eq EReal (k0_pay8 (F := Ideal) a b x (ix2 u z))
      (∑ k : Fin 256, (k0_pay4 (F := Ideal) a b (ix2 k z) * k0_pay6 (F := Ideal) x (ix2 k z) : EReal)) := by
  pointwise [k0_pay8]

/-- The payloads over the blocks of a point. -/
theorem at4 (c : Dev nD) (t : Fin cfg0.N) (r : Fin 256) (z : Fin 1024) :
    @Eq EReal (k0_pay4 (F := Ideal) (iblk m c 0 t) (iblk m c 1 t) (ix2 r z)) (argD m c (ix2 (row t r) z)) :=
  (read4 _ _ r z).trans (Finset.sum_congr rfl fun k _ => congrArg₂ (· * ·) (block_p m c t r k) (block_w m c t k z))

theorem at5 (c : Dev nD) (t : Fin cfg0.N) (r : Fin 256) (u : Fin 1) :
    @Eq EReal (k0_pay5 (F := Ideal) (iblk m c 2 t) (ix2 r u)) (scale (argX m c) (row t r)) := by
  refine (read5 _ r u).trans ?_
  exact congrArg (fun v => Ideal.rsqrt (Ideal.div v width + small))
    (Finset.sum_congr rfl fun k _ => congrArg₂ (· * ·) (block_x m c t r k) (block_x m c t r k))

theorem at6 (c : Dev nD) (t : Fin cfg0.N) (r : Fin 256) (z : Fin 1024) :
    @Eq EReal (k0_pay6 (F := Ideal) (iblk m c 2 t) (ix2 r z)) (argX m c (ix2 (row t r) z) * scale (argX m c) (row t r)) := by
  refine (read6 _ r z).trans ?_
  exact congrArg₂ (· * ·) (block_x m c t r z) (at5 m c t r 0)

theorem at7 (c : Dev nD) (t : Fin cfg0.N) (r : Fin 256) (z : Fin 1024) :
    @Eq EReal (k0_pay7 (F := Ideal) (iblk m c 0 t) (iblk m c 1 t) (iblk m c 2 t) (iblk m c 3 t) (iblk m c 4 t) (ix2 r z))
      (argE m c (ix2 (row t r) z) + through (argX m c) (argG m c) (argD m c) (row t r) z) := by
  refine (read7 _ _ _ _ _ r z).trans ?_
  refine congrArg₂ (· + ·) (block_dx m c t r z) (congrArg₂ (· * ·) (at5 m c t r 0) (congrArg₂ (· - ·)
    (congrArg₂ (· * ·) (at4 m c t r z) (block_gain m c t 0 z))
    (congrArg₂ (· * ·) (at6 m c t r z) (congrArg (fun v => Ideal.div v width) (Finset.sum_congr rfl fun k _ => ?_)))))
  exact congrArg₂ (· * ·) (congrArg₂ (· * ·) (at4 m c t r k) (block_gain m c t 0 k)) (at6 m c t r k)

/-- What a point adds to the gradient of the gain: its block of rows. -/
def part (c : Dev nD) (t : Fin cfg0.N) (z : Fin 1024) : EReal :=
  ∑ r : Fin 256, (argD m c (ix2 (row t r) z) * (argX m c (ix2 (row t r) z) * scale (argX m c) (row t r)) : EReal)

theorem at8 (c : Dev nD) (t : Fin cfg0.N) (u : Fin 1) (z : Fin 1024) :
    @Eq EReal (k0_pay8 (F := Ideal) (iblk m c 0 t) (iblk m c 1 t) (iblk m c 2 t) (ix2 u z)) (part m c t z) :=
  (read8 _ _ _ u z).trans (Finset.sum_congr rfl fun k _ => congrArg₂ (· * ·) (at4 m c t k z) (at6 m c t k z))

/-- What each point leaves: the first, and those after it. -/
theorem out5 (c : Dev nD) (t : Fin cfg0.N) : (outsAt0 m c t.val t.isLt).1
    = k0_pay9 (iblk m c 0 t) (iblk m c 1 t) (iblk m c 2 t) (iblk m c 3 t) (iblk m c 4 t) := by
  rcases Nat.eq_zero_or_pos t.val with h | h
  · rw [outsAt0_A m c t (by omega) (by omega)]
    frame_out
  · rw [outsAt0_B m c t (by have h : t.val < 16 := t.isLt; omega) (by omega)]
    frame_out

theorem out6 (c : Dev nD) (t : Fin cfg0.N) : (outsAt0 m c t.val t.isLt).2.1
    = k0_pay1 (k0_pay10 (iblk m c 0 t) (iblk m c 1 t) (iblk m c 2 t) (iblk m c 3 t) (iblk m c 4 t)) := by
  rcases Nat.eq_zero_or_pos t.val with h | h
  · rw [outsAt0_A m c t (by omega) (by omega)]
    frame_out
  · rw [outsAt0_B m c t (by have h : t.val < 16 := t.isLt; omega) (by omega)]
    frame_out

theorem out7_first (c : Dev nD) (t : Fin cfg0.N) (h : t.val % 16 = 0) : (outsAt0 m c t.val t.isLt).2.2
    = k0_pay2 (k0_pay8 (iblk m c 0 t) (iblk m c 1 t) (iblk m c 2 t)) := by
  rw [outsAt0_A m c t h (by have h : t.val < 16 := t.isLt; omega)]
  frame_out

theorem out7_next (c : Dev nD) (t : Fin cfg0.N) (h : ¬t.val % 16 = 0) : (outsAt0 m c t.val t.isLt).2.2
    = k0_pay3 (k0_pay8 (iblk m c 0 t) (iblk m c 1 t) (iblk m c 2 t))
      (outsAt0 m c (t.val - 1) (Nat.lt_of_le_of_lt (Nat.sub_le _ _) t.isLt)).2.2 := by
  rw [outsAt0_B m c t h (by omega)]
  frame_out

/-- The arrays of the gradient of the rows after the run, in both formats. -/
theorem final5 (c : Dev nD) : (dats m 0 c).arrAt 5 cfg0.N = rows (argX m c) (argG m c) (argD m c) (argE m c) := by
  refine (dats m 0 c).arrAt_eq_of_covers 5 _ (by decide +kernel) fun t _ y => ?_
  blk_simp
  rw [after0_5, out5]
  have p0 : ((((cfg0.win 5).blk t).view.emb y) 0) = row t (y 0) := Fin.ext (by blk_simp [idx t])
  have p1 : ((((cfg0.win 5).blk t).view.emb y) 1) = y 1 := Fin.ext (by blk_simp [idx t])
  obtain ⟨r, z, rfl⟩ : ∃ r z, y = ix2 r z := ⟨y 0, y 1, by funext k; fin_cases k <;> rfl⟩
  unfold k0_pay9 rows
  simp only [shapeCast_self]
  rw [p0, p1]
  exact at7 m c t r z

theorem final6 (c : Dev nD) : (dats m 0 c).arrAt 6 cfg0.N
    = (truncf .bf16 (rows (argX m c) (argG m c) (argD m c) (argE m c)) Cert.MixReferenceIdeal.Gen.bitsLt_bf16_f32 : FVec Ideal S4096x1024 .bf16) := by
  refine (dats m 0 c).arrAt_eq_of_covers 6 _ (by decide +kernel) fun t _ y => ?_
  blk_simp
  rw [after0_6, out6]
  have p0 : ((((cfg0.win 6).blk t).view.emb y) 0) = row t (y 0) := Fin.ext (by blk_simp [idx t])
  have p1 : ((((cfg0.win 6).blk t).view.emb y) 1) = y 1 := Fin.ext (by blk_simp [idx t])
  obtain ⟨r, z, rfl⟩ : ∃ r z, y = ix2 r z := ⟨y 0, y 1, by funext k; fin_cases k <;> rfl⟩
  unfold k0_pay1 k0_pay10 rows
  simp only [shapeCast_self]
  show _ = (argE m c (ix2 _ _) + through _ _ _ _ _ : EReal)
  rw [p0, p1]
  exact at7 m c t r z

/-- The gradient of the gain after the last point: the sum over all the rows. -/
theorem total (c : Dev nD) (t : Fin cfg0.N) (ht : t.val + 1 = 16) (z : Fin 1024) (u : Fin 1) :
    @Eq EReal ((outsAt0 m c t.val t.isLt).2.2 (ix2 u z)) (gains (argX m c) (argD m c) (ix2 u z)) := by
  refine (Pipeline.eq_sum_fin_of_reset_step_apply_last (N := 16) (M := EReal)
    (fun n hn (z : Fin 1024) => ((outsAt0 m c n hn).2.2 (ix2 u z) : EReal)) 16 (fun _ => 0) (fun t z => part m c t z) ?_ ?_ (le_refl _) t ht z).trans ?_
  · intro t h z
    show @Eq EReal ((outsAt0 m c t.val t.isLt).2.2 (ix2 u z)) _
    rw [out7_first m c t h]
    unfold k0_pay2
    simp only [shapeCast_self]
    exact (at8 m c t u z).trans (zero_add _).symm
  · intro t h z
    show @Eq EReal ((outsAt0 m c t.val t.isLt).2.2 (ix2 u z)) _
    rw [out7_next m c t h]
    unfold k0_pay3
    simp only [shapeCast_self]
    exact congrArg (((outsAt0 m c (t.val - 1) (Nat.lt_of_le_of_lt (Nat.sub_le _ _) t.isLt)).2.2 (ix2 u z) : EReal) + ·) (at8 m c t u z)
  · rw [zero_add]
    exact Fin.sum_mul_add_congr (fun s k hl => rfl) (by decide)

/-- The array of the gradient of the gain after the run. -/
theorem final7 (c : Dev nD) : (dats m 0 c).arrAt 7 cfg0.N = gains (argX m c) (argD m c) := by
  refine (dats m 0 c).arrAt_eq_of_covers 7 _ (by decide +kernel) fun t hf y => ?_
  have ht : t.val % 16 = 15 := (flush0_7 t).mp hf
  have hl : t.val < 16 := t.isLt
  blk_simp
  rw [after0_7]
  have p : ((cfg0.win 7).blk t).view.emb y = y := by
    funext k
    apply Fin.ext
    fin_cases k <;> blk_simp [idx t]
  rw [p]
  obtain ⟨u, z, rfl⟩ : ∃ u z, y = ix2 u z := ⟨y 0, y 1, by funext k; fin_cases k <;> rfl⟩
  exact total m c t (by omega) z u

end Cert.MixKernelIdeal.Mix
end
-- ==== Proof.InGradValue.lean ====
module

public import proofs.«01_k».proof.Proof.Gen.InGradKernelIdeal.Frame
public import proofs.«01_k».proof.Proof.Gen.InGradReferenceIdeal
public import proofs.«01_k».proof.Proof.Numbers
public import Idealize.ShloMosaic.Lib.Pipeline.ValueKit
public import Idealize.ShloMosaic.Lib.Claim

/-! The product that gives the gradient of the input projection of the mixer, transposed as the kernel keeps it: every block of rows of the
result is the sum of two half products, one over each half of the tokens. The plain reference sums over all the tokens at
once, and transposes the result of the derivative. -/

@[expose] public section

set_option maxRecDepth 16384

noncomputable section
open Idealize.ShloMosaic Idealize.ShloMosaic.TcCoe Idealize.SL.Sem
open Idealize.ShloMosaic.Pipeline (Dat)
namespace Cert.InGradKernelIdeal.InGrad
open Cert.InGradKernelIdeal Cert.InGradKernelIdeal.Gen
variable (m : (ℓ : Loc nD τ sig) → Buf (Elt Ideal) ℓ)

/-- The first and the second half of the tokens. -/
abbrev lower (k : Fin 2048) : Fin 4096 := ⟨k.val, by omega⟩
abbrev upper (k : Fin 2048) : Fin 4096 := ⟨2048 + k.val, by omega⟩

/-- What the kernel leaves: the two half products added. -/
def left (s : FVec Ideal S4096x5120 .f32) (d : FVec Ideal S4096x1024 .f32) : FVec Ideal S5120x1024 .bf16 := fun i =>
  (∑ k : Fin 2048, (s (ix2 (lower k) (i 0)) * d (ix2 (lower k) (i 1)) : EReal))
    + ∑ k : Fin 2048, (s (ix2 (upper k) (i 0)) * d (ix2 (upper k) (i 1)) : EReal)

/-- Where the blocks of each point lie. -/
theorem idx : ∀ t : Fin cfg0.N, win0_0.index t = ![t.val % 2, t.val / 2] ∧ win0_1.index t = ![t.val % 2, 0]
    ∧ win0_2.index t = ![t.val / 2, 0] := (by decide +kernel : ∀ t : Fin grid0.N, _)

/-- A block of the incoming gradient, at its place in the argument. -/
theorem incoming (c : Dev nD) (t : Fin cfg0.N) (k : Fin 2048) (r : Fin 1280) (a : Fin 4096) (b : Fin 5120)
    (ha : a.val = t.val % 2 * 2048 + k.val) (hb : b.val = t.val / 2 * 1280 + r.val) :
    @Eq EReal (iblk m c 0 t (ix2 k r)) (m ((c : Thread nD τ).loc main_arg1) (ix2 a b)) := by
  blk_simp [iblk]
  entry_read
  pointwise
  blk_ext [idx t, ha, hb]

/-- A block of the saved input, at its place in the argument. -/
theorem input (c : Dev nD) (t : Fin cfg0.N) (k : Fin 2048) (r : Fin 1024) (a : Fin 4096)
    (ha : a.val = t.val % 2 * 2048 + k.val) :
    @Eq EReal (iblk m c 1 t (ix2 k r)) (m ((c : Thread nD τ).loc main_arg0) (ix2 a r)) := by
  blk_simp [iblk]
  entry_read
  pointwise
  blk_ext [idx t, ha]

/-- The body at the second point of a pair, over the blocks of both points of the pair. -/
theorem point (c : Dev nD) (t t' : Fin cfg0.N) (ht : t.val % 2 = 1) (h' : t'.val + 1 = t.val) (y) :
    k0_pay3 (k0_pay2 (k0_pay1 (iblk m c 0 t') (iblk m c 1 t')) (iblk m c 0 t) (iblk m c 1 t)) y
      = left (m ((c : Thread nD τ).loc main_arg1)) (m ((c : Thread nD τ).loc main_arg0)) (((cfg0.win 2).blk t).view.emb y) := by
  have e0 : t'.val % 2 = 0 := by omega
  have e1 : t'.val / 2 = t.val / 2 := by omega
  have p0 : ((((cfg0.win 2).blk t).view.emb y) 0).val = t.val / 2 * 1280 + (y 0).val := by blk_simp [idx t]
  have p1 : ((((cfg0.win 2).blk t).view.emb y) 1).val = (y 1).val := by blk_simp [idx t]
  have p1' : ((((cfg0.win 2).blk t).view.emb y) 1) = (y 1) := Fin.ext p1
  pointwise [k0_pay3, k0_pay2, k0_pay1, left]
  refine congrArg₂ (· + ·) (Finset.sum_congr rfl fun k _ => ?_) (Finset.sum_congr rfl fun k _ => ?_)
  · exact congrArg₂ (· * ·) (incoming m c t' k (y 0) (lower k) _ (by rw [e0]; show k.val = _; omega) (by rw [e1]; exact p0))
      ((input m c t' k (y 1) (lower k) (by rw [e0]; show k.val = _; omega)).trans (by rw [← p1']))
  · exact congrArg₂ (· * ·) (incoming m c t k (y 0) (upper k) _ (by rw [ht]) p0)
      ((input m c t k (y 1) (upper k) (by rw [ht])).trans (by rw [← p1']))

/-- What the first point of a pair leaves in the accumulator. -/
theorem first (c : Dev nD) (t : Fin cfg0.N) (ht : t.val % 2 = 0) (n : ℕ) (hn : n < cfg0.N) (e : n = t.val) :
    (outsAt0 m c n hn).2 = k0_pay1 (iblk m c 0 t) (iblk m c 1 t) := by
  subst e
  rw [show outsAt0 m c t.val hn = _ from outsAt0_A m c t ht (by omega) (by omega)]
  frame_out

/-- What the second point of a pair leaves in the block of the result. -/
theorem second (c : Dev nD) (t t' : Fin cfg0.N) (ht : t.val % 2 = 1) (h' : t'.val + 1 = t.val) :
    (outsAt0 m c t.val t.isLt).1
      = k0_pay3 (k0_pay2 (k0_pay1 (iblk m c 0 t') (iblk m c 1 t')) (iblk m c 0 t) (iblk m c 1 t)) := by
  rw [outsAt0_B m c t (by omega) ht ht]
  frame_out
  rw [first m c t' (by omega) _ _ (by omega), (Memref.isWhole_whole _).read_unread]

/-- The array of the result after the run. -/
theorem final (c : Dev nD) : (dats m 0 c).arrAt 2 cfg0.N
    = left (m ((c : Thread nD τ).loc main_arg1)) (m ((c : Thread nD τ).loc main_arg0)) := by
  refine (dats m 0 c).arrAt_eq_of_covers 2 _ (by decide +kernel) fun t hf y => ?_
  have ht : t.val % 2 = 1 := (flush0_2 t).mp hf
  blk_simp
  rw [after0_2, second m c t ⟨t.val - 1, Nat.lt_of_le_of_lt (Nat.sub_le _ _) t.isLt⟩ ht (by show t.val - 1 + 1 = t.val; omega)]
  exact point m c t ⟨t.val - 1, Nat.lt_of_le_of_lt (Nat.sub_le _ _) t.isLt⟩ ht (by show t.val - 1 + 1 = t.val; omega) y

/-- What the kernel leaves is the reference's product. -/
theorem left_eq (s : FVec Ideal S4096x5120 .f32) (d : FVec Ideal S4096x1024 .f32) :
    left s d = truncf .bf16 (transpose Cert.InGradReferenceIdeal.S5120x1024 [1, 0]
      (transpose Cert.InGradReferenceIdeal.S1024x5120 [1, 0]
        (Host.dotGeneral Cert.InGradReferenceIdeal.dot_S4096x5120_S4096x1024_S5120x1024_0_0_1_1_n_n none s d)
        Cert.InGradReferenceIdeal.Gen.transposes_S5120x1024_S1024x5120_1_0)
      Cert.InGradReferenceIdeal.Gen.transposes_S1024x5120_S5120x1024_1_0) Cert.InGradReferenceIdeal.Gen.bitsLt_bf16_f32 := by
  funext i
  pointwise [left]
  exact (Cert.Numbers.sum_halves fun k => s (ix2 k (i 0)) * d (ix2 k (i 1))).symm

end Cert.InGradKernelIdeal.InGrad
end
-- ==== Proof.IntoValue.lean ====
module

public import proofs.«01_k».proof.Proof.Gen.IntoKernelIdeal.Frame
public import proofs.«01_k».proof.Proof.Gen.IntoReferenceIdeal
public import Idealize.ShloMosaic.Lib.Pipeline.ValueKit
public import Idealize.ShloMosaic.Lib.Claim
public import Idealize.ShloMosaic.Lib.StableHlo.RunRead

/-! The input projection of the mixer: every block of the result is the product of a block of rows of the hidden state with a block
of columns of the weights, each summed over the whole width at once. -/

@[expose] public section

set_option maxRecDepth 16384

noncomputable section
open Idealize.ShloMosaic Idealize.ShloMosaic.TcCoe Idealize.SL.Sem
open Idealize.ShloMosaic.Pipeline (Dat)
namespace Cert.IntoKernelIdeal.Into
open Cert.IntoKernelIdeal Cert.IntoKernelIdeal.Gen
variable (m : (ℓ : Loc nD τ sig) → Buf (Elt Ideal) ℓ)

/-- Where the blocks of each point lie. -/
theorem idx : ∀ t : Fin cfg0.N, win0_0.index t = ![t.val % 4, 0] ∧ win0_1.index t = ![t.val / 4, 0]
    ∧ win0_2.index t = ![t.val % 4, t.val / 4] := (by decide +kernel : ∀ t : Fin grid0.N, _)

/-- What the kernel leaves: the product with the hidden state. -/
def left (h : FVec Ideal S4096x1024 .f32) (w : FVec Ideal S1024x5120 .f32) : FVec Ideal S4096x5120 .bf16 := fun i =>
  (∑ k : Fin 1024, (h (ix2 (i 0) k) * w (ix2 k (i 1)) : EReal))

/-- The blocks of the arguments, each at its place in its array. -/
theorem block_h (c : Dev nD) (t : Fin cfg0.N) (r k : Fin 1024) (a : Fin 4096) (ha : a.val = t.val % 4 * 1024 + r.val) :
    @Eq EReal (iblk m c 0 t (ix2 r k)) (m ((c : Thread nD τ).loc main_arg0) (ix2 a k)) := by
  blk_simp [iblk]
  entry_read
  pointwise
  blk_ext [idx t, ha]

theorem block_w (c : Dev nD) (t : Fin cfg0.N) (r : Fin 1280) (k : Fin 1024) (a : Fin 5120) (ha : a.val = t.val / 4 * 1280 + r.val) :
    @Eq EReal (iblk m c 1 t (ix2 r k)) (m ((c : Thread nD τ).loc main_arg1) (ix2 k a)) := by
  blk_simp [iblk]
  entry_read
  pointwise
  blk_ext [idx t, ha]

/-- The body at one point. -/
theorem point (c : Dev nD) (t : Fin cfg0.N) (y : S1024x1280.Idx) (i : S4096x5120.Idx) (h0 : (i 0).val = t.val % 4 * 1024 + (y 0).val)
    (h1 : (i 1).val = t.val / 4 * 1280 + (y 1).val) :
    @Eq EReal (k0_pay1 (iblk m c 0 t) (iblk m c 1 t) y)
      (left (m ((c : Thread nD τ).loc main_arg0)) (m ((c : Thread nD τ).loc main_arg1)) i) := by
  pointwise [k0_pay1, left]
  refine Finset.sum_congr rfl fun k _ => ?_
  exact congrArg₂ (· * ·) (block_h m c t (y 0) k (i 0) h0) (block_w m c t (y 1) k (i 1) h1)

/-- The array of the result after the run. -/
theorem final (c : Dev nD) : (dats m 0 c).arrAt 2 cfg0.N
    = left (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y _ (by blk_simp [idx t]) (by blk_simp [idx t])

/-- What the kernel leaves is the reference's product. -/
theorem left_eq (h : FVec Ideal S4096x1024 .f32) (w : FVec Ideal S1024x5120 .f32) :
    left h w = truncf .bf16 (Host.dotGeneral Cert.IntoReferenceIdeal.dot_S4096x1024_S1024x5120_S4096x5120_1_0_0_1_n_n none h w)
      Cert.IntoReferenceIdeal.Gen.bitsLt_bf16_f32 := by
  funext i
  pointwise [left]

end Cert.IntoKernelIdeal.Into
end
-- ==== Proof.ResidualValue.lean ====
module

public import proofs.«01_k».proof.Proof.Gen.ResidualKernelIdeal.Frame
public import proofs.«01_k».proof.Proof.Gen.ResidualReferenceIdeal
public import proofs.«01_k».proof.Proof.NormTerms
public import Idealize.ShloMosaic.Lib.Pipeline.ValueKit
public import Idealize.ShloMosaic.Lib.Claim
public import Idealize.ShloMosaic.Lib.StableHlo.RunRead

/-! The down projection of a half-step with the residual and the norm that follows: every point takes one block of rows, adds half of
the product of the block with the weights to the rows, and leaves the sum and its normalised rows. The reference writes the same
terms over all the rows; the factor one half stands on the other side. -/

@[expose] public section

set_option maxRecDepth 16384

noncomputable section
open Idealize.ShloMosaic Idealize.ShloMosaic.TcCoe Idealize.SL.Sem
open Idealize.ShloMosaic.Pipeline (Dat)
namespace Cert.ResidualKernelIdeal.Residual
open Cert.ResidualKernelIdeal Cert.ResidualKernelIdeal.Gen
variable (m : (ℓ : Loc nD τ sig) → Buf (Elt Ideal) ℓ)

open Cert.Norm (width small square scale)

/-- Where the blocks of each point lie. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] := (by decide +kernel : ∀ t : Fin grid0.N, _)

/-- The row of the arrays that row `r` of point `t`'s blocks is. -/
abbrev row (t : Fin cfg0.N) (r : Fin 512) : Fin 4096 :=
  ⟨t.val * 512 + r.val, by have h : t.val < 8 := t.isLt; omega⟩

/-- One half, as the constants read it. -/
abbrev half : EReal := FloatOps.ofBits (F := Ideal) .f32 0x3F000000#32

/-- The rows with half of the product added, and the normalised rows. -/
def sums (s : FVec Ideal S4096x2816 .f32) (w : FVec Ideal S2816x1024 .f32) (x : FVec Ideal S4096x1024 .f32) : FVec Ideal S4096x1024 .f32 := fun i =>
  (x (ix2 (i 0) (i 1)) + (∑ k : Fin 2816, (s (ix2 (i 0) k) * w (ix2 k (i 1)) : EReal)) * half : EReal)
def normed (o : FVec Ideal S4096x1024 .f32) (g : FVec Ideal S1024 .f32) : FVec Ideal S4096x1024 .bf16 := fun i =>
  (o (ix2 (i 0) (i 1)) * scale o (i 0) * g (ix1 (i 1)) : EReal)

/-- The blocks of the arguments, each at its place in its array. -/
theorem block_s (c : Dev nD) (t : Fin cfg0.N) (r : Fin 512) (k : Fin 2816) :
    @Eq EReal (iblk m c 0 t (ix2 r k)) (m ((c : Thread nD τ).loc main_arg0) (ix2 (row t r) k)) := by
  blk_simp [iblk]
  entry_read
  pointwise
  blk_ext [idx t]

theorem block_w (c : Dev nD) (t : Fin cfg0.N) (k : Fin 2816) (z : Fin 1024) :
    @Eq EReal (iblk m c 1 t (ix2 k z)) (m ((c : Thread nD τ).loc main_arg1) (ix2 k z)) := by
  blk_simp [iblk]
  entry_read
  pointwise
  blk_ext [idx t]

theorem block_x (c : Dev nD) (t : Fin cfg0.N) (r : Fin 512) (z : Fin 1024) :
    @Eq EReal (iblk m c 2 t (ix2 r z)) (m ((c : Thread nD τ).loc main_arg2) (ix2 (row t r) z)) := by
  blk_simp [iblk]
  entry_read
  pointwise
  blk_ext [idx t]

theorem block_g (c : Dev nD) (t : Fin cfg0.N) (u : Fin 1) (z : Fin 1024) :
    @Eq EReal (iblk m c 3 t (ix2 u z)) (m ((c : Thread nD τ).loc main_arg3) (ix1 z)) := by
  blk_simp [iblk]
  entry_read
  pointwise
  blk_ext [idx t]

/-- The rows that the call leaves, as a term of the arguments. -/
abbrev out (c : Dev nD) : FVec Ideal S4096x1024 .f32 := sums (m ((c : Thread nD τ).loc main_arg0)) (m ((c : Thread nD τ).loc main_arg1))
  (m ((c : Thread nD τ).loc main_arg2))
abbrev gain (c : Dev nD) : FVec Ideal S1024 .f32 := m ((c : Thread nD τ).loc main_arg3)

/-- The payloads of the body, read at an index. -/
theorem read1 (x : Vec Ideal S512x1024 .f32) (a : Vec Ideal S512x2816 .bf16) (b : Vec Ideal S2816x1024 .bf16) (r : Fin 512) (z : Fin 1024) :
    @Eq EReal (k0_pay1 (F := Ideal) x a b (ix2 r z)) (x (ix2 r z) + (∑ k : Fin 2816, (a (ix2 r k) * b (ix2 k z) : EReal)) * half) := by
  pointwise [k0_pay1]

theorem read2 (x : Vec Ideal S512x1024 .f32) (a : Vec Ideal S512x2816 .bf16) (b : Vec Ideal S2816x1024 .bf16) (g : Vec Ideal S1x1024 .f32)
    (r : Fin 512) (z : Fin 1024) : @Eq EReal (k0_pay2 (F := Ideal) x a b g (ix2 r z))
      (k0_pay1 (F := Ideal) x a b (ix2 r z) * Ideal.rsqrt (Ideal.div (∑ j : Fin 1024, (k0_pay1 (F := Ideal) x a b (ix2 r j)
        * k0_pay1 (F := Ideal) x a b (ix2 r j) : EReal)) width + small) * g (ix2 0 z)) := by
  pointwise [k0_pay2]

/-- The payloads over the blocks of a point. -/
theorem at1 (c : Dev nD) (t : Fin cfg0.N) (r : Fin 512) (z : Fin 1024) :
    @Eq EReal (k0_pay1 (F := Ideal) (iblk m c 2 t) (iblk m c 0 t) (iblk m c 1 t) (ix2 r z)) (out m c (ix2 (row t r) z)) :=
  (read1 _ _ _ r z).trans (congrArg₂ (· + ·) (block_x m c t r z) (congrArg (· * half)
    (Finset.sum_congr rfl fun k _ => congrArg₂ (· * ·) (block_s m c t r k) (block_w m c t k z))))

theorem at2 (c : Dev nD) (t : Fin cfg0.N) (r : Fin 512) (z : Fin 1024) :
    @Eq EReal (k0_pay2 (F := Ideal) (iblk m c 2 t) (iblk m c 0 t) (iblk m c 1 t) (iblk m c 3 t) (ix2 r z)) (normed (out m c) (gain m c) (ix2 (row t r) z)) := by
  refine (read2 _ _ _ _ r z).trans ?_
  refine congrArg₂ (· * ·) (congrArg₂ (· * ·) (at1 m c t r z) (congrArg (fun v => Ideal.rsqrt (Ideal.div v width + small))
    (Finset.sum_congr rfl fun k _ => ?_))) (block_g m c t 0 z)
  exact congrArg₂ (· * ·) (at1 m c t r k) (at1 m c t r k)

/-- The two arrays after the run. -/
theorem final4 (c : Dev nD) : (dats m 0 c).arrAt 4 cfg0.N = out m c := by
  refine (dats m 0 c).arrAt_eq_of_covers 4 _ (by decide +kernel) fun t _ y => ?_
  have p : ((cfg0.win 4).blk t).view.emb y = ix2 (row t (y 0)) (y 1) := by
    funext k
    apply Fin.ext
    fin_cases k <;> (blk_simp [idx t]; rfl)
  blk_simp
  rw [after0_4]
  frame_out
  unfold k0_pay3
  simp only [shapeCast_self]
  rw [p]
  obtain ⟨r, z, rfl⟩ : ∃ r z, y = ix2 r z := ⟨y 0, y 1, by funext k; fin_cases k <;> rfl⟩
  exact at1 m c t r z

theorem final5 (c : Dev nD) : (dats m 0 c).arrAt 5 cfg0.N = normed (out m c) (gain m c) := by
  refine (dats m 0 c).arrAt_eq_of_covers 5 _ (by decide +kernel) fun t _ y => ?_
  have p : ((cfg0.win 5).blk t).view.emb y = ix2 (row t (y 0)) (y 1) := by
    funext k
    apply Fin.ext
    fin_cases k <;> (blk_simp [idx t]; rfl)
  blk_simp
  rw [after0_5]
  frame_out
  rw [p]
  obtain ⟨r, z, rfl⟩ : ∃ r z, y = ix2 r z := ⟨y 0, y 1, by funext k; fin_cases k <;> rfl⟩
  exact at2 m c t r z

/-- The reference's terms. -/
def refSums (s : FVec Ideal S4096x2816 .f32) (w : FVec Ideal S2816x1024 .f32) (x : FVec Ideal S4096x1024 .f32) : FVec Ideal S4096x1024 .f32 :=
  addf x (mulf (broadcastInDim Cert.ResidualReferenceIdeal.S4096x1024 ![] Cert.ResidualReferenceIdeal.Gen.bcast_S_S4096x1024 (constant Cert.ResidualReferenceIdeal.S_ .f32 0x3F000000#32))
    (Host.dotGeneral Cert.ResidualReferenceIdeal.dot_S4096x2816_S2816x1024_S4096x1024_1_0_0_1_n_n none s w))

def refNormed (o : FVec Ideal S4096x1024 .f32) (g : FVec Ideal S1024 .f32) : FVec Ideal S4096x1024 .bf16 :=
  truncf .bf16 (mulf (mulf o (broadcastInDim Cert.NormReferenceIdeal.S4096x1024 ![0, 1] Cert.NormReferenceIdeal.Gen.bcast_S4096x1_S4096x1024_0_1 (Host.rsqrt (Cert.Norm.refSquare o))))
    (broadcastInDim Cert.NormReferenceIdeal.S4096x1024 ![0, 1] Cert.NormReferenceIdeal.Gen.bcast_S1x1024_S4096x1024_0_1 (broadcastInDim Cert.NormReferenceIdeal.S1x1024 ![1] Cert.NormReferenceIdeal.Gen.bcast_S1024_S1x1024_1 g)))
    Cert.ResidualReferenceIdeal.Gen.bitsLt_bf16_f32

/-- What the kernel leaves is what the reference leaves: no condition is needed. -/
theorem sums_eq (s : FVec Ideal S4096x2816 .f32) (w : FVec Ideal S2816x1024 .f32) (x : FVec Ideal S4096x1024 .f32) : sums s w x = refSums s w x := by
  funext i
  obtain ⟨r, z, rfl⟩ : ∃ r z, i = ix2 r z := ⟨i 0, i 1, by funext k; fin_cases k <;> rfl⟩
  pointwise [sums, refSums]
  exact congrArg (x (ix2 r z) + · : EReal → EReal) (mul_comm _ _)

theorem normed_eq (o : FVec Ideal S4096x1024 .f32) (g : FVec Ideal S1024 .f32) : normed o g = refNormed o g := by
  funext i
  obtain ⟨r, z, rfl⟩ : ∃ r z, i = ix2 r z := ⟨i 0, i 1, by funext k; fin_cases k <;> rfl⟩
  pointwise [normed, refNormed]
  simp only [Cert.Norm.refSquare_at]
  rfl

end Cert.ResidualKernelIdeal.Residual
end
-- ==== Proof.Step.lean ====
module

public import Idealize.ShloMosaic.Lib.Pipeline.ValueKit
public import Idealize.ShloMosaic.Lib.Claim

/-! The optimiser's step of one number: its first and its second moment, and the change of the weight, each with the constants as
the programs write them. -/

@[expose] public section

noncomputable section
open Idealize.ShloMosaic
namespace Cert.Step

/-- A constant, as the programs read it. -/
abbrev con (b : BitVec 32) : EReal := FloatOps.ofBits (F := Ideal) .f32 b

/-- The moments from the gradient `g` and the moments before, and the change of the weight `w` from the moments. -/
def first (g m : EReal) : EReal := con 0x3F666666#32 * m + con 0x3DCCCCCD#32 * g
def second (g v : EReal) : EReal := con 0x3F7FBE77#32 * v + con 0x3A83126F#32 * (g * g)
def change (w m v : EReal) : EReal :=
  con 0xBA83126F#32 * (Ideal.div (Ideal.div m (con 0x3F26BD02#32)) (Ideal.sqrt (Ideal.div v (con 0x3C231ACC#32)) + con 0x322BCC77#32)
    + con 0x3C23D70A#32 * w)

end Cert.Step
end
-- ==== Proof.UpdateValue.lean ====
module

public import proofs.«01_k».proof.Proof.Gen.UpdateKernelIdeal.Frame
public import proofs.«01_k».proof.Proof.Gen.UpdateReferenceIdeal
public import proofs.«01_k».proof.Proof.Step
public import Idealize.ShloMosaic.Lib.Pipeline.ValueKit
public import Idealize.ShloMosaic.Lib.Claim

/-! The sum of the devices' gradients and the optimiser's step: every point takes one block of rows of one layer, picks that layer's
parts, adds the eight of them one after the other, and leaves the sum, the change of the weight and the two moments. The reference
sums the parts of each layer, puts the layers one after the other, and writes the step over the whole arrays. -/

@[expose] public section

set_option maxRecDepth 16384

noncomputable section
open Idealize.ShloMosaic Idealize.ShloMosaic.TcCoe Idealize.SL.Sem
open Idealize.ShloMosaic.Pipeline (Dat)
namespace Cert.UpdateKernelIdeal.Update
open Cert.UpdateKernelIdeal Cert.UpdateKernelIdeal.Gen
open Cert.Step (con first second change)
variable (m : (ℓ : Loc nD τ sig) → Buf (Elt Ideal) ℓ)

/-- Where the blocks of each point lie: the points of a layer come one after the other, and a layer's parts are read at its points. -/
theorem idx : ∀ t : Fin cfg0.N, win0_2.index t = ![t.val / 2, t.val % 2, 0] ∧ win0_3.index t = ![t.val / 2, t.val % 2, 0]
    ∧ win0_4.index t = ![t.val / 2, t.val % 2, 0] ∧ win0_5.index t = ![t.val / 2, t.val % 2, 0] ∧ win0_6.index t = ![t.val / 2, t.val % 2, 0]
    ∧ win0_7.index t = ![t.val / 2, t.val % 2, 0] ∧ win0_8.index t = ![t.val / 2, t.val % 2, 0] ∧ ((grid0.coords t) 0).val = t.val / 2 :=
  (by decide +kernel : ∀ t : Fin grid0.N, _)
theorem idx_a : ∀ t : Fin cfg0.N, t.val / 2 = 0 → win0_0.index t = ![0, t.val % 2, 0] := (by decide +kernel : ∀ t : Fin grid0.N, _)
theorem idx_b : ∀ t : Fin cfg0.N, t.val / 2 = 1 → win0_1.index t = ![0, t.val % 2, 0] := (by decide +kernel : ∀ t : Fin grid0.N, _)

/-- The layer of a point, and the row of the arrays that row `r` of its blocks is. -/
abbrev layer (t : Fin cfg0.N) : Fin 2 := ⟨t.val / 2, by have h : t.val < 4 := t.isLt; omega⟩
abbrev row (t : Fin cfg0.N) (r : Fin 176) : Fin 352 := ⟨t.val % 2 * 176 + r.val, by omega⟩

/-- The sum of a layer's parts, and the arrays that the call leaves. -/
def total (p q : FVec Ideal S8x352x1024 .bf16) : FVec Ideal S2x352x1024 .f32 := fun i =>
  if (i 0).val = 0 then (∑ s : Fin 8, (p (ix3 s (i 1) (i 2)) : EReal)) else ∑ s : Fin 8, (q (ix3 s (i 1) (i 2)) : EReal)
def firsts (g n : FVec Ideal S2x352x1024 .f32) : FVec Ideal S2x352x1024 .f32 := fun i => first (g i) (n i)
def seconds (g v : FVec Ideal S2x352x1024 .f32) : FVec Ideal S2x352x1024 .f32 := fun i => second (g i) (v i)
def changes (w n v : FVec Ideal S2x352x1024 .f32) : FVec Ideal S2x352x1024 .f32 := fun i => change (w i) (n i) (v i)

/-- The blocks of the arguments, each at its place in its array. -/
theorem block_p (c : Dev nD) (t : Fin cfg0.N) (h : t.val / 2 = 0) (s : Fin 8) (r : Fin 176) (z : Fin 1024) :
    @Eq EReal (iblk m c 0 t (ix3 s r z)) (m ((c : Thread nD τ).loc main_arg0) (ix3 s (row t r) z)) := by
  blk_simp [iblk]
  entry_read
  blk_ext [idx_a t h]

theorem block_q (c : Dev nD) (t : Fin cfg0.N) (h : t.val / 2 = 1) (s : Fin 8) (r : Fin 176) (z : Fin 1024) :
    @Eq EReal (iblk m c 1 t (ix3 s r z)) (m ((c : Thread nD τ).loc main_arg1) (ix3 s (row t r) z)) := by
  blk_simp [iblk]
  entry_read
  blk_ext [idx_b t h]

theorem block_w (c : Dev nD) (t : Fin cfg0.N) (u : Fin 1) (r : Fin 176) (z : Fin 1024) :
    @Eq EReal (iblk m c 2 t (ix3 u r z)) (m ((c : Thread nD τ).loc main_arg2) (ix3 (layer t) (row t r) z)) := by
  blk_simp [iblk]
  entry_read
  blk_ext [idx t]

theorem block_n (c : Dev nD) (t : Fin cfg0.N) (u : Fin 1) (r : Fin 176) (z : Fin 1024) :
    @Eq EReal (iblk m c 3 t (ix3 u r z)) (m ((c : Thread nD τ).loc main_arg3) (ix3 (layer t) (row t r) z)) := by
  blk_simp [iblk]
  entry_read
  blk_ext [idx t]

theorem block_v (c : Dev nD) (t : Fin cfg0.N) (u : Fin 1) (r : Fin 176) (z : Fin 1024) :
    @Eq EReal (iblk m c 4 t (ix3 u r z)) (m ((c : Thread nD τ).loc main_arg4) (ix3 (layer t) (row t r) z)) := by
  blk_simp [iblk]
  entry_read
  blk_ext [idx t]

/-- The sum of the body at a point of the first layer, and at one of the second. -/
theorem read13_a (i : grid0.Coords) (h : (i 0).val = 0) (x y : Vec Ideal S8x176x1024 .bf16) (w n v : Vec Ideal S1x176x1024 .f32) (r : Fin 176) (z : Fin 1024) :
    @Eq EReal (k0_pay13 (F := Ideal) i x y w n v (ix2 r z)) (∑ s : Fin 8, (x (ix3 s r z) : EReal)) := by
  have e : Scalar.cmpi .eq (BitVec.ofNat 32 0) 0#32 = 1#1 := rfl
  unfold k0_pay13 k0_pay11 k0_pay2
  simp only [h, e]
  pointwise [k0_pay4, k0_pay12, k0_pay3]
  rw [Fin.sum_univ_eight]

theorem read13_b (i : grid0.Coords) (h : (i 0).val = 1) (x y : Vec Ideal S8x176x1024 .bf16) (w n v : Vec Ideal S1x176x1024 .f32) (r : Fin 176) (z : Fin 1024) :
    @Eq EReal (k0_pay13 (F := Ideal) i x y w n v (ix2 r z)) (∑ s : Fin 8, (y (ix3 s r z) : EReal)) := by
  have e : Scalar.cmpi .eq (BitVec.ofNat 32 1) 0#32 = 0#1 := rfl
  unfold k0_pay13 k0_pay11 k0_pay2
  simp only [h, e]
  pointwise [k0_pay4, k0_pay12, k0_pay3]
  rw [Fin.sum_univ_eight]

/-- The other payloads, read at an index. -/
theorem read14 (i : grid0.Coords) (x y : Vec Ideal S8x176x1024 .bf16) (w n v : Vec Ideal S1x176x1024 .f32) (r : Fin 176) (z : Fin 1024) :
    @Eq EReal (k0_pay14 (F := Ideal) i x y w n v (ix2 r z)) (first (k0_pay13 (F := Ideal) i x y w n v (ix2 r z)) (n (ix3 0 r z))) := by
  unfold k0_pay14 k0_pay13 k0_pay5
  pointwise [first]

theorem read6 (g : FVec Ideal S176x1024 .f32) (v : Vec Ideal S1x176x1024 .f32) (r : Fin 176) (z : Fin 1024) :
    @Eq EReal (k0_pay6 (F := Ideal) g v (ix2 r z)) (second (g (ix2 r z)) (v (ix3 0 r z))) := by
  pointwise [k0_pay6, second]

theorem read10 (g n : FVec Ideal S176x1024 .f32) (v w : Vec Ideal S1x176x1024 .f32) (r : Fin 176) (z : Fin 1024) :
    @Eq EReal (k0_pay10 (F := Ideal) g n v w (ix2 r z)) (change (w (ix3 0 r z)) (n (ix2 r z)) (k0_pay6 (F := Ideal) g v (ix2 r z))) := by
  pointwise [k0_pay10, change]

/-- The arguments, by name. -/
abbrev argP (c : Dev nD) : FVec Ideal S8x352x1024 .bf16 := m ((c : Thread nD τ).loc main_arg0)
abbrev argQ (c : Dev nD) : FVec Ideal S8x352x1024 .bf16 := m ((c : Thread nD τ).loc main_arg1)
abbrev argW (c : Dev nD) : FVec Ideal S2x352x1024 .f32 := m ((c : Thread nD τ).loc main_arg2)
abbrev argN (c : Dev nD) : FVec Ideal S2x352x1024 .f32 := m ((c : Thread nD τ).loc main_arg3)
abbrev argV (c : Dev nD) : FVec Ideal S2x352x1024 .f32 := m ((c : Thread nD τ).loc main_arg4)

/-- The payloads over the blocks of a point. -/
abbrev pay13 (c : Dev nD) (t : Fin cfg0.N) : FVec Ideal S176x1024 .f32 :=
  k0_pay13 (F := Ideal) (grid0.coords t) (iblk m c 0 t) (iblk m c 1 t) (iblk m c 2 t) (iblk m c 3 t) (iblk m c 4 t)
abbrev pay14 (c : Dev nD) (t : Fin cfg0.N) : FVec Ideal S176x1024 .f32 :=
  k0_pay14 (F := Ideal) (grid0.coords t) (iblk m c 0 t) (iblk m c 1 t) (iblk m c 2 t) (iblk m c 3 t) (iblk m c 4 t)

theorem at13 (c : Dev nD) (t : Fin cfg0.N) (r : Fin 176) (z : Fin 1024) :
    @Eq EReal (pay13 m c t (ix2 r z)) (total (argP m c) (argQ m c) (ix3 (layer t) (row t r) z)) := by
  have hc : ((grid0.coords t) 0).val = t.val / 2 := (idx t).2.2.2.2.2.2.2
  have h4 : t.val < 4 := t.isLt
  rcases Nat.eq_zero_or_pos (t.val / 2) with h | h
  · refine (read13_a _ (hc.trans h) _ _ _ _ _ r z).trans ?_
    refine Eq.trans ?_ (if_pos (show (layer t).val = 0 from h)).symm
    exact Finset.sum_congr rfl fun s _ => block_p m c t h s r z
  · have h1 : t.val / 2 = 1 := by omega
    refine (read13_b _ (hc.trans h1) _ _ _ _ _ r z).trans ?_
    refine Eq.trans ?_ (if_neg (show ¬(layer t).val = 0 from by show ¬t.val / 2 = 0; omega)).symm
    exact Finset.sum_congr rfl fun s _ => block_q m c t h1 s r z

theorem at14 (c : Dev nD) (t : Fin cfg0.N) (r : Fin 176) (z : Fin 1024) :
    @Eq EReal (pay14 m c t (ix2 r z)) (firsts (total (argP m c) (argQ m c)) (argN m c) (ix3 (layer t) (row t r) z)) :=
  (read14 _ _ _ _ _ _ r z).trans (congrArg₂ first (at13 m c t r z) (block_n m c t 0 r z))

theorem at6 (c : Dev nD) (t : Fin cfg0.N) (r : Fin 176) (z : Fin 1024) :
    @Eq EReal (k0_pay6 (F := Ideal) (pay13 m c t) (iblk m c 4 t) (ix2 r z)) (seconds (total (argP m c) (argQ m c)) (argV m c) (ix3 (layer t) (row t r) z)) :=
  (read6 _ _ r z).trans (congrArg₂ second (at13 m c t r z) (block_v m c t 0 r z))

theorem at10 (c : Dev nD) (t : Fin cfg0.N) (r : Fin 176) (z : Fin 1024) :
    @Eq EReal (k0_pay10 (F := Ideal) (pay13 m c t) (pay14 m c t) (iblk m c 4 t) (iblk m c 2 t) (ix2 r z))
      (changes (argW m c) (firsts (total (argP m c) (argQ m c)) (argN m c)) (seconds (total (argP m c) (argQ m c)) (argV m c)) (ix3 (layer t) (row t r) z)) := by
  refine (read10 _ _ _ _ r z).trans ?_
  rw [at6, at14]
  exact congrArg (fun u => change u _ _) (block_w m c t 0 r z)

/-- The stored blocks carry a first axis of size one. -/
theorem unit1 (x : FVec Ideal S176x1024 .f32) (u : Fin 1) (r : Fin 176) (z : Fin 1024) : @Eq EReal (k0_pay1 (F := Ideal) x (ix3 u r z)) (x (ix2 r z)) := by
  pointwise [k0_pay1]
theorem unit7 (x : FVec Ideal S176x1024 .f32) (u : Fin 1) (r : Fin 176) (z : Fin 1024) : @Eq EReal (k0_pay7 (F := Ideal) x (ix3 u r z)) (x (ix2 r z)) := by
  pointwise [k0_pay7]
theorem unit8 (x : FVec Ideal S176x1024 .f32) (u : Fin 1) (r : Fin 176) (z : Fin 1024) : @Eq EReal (k0_pay8 (F := Ideal) x (ix3 u r z)) (x (ix2 r z)) := by
  pointwise [k0_pay8]
theorem unit9 (x : FVec Ideal S176x1024 .f32) (v : Vec Ideal S1x176x1024 .f32) (u : Fin 1) (r : Fin 176) (z : Fin 1024) :
    @Eq EReal (k0_pay9 (F := Ideal) x v (ix3 u r z)) (k0_pay6 (F := Ideal) x v (ix2 r z)) := by
  pointwise [k0_pay9]

/-- The four arrays after the run. -/
theorem final5 (c : Dev nD) : (dats m 0 c).arrAt 5 cfg0.N = total (argP m c) (argQ m c) := by
  refine (dats m 0 c).arrAt_eq_of_covers 5 _ (by decide +kernel) fun t _ y => ?_
  have p : ((cfg0.win 5).blk t).view.emb y = ix3 (layer t) (row t (y 1)) (y 2) := by
    funext k
    apply Fin.ext
    fin_cases k <;> (blk_simp [idx t]; rfl)
  blk_simp
  rw [after0_5, p]
  frame_out
  obtain ⟨u, r, z, rfl⟩ : ∃ u r z, y = ix3 u r z := ⟨y 0, y 1, y 2, by funext k; fin_cases k <;> rfl⟩
  exact (unit7 _ u r z).trans (at13 m c t r z)

theorem final6 (c : Dev nD) : (dats m 0 c).arrAt 6 cfg0.N
    = changes (argW m c) (firsts (total (argP m c) (argQ m c)) (argN m c)) (seconds (total (argP m c) (argQ m c)) (argV m c)) := by
  refine (dats m 0 c).arrAt_eq_of_covers 6 _ (by decide +kernel) fun t _ y => ?_
  have p : ((cfg0.win 6).blk t).view.emb y = ix3 (layer t) (row t (y 1)) (y 2) := by
    funext k
    apply Fin.ext
    fin_cases k <;> (blk_simp [idx t]; rfl)
  blk_simp
  rw [after0_6, p]
  frame_out
  obtain ⟨u, r, z, rfl⟩ : ∃ u r z, y = ix3 u r z := ⟨y 0, y 1, y 2, by funext k; fin_cases k <;> rfl⟩
  exact (unit1 _ u r z).trans (at10 m c t r z)

theorem final7 (c : Dev nD) : (dats m 0 c).arrAt 7 cfg0.N = firsts (total (argP m c) (argQ m c)) (argN m c) := by
  refine (dats m 0 c).arrAt_eq_of_covers 7 _ (by decide +kernel) fun t _ y => ?_
  have p : ((cfg0.win 7).blk t).view.emb y = ix3 (layer t) (row t (y 1)) (y 2) := by
    funext k
    apply Fin.ext
    fin_cases k <;> (blk_simp [idx t]; rfl)
  blk_simp
  rw [after0_7, p]
  frame_out
  obtain ⟨u, r, z, rfl⟩ : ∃ u r z, y = ix3 u r z := ⟨y 0, y 1, y 2, by funext k; fin_cases k <;> rfl⟩
  exact (unit8 _ u r z).trans (at14 m c t r z)

theorem final8 (c : Dev nD) : (dats m 0 c).arrAt 8 cfg0.N = seconds (total (argP m c) (argQ m c)) (argV m c) := by
  refine (dats m 0 c).arrAt_eq_of_covers 8 _ (by decide +kernel) fun t _ y => ?_
  have p : ((cfg0.win 8).blk t).view.emb y = ix3 (layer t) (row t (y 1)) (y 2) := by
    funext k
    apply Fin.ext
    fin_cases k <;> (blk_simp [idx t]; rfl)
  blk_simp
  rw [after0_8, p]
  frame_out
  obtain ⟨u, r, z, rfl⟩ : ∃ u r z, y = ix3 u r z := ⟨y 0, y 1, y 2, by funext k; fin_cases k <;> rfl⟩
  exact (unit9 _ _ u r z).trans (at6 m c t r z)

/-! The reference's terms. -/

/-- A constant at every index. -/
abbrev all (b : BitVec 32) : FVec Ideal S2x352x1024 .f32 :=
  broadcastInDim Cert.UpdateReferenceIdeal.S2x352x1024 ![] Cert.UpdateReferenceIdeal.Gen.bcast_S_S2x352x1024 (constant Cert.UpdateReferenceIdeal.S_ .f32 b)

/-- The sum of one layer's parts, with a first axis of size one, and both layers one after the other. -/
abbrev refSum (p : FVec Ideal S8x352x1024 .bf16) : FVec Ideal Cert.UpdateReferenceIdeal.S1x352x1024 .f32 :=
  broadcastInDim Cert.UpdateReferenceIdeal.S1x352x1024 ![1, 2] Cert.UpdateReferenceIdeal.Gen.bcast_S352x1024_S1x352x1024_1_2
    (Host.reduceAdd (extf .f32 p Cert.UpdateReferenceIdeal.Gen.bitsLt_bf16_f32) (constant Cert.UpdateReferenceIdeal.S_ .f32 0x00000000#32)
      Cert.UpdateReferenceIdeal.Gen.reducesTo_S8x352x1024_S352x1024_d0 Cert.UpdateReferenceIdeal.Gen.h_S_)
def refTotal (p q : FVec Ideal S8x352x1024 .bf16) : FVec Ideal S2x352x1024 .f32 :=
  concatenate Cert.UpdateReferenceIdeal.S2x352x1024 0 [⟨Cert.UpdateReferenceIdeal.S1x352x1024, refSum p⟩, ⟨Cert.UpdateReferenceIdeal.S1x352x1024, refSum q⟩]
    Cert.UpdateReferenceIdeal.Gen.concatenates_S1x352x1024_S1x352x1024_S2x352x1024_d0
def refFirst (g n : FVec Ideal S2x352x1024 .f32) : FVec Ideal S2x352x1024 .f32 := addf (mulf (all 0x3F666666#32) n) (mulf (all 0x3DCCCCCD#32) g)
def refSecond (g v : FVec Ideal S2x352x1024 .f32) : FVec Ideal S2x352x1024 .f32 := addf (mulf (all 0x3F7FBE77#32) v) (mulf (all 0x3A83126F#32) (mulf g g))
def refStep (w n v : FVec Ideal S2x352x1024 .f32) : FVec Ideal S2x352x1024 .f32 :=
  mulf (all 0xBA83126F#32) (addf (Host.divf (Host.divf n (all 0x3F26BD02#32))
    (addf (Host.sqrt (Host.divf v (all 0x3C231ACC#32))) (all 0x322BCC77#32))) (mulf (all 0x3C23D70A#32) w))

/-- What the kernel leaves is what the reference leaves. -/
theorem total_eq (p q : FVec Ideal S8x352x1024 .bf16) : total p q = refTotal p q := by
  funext i
  obtain ⟨l, r, z, rfl⟩ : ∃ l r z, i = ix3 l r z := ⟨i 0, i 1, i 2, by funext k; fin_cases k <;> rfl⟩
  match l with
  | 0 => pointwise [total, refTotal]
  | 1 => pointwise [total, refTotal]

theorem firsts_eq (g n : FVec Ideal S2x352x1024 .f32) : firsts g n = refFirst g n := rfl
theorem seconds_eq (g v : FVec Ideal S2x352x1024 .f32) : seconds g v = refSecond g v := rfl
theorem changes_eq (w n v : FVec Ideal S2x352x1024 .f32) : changes w n v = refStep w n v := rfl

end Cert.UpdateKernelIdeal.Update
end
-- ==== Proof.GainValue.lean ====
module

public import proofs.«01_k».proof.Proof.Gen.GainKernelIdeal.Value
public import proofs.«01_k».proof.Proof.Gen.GainReferenceIdeal
public import Idealize.ShloMosaic.Lib.Pipeline.ValueKit
public import Idealize.ShloMosaic.Lib.Claim

/-! The optimiser's step of the gains: the kernel and the reference write the same terms at every index. -/

@[expose] public section

set_option maxRecDepth 16384

noncomputable section
open Idealize.ShloMosaic Idealize.ShloMosaic.TcCoe Idealize.SL.Sem
namespace Cert.GainKernelIdeal.Gain
open Cert.GainKernelIdeal Cert.GainKernelIdeal.Gen

/-- A constant at every index. -/
abbrev all (b : BitVec 32) : FVec Ideal S1x8x1024 .f32 :=
  broadcastInDim Cert.GainReferenceIdeal.S1x8x1024 ![] Cert.GainReferenceIdeal.Gen.bcast_S_S1x8x1024 (constant Cert.GainReferenceIdeal.S_ .f32 b)

/-- The reference's two moments and its step. -/
def refFirst (g m : FVec Ideal S1x8x1024 .f32) : FVec Ideal S1x8x1024 .f32 := addf (mulf (all 0x3F666666#32) m) (mulf (all 0x3DCCCCCD#32) g)
def refSecond (g v : FVec Ideal S1x8x1024 .f32) : FVec Ideal S1x8x1024 .f32 := addf (mulf (all 0x3F7FBE77#32) v) (mulf (all 0x3A83126F#32) (mulf g g))
def refStep (g w m v : FVec Ideal S1x8x1024 .f32) : FVec Ideal S1x8x1024 .f32 :=
  mulf (all 0xBA83126F#32) (addf (Host.divf (Host.divf (refFirst g m) (all 0x3F26BD02#32))
    (addf (Host.sqrt (Host.divf (refSecond g v) (all 0x3C231ACC#32))) (all 0x322BCC77#32))) (mulf (all 0x3C23D70A#32) w))

/-- The three arrays that the kernel leaves are the reference's. -/
theorem first_eq (g w m v : FVec Ideal S1x8x1024 .f32) : Value.G5 (F := Ideal) g w m v = refFirst g m := by
  funext i
  obtain ⟨l, r, z, rfl⟩ : ∃ l r z, i = ix3 l r z := ⟨i 0, i 1, i 2, by funext k; fin_cases k <;> rfl⟩
  pointwise [Value.G5, k0_pay4, k0_pay2, refFirst]

theorem second_eq (g w m v : FVec Ideal S1x8x1024 .f32) : Value.G6 (F := Ideal) g w m v = refSecond g v := by
  funext i
  obtain ⟨l, r, z, rfl⟩ : ∃ l r z, i = ix3 l r z := ⟨i 0, i 1, i 2, by funext k; fin_cases k <;> rfl⟩
  pointwise [Value.G6, k0_pay5, k0_pay3, refSecond]

theorem step_eq (g w m v : FVec Ideal S1x8x1024 .f32) : Value.G4 (F := Ideal) g w m v = refStep g w m v := by
  funext i
  obtain ⟨l, r, z, rfl⟩ : ∃ l r z, i = ix3 l r z := ⟨i 0, i 1, i 2, by funext k; fin_cases k <;> rfl⟩
  pointwise [Value.G4, k0_pay1, k0_pay6, k0_pay7, k0_pay2, k0_pay3, refStep, refFirst, refSecond]

end Cert.GainKernelIdeal.Gain
end
-- ==== Proof.SumValue.lean ====
module

public import proofs.«01_k».proof.Proof.Gen.SumKernelIdeal.Value
public import proofs.«01_k».proof.Proof.Gen.SumReferenceIdeal
public import Idealize.ShloMosaic.Lib.Pipeline.ValueKit
public import Idealize.ShloMosaic.Lib.Claim

/-! The sum of the eight devices' parts: the kernel adds them one after the other, the reference sums over them. -/

@[expose] public section

set_option maxRecDepth 16384

noncomputable section
open Idealize.ShloMosaic Idealize.ShloMosaic.TcCoe Idealize.SL.Sem
namespace Cert.SumKernelIdeal.Sum
open Cert.SumKernelIdeal Cert.SumKernelIdeal.Gen

/-- What the kernel leaves is the sum over the parts. -/
theorem sum_eq (a : FVec Ideal S8x8x1024 .f32) : Value.G1 (F := Ideal) a
    = Host.reduceAdd a (constant Cert.SumReferenceIdeal.S_ .f32 0x00000000#32) Cert.SumReferenceIdeal.Gen.reducesTo_S8x8x1024_S8x1024_d0
      Cert.SumReferenceIdeal.Gen.h_S_ := by
  funext i
  obtain ⟨r, z, rfl⟩ : ∃ r z, i = ix2 r z := ⟨i 0, i 1, by funext k; fin_cases k <;> rfl⟩
  pointwise [Value.G1, k0_pay1]
  rw [Fin.sum_univ_eight]

end Cert.SumKernelIdeal.Sum
end
-- ==== Proof.UpdateOutValue.lean ====
module

public import proofs.«01_k».proof.Proof.Gen.UpdateOutKernelIdeal.Frame
public import proofs.«01_k».proof.Proof.Gen.UpdateOutReferenceIdeal
public import proofs.«01_k».proof.Proof.Step
public import Idealize.ShloMosaic.Lib.Pipeline.ValueKit
public import Idealize.ShloMosaic.Lib.Claim

/-! The sum of the devices' gradients and the optimiser's step for the mixer's last projection: every point takes one layer, picks
that layer's parts, adds the eight of them one after the other, and leaves the sum, the change of the weight and the two moments. The
reference sums the parts of each layer, puts the layers one after the other, and writes the step over the whole arrays. -/

@[expose] public section

set_option maxRecDepth 16384

noncomputable section
open Idealize.ShloMosaic Idealize.ShloMosaic.TcCoe Idealize.SL.Sem
open Idealize.ShloMosaic.Pipeline (Dat)
namespace Cert.UpdateOutKernelIdeal.UpdateOut
open Cert.UpdateOutKernelIdeal Cert.UpdateOutKernelIdeal.Gen
open Cert.Step (con first second change)
variable (m : (ℓ : Loc nD τ sig) → Buf (Elt Ideal) ℓ)

/-- Where the blocks of each point lie: the points of a layer come one after the other, and a layer's parts are read at its points. -/
theorem idx : ∀ t : Fin cfg0.N, win0_2.index t = ![t.val, 0, 0] ∧ win0_3.index t = ![t.val, 0, 0]
    ∧ win0_4.index t = ![t.val, 0, 0] ∧ win0_5.index t = ![t.val, 0, 0] ∧ win0_6.index t = ![t.val, 0, 0]
    ∧ win0_7.index t = ![t.val, 0, 0] ∧ win0_8.index t = ![t.val, 0, 0] ∧ ((grid0.coords t) 0).val = t.val :=
  (by decide +kernel : ∀ t : Fin grid0.N, _)
theorem idx_a : ∀ t : Fin cfg0.N, t.val = 0 → win0_0.index t = ![0, 0, 0] := (by decide +kernel : ∀ t : Fin grid0.N, _)
theorem idx_b : ∀ t : Fin cfg0.N, t.val = 1 → win0_1.index t = ![0, 0, 0] := (by decide +kernel : ∀ t : Fin grid0.N, _)

/-- The layer of a point, and the row of the arrays that row `r` of its blocks is (a block holds all the rows). -/
abbrev layer (t : Fin cfg0.N) : Fin 2 := ⟨t.val, t.isLt⟩
abbrev row (t : Fin cfg0.N) (r : Fin 128) : Fin 128 := r

/-- The sum of a layer's parts, and the arrays that the call leaves. -/
def total (p q : FVec Ideal S8x128x1024 .bf16) : FVec Ideal S2x128x1024 .f32 := fun i =>
  if (i 0).val = 0 then (∑ s : Fin 8, (p (ix3 s (i 1) (i 2)) : EReal)) else ∑ s : Fin 8, (q (ix3 s (i 1) (i 2)) : EReal)
def firsts (g n : FVec Ideal S2x128x1024 .f32) : FVec Ideal S2x128x1024 .f32 := fun i => first (g i) (n i)
def seconds (g v : FVec Ideal S2x128x1024 .f32) : FVec Ideal S2x128x1024 .f32 := fun i => second (g i) (v i)
def changes (w n v : FVec Ideal S2x128x1024 .f32) : FVec Ideal S2x128x1024 .f32 := fun i => change (w i) (n i) (v i)

/-- The blocks of the arguments, each at its place in its array. -/
theorem block_p (c : Dev nD) (t : Fin cfg0.N) (h : t.val = 0) (s : Fin 8) (r : Fin 128) (z : Fin 1024) :
    @Eq EReal (iblk m c 0 t (ix3 s r z)) (m ((c : Thread nD τ).loc main_arg0) (ix3 s (row t r) z)) := by
  blk_simp [iblk]
  entry_read
  blk_ext [idx_a t h]

theorem block_q (c : Dev nD) (t : Fin cfg0.N) (h : t.val = 1) (s : Fin 8) (r : Fin 128) (z : Fin 1024) :
    @Eq EReal (iblk m c 1 t (ix3 s r z)) (m ((c : Thread nD τ).loc main_arg1) (ix3 s (row t r) z)) := by
  blk_simp [iblk]
  entry_read
  blk_ext [idx_b t h]

theorem block_w (c : Dev nD) (t : Fin cfg0.N) (u : Fin 1) (r : Fin 128) (z : Fin 1024) :
    @Eq EReal (iblk m c 2 t (ix3 u r z)) (m ((c : Thread nD τ).loc main_arg2) (ix3 (layer t) (row t r) z)) := by
  blk_simp [iblk]
  entry_read
  blk_ext [idx t]

theorem block_n (c : Dev nD) (t : Fin cfg0.N) (u : Fin 1) (r : Fin 128) (z : Fin 1024) :
    @Eq EReal (iblk m c 3 t (ix3 u r z)) (m ((c : Thread nD τ).loc main_arg3) (ix3 (layer t) (row t r) z)) := by
  blk_simp [iblk]
  entry_read
  blk_ext [idx t]

theorem block_v (c : Dev nD) (t : Fin cfg0.N) (u : Fin 1) (r : Fin 128) (z : Fin 1024) :
    @Eq EReal (iblk m c 4 t (ix3 u r z)) (m ((c : Thread nD τ).loc main_arg4) (ix3 (layer t) (row t r) z)) := by
  blk_simp [iblk]
  entry_read
  blk_ext [idx t]

/-- The sum of the body at a point of the first layer, and at one of the second. -/
theorem read13_a (i : grid0.Coords) (h : (i 0).val = 0) (x y : Vec Ideal S8x128x1024 .bf16) (w n v : Vec Ideal S1x128x1024 .f32) (r : Fin 128) (z : Fin 1024) :
    @Eq EReal (k0_pay13 (F := Ideal) i x y w n v (ix2 r z)) (∑ s : Fin 8, (x (ix3 s r z) : EReal)) := by
  have e : Scalar.cmpi .eq (BitVec.ofNat 32 0) 0#32 = 1#1 := rfl
  unfold k0_pay13 k0_pay11 k0_pay2
  simp only [h, e]
  pointwise [k0_pay4, k0_pay12, k0_pay3]
  rw [Fin.sum_univ_eight]

theorem read13_b (i : grid0.Coords) (h : (i 0).val = 1) (x y : Vec Ideal S8x128x1024 .bf16) (w n v : Vec Ideal S1x128x1024 .f32) (r : Fin 128) (z : Fin 1024) :
    @Eq EReal (k0_pay13 (F := Ideal) i x y w n v (ix2 r z)) (∑ s : Fin 8, (y (ix3 s r z) : EReal)) := by
  have e : Scalar.cmpi .eq (BitVec.ofNat 32 1) 0#32 = 0#1 := rfl
  unfold k0_pay13 k0_pay11 k0_pay2
  simp only [h, e]
  pointwise [k0_pay4, k0_pay12, k0_pay3]
  rw [Fin.sum_univ_eight]

/-- The other payloads, read at an index. -/
theorem read14 (i : grid0.Coords) (x y : Vec Ideal S8x128x1024 .bf16) (w n v : Vec Ideal S1x128x1024 .f32) (r : Fin 128) (z : Fin 1024) :
    @Eq EReal (k0_pay14 (F := Ideal) i x y w n v (ix2 r z)) (first (k0_pay13 (F := Ideal) i x y w n v (ix2 r z)) (n (ix3 0 r z))) := by
  unfold k0_pay14 k0_pay13 k0_pay5
  pointwise [first]

theorem read6 (g : FVec Ideal S128x1024 .f32) (v : Vec Ideal S1x128x1024 .f32) (r : Fin 128) (z : Fin 1024) :
    @Eq EReal (k0_pay6 (F := Ideal) g v (ix2 r z)) (second (g (ix2 r z)) (v (ix3 0 r z))) := by
  pointwise [k0_pay6, second]

theorem read10 (g n : FVec Ideal S128x1024 .f32) (v w : Vec Ideal S1x128x1024 .f32) (r : Fin 128) (z : Fin 1024) :
    @Eq EReal (k0_pay10 (F := Ideal) g n v w (ix2 r z)) (change (w (ix3 0 r z)) (n (ix2 r z)) (k0_pay6 (F := Ideal) g v (ix2 r z))) := by
  pointwise [k0_pay10, change]

/-- The arguments, by name. -/
abbrev argP (c : Dev nD) : FVec Ideal S8x128x1024 .bf16 := m ((c : Thread nD τ).loc main_arg0)
abbrev argQ (c : Dev nD) : FVec Ideal S8x128x1024 .bf16 := m ((c : Thread nD τ).loc main_arg1)
abbrev argW (c : Dev nD) : FVec Ideal S2x128x1024 .f32 := m ((c : Thread nD τ).loc main_arg2)
abbrev argN (c : Dev nD) : FVec Ideal S2x128x1024 .f32 := m ((c : Thread nD τ).loc main_arg3)
abbrev argV (c : Dev nD) : FVec Ideal S2x128x1024 .f32 := m ((c : Thread nD τ).loc main_arg4)

/-- The payloads over the blocks of a point. -/
abbrev pay13 (c : Dev nD) (t : Fin cfg0.N) : FVec Ideal S128x1024 .f32 :=
  k0_pay13 (F := Ideal) (grid0.coords t) (iblk m c 0 t) (iblk m c 1 t) (iblk m c 2 t) (iblk m c 3 t) (iblk m c 4 t)
abbrev pay14 (c : Dev nD) (t : Fin cfg0.N) : FVec Ideal S128x1024 .f32 :=
  k0_pay14 (F := Ideal) (grid0.coords t) (iblk m c 0 t) (iblk m c 1 t) (iblk m c 2 t) (iblk m c 3 t) (iblk m c 4 t)

theorem at13 (c : Dev nD) (t : Fin cfg0.N) (r : Fin 128) (z : Fin 1024) :
    @Eq EReal (pay13 m c t (ix2 r z)) (total (argP m c) (argQ m c) (ix3 (layer t) (row t r) z)) := by
  have hc : ((grid0.coords t) 0).val = t.val := (idx t).2.2.2.2.2.2.2
  have h4 : t.val < 2 := t.isLt
  rcases Nat.eq_zero_or_pos (t.val) with h | h
  · refine (read13_a _ (hc.trans h) _ _ _ _ _ r z).trans ?_
    refine Eq.trans ?_ (if_pos (show (layer t).val = 0 from h)).symm
    exact Finset.sum_congr rfl fun s _ => block_p m c t h s r z
  · have h1 : t.val = 1 := by omega
    refine (read13_b _ (hc.trans h1) _ _ _ _ _ r z).trans ?_
    refine Eq.trans ?_ (if_neg (show ¬(layer t).val = 0 from by show ¬t.val = 0; omega)).symm
    exact Finset.sum_congr rfl fun s _ => block_q m c t h1 s r z

theorem at14 (c : Dev nD) (t : Fin cfg0.N) (r : Fin 128) (z : Fin 1024) :
    @Eq EReal (pay14 m c t (ix2 r z)) (firsts (total (argP m c) (argQ m c)) (argN m c) (ix3 (layer t) (row t r) z)) :=
  (read14 _ _ _ _ _ _ r z).trans (congrArg₂ first (at13 m c t r z) (block_n m c t 0 r z))

theorem at6 (c : Dev nD) (t : Fin cfg0.N) (r : Fin 128) (z : Fin 1024) :
    @Eq EReal (k0_pay6 (F := Ideal) (pay13 m c t) (iblk m c 4 t) (ix2 r z)) (seconds (total (argP m c) (argQ m c)) (argV m c) (ix3 (layer t) (row t r) z)) :=
  (read6 _ _ r z).trans (congrArg₂ second (at13 m c t r z) (block_v m c t 0 r z))

theorem at10 (c : Dev nD) (t : Fin cfg0.N) (r : Fin 128) (z : Fin 1024) :
    @Eq EReal (k0_pay10 (F := Ideal) (pay13 m c t) (pay14 m c t) (iblk m c 4 t) (iblk m c 2 t) (ix2 r z))
      (changes (argW m c) (firsts (total (argP m c) (argQ m c)) (argN m c)) (seconds (total (argP m c) (argQ m c)) (argV m c)) (ix3 (layer t) (row t r) z)) := by
  refine (read10 _ _ _ _ r z).trans ?_
  rw [at6, at14]
  exact congrArg (fun u => change u _ _) (block_w m c t 0 r z)

/-- The stored blocks carry a first axis of size one. -/
theorem unit1 (x : FVec Ideal S128x1024 .f32) (u : Fin 1) (r : Fin 128) (z : Fin 1024) : @Eq EReal (k0_pay1 (F := Ideal) x (ix3 u r z)) (x (ix2 r z)) := by
  pointwise [k0_pay1]
theorem unit7 (x : FVec Ideal S128x1024 .f32) (u : Fin 1) (r : Fin 128) (z : Fin 1024) : @Eq EReal (k0_pay7 (F := Ideal) x (ix3 u r z)) (x (ix2 r z)) := by
  pointwise [k0_pay7]
theorem unit8 (x : FVec Ideal S128x1024 .f32) (u : Fin 1) (r : Fin 128) (z : Fin 1024) : @Eq EReal (k0_pay8 (F := Ideal) x (ix3 u r z)) (x (ix2 r z)) := by
  pointwise [k0_pay8]
theorem unit9 (x : FVec Ideal S128x1024 .f32) (v : Vec Ideal S1x128x1024 .f32) (u : Fin 1) (r : Fin 128) (z : Fin 1024) :
    @Eq EReal (k0_pay9 (F := Ideal) x v (ix3 u r z)) (k0_pay6 (F := Ideal) x v (ix2 r z)) := by
  pointwise [k0_pay9]

/-- The four arrays after the run. -/
theorem final5 (c : Dev nD) : (dats m 0 c).arrAt 5 cfg0.N = total (argP m c) (argQ m c) := by
  refine (dats m 0 c).arrAt_eq_of_covers 5 _ (by decide +kernel) fun t _ y => ?_
  have p : ((cfg0.win 5).blk t).view.emb y = ix3 (layer t) (row t (y 1)) (y 2) := by
    funext k
    apply Fin.ext
    fin_cases k <;> (blk_simp [idx t]; rfl)
  blk_simp
  rw [after0_5, p]
  frame_out
  obtain ⟨u, r, z, rfl⟩ : ∃ u r z, y = ix3 u r z := ⟨y 0, y 1, y 2, by funext k; fin_cases k <;> rfl⟩
  exact (unit7 _ u r z).trans (at13 m c t r z)

theorem final6 (c : Dev nD) : (dats m 0 c).arrAt 6 cfg0.N
    = changes (argW m c) (firsts (total (argP m c) (argQ m c)) (argN m c)) (seconds (total (argP m c) (argQ m c)) (argV m c)) := by
  refine (dats m 0 c).arrAt_eq_of_covers 6 _ (by decide +kernel) fun t _ y => ?_
  have p : ((cfg0.win 6).blk t).view.emb y = ix3 (layer t) (row t (y 1)) (y 2) := by
    funext k
    apply Fin.ext
    fin_cases k <;> (blk_simp [idx t]; rfl)
  blk_simp
  rw [after0_6, p]
  frame_out
  obtain ⟨u, r, z, rfl⟩ : ∃ u r z, y = ix3 u r z := ⟨y 0, y 1, y 2, by funext k; fin_cases k <;> rfl⟩
  exact (unit1 _ u r z).trans (at10 m c t r z)

theorem final7 (c : Dev nD) : (dats m 0 c).arrAt 7 cfg0.N = firsts (total (argP m c) (argQ m c)) (argN m c) := by
  refine (dats m 0 c).arrAt_eq_of_covers 7 _ (by decide +kernel) fun t _ y => ?_
  have p : ((cfg0.win 7).blk t).view.emb y = ix3 (layer t) (row t (y 1)) (y 2) := by
    funext k
    apply Fin.ext
    fin_cases k <;> (blk_simp [idx t]; rfl)
  blk_simp
  rw [after0_7, p]
  frame_out
  obtain ⟨u, r, z, rfl⟩ : ∃ u r z, y = ix3 u r z := ⟨y 0, y 1, y 2, by funext k; fin_cases k <;> rfl⟩
  exact (unit8 _ u r z).trans (at14 m c t r z)

theorem final8 (c : Dev nD) : (dats m 0 c).arrAt 8 cfg0.N = seconds (total (argP m c) (argQ m c)) (argV m c) := by
  refine (dats m 0 c).arrAt_eq_of_covers 8 _ (by decide +kernel) fun t _ y => ?_
  have p : ((cfg0.win 8).blk t).view.emb y = ix3 (layer t) (row t (y 1)) (y 2) := by
    funext k
    apply Fin.ext
    fin_cases k <;> (blk_simp [idx t]; rfl)
  blk_simp
  rw [after0_8, p]
  frame_out
  obtain ⟨u, r, z, rfl⟩ : ∃ u r z, y = ix3 u r z := ⟨y 0, y 1, y 2, by funext k; fin_cases k <;> rfl⟩
  exact (unit9 _ _ u r z).trans (at6 m c t r z)

/-! The reference's terms. -/

/-- A constant at every index. -/
abbrev all (b : BitVec 32) : FVec Ideal S2x128x1024 .f32 :=
  broadcastInDim Cert.UpdateOutReferenceIdeal.S2x128x1024 ![] Cert.UpdateOutReferenceIdeal.Gen.bcast_S_S2x128x1024 (constant Cert.UpdateOutReferenceIdeal.S_ .f32 b)

/-- The sum of one layer's parts, with a first axis of size one, and both layers one after the other. -/
abbrev refSum (p : FVec Ideal S8x128x1024 .bf16) : FVec Ideal Cert.UpdateOutReferenceIdeal.S1x128x1024 .f32 :=
  broadcastInDim Cert.UpdateOutReferenceIdeal.S1x128x1024 ![1, 2] Cert.UpdateOutReferenceIdeal.Gen.bcast_S128x1024_S1x128x1024_1_2
    (Host.reduceAdd (extf .f32 p Cert.UpdateOutReferenceIdeal.Gen.bitsLt_bf16_f32) (constant Cert.UpdateOutReferenceIdeal.S_ .f32 0x00000000#32)
      Cert.UpdateOutReferenceIdeal.Gen.reducesTo_S8x128x1024_S128x1024_d0 Cert.UpdateOutReferenceIdeal.Gen.h_S_)
def refTotal (p q : FVec Ideal S8x128x1024 .bf16) : FVec Ideal S2x128x1024 .f32 :=
  concatenate Cert.UpdateOutReferenceIdeal.S2x128x1024 0 [⟨Cert.UpdateOutReferenceIdeal.S1x128x1024, refSum p⟩, ⟨Cert.UpdateOutReferenceIdeal.S1x128x1024, refSum q⟩]
    Cert.UpdateOutReferenceIdeal.Gen.concatenates_S1x128x1024_S1x128x1024_S2x128x1024_d0
def refFirst (g n : FVec Ideal S2x128x1024 .f32) : FVec Ideal S2x128x1024 .f32 := addf (mulf (all 0x3F666666#32) n) (mulf (all 0x3DCCCCCD#32) g)
def refSecond (g v : FVec Ideal S2x128x1024 .f32) : FVec Ideal S2x128x1024 .f32 := addf (mulf (all 0x3F7FBE77#32) v) (mulf (all 0x3A83126F#32) (mulf g g))
def refStep (w n v : FVec Ideal S2x128x1024 .f32) : FVec Ideal S2x128x1024 .f32 :=
  mulf (all 0xBA83126F#32) (addf (Host.divf (Host.divf n (all 0x3F26BD02#32))
    (addf (Host.sqrt (Host.divf v (all 0x3C231ACC#32))) (all 0x322BCC77#32))) (mulf (all 0x3C23D70A#32) w))

/-- What the kernel leaves is what the reference leaves. -/
theorem total_eq (p q : FVec Ideal S8x128x1024 .bf16) : total p q = refTotal p q := by
  funext i
  obtain ⟨l, r, z, rfl⟩ : ∃ l r z, i = ix3 l r z := ⟨i 0, i 1, i 2, by funext k; fin_cases k <;> rfl⟩
  match l with
  | 0 => pointwise [total, refTotal]
  | 1 => pointwise [total, refTotal]

theorem firsts_eq (g n : FVec Ideal S2x128x1024 .f32) : firsts g n = refFirst g n := rfl
theorem seconds_eq (g v : FVec Ideal S2x128x1024 .f32) : seconds g v = refSecond g v := rfl
theorem changes_eq (w n v : FVec Ideal S2x128x1024 .f32) : changes w n v = refStep w n v := rfl

end Cert.UpdateOutKernelIdeal.UpdateOut
end
-- ==== Proof.UpdateInValue.lean ====
module

public import proofs.«01_k».proof.Proof.Gen.UpdateInKernelIdeal.Frame
public import proofs.«01_k».proof.Proof.Gen.UpdateInReferenceIdeal
public import proofs.«01_k».proof.Proof.Step
public import Idealize.ShloMosaic.Lib.Pipeline.ValueKit
public import Idealize.ShloMosaic.Lib.Claim

/-! The sum of the devices' gradients and the optimiser's step for the mixer's projections: every point takes one block of rows of one
layer, picks that layer's parts, adds the eight of them one after the other, transposes the sum, and leaves it, the change of the
weight and the two moments. The reference sums and transposes the parts of each layer, puts the layers one after the other, and
writes the step over the whole arrays. -/

@[expose] public section

set_option maxRecDepth 16384

noncomputable section
open Idealize.ShloMosaic Idealize.ShloMosaic.TcCoe Idealize.SL.Sem
open Idealize.ShloMosaic.Pipeline (Dat)
namespace Cert.UpdateInKernelIdeal.UpdateIn
open Cert.UpdateInKernelIdeal Cert.UpdateInKernelIdeal.Gen
open Cert.Step (con first second change)
variable (m : (ℓ : Loc nD τ sig) → Buf (Elt Ideal) ℓ)

/-- Where the blocks of each point lie: the points of a layer come one after the other, and a layer's parts are read at its points. -/
theorem idx : ∀ t : Fin cfg0.N, win0_2.index t = ![t.val / 4, t.val % 4, 0] ∧ win0_3.index t = ![t.val / 4, t.val % 4, 0]
    ∧ win0_4.index t = ![t.val / 4, t.val % 4, 0] ∧ win0_5.index t = ![t.val / 4, t.val % 4, 0] ∧ win0_6.index t = ![t.val / 4, t.val % 4, 0]
    ∧ win0_7.index t = ![t.val / 4, t.val % 4, 0] ∧ win0_8.index t = ![t.val / 4, t.val % 4, 0] ∧ ((grid0.coords t) 0).val = t.val / 4 :=
  (by decide +kernel : ∀ t : Fin grid0.N, _)
theorem idx_a : ∀ t : Fin cfg0.N, t.val / 4 = 0 → win0_0.index t = ![0, 0, t.val % 4] := (by decide +kernel : ∀ t : Fin grid0.N, _)
theorem idx_b : ∀ t : Fin cfg0.N, t.val / 4 = 1 → win0_1.index t = ![0, 0, t.val % 4] := (by decide +kernel : ∀ t : Fin grid0.N, _)

/-- The layer of a point, and the row of the arrays that row `r` of its blocks is. -/
abbrev layer (t : Fin cfg0.N) : Fin 2 := ⟨t.val / 4, by have h : t.val < 8 := t.isLt; omega⟩
abbrev row (t : Fin cfg0.N) (r : Fin 256) : Fin 1024 := ⟨t.val % 4 * 256 + r.val, by omega⟩

/-- The sum of a layer's parts, and the arrays that the call leaves. -/
def total (p q : FVec Ideal S8x640x1024 .bf16) : FVec Ideal S2x1024x640 .f32 := fun i =>
  if (i 0).val = 0 then (∑ s : Fin 8, (p (ix3 s (i 2) (i 1)) : EReal)) else ∑ s : Fin 8, (q (ix3 s (i 2) (i 1)) : EReal)
def firsts (g n : FVec Ideal S2x1024x640 .f32) : FVec Ideal S2x1024x640 .f32 := fun i => first (g i) (n i)
def seconds (g v : FVec Ideal S2x1024x640 .f32) : FVec Ideal S2x1024x640 .f32 := fun i => second (g i) (v i)
def changes (w n v : FVec Ideal S2x1024x640 .f32) : FVec Ideal S2x1024x640 .f32 := fun i => change (w i) (n i) (v i)

/-- The blocks of the arguments, each at its place in its array. -/
theorem block_p (c : Dev nD) (t : Fin cfg0.N) (h : t.val / 4 = 0) (s : Fin 8) (r : Fin 256) (z : Fin 640) :
    @Eq EReal (iblk m c 0 t (ix3 s z r)) (m ((c : Thread nD τ).loc main_arg0) (ix3 s z (row t r))) := by
  blk_simp [iblk]
  entry_read
  blk_ext [idx_a t h]

theorem block_q (c : Dev nD) (t : Fin cfg0.N) (h : t.val / 4 = 1) (s : Fin 8) (r : Fin 256) (z : Fin 640) :
    @Eq EReal (iblk m c 1 t (ix3 s z r)) (m ((c : Thread nD τ).loc main_arg1) (ix3 s z (row t r))) := by
  blk_simp [iblk]
  entry_read
  blk_ext [idx_b t h]

theorem block_w (c : Dev nD) (t : Fin cfg0.N) (u : Fin 1) (r : Fin 256) (z : Fin 640) :
    @Eq EReal (iblk m c 2 t (ix3 u r z)) (m ((c : Thread nD τ).loc main_arg2) (ix3 (layer t) (row t r) z)) := by
  blk_simp [iblk]
  entry_read
  blk_ext [idx t]

theorem block_n (c : Dev nD) (t : Fin cfg0.N) (u : Fin 1) (r : Fin 256) (z : Fin 640) :
    @Eq EReal (iblk m c 3 t (ix3 u r z)) (m ((c : Thread nD τ).loc main_arg3) (ix3 (layer t) (row t r) z)) := by
  blk_simp [iblk]
  entry_read
  blk_ext [idx t]

theorem block_v (c : Dev nD) (t : Fin cfg0.N) (u : Fin 1) (r : Fin 256) (z : Fin 640) :
    @Eq EReal (iblk m c 4 t (ix3 u r z)) (m ((c : Thread nD τ).loc main_arg4) (ix3 (layer t) (row t r) z)) := by
  blk_simp [iblk]
  entry_read
  blk_ext [idx t]

/-- The sum of the body at a point of the first layer, and at one of the second. -/
theorem read13_a (i : grid0.Coords) (h : (i 0).val = 0) (x y : Vec Ideal S8x640x256 .bf16) (w n v : Vec Ideal S1x256x640 .f32) (r : Fin 256) (z : Fin 640) :
    @Eq EReal (k0_pay13 (F := Ideal) i x y w n v (ix2 r z)) (∑ s : Fin 8, (x (ix3 s z r) : EReal)) := by
  have e : Scalar.cmpi .eq (BitVec.ofNat 32 0) 0#32 = 1#1 := rfl
  unfold k0_pay13 k0_pay11 k0_pay2
  simp only [h, e]
  pointwise [k0_pay4, k0_pay12, k0_pay3]
  rw [Fin.sum_univ_eight]

theorem read13_b (i : grid0.Coords) (h : (i 0).val = 1) (x y : Vec Ideal S8x640x256 .bf16) (w n v : Vec Ideal S1x256x640 .f32) (r : Fin 256) (z : Fin 640) :
    @Eq EReal (k0_pay13 (F := Ideal) i x y w n v (ix2 r z)) (∑ s : Fin 8, (y (ix3 s z r) : EReal)) := by
  have e : Scalar.cmpi .eq (BitVec.ofNat 32 1) 0#32 = 0#1 := rfl
  unfold k0_pay13 k0_pay11 k0_pay2
  simp only [h, e]
  pointwise [k0_pay4, k0_pay12, k0_pay3]
  rw [Fin.sum_univ_eight]

/-- The other payloads, read at an index. -/
theorem read14 (i : grid0.Coords) (x y : Vec Ideal S8x640x256 .bf16) (w n v : Vec Ideal S1x256x640 .f32) (r : Fin 256) (z : Fin 640) :
    @Eq EReal (k0_pay14 (F := Ideal) i x y w n v (ix2 r z)) (first (k0_pay13 (F := Ideal) i x y w n v (ix2 r z)) (n (ix3 0 r z))) := by
  unfold k0_pay14 k0_pay13 k0_pay5
  pointwise [first]

theorem read6 (g : FVec Ideal S256x640 .f32) (v : Vec Ideal S1x256x640 .f32) (r : Fin 256) (z : Fin 640) :
    @Eq EReal (k0_pay6 (F := Ideal) g v (ix2 r z)) (second (g (ix2 r z)) (v (ix3 0 r z))) := by
  pointwise [k0_pay6, second]

theorem read10 (g n : FVec Ideal S256x640 .f32) (v w : Vec Ideal S1x256x640 .f32) (r : Fin 256) (z : Fin 640) :
    @Eq EReal (k0_pay10 (F := Ideal) g n v w (ix2 r z)) (change (w (ix3 0 r z)) (n (ix2 r z)) (k0_pay6 (F := Ideal) g v (ix2 r z))) := by
  pointwise [k0_pay10, change]

/-- The arguments, by name. -/
abbrev argP (c : Dev nD) : FVec Ideal S8x640x1024 .bf16 := m ((c : Thread nD τ).loc main_arg0)
abbrev argQ (c : Dev nD) : FVec Ideal S8x640x1024 .bf16 := m ((c : Thread nD τ).loc main_arg1)
abbrev argW (c : Dev nD) : FVec Ideal S2x1024x640 .f32 := m ((c : Thread nD τ).loc main_arg2)
abbrev argN (c : Dev nD) : FVec Ideal S2x1024x640 .f32 := m ((c : Thread nD τ).loc main_arg3)
abbrev argV (c : Dev nD) : FVec Ideal S2x1024x640 .f32 := m ((c : Thread nD τ).loc main_arg4)

/-- The payloads over the blocks of a point. -/
abbrev pay13 (c : Dev nD) (t : Fin cfg0.N) : FVec Ideal S256x640 .f32 :=
  k0_pay13 (F := Ideal) (grid0.coords t) (iblk m c 0 t) (iblk m c 1 t) (iblk m c 2 t) (iblk m c 3 t) (iblk m c 4 t)
abbrev pay14 (c : Dev nD) (t : Fin cfg0.N) : FVec Ideal S256x640 .f32 :=
  k0_pay14 (F := Ideal) (grid0.coords t) (iblk m c 0 t) (iblk m c 1 t) (iblk m c 2 t) (iblk m c 3 t) (iblk m c 4 t)

theorem at13 (c : Dev nD) (t : Fin cfg0.N) (r : Fin 256) (z : Fin 640) :
    @Eq EReal (pay13 m c t (ix2 r z)) (total (argP m c) (argQ m c) (ix3 (layer t) (row t r) z)) := by
  have hc : ((grid0.coords t) 0).val = t.val / 4 := (idx t).2.2.2.2.2.2.2
  have h4 : t.val < 8 := t.isLt
  rcases Nat.eq_zero_or_pos (t.val / 4) with h | h
  · refine (read13_a _ (hc.trans h) _ _ _ _ _ r z).trans ?_
    refine Eq.trans ?_ (if_pos (show (layer t).val = 0 from h)).symm
    exact Finset.sum_congr rfl fun s _ => block_p m c t h s r z
  · have h1 : t.val / 4 = 1 := by omega
    refine (read13_b _ (hc.trans h1) _ _ _ _ _ r z).trans ?_
    refine Eq.trans ?_ (if_neg (show ¬(layer t).val = 0 from by show ¬t.val / 4 = 0; omega)).symm
    exact Finset.sum_congr rfl fun s _ => block_q m c t h1 s r z

theorem at14 (c : Dev nD) (t : Fin cfg0.N) (r : Fin 256) (z : Fin 640) :
    @Eq EReal (pay14 m c t (ix2 r z)) (firsts (total (argP m c) (argQ m c)) (argN m c) (ix3 (layer t) (row t r) z)) :=
  (read14 _ _ _ _ _ _ r z).trans (congrArg₂ first (at13 m c t r z) (block_n m c t 0 r z))

theorem at6 (c : Dev nD) (t : Fin cfg0.N) (r : Fin 256) (z : Fin 640) :
    @Eq EReal (k0_pay6 (F := Ideal) (pay13 m c t) (iblk m c 4 t) (ix2 r z)) (seconds (total (argP m c) (argQ m c)) (argV m c) (ix3 (layer t) (row t r) z)) :=
  (read6 _ _ r z).trans (congrArg₂ second (at13 m c t r z) (block_v m c t 0 r z))

theorem at10 (c : Dev nD) (t : Fin cfg0.N) (r : Fin 256) (z : Fin 640) :
    @Eq EReal (k0_pay10 (F := Ideal) (pay13 m c t) (pay14 m c t) (iblk m c 4 t) (iblk m c 2 t) (ix2 r z))
      (changes (argW m c) (firsts (total (argP m c) (argQ m c)) (argN m c)) (seconds (total (argP m c) (argQ m c)) (argV m c)) (ix3 (layer t) (row t r) z)) := by
  refine (read10 _ _ _ _ r z).trans ?_
  rw [at6, at14]
  exact congrArg (fun u => change u _ _) (block_w m c t 0 r z)

/-- The stored blocks carry a first axis of size one. -/
theorem unit1 (x : FVec Ideal S256x640 .f32) (u : Fin 1) (r : Fin 256) (z : Fin 640) : @Eq EReal (k0_pay1 (F := Ideal) x (ix3 u r z)) (x (ix2 r z)) := by
  pointwise [k0_pay1]
theorem unit7 (x : FVec Ideal S256x640 .f32) (u : Fin 1) (r : Fin 256) (z : Fin 640) : @Eq EReal (k0_pay7 (F := Ideal) x (ix3 u r z)) (x (ix2 r z)) := by
  pointwise [k0_pay7]
theorem unit8 (x : FVec Ideal S256x640 .f32) (u : Fin 1) (r : Fin 256) (z : Fin 640) : @Eq EReal (k0_pay8 (F := Ideal) x (ix3 u r z)) (x (ix2 r z)) := by
  pointwise [k0_pay8]
theorem unit9 (x : FVec Ideal S256x640 .f32) (v : Vec Ideal S1x256x640 .f32) (u : Fin 1) (r : Fin 256) (z : Fin 640) :
    @Eq EReal (k0_pay9 (F := Ideal) x v (ix3 u r z)) (k0_pay6 (F := Ideal) x v (ix2 r z)) := by
  pointwise [k0_pay9]

/-- The four arrays after the run. -/
theorem final5 (c : Dev nD) : (dats m 0 c).arrAt 5 cfg0.N = total (argP m c) (argQ m c) := by
  refine (dats m 0 c).arrAt_eq_of_covers 5 _ (by decide +kernel) fun t _ y => ?_
  have p : ((cfg0.win 5).blk t).view.emb y = ix3 (layer t) (row t (y 1)) (y 2) := by
    funext k
    apply Fin.ext
    fin_cases k <;> (blk_simp [idx t]; rfl)
  blk_simp
  rw [after0_5, p]
  frame_out
  obtain ⟨u, r, z, rfl⟩ : ∃ u r z, y = ix3 u r z := ⟨y 0, y 1, y 2, by funext k; fin_cases k <;> rfl⟩
  exact (unit7 _ u r z).trans (at13 m c t r z)

theorem final6 (c : Dev nD) : (dats m 0 c).arrAt 6 cfg0.N
    = changes (argW m c) (firsts (total (argP m c) (argQ m c)) (argN m c)) (seconds (total (argP m c) (argQ m c)) (argV m c)) := by
  refine (dats m 0 c).arrAt_eq_of_covers 6 _ (by decide +kernel) fun t _ y => ?_
  have p : ((cfg0.win 6).blk t).view.emb y = ix3 (layer t) (row t (y 1)) (y 2) := by
    funext k
    apply Fin.ext
    fin_cases k <;> (blk_simp [idx t]; rfl)
  blk_simp
  rw [after0_6, p]
  frame_out
  obtain ⟨u, r, z, rfl⟩ : ∃ u r z, y = ix3 u r z := ⟨y 0, y 1, y 2, by funext k; fin_cases k <;> rfl⟩
  exact (unit1 _ u r z).trans (at10 m c t r z)

theorem final7 (c : Dev nD) : (dats m 0 c).arrAt 7 cfg0.N = firsts (total (argP m c) (argQ m c)) (argN m c) := by
  refine (dats m 0 c).arrAt_eq_of_covers 7 _ (by decide +kernel) fun t _ y => ?_
  have p : ((cfg0.win 7).blk t).view.emb y = ix3 (layer t) (row t (y 1)) (y 2) := by
    funext k
    apply Fin.ext
    fin_cases k <;> (blk_simp [idx t]; rfl)
  blk_simp
  rw [after0_7, p]
  frame_out
  obtain ⟨u, r, z, rfl⟩ : ∃ u r z, y = ix3 u r z := ⟨y 0, y 1, y 2, by funext k; fin_cases k <;> rfl⟩
  exact (unit8 _ u r z).trans (at14 m c t r z)

theorem final8 (c : Dev nD) : (dats m 0 c).arrAt 8 cfg0.N = seconds (total (argP m c) (argQ m c)) (argV m c) := by
  refine (dats m 0 c).arrAt_eq_of_covers 8 _ (by decide +kernel) fun t _ y => ?_
  have p : ((cfg0.win 8).blk t).view.emb y = ix3 (layer t) (row t (y 1)) (y 2) := by
    funext k
    apply Fin.ext
    fin_cases k <;> (blk_simp [idx t]; rfl)
  blk_simp
  rw [after0_8, p]
  frame_out
  obtain ⟨u, r, z, rfl⟩ : ∃ u r z, y = ix3 u r z := ⟨y 0, y 1, y 2, by funext k; fin_cases k <;> rfl⟩
  exact (unit9 _ _ u r z).trans (at6 m c t r z)

/-! The reference's terms. -/

/-- A constant at every index. -/
abbrev all (b : BitVec 32) : FVec Ideal S2x1024x640 .f32 :=
  broadcastInDim Cert.UpdateInReferenceIdeal.S2x1024x640 ![] Cert.UpdateInReferenceIdeal.Gen.bcast_S_S2x1024x640 (constant Cert.UpdateInReferenceIdeal.S_ .f32 b)

/-- The sum of one layer's parts, with a first axis of size one, and both layers one after the other. -/
abbrev refSum (p : FVec Ideal S8x640x1024 .bf16) : FVec Ideal Cert.UpdateInReferenceIdeal.S1x1024x640 .f32 :=
  broadcastInDim Cert.UpdateInReferenceIdeal.S1x1024x640 ![1, 2] Cert.UpdateInReferenceIdeal.Gen.bcast_S1024x640_S1x1024x640_1_2
    (transpose Cert.UpdateInReferenceIdeal.S1024x640 [1, 0] (Host.reduceAdd (extf .f32 p Cert.UpdateInReferenceIdeal.Gen.bitsLt_bf16_f32) (constant Cert.UpdateInReferenceIdeal.S_ .f32 0x00000000#32)
      Cert.UpdateInReferenceIdeal.Gen.reducesTo_S8x640x1024_S640x1024_d0 Cert.UpdateInReferenceIdeal.Gen.h_S_) Cert.UpdateInReferenceIdeal.Gen.transposes_S640x1024_S1024x640_1_0)
def refTotal (p q : FVec Ideal S8x640x1024 .bf16) : FVec Ideal S2x1024x640 .f32 :=
  concatenate Cert.UpdateInReferenceIdeal.S2x1024x640 0 [⟨Cert.UpdateInReferenceIdeal.S1x1024x640, refSum p⟩, ⟨Cert.UpdateInReferenceIdeal.S1x1024x640, refSum q⟩]
    Cert.UpdateInReferenceIdeal.Gen.concatenates_S1x1024x640_S1x1024x640_S2x1024x640_d0
def refFirst (g n : FVec Ideal S2x1024x640 .f32) : FVec Ideal S2x1024x640 .f32 := addf (mulf (all 0x3F666666#32) n) (mulf (all 0x3DCCCCCD#32) g)
def refSecond (g v : FVec Ideal S2x1024x640 .f32) : FVec Ideal S2x1024x640 .f32 := addf (mulf (all 0x3F7FBE77#32) v) (mulf (all 0x3A83126F#32) (mulf g g))
def refStep (w n v : FVec Ideal S2x1024x640 .f32) : FVec Ideal S2x1024x640 .f32 :=
  mulf (all 0xBA83126F#32) (addf (Host.divf (Host.divf n (all 0x3F26BD02#32))
    (addf (Host.sqrt (Host.divf v (all 0x3C231ACC#32))) (all 0x322BCC77#32))) (mulf (all 0x3C23D70A#32) w))

/-- What the kernel leaves is what the reference leaves. -/
theorem total_eq (p q : FVec Ideal S8x640x1024 .bf16) : total p q = refTotal p q := by
  funext i
  obtain ⟨l, r, z, rfl⟩ : ∃ l r z, i = ix3 l r z := ⟨i 0, i 1, i 2, by funext k; fin_cases k <;> rfl⟩
  match l with
  | 0 => pointwise [total, refTotal]
  | 1 => pointwise [total, refTotal]

theorem firsts_eq (g n : FVec Ideal S2x1024x640 .f32) : firsts g n = refFirst g n := rfl
theorem seconds_eq (g v : FVec Ideal S2x1024x640 .f32) : seconds g v = refSecond g v := rfl
theorem changes_eq (w n v : FVec Ideal S2x1024x640 .f32) : changes w n v = refStep w n v := rfl

end Cert.UpdateInKernelIdeal.UpdateIn
end
-- ==== Proof.UpdateProjValue.lean ====
module

public import proofs.«01_k».proof.Proof.Gen.UpdateProjKernelIdeal.Frame
public import proofs.«01_k».proof.Proof.Gen.UpdateProjReferenceIdeal
public import proofs.«01_k».proof.Proof.Step
public import Idealize.ShloMosaic.Lib.Pipeline.ValueKit
public import Idealize.ShloMosaic.Lib.Claim

/-! The sum of the devices' gradients and the optimiser's step for the projections of the attentions' outputs: every point takes one
layer, picks that layer's parts, adds the eight of them one after the other, transposes the sum, and leaves it, the change of the
weight and the two moments. The reference sums and transposes the parts of each layer, puts the layers one after the other, and
writes the step over the whole arrays. -/

@[expose] public section

set_option maxRecDepth 16384

noncomputable section
open Idealize.ShloMosaic Idealize.ShloMosaic.TcCoe Idealize.SL.Sem
open Idealize.ShloMosaic.Pipeline (Dat)
namespace Cert.UpdateProjKernelIdeal.UpdateProj
open Cert.UpdateProjKernelIdeal Cert.UpdateProjKernelIdeal.Gen
open Cert.Step (con first second change)
variable (m : (ℓ : Loc nD τ sig) → Buf (Elt Ideal) ℓ)

/-- Where the blocks of each point lie: the points of a layer come one after the other, and a layer's parts are read at its points. -/
theorem idx : ∀ t : Fin cfg0.N, win0_2.index t = ![t.val, 0, 0] ∧ win0_3.index t = ![t.val, 0, 0]
    ∧ win0_4.index t = ![t.val, 0, 0] ∧ win0_5.index t = ![t.val, 0, 0] ∧ win0_6.index t = ![t.val, 0, 0]
    ∧ win0_7.index t = ![t.val, 0, 0] ∧ win0_8.index t = ![t.val, 0, 0] ∧ ((grid0.coords t) 0).val = t.val :=
  (by decide +kernel : ∀ t : Fin grid0.N, _)
theorem idx_a : ∀ t : Fin cfg0.N, t.val = 0 → win0_0.index t = ![0, 0, 0] := (by decide +kernel : ∀ t : Fin grid0.N, _)
theorem idx_b : ∀ t : Fin cfg0.N, t.val = 1 → win0_1.index t = ![0, 0, 0] := (by decide +kernel : ∀ t : Fin grid0.N, _)

/-- The layer of a point, and the row of the arrays that row `r` of its blocks is (a block holds all the rows). -/
abbrev layer (t : Fin cfg0.N) : Fin 2 := ⟨t.val, t.isLt⟩
abbrev row (t : Fin cfg0.N) (r : Fin 256) : Fin 256 := r

/-- The sum of a layer's parts, and the arrays that the call leaves. -/
def total (p q : FVec Ideal S8x128x256 .bf16) : FVec Ideal S2x256x128 .f32 := fun i =>
  if (i 0).val = 0 then (∑ s : Fin 8, (p (ix3 s (i 2) (i 1)) : EReal)) else ∑ s : Fin 8, (q (ix3 s (i 2) (i 1)) : EReal)
def firsts (g n : FVec Ideal S2x256x128 .f32) : FVec Ideal S2x256x128 .f32 := fun i => first (g i) (n i)
def seconds (g v : FVec Ideal S2x256x128 .f32) : FVec Ideal S2x256x128 .f32 := fun i => second (g i) (v i)
def changes (w n v : FVec Ideal S2x256x128 .f32) : FVec Ideal S2x256x128 .f32 := fun i => change (w i) (n i) (v i)

/-- The blocks of the arguments, each at its place in its array. -/
theorem block_p (c : Dev nD) (t : Fin cfg0.N) (h : t.val = 0) (s : Fin 8) (r : Fin 256) (z : Fin 128) :
    @Eq EReal (iblk m c 0 t (ix3 s z r)) (m ((c : Thread nD τ).loc main_arg0) (ix3 s z (row t r))) := by
  blk_simp [iblk]
  entry_read
  blk_ext [idx_a t h]

theorem block_q (c : Dev nD) (t : Fin cfg0.N) (h : t.val = 1) (s : Fin 8) (r : Fin 256) (z : Fin 128) :
    @Eq EReal (iblk m c 1 t (ix3 s z r)) (m ((c : Thread nD τ).loc main_arg1) (ix3 s z (row t r))) := by
  blk_simp [iblk]
  entry_read
  blk_ext [idx_b t h]

theorem block_w (c : Dev nD) (t : Fin cfg0.N) (u : Fin 1) (r : Fin 256) (z : Fin 128) :
    @Eq EReal (iblk m c 2 t (ix3 u r z)) (m ((c : Thread nD τ).loc main_arg2) (ix3 (layer t) (row t r) z)) := by
  blk_simp [iblk]
  entry_read
  blk_ext [idx t]

theorem block_n (c : Dev nD) (t : Fin cfg0.N) (u : Fin 1) (r : Fin 256) (z : Fin 128) :
    @Eq EReal (iblk m c 3 t (ix3 u r z)) (m ((c : Thread nD τ).loc main_arg3) (ix3 (layer t) (row t r) z)) := by
  blk_simp [iblk]
  entry_read
  blk_ext [idx t]

theorem block_v (c : Dev nD) (t : Fin cfg0.N) (u : Fin 1) (r : Fin 256) (z : Fin 128) :
    @Eq EReal (iblk m c 4 t (ix3 u r z)) (m ((c : Thread nD τ).loc main_arg4) (ix3 (layer t) (row t r) z)) := by
  blk_simp [iblk]
  entry_read
  blk_ext [idx t]

/-- The sum of the body at a point of the first layer, and at one of the second. -/
theorem read13_a (i : grid0.Coords) (h : (i 0).val = 0) (x y : Vec Ideal S8x128x256 .bf16) (w n v : Vec Ideal S1x256x128 .f32) (r : Fin 256) (z : Fin 128) :
    @Eq EReal (k0_pay13 (F := Ideal) i x y w n v (ix2 r z)) (∑ s : Fin 8, (x (ix3 s z r) : EReal)) := by
  have e : Scalar.cmpi .eq (BitVec.ofNat 32 0) 0#32 = 1#1 := rfl
  unfold k0_pay13 k0_pay11 k0_pay2
  simp only [h, e]
  pointwise [k0_pay4, k0_pay12, k0_pay3]
  rw [Fin.sum_univ_eight]

theorem read13_b (i : grid0.Coords) (h : (i 0).val = 1) (x y : Vec Ideal S8x128x256 .bf16) (w n v : Vec Ideal S1x256x128 .f32) (r : Fin 256) (z : Fin 128) :
    @Eq EReal (k0_pay13 (F := Ideal) i x y w n v (ix2 r z)) (∑ s : Fin 8, (y (ix3 s z r) : EReal)) := by
  have e : Scalar.cmpi .eq (BitVec.ofNat 32 1) 0#32 = 0#1 := rfl
  unfold k0_pay13 k0_pay11 k0_pay2
  simp only [h, e]
  pointwise [k0_pay4, k0_pay12, k0_pay3]
  rw [Fin.sum_univ_eight]

/-- The other payloads, read at an index. -/
theorem read14 (i : grid0.Coords) (x y : Vec Ideal S8x128x256 .bf16) (w n v : Vec Ideal S1x256x128 .f32) (r : Fin 256) (z : Fin 128) :
    @Eq EReal (k0_pay14 (F := Ideal) i x y w n v (ix2 r z)) (first (k0_pay13 (F := Ideal) i x y w n v (ix2 r z)) (n (ix3 0 r z))) := by
  unfold k0_pay14 k0_pay13 k0_pay5
  pointwise [first]

theorem read6 (g : FVec Ideal S256x128 .f32) (v : Vec Ideal S1x256x128 .f32) (r : Fin 256) (z : Fin 128) :
    @Eq EReal (k0_pay6 (F := Ideal) g v (ix2 r z)) (second (g (ix2 r z)) (v (ix3 0 r z))) := by
  pointwise [k0_pay6, second]

theorem read10 (g n : FVec Ideal S256x128 .f32) (v w : Vec Ideal S1x256x128 .f32) (r : Fin 256) (z : Fin 128) :
    @Eq EReal (k0_pay10 (F := Ideal) g n v w (ix2 r z)) (change (w (ix3 0 r z)) (n (ix2 r z)) (k0_pay6 (F := Ideal) g v (ix2 r z))) := by
  pointwise [k0_pay10, change]

/-- The arguments, by name. -/
abbrev argP (c : Dev nD) : FVec Ideal S8x128x256 .bf16 := m ((c : Thread nD τ).loc main_arg0)
abbrev argQ (c : Dev nD) : FVec Ideal S8x128x256 .bf16 := m ((c : Thread nD τ).loc main_arg1)
abbrev argW (c : Dev nD) : FVec Ideal S2x256x128 .f32 := m ((c : Thread nD τ).loc main_arg2)
abbrev argN (c : Dev nD) : FVec Ideal S2x256x128 .f32 := m ((c : Thread nD τ).loc main_arg3)
abbrev argV (c : Dev nD) : FVec Ideal S2x256x128 .f32 := m ((c : Thread nD τ).loc main_arg4)

/-- The payloads over the blocks of a point. -/
abbrev pay13 (c : Dev nD) (t : Fin cfg0.N) : FVec Ideal S256x128 .f32 :=
  k0_pay13 (F := Ideal) (grid0.coords t) (iblk m c 0 t) (iblk m c 1 t) (iblk m c 2 t) (iblk m c 3 t) (iblk m c 4 t)
abbrev pay14 (c : Dev nD) (t : Fin cfg0.N) : FVec Ideal S256x128 .f32 :=
  k0_pay14 (F := Ideal) (grid0.coords t) (iblk m c 0 t) (iblk m c 1 t) (iblk m c 2 t) (iblk m c 3 t) (iblk m c 4 t)

theorem at13 (c : Dev nD) (t : Fin cfg0.N) (r : Fin 256) (z : Fin 128) :
    @Eq EReal (pay13 m c t (ix2 r z)) (total (argP m c) (argQ m c) (ix3 (layer t) (row t r) z)) := by
  have hc : ((grid0.coords t) 0).val = t.val := (idx t).2.2.2.2.2.2.2
  have h4 : t.val < 2 := t.isLt
  rcases Nat.eq_zero_or_pos (t.val) with h | h
  · refine (read13_a _ (hc.trans h) _ _ _ _ _ r z).trans ?_
    refine Eq.trans ?_ (if_pos (show (layer t).val = 0 from h)).symm
    exact Finset.sum_congr rfl fun s _ => block_p m c t h s r z
  · have h1 : t.val = 1 := by omega
    refine (read13_b _ (hc.trans h1) _ _ _ _ _ r z).trans ?_
    refine Eq.trans ?_ (if_neg (show ¬(layer t).val = 0 from by show ¬t.val = 0; omega)).symm
    exact Finset.sum_congr rfl fun s _ => block_q m c t h1 s r z

theorem at14 (c : Dev nD) (t : Fin cfg0.N) (r : Fin 256) (z : Fin 128) :
    @Eq EReal (pay14 m c t (ix2 r z)) (firsts (total (argP m c) (argQ m c)) (argN m c) (ix3 (layer t) (row t r) z)) :=
  (read14 _ _ _ _ _ _ r z).trans (congrArg₂ first (at13 m c t r z) (block_n m c t 0 r z))

theorem at6 (c : Dev nD) (t : Fin cfg0.N) (r : Fin 256) (z : Fin 128) :
    @Eq EReal (k0_pay6 (F := Ideal) (pay13 m c t) (iblk m c 4 t) (ix2 r z)) (seconds (total (argP m c) (argQ m c)) (argV m c) (ix3 (layer t) (row t r) z)) :=
  (read6 _ _ r z).trans (congrArg₂ second (at13 m c t r z) (block_v m c t 0 r z))

theorem at10 (c : Dev nD) (t : Fin cfg0.N) (r : Fin 256) (z : Fin 128) :
    @Eq EReal (k0_pay10 (F := Ideal) (pay13 m c t) (pay14 m c t) (iblk m c 4 t) (iblk m c 2 t) (ix2 r z))
      (changes (argW m c) (firsts (total (argP m c) (argQ m c)) (argN m c)) (seconds (total (argP m c) (argQ m c)) (argV m c)) (ix3 (layer t) (row t r) z)) := by
  refine (read10 _ _ _ _ r z).trans ?_
  rw [at6, at14]
  exact congrArg (fun u => change u _ _) (block_w m c t 0 r z)

/-- The stored blocks carry a first axis of size one. -/
theorem unit1 (x : FVec Ideal S256x128 .f32) (u : Fin 1) (r : Fin 256) (z : Fin 128) : @Eq EReal (k0_pay1 (F := Ideal) x (ix3 u r z)) (x (ix2 r z)) := by
  pointwise [k0_pay1]
theorem unit7 (x : FVec Ideal S256x128 .f32) (u : Fin 1) (r : Fin 256) (z : Fin 128) : @Eq EReal (k0_pay7 (F := Ideal) x (ix3 u r z)) (x (ix2 r z)) := by
  pointwise [k0_pay7]
theorem unit8 (x : FVec Ideal S256x128 .f32) (u : Fin 1) (r : Fin 256) (z : Fin 128) : @Eq EReal (k0_pay8 (F := Ideal) x (ix3 u r z)) (x (ix2 r z)) := by
  pointwise [k0_pay8]
theorem unit9 (x : FVec Ideal S256x128 .f32) (v : Vec Ideal S1x256x128 .f32) (u : Fin 1) (r : Fin 256) (z : Fin 128) :
    @Eq EReal (k0_pay9 (F := Ideal) x v (ix3 u r z)) (k0_pay6 (F := Ideal) x v (ix2 r z)) := by
  pointwise [k0_pay9]

/-- The four arrays after the run. -/
theorem final5 (c : Dev nD) : (dats m 0 c).arrAt 5 cfg0.N = total (argP m c) (argQ m c) := by
  refine (dats m 0 c).arrAt_eq_of_covers 5 _ (by decide +kernel) fun t _ y => ?_
  have p : ((cfg0.win 5).blk t).view.emb y = ix3 (layer t) (row t (y 1)) (y 2) := by
    funext k
    apply Fin.ext
    fin_cases k <;> (blk_simp [idx t]; rfl)
  blk_simp
  rw [after0_5, p]
  frame_out
  obtain ⟨u, r, z, rfl⟩ : ∃ u r z, y = ix3 u r z := ⟨y 0, y 1, y 2, by funext k; fin_cases k <;> rfl⟩
  exact (unit7 _ u r z).trans (at13 m c t r z)

theorem final6 (c : Dev nD) : (dats m 0 c).arrAt 6 cfg0.N
    = changes (argW m c) (firsts (total (argP m c) (argQ m c)) (argN m c)) (seconds (total (argP m c) (argQ m c)) (argV m c)) := by
  refine (dats m 0 c).arrAt_eq_of_covers 6 _ (by decide +kernel) fun t _ y => ?_
  have p : ((cfg0.win 6).blk t).view.emb y = ix3 (layer t) (row t (y 1)) (y 2) := by
    funext k
    apply Fin.ext
    fin_cases k <;> (blk_simp [idx t]; rfl)
  blk_simp
  rw [after0_6, p]
  frame_out
  obtain ⟨u, r, z, rfl⟩ : ∃ u r z, y = ix3 u r z := ⟨y 0, y 1, y 2, by funext k; fin_cases k <;> rfl⟩
  exact (unit1 _ u r z).trans (at10 m c t r z)

theorem final7 (c : Dev nD) : (dats m 0 c).arrAt 7 cfg0.N = firsts (total (argP m c) (argQ m c)) (argN m c) := by
  refine (dats m 0 c).arrAt_eq_of_covers 7 _ (by decide +kernel) fun t _ y => ?_
  have p : ((cfg0.win 7).blk t).view.emb y = ix3 (layer t) (row t (y 1)) (y 2) := by
    funext k
    apply Fin.ext
    fin_cases k <;> (blk_simp [idx t]; rfl)
  blk_simp
  rw [after0_7, p]
  frame_out
  obtain ⟨u, r, z, rfl⟩ : ∃ u r z, y = ix3 u r z := ⟨y 0, y 1, y 2, by funext k; fin_cases k <;> rfl⟩
  exact (unit8 _ u r z).trans (at14 m c t r z)

theorem final8 (c : Dev nD) : (dats m 0 c).arrAt 8 cfg0.N = seconds (total (argP m c) (argQ m c)) (argV m c) := by
  refine (dats m 0 c).arrAt_eq_of_covers 8 _ (by decide +kernel) fun t _ y => ?_
  have p : ((cfg0.win 8).blk t).view.emb y = ix3 (layer t) (row t (y 1)) (y 2) := by
    funext k
    apply Fin.ext
    fin_cases k <;> (blk_simp [idx t]; rfl)
  blk_simp
  rw [after0_8, p]
  frame_out
  obtain ⟨u, r, z, rfl⟩ : ∃ u r z, y = ix3 u r z := ⟨y 0, y 1, y 2, by funext k; fin_cases k <;> rfl⟩
  exact (unit9 _ _ u r z).trans (at6 m c t r z)

/-! The reference's terms. -/

/-- A constant at every index. -/
abbrev all (b : BitVec 32) : FVec Ideal S2x256x128 .f32 :=
  broadcastInDim Cert.UpdateProjReferenceIdeal.S2x256x128 ![] Cert.UpdateProjReferenceIdeal.Gen.bcast_S_S2x256x128 (constant Cert.UpdateProjReferenceIdeal.S_ .f32 b)

/-- The sum of one layer's parts, with a first axis of size one, and both layers one after the other. -/
abbrev refSum (p : FVec Ideal S8x128x256 .bf16) : FVec Ideal Cert.UpdateProjReferenceIdeal.S1x256x128 .f32 :=
  broadcastInDim Cert.UpdateProjReferenceIdeal.S1x256x128 ![1, 2] Cert.UpdateProjReferenceIdeal.Gen.bcast_S256x128_S1x256x128_1_2
    (transpose Cert.UpdateProjReferenceIdeal.S256x128 [1, 0] (Host.reduceAdd (extf .f32 p Cert.UpdateProjReferenceIdeal.Gen.bitsLt_bf16_f32) (constant Cert.UpdateProjReferenceIdeal.S_ .f32 0x00000000#32)
      Cert.UpdateProjReferenceIdeal.Gen.reducesTo_S8x128x256_S128x256_d0 Cert.UpdateProjReferenceIdeal.Gen.h_S_) Cert.UpdateProjReferenceIdeal.Gen.transposes_S128x256_S256x128_1_0)
def refTotal (p q : FVec Ideal S8x128x256 .bf16) : FVec Ideal S2x256x128 .f32 :=
  concatenate Cert.UpdateProjReferenceIdeal.S2x256x128 0 [⟨Cert.UpdateProjReferenceIdeal.S1x256x128, refSum p⟩, ⟨Cert.UpdateProjReferenceIdeal.S1x256x128, refSum q⟩]
    Cert.UpdateProjReferenceIdeal.Gen.concatenates_S1x256x128_S1x256x128_S2x256x128_d0
def refFirst (g n : FVec Ideal S2x256x128 .f32) : FVec Ideal S2x256x128 .f32 := addf (mulf (all 0x3F666666#32) n) (mulf (all 0x3DCCCCCD#32) g)
def refSecond (g v : FVec Ideal S2x256x128 .f32) : FVec Ideal S2x256x128 .f32 := addf (mulf (all 0x3F7FBE77#32) v) (mulf (all 0x3A83126F#32) (mulf g g))
def refStep (w n v : FVec Ideal S2x256x128 .f32) : FVec Ideal S2x256x128 .f32 :=
  mulf (all 0xBA83126F#32) (addf (Host.divf (Host.divf n (all 0x3F26BD02#32))
    (addf (Host.sqrt (Host.divf v (all 0x3C231ACC#32))) (all 0x322BCC77#32))) (mulf (all 0x3C23D70A#32) w))

/-- What the kernel leaves is what the reference leaves. -/
theorem total_eq (p q : FVec Ideal S8x128x256 .bf16) : total p q = refTotal p q := by
  funext i
  obtain ⟨l, r, z, rfl⟩ : ∃ l r z, i = ix3 l r z := ⟨i 0, i 1, i 2, by funext k; fin_cases k <;> rfl⟩
  match l with
  | 0 => pointwise [total, refTotal]
  | 1 => pointwise [total, refTotal]

theorem firsts_eq (g n : FVec Ideal S2x256x128 .f32) : firsts g n = refFirst g n := rfl
theorem seconds_eq (g v : FVec Ideal S2x256x128 .f32) : seconds g v = refSecond g v := rfl
theorem changes_eq (w n v : FVec Ideal S2x256x128 .f32) : changes w n v = refStep w n v := rfl

end Cert.UpdateProjKernelIdeal.UpdateProj
end
-- ==== Proof.OutGradValue.lean ====
module

public import proofs.«01_k».proof.Proof.Gen.OutGradKernelIdeal.Frame
public import proofs.«01_k».proof.Proof.Gen.OutGradReferenceIdeal
public import proofs.«01_k».proof.Proof.Numbers
public import Idealize.ShloMosaic.Lib.Pipeline.ValueKit
public import Idealize.ShloMosaic.Lib.Claim

/-! The product that gives the gradient of the output projection of the mixer: the result is the sum of two half products, one
over each half of the tokens. The plain reference sums over all the tokens at once, and transposes the result of the derivative. -/

@[expose] public section

set_option maxRecDepth 16384

noncomputable section
open Idealize.ShloMosaic Idealize.ShloMosaic.TcCoe Idealize.SL.Sem
open Idealize.ShloMosaic.Pipeline (Dat)
namespace Cert.OutGradKernelIdeal.OutGrad
open Cert.OutGradKernelIdeal Cert.OutGradKernelIdeal.Gen
variable (m : (ℓ : Loc nD τ sig) → Buf (Elt Ideal) ℓ)

/-- The first and the second half of the tokens. -/
abbrev lower (k : Fin 2048) : Fin 4096 := ⟨k.val, by omega⟩
abbrev upper (k : Fin 2048) : Fin 4096 := ⟨2048 + k.val, by omega⟩

/-- What the kernel leaves: the two half products added. -/
def left (s : FVec Ideal S4096x1024 .f32) (d : FVec Ideal S4096x1024 .f32) : FVec Ideal S1024x1024 .bf16 := fun i =>
  (∑ k : Fin 2048, (s (ix2 (lower k) (i 0)) * d (ix2 (lower k) (i 1)) : EReal))
    + ∑ k : Fin 2048, (s (ix2 (upper k) (i 0)) * d (ix2 (upper k) (i 1)) : EReal)

/-- Where the blocks of each point lie. -/
theorem idx : ∀ t : Fin cfg0.N, win0_0.index t = ![t.val % 2, 0] ∧ win0_1.index t = ![t.val % 2, 0]
    ∧ win0_2.index t = ![0, 0] := (by decide +kernel : ∀ t : Fin grid0.N, _)

/-- A block of the first factor, at its place in the argument. -/
theorem incoming (c : Dev nD) (t : Fin cfg0.N) (k : Fin 2048) (r : Fin 1024) (a : Fin 4096)
    (ha : a.val = t.val % 2 * 2048 + k.val) :
    @Eq EReal (iblk m c 0 t (ix2 k r)) (m ((c : Thread nD τ).loc main_arg0) (ix2 a r)) := by
  blk_simp [iblk]
  entry_read
  pointwise
  blk_ext [idx t, ha]

/-- A block of the second factor, at its place in the argument. -/
theorem input (c : Dev nD) (t : Fin cfg0.N) (k : Fin 2048) (r : Fin 1024) (a : Fin 4096)
    (ha : a.val = t.val % 2 * 2048 + k.val) :
    @Eq EReal (iblk m c 1 t (ix2 k r)) (m ((c : Thread nD τ).loc main_arg1) (ix2 a r)) := by
  blk_simp [iblk]
  entry_read
  pointwise
  blk_ext [idx t, ha]

/-- The body at the second point of a pair, over the blocks of both points of the pair. -/
theorem point (c : Dev nD) (t t' : Fin cfg0.N) (ht : t.val % 2 = 1) (h' : t'.val + 1 = t.val) (y) :
    k0_pay3 (k0_pay2 (k0_pay1 (iblk m c 0 t') (iblk m c 1 t')) (iblk m c 0 t) (iblk m c 1 t)) y
      = left (m ((c : Thread nD τ).loc main_arg0)) (m ((c : Thread nD τ).loc main_arg1)) (((cfg0.win 2).blk t).view.emb y) := by
  have e0 : t'.val % 2 = 0 := by omega
  have p0 : ((((cfg0.win 2).blk t).view.emb y) 0).val = (y 0).val := by blk_simp [idx t]
  have p0' : ((((cfg0.win 2).blk t).view.emb y) 0) = (y 0) := Fin.ext p0
  have p1 : ((((cfg0.win 2).blk t).view.emb y) 1).val = (y 1).val := by blk_simp [idx t]
  have p1' : ((((cfg0.win 2).blk t).view.emb y) 1) = (y 1) := Fin.ext p1
  pointwise [k0_pay3, k0_pay2, k0_pay1, left]
  refine congrArg₂ (· + ·) (Finset.sum_congr rfl fun k _ => ?_) (Finset.sum_congr rfl fun k _ => ?_)
  · exact congrArg₂ (· * ·) ((incoming m c t' k (y 0) (lower k) (by rw [e0]; show k.val = _; omega)).trans (by rw [← p0']))
      ((input m c t' k (y 1) (lower k) (by rw [e0]; show k.val = _; omega)).trans (by rw [← p1']))
  · exact congrArg₂ (· * ·) ((incoming m c t k (y 0) (upper k) (by rw [ht])).trans (by rw [← p0']))
      ((input m c t k (y 1) (upper k) (by rw [ht])).trans (by rw [← p1']))

/-- What the first point of a pair leaves in the accumulator. -/
theorem first (c : Dev nD) (t : Fin cfg0.N) (ht : t.val % 2 = 0) (n : ℕ) (hn : n < cfg0.N) (e : n = t.val) :
    (outsAt0 m c n hn).2 = k0_pay1 (iblk m c 0 t) (iblk m c 1 t) := by
  subst e
  rw [show outsAt0 m c t.val hn = _ from outsAt0_A m c t ht (by omega) (by omega)]
  frame_out

/-- What the second point of a pair leaves in the block of the result. -/
theorem second (c : Dev nD) (t t' : Fin cfg0.N) (ht : t.val % 2 = 1) (h' : t'.val + 1 = t.val) :
    (outsAt0 m c t.val t.isLt).1
      = k0_pay3 (k0_pay2 (k0_pay1 (iblk m c 0 t') (iblk m c 1 t')) (iblk m c 0 t) (iblk m c 1 t)) := by
  rw [outsAt0_B m c t (by omega) ht ht]
  frame_out
  rw [first m c t' (by omega) _ _ (by omega), (Memref.isWhole_whole _).read_unread]

/-- The array of the result after the run. -/
theorem final (c : Dev nD) : (dats m 0 c).arrAt 2 cfg0.N
    = left (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  blk_simp
  rw [after0_2, second m c t ⟨t.val - 1, Nat.lt_of_le_of_lt (Nat.sub_le _ _) t.isLt⟩ ht (by show t.val - 1 + 1 = t.val; omega)]
  exact point m c t ⟨t.val - 1, Nat.lt_of_le_of_lt (Nat.sub_le _ _) t.isLt⟩ ht (by show t.val - 1 + 1 = t.val; omega) y

/-- What the kernel leaves is the reference's product. -/
theorem left_eq (s : FVec Ideal S4096x1024 .f32) (d : FVec Ideal S4096x1024 .f32) :
    left s d = truncf .bf16 (transpose Cert.OutGradReferenceIdeal.S1024x1024 [1, 0]
        (Host.dotGeneral Cert.OutGradReferenceIdeal.dot_S4096x1024_S4096x1024_S1024x1024_0_0_1_1_n_n none d s)
      Cert.OutGradReferenceIdeal.Gen.transposes_S1024x1024_S1024x1024_1_0) Cert.OutGradReferenceIdeal.Gen.bitsLt_bf16_f32 := by
  funext i
  pointwise [left]
  refine (Cert.Numbers.sum_halves fun k => s (ix2 k (i 0)) * d (ix2 k (i 1))).symm.trans ?_
  exact Finset.sum_congr rfl fun k _ => mul_comm _ _

end Cert.OutGradKernelIdeal.OutGrad
end
-- ==== Proof.OutValue.lean ====
module

public import proofs.«01_k».proof.Proof.Gen.OutKernelIdeal.Frame
public import proofs.«01_k».proof.Proof.Gen.OutReferenceIdeal
public import proofs.«01_k».proof.Proof.NormTerms
public import Idealize.ShloMosaic.Lib.Pipeline.ValueKit
public import Idealize.ShloMosaic.Lib.Claim
public import Idealize.ShloMosaic.Lib.StableHlo.RunRead

/-! The output projection of the mixer with the residual and the norm that follows: every point takes one block of rows, adds the
product of the block with the weights to the rows, and leaves the sum and its normalised rows. The reference writes the same terms
over all the rows; the kernel's factor one is not in it. -/

@[expose] public section

set_option maxRecDepth 16384

noncomputable section
open Idealize.ShloMosaic Idealize.ShloMosaic.TcCoe Idealize.SL.Sem
open Idealize.ShloMosaic.Pipeline (Dat)
namespace Cert.OutKernelIdeal.Out
open Cert.OutKernelIdeal Cert.OutKernelIdeal.Gen
variable (m : (ℓ : Loc nD τ sig) → Buf (Elt Ideal) ℓ)

open Cert.Norm (width small square scale)

/-- Where the blocks of each point lie. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] := (by decide +kernel : ∀ t : Fin grid0.N, _)

/-- The row of the arrays that row `r` of point `t`'s blocks is. -/
abbrev row (t : Fin cfg0.N) (r : Fin 512) : Fin 4096 :=
  ⟨t.val * 512 + r.val, by have h : t.val < 8 := t.isLt; omega⟩

/-- One, as the constants read it. -/
abbrev one : EReal := FloatOps.ofBits (F := Ideal) .f32 0x3F800000#32

/-- The rows with the product added, and the normalised rows. -/
def sums (s : FVec Ideal S4096x1024 .f32) (w : FVec Ideal S1024x1024 .f32) (x : FVec Ideal S4096x1024 .f32) : FVec Ideal S4096x1024 .f32 := fun i =>
  (x (ix2 (i 0) (i 1)) + (∑ k : Fin 1024, (s (ix2 (i 0) k) * w (ix2 k (i 1)) : EReal)) * one : EReal)
def normed (o : FVec Ideal S4096x1024 .f32) (g : FVec Ideal S1024 .f32) : FVec Ideal S4096x1024 .bf16 := fun i =>
  (o (ix2 (i 0) (i 1)) * scale o (i 0) * g (ix1 (i 1)) : EReal)

/-- The blocks of the arguments, each at its place in its array. -/
theorem block_s (c : Dev nD) (t : Fin cfg0.N) (r : Fin 512) (k : Fin 1024) :
    @Eq EReal (iblk m c 0 t (ix2 r k)) (m ((c : Thread nD τ).loc main_arg0) (ix2 (row t r) k)) := by
  blk_simp [iblk]
  entry_read
  pointwise
  blk_ext [idx t]

theorem block_w (c : Dev nD) (t : Fin cfg0.N) (k : Fin 1024) (z : Fin 1024) :
    @Eq EReal (iblk m c 1 t (ix2 k z)) (m ((c : Thread nD τ).loc main_arg1) (ix2 k z)) := by
  blk_simp [iblk]
  entry_read
  pointwise
  blk_ext [idx t]

theorem block_x (c : Dev nD) (t : Fin cfg0.N) (r : Fin 512) (z : Fin 1024) :
    @Eq EReal (iblk m c 2 t (ix2 r z)) (m ((c : Thread nD τ).loc main_arg2) (ix2 (row t r) z)) := by
  blk_simp [iblk]
  entry_read
  pointwise
  blk_ext [idx t]

theorem block_g (c : Dev nD) (t : Fin cfg0.N) (u : Fin 1) (z : Fin 1024) :
    @Eq EReal (iblk m c 3 t (ix2 u z)) (m ((c : Thread nD τ).loc main_arg3) (ix1 z)) := by
  blk_simp [iblk]
  entry_read
  pointwise
  blk_ext [idx t]

/-- The rows that the call leaves, as a term of the arguments. -/
abbrev out (c : Dev nD) : FVec Ideal S4096x1024 .f32 := sums (m ((c : Thread nD τ).loc main_arg0)) (m ((c : Thread nD τ).loc main_arg1))
  (m ((c : Thread nD τ).loc main_arg2))
abbrev gain (c : Dev nD) : FVec Ideal S1024 .f32 := m ((c : Thread nD τ).loc main_arg3)

/-- The payloads of the body, read at an index. -/
theorem read1 (x : Vec Ideal S512x1024 .f32) (a : Vec Ideal S512x1024 .bf16) (b : Vec Ideal S1024x1024 .bf16) (r : Fin 512) (z : Fin 1024) :
    @Eq EReal (k0_pay1 (F := Ideal) x a b (ix2 r z)) (x (ix2 r z) + (∑ k : Fin 1024, (a (ix2 r k) * b (ix2 k z) : EReal)) * one) := by
  pointwise [k0_pay1]

theorem read2 (x : Vec Ideal S512x1024 .f32) (a : Vec Ideal S512x1024 .bf16) (b : Vec Ideal S1024x1024 .bf16) (g : Vec Ideal S1x1024 .f32)
    (r : Fin 512) (z : Fin 1024) : @Eq EReal (k0_pay2 (F := Ideal) x a b g (ix2 r z))
      (k0_pay1 (F := Ideal) x a b (ix2 r z) * Ideal.rsqrt (Ideal.div (∑ j : Fin 1024, (k0_pay1 (F := Ideal) x a b (ix2 r j)
        * k0_pay1 (F := Ideal) x a b (ix2 r j) : EReal)) width + small) * g (ix2 0 z)) := by
  pointwise [k0_pay2]

/-- The payloads over the blocks of a point. -/
theorem at1 (c : Dev nD) (t : Fin cfg0.N) (r : Fin 512) (z : Fin 1024) :
    @Eq EReal (k0_pay1 (F := Ideal) (iblk m c 2 t) (iblk m c 0 t) (iblk m c 1 t) (ix2 r z)) (out m c (ix2 (row t r) z)) :=
  (read1 _ _ _ r z).trans (congrArg₂ (· + ·) (block_x m c t r z) (congrArg (· * one)
    (Finset.sum_congr rfl fun k _ => congrArg₂ (· * ·) (block_s m c t r k) (block_w m c t k z))))

theorem at2 (c : Dev nD) (t : Fin cfg0.N) (r : Fin 512) (z : Fin 1024) :
    @Eq EReal (k0_pay2 (F := Ideal) (iblk m c 2 t) (iblk m c 0 t) (iblk m c 1 t) (iblk m c 3 t) (ix2 r z)) (normed (out m c) (gain m c) (ix2 (row t r) z)) := by
  refine (read2 _ _ _ _ r z).trans ?_
  refine congrArg₂ (· * ·) (congrArg₂ (· * ·) (at1 m c t r z) (congrArg (fun v => Ideal.rsqrt (Ideal.div v width + small))
    (Finset.sum_congr rfl fun k _ => ?_))) (block_g m c t 0 z)
  exact congrArg₂ (· * ·) (at1 m c t r k) (at1 m c t r k)

/-- The two arrays after the run. -/
theorem final4 (c : Dev nD) : (dats m 0 c).arrAt 4 cfg0.N = out m c := by
  refine (dats m 0 c).arrAt_eq_of_covers 4 _ (by decide +kernel) fun t _ y => ?_
  have p : ((cfg0.win 4).blk t).view.emb y = ix2 (row t (y 0)) (y 1) := by
    funext k
    apply Fin.ext
    fin_cases k <;> (blk_simp [idx t]; rfl)
  blk_simp
  rw [after0_4]
  frame_out
  unfold k0_pay3
  simp only [shapeCast_self]
  rw [p]
  obtain ⟨r, z, rfl⟩ : ∃ r z, y = ix2 r z := ⟨y 0, y 1, by funext k; fin_cases k <;> rfl⟩
  exact at1 m c t r z

theorem final5 (c : Dev nD) : (dats m 0 c).arrAt 5 cfg0.N = normed (out m c) (gain m c) := by
  refine (dats m 0 c).arrAt_eq_of_covers 5 _ (by decide +kernel) fun t _ y => ?_
  have p : ((cfg0.win 5).blk t).view.emb y = ix2 (row t (y 0)) (y 1) := by
    funext k
    apply Fin.ext
    fin_cases k <;> (blk_simp [idx t]; rfl)
  blk_simp
  rw [after0_5]
  frame_out
  rw [p]
  obtain ⟨r, z, rfl⟩ : ∃ r z, y = ix2 r z := ⟨y 0, y 1, by funext k; fin_cases k <;> rfl⟩
  exact at2 m c t r z

/-- The reference's terms. -/
def refSums (s : FVec Ideal S4096x1024 .f32) (w : FVec Ideal S1024x1024 .f32) (x : FVec Ideal S4096x1024 .f32) : FVec Ideal S4096x1024 .f32 :=
  addf x (Host.dotGeneral Cert.OutReferenceIdeal.dot_S4096x1024_S1024x1024_S4096x1024_1_0_0_1_n_n none s w)

def refNormed (o : FVec Ideal S4096x1024 .f32) (g : FVec Ideal S1024 .f32) : FVec Ideal S4096x1024 .bf16 :=
  truncf .bf16 (mulf (mulf o (broadcastInDim Cert.NormReferenceIdeal.S4096x1024 ![0, 1] Cert.NormReferenceIdeal.Gen.bcast_S4096x1_S4096x1024_0_1 (Host.rsqrt (Cert.Norm.refSquare o))))
    (broadcastInDim Cert.NormReferenceIdeal.S4096x1024 ![0, 1] Cert.NormReferenceIdeal.Gen.bcast_S1x1024_S4096x1024_0_1 (broadcastInDim Cert.NormReferenceIdeal.S1x1024 ![1] Cert.NormReferenceIdeal.Gen.bcast_S1024_S1x1024_1 g)))
    Cert.OutReferenceIdeal.Gen.bitsLt_bf16_f32

/-- What the kernel leaves is what the reference leaves: no condition is needed. -/
theorem sums_eq (s : FVec Ideal S4096x1024 .f32) (w : FVec Ideal S1024x1024 .f32) (x : FVec Ideal S4096x1024 .f32) : sums s w x = refSums s w x := by
  funext i
  obtain ⟨r, z, rfl⟩ : ∃ r z, i = ix2 r z := ⟨i 0, i 1, by funext k; fin_cases k <;> rfl⟩
  pointwise [sums, refSums]

theorem normed_eq (o : FVec Ideal S4096x1024 .f32) (g : FVec Ideal S1024 .f32) : normed o g = refNormed o g := by
  funext i
  obtain ⟨r, z, rfl⟩ : ∃ r z, i = ix2 r z := ⟨i 0, i 1, by funext k; fin_cases k <;> rfl⟩
  pointwise [normed, refNormed]
  simp only [Cert.Norm.refSquare_at]
  rfl

end Cert.OutKernelIdeal.Out
end
-- ==== Proof.BlendValue.lean ====
module

public import proofs.«01_k».proof.Proof.Gen.BlendKernelIdeal.Frame
public import proofs.«01_k».proof.Proof.Gen.BlendReferenceIdeal
public import proofs.«01_k».proof.Proof.Numbers
public import Idealize.ShloMosaic.Lib.Pipeline.ValueKit
public import Idealize.ShloMosaic.Lib.Claim
public import Idealize.ShloMosaic.Lib.StableHlo.RunRead

/-! The gated sum of the two attentions' projections: every point takes one block of rows, projects the outputs of both attentions,
weighs each projection with the sigmoid of its gate, and leaves the sum and the two projections. The gates are two blocks of columns of
the mixer's projection, which the kernel picks with its windows and the reference with slices. -/

@[expose] public section

set_option maxRecDepth 16384

noncomputable section
open Idealize.ShloMosaic Idealize.ShloMosaic.TcCoe Idealize.SL.Sem
open Idealize.ShloMosaic.Pipeline (Dat)
namespace Cert.BlendKernelIdeal.Blend
open Cert.BlendKernelIdeal Cert.BlendKernelIdeal.Gen
variable (m : (ℓ : Loc nD τ sig) → Buf (Elt Ideal) ℓ)

/-- Where the blocks of each point lie. -/
theorem idx : ∀ t : Fin cfg0.N, win0_0.index t = ![t.val, 0] ∧ win0_1.index t = ![t.val, 0] ∧ win0_2.index t = ![0, 0]
    ∧ win0_3.index t = ![0, 0] ∧ win0_4.index t = ![t.val, 3] ∧ win0_5.index t = ![t.val, 4]
    ∧ win0_6.index t = ![t.val, 0] ∧ win0_7.index t = ![t.val, 0] ∧ win0_8.index t = ![t.val, 0] := (by decide +kernel : ∀ t : Fin grid0.N, _)

/-- The row of the arrays that row `r` of point `t`'s blocks is, and the columns of the two gates. -/
abbrev row (t : Fin cfg0.N) (r : Fin 1024) : Fin 4096 :=
  ⟨t.val * 1024 + r.val, by have h : t.val < 4 := t.isLt; omega⟩
abbrev gateD (z : Fin 1024) : Fin 5120 := ⟨3072 + z.val, by omega⟩
abbrev gateS (z : Fin 1024) : Fin 5120 := ⟨4096 + z.val, by omega⟩

/-- The sigmoid of a number. -/
abbrev sigmoid (a : EReal) : EReal := Ideal.div 1 (1 + Ideal.exp (-a))

/-- The projection of one attention's output, and the gated sum of both. -/
def proj (o : FVec Ideal S4096x256 .f32) (w : FVec Ideal S256x1024 .f32) : FVec Ideal S4096x1024 .bf16 := fun i =>
  (∑ k : Fin 256, (o (ix2 (i 0) k) * w (ix2 k (i 1)) : EReal))
def gated (g : FVec Ideal S4096x5120 .bf16) (a b : FVec Ideal S4096x1024 .bf16) : FVec Ideal S4096x1024 .bf16 := fun i =>
  (sigmoid (g (ix2 (i 0) (gateD (i 1)))) * a i + sigmoid (g (ix2 (i 0) (gateS (i 1)))) * b i : EReal)

/-- The blocks of the arguments, each at its place in its array. -/
theorem block_od (c : Dev nD) (t : Fin cfg0.N) (r : Fin 1024) (k : Fin 256) :
    @Eq EReal (iblk m c 0 t (ix2 r k)) (m ((c : Thread nD τ).loc main_arg0) (ix2 (row t r) k)) := by
  blk_simp [iblk]
  blk_ext [idx t]

theorem block_os (c : Dev nD) (t : Fin cfg0.N) (r : Fin 1024) (k : Fin 256) :
    @Eq EReal (iblk m c 1 t (ix2 r k)) (m ((c : Thread nD τ).loc main_arg1) (ix2 (row t r) k)) := by
  blk_simp [iblk]
  blk_ext [idx t]

theorem block_wd (c : Dev nD) (t : Fin cfg0.N) (z : Fin 1024) (k : Fin 256) :
    @Eq EReal (iblk m c 2 t (ix2 z k)) (m ((c : Thread nD τ).loc main_arg2) (ix2 k z)) := by
  blk_simp [iblk]
  entry_read
  pointwise
  blk_ext [idx t]

theorem block_ws (c : Dev nD) (t : Fin cfg0.N) (z : Fin 1024) (k : Fin 256) :
    @Eq EReal (iblk m c 3 t (ix2 z k)) (m ((c : Thread nD τ).loc main_arg3) (ix2 k z)) := by
  blk_simp [iblk]
  entry_read
  pointwise
  blk_ext [idx t]

theorem block_gd (c : Dev nD) (t : Fin cfg0.N) (r z : Fin 1024) :
    @Eq EReal (iblk m c 4 t (ix2 r z)) (m ((c : Thread nD τ).loc main_arg4) (ix2 (row t r) (gateD z))) := by
  blk_simp [iblk]
  blk_ext [idx t]

theorem block_gs (c : Dev nD) (t : Fin cfg0.N) (r z : Fin 1024) :
    @Eq EReal (iblk m c 5 t (ix2 r z)) (m ((c : Thread nD τ).loc main_arg4) (ix2 (row t r) (gateS z))) := by
  blk_simp [iblk]
  blk_ext [idx t]

/-- The arrays that the call leaves, as terms of the arguments. -/
abbrev outD (c : Dev nD) : FVec Ideal S4096x1024 .bf16 := proj (m ((c : Thread nD τ).loc main_arg0)) (m ((c : Thread nD τ).loc main_arg2))
abbrev outS (c : Dev nD) : FVec Ideal S4096x1024 .bf16 := proj (m ((c : Thread nD τ).loc main_arg1)) (m ((c : Thread nD τ).loc main_arg3))
abbrev outY (c : Dev nD) : FVec Ideal S4096x1024 .bf16 := gated (m ((c : Thread nD τ).loc main_arg4)) (outD m c) (outS m c)

/-- The payloads of the body, read at an index. -/
theorem read3 (a : Vec Ideal S1024x256 .f32) (b : Vec Ideal S1024x256 .bf16) (r z : Fin 1024) :
    @Eq EReal (k0_pay3 (F := Ideal) a b (ix2 r z)) (∑ k : Fin 256, (a (ix2 r k) * b (ix2 z k) : EReal)) := by
  pointwise [k0_pay3]

theorem read4 (a : Vec Ideal S1024x256 .f32) (b : Vec Ideal S1024x256 .bf16) (r z : Fin 1024) :
    @Eq EReal (k0_pay4 (F := Ideal) a b (ix2 r z)) (∑ k : Fin 256, (a (ix2 r k) * b (ix2 z k) : EReal)) := by
  pointwise [k0_pay4]

theorem read5 (a : Vec Ideal S1024x256 .f32) (b : Vec Ideal S1024x256 .bf16) (a' : Vec Ideal S1024x256 .f32) (b' : Vec Ideal S1024x256 .bf16)
    (g h : Vec Ideal S1024x1024 .bf16) (r z : Fin 1024) :
    @Eq EReal (k0_pay5 (F := Ideal) a b a' b' g h (ix2 r z))
      (sigmoid (g (ix2 r z)) * k0_pay3 (F := Ideal) a b (ix2 r z) + sigmoid (h (ix2 r z)) * k0_pay4 (F := Ideal) a' b' (ix2 r z)) := by
  pointwise [k0_pay5]
  simp only [zero_sub]

/-- The payloads over the blocks of a point. -/
theorem at3 (c : Dev nD) (t : Fin cfg0.N) (r z : Fin 1024) :
    @Eq EReal (k0_pay3 (F := Ideal) (iblk m c 0 t) (iblk m c 2 t) (ix2 r z)) (outD m c (ix2 (row t r) z)) :=
  (read3 _ _ r z).trans (Finset.sum_congr rfl fun k _ => congrArg₂ (· * ·) (block_od m c t r k) (block_wd m c t z k))

theorem at4 (c : Dev nD) (t : Fin cfg0.N) (r z : Fin 1024) :
    @Eq EReal (k0_pay4 (F := Ideal) (iblk m c 1 t) (iblk m c 3 t) (ix2 r z)) (outS m c (ix2 (row t r) z)) :=
  (read4 _ _ r z).trans (Finset.sum_congr rfl fun k _ => congrArg₂ (· * ·) (block_os m c t r k) (block_ws m c t z k))

theorem at5 (c : Dev nD) (t : Fin cfg0.N) (r z : Fin 1024) :
    @Eq EReal (k0_pay5 (F := Ideal) (iblk m c 0 t) (iblk m c 2 t) (iblk m c 1 t) (iblk m c 3 t) (iblk m c 4 t) (iblk m c 5 t) (ix2 r z))
      (outY m c (ix2 (row t r) z)) :=
  (read5 _ _ _ _ _ _ r z).trans (congrArg₂ (· + ·)
    (congrArg₂ (· * ·) (congrArg sigmoid (block_gd m c t r z)) (at3 m c t r z))
    (congrArg₂ (· * ·) (congrArg sigmoid (block_gs m c t r z)) (at4 m c t r z)))

/-- The three arrays after the run. -/
theorem final6 (c : Dev nD) : (dats m 0 c).arrAt 6 cfg0.N = outY m c := by
  refine (dats m 0 c).arrAt_eq_of_covers 6 _ (by decide +kernel) fun t _ y => ?_
  have p : ((cfg0.win 6).blk t).view.emb y = ix2 (row t (y 0)) (y 1) := by
    funext k
    apply Fin.ext
    fin_cases k <;> (blk_simp [idx t]; rfl)
  blk_simp
  rw [after0_6]
  frame_out
  rw [p]
  obtain ⟨r, z, rfl⟩ : ∃ r z, y = ix2 r z := ⟨y 0, y 1, by funext k; fin_cases k <;> rfl⟩
  exact at5 m c t r z

theorem final7 (c : Dev nD) : (dats m 0 c).arrAt 7 cfg0.N = outD m c := by
  refine (dats m 0 c).arrAt_eq_of_covers 7 _ (by decide +kernel) fun t _ y => ?_
  have p : ((cfg0.win 7).blk t).view.emb y = ix2 (row t (y 0)) (y 1) := by
    funext k
    apply Fin.ext
    fin_cases k <;> (blk_simp [idx t]; rfl)
  blk_simp
  rw [after0_7]
  frame_out
  unfold k0_pay1 k0_pay6
  simp only [shapeCast_self]
  rw [p]
  obtain ⟨r, z, rfl⟩ : ∃ r z, y = ix2 r z := ⟨y 0, y 1, by funext k; fin_cases k <;> rfl⟩
  exact at3 m c t r z

theorem final8 (c : Dev nD) : (dats m 0 c).arrAt 8 cfg0.N = outS m c := by
  refine (dats m 0 c).arrAt_eq_of_covers 8 _ (by decide +kernel) fun t _ y => ?_
  have p : ((cfg0.win 8).blk t).view.emb y = ix2 (row t (y 0)) (y 1) := by
    funext k
    apply Fin.ext
    fin_cases k <;> (blk_simp [idx t]; rfl)
  blk_simp
  rw [after0_8]
  frame_out
  unfold k0_pay2
  simp only [shapeCast_self]
  rw [p]
  obtain ⟨r, z, rfl⟩ : ∃ r z, y = ix2 r z := ⟨y 0, y 1, by funext k; fin_cases k <;> rfl⟩
  exact at4 m c t r z

/-- The reference's terms. -/
def refProj (o : FVec Ideal S4096x256 .f32) (w : FVec Ideal S256x1024 .f32) : FVec Ideal S4096x1024 .f32 :=
  Host.dotGeneral Cert.BlendReferenceIdeal.dot_S4096x256_S256x1024_S4096x1024_1_0_0_1_n_n none o w

def refSig (a : FVec Ideal S4096x1024 .bf16) : FVec Ideal S4096x1024 .f32 :=
  Host.divf (broadcastInDim Cert.BlendReferenceIdeal.S4096x1024 ![] Cert.BlendReferenceIdeal.Gen.bcast_S_S4096x1024 (constant Cert.BlendReferenceIdeal.S_ .f32 0x3F800000#32))
    (addf (broadcastInDim Cert.BlendReferenceIdeal.S4096x1024 ![] Cert.BlendReferenceIdeal.Gen.bcast_S_S4096x1024 (constant Cert.BlendReferenceIdeal.S_ .f32 0x3F800000#32))
      (Host.exp (Host.negf (extf .f32 a Cert.BlendReferenceIdeal.Gen.bitsLt_bf16_f32))))

def refGated (g : FVec Ideal S4096x5120 .bf16) (a b : FVec Ideal S4096x1024 .f32) : FVec Ideal S4096x1024 .bf16 :=
  truncf .bf16 (addf
    (mulf (refSig (extractStridedSlice Cert.BlendReferenceIdeal.S4096x1024 ![0, 3072] g Cert.BlendReferenceIdeal.Gen.slices_S4096x5120_S4096x1024_0_3072)) a)
    (mulf (refSig (extractStridedSlice Cert.BlendReferenceIdeal.S4096x1024 ![0, 4096] g Cert.BlendReferenceIdeal.Gen.slices_S4096x5120_S4096x1024_0_4096)) b))
    Cert.BlendReferenceIdeal.Gen.bitsLt_bf16_f32

/-- What the kernel leaves is what the reference leaves: no condition is needed. -/
theorem proj_eq (o : FVec Ideal S4096x256 .f32) (w : FVec Ideal S256x1024 .f32) :
    proj o w = truncf .bf16 (refProj o w) Cert.BlendReferenceIdeal.Gen.bitsLt_bf16_f32 := by
  funext i
  pointwise [proj, refProj]

theorem gated_eq (g : FVec Ideal S4096x5120 .bf16) (o o' : FVec Ideal S4096x256 .f32) (w w' : FVec Ideal S256x1024 .f32) :
    gated g (proj o w) (proj o' w') = refGated g (refProj o w) (refProj o' w') := by
  rw [proj_eq, proj_eq]
  funext i
  obtain ⟨r, z, rfl⟩ : ∃ r z, i = ix2 r z := ⟨i 0, i 1, by funext k; fin_cases k <;> rfl⟩
  pointwise [gated, refGated, refSig]

end Cert.BlendKernelIdeal.Blend
end
-- ==== Proof.UnblendValue.lean ====
module

public import proofs.«01_k».proof.Proof.Gen.UnblendKernelIdeal.Frame
public import proofs.«01_k».proof.Proof.Gen.UnblendReferenceIdeal
public import proofs.«01_k».proof.Proof.Numbers
public import Idealize.ShloMosaic.Lib.Pipeline.ValueKit
public import Idealize.ShloMosaic.Lib.Claim
public import Idealize.ShloMosaic.Lib.StableHlo.RunRead

/-! The gradients of the gated sum: every point takes one block of rows, multiplies the incoming gradient with the transposed output
projection, and leaves that product times the two gates, and beside each other its products with the slopes of the two gates. The
reference is the derivative of the forward lines, in which the slope of the sigmoid is one factor. -/

@[expose] public section

set_option maxRecDepth 16384

noncomputable section
open Idealize.ShloMosaic Idealize.ShloMosaic.TcCoe Idealize.SL.Sem
open Idealize.ShloMosaic.Pipeline (Dat)
namespace Cert.UnblendKernelIdeal.Unblend
open Cert.UnblendKernelIdeal Cert.UnblendKernelIdeal.Gen
variable (m : (ℓ : Loc nD τ sig) → Buf (Elt Ideal) ℓ)

/-- Where the blocks of each point lie. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 3] ∧ win0_5.index t = ![t.val, 4]
    ∧ win0_6.index t = ![t.val, 0] ∧ win0_7.index t = ![t.val, 0] ∧ win0_8.index t = ![t.val, 0] := (by decide +kernel : ∀ t : Fin grid0.N, _)

/-- The row of the arrays that row `r` of point `t`'s blocks is, and the columns of the two gates. -/
abbrev row (t : Fin cfg0.N) (r : Fin 512) : Fin 4096 :=
  ⟨t.val * 512 + r.val, by have h : t.val < 8 := t.isLt; omega⟩
abbrev gateD (z : Fin 1024) : Fin 5120 := ⟨3072 + z.val, by omega⟩
abbrev gateS (z : Fin 1024) : Fin 5120 := ⟨4096 + z.val, by omega⟩

/-- The sigmoid of a number. -/
abbrev sigmoid (a : EReal) : EReal := Ideal.div 1 (1 + Ideal.exp (-a))

/-- The gradient of the gated sum, those of its two terms, and those of its gates. -/
def back (d : FVec Ideal S4096x1024 .f32) (w : FVec Ideal S1024x1024 .f32) : FVec Ideal S4096x1024 .f32 := fun i =>
  (∑ k : Fin 1024, (d (ix2 (i 0) k) * w (ix2 (i 1) k) : EReal))
def termD (d : FVec Ideal S4096x1024 .f32) (g : FVec Ideal S4096x5120 .bf16) : FVec Ideal S4096x1024 .bf16 := fun i =>
  (d i * sigmoid (g (ix2 (i 0) (gateD (i 1)))) : EReal)
def termS (d : FVec Ideal S4096x1024 .f32) (g : FVec Ideal S4096x5120 .bf16) : FVec Ideal S4096x1024 .bf16 := fun i =>
  (d i * sigmoid (g (ix2 (i 0) (gateS (i 1)))) : EReal)
def slopeD (d u : FVec Ideal S4096x1024 .f32) (g : FVec Ideal S4096x5120 .bf16) : FVec Ideal S4096x1024 .f32 := fun i =>
  (d i * u i * sigmoid (g (ix2 (i 0) (gateD (i 1)))) * (1 - sigmoid (g (ix2 (i 0) (gateD (i 1))))) : EReal)
def slopeS (d u : FVec Ideal S4096x1024 .f32) (g : FVec Ideal S4096x5120 .bf16) : FVec Ideal S4096x1024 .f32 := fun i =>
  (d i * u i * sigmoid (g (ix2 (i 0) (gateS (i 1)))) * (1 - sigmoid (g (ix2 (i 0) (gateS (i 1))))) : EReal)

/-- Two arrays beside each other, and its columns in the first and in the second. -/
abbrev low (z : Fin 1024) : Fin 2048 := ⟨z.val, by omega⟩
abbrev high (z : Fin 1024) : Fin 2048 := ⟨1024 + z.val, by omega⟩

theorem past (z : Fin 2048) : z.val - 1024 < 1024 := by omega

def beside (a b : FVec Ideal S4096x1024 .f32) : FVec Ideal S4096x2048 .bf16 := fun i =>
  if h : (i 1).val < 1024 then a (ix2 (i 0) ⟨(i 1).val, h⟩) else b (ix2 (i 0) ⟨(i 1).val - 1024, past (i 1)⟩)

theorem beside_low (a b : FVec Ideal S4096x1024 .f32) (r : Fin 4096) (z : Fin 1024) :
    @Eq EReal (beside a b (ix2 r (low z))) (a (ix2 r z)) := dif_pos z.isLt

theorem beside_high (a b : FVec Ideal S4096x1024 .f32) (r : Fin 4096) (z : Fin 1024) :
    @Eq EReal (beside a b (ix2 r (high z))) (b (ix2 r z)) := by
  refine (dif_neg (Nat.not_lt.mpr (Nat.le_add_right 1024 z.val))).trans (congrArg (fun v => b (ix2 r v)) (Fin.ext ?_))
  exact Nat.add_sub_cancel_left 1024 z.val

/-- The blocks of the arguments, each at its place in its array. -/
theorem block_d (c : Dev nD) (t : Fin cfg0.N) (r : Fin 512) (z : Fin 1024) :
    @Eq EReal (iblk m c 0 t (ix2 r z)) (m ((c : Thread nD τ).loc main_arg0) (ix2 (row t r) z)) := by
  blk_simp [iblk]
  entry_read
  pointwise
  blk_ext [idx t]

theorem block_w (c : Dev nD) (t : Fin cfg0.N) (z k : Fin 1024) :
    @Eq EReal (iblk m c 1 t (ix2 z k)) (m ((c : Thread nD τ).loc main_arg1) (ix2 z k)) := by
  blk_simp [iblk]
  entry_read
  pointwise
  blk_ext [idx t]

theorem block_ud (c : Dev nD) (t : Fin cfg0.N) (r : Fin 512) (z : Fin 1024) :
    @Eq EReal (iblk m c 2 t (ix2 r z)) (m ((c : Thread nD τ).loc main_arg2) (ix2 (row t r) z)) := by
  blk_simp [iblk]
  entry_read
  pointwise
  blk_ext [idx t]

theorem block_us (c : Dev nD) (t : Fin cfg0.N) (r : Fin 512) (z : Fin 1024) :
    @Eq EReal (iblk m c 3 t (ix2 r z)) (m ((c : Thread nD τ).loc main_arg3) (ix2 (row t r) z)) := by
  blk_simp [iblk]
  entry_read
  pointwise
  blk_ext [idx t]

theorem block_gd (c : Dev nD) (t : Fin cfg0.N) (r : Fin 512) (z : Fin 1024) :
    @Eq EReal (iblk m c 4 t (ix2 r z)) (m ((c : Thread nD τ).loc main_arg4) (ix2 (row t r) (gateD z))) := by
  blk_simp [iblk]
  blk_ext [idx t]

theorem block_gs (c : Dev nD) (t : Fin cfg0.N) (r : Fin 512) (z : Fin 1024) :
    @Eq EReal (iblk m c 5 t (ix2 r z)) (m ((c : Thread nD τ).loc main_arg4) (ix2 (row t r) (gateS z))) := by
  blk_simp [iblk]
  blk_ext [idx t]

/-- The arrays that the call leaves, as terms of the arguments. -/
abbrev grad (c : Dev nD) : FVec Ideal S4096x1024 .f32 := back (m ((c : Thread nD τ).loc main_arg0)) (m ((c : Thread nD τ).loc main_arg1))
abbrev outD (c : Dev nD) : FVec Ideal S4096x1024 .bf16 := termD (grad m c) (m ((c : Thread nD τ).loc main_arg4))
abbrev outS (c : Dev nD) : FVec Ideal S4096x1024 .bf16 := termS (grad m c) (m ((c : Thread nD τ).loc main_arg4))
abbrev gradD (c : Dev nD) : FVec Ideal S4096x1024 .f32 := slopeD (grad m c) (m ((c : Thread nD τ).loc main_arg2)) (m ((c : Thread nD τ).loc main_arg4))
abbrev gradS (c : Dev nD) : FVec Ideal S4096x1024 .f32 := slopeS (grad m c) (m ((c : Thread nD τ).loc main_arg3)) (m ((c : Thread nD τ).loc main_arg4))

/-- The payloads of the body, read at an index. -/
theorem read3 (a : Vec Ideal S512x1024 .bf16) (b : Vec Ideal S1024x1024 .bf16) (r : Fin 512) (z : Fin 1024) :
    @Eq EReal (k0_pay3 (F := Ideal) a b (ix2 r z)) (∑ k : Fin 1024, (a (ix2 r k) * b (ix2 z k) : EReal)) := by
  pointwise [k0_pay3]

theorem read4 (g : Vec Ideal S512x1024 .bf16) (r : Fin 512) (z : Fin 1024) :
    @Eq EReal (k0_pay4 (F := Ideal) g (ix2 r z)) (sigmoid (g (ix2 r z))) := by
  pointwise [k0_pay4]
  simp only [zero_sub]

theorem read5 (g : Vec Ideal S512x1024 .bf16) (r : Fin 512) (z : Fin 1024) :
    @Eq EReal (k0_pay5 (F := Ideal) g (ix2 r z)) (sigmoid (g (ix2 r z))) := by
  pointwise [k0_pay5]
  simp only [zero_sub]

theorem read6 (a : Vec Ideal S512x1024 .bf16) (b : Vec Ideal S1024x1024 .bf16) (g : Vec Ideal S512x1024 .bf16) (r : Fin 512) (z : Fin 1024) :
    @Eq EReal (k0_pay6 (F := Ideal) a b g (ix2 r z)) (k0_pay3 (F := Ideal) a b (ix2 r z) * k0_pay4 (F := Ideal) g (ix2 r z)) := by
  pointwise [k0_pay6]

theorem read7 (a : Vec Ideal S512x1024 .bf16) (b : Vec Ideal S1024x1024 .bf16) (g : Vec Ideal S512x1024 .bf16) (r : Fin 512) (z : Fin 1024) :
    @Eq EReal (k0_pay7 (F := Ideal) a b g (ix2 r z)) (k0_pay3 (F := Ideal) a b (ix2 r z) * k0_pay5 (F := Ideal) g (ix2 r z)) := by
  pointwise [k0_pay7]

theorem read1 (d s : FVec Ideal S512x1024 .f32) (u : Vec Ideal S512x1024 .bf16) (r : Fin 512) (z : Fin 1024) :
    @Eq EReal (k0_pay1 (F := Ideal) d s (k0_pay8 (F := Ideal) u) (ix2 r z)) (d (ix2 r z) * u (ix2 r z) * s (ix2 r z) * (1 - s (ix2 r z))) := by
  pointwise [k0_pay1, k0_pay8]

theorem read2 (d s : FVec Ideal S512x1024 .f32) (u : Vec Ideal S512x1024 .bf16) (r : Fin 512) (z : Fin 1024) :
    @Eq EReal (k0_pay2 (F := Ideal) d s u (ix2 r z)) (d (ix2 r z) * u (ix2 r z) * s (ix2 r z) * (1 - s (ix2 r z))) := by
  pointwise [k0_pay2]

/-- The payloads over the blocks of a point. -/
theorem at3 (c : Dev nD) (t : Fin cfg0.N) (r : Fin 512) (z : Fin 1024) :
    @Eq EReal (k0_pay3 (F := Ideal) (iblk m c 0 t) (iblk m c 1 t) (ix2 r z)) (grad m c (ix2 (row t r) z)) :=
  (read3 _ _ r z).trans (Finset.sum_congr rfl fun k _ => congrArg₂ (· * ·) (block_d m c t r k) (block_w m c t z k))

theorem at4 (c : Dev nD) (t : Fin cfg0.N) (r : Fin 512) (z : Fin 1024) :
    @Eq EReal (k0_pay4 (F := Ideal) (iblk m c 4 t) (ix2 r z)) (sigmoid (m ((c : Thread nD τ).loc main_arg4) (ix2 (row t r) (gateD z)))) :=
  (read4 _ r z).trans (congrArg sigmoid (block_gd m c t r z))

theorem at5 (c : Dev nD) (t : Fin cfg0.N) (r : Fin 512) (z : Fin 1024) :
    @Eq EReal (k0_pay5 (F := Ideal) (iblk m c 5 t) (ix2 r z)) (sigmoid (m ((c : Thread nD τ).loc main_arg4) (ix2 (row t r) (gateS z)))) :=
  (read5 _ r z).trans (congrArg sigmoid (block_gs m c t r z))

theorem at1 (c : Dev nD) (t : Fin cfg0.N) (r : Fin 512) (z : Fin 1024) :
    @Eq EReal (k0_pay1 (F := Ideal) (k0_pay3 (iblk m c 0 t) (iblk m c 1 t)) (k0_pay4 (iblk m c 4 t)) (k0_pay8 (iblk m c 2 t)) (ix2 r z))
      (gradD m c (ix2 (row t r) z)) :=
  (read1 _ _ _ r z).trans (congrArg₂ (· * ·) (congrArg₂ (· * ·) (congrArg₂ (· * ·) (at3 m c t r z) (block_ud m c t r z)) (at4 m c t r z))
    (congrArg ((1 : EReal) - ·) (at4 m c t r z)))

theorem at2 (c : Dev nD) (t : Fin cfg0.N) (r : Fin 512) (z : Fin 1024) :
    @Eq EReal (k0_pay2 (F := Ideal) (k0_pay3 (iblk m c 0 t) (iblk m c 1 t)) (k0_pay5 (iblk m c 5 t)) (iblk m c 3 t) (ix2 r z))
      (gradS m c (ix2 (row t r) z)) :=
  (read2 _ _ _ r z).trans (congrArg₂ (· * ·) (congrArg₂ (· * ·) (congrArg₂ (· * ·) (at3 m c t r z) (block_us m c t r z)) (at5 m c t r z))
    (congrArg ((1 : EReal) - ·) (at5 m c t r z)))

/-- The three arrays after the run. -/
theorem final6 (c : Dev nD) : (dats m 0 c).arrAt 6 cfg0.N = outD m c := by
  refine (dats m 0 c).arrAt_eq_of_covers 6 _ (by decide +kernel) fun t _ y => ?_
  have p : ((cfg0.win 6).blk t).view.emb y = ix2 (row t (y 0)) (y 1) := by
    funext k
    apply Fin.ext
    fin_cases k <;> (blk_simp [idx t]; rfl)
  blk_simp
  rw [after0_6]
  frame_out
  rw [p]
  obtain ⟨r, z, rfl⟩ : ∃ r z, y = ix2 r z := ⟨y 0, y 1, by funext k; fin_cases k <;> rfl⟩
  exact (read6 _ _ _ r z).trans (congrArg₂ (· * ·) (at3 m c t r z) (at4 m c t r z))

theorem final7 (c : Dev nD) : (dats m 0 c).arrAt 7 cfg0.N = outS m c := by
  refine (dats m 0 c).arrAt_eq_of_covers 7 _ (by decide +kernel) fun t _ y => ?_
  have p : ((cfg0.win 7).blk t).view.emb y = ix2 (row t (y 0)) (y 1) := by
    funext k
    apply Fin.ext
    fin_cases k <;> (blk_simp [idx t]; rfl)
  blk_simp
  rw [after0_7]
  frame_out
  rw [p]
  obtain ⟨r, z, rfl⟩ : ∃ r z, y = ix2 r z := ⟨y 0, y 1, by funext k; fin_cases k <;> rfl⟩
  exact (read7 _ _ _ r z).trans (congrArg₂ (· * ·) (at3 m c t r z) (at5 m c t r z))

theorem final8 (c : Dev nD) : (dats m 0 c).arrAt 8 cfg0.N = beside (gradD m c) (gradS m c) := by
  refine (dats m 0 c).arrAt_eq_of_covers 8 _ (by decide +kernel) fun t _ y => ?_
  have p : ((cfg0.win 8).blk t).view.emb y = ix2 (row t (y 0)) (y 1) := by
    funext k
    apply Fin.ext
    fin_cases k <;> (blk_simp [idx t]; rfl)
  blk_simp
  rw [after0_8]
  rw [p]
  unfold_out out0_8
  refine View.canon_apply_of_pieces (Val := Elt Ideal) (fun y => beside (gradD m c) (gradS m c) (ix2 (row t (y 0)) (y 1))) _ ?_ y (cover0_8 _ _ y)
  intro q hq x
  rcases List.mem_cons.mp hq with rfl | hq
  · obtain ⟨r, z, rfl⟩ : ∃ (r : Fin 512) (z : Fin 1024), x = ix2 r z := ⟨x 0, x 1, by funext k; fin_cases k <;> rfl⟩
    frame_out
    refine (at2 m c t r z).trans ((beside_high _ _ _ z).symm.trans (congrArg (fun i => beside (gradD m c) (gradS m c) i) ?_))
    funext k
    apply Fin.ext
    fin_cases k
    · show t.val * 512 + r.val = t.val * 512 + (0 + 1 * r.val)
      omega
    · show 1024 + z.val = 1024 + 1 * z.val
      omega
  rcases List.mem_cons.mp hq with rfl | hq
  · obtain ⟨r, z, rfl⟩ : ∃ (r : Fin 512) (z : Fin 1024), x = ix2 r z := ⟨x 0, x 1, by funext k; fin_cases k <;> rfl⟩
    frame_out
    refine (at1 m c t r z).trans ((beside_low _ _ _ z).symm.trans (congrArg (fun i => beside (gradD m c) (gradS m c) i) ?_))
    funext k
    apply Fin.ext
    fin_cases k
    · show t.val * 512 + r.val = t.val * 512 + (0 + 1 * r.val)
      omega
    · show z.val = 0 + 1 * z.val
      omega
  exact absurd hq List.not_mem_nil

/-- The reference's terms. -/
def refBack (d : FVec Ideal S4096x1024 .f32) (w : FVec Ideal S1024x1024 .f32) : FVec Ideal S4096x1024 .f32 :=
  Host.dotGeneral Cert.UnblendReferenceIdeal.dot_S4096x1024_S1024x1024_S4096x1024_1_1_0_0_n_n none d w

def ones : FVec Ideal S4096x1024 .f32 := broadcastInDim Cert.UnblendReferenceIdeal.S4096x1024 ![] Cert.UnblendReferenceIdeal.Gen.bcast_S_S4096x1024 (constant Cert.UnblendReferenceIdeal.S_ .f32 0x3F800000#32)

def refSig (a : FVec Ideal S4096x1024 .bf16) : FVec Ideal S4096x1024 .f32 :=
  Host.divf ones (addf ones (Host.exp (Host.negf (extf .f32 a Cert.UnblendReferenceIdeal.Gen.bitsLt_bf16_f32))))

def sigD (g : FVec Ideal S4096x5120 .bf16) : FVec Ideal S4096x1024 .f32 :=
  refSig (extractStridedSlice Cert.UnblendReferenceIdeal.S4096x1024 ![0, 3072] g Cert.UnblendReferenceIdeal.Gen.slices_S4096x5120_S4096x1024_0_3072)
def sigS (g : FVec Ideal S4096x5120 .bf16) : FVec Ideal S4096x1024 .f32 :=
  refSig (extractStridedSlice Cert.UnblendReferenceIdeal.S4096x1024 ![0, 4096] g Cert.UnblendReferenceIdeal.Gen.slices_S4096x5120_S4096x1024_0_4096)

def refTerm (d s : FVec Ideal S4096x1024 .f32) : FVec Ideal S4096x1024 .bf16 := truncf .bf16 (mulf s d) Cert.UnblendReferenceIdeal.Gen.bitsLt_bf16_f32

def refSlope (d u s : FVec Ideal S4096x1024 .f32) : FVec Ideal S4096x1024 .f32 := mulf (mulf d u) (mulf s (subf ones s))

def refGates (a b : FVec Ideal S4096x1024 .f32) : FVec Ideal S4096x2048 .bf16 :=
  truncf .bf16 (concatenate Cert.UnblendReferenceIdeal.S4096x2048 1 [⟨Cert.UnblendReferenceIdeal.S4096x1024, a⟩, ⟨Cert.UnblendReferenceIdeal.S4096x1024, b⟩] Cert.UnblendReferenceIdeal.Gen.concatenates_S4096x1024_S4096x1024_S4096x2048_d1)
    Cert.UnblendReferenceIdeal.Gen.bitsLt_bf16_f32

/-- What the kernel leaves is what the reference leaves: no condition is needed. -/
theorem back_eq (d : FVec Ideal S4096x1024 .f32) (w : FVec Ideal S1024x1024 .f32) : back d w = refBack d w := by
  funext i
  pointwise [back, refBack]

theorem termD_eq (d : FVec Ideal S4096x1024 .f32) (g : FVec Ideal S4096x5120 .bf16) : termD d g = refTerm d (sigD g) := by
  funext i
  obtain ⟨r, z, rfl⟩ : ∃ r z, i = ix2 r z := ⟨i 0, i 1, by funext k; fin_cases k <;> rfl⟩
  pointwise [termD, refTerm, sigD, refSig, ones]
  exact mul_comm _ _

theorem termS_eq (d : FVec Ideal S4096x1024 .f32) (g : FVec Ideal S4096x5120 .bf16) : termS d g = refTerm d (sigS g) := by
  funext i
  obtain ⟨r, z, rfl⟩ : ∃ r z, i = ix2 r z := ⟨i 0, i 1, by funext k; fin_cases k <;> rfl⟩
  pointwise [termS, refTerm, sigS, refSig, ones]
  exact mul_comm _ _

theorem slopeD_eq (d u : FVec Ideal S4096x1024 .f32) (g : FVec Ideal S4096x5120 .bf16) : slopeD d u g = refSlope d u (sigD g) := by
  funext i
  obtain ⟨r, z, rfl⟩ : ∃ r z, i = ix2 r z := ⟨i 0, i 1, by funext k; fin_cases k <;> rfl⟩
  pointwise [slopeD, refSlope, sigD, refSig, ones]
  exact mul_assoc _ _ _

theorem slopeS_eq (d u : FVec Ideal S4096x1024 .f32) (g : FVec Ideal S4096x5120 .bf16) : slopeS d u g = refSlope d u (sigS g) := by
  funext i
  obtain ⟨r, z, rfl⟩ : ∃ r z, i = ix2 r z := ⟨i 0, i 1, by funext k; fin_cases k <;> rfl⟩
  pointwise [slopeS, refSlope, sigS, refSig, ones]
  exact mul_assoc _ _ _

theorem beside_eq (a b : FVec Ideal S4096x1024 .f32) : beside a b = refGates a b := by
  funext i
  obtain ⟨r, z, rfl⟩ : ∃ r z, i = ix2 r z := ⟨i 0, i 1, by funext k; fin_cases k <;> rfl⟩
  rcases Nat.lt_or_ge z.val 1024 with h | h
  · refine (beside_low a b r ⟨z.val, h⟩).trans ?_
    pointwise [refGates]
    rw [dif_pos h]
  · obtain ⟨x, rfl⟩ : ∃ x : Fin 1024, z = high x := ⟨⟨z.val - 1024, past z⟩, Fin.ext (Nat.add_sub_cancel' h).symm⟩
    refine (beside_high a b r x).trans ?_
    pointwise [refGates]

theorem slopes_eq (d : FVec Ideal S4096x1024 .f32) (w : FVec Ideal S1024x1024 .f32) (u v : FVec Ideal S4096x1024 .f32) (g : FVec Ideal S4096x5120 .bf16) :
    beside (slopeD (back d w) u g) (slopeS (back d w) v g)
      = refGates (refSlope (refBack d w) u (sigD g)) (refSlope (refBack d w) v (sigS g)) := by
  rw [beside_eq, slopeD_eq, slopeS_eq, back_eq]

theorem outsD_eq (d : FVec Ideal S4096x1024 .f32) (w : FVec Ideal S1024x1024 .f32) (g : FVec Ideal S4096x5120 .bf16) :
    termD (back d w) g = refTerm (refBack d w) (sigD g) := by
  rw [termD_eq, back_eq]

theorem outsS_eq (d : FVec Ideal S4096x1024 .f32) (w : FVec Ideal S1024x1024 .f32) (g : FVec Ideal S4096x5120 .bf16) :
    termS (back d w) g = refTerm (refBack d w) (sigS g) := by
  rw [termS_eq, back_eq]

end Cert.UnblendKernelIdeal.Unblend
end
-- ==== Proof.ProjGradValue.lean ====
module

public import proofs.«01_k».proof.Proof.Gen.ProjGradKernelIdeal.Frame
public import proofs.«01_k».proof.Proof.Gen.ProjGradReferenceIdeal
public import proofs.«01_k».proof.Proof.Numbers
public import Idealize.ShloMosaic.Lib.Pipeline.ValueKit
public import Idealize.ShloMosaic.Lib.Claim

/-! The product that gives the gradient of the projection of an attention's output, transposed as the kernel keeps it: the result is
the sum of two half products, one over each half of the tokens. The plain reference sums over all the tokens at once, and transposes
the result of the derivative. -/

@[expose] public section

set_option maxRecDepth 16384

noncomputable section
open Idealize.ShloMosaic Idealize.ShloMosaic.TcCoe Idealize.SL.Sem
open Idealize.ShloMosaic.Pipeline (Dat)
namespace Cert.ProjGradKernelIdeal.ProjGrad
open Cert.ProjGradKernelIdeal Cert.ProjGradKernelIdeal.Gen
variable (m : (ℓ : Loc nD τ sig) → Buf (Elt Ideal) ℓ)

/-- The first and the second half of the tokens. -/
abbrev lower (k : Fin 2048) : Fin 4096 := ⟨k.val, by omega⟩
abbrev upper (k : Fin 2048) : Fin 4096 := ⟨2048 + k.val, by omega⟩

/-- What the kernel leaves: the two half products added. -/
def left (s : FVec Ideal S4096x1024 .f32) (d : FVec Ideal S4096x256 .f32) : FVec Ideal S1024x256 .bf16 := fun i =>
  (∑ k : Fin 2048, (s (ix2 (lower k) (i 0)) * d (ix2 (lower k) (i 1)) : EReal))
    + ∑ k : Fin 2048, (s (ix2 (upper k) (i 0)) * d (ix2 (upper k) (i 1)) : EReal)

/-- Where the blocks of each point lie. -/
theorem idx : ∀ t : Fin cfg0.N, win0_0.index t = ![t.val % 2, 0] ∧ win0_1.index t = ![t.val % 2, 0]
    ∧ win0_2.index t = ![0, 0] := (by decide +kernel : ∀ t : Fin grid0.N, _)

/-- A block of the incoming gradient, at its place in the argument. -/
theorem incoming (c : Dev nD) (t : Fin cfg0.N) (k : Fin 2048) (r : Fin 1024) (a : Fin 4096)
    (ha : a.val = t.val % 2 * 2048 + k.val) :
    @Eq EReal (iblk m c 0 t (ix2 k r)) (m ((c : Thread nD τ).loc main_arg1) (ix2 a r)) := by
  blk_simp [iblk]
  entry_read
  pointwise
  blk_ext [idx t, ha]

/-- A block of the attention's output, at its place in the argument. -/
theorem input (c : Dev nD) (t : Fin cfg0.N) (k : Fin 2048) (r : Fin 256) (a : Fin 4096)
    (ha : a.val = t.val % 2 * 2048 + k.val) :
    @Eq EReal (iblk m c 1 t (ix2 k r)) (m ((c : Thread nD τ).loc main_arg0) (ix2 a r)) := by
  blk_simp [iblk]
  blk_ext [idx t, ha]

/-- The body at the second point of a pair, over the blocks of both points of the pair. -/
theorem point (c : Dev nD) (t t' : Fin cfg0.N) (ht : t.val % 2 = 1) (h' : t'.val + 1 = t.val) (y) :
    k0_pay3 (k0_pay2 (k0_pay1 (iblk m c 0 t') (iblk m c 1 t')) (iblk m c 0 t) (iblk m c 1 t)) y
      = left (m ((c : Thread nD τ).loc main_arg1)) (m ((c : Thread nD τ).loc main_arg0)) (((cfg0.win 2).blk t).view.emb y) := by
  have e0 : t'.val % 2 = 0 := by omega
  have p0 : ((((cfg0.win 2).blk t).view.emb y) 0).val = (y 0).val := by blk_simp [idx t]
  have p0' : ((((cfg0.win 2).blk t).view.emb y) 0) = (y 0) := Fin.ext p0
  have p1 : ((((cfg0.win 2).blk t).view.emb y) 1).val = (y 1).val := by blk_simp [idx t]
  have p1' : ((((cfg0.win 2).blk t).view.emb y) 1) = (y 1) := Fin.ext p1
  pointwise [k0_pay3, k0_pay2, k0_pay1, left]
  refine congrArg₂ (· + ·) (Finset.sum_congr rfl fun k _ => ?_) (Finset.sum_congr rfl fun k _ => ?_)
  · exact congrArg₂ (· * ·) ((incoming m c t' k (y 0) (lower k) (by rw [e0]; show k.val = _; omega)).trans (by rw [← p0']))
      ((input m c t' k (y 1) (lower k) (by rw [e0]; show k.val = _; omega)).trans (by rw [← p1']))
  · exact congrArg₂ (· * ·) ((incoming m c t k (y 0) (upper k) (by rw [ht])).trans (by rw [← p0']))
      ((input m c t k (y 1) (upper k) (by rw [ht])).trans (by rw [← p1']))

/-- What the first point of a pair leaves in the accumulator. -/
theorem first (c : Dev nD) (t : Fin cfg0.N) (ht : t.val % 2 = 0) (n : ℕ) (hn : n < cfg0.N) (e : n = t.val) :
    (outsAt0 m c n hn).2 = k0_pay1 (iblk m c 0 t) (iblk m c 1 t) := by
  subst e
  rw [show outsAt0 m c t.val hn = _ from outsAt0_A m c t ht (by omega) (by omega)]
  frame_out

/-- What the second point of a pair leaves in the block of the result. -/
theorem second (c : Dev nD) (t t' : Fin cfg0.N) (ht : t.val % 2 = 1) (h' : t'.val + 1 = t.val) :
    (outsAt0 m c t.val t.isLt).1
      = k0_pay3 (k0_pay2 (k0_pay1 (iblk m c 0 t') (iblk m c 1 t')) (iblk m c 0 t) (iblk m c 1 t)) := by
  rw [outsAt0_B m c t (by omega) ht ht]
  frame_out
  rw [first m c t' (by omega) _ _ (by omega), (Memref.isWhole_whole _).read_unread]

/-- The array of the result after the run. -/
theorem final (c : Dev nD) : (dats m 0 c).arrAt 2 cfg0.N
    = left (m ((c : Thread nD τ).loc main_arg1)) (m ((c : Thread nD τ).loc main_arg0)) := by
  refine (dats m 0 c).arrAt_eq_of_covers 2 _ (by decide +kernel) fun t hf y => ?_
  have ht : t.val % 2 = 1 := (flush0_2 t).mp hf
  blk_simp
  rw [after0_2, second m c t ⟨t.val - 1, Nat.lt_of_le_of_lt (Nat.sub_le _ _) t.isLt⟩ ht (by show t.val - 1 + 1 = t.val; omega)]
  exact point m c t ⟨t.val - 1, Nat.lt_of_le_of_lt (Nat.sub_le _ _) t.isLt⟩ ht (by show t.val - 1 + 1 = t.val; omega) y

/-- What the kernel leaves is the reference's product. -/
theorem left_eq (s : FVec Ideal S4096x1024 .f32) (d : FVec Ideal S4096x256 .f32) :
    left s d = truncf .bf16 (transpose Cert.ProjGradReferenceIdeal.S1024x256 [1, 0]
      (transpose Cert.ProjGradReferenceIdeal.S256x1024 [1, 0]
        (Host.dotGeneral Cert.ProjGradReferenceIdeal.dot_S4096x1024_S4096x256_S1024x256_0_0_1_1_n_n none s d)
        Cert.ProjGradReferenceIdeal.Gen.transposes_S1024x256_S256x1024_1_0)
      Cert.ProjGradReferenceIdeal.Gen.transposes_S256x1024_S1024x256_1_0) Cert.ProjGradReferenceIdeal.Gen.bitsLt_bf16_f32 := by
  funext i
  pointwise [left]
  exact (Cert.Numbers.sum_halves fun k => s (ix2 k (i 0)) * d (ix2 k (i 1))).symm

end Cert.ProjGradKernelIdeal.ProjGrad
end
-- ==== Proof.ProjBackValue.lean ====
module

public import proofs.«01_k».proof.Proof.Gen.ProjBackKernelIdeal.Frame
public import proofs.«01_k».proof.Proof.Gen.ProjBackReferenceIdeal
public import Idealize.ShloMosaic.Lib.Pipeline.ValueKit
public import Idealize.ShloMosaic.Lib.Claim
public import Idealize.ShloMosaic.Lib.StableHlo.RunRead

/-! The gradient of an attention's output: every block of rows of the result is a block of rows of the incoming gradient times the
transposed projection. -/

@[expose] public section

set_option maxRecDepth 16384

noncomputable section
open Idealize.ShloMosaic Idealize.ShloMosaic.TcCoe Idealize.SL.Sem
open Idealize.ShloMosaic.Pipeline (Dat)
namespace Cert.ProjBackKernelIdeal.ProjBack
open Cert.ProjBackKernelIdeal Cert.ProjBackKernelIdeal.Gen
variable (m : (ℓ : Loc nD τ sig) → Buf (Elt Ideal) ℓ)

/-- Where the blocks of each point lie. -/
theorem idx : ∀ t : Fin cfg0.N, win0_0.index t = ![t.val, 0] ∧ win0_1.index t = ![0, 0]
    ∧ win0_2.index t = ![t.val, 0] := (by decide +kernel : ∀ t : Fin grid0.N, _)

/-- What the kernel leaves: the product with the transposed weights. -/
def left (h : FVec Ideal S4096x1024 .f32) (w : FVec Ideal S256x1024 .f32) : FVec Ideal S4096x256 .f32 := fun i =>
  (∑ k : Fin 1024, (h (ix2 (i 0) k) * w (ix2 (i 1) k) : EReal))

/-- The blocks of the arguments, each at its place in its array. -/
theorem block_h (c : Dev nD) (t : Fin cfg0.N) (r : Fin 512) (k : Fin 1024) (a : Fin 4096) (ha : a.val = t.val * 512 + r.val) :
    @Eq EReal (iblk m c 0 t (ix2 r k)) (m ((c : Thread nD τ).loc main_arg0) (ix2 a k)) := by
  blk_simp [iblk]
  entry_read
  pointwise
  blk_ext [idx t, ha]

theorem block_w (c : Dev nD) (t : Fin cfg0.N) (r : Fin 256) (k : Fin 1024) :
    @Eq EReal (iblk m c 1 t (ix2 k r)) (m ((c : Thread nD τ).loc main_arg1) (ix2 r k)) := by
  blk_simp [iblk]
  entry_read
  pointwise
  blk_ext [idx t]

/-- The body at one point. -/
theorem point (c : Dev nD) (t : Fin cfg0.N) (y : S512x256.Idx) (i : S4096x256.Idx) (h0 : (i 0).val = t.val * 512 + (y 0).val)
    (h1 : (i 1).val = (y 1).val) :
    @Eq EReal (k0_pay1 (iblk m c 0 t) (iblk m c 1 t) y)
      (left (m ((c : Thread nD τ).loc main_arg0)) (m ((c : Thread nD τ).loc main_arg1)) i) := by
  pointwise [k0_pay1, left]
  refine Finset.sum_congr rfl fun k _ => ?_
  exact congrArg₂ (· * ·) (block_h m c t (y 0) k (i 0) h0) ((block_w m c t (y 1) k).trans (by rw [show (i 1) = (y 1) from Fin.ext h1]))

/-- The array of the result after the run. -/
theorem final (c : Dev nD) : (dats m 0 c).arrAt 2 cfg0.N
    = left (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y _ (by blk_simp [idx t]) (by blk_simp [idx t])

/-- What the kernel leaves is the reference's product. -/
theorem left_eq (h : FVec Ideal S4096x1024 .f32) (w : FVec Ideal S256x1024 .f32) :
    left h w = Host.dotGeneral Cert.ProjBackReferenceIdeal.dot_S4096x1024_S256x1024_S4096x256_1_1_0_0_n_n none h w := by
  funext i
  pointwise [left]

end Cert.ProjBackKernelIdeal.ProjBack
end
-- ==== Proof.FirstNormValue.lean ====
module

public import proofs.«01_k».proof.Proof.Gen.FirstNormKernelIdeal.Frame
public import proofs.«01_k».proof.Proof.NormTerms
public import Idealize.ShloMosaic.Lib.Pipeline.ValueKit
public import Idealize.ShloMosaic.Lib.Claim
public import Idealize.ShloMosaic.Lib.StableHlo.RunRead

/-! The norm of the first half-step: every point takes one block of rows and leaves its normalised rows. The reference writes the
same term over all the rows. -/

@[expose] public section

set_option maxRecDepth 16384

noncomputable section
open Idealize.ShloMosaic Idealize.ShloMosaic.TcCoe Idealize.SL.Sem
open Idealize.ShloMosaic.Pipeline (Dat)
namespace Cert.FirstNormKernelIdeal.FirstNorm
open Cert.FirstNormKernelIdeal Cert.FirstNormKernelIdeal.Gen
variable (m : (ℓ : Loc nD τ sig) → Buf (Elt Ideal) ℓ)

open Cert.Norm (width small square scale)

/-- Where the blocks of each point lie. -/
theorem idx : ∀ t : Fin cfg0.N, win0_0.index t = ![t.val, 0] ∧ win0_1.index t = ![0, 0] ∧ win0_2.index t = ![t.val, 0] :=
  (by decide +kernel : ∀ t : Fin grid0.N, _)

/-- The row of the arrays that row `r` of point `t`'s blocks is. -/
abbrev row (t : Fin cfg0.N) (r : Fin 512) : Fin 4096 :=
  ⟨t.val * 512 + r.val, by have h : t.val < 8 := t.isLt; omega⟩

/-- The normalised rows. -/
def normed (x : FVec Ideal S4096x1024 .f32) (g : FVec Ideal S1024 .f32) : FVec Ideal S4096x1024 .bf16 := fun i =>
  (x (ix2 (i 0) (i 1)) * scale x (i 0) * g (ix1 (i 1)) : EReal)

/-- The blocks of the arguments, each at its place in its array. -/
theorem block_x (c : Dev nD) (t : Fin cfg0.N) (r : Fin 512) (z : Fin 1024) :
    @Eq EReal (iblk m c 0 t (ix2 r z)) (m ((c : Thread nD τ).loc main_arg0) (ix2 (row t r) z)) := by
  blk_simp [iblk]
  entry_read
  pointwise
  blk_ext [idx t]

theorem block_g (c : Dev nD) (t : Fin cfg0.N) (u : Fin 1) (z : Fin 1024) :
    @Eq EReal (iblk m c 1 t (ix2 u z)) (m ((c : Thread nD τ).loc main_arg1) (ix1 z)) := by
  blk_simp [iblk]
  entry_read
  pointwise
  blk_ext [idx t]

/-- The arguments, by name. -/
abbrev argX (c : Dev nD) : FVec Ideal S4096x1024 .f32 := m ((c : Thread nD τ).loc main_arg0)
abbrev argG (c : Dev nD) : FVec Ideal S1024 .f32 := m ((c : Thread nD τ).loc main_arg1)

/-- The payload of the body, read at an index, and over the blocks of a point. -/
theorem read1 (x : Vec Ideal S512x1024 .f32) (g : Vec Ideal S1x1024 .f32) (r : Fin 512) (z : Fin 1024) :
    @Eq EReal (k0_pay1 (F := Ideal) x g (ix2 r z))
      (x (ix2 r z) * Ideal.rsqrt (Ideal.div (∑ j : Fin 1024, (x (ix2 r j) * x (ix2 r j) : EReal)) width + small) * g (ix2 0 z)) := by
  pointwise [k0_pay1]

theorem at1 (c : Dev nD) (t : Fin cfg0.N) (r : Fin 512) (z : Fin 1024) :
    @Eq EReal (k0_pay1 (F := Ideal) (iblk m c 0 t) (iblk m c 1 t) (ix2 r z)) (normed (argX m c) (argG m c) (ix2 (row t r) z)) := by
  refine (read1 _ _ r z).trans ?_
  refine congrArg₂ (· * ·) (congrArg₂ (· * ·) (block_x m c t r z) (congrArg (fun v => Ideal.rsqrt (Ideal.div v width + small))
    (Finset.sum_congr rfl fun k _ => ?_))) (block_g m c t 0 z)
  exact congrArg₂ (· * ·) (block_x m c t r k) (block_x m c t r k)

/-- The array after the run. -/
theorem final2 (c : Dev nD) : (dats m 0 c).arrAt 2 cfg0.N = normed (argX m c) (argG m c) := by
  refine (dats m 0 c).arrAt_eq_of_covers 2 _ (by decide +kernel) fun t _ y => ?_
  have p : ((cfg0.win 2).blk t).view.emb y = ix2 (row t (y 0)) (y 1) := by
    funext k
    apply Fin.ext
    fin_cases k <;> (blk_simp [idx t]; rfl)
  blk_simp
  rw [after0_2]
  frame_out
  rw [p]
  obtain ⟨r, z, rfl⟩ : ∃ r z, y = ix2 r z := ⟨y 0, y 1, by funext k; fin_cases k <;> rfl⟩
  exact at1 m c t r z

/-- The reference's term. -/
def refNormed (x : FVec Ideal S4096x1024 .f32) (g : FVec Ideal S1024 .f32) : FVec Ideal S4096x1024 .bf16 :=
  truncf .bf16 (mulf (mulf x (broadcastInDim Cert.NormReferenceIdeal.S4096x1024 ![0, 1] Cert.NormReferenceIdeal.Gen.bcast_S4096x1_S4096x1024_0_1 (Host.rsqrt (Cert.Norm.refSquare x))))
    (broadcastInDim Cert.NormReferenceIdeal.S4096x1024 ![0, 1] Cert.NormReferenceIdeal.Gen.bcast_S1x1024_S4096x1024_0_1 (broadcastInDim Cert.NormReferenceIdeal.S1x1024 ![1] Cert.NormReferenceIdeal.Gen.bcast_S1024_S1x1024_1 g)))
    Cert.NormReferenceIdeal.Gen.bitsLt_bf16_f32

/-- What the kernel leaves is what the reference leaves: no condition is needed. -/
theorem normed_eq (x : FVec Ideal S4096x1024 .f32) (g : FVec Ideal S1024 .f32) : normed x g = refNormed x g := by
  funext i
  obtain ⟨r, z, rfl⟩ : ∃ r z, i = ix2 r z := ⟨i 0, i 1, by funext k; fin_cases k <;> rfl⟩
  pointwise [normed, refNormed]
  simp only [Cert.Norm.refSquare_at]
  rfl

end Cert.FirstNormKernelIdeal.FirstNorm
end
-- ==== Proof.LastValue.lean ====
module

public import proofs.«01_k».proof.Proof.Gen.LastKernelIdeal.Frame
public import proofs.«01_k».proof.Proof.Gen.LastReferenceIdeal
public import Idealize.ShloMosaic.Lib.Pipeline.ValueKit
public import Idealize.ShloMosaic.Lib.Claim
public import Idealize.ShloMosaic.Lib.StableHlo.RunRead

/-! The end of the last half-step: every point takes one block of rows and adds half the product of the block with the weights to
the rows. The reference writes the same terms over all the rows. -/

@[expose] public section

set_option maxRecDepth 16384

noncomputable section
open Idealize.ShloMosaic Idealize.ShloMosaic.TcCoe Idealize.SL.Sem
open Idealize.ShloMosaic.Pipeline (Dat)
namespace Cert.LastKernelIdeal.Last
open Cert.LastKernelIdeal Cert.LastKernelIdeal.Gen
variable (m : (ℓ : Loc nD τ sig) → Buf (Elt Ideal) ℓ)

/-- Where the blocks of each point lie. -/
theorem idx : ∀ t : Fin cfg0.N, win0_0.index t = ![t.val, 0] ∧ win0_1.index t = ![0, 0] ∧ win0_2.index t = ![t.val, 0]
    ∧ win0_3.index t = ![t.val, 0] := (by decide +kernel : ∀ t : Fin grid0.N, _)

/-- The row of the arrays that row `r` of point `t`'s blocks is. -/
abbrev row (t : Fin cfg0.N) (r : Fin 512) : Fin 4096 :=
  ⟨t.val * 512 + r.val, by have h : t.val < 8 := t.isLt; omega⟩

/-- One half, as the constants read it. -/
abbrev half : EReal := FloatOps.ofBits (F := Ideal) .f32 0x3F000000#32

/-- The rows with half of the product added, and the normalised rows. -/
def sums (s : FVec Ideal S4096x2816 .f32) (w : FVec Ideal S2816x1024 .f32) (x : FVec Ideal S4096x1024 .f32) : FVec Ideal S4096x1024 .f32 := fun i =>
  (x (ix2 (i 0) (i 1)) + (∑ k : Fin 2816, (s (ix2 (i 0) k) * w (ix2 k (i 1)) : EReal)) * half : EReal)
/-- The blocks of the arguments, each at its place in its array. -/
theorem block_s (c : Dev nD) (t : Fin cfg0.N) (r : Fin 512) (k : Fin 2816) :
    @Eq EReal (iblk m c 0 t (ix2 r k)) (m ((c : Thread nD τ).loc main_arg0) (ix2 (row t r) k)) := by
  blk_simp [iblk]
  entry_read
  pointwise
  blk_ext [idx t]

theorem block_w (c : Dev nD) (t : Fin cfg0.N) (k : Fin 2816) (z : Fin 1024) :
    @Eq EReal (iblk m c 1 t (ix2 k z)) (m ((c : Thread nD τ).loc main_arg1) (ix2 k z)) := by
  blk_simp [iblk]
  entry_read
  pointwise
  blk_ext [idx t]

theorem block_x (c : Dev nD) (t : Fin cfg0.N) (r : Fin 512) (z : Fin 1024) :
    @Eq EReal (iblk m c 2 t (ix2 r z)) (m ((c : Thread nD τ).loc main_arg2) (ix2 (row t r) z)) := by
  blk_simp [iblk]
  entry_read
  pointwise
  blk_ext [idx t]

/-- The rows that the call leaves, as a term of the arguments. -/
abbrev out (c : Dev nD) : FVec Ideal S4096x1024 .f32 := sums (m ((c : Thread nD τ).loc main_arg0)) (m ((c : Thread nD τ).loc main_arg1))
  (m ((c : Thread nD τ).loc main_arg2))
/-- The payloads of the body, read at an index. -/
theorem read1 (x : Vec Ideal S512x1024 .f32) (a : Vec Ideal S512x2816 .bf16) (b : Vec Ideal S2816x1024 .bf16) (r : Fin 512) (z : Fin 1024) :
    @Eq EReal (k0_pay1 (F := Ideal) x a b (ix2 r z)) (x (ix2 r z) + (∑ k : Fin 2816, (a (ix2 r k) * b (ix2 k z) : EReal)) * half) := by
  pointwise [k0_pay1]

/-- The payloads over the blocks of a point. -/
theorem at1 (c : Dev nD) (t : Fin cfg0.N) (r : Fin 512) (z : Fin 1024) :
    @Eq EReal (k0_pay1 (F := Ideal) (iblk m c 2 t) (iblk m c 0 t) (iblk m c 1 t) (ix2 r z)) (out m c (ix2 (row t r) z)) :=
  (read1 _ _ _ r z).trans (congrArg₂ (· + ·) (block_x m c t r z) (congrArg (· * half)
    (Finset.sum_congr rfl fun k _ => congrArg₂ (· * ·) (block_s m c t r k) (block_w m c t k z))))

/-- The array after the run. -/
theorem final3 (c : Dev nD) : (dats m 0 c).arrAt 3 cfg0.N = out m c := by
  refine (dats m 0 c).arrAt_eq_of_covers 3 _ (by decide +kernel) fun t _ y => ?_
  have p : ((cfg0.win 3).blk t).view.emb y = ix2 (row t (y 0)) (y 1) := by
    funext k
    apply Fin.ext
    fin_cases k <;> (blk_simp [idx t]; rfl)
  blk_simp
  rw [after0_3]
  frame_out
  rw [p]
  obtain ⟨r, z, rfl⟩ : ∃ r z, y = ix2 r z := ⟨y 0, y 1, by funext k; fin_cases k <;> rfl⟩
  exact at1 m c t r z

/-- The reference's terms. -/
def refSums (s : FVec Ideal S4096x2816 .f32) (w : FVec Ideal S2816x1024 .f32) (x : FVec Ideal S4096x1024 .f32) : FVec Ideal S4096x1024 .f32 :=
  addf x (mulf (broadcastInDim Cert.LastReferenceIdeal.S4096x1024 ![] Cert.LastReferenceIdeal.Gen.bcast_S_S4096x1024 (constant Cert.LastReferenceIdeal.S_ .f32 0x3F000000#32))
    (Host.dotGeneral Cert.LastReferenceIdeal.dot_S4096x2816_S2816x1024_S4096x1024_1_0_0_1_n_n none s w))

/-- What the kernel leaves is what the reference leaves: no condition is needed. -/
theorem sums_eq (s : FVec Ideal S4096x2816 .f32) (w : FVec Ideal S2816x1024 .f32) (x : FVec Ideal S4096x1024 .f32) : sums s w x = refSums s w x := by
  funext i
  obtain ⟨r, z, rfl⟩ : ∃ r z, i = ix2 r z := ⟨i 0, i 1, by funext k; fin_cases k <;> rfl⟩
  pointwise [sums, refSums]
  exact congrArg (x (ix2 r z) + · : EReal → EReal) (mul_comm _ _)

end Cert.LastKernelIdeal.Last
end
-- ==== Proof.InnerValue.lean ====
module

public import proofs.«01_k».proof.Proof.Gen.InnerKernelIdeal.Frame
public import proofs.«01_k».proof.Proof.Gen.InnerReferenceIdeal
public import proofs.«01_k».proof.Proof.Elements
public import Idealize.ShloMosaic.Lib.Pipeline.ValueKit
public import Idealize.ShloMosaic.Lib.Claim
public import Idealize.ShloMosaic.Lib.StableHlo.RunRead

/-! The inner products of the heads' rows: every point takes one block of rows of the two arrays, multiplies them entry by entry, and
for each of the four heads adds up the row's products on the lanes of that head, which it picks out by a mask. The sum is repeated
over 128 lanes. The reference splits the rows into heads and adds up the 64 lanes of each. -/

@[expose] public section

set_option maxRecDepth 16384

noncomputable section
open Idealize.ShloMosaic Idealize.ShloMosaic.TcCoe Idealize.SL.Sem
open Idealize.ShloMosaic.Pipeline (Dat)
namespace Cert.InnerKernelIdeal.Inner
open Cert.InnerKernelIdeal Cert.InnerKernelIdeal.Gen
open Cert.KernelIdeal.Sb (ofHead ofHead_eq)
variable (m : (ℓ : Loc nD τ sig) → Buf (Elt Ideal) ℓ)

/-- Where the blocks of each point lie. -/
theorem idx : ∀ t : Fin cfg0.N, win0_0.index t = ![t.val, 0] ∧ win0_1.index t = ![t.val, 0] ∧ win0_2.index t = ![t.val, 0] :=
  (by decide +kernel : ∀ t : Fin grid0.N, _)

/-- The row of the arrays that row `r` of point `t`'s blocks is. -/
abbrev row (t : Fin cfg0.N) (r : Fin 512) : Fin 4096 :=
  ⟨t.val * 512 + r.val, by have h : t.val < 8 := t.isLt; omega⟩

/-- Lane `k` of head `h`. -/
abbrev lane (h : Fin 4) (k : Fin 64) : Fin 256 := ⟨h.val * 64 + k.val, by omega⟩

/-- The head that lane `z` of the result belongs to. -/
abbrev headOf (z : Fin 512) : Fin 4 := ⟨z.val / 128, by omega⟩

/-- The inner products, 128 lanes for each head. -/
def sums (a b : FVec Ideal S4096x256 .f32) : FVec Ideal S4096x512 .f32 := fun i =>
  (∑ k : Fin 64, (a (ix2 (i 0) (lane (headOf (i 1)) k)) * b (ix2 (i 0) (lane (headOf (i 1)) k)) : EReal) : EReal)

/-- The blocks of the arguments, each at its place in its array. -/
theorem block_a (c : Dev nD) (t : Fin cfg0.N) (r : Fin 512) (z : Fin 256) :
    @Eq EReal (iblk m c 0 t (ix2 r z)) (m ((c : Thread nD τ).loc main_arg0) (ix2 (row t r) z)) := by
  blk_simp [iblk]
  blk_ext [idx t]

theorem block_b (c : Dev nD) (t : Fin cfg0.N) (r : Fin 512) (z : Fin 256) :
    @Eq EReal (iblk m c 1 t (ix2 r z)) (m ((c : Thread nD τ).loc main_arg1) (ix2 (row t r) z)) := by
  blk_simp [iblk]
  blk_ext [idx t]

/-- The arguments, by name. -/
abbrev argA (c : Dev nD) : FVec Ideal S4096x256 .f32 := m ((c : Thread nD τ).loc main_arg0)
abbrev argB (c : Dev nD) : FVec Ideal S4096x256 .f32 := m ((c : Thread nD τ).loc main_arg1)

/-- A sum over the lanes that keeps one head's is the sum over that head's lanes. -/
theorem sum_head (h : Fin 4) (f : Fin 256 → EReal) :
    (∑ c : Fin 256, if c.val / 64 = h.val then f c else 0) = ∑ k : Fin 64, f (lane h k) := by
  rw [← (finProdFinEquiv (m := 4) (n := 64)).sum_comp, Fintype.sum_prod_type, Finset.sum_eq_single h]
  · refine Finset.sum_congr rfl fun k _ => ?_
    have e : (finProdFinEquiv (m := 4) (n := 64)) (h, k) = lane h k := Fin.ext (by show k.val + 64 * h.val = h.val * 64 + k.val; omega)
    rw [e]
    exact if_pos (show (h.val * 64 + k.val) / 64 = h.val by omega)
  · intro j _ hj
    refine Finset.sum_eq_zero fun k _ => if_neg ?_
    have e : (finProdFinEquiv (m := 4) (n := 64)) (j, k) = lane j k := Fin.ext (by show k.val + 64 * j.val = j.val * 64 + k.val; omega)
    rw [e]
    show ¬(j.val * 64 + k.val) / 64 = h.val
    have := fun q => hj (Fin.ext q)
    omega
  · intro hn
    exact absurd (Finset.mem_univ h) hn

/-- What the body stores for head `h`, from the products. -/
def headSum (h : BitVec 32) (p : FVec Ideal S512x256 .f32) : FVec Ideal S512x128 .f32 :=
  shapeCast S512x128 (broadcastTo S512x128 (shapeCast S512x1 (shapeCast S512x1
    (multiReduction .add [1] S512 (select (ofHead h) p (broadcast S512x256 (Scalar.ofBits (F := Ideal) .f32 0x00000000#32))) 0x00000000#32
      reduces_S512x256_S512 (.inl rfl) rfl) shapeCasts_S512_S512x1) shapeCasts_S512x1_S512x1) broadcasts_S512x1_S512x128) shapeCasts_S512x128_S512x128

theorem headSum_at (h : Fin 4) (p : FVec Ideal S512x256 .f32) (r : Fin 512) (z : Fin 128) :
    @Eq EReal (headSum (BitVec.ofNat 32 h.val) p (ix2 r z)) (∑ k : Fin 64, p (ix2 r (lane h k))) := by
  refine Eq.trans ?_ (sum_head h fun c => p (ix2 r c))
  unfold headSum
  pointwise
  refine Finset.sum_congr rfl fun c _ => ?_
  exact Cert.KernelIdeal.Sb.select_iff (ofHead_eq h.val h.isLt r c) _ _

/-- The products of two blocks. -/
def products (a b : Vec Ideal S512x256 .f32) : FVec Ideal S512x256 .f32 := k0_pay2 (F := Ideal) a b

theorem products_at (a b : Vec Ideal S512x256 .f32) (r : Fin 512) (z : Fin 256) :
    @Eq EReal (products a b (ix2 r z)) (a (ix2 r z) * b (ix2 r z)) := by
  pointwise [products, k0_pay2]

theorem pay_head0 (a b : Vec Ideal S512x256 .f32) : k0_pay3 (F := Ideal) a b = headSum (BitVec.ofNat 32 0) (products a b) := rfl

theorem pay_head1 (p : FVec Ideal S512x256 .f32) : k0_pay4 (F := Ideal) p = headSum (BitVec.ofNat 32 1) p := rfl

theorem pay_head2 (p : FVec Ideal S512x256 .f32) :
    k0_pay7 (F := Ideal) p (iota .tc S1x256 32 [1] iota_S1x256_d1_w32) 64#32 k0_pay5 k0_pay6 = headSum (BitVec.ofNat 32 2) p := rfl

theorem pay_head3 (p : FVec Ideal S512x256 .f32) :
    k0_pay1 (F := Ideal) p (iota .tc S1x256 32 [1] iota_S1x256_d1_w32) 64#32 k0_pay8 k0_pay9 (Scalar.extui (Scalar.cmpi .sgt 64#32 0#32)) 0#32
      = headSum (BitVec.ofNat 32 3) p := rfl

/-- The lane of the result that lane `z` of head `h`'s piece is. -/
abbrev put (h : Fin 4) (z : Fin 128) : Fin 512 := ⟨128 * h.val + z.val, by omega⟩

/-- The piece of each head, over the blocks of a point. -/
theorem piece (c : Dev nD) (t : Fin cfg0.N) (h : Fin 4) (r : Fin 512) (z : Fin 128) :
    @Eq EReal (headSum (BitVec.ofNat 32 h.val) (products (iblk m c 0 t) (iblk m c 1 t)) (ix2 r z))
      (sums (argA m c) (argB m c) (ix2 (row t r) (put h z))) := by
  refine (headSum_at h _ r z).trans ?_
  have e : headOf (put h z) = h := Fin.ext (show (128 * h.val + z.val) / 128 = h.val by omega)
  show _ = ∑ k : Fin 64, (argA m c (ix2 (row t r) (lane (headOf (put h z)) k)) * argB m c (ix2 (row t r) (lane (headOf (put h z)) k)) : EReal)
  rw [e]
  refine Finset.sum_congr rfl fun k _ => ?_
  exact (products_at _ _ r _).trans (congrArg₂ (· * ·) (block_a m c t r _) (block_b m c t r _))

/-- The array after the run. -/
theorem final2 (c : Dev nD) : (dats m 0 c).arrAt 2 cfg0.N = sums (argA m c) (argB m c) := by
  refine (dats m 0 c).arrAt_eq_of_covers 2 _ (by decide +kernel) fun t _ y => ?_
  have p : ((cfg0.win 2).blk t).view.emb y = ix2 (row t (y 0)) (y 1) := by
    funext k
    apply Fin.ext
    fin_cases k <;> (blk_simp [idx t]; rfl)
  blk_simp
  rw [after0_2]
  rw [p]
  unfold_out out0_2
  rw [pay_head0, pay_head1, pay_head2, pay_head3]
  refine View.canon_apply_of_pieces (Val := Elt Ideal) (fun y => sums (argA m c) (argB m c) (ix2 (row t (y 0)) (y 1))) _ ?_ y (cover0_2 _ _ _ _ y)
  intro q hq x
  rcases List.mem_cons.mp hq with rfl | hq
  · obtain ⟨r, z, rfl⟩ : ∃ (r : Fin 512) (z : Fin 128), x = ix2 r z := ⟨x 0, x 1, by funext k; fin_cases k <;> rfl⟩
    frame_out
    refine (piece m c t 3 r z).trans (congrArg (fun i => sums (argA m c) (argB m c) i) ?_)
    funext k
    apply Fin.ext
    fin_cases k
    · show t.val * 512 + r.val = t.val * 512 + (0 + 1 * r.val)
      omega
    · show 128 * 3 + z.val = 384 + 1 * z.val
      omega
  rcases List.mem_cons.mp hq with rfl | hq
  · obtain ⟨r, z, rfl⟩ : ∃ (r : Fin 512) (z : Fin 128), x = ix2 r z := ⟨x 0, x 1, by funext k; fin_cases k <;> rfl⟩
    frame_out
    refine (piece m c t 2 r z).trans (congrArg (fun i => sums (argA m c) (argB m c) i) ?_)
    funext k
    apply Fin.ext
    fin_cases k
    · show t.val * 512 + r.val = t.val * 512 + (0 + 1 * r.val)
      omega
    · show 128 * 2 + z.val = 256 + 1 * z.val
      omega
  rcases List.mem_cons.mp hq with rfl | hq
  · obtain ⟨r, z, rfl⟩ : ∃ (r : Fin 512) (z : Fin 128), x = ix2 r z := ⟨x 0, x 1, by funext k; fin_cases k <;> rfl⟩
    frame_out
    refine (piece m c t 1 r z).trans (congrArg (fun i => sums (argA m c) (argB m c) i) ?_)
    funext k
    apply Fin.ext
    fin_cases k
    · show t.val * 512 + r.val = t.val * 512 + (0 + 1 * r.val)
      omega
    · show 128 * 1 + z.val = 128 + 1 * z.val
      omega
  rcases List.mem_cons.mp hq with rfl | hq
  · obtain ⟨r, z, rfl⟩ : ∃ (r : Fin 512) (z : Fin 128), x = ix2 r z := ⟨x 0, x 1, by funext k; fin_cases k <;> rfl⟩
    frame_out
    refine (piece m c t 0 r z).trans (congrArg (fun i => sums (argA m c) (argB m c) i) ?_)
    funext k
    apply Fin.ext
    fin_cases k
    · show t.val * 512 + r.val = t.val * 512 + (0 + 1 * r.val)
      omega
    · show 128 * 0 + z.val = 0 + 1 * z.val
      omega
  exact absurd hq List.not_mem_nil

/-- The reference's term. -/
def refSums (a b : FVec Ideal S4096x256 .f32) : FVec Ideal S4096x512 .f32 :=
  shapeCast Cert.InnerReferenceIdeal.S4096x512 (broadcastInDim Cert.InnerReferenceIdeal.S4096x4x128 ![0, 1, 2] Cert.InnerReferenceIdeal.Gen.bcast_S4096x4x1_S4096x4x128_0_1_2
    (broadcastInDim Cert.InnerReferenceIdeal.S4096x4x1 ![0, 1] Cert.InnerReferenceIdeal.Gen.bcast_S4096x4_S4096x4x1_0_1
      (Host.reduceAdd (mulf (shapeCast Cert.InnerReferenceIdeal.S4096x4x64 a Cert.InnerReferenceIdeal.Gen.shapeCasts_S4096x256_S4096x4x64)
        (shapeCast Cert.InnerReferenceIdeal.S4096x4x64 b Cert.InnerReferenceIdeal.Gen.shapeCasts_S4096x256_S4096x4x64))
        (constant Cert.InnerReferenceIdeal.S_ .f32 0x00000000#32) Cert.InnerReferenceIdeal.Gen.reducesTo_S4096x4x64_S4096x4_d2 Cert.InnerReferenceIdeal.Gen.h_S_)))
    Cert.InnerReferenceIdeal.Gen.shapeCasts_S4096x4x128_S4096x512

/-- What the kernel leaves is what the reference leaves: no condition is needed. -/
theorem sums_eq (a b : FVec Ideal S4096x256 .f32) : sums a b = refSums a b := by
  funext i
  obtain ⟨r, z, rfl⟩ : ∃ r z, i = ix2 r z := ⟨i 0, i 1, by funext k; fin_cases k <;> rfl⟩
  pointwise [sums, refSums]

end Cert.InnerKernelIdeal.Inner
end
-- ==== Proof.LossValue.lean ====
module

public import proofs.«01_k».proof.Proof.Gen.LossKernelIdeal.Frame
public import proofs.«01_k».proof.Proof.Gen.Pre_loss_finite
public import proofs.«01_k».proof.Proof.NormTerms
public import Idealize.ShloMosaic.Lib.StableHlo.RunRead

/-! The last norm and the loss: every point takes one block of rows, and leaves the gradient of those rows. The gradient of the
gain and the loss are summed over the points, each in one block that all points share. The reference is the derivative of half
the sum of the rows' mean squared errors: its incoming gradient is the error over the length of a row, written as twice the
error times one half over that length, and the gradient through the norm is the one of the other norms. -/

@[expose] public section

set_option maxRecDepth 16384

noncomputable section
open Idealize.ShloMosaic Idealize.ShloMosaic.TcCoe Idealize.SL.Sem
open Idealize.ShloMosaic.Pipeline (Dat)
namespace Cert.LossKernelIdeal.Loss
open Cert.LossKernelIdeal Cert.LossKernelIdeal.Gen
open Cert.Norm (width small square scale through gains)
variable (m : (ℓ : Loc nD τ sig) → Buf (Elt Ideal) ℓ)

/-- Where the blocks of each point lie. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0] :=
  (by decide +kernel : ∀ t : Fin grid0.N, _)

/-- The row of the arrays that row `r` of point `t`'s blocks is. -/
abbrev row (t : Fin cfg0.N) (r : Fin 512) : Fin 4096 :=
  ⟨t.val * 512 + r.val, by have h : t.val < 8 := t.isLt; omega⟩

/-- One over the length of a row, and one half of it, as the constants read them. -/
abbrev each : EReal := FloatOps.ofBits (F := Ideal) .f32 0x3A800000#32
abbrev halfEach : EReal := FloatOps.ofBits (F := Ideal) .f32 0x3A000000#32

theorem each_eq : each = ((1 / 1024 : ℝ) : EReal) := by
  show Ideal.ofBits .f32 0x3A800000#32 = _
  simp only [Ideal.ofBits, Ideal.ieee]
  rw [if_neg (by decide), if_neg (by decide)]
  congr 1
  simp
  norm_num

theorem halfEach_eq : halfEach = ((1 / 2048 : ℝ) : EReal) := by
  show Ideal.ofBits .f32 0x3A000000#32 = _
  simp only [Ideal.ofBits, Ideal.ieee]
  rw [if_neg (by decide), if_neg (by decide)]
  congr 1
  simp
  norm_num

theorem two_f32 : (FloatOps.ofBits (F := Ideal) .f32 0x40000000#32 : EReal) = ((2 : ℝ) : EReal) := by
  show Ideal.ofBits .f32 0x40000000#32 = _
  simp only [Ideal.ofBits, Ideal.ieee]
  rw [if_neg (by decide), if_neg (by decide)]
  congr 1
  simp
  norm_num

/-- The errors, the incoming gradient, the gradient of the rows, and the loss (the same number in every lane). -/
def errs (x : FVec Ideal S4096x1024 .f32) (g : FVec Ideal S1024 .f32) (y : FVec Ideal S4096x1024 .f32) : FVec Ideal S4096x1024 .f32 := fun i =>
  (x (ix2 (i 0) (i 1)) * scale x (i 0) * g (ix1 (i 1)) - y (ix2 (i 0) (i 1)) : EReal)
def incoming (e : FVec Ideal S4096x1024 .f32) : FVec Ideal S4096x1024 .f32 := fun i => (e (ix2 (i 0) (i 1)) * each : EReal)
def slopes (x : FVec Ideal S4096x1024 .f32) (g : FVec Ideal S1024 .f32) (d : FVec Ideal S4096x1024 .f32) : FVec Ideal S4096x1024 .f32 := fun i =>
  (through x g d (i 0) (i 1) : EReal)
def squares (e : FVec Ideal S4096x1024 .f32) (r : Fin 4096) : EReal := ∑ z : Fin 1024, (e (ix2 r z) * e (ix2 r z) : EReal)
def loss (e : FVec Ideal S4096x1024 .f32) : FVec Ideal S1x128 .f32 := fun _ => (∑ r : Fin 4096, squares e r * halfEach : EReal)

/-- The blocks of the inputs, at their places in the arguments. -/
theorem block_x (c : Dev nD) (t : Fin cfg0.N) (r : Fin 512) (z : Fin 1024) :
    @Eq EReal (iblk m c 0 t (ix2 r z)) (m ((c : Thread nD τ).loc main_arg0) (ix2 (row t r) z)) := by
  blk_simp [iblk]
  entry_read
  pointwise
  blk_ext [idx t]

theorem block_g (c : Dev nD) (t : Fin cfg0.N) (u : Fin 1) (z : Fin 1024) :
    @Eq EReal (iblk m c 1 t (ix2 u z)) (m ((c : Thread nD τ).loc main_arg1) (ix1 z)) := by
  blk_simp [iblk]
  entry_read
  pointwise
  blk_ext [idx t]

theorem block_y (c : Dev nD) (t : Fin cfg0.N) (r : Fin 512) (z : Fin 1024) :
    @Eq EReal (iblk m c 2 t (ix2 r z)) (m ((c : Thread nD τ).loc main_arg2) (ix2 (row t r) z)) := by
  blk_simp [iblk]
  entry_read
  pointwise
  blk_ext [idx t]

/-- The arguments, by name, and the errors. -/
abbrev argX (c : Dev nD) : FVec Ideal S4096x1024 .f32 := m ((c : Thread nD τ).loc main_arg0)
abbrev argG (c : Dev nD) : FVec Ideal S1024 .f32 := m ((c : Thread nD τ).loc main_arg1)
abbrev argE (c : Dev nD) : FVec Ideal S4096x1024 .f32 := errs (argX m c) (argG m c) (m ((c : Thread nD τ).loc main_arg2))
abbrev argD (c : Dev nD) : FVec Ideal S4096x1024 .f32 := incoming (argE m c)

/-- The payloads of the body, read at an index. -/
theorem read8 (x : Vec Ideal S512x1024 .f32) (r : Fin 512) (u : Fin 1) : @Eq EReal (k0_pay8 (F := Ideal) x (ix2 r u))
    (Ideal.rsqrt (Ideal.div (∑ j : Fin 1024, (x (ix2 r j) * x (ix2 r j) : EReal)) width + small)) := by
  pointwise [k0_pay8]

theorem read9 (x : Vec Ideal S512x1024 .f32) (r : Fin 512) (z : Fin 1024) : @Eq EReal (k0_pay9 (F := Ideal) x (ix2 r z))
    (x (ix2 r z) * k0_pay8 (F := Ideal) x (ix2 r 0)) := by
  pointwise [k0_pay9]

theorem read10 (x : Vec Ideal S512x1024 .f32) (g : Vec Ideal S1x1024 .f32) (y : Vec Ideal S512x1024 .f32) (r : Fin 512) (z : Fin 1024) :
    @Eq EReal (k0_pay10 (F := Ideal) x g y (ix2 r z)) (k0_pay9 (F := Ideal) x (ix2 r z) * g (ix2 0 z) - y (ix2 r z)) := by
  pointwise [k0_pay10, k0_pay7]

theorem read11 (x : Vec Ideal S512x1024 .f32) (g : Vec Ideal S1x1024 .f32) (y : Vec Ideal S512x1024 .f32) (r : Fin 512) (z : Fin 1024) :
    @Eq EReal (k0_pay11 (F := Ideal) x g y (ix2 r z)) (k0_pay10 (F := Ideal) x g y (ix2 r z) * each) := by
  pointwise [k0_pay11]

theorem read12 (x : Vec Ideal S512x1024 .f32) (g : Vec Ideal S1x1024 .f32) (y : Vec Ideal S512x1024 .f32) (r : Fin 512) (z : Fin 1024) :
    @Eq EReal (k0_pay12 (F := Ideal) x g y (ix2 r z))
      (k0_pay8 (F := Ideal) x (ix2 r 0) * (k0_pay11 (F := Ideal) x g y (ix2 r z) * g (ix2 0 z)
        - k0_pay9 (F := Ideal) x (ix2 r z) * Ideal.div (∑ j : Fin 1024, (k0_pay11 (F := Ideal) x g y (ix2 r j) * g (ix2 0 j)
          * k0_pay9 (F := Ideal) x (ix2 r j) : EReal)) width)) := by
  pointwise [k0_pay12, k0_pay7]

theorem read15 (x : Vec Ideal S512x1024 .f32) (g : Vec Ideal S1x1024 .f32) (y : Vec Ideal S512x1024 .f32) (u : Fin 1) (z : Fin 1024) :
    @Eq EReal (k0_pay1 (F := Ideal) (k0_pay15 (F := Ideal) x g y) (ix2 u z))
      (∑ k : Fin 512, (k0_pay11 (F := Ideal) x g y (ix2 k z) * k0_pay9 (F := Ideal) x (ix2 k z) : EReal)) := by
  pointwise [k0_pay1, k0_pay15]

theorem read2 (e : FVec Ideal S512x1024 .f32) (u : Fin 1) (l : Fin 128) : @Eq EReal (k0_pay2 (F := Ideal) e (ix2 u l))
    ((∑ r : Fin 512, ∑ z : Fin 1024, (e (ix2 r z) * e (ix2 r z) : EReal)) * halfEach) := by
  pointwise [k0_pay2]

/-- The payloads over the blocks of a point. -/
theorem at8 (c : Dev nD) (t : Fin cfg0.N) (r : Fin 512) (u : Fin 1) :
    @Eq EReal (k0_pay8 (F := Ideal) (iblk m c 0 t) (ix2 r u)) (scale (argX m c) (row t r)) := by
  refine (read8 _ r u).trans ?_
  exact congrArg (fun v => Ideal.rsqrt (Ideal.div v width + small))
    (Finset.sum_congr rfl fun k _ => congrArg₂ (· * ·) (block_x m c t r k) (block_x m c t r k))

theorem at9 (c : Dev nD) (t : Fin cfg0.N) (r : Fin 512) (z : Fin 1024) :
    @Eq EReal (k0_pay9 (F := Ideal) (iblk m c 0 t) (ix2 r z)) (argX m c (ix2 (row t r) z) * scale (argX m c) (row t r)) := by
  refine (read9 _ r z).trans ?_
  exact congrArg₂ (· * ·) (block_x m c t r z) (at8 m c t r 0)

theorem at10 (c : Dev nD) (t : Fin cfg0.N) (r : Fin 512) (z : Fin 1024) :
    @Eq EReal (k0_pay10 (F := Ideal) (iblk m c 0 t) (iblk m c 1 t) (iblk m c 2 t) (ix2 r z)) (argE m c (ix2 (row t r) z)) := by
  refine (read10 _ _ _ r z).trans ?_
  exact congrArg₂ (· - ·) (congrArg₂ (· * ·) (at9 m c t r z) (block_g m c t 0 z)) (block_y m c t r z)

theorem at11 (c : Dev nD) (t : Fin cfg0.N) (r : Fin 512) (z : Fin 1024) :
    @Eq EReal (k0_pay11 (F := Ideal) (iblk m c 0 t) (iblk m c 1 t) (iblk m c 2 t) (ix2 r z)) (argD m c (ix2 (row t r) z)) :=
  (read11 _ _ _ r z).trans (congrArg (· * each) (at10 m c t r z))

theorem at12 (c : Dev nD) (t : Fin cfg0.N) (r : Fin 512) (z : Fin 1024) :
    @Eq EReal (k0_pay12 (F := Ideal) (iblk m c 0 t) (iblk m c 1 t) (iblk m c 2 t) (ix2 r z))
      (through (argX m c) (argG m c) (argD m c) (row t r) z) := by
  refine (read12 _ _ _ r z).trans ?_
  refine congrArg₂ (· * ·) (at8 m c t r 0) (congrArg₂ (· - ·)
    (congrArg₂ (· * ·) (at11 m c t r z) (block_g m c t 0 z))
    (congrArg₂ (· * ·) (at9 m c t r z) (congrArg (fun v => Ideal.div v width) (Finset.sum_congr rfl fun k _ => ?_))))
  exact congrArg₂ (· * ·) (congrArg₂ (· * ·) (at11 m c t r k) (block_g m c t 0 k)) (at9 m c t r k)

/-- What a point adds to the gradient of the gain and to the loss: its block of rows. -/
def part (c : Dev nD) (t : Fin cfg0.N) (z : Fin 1024) : EReal :=
  ∑ r : Fin 512, (argD m c (ix2 (row t r) z) * (argX m c (ix2 (row t r) z) * scale (argX m c) (row t r)) : EReal)
def lossPart (c : Dev nD) (t : Fin cfg0.N) (l : Fin 128) : EReal := ∑ r : Fin 512, squares (argE m c) (row t r) * halfEach

theorem at15 (c : Dev nD) (t : Fin cfg0.N) (u : Fin 1) (z : Fin 1024) :
    @Eq EReal (k0_pay1 (F := Ideal) (k0_pay15 (F := Ideal) (iblk m c 0 t) (iblk m c 1 t) (iblk m c 2 t)) (ix2 u z)) (part m c t z) := by
  refine (read15 _ _ _ u z).trans ?_
  exact Finset.sum_congr rfl fun k _ => congrArg₂ (· * ·) (at11 m c t k z) (at9 m c t k z)

theorem at2 (c : Dev nD) (t : Fin cfg0.N) (u : Fin 1) (l : Fin 128) :
    @Eq EReal (k0_pay2 (F := Ideal) (k0_pay10 (F := Ideal) (iblk m c 0 t) (iblk m c 1 t) (iblk m c 2 t)) (ix2 u l)) (lossPart m c t l) := by
  refine (read2 _ u l).trans ?_
  have e : (∑ r : Fin 512, ∑ z : Fin 1024, (k0_pay10 (F := Ideal) (iblk m c 0 t) (iblk m c 1 t) (iblk m c 2 t) (ix2 r z)
      * k0_pay10 (F := Ideal) (iblk m c 0 t) (iblk m c 1 t) (iblk m c 2 t) (ix2 r z) : EReal)) = ∑ r : Fin 512, squares (argE m c) (row t r) :=
    Finset.sum_congr rfl fun r _ => Finset.sum_congr rfl fun z _ => congrArg₂ (· * ·) (at10 m c t r z) (at10 m c t r z)
  rw [e]
  unfold lossPart
  rw [halfEach_eq]
  exact Cert.Numbers.sum_mul_real _ _ (by norm_num)

/-- What each point leaves: the first, and those after it. -/
theorem out3 (c : Dev nD) (t : Fin cfg0.N) : (outsAt0 m c t.val t.isLt).1 = k0_pay13 (iblk m c 0 t) (iblk m c 1 t) (iblk m c 2 t) := by
  rcases Nat.eq_zero_or_pos t.val with h | h
  · rw [outsAt0_A m c t (by omega) (by omega)]
    frame_out
  · rw [outsAt0_B m c t (by have h : t.val < 8 := t.isLt; omega) (by omega)]
    frame_out

theorem out4 (c : Dev nD) (t : Fin cfg0.N) : (outsAt0 m c t.val t.isLt).2.1 = k0_pay14 (iblk m c 0 t) (iblk m c 1 t) (iblk m c 2 t) := by
  rcases Nat.eq_zero_or_pos t.val with h | h
  · rw [outsAt0_A m c t (by omega) (by omega)]
    frame_out
  · rw [outsAt0_B m c t (by have h : t.val < 8 := t.isLt; omega) (by omega)]
    frame_out

theorem out5_first (c : Dev nD) (t : Fin cfg0.N) (h : t.val % 8 = 0) : (outsAt0 m c t.val t.isLt).2.2.1
    = k0_pay3 (k0_pay15 (iblk m c 0 t) (iblk m c 1 t) (iblk m c 2 t)) := by
  rw [outsAt0_A m c t h (by have h : t.val < 8 := t.isLt; omega)]
  frame_out

theorem out5_next (c : Dev nD) (t : Fin cfg0.N) (h : ¬t.val % 8 = 0) : (outsAt0 m c t.val t.isLt).2.2.1
    = k0_pay5 (k0_pay15 (iblk m c 0 t) (iblk m c 1 t) (iblk m c 2 t))
      (outsAt0 m c (t.val - 1) (Nat.lt_of_le_of_lt (Nat.sub_le _ _) t.isLt)).2.2.1 := by
  rw [outsAt0_B m c t h (by omega)]
  frame_out

theorem out6_first (c : Dev nD) (t : Fin cfg0.N) (h : t.val % 8 = 0) : (outsAt0 m c t.val t.isLt).2.2.2
    = k0_pay4 (k0_pay10 (iblk m c 0 t) (iblk m c 1 t) (iblk m c 2 t)) := by
  rw [outsAt0_A m c t h (by have h : t.val < 8 := t.isLt; omega)]
  frame_out

theorem out6_next (c : Dev nD) (t : Fin cfg0.N) (h : ¬t.val % 8 = 0) : (outsAt0 m c t.val t.isLt).2.2.2
    = k0_pay6 (k0_pay10 (iblk m c 0 t) (iblk m c 1 t) (iblk m c 2 t))
      (outsAt0 m c (t.val - 1) (Nat.lt_of_le_of_lt (Nat.sub_le _ _) t.isLt)).2.2.2 := by
  rw [outsAt0_B m c t h (by omega)]
  frame_out

/-- The arrays of the gradient of the rows after the run, in both formats. -/
theorem final3 (c : Dev nD) : (dats m 0 c).arrAt 3 cfg0.N = slopes (argX m c) (argG m c) (argD m c) := by
  refine (dats m 0 c).arrAt_eq_of_covers 3 _ (by decide +kernel) fun t _ y => ?_
  blk_simp
  rw [after0_3, out3]
  have p0 : ((((cfg0.win 3).blk t).view.emb y) 0) = row t (y 0) := Fin.ext (by blk_simp [idx t])
  have p1 : ((((cfg0.win 3).blk t).view.emb y) 1) = y 1 := Fin.ext (by blk_simp [idx t])
  obtain ⟨r, z, rfl⟩ : ∃ r z, y = ix2 r z := ⟨y 0, y 1, by funext k; fin_cases k <;> rfl⟩
  unfold k0_pay13 slopes
  simp only [shapeCast_self]
  rw [p0, p1]
  exact at12 m c t r z

theorem final4 (c : Dev nD) : (dats m 0 c).arrAt 4 cfg0.N
    = (truncf .bf16 (slopes (argX m c) (argG m c) (argD m c)) bitsLt_bf16_f32 : FVec Ideal S4096x1024 .bf16) := by
  refine (dats m 0 c).arrAt_eq_of_covers 4 _ (by decide +kernel) fun t _ y => ?_
  blk_simp
  rw [after0_4, out4]
  have p0 : ((((cfg0.win 4).blk t).view.emb y) 0) = row t (y 0) := Fin.ext (by blk_simp [idx t])
  have p1 : ((((cfg0.win 4).blk t).view.emb y) 1) = y 1 := Fin.ext (by blk_simp [idx t])
  obtain ⟨r, z, rfl⟩ : ∃ r z, y = ix2 r z := ⟨y 0, y 1, by funext k; fin_cases k <;> rfl⟩
  unfold k0_pay14 slopes
  simp only [shapeCast_self]
  show _ = (through _ _ _ _ _ : EReal)
  rw [p0, p1]
  exact at12 m c t r z

/-- The gradient of the gain after the last point: the sum over all the rows. -/
theorem total5 (c : Dev nD) (t : Fin cfg0.N) (ht : t.val + 1 = 8) (z : Fin 1024) (u : Fin 1) :
    @Eq EReal ((outsAt0 m c t.val t.isLt).2.2.1 (ix2 u z)) (gains (argX m c) (argD m c) (ix2 u z)) := by
  refine (Pipeline.eq_sum_fin_of_reset_step_apply_last (N := 8) (M := EReal)
    (fun n hn (z : Fin 1024) => ((outsAt0 m c n hn).2.2.1 (ix2 u z) : EReal)) 8 (fun _ => 0) (fun t z => part m c t z) ?_ ?_ (le_refl _) t ht z).trans ?_
  · intro t h z
    show @Eq EReal ((outsAt0 m c t.val t.isLt).2.2.1 (ix2 u z)) _
    rw [out5_first m c t h]
    unfold k0_pay3
    simp only [shapeCast_self]
    exact (at15 m c t u z).trans (zero_add _).symm
  · intro t h z
    show @Eq EReal ((outsAt0 m c t.val t.isLt).2.2.1 (ix2 u z)) _
    rw [out5_next m c t h]
    unfold k0_pay5
    simp only [shapeCast_self]
    exact congrArg (((outsAt0 m c (t.val - 1) (Nat.lt_of_le_of_lt (Nat.sub_le _ _) t.isLt)).2.2.1 (ix2 u z) : EReal) + ·) (at15 m c t u z)
  · rw [zero_add]
    exact Fin.sum_mul_add_congr (fun s k hl => rfl) (by decide)

/-- The loss after the last point: the sum over all the rows. -/
theorem total6 (c : Dev nD) (t : Fin cfg0.N) (ht : t.val + 1 = 8) (l : Fin 128) (u : Fin 1) :
    @Eq EReal ((outsAt0 m c t.val t.isLt).2.2.2 (ix2 u l)) (loss (argE m c) (ix2 u l)) := by
  refine (Pipeline.eq_sum_fin_of_reset_step_apply_last (N := 8) (M := EReal)
    (fun n hn (l : Fin 128) => ((outsAt0 m c n hn).2.2.2 (ix2 u l) : EReal)) 8 (fun _ => 0) (fun t l => lossPart m c t l) ?_ ?_ (le_refl _) t ht l).trans ?_
  · intro t h l
    show @Eq EReal ((outsAt0 m c t.val t.isLt).2.2.2 (ix2 u l)) _
    rw [out6_first m c t h]
    unfold k0_pay4
    simp only [shapeCast_self]
    exact (at2 m c t u l).trans (zero_add _).symm
  · intro t h l
    show @Eq EReal ((outsAt0 m c t.val t.isLt).2.2.2 (ix2 u l)) _
    rw [out6_next m c t h]
    unfold k0_pay6
    simp only [shapeCast_self]
    exact congrArg (((outsAt0 m c (t.val - 1) (Nat.lt_of_le_of_lt (Nat.sub_le _ _) t.isLt)).2.2.2 (ix2 u l) : EReal) + ·) (at2 m c t u l)
  · rw [zero_add]
    exact Fin.sum_mul_add_congr (fun s k hl => rfl) (by decide)

/-- The arrays of the gradient of the gain and of the loss after the run. -/
theorem final5 (c : Dev nD) : (dats m 0 c).arrAt 5 cfg0.N = gains (argX m c) (argD m c) := by
  refine (dats m 0 c).arrAt_eq_of_covers 5 _ (by decide +kernel) fun t hf y => ?_
  have ht : t.val % 8 = 7 := (flush0_5 t).mp hf
  have hl : t.val < 8 := t.isLt
  blk_simp
  rw [after0_5]
  have p : ((cfg0.win 5).blk t).view.emb y = y := by
    funext k
    apply Fin.ext
    fin_cases k <;> blk_simp [idx t]
  rw [p]
  obtain ⟨u, z, rfl⟩ : ∃ u z, y = ix2 u z := ⟨y 0, y 1, by funext k; fin_cases k <;> rfl⟩
  exact total5 m c t (by omega) z u

theorem final6 (c : Dev nD) : (dats m 0 c).arrAt 6 cfg0.N = loss (argE m c) := by
  refine (dats m 0 c).arrAt_eq_of_covers 6 _ (by decide +kernel) fun t hf y => ?_
  have ht : t.val % 8 = 7 := (flush0_6 t).mp hf
  have hl : t.val < 8 := t.isLt
  blk_simp
  rw [after0_6]
  have p : ((cfg0.win 6).blk t).view.emb y = y := by
    funext k
    apply Fin.ext
    fin_cases k <;> blk_simp [idx t]
  rw [p]
  obtain ⟨u, l, rfl⟩ : ∃ u l, y = ix2 u l := ⟨y 0, y 1, by funext k; fin_cases k <;> rfl⟩
  exact total6 m c t (by omega) l u

end Cert.LossKernelIdeal.Loss
end
-- ==== Proof.LossTerms.lean ====
module

public import proofs.«01_k».proof.Proof.Gen.LossReferenceIdeal
public import proofs.«01_k».proof.Proof.LossValue

/-! The last norm and the loss: the reference's terms are the kernel's. -/

@[expose] public section

set_option maxRecDepth 16384

noncomputable section
open Idealize.ShloMosaic Idealize.ShloMosaic.TcCoe
namespace Cert.LossKernelIdeal.Loss
open Cert.LossReferenceIdeal Cert.LossReferenceIdeal.Gen
open Cert.Norm (width small square scale through gains rows refSquare refWeighted refSlope refRows refGains)

/-- The reference's terms. -/
def refErrs (x : FVec Ideal S4096x1024 .f32) (g : FVec Ideal S1024 .f32) (y : FVec Ideal S4096x1024 .f32) : FVec Ideal S4096x1024 .f32 :=
  subf (mulf (mulf x (broadcastInDim S4096x1024 ![0, 1] bcast_S4096x1_S4096x1024_0_1 (Host.rsqrt (refSquare x))))
    (broadcastInDim S4096x1024 ![0, 1] bcast_S1x1024_S4096x1024_0_1 (broadcastInDim S1x1024 ![1] bcast_S1024_S1x1024_1 g))) y

def refIncoming (e : FVec Ideal S4096x1024 .f32) : FVec Ideal S4096x1024 .f32 :=
  mulf (broadcastInDim S4096x1024 ![0] bcast_S4096_S4096x1024_0 (Host.divf (broadcastInDim S4096 ![] bcast_S_S4096
    (mulf (constant S_ .f32 0x3F000000#32) (constant S_ .f32 0x3F800000#32))) (broadcastInDim S4096 ![] bcast_S_S4096 (constant S_ .f32 0x44800000#32))))
    (mulf (broadcastInDim S4096x1024 ![] bcast_S_S4096x1024 (constant S_ .f32 0x40000000#32)) e)

def refSlopes (x : FVec Ideal S4096x1024 .f32) (g : FVec Ideal S1024 .f32) (d : FVec Ideal S4096x1024 .f32) : FVec Ideal S4096x1024 .f32 :=
  addf (addf (mulf (refWeighted g d) (broadcastInDim S4096x1024 ![0, 1] bcast_S4096x1_S4096x1024_0_1 (Host.rsqrt (refSquare x))))
    (mulf x (refSlope x g d))) (mulf (refSlope x g d) x)

def refLoss (e : FVec Ideal S4096x1024 .f32) : FVec Ideal S1x128 .f32 :=
  broadcastInDim S1x128 ![] bcast_S_S1x128 (mulf (constant S_ .f32 0x3F000000#32) (Host.reduceAdd (Host.divf (Host.reduceAdd (mulf e e)
    (constant S_ .f32 0x00000000#32) reducesTo_S4096x1024_S4096_d1 h_S_) (broadcastInDim S4096 ![] bcast_S_S4096 (constant S_ .f32 0x44800000#32)))
    (constant S_ .f32 0x00000000#32) reducesTo_S4096_S_d0 h_S_))

theorem errs_eq (x : FVec Ideal S4096x1024 .f32) (g : FVec Ideal S1024 .f32) (y : FVec Ideal S4096x1024 .f32) : errs x g y = refErrs x g y := by
  funext i
  obtain ⟨r, z, rfl⟩ : ∃ r z, i = ix2 r z := ⟨i 0, i 1, by funext k; fin_cases k <;> rfl⟩
  pointwise [errs, refErrs]
  simp only [Cert.Norm.refSquare_at]
  rfl

/-- The incoming gradient: twice the error times one half over the length is the error over the length. -/
theorem incoming_eq (e : FVec Ideal S4096x1024 .f32) : incoming e = refIncoming e := by
  funext i
  obtain ⟨r, z, rfl⟩ : ∃ r z, i = ix2 r z := ⟨i 0, i 1, by funext k; fin_cases k <;> rfl⟩
  pointwise [incoming, refIncoming]
  show @Eq EReal (e (ix2 r z) * each) (Ideal.div (FloatOps.ofBits (F := Ideal) .f32 0x3F000000#32) width
    * (FloatOps.ofBits (F := Ideal) .f32 0x40000000#32 * e (ix2 r z)))
  rw [each_eq, two_f32, Cert.Numbers.half_f32, Cert.Norm.width_eq, Ideal.div_coe (by norm_num), ← EReal.coe_mul,
    ← mul_assoc, ← EReal.coe_mul, mul_comm]
  norm_num

/-- The loss: the constant factors may be taken out of the sum. -/
theorem loss_eq (e : FVec Ideal S4096x1024 .f32) : loss e = refLoss e := by
  funext i
  pointwise [loss, refLoss]
  show @Eq EReal (∑ r : Fin 4096, squares e r * halfEach) (FloatOps.ofBits (F := Ideal) .f32 0x3F000000#32
    * ∑ r : Fin 4096, Ideal.div (squares e r) width)
  rw [halfEach_eq, Cert.Numbers.half_f32, Cert.Norm.width_eq, mul_comm]
  simp only [Ideal.div_coe (show (1024 : ℝ) ≠ 0 by norm_num)]
  rw [Cert.Numbers.sum_mul_real _ _ (by norm_num)]
  refine Finset.sum_congr rfl fun r _ => ?_
  rw [mul_assoc, ← EReal.coe_mul]
  norm_num

/-- The gradient of the rows, where the arrays hold reals. -/
theorem slopes_eq (x : FVec Ideal S4096x1024 .f32) (g : FVec Ideal S1024 .f32) (d : FVec Ideal S4096x1024 .f32)
    (hx : ∀ i, ∃ v : ℝ, @Eq EReal (x i) (v : EReal)) (hg : ∀ i, ∃ v : ℝ, @Eq EReal (g i) (v : EReal))
    (hd : ∀ i, ∃ v : ℝ, @Eq EReal (d i) (v : EReal)) : slopes x g d = refSlopes x g d := by
  funext i
  have h := congrFun (Cert.Norm.rows_eq x g d (fun _ => (0 : EReal)) hx hg hd) i
  have l : @Eq EReal (rows x g d (fun _ => (0 : EReal)) i) (slopes x g d i) := zero_add _
  have r : @Eq EReal (refRows x g d (fun _ => (0 : EReal)) i) (refSlopes x g d i) := zero_add _
  exact l.symm.trans (h.trans r)

/-- The incoming gradient is real where the arguments are. -/
theorem incoming_real (x : FVec Ideal S4096x1024 .f32) (g : FVec Ideal S1024 .f32) (y : FVec Ideal S4096x1024 .f32)
    (hx : ∀ i, ∃ v : ℝ, @Eq EReal (x i) (v : EReal)) (hg : ∀ i, ∃ v : ℝ, @Eq EReal (g i) (v : EReal))
    (hy : ∀ i, ∃ v : ℝ, @Eq EReal (y i) (v : EReal)) (i : S4096x1024.Idx) : ∃ v : ℝ, @Eq EReal (incoming (errs x g y) i) (v : EReal) := by
  obtain ⟨s, hs, e1, e2⟩ := Cert.Norm.scale_real x hx (i 0)
  obtain ⟨a, ha⟩ := hx (ix2 (i 0) (i 1))
  obtain ⟨b, hb⟩ := hg (ix1 (i 1))
  obtain ⟨d, hd⟩ := hy (ix2 (i 0) (i 1))
  refine ⟨(a * s⁻¹ * b - d) * (1 / 1024), ?_⟩
  show @Eq EReal ((x (ix2 (i 0) (i 1)) * scale x (i 0) * g (ix1 (i 1)) - y (ix2 (i 0) (i 1))) * each) _
  rw [ha, hb, hd, e2, each_eq, ← EReal.coe_mul, ← EReal.coe_mul, ← EReal.coe_sub, ← EReal.coe_mul]

/-- The precondition, decoded: the three arrays hold reals. -/
theorem reals_of_pre {x : FVec Ideal S4096x1024 .f32} {g : FVec Ideal S1024 .f32} {y : FVec Ideal S4096x1024 .f32}
    (hpre : Cert.Pre_loss_finite.fn (F := Ideal) x g y = fun _ => 1#1) :
    (∀ i, ∃ v : ℝ, @Eq EReal (x i) (v : EReal)) ∧ (∀ i, ∃ v : ℝ, @Eq EReal (g i) (v : EReal))
      ∧ ∀ i, ∃ v : ℝ, @Eq EReal (incoming (errs x g y) i) (v : EReal) := by
  have h := congrFun hpre (Shape.Idx.first (by decide))
  obtain ⟨h, h3⟩ := Cert.Numbers.both _ _ h
  obtain ⟨h1, h2⟩ := Cert.Numbers.both _ _ h
  haveI : Subsingleton Cert.Pre_loss_finite.S_.Idx := ⟨fun a b => funext fun i => i.elim0⟩
  have r1 := fun i => Cert.Numbers.real_of_lt Cert.Numbers.inf_f32 (Host.reduce_andi_all _ _ _ _ _ h1 i)
  have r2 := fun i => Cert.Numbers.real_of_lt Cert.Numbers.inf_f32 (Host.reduce_andi_all _ _ _ _ _ h2 i)
  exact ⟨r1, r2, incoming_real x g y r1 r2 fun i => Cert.Numbers.real_of_lt Cert.Numbers.inf_f32 (Host.reduce_andi_all _ _ _ _ _ h3 i)⟩

/-- The results in the reference's terms. -/
theorem slopes_all (x : FVec Ideal S4096x1024 .f32) (g : FVec Ideal S1024 .f32) (y : FVec Ideal S4096x1024 .f32)
    (hx : ∀ i, ∃ v : ℝ, @Eq EReal (x i) (v : EReal)) (hg : ∀ i, ∃ v : ℝ, @Eq EReal (g i) (v : EReal))
    (hd : ∀ i, ∃ v : ℝ, @Eq EReal (incoming (errs x g y) i) (v : EReal)) :
    refSlopes x g (refIncoming (refErrs x g y)) = slopes x g (incoming (errs x g y)) := by
  rw [← errs_eq, ← incoming_eq]
  exact (slopes_eq x g _ hx hg hd).symm

theorem gains_all (x : FVec Ideal S4096x1024 .f32) (g : FVec Ideal S1024 .f32) (y : FVec Ideal S4096x1024 .f32) :
    refGains x (refIncoming (refErrs x g y)) = gains x (incoming (errs x g y)) := by
  rw [← errs_eq, ← incoming_eq]
  exact (Cert.Norm.gains_eq _ _).symm

theorem loss_all (x : FVec Ideal S4096x1024 .f32) (g : FVec Ideal S1024 .f32) (y : FVec Ideal S4096x1024 .f32) :
    refLoss (refErrs x g y) = loss (errs x g y) := by
  rw [← errs_eq]
  exact (loss_eq _).symm

end Cert.LossKernelIdeal.Loss
end
-- ==== Proof.lean ====
/- The proof of the certificate's claims. -/
module

public import proofs.«01_k».proof.Defs
public import proofs.«01_k».proof.Proof.Gen.Kernel
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Value
public import proofs.«01_k».proof.Proof.NormValue
public import proofs.«01_k».proof.Proof.GluValue
public import proofs.«01_k».proof.Proof.DownValue
public import proofs.«01_k».proof.Proof.GateValue
public import proofs.«01_k».proof.Proof.HiddenValue
public import proofs.«01_k».proof.Proof.MixValue
public import proofs.«01_k».proof.Proof.InGradValue
public import proofs.«01_k».proof.Proof.IntoValue
public import proofs.«01_k».proof.Proof.ResidualValue
public import proofs.«01_k».proof.Proof.UpdateValue
public import proofs.«01_k».proof.Proof.GainValue
public import proofs.«01_k».proof.Proof.SumValue
public import proofs.«01_k».proof.Proof.UpdateOutValue
public import proofs.«01_k».proof.Proof.UpdateInValue
public import proofs.«01_k».proof.Proof.UpdateProjValue
public import proofs.«01_k».proof.Proof.OutGradValue
public import proofs.«01_k».proof.Proof.OutValue
public import proofs.«01_k».proof.Proof.BlendValue
public import proofs.«01_k».proof.Proof.UnblendValue
public import proofs.«01_k».proof.Proof.ProjGradValue
public import proofs.«01_k».proof.Proof.ProjBackValue
public import proofs.«01_k».proof.Proof.FirstNormValue
public import proofs.«01_k».proof.Proof.LastValue
public import proofs.«01_k».proof.Proof.InnerValue
public import proofs.«01_k».proof.Proof.LossValue
public import proofs.«01_k».proof.Proof.LossTerms
public import proofs.«01_k».proof.Proof.Gen.NormKernel
public import proofs.«01_k».proof.Proof.Gen.NormKernel.Skeleton
public import proofs.«01_k».proof.Proof.Gen.NormKernel.Launch
public import proofs.«01_k».proof.Proof.Gen.NormKernel.Points
public import proofs.«01_k».proof.Proof.Gen.NormKernel.Frame
public import proofs.«01_k».proof.Proof.Gen.NormKernelIdeal
public import proofs.«01_k».proof.Proof.Gen.NormKernelIdeal.Skeleton
public import proofs.«01_k».proof.Proof.Gen.NormKernelIdeal.Launch
public import proofs.«01_k».proof.Proof.Gen.NormKernelIdeal.Points
public import proofs.«01_k».proof.Proof.Gen.NormKernelIdeal.Frame
public import proofs.«01_k».proof.Proof.Gen.NormKernelIdeal.Value
public import proofs.«01_k».proof.Proof.Gen.NormReferenceIdeal
public import proofs.«01_k».proof.Proof.Gen.NormReferenceIdeal.Run
public import proofs.«01_k».proof.Proof.Gen.GluKernel
public import proofs.«01_k».proof.Proof.Gen.GluKernel.Skeleton
public import proofs.«01_k».proof.Proof.Gen.GluKernel.Launch
public import proofs.«01_k».proof.Proof.Gen.GluKernel.Points
public import proofs.«01_k».proof.Proof.Gen.GluKernel.Frame
public import proofs.«01_k».proof.Proof.Gen.GluKernelIdeal
public import proofs.«01_k».proof.Proof.Gen.GluKernelIdeal.Skeleton
public import proofs.«01_k».proof.Proof.Gen.GluKernelIdeal.Launch
public import proofs.«01_k».proof.Proof.Gen.GluKernelIdeal.Points
public import proofs.«01_k».proof.Proof.Gen.GluKernelIdeal.Frame
public import proofs.«01_k».proof.Proof.Gen.GluKernelIdeal.Value
public import proofs.«01_k».proof.Proof.Gen.GluReferenceIdeal
public import proofs.«01_k».proof.Proof.Gen.GluReferenceIdeal.Run
public import proofs.«01_k».proof.Proof.Gen.DownKernel
public import proofs.«01_k».proof.Proof.Gen.DownKernel.Skeleton
public import proofs.«01_k».proof.Proof.Gen.DownKernel.Launch
public import proofs.«01_k».proof.Proof.Gen.DownKernel.Points
public import proofs.«01_k».proof.Proof.Gen.DownKernel.Frame
public import proofs.«01_k».proof.Proof.Gen.DownKernelIdeal
public import proofs.«01_k».proof.Proof.Gen.DownKernelIdeal.Skeleton
public import proofs.«01_k».proof.Proof.Gen.DownKernelIdeal.Launch
public import proofs.«01_k».proof.Proof.Gen.DownKernelIdeal.Points
public import proofs.«01_k».proof.Proof.Gen.DownKernelIdeal.Frame
public import proofs.«01_k».proof.Proof.Gen.DownKernelIdeal.Value
public import proofs.«01_k».proof.Proof.Gen.DownReferenceIdeal
public import proofs.«01_k».proof.Proof.Gen.DownReferenceIdeal.Run
public import proofs.«01_k».proof.Proof.Gen.GateKernel
public import proofs.«01_k».proof.Proof.Gen.GateKernel.Skeleton
public import proofs.«01_k».proof.Proof.Gen.GateKernel.Launch
public import proofs.«01_k».proof.Proof.Gen.GateKernel.Points
public import proofs.«01_k».proof.Proof.Gen.GateKernel.Frame
public import proofs.«01_k».proof.Proof.Gen.GateKernelIdeal
public import proofs.«01_k».proof.Proof.Gen.GateKernelIdeal.Skeleton
public import proofs.«01_k».proof.Proof.Gen.GateKernelIdeal.Launch
public import proofs.«01_k».proof.Proof.Gen.GateKernelIdeal.Points
public import proofs.«01_k».proof.Proof.Gen.GateKernelIdeal.Frame
public import proofs.«01_k».proof.Proof.Gen.GateKernelIdeal.Value
public import proofs.«01_k».proof.Proof.Gen.GateReferenceIdeal
public import proofs.«01_k».proof.Proof.Gen.GateReferenceIdeal.Run
public import proofs.«01_k».proof.Proof.Gen.HiddenKernel
public import proofs.«01_k».proof.Proof.Gen.HiddenKernel.Skeleton
public import proofs.«01_k».proof.Proof.Gen.HiddenKernel.Launch
public import proofs.«01_k».proof.Proof.Gen.HiddenKernel.Points
public import proofs.«01_k».proof.Proof.Gen.HiddenKernel.Frame
public import proofs.«01_k».proof.Proof.Gen.HiddenKernelIdeal
public import proofs.«01_k».proof.Proof.Gen.HiddenKernelIdeal.Skeleton
public import proofs.«01_k».proof.Proof.Gen.HiddenKernelIdeal.Launch
public import proofs.«01_k».proof.Proof.Gen.HiddenKernelIdeal.Points
public import proofs.«01_k».proof.Proof.Gen.HiddenKernelIdeal.Frame
public import proofs.«01_k».proof.Proof.Gen.HiddenKernelIdeal.Value
public import proofs.«01_k».proof.Proof.Gen.HiddenReferenceIdeal
public import proofs.«01_k».proof.Proof.Gen.HiddenReferenceIdeal.Run
public import proofs.«01_k».proof.Proof.Gen.MixKernel
public import proofs.«01_k».proof.Proof.Gen.MixKernel.Skeleton
public import proofs.«01_k».proof.Proof.Gen.MixKernel.Launch
public import proofs.«01_k».proof.Proof.Gen.MixKernel.Points
public import proofs.«01_k».proof.Proof.Gen.MixKernel.Frame
public import proofs.«01_k».proof.Proof.Gen.MixKernelIdeal
public import proofs.«01_k».proof.Proof.Gen.MixKernelIdeal.Skeleton
public import proofs.«01_k».proof.Proof.Gen.MixKernelIdeal.Launch
public import proofs.«01_k».proof.Proof.Gen.MixKernelIdeal.Points
public import proofs.«01_k».proof.Proof.Gen.MixKernelIdeal.Frame
public import proofs.«01_k».proof.Proof.Gen.MixKernelIdeal.Value
public import proofs.«01_k».proof.Proof.Gen.MixReferenceIdeal
public import proofs.«01_k».proof.Proof.Gen.MixReferenceIdeal.Run
public import proofs.«01_k».proof.Proof.Gen.Pre_mix_finite
public import proofs.«01_k».proof.Proof.Gen.InGradKernel
public import proofs.«01_k».proof.Proof.Gen.InGradKernel.Skeleton
public import proofs.«01_k».proof.Proof.Gen.InGradKernel.Launch
public import proofs.«01_k».proof.Proof.Gen.InGradKernel.Points
public import proofs.«01_k».proof.Proof.Gen.InGradKernel.Frame
public import proofs.«01_k».proof.Proof.Gen.InGradKernelIdeal
public import proofs.«01_k».proof.Proof.Gen.InGradKernelIdeal.Skeleton
public import proofs.«01_k».proof.Proof.Gen.InGradKernelIdeal.Launch
public import proofs.«01_k».proof.Proof.Gen.InGradKernelIdeal.Points
public import proofs.«01_k».proof.Proof.Gen.InGradKernelIdeal.Frame
public import proofs.«01_k».proof.Proof.Gen.InGradKernelIdeal.Value
public import proofs.«01_k».proof.Proof.Gen.InGradReferenceIdeal
public import proofs.«01_k».proof.Proof.Gen.InGradReferenceIdeal.Run
public import proofs.«01_k».proof.Proof.Gen.IntoKernel
public import proofs.«01_k».proof.Proof.Gen.IntoKernel.Skeleton
public import proofs.«01_k».proof.Proof.Gen.IntoKernel.Launch
public import proofs.«01_k».proof.Proof.Gen.IntoKernel.Points
public import proofs.«01_k».proof.Proof.Gen.IntoKernel.Frame
public import proofs.«01_k».proof.Proof.Gen.IntoKernelIdeal
public import proofs.«01_k».proof.Proof.Gen.IntoKernelIdeal.Skeleton
public import proofs.«01_k».proof.Proof.Gen.IntoKernelIdeal.Launch
public import proofs.«01_k».proof.Proof.Gen.IntoKernelIdeal.Points
public import proofs.«01_k».proof.Proof.Gen.IntoKernelIdeal.Frame
public import proofs.«01_k».proof.Proof.Gen.IntoKernelIdeal.Value
public import proofs.«01_k».proof.Proof.Gen.IntoReferenceIdeal
public import proofs.«01_k».proof.Proof.Gen.IntoReferenceIdeal.Run
public import proofs.«01_k».proof.Proof.Gen.ResidualKernel
public import proofs.«01_k».proof.Proof.Gen.ResidualKernel.Skeleton
public import proofs.«01_k».proof.Proof.Gen.ResidualKernel.Launch
public import proofs.«01_k».proof.Proof.Gen.ResidualKernel.Points
public import proofs.«01_k».proof.Proof.Gen.ResidualKernel.Frame
public import proofs.«01_k».proof.Proof.Gen.ResidualKernelIdeal
public import proofs.«01_k».proof.Proof.Gen.ResidualKernelIdeal.Skeleton
public import proofs.«01_k».proof.Proof.Gen.ResidualKernelIdeal.Launch
public import proofs.«01_k».proof.Proof.Gen.ResidualKernelIdeal.Points
public import proofs.«01_k».proof.Proof.Gen.ResidualKernelIdeal.Frame
public import proofs.«01_k».proof.Proof.Gen.ResidualKernelIdeal.Value
public import proofs.«01_k».proof.Proof.Gen.ResidualReferenceIdeal
public import proofs.«01_k».proof.Proof.Gen.ResidualReferenceIdeal.Run
public import proofs.«01_k».proof.Proof.Gen.UpdateKernel
public import proofs.«01_k».proof.Proof.Gen.UpdateKernel.Skeleton
public import proofs.«01_k».proof.Proof.Gen.UpdateKernel.Launch
public import proofs.«01_k».proof.Proof.Gen.UpdateKernel.Points
public import proofs.«01_k».proof.Proof.Gen.UpdateKernel.Frame
public import proofs.«01_k».proof.Proof.Gen.UpdateKernelIdeal
public import proofs.«01_k».proof.Proof.Gen.UpdateKernelIdeal.Skeleton
public import proofs.«01_k».proof.Proof.Gen.UpdateKernelIdeal.Launch
public import proofs.«01_k».proof.Proof.Gen.UpdateKernelIdeal.Points
public import proofs.«01_k».proof.Proof.Gen.UpdateKernelIdeal.Frame
public import proofs.«01_k».proof.Proof.Gen.UpdateKernelIdeal.Value
public import proofs.«01_k».proof.Proof.Gen.UpdateReferenceIdeal
public import proofs.«01_k».proof.Proof.Gen.UpdateReferenceIdeal.Run
public import proofs.«01_k».proof.Proof.Gen.GainKernel
public import proofs.«01_k».proof.Proof.Gen.GainKernel.Skeleton
public import proofs.«01_k».proof.Proof.Gen.GainKernel.Launch
public import proofs.«01_k».proof.Proof.Gen.GainKernel.Points
public import proofs.«01_k».proof.Proof.Gen.GainKernel.Frame
public import proofs.«01_k».proof.Proof.Gen.GainKernelIdeal
public import proofs.«01_k».proof.Proof.Gen.GainKernelIdeal.Skeleton
public import proofs.«01_k».proof.Proof.Gen.GainKernelIdeal.Launch
public import proofs.«01_k».proof.Proof.Gen.GainKernelIdeal.Points
public import proofs.«01_k».proof.Proof.Gen.GainKernelIdeal.Frame
public import proofs.«01_k».proof.Proof.Gen.GainKernelIdeal.Value
public import proofs.«01_k».proof.Proof.Gen.GainReferenceIdeal
public import proofs.«01_k».proof.Proof.Gen.GainReferenceIdeal.Run
public import proofs.«01_k».proof.Proof.Gen.SumKernel
public import proofs.«01_k».proof.Proof.Gen.SumKernel.Skeleton
public import proofs.«01_k».proof.Proof.Gen.SumKernel.Launch
public import proofs.«01_k».proof.Proof.Gen.SumKernel.Points
public import proofs.«01_k».proof.Proof.Gen.SumKernel.Frame
public import proofs.«01_k».proof.Proof.Gen.SumKernelIdeal
public import proofs.«01_k».proof.Proof.Gen.SumKernelIdeal.Skeleton
public import proofs.«01_k».proof.Proof.Gen.SumKernelIdeal.Launch
public import proofs.«01_k».proof.Proof.Gen.SumKernelIdeal.Points
public import proofs.«01_k».proof.Proof.Gen.SumKernelIdeal.Frame
public import proofs.«01_k».proof.Proof.Gen.SumKernelIdeal.Value
public import proofs.«01_k».proof.Proof.Gen.SumReferenceIdeal
public import proofs.«01_k».proof.Proof.Gen.SumReferenceIdeal.Run
public import proofs.«01_k».proof.Proof.Gen.UpdateOutKernel
public import proofs.«01_k».proof.Proof.Gen.UpdateOutKernel.Skeleton
public import proofs.«01_k».proof.Proof.Gen.UpdateOutKernel.Launch
public import proofs.«01_k».proof.Proof.Gen.UpdateOutKernel.Points
public import proofs.«01_k».proof.Proof.Gen.UpdateOutKernel.Frame
public import proofs.«01_k».proof.Proof.Gen.UpdateOutKernelIdeal
public import proofs.«01_k».proof.Proof.Gen.UpdateOutKernelIdeal.Skeleton
public import proofs.«01_k».proof.Proof.Gen.UpdateOutKernelIdeal.Launch
public import proofs.«01_k».proof.Proof.Gen.UpdateOutKernelIdeal.Points
public import proofs.«01_k».proof.Proof.Gen.UpdateOutKernelIdeal.Frame
public import proofs.«01_k».proof.Proof.Gen.UpdateOutKernelIdeal.Value
public import proofs.«01_k».proof.Proof.Gen.UpdateOutReferenceIdeal
public import proofs.«01_k».proof.Proof.Gen.UpdateOutReferenceIdeal.Run
public import proofs.«01_k».proof.Proof.Gen.UpdateInKernel
public import proofs.«01_k».proof.Proof.Gen.UpdateInKernel.Skeleton
public import proofs.«01_k».proof.Proof.Gen.UpdateInKernel.Launch
public import proofs.«01_k».proof.Proof.Gen.UpdateInKernel.Points
public import proofs.«01_k».proof.Proof.Gen.UpdateInKernel.Frame
public import proofs.«01_k».proof.Proof.Gen.UpdateInKernelIdeal
public import proofs.«01_k».proof.Proof.Gen.UpdateInKernelIdeal.Skeleton
public import proofs.«01_k».proof.Proof.Gen.UpdateInKernelIdeal.Launch
public import proofs.«01_k».proof.Proof.Gen.UpdateInKernelIdeal.Points
public import proofs.«01_k».proof.Proof.Gen.UpdateInKernelIdeal.Frame
public import proofs.«01_k».proof.Proof.Gen.UpdateInKernelIdeal.Value
public import proofs.«01_k».proof.Proof.Gen.UpdateInReferenceIdeal
public import proofs.«01_k».proof.Proof.Gen.UpdateInReferenceIdeal.Run
public import proofs.«01_k».proof.Proof.Gen.UpdateProjKernel
public import proofs.«01_k».proof.Proof.Gen.UpdateProjKernel.Skeleton
public import proofs.«01_k».proof.Proof.Gen.UpdateProjKernel.Launch
public import proofs.«01_k».proof.Proof.Gen.UpdateProjKernel.Points
public import proofs.«01_k».proof.Proof.Gen.UpdateProjKernel.Frame
public import proofs.«01_k».proof.Proof.Gen.UpdateProjKernelIdeal
public import proofs.«01_k».proof.Proof.Gen.UpdateProjKernelIdeal.Skeleton
public import proofs.«01_k».proof.Proof.Gen.UpdateProjKernelIdeal.Launch
public import proofs.«01_k».proof.Proof.Gen.UpdateProjKernelIdeal.Points
public import proofs.«01_k».proof.Proof.Gen.UpdateProjKernelIdeal.Frame
public import proofs.«01_k».proof.Proof.Gen.UpdateProjKernelIdeal.Value
public import proofs.«01_k».proof.Proof.Gen.UpdateProjReferenceIdeal
public import proofs.«01_k».proof.Proof.Gen.UpdateProjReferenceIdeal.Run
public import proofs.«01_k».proof.Proof.Gen.OutGradKernel
public import proofs.«01_k».proof.Proof.Gen.OutGradKernel.Skeleton
public import proofs.«01_k».proof.Proof.Gen.OutGradKernel.Launch
public import proofs.«01_k».proof.Proof.Gen.OutGradKernel.Points
public import proofs.«01_k».proof.Proof.Gen.OutGradKernel.Frame
public import proofs.«01_k».proof.Proof.Gen.OutGradKernelIdeal
public import proofs.«01_k».proof.Proof.Gen.OutGradKernelIdeal.Skeleton
public import proofs.«01_k».proof.Proof.Gen.OutGradKernelIdeal.Launch
public import proofs.«01_k».proof.Proof.Gen.OutGradKernelIdeal.Points
public import proofs.«01_k».proof.Proof.Gen.OutGradKernelIdeal.Frame
public import proofs.«01_k».proof.Proof.Gen.OutGradKernelIdeal.Value
public import proofs.«01_k».proof.Proof.Gen.OutGradReferenceIdeal
public import proofs.«01_k».proof.Proof.Gen.OutGradReferenceIdeal.Run
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutKernelIdeal.Value
public import proofs.«01_k».proof.Proof.Gen.OutReferenceIdeal
public import proofs.«01_k».proof.Proof.Gen.OutReferenceIdeal.Run
public import proofs.«01_k».proof.Proof.Gen.BlendKernel
public import proofs.«01_k».proof.Proof.Gen.BlendKernel.Skeleton
public import proofs.«01_k».proof.Proof.Gen.BlendKernel.Launch
public import proofs.«01_k».proof.Proof.Gen.BlendKernel.Points
public import proofs.«01_k».proof.Proof.Gen.BlendKernel.Frame
public import proofs.«01_k».proof.Proof.Gen.BlendKernelIdeal
public import proofs.«01_k».proof.Proof.Gen.BlendKernelIdeal.Skeleton
public import proofs.«01_k».proof.Proof.Gen.BlendKernelIdeal.Launch
public import proofs.«01_k».proof.Proof.Gen.BlendKernelIdeal.Points
public import proofs.«01_k».proof.Proof.Gen.BlendKernelIdeal.Frame
public import proofs.«01_k».proof.Proof.Gen.BlendKernelIdeal.Value
public import proofs.«01_k».proof.Proof.Gen.BlendReferenceIdeal
public import proofs.«01_k».proof.Proof.Gen.BlendReferenceIdeal.Run
public import proofs.«01_k».proof.Proof.Gen.UnblendKernel
public import proofs.«01_k».proof.Proof.Gen.UnblendKernel.Skeleton
public import proofs.«01_k».proof.Proof.Gen.UnblendKernel.Launch
public import proofs.«01_k».proof.Proof.Gen.UnblendKernel.Points
public import proofs.«01_k».proof.Proof.Gen.UnblendKernel.Frame
public import proofs.«01_k».proof.Proof.Gen.UnblendKernelIdeal
public import proofs.«01_k».proof.Proof.Gen.UnblendKernelIdeal.Skeleton
public import proofs.«01_k».proof.Proof.Gen.UnblendKernelIdeal.Launch
public import proofs.«01_k».proof.Proof.Gen.UnblendKernelIdeal.Points
public import proofs.«01_k».proof.Proof.Gen.UnblendKernelIdeal.Frame
public import proofs.«01_k».proof.Proof.Gen.UnblendKernelIdeal.Value
public import proofs.«01_k».proof.Proof.Gen.UnblendReferenceIdeal
public import proofs.«01_k».proof.Proof.Gen.UnblendReferenceIdeal.Run
public import proofs.«01_k».proof.Proof.Gen.ProjGradKernel
public import proofs.«01_k».proof.Proof.Gen.ProjGradKernel.Skeleton
public import proofs.«01_k».proof.Proof.Gen.ProjGradKernel.Launch
public import proofs.«01_k».proof.Proof.Gen.ProjGradKernel.Points
public import proofs.«01_k».proof.Proof.Gen.ProjGradKernel.Frame
public import proofs.«01_k».proof.Proof.Gen.ProjGradKernelIdeal
public import proofs.«01_k».proof.Proof.Gen.ProjGradKernelIdeal.Skeleton
public import proofs.«01_k».proof.Proof.Gen.ProjGradKernelIdeal.Launch
public import proofs.«01_k».proof.Proof.Gen.ProjGradKernelIdeal.Points
public import proofs.«01_k».proof.Proof.Gen.ProjGradKernelIdeal.Frame
public import proofs.«01_k».proof.Proof.Gen.ProjGradKernelIdeal.Value
public import proofs.«01_k».proof.Proof.Gen.ProjGradReferenceIdeal
public import proofs.«01_k».proof.Proof.Gen.ProjGradReferenceIdeal.Run
public import proofs.«01_k».proof.Proof.Gen.ProjBackKernel
public import proofs.«01_k».proof.Proof.Gen.ProjBackKernel.Skeleton
public import proofs.«01_k».proof.Proof.Gen.ProjBackKernel.Launch
public import proofs.«01_k».proof.Proof.Gen.ProjBackKernel.Points
public import proofs.«01_k».proof.Proof.Gen.ProjBackKernel.Frame
public import proofs.«01_k».proof.Proof.Gen.ProjBackKernelIdeal
public import proofs.«01_k».proof.Proof.Gen.ProjBackKernelIdeal.Skeleton
public import proofs.«01_k».proof.Proof.Gen.ProjBackKernelIdeal.Launch
public import proofs.«01_k».proof.Proof.Gen.ProjBackKernelIdeal.Points
public import proofs.«01_k».proof.Proof.Gen.ProjBackKernelIdeal.Frame
public import proofs.«01_k».proof.Proof.Gen.ProjBackKernelIdeal.Value
public import proofs.«01_k».proof.Proof.Gen.ProjBackReferenceIdeal
public import proofs.«01_k».proof.Proof.Gen.ProjBackReferenceIdeal.Run
public import proofs.«01_k».proof.Proof.Gen.FirstNormKernel
public import proofs.«01_k».proof.Proof.Gen.FirstNormKernel.Skeleton
public import proofs.«01_k».proof.Proof.Gen.FirstNormKernel.Launch
public import proofs.«01_k».proof.Proof.Gen.FirstNormKernel.Points
public import proofs.«01_k».proof.Proof.Gen.FirstNormKernel.Frame
public import proofs.«01_k».proof.Proof.Gen.FirstNormKernelIdeal
public import proofs.«01_k».proof.Proof.Gen.FirstNormKernelIdeal.Skeleton
public import proofs.«01_k».proof.Proof.Gen.FirstNormKernelIdeal.Launch
public import proofs.«01_k».proof.Proof.Gen.FirstNormKernelIdeal.Points
public import proofs.«01_k».proof.Proof.Gen.FirstNormKernelIdeal.Frame
public import proofs.«01_k».proof.Proof.Gen.FirstNormKernelIdeal.Value
public import proofs.«01_k».proof.Proof.Gen.FirstNormReferenceIdeal
public import proofs.«01_k».proof.Proof.Gen.FirstNormReferenceIdeal.Run
public import proofs.«01_k».proof.Proof.Gen.LastKernel
public import proofs.«01_k».proof.Proof.Gen.LastKernel.Skeleton
public import proofs.«01_k».proof.Proof.Gen.LastKernel.Launch
public import proofs.«01_k».proof.Proof.Gen.LastKernel.Points
public import proofs.«01_k».proof.Proof.Gen.LastKernel.Frame
public import proofs.«01_k».proof.Proof.Gen.LastKernelIdeal
public import proofs.«01_k».proof.Proof.Gen.LastKernelIdeal.Skeleton
public import proofs.«01_k».proof.Proof.Gen.LastKernelIdeal.Launch
public import proofs.«01_k».proof.Proof.Gen.LastKernelIdeal.Points
public import proofs.«01_k».proof.Proof.Gen.LastKernelIdeal.Frame
public import proofs.«01_k».proof.Proof.Gen.LastKernelIdeal.Value
public import proofs.«01_k».proof.Proof.Gen.LastReferenceIdeal
public import proofs.«01_k».proof.Proof.Gen.LastReferenceIdeal.Run
public import proofs.«01_k».proof.Proof.Gen.InnerKernel
public import proofs.«01_k».proof.Proof.Gen.InnerKernel.Skeleton
public import proofs.«01_k».proof.Proof.Gen.InnerKernel.Launch
public import proofs.«01_k».proof.Proof.Gen.InnerKernel.Points
public import proofs.«01_k».proof.Proof.Gen.InnerKernel.Frame
public import proofs.«01_k».proof.Proof.Gen.InnerKernelIdeal
public import proofs.«01_k».proof.Proof.Gen.InnerKernelIdeal.Skeleton
public import proofs.«01_k».proof.Proof.Gen.InnerKernelIdeal.Launch
public import proofs.«01_k».proof.Proof.Gen.InnerKernelIdeal.Points
public import proofs.«01_k».proof.Proof.Gen.InnerKernelIdeal.Frame
public import proofs.«01_k».proof.Proof.Gen.InnerKernelIdeal.Value
public import proofs.«01_k».proof.Proof.Gen.InnerReferenceIdeal
public import proofs.«01_k».proof.Proof.Gen.InnerReferenceIdeal.Run
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossKernelIdeal.Value
public import proofs.«01_k».proof.Proof.Gen.LossReferenceIdeal
public import proofs.«01_k».proof.Proof.Gen.LossReferenceIdeal.Run
public import proofs.«01_k».proof.Proof.Gen.Pre_loss_finite
public import proofs.«01_k».proof.Proof.Gen.Pre_finite
public import proofs.«01_k».proof.Proof.Gen.Pre_norm_finite
public import proofs.«01_k».proof.Proof.Gen.Pre_glu_finite
public import proofs.«01_k».proof.Proof.Gen.Pre_hidden_finite
public import Idealize.ShloMosaic.Adequacy
public import Idealize.ShloMosaic.Init
public import Idealize.ShloMosaic.Lib.Quiescent

@[expose] public section

noncomputable section

namespace Cert.Proof

open Idealize.ShloMosaic Idealize.SL.Sem

/-- The kernel's frame at the machine's own numbers: the run of Proof/Launch.lean is stated over any numbers, and the
    two programs are one text. -/
theorem frame_kernel : Cert.quiescent_Kernel (hKernel := Cert.Kernel.Gen.facts) := fun m ρ _ =>
  Cert.Same.run_same ⟨m, fun _ => 0, ρ⟩ _ (Cert.KernelIdeal.Sb.frame_all (F := Bits) m ρ)

/-- The same over the reals: the run of Proof/Launch.lean. -/
theorem frame_ideal : Cert.quiescent_KernelIdeal (hKernelIdeal := Cert.KernelIdeal.Gen.facts) := fun m ρ _ => Cert.KernelIdeal.Sb.frame_all m ρ

/-- The reference is host code alone, and has no semaphore. -/
theorem frame_reference : Cert.quiescent_ReferenceIdeal (hReferenceIdeal := Cert.ReferenceIdeal.Gen.facts) := fun m ρ _ =>
  (θ_run _ _ _).mono (fun r h => ⟨fun c => (h c).2.2.2, sem_eq_zero_of_no_sems (by decide) r.2⟩) (Cert.ReferenceIdeal.Value.run (F := Ideal) m ρ)

/-- The call's three results and the reference's are the same functions of the same arguments. -/
theorem value : Cert.algebraic_KernelIdeal_ReferenceIdeal_pre_finite (hKernelIdeal := Cert.KernelIdeal.Gen.facts)
    (hReferenceIdeal := Cert.ReferenceIdeal.Gen.facts) (hPre_finite := Cert.KernelIdeal.Sb.preFacts) := fun m g m' g' hpre hargs => by
  refine ⟨fun c => Cert.ReferenceIdeal.Value.res_main_v50 m' c, fun c => Cert.ReferenceIdeal.Value.res_main_v52 m' c,
    fun c => Cert.ReferenceIdeal.Value.res_main_v54 m' c, ?_, ?_⟩
  · refine (θ_run _ _ _).mono (fun r h c => ?_) (θ_run_and (Cert.KernelIdeal.Sb.run_all (F := Ideal) m g) (Cert.KernelIdeal.Sb.frame_all (F := Ideal) m g))
    obtain ⟨h5, h6, h7⟩ := Cert.KernelIdeal.Sb.results m c (hpre c)
    obtain ⟨a0, a1⟩ := hargs c
    have edq : @Eq (FVec Ideal Cert.ReferenceIdeal.S4096x256 .f32) (Cert.ReferenceIdeal.Value.res_main_v50 m' c) <| Cert.ReferenceIdeal.Sb.flat (Cert.ReferenceIdeal.Sb.dqH
        (m ((c.tc : Thread Cert.KernelIdeal.nD Cert.KernelIdeal.τ).loc Cert.KernelIdeal.main_arg0)) (m ((c.tc : Thread Cert.KernelIdeal.nD Cert.KernelIdeal.τ).loc Cert.KernelIdeal.main_arg1))) := by
      rw [Cert.ReferenceIdeal.Sb.dq_eq]
      exact congrArg₂ (fun x y => Cert.ReferenceIdeal.Sb.flat (Cert.ReferenceIdeal.Sb.dqH x y)) a0 a1
    have edk : @Eq (FVec Ideal Cert.ReferenceIdeal.S4096x256 .f32) (Cert.ReferenceIdeal.Value.res_main_v52 m' c) <| Cert.ReferenceIdeal.Sb.flat (Cert.ReferenceIdeal.Sb.dkH
        (m ((c.tc : Thread Cert.KernelIdeal.nD Cert.KernelIdeal.τ).loc Cert.KernelIdeal.main_arg0)) (m ((c.tc : Thread Cert.KernelIdeal.nD Cert.KernelIdeal.τ).loc Cert.KernelIdeal.main_arg1))) := by
      rw [Cert.ReferenceIdeal.Sb.dk_eq]
      exact congrArg₂ (fun x y => Cert.ReferenceIdeal.Sb.flat (Cert.ReferenceIdeal.Sb.dkH x y)) a0 a1
    have edv : @Eq (FVec Ideal Cert.ReferenceIdeal.S4096x256 .f32) (Cert.ReferenceIdeal.Value.res_main_v54 m' c) <| Cert.ReferenceIdeal.Sb.flat (Cert.ReferenceIdeal.Sb.dvH
        (m ((c.tc : Thread Cert.KernelIdeal.nD Cert.KernelIdeal.τ).loc Cert.KernelIdeal.main_arg0)) (m ((c.tc : Thread Cert.KernelIdeal.nD Cert.KernelIdeal.τ).loc Cert.KernelIdeal.main_arg1))) := by
      rw [Cert.ReferenceIdeal.Sb.dv_eq]
      exact congrArg₂ (fun x y => Cert.ReferenceIdeal.Sb.flat (Cert.ReferenceIdeal.Sb.dvH x y)) a0 a1
    exact ⟨((h.1.1 c).1 5).trans (h5.trans edq.symm), ((h.1.1 c).1 6).trans (h6.trans edk.symm), ((h.1.1 c).1 7).trans (h7.trans edv.symm), h.2.1 c⟩
  · exact (θ_run _ _ _).mono (fun r h c => h c) (Cert.ReferenceIdeal.Value.run (F := Ideal) m' g')

/-! The call of the gradient through the norm: both kernels run as the pipeline does, and the reference is host code alone. -/

theorem norm_kernel : Cert.quiescent_NormKernel (hNormKernel := Cert.NormKernel.Gen.facts) := fun m ρ _ => Cert.NormKernel.Gen.frame m ρ

theorem norm_ideal : Cert.quiescent_NormKernelIdeal (hNormKernelIdeal := Cert.NormKernelIdeal.Gen.facts) := fun m ρ _ => Cert.NormKernelIdeal.Gen.frame m ρ

theorem norm_reference : Cert.quiescent_NormReferenceIdeal (hNormReferenceIdeal := Cert.NormReferenceIdeal.Gen.facts) := fun m ρ _ =>
  (θ_run _ _ _).mono (fun r h => ⟨fun c => (h c).2.2.2, sem_eq_zero_of_no_sems (by decide) r.2⟩) (Cert.NormReferenceIdeal.Value.run (F := Ideal) m ρ)

/-- What the call leaves and what the reference leaves are the same functions of the same arguments. -/
theorem norm_value : Cert.algebraic_NormKernelIdeal_NormReferenceIdeal_pre_norm_finite (hNormKernelIdeal := Cert.NormKernelIdeal.Gen.facts)
    (hNormReferenceIdeal := Cert.NormReferenceIdeal.Gen.facts) (hPre_norm_finite := Cert.Pre_norm_finite.Gen.facts) := fun m g m' g' hpre hargs => by
  refine ⟨fun c => Cert.Norm.rows (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (Cert.Norm.incoming (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3)) (m ((c.tc : Thread Cert.NormKernelIdeal.nD Cert.NormKernelIdeal.τ).loc Cert.NormKernelIdeal.main_arg4)) (m ((c.tc : Thread Cert.NormKernelIdeal.nD Cert.NormKernelIdeal.τ).loc Cert.NormKernelIdeal.main_arg5))) (m ((c.tc : Thread Cert.NormKernelIdeal.nD Cert.NormKernelIdeal.τ).loc Cert.NormKernelIdeal.main_arg6)),
    fun c => (truncf .bf16 (Cert.Norm.rows (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (Cert.Norm.incoming (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3)) (m ((c.tc : Thread Cert.NormKernelIdeal.nD Cert.NormKernelIdeal.τ).loc Cert.NormKernelIdeal.main_arg4)) (m ((c.tc : Thread Cert.NormKernelIdeal.nD Cert.NormKernelIdeal.τ).loc Cert.NormKernelIdeal.main_arg5))) (m ((c.tc : Thread Cert.NormKernelIdeal.nD Cert.NormKernelIdeal.τ).loc Cert.NormKernelIdeal.main_arg6))) Cert.NormKernelIdeal.Gen.bitsLt_bf16_f32 : FVec Ideal Cert.NormKernelIdeal.S4096x1024 .bf16),
    fun c => Cert.Norm.gains (m ((c.tc : Thread Cert.NormKernelIdeal.nD Cert.NormKernelIdeal.τ).loc Cert.NormKernelIdeal.main_arg0)) (Cert.Norm.incoming (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3)) (m ((c.tc : Thread Cert.NormKernelIdeal.nD Cert.NormKernelIdeal.τ).loc Cert.NormKernelIdeal.main_arg4)) (m ((c.tc : Thread Cert.NormKernelIdeal.nD Cert.NormKernelIdeal.τ).loc Cert.NormKernelIdeal.main_arg5))), ?_, ?_⟩
  · refine (θ_run _ _ _).mono (fun r h c => ?_) (Cert.NormKernelIdeal.Value.run_blocks (F := Ideal) m g)
    have h := h c
    exact ⟨(h.1).trans (Cert.NormKernelIdeal.Norm.final7 m c), (h.2.1).trans (Cert.NormKernelIdeal.Norm.final8 m c), (h.2.2.1).trans (Cert.NormKernelIdeal.Norm.final9 m c), h.2.2.2⟩
  · refine (θ_run _ _ _).mono (fun r h c => ?_) (Cert.NormReferenceIdeal.Value.run (F := Ideal) m' g')
    have h := h c
    obtain ⟨a0, a1, a2, a3, a4, a5, a6⟩ := hargs c
    obtain ⟨hx, hg, hd⟩ := Cert.Norm.reals_of_pre (hpre c)
    refine ⟨(h.1).trans ?_, (h.2.1).trans ?_, (h.2.2.1).trans ?_, h.2.2.2⟩
    · show Cert.NormReferenceIdeal.Value.res_main_v41 m' c = _; unfold Cert.NormReferenceIdeal.Value.res_main_v41
      rw [a0, a1, a2, a3, a4, a5, a6]
      exact ((congrArg (fun d => Cert.Norm.refRows _ _ d _) (Cert.Norm.refIncoming_eq _ _ _ _)).trans (Cert.Norm.rows_eq _ _ _ _ hx hg hd).symm)
    · show Cert.NormReferenceIdeal.Value.res_main_v43 m' c = _; unfold Cert.NormReferenceIdeal.Value.res_main_v43
      rw [a0, a1, a2, a3, a4, a5, a6]
      exact (congrArg (fun v => truncf .bf16 v Cert.NormReferenceIdeal.Gen.bitsLt_bf16_f32) ((congrArg (fun d => Cert.Norm.refRows _ _ d _) (Cert.Norm.refIncoming_eq _ _ _ _)).trans (Cert.Norm.rows_eq _ _ _ _ hx hg hd).symm))
    · clear h
      rw [a0, a2, a3, a4, a5]
      exact ((congrArg (fun d => Cert.Norm.refGains _ d) (Cert.Norm.refIncoming_eq _ _ _ _)).trans (Cert.Norm.gains_eq _ _).symm)

/-! The call of the gradient of the gate: both kernels run as the pipeline does, and the reference is host code alone. -/

theorem glu_kernel : Cert.quiescent_GluKernel (hGluKernel := Cert.GluKernel.Gen.facts) := fun m ρ _ => Cert.GluKernel.Gen.frame m ρ

theorem glu_ideal : Cert.quiescent_GluKernelIdeal (hGluKernelIdeal := Cert.GluKernelIdeal.Gen.facts) := fun m ρ _ => Cert.GluKernelIdeal.Gen.frame m ρ

theorem glu_reference : Cert.quiescent_GluReferenceIdeal (hGluReferenceIdeal := Cert.GluReferenceIdeal.Gen.facts) := fun m ρ _ =>
  (θ_run _ _ _).mono (fun r h => ⟨fun c => (h c).2.2, sem_eq_zero_of_no_sems (by decide) r.2⟩) (Cert.GluReferenceIdeal.Value.run (F := Ideal) m ρ)

/-- What the call leaves and what the reference leaves are the same functions of the same arguments. -/
theorem glu_value : Cert.algebraic_GluKernelIdeal_GluReferenceIdeal_pre_glu_finite (hGluKernelIdeal := Cert.GluKernelIdeal.Gen.facts)
    (hGluReferenceIdeal := Cert.GluReferenceIdeal.Gen.facts) (hPre_glu_finite := Cert.Pre_glu_finite.Gen.facts) := fun m g m' g' hpre hargs => by
  refine ⟨fun c => Cert.GluKernelIdeal.Glu.left (Cert.GluKernelIdeal.Glu.gateFactor (m ((c.tc : Thread Cert.GluKernelIdeal.nD Cert.GluKernelIdeal.τ).loc Cert.GluKernelIdeal.main_arg0)) (m ((c.tc : Thread Cert.GluKernelIdeal.nD Cert.GluKernelIdeal.τ).loc Cert.GluKernelIdeal.main_arg1))) (m ((c.tc : Thread Cert.GluKernelIdeal.nD Cert.GluKernelIdeal.τ).loc Cert.GluKernelIdeal.main_arg2)) (m ((c.tc : Thread Cert.GluKernelIdeal.nD Cert.GluKernelIdeal.τ).loc Cert.GluKernelIdeal.main_arg3)),
    fun c => Cert.GluKernelIdeal.Glu.left (mulf (m ((c.tc : Thread Cert.GluKernelIdeal.nD Cert.GluKernelIdeal.τ).loc Cert.GluKernelIdeal.main_arg0)) (Cert.GluKernelIdeal.Glu.sig1 (m ((c.tc : Thread Cert.GluKernelIdeal.nD Cert.GluKernelIdeal.τ).loc Cert.GluKernelIdeal.main_arg0)))) (m ((c.tc : Thread Cert.GluKernelIdeal.nD Cert.GluKernelIdeal.τ).loc Cert.GluKernelIdeal.main_arg2)) (m ((c.tc : Thread Cert.GluKernelIdeal.nD Cert.GluKernelIdeal.τ).loc Cert.GluKernelIdeal.main_arg3)), ?_, ?_⟩
  · refine (θ_run _ _ _).mono (fun r h c => ?_) (Cert.GluKernelIdeal.Value.run_blocks (F := Ideal) m g)
    have h := h c
    exact ⟨(h.1).trans (Cert.GluKernelIdeal.Glu.final_a m c), (h.2.1).trans (Cert.GluKernelIdeal.Glu.final_b m c), h.2.2⟩
  · refine (θ_run _ _ _).mono (fun r h c => ?_) (Cert.GluReferenceIdeal.Value.run (F := Ideal) m' g')
    have h := h c
    obtain ⟨a0, a1, a2, a3⟩ := hargs c
    obtain ⟨⟨_, ha⟩, ⟨_, hb⟩, ⟨_, hw⟩, ⟨_, hd⟩⟩ := Cert.GluKernelIdeal.Glu.reals_of_pre (hpre c)
    refine ⟨(h.1).trans ?_, (h.2.1).trans ?_, h.2.2⟩
    · clear h
      rw [a0, a1, a2, a3]
      exact (Cert.GluKernelIdeal.Glu.left_a ha hb hw hd).symm
    · clear h
      rw [a0, a2, a3]
      exact (Cert.GluKernelIdeal.Glu.left_b _ _ _).symm

/-! The call of the gradient of the last projection: both kernels run as the pipeline does, and the reference is host code alone. -/

theorem down_kernel : Cert.quiescent_DownKernel (hDownKernel := Cert.DownKernel.Gen.facts) := fun m ρ _ => Cert.DownKernel.Gen.frame m ρ

theorem down_ideal : Cert.quiescent_DownKernelIdeal (hDownKernelIdeal := Cert.DownKernelIdeal.Gen.facts) := fun m ρ _ => Cert.DownKernelIdeal.Gen.frame m ρ

theorem down_reference : Cert.quiescent_DownReferenceIdeal (hDownReferenceIdeal := Cert.DownReferenceIdeal.Gen.facts) := fun m ρ _ =>
  (θ_run _ _ _).mono (fun r h => ⟨fun c => (h c).2, sem_eq_zero_of_no_sems (by decide) r.2⟩) (Cert.DownReferenceIdeal.Value.run (F := Ideal) m ρ)

/-- What the call leaves and what the reference leaves are the same functions of the same arguments. -/
theorem down_value : Cert.algebraic_DownKernelIdeal_DownReferenceIdeal (hDownKernelIdeal := Cert.DownKernelIdeal.Gen.facts)
    (hDownReferenceIdeal := Cert.DownReferenceIdeal.Gen.facts) := fun m g m' g' hpre hargs => by
  refine ⟨fun c => Cert.DownKernelIdeal.Down.left (m ((c.tc : Thread Cert.DownKernelIdeal.nD Cert.DownKernelIdeal.τ).loc Cert.DownKernelIdeal.main_arg0)) (m ((c.tc : Thread Cert.DownKernelIdeal.nD Cert.DownKernelIdeal.τ).loc Cert.DownKernelIdeal.main_arg1)), ?_, ?_⟩
  · refine (θ_run _ _ _).mono (fun r h c => ?_) (Cert.DownKernelIdeal.Value.run_blocks (F := Ideal) m g)
    have h := h c
    exact ⟨(h.1).trans (Cert.DownKernelIdeal.Down.final m c), h.2⟩
  · refine (θ_run _ _ _).mono (fun r h c => ?_) (Cert.DownReferenceIdeal.Value.run (F := Ideal) m' g')
    have h := h c
    obtain ⟨a0, a1⟩ := hargs c
    refine ⟨(h.1).trans ?_, h.2⟩
    · clear h
      rw [a0, a1]
      exact (Cert.DownKernelIdeal.Down.left_eq _ _).symm

/-! The call of the gradient of the gate projection: both kernels run as the pipeline does, and the reference is host code alone. -/

theorem gate_kernel : Cert.quiescent_GateKernel (hGateKernel := Cert.GateKernel.Gen.facts) := fun m ρ _ => Cert.GateKernel.Gen.frame m ρ

theorem gate_ideal : Cert.quiescent_GateKernelIdeal (hGateKernelIdeal := Cert.GateKernelIdeal.Gen.facts) := fun m ρ _ => Cert.GateKernelIdeal.Gen.frame m ρ

theorem gate_reference : Cert.quiescent_GateReferenceIdeal (hGateReferenceIdeal := Cert.GateReferenceIdeal.Gen.facts) := fun m ρ _ =>
  (θ_run _ _ _).mono (fun r h => ⟨fun c => (h c).2, sem_eq_zero_of_no_sems (by decide) r.2⟩) (Cert.GateReferenceIdeal.Value.run (F := Ideal) m ρ)

/-- What the call leaves and what the reference leaves are the same functions of the same arguments. -/
theorem gate_value : Cert.algebraic_GateKernelIdeal_GateReferenceIdeal (hGateKernelIdeal := Cert.GateKernelIdeal.Gen.facts)
    (hGateReferenceIdeal := Cert.GateReferenceIdeal.Gen.facts) := fun m g m' g' hpre hargs => by
  refine ⟨fun c => Cert.GateKernelIdeal.Gate.left (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg0)), ?_, ?_⟩
  · refine (θ_run _ _ _).mono (fun r h c => ?_) (Cert.GateKernelIdeal.Value.run_blocks (F := Ideal) m g)
    have h := h c
    exact ⟨(h.1).trans (Cert.GateKernelIdeal.Gate.final m c), h.2⟩
  · refine (θ_run _ _ _).mono (fun r h c => ?_) (Cert.GateReferenceIdeal.Value.run (F := Ideal) m' g')
    have h := h c
    obtain ⟨a0, a1⟩ := hargs c
    refine ⟨(h.1).trans ?_, h.2⟩
    · clear h
      rw [a0, a1]
      exact (Cert.GateKernelIdeal.Gate.left_eq _ _).symm

/-! The call of the forward call of the gated unit: both kernels run as the pipeline does, and the reference is host code alone. -/

theorem hidden_kernel : Cert.quiescent_HiddenKernel (hHiddenKernel := Cert.HiddenKernel.Gen.facts) := fun m ρ _ => Cert.HiddenKernel.Gen.frame m ρ

theorem hidden_ideal : Cert.quiescent_HiddenKernelIdeal (hHiddenKernelIdeal := Cert.HiddenKernelIdeal.Gen.facts) := fun m ρ _ => Cert.HiddenKernelIdeal.Gen.frame m ρ

theorem hidden_reference : Cert.quiescent_HiddenReferenceIdeal (hHiddenReferenceIdeal := Cert.HiddenReferenceIdeal.Gen.facts) := fun m ρ _ =>
  (θ_run _ _ _).mono (fun r h => ⟨fun c => (h c).2.2.2, sem_eq_zero_of_no_sems (by decide) r.2⟩) (Cert.HiddenReferenceIdeal.Value.run (F := Ideal) m ρ)

/-- What the call leaves and what the reference leaves are the same functions of the same arguments. -/
theorem hidden_value : Cert.algebraic_HiddenKernelIdeal_HiddenReferenceIdeal_pre_hidden_finite (hHiddenKernelIdeal := Cert.HiddenKernelIdeal.Gen.facts)
    (hHiddenReferenceIdeal := Cert.HiddenReferenceIdeal.Gen.facts) (hPre_hidden_finite := Cert.Pre_hidden_finite.Gen.facts) := fun m g m' g' hpre hargs => by
  refine ⟨fun c => Cert.HiddenKernelIdeal.Hidden.factor (Cert.HiddenKernelIdeal.Hidden.proj (m ((c.tc : Thread Cert.HiddenKernelIdeal.nD Cert.HiddenKernelIdeal.τ).loc Cert.HiddenKernelIdeal.main_arg0)) (m ((c.tc : Thread Cert.HiddenKernelIdeal.nD Cert.HiddenKernelIdeal.τ).loc Cert.HiddenKernelIdeal.main_arg1))) (Cert.HiddenKernelIdeal.Hidden.proj (m ((c.tc : Thread Cert.HiddenKernelIdeal.nD Cert.HiddenKernelIdeal.τ).loc Cert.HiddenKernelIdeal.main_arg0)) (m ((c.tc : Thread Cert.HiddenKernelIdeal.nD Cert.HiddenKernelIdeal.τ).loc Cert.HiddenKernelIdeal.main_arg2))),
    fun c => Cert.HiddenKernelIdeal.Hidden.act (Cert.HiddenKernelIdeal.Hidden.proj (m ((c.tc : Thread Cert.HiddenKernelIdeal.nD Cert.HiddenKernelIdeal.τ).loc Cert.HiddenKernelIdeal.main_arg0)) (m ((c.tc : Thread Cert.HiddenKernelIdeal.nD Cert.HiddenKernelIdeal.τ).loc Cert.HiddenKernelIdeal.main_arg1))),
    fun c => Cert.HiddenKernelIdeal.Hidden.gated (Cert.HiddenKernelIdeal.Hidden.proj (m ((c.tc : Thread Cert.HiddenKernelIdeal.nD Cert.HiddenKernelIdeal.τ).loc Cert.HiddenKernelIdeal.main_arg0)) (m ((c.tc : Thread Cert.HiddenKernelIdeal.nD Cert.HiddenKernelIdeal.τ).loc Cert.HiddenKernelIdeal.main_arg1))) (Cert.HiddenKernelIdeal.Hidden.proj (m ((c.tc : Thread Cert.HiddenKernelIdeal.nD Cert.HiddenKernelIdeal.τ).loc Cert.HiddenKernelIdeal.main_arg0)) (m ((c.tc : Thread Cert.HiddenKernelIdeal.nD Cert.HiddenKernelIdeal.τ).loc Cert.HiddenKernelIdeal.main_arg2))), ?_, ?_⟩
  · refine (θ_run _ _ _).mono (fun r h c => ?_) (Cert.HiddenKernelIdeal.Value.run_blocks (F := Ideal) m g)
    have h := h c
    exact ⟨(h.1).trans (Cert.HiddenKernelIdeal.Hidden.final_factor m c), (h.2.1).trans (Cert.HiddenKernelIdeal.Hidden.final_act m c), (h.2.2.1).trans (Cert.HiddenKernelIdeal.Hidden.final_gated m c), h.2.2.2⟩
  · refine (θ_run _ _ _).mono (fun r h c => ?_) (Cert.HiddenReferenceIdeal.Value.run (F := Ideal) m' g')
    have h := h c
    obtain ⟨a0, a1, a2⟩ := hargs c
    obtain ⟨⟨_, hh⟩, ⟨_, hw⟩, ⟨_, hv⟩⟩ := Cert.HiddenKernelIdeal.Hidden.reals_of_pre (hpre c)
    refine ⟨(h.1).trans ?_, (h.2.1).trans ?_, (h.2.2.1).trans ?_, h.2.2.2⟩
    · clear h
      rw [a0, a1, a2]
      exact (Cert.HiddenKernelIdeal.Hidden.factor_eq hh hw hv).symm
    · clear h
      rw [a0, a1]
      exact (Cert.HiddenKernelIdeal.Hidden.act_eq _ _).symm
    · clear h
      rw [a0, a1, a2]
      exact (Cert.HiddenKernelIdeal.Hidden.gated_eq _ _ _).symm

/-! The call of the gradient through the norm before the projections: both kernels run as the pipeline does, and the reference is host code alone. -/

theorem mix_kernel : Cert.quiescent_MixKernel (hMixKernel := Cert.MixKernel.Gen.facts) := fun m ρ _ => Cert.MixKernel.Gen.frame m ρ

theorem mix_ideal : Cert.quiescent_MixKernelIdeal (hMixKernelIdeal := Cert.MixKernelIdeal.Gen.facts) := fun m ρ _ => Cert.MixKernelIdeal.Gen.frame m ρ

theorem mix_reference : Cert.quiescent_MixReferenceIdeal (hMixReferenceIdeal := Cert.MixReferenceIdeal.Gen.facts) := fun m ρ _ =>
  (θ_run _ _ _).mono (fun r h => ⟨fun c => (h c).2.2.2, sem_eq_zero_of_no_sems (by decide) r.2⟩) (Cert.MixReferenceIdeal.Value.run (F := Ideal) m ρ)

/-- What the call leaves and what the reference leaves are the same functions of the same arguments. -/
theorem mix_value : Cert.algebraic_MixKernelIdeal_MixReferenceIdeal_pre_mix_finite (hMixKernelIdeal := Cert.MixKernelIdeal.Gen.facts)
    (hMixReferenceIdeal := Cert.MixReferenceIdeal.Gen.facts) (hPre_mix_finite := Cert.Pre_mix_finite.Gen.facts) := fun m g m' g' hpre hargs => by
  refine ⟨fun c => Cert.Norm.rows (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (Cert.MixKernelIdeal.Mix.incoming (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3))) (m ((c.tc : Thread Cert.MixKernelIdeal.nD Cert.MixKernelIdeal.τ).loc Cert.MixKernelIdeal.main_arg4)),
    fun c => (truncf .bf16 (Cert.Norm.rows (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (Cert.MixKernelIdeal.Mix.incoming (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3))) (m ((c.tc : Thread Cert.MixKernelIdeal.nD Cert.MixKernelIdeal.τ).loc Cert.MixKernelIdeal.main_arg4))) Cert.MixReferenceIdeal.Gen.bitsLt_bf16_f32),
    fun c => Cert.Norm.gains (m ((c.tc : Thread Cert.MixKernelIdeal.nD Cert.MixKernelIdeal.τ).loc Cert.MixKernelIdeal.main_arg0)) (Cert.MixKernelIdeal.Mix.incoming (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3))), ?_, ?_⟩
  · refine (θ_run _ _ _).mono (fun r h c => ?_) (Cert.MixKernelIdeal.Value.run_blocks (F := Ideal) m g)
    have h := h c
    exact ⟨(h.1).trans (Cert.MixKernelIdeal.Mix.final5 m c), (h.2.1).trans (Cert.MixKernelIdeal.Mix.final6 m c), (h.2.2.1).trans (Cert.MixKernelIdeal.Mix.final7 m c), h.2.2.2⟩
  · refine (θ_run _ _ _).mono (fun r h c => ?_) (Cert.MixReferenceIdeal.Value.run (F := Ideal) m' g')
    have h := h c
    obtain ⟨a0, a1, a2, a3, a4⟩ := hargs c
    obtain ⟨hx, hg, hd⟩ := Cert.MixKernelIdeal.Mix.reals_of_pre (hpre c)
    refine ⟨(h.1).trans ?_, (h.2.1).trans ?_, (h.2.2.1).trans ?_, h.2.2.2⟩
    · show Cert.MixReferenceIdeal.Value.res_main_v38 m' c = _; unfold Cert.MixReferenceIdeal.Value.res_main_v38
      rw [a0, a1, a2, a3, a4]
      exact ((congrArg (fun d => Cert.Norm.refRows _ _ d _) (Cert.MixKernelIdeal.Mix.refIncoming_eq _ _)).trans (Cert.Norm.rows_eq _ _ _ _ hx hg hd).symm)
    · show Cert.MixReferenceIdeal.Value.res_main_v40 m' c = _; unfold Cert.MixReferenceIdeal.Value.res_main_v40
      rw [a0, a1, a2, a3, a4]
      exact (congrArg (fun v => truncf .bf16 v Cert.MixReferenceIdeal.Gen.bitsLt_bf16_f32) ((congrArg (fun d => Cert.Norm.refRows _ _ d _) (Cert.MixKernelIdeal.Mix.refIncoming_eq _ _)).trans (Cert.Norm.rows_eq _ _ _ _ hx hg hd).symm))
    · clear h
      rw [a0, a2, a3]
      exact ((congrArg (fun d => Cert.Norm.refGains _ d) (Cert.MixKernelIdeal.Mix.refIncoming_eq _ _)).trans (Cert.Norm.gains_eq _ _).symm)

/-! The call of the gradient of the projections: both kernels run as the pipeline does, and the reference is host code alone. -/

theorem ingrad_kernel : Cert.quiescent_InGradKernel (hInGradKernel := Cert.InGradKernel.Gen.facts) := fun m ρ _ => Cert.InGradKernel.Gen.frame m ρ

theorem ingrad_ideal : Cert.quiescent_InGradKernelIdeal (hInGradKernelIdeal := Cert.InGradKernelIdeal.Gen.facts) := fun m ρ _ => Cert.InGradKernelIdeal.Gen.frame m ρ

theorem ingrad_reference : Cert.quiescent_InGradReferenceIdeal (hInGradReferenceIdeal := Cert.InGradReferenceIdeal.Gen.facts) := fun m ρ _ =>
  (θ_run _ _ _).mono (fun r h => ⟨fun c => (h c).2, sem_eq_zero_of_no_sems (by decide) r.2⟩) (Cert.InGradReferenceIdeal.Value.run (F := Ideal) m ρ)

/-- What the call leaves and what the reference leaves are the same functions of the same arguments. -/
theorem ingrad_value : Cert.algebraic_InGradKernelIdeal_InGradReferenceIdeal (hInGradKernelIdeal := Cert.InGradKernelIdeal.Gen.facts)
    (hInGradReferenceIdeal := Cert.InGradReferenceIdeal.Gen.facts) := fun m g m' g' hpre hargs => by
  refine ⟨fun c => Cert.InGradKernelIdeal.InGrad.left (m ((c.tc : Thread Cert.InGradKernelIdeal.nD Cert.InGradKernelIdeal.τ).loc Cert.InGradKernelIdeal.main_arg1)) (m ((c.tc : Thread Cert.InGradKernelIdeal.nD Cert.InGradKernelIdeal.τ).loc Cert.InGradKernelIdeal.main_arg0)), ?_, ?_⟩
  · refine (θ_run _ _ _).mono (fun r h c => ?_) (Cert.InGradKernelIdeal.Value.run_blocks (F := Ideal) m g)
    have h := h c
    exact ⟨(h.1).trans (Cert.InGradKernelIdeal.InGrad.final m c), h.2⟩
  · refine (θ_run _ _ _).mono (fun r h c => ?_) (Cert.InGradReferenceIdeal.Value.run (F := Ideal) m' g')
    have h := h c
    obtain ⟨a0, a1⟩ := hargs c
    refine ⟨(h.1).trans ?_, h.2⟩
    · clear h
      rw [a0, a1]
      exact (Cert.InGradKernelIdeal.InGrad.left_eq _ _).symm

/-! The call of the projections: both kernels run as the pipeline does, and the reference is host code alone. -/

theorem into_kernel : Cert.quiescent_IntoKernel (hIntoKernel := Cert.IntoKernel.Gen.facts) := fun m ρ _ => Cert.IntoKernel.Gen.frame m ρ

theorem into_ideal : Cert.quiescent_IntoKernelIdeal (hIntoKernelIdeal := Cert.IntoKernelIdeal.Gen.facts) := fun m ρ _ => Cert.IntoKernelIdeal.Gen.frame m ρ

theorem into_reference : Cert.quiescent_IntoReferenceIdeal (hIntoReferenceIdeal := Cert.IntoReferenceIdeal.Gen.facts) := fun m ρ _ =>
  (θ_run _ _ _).mono (fun r h => ⟨fun c => (h c).2, sem_eq_zero_of_no_sems (by decide) r.2⟩) (Cert.IntoReferenceIdeal.Value.run (F := Ideal) m ρ)

/-- What the call leaves and what the reference leaves are the same functions of the same arguments. -/
theorem into_value : Cert.algebraic_IntoKernelIdeal_IntoReferenceIdeal (hIntoKernelIdeal := Cert.IntoKernelIdeal.Gen.facts)
    (hIntoReferenceIdeal := Cert.IntoReferenceIdeal.Gen.facts) := fun m g m' g' hpre hargs => by
  refine ⟨fun c => Cert.IntoKernelIdeal.Into.left (m ((c.tc : Thread Cert.IntoKernelIdeal.nD Cert.IntoKernelIdeal.τ).loc Cert.IntoKernelIdeal.main_arg0)) (m ((c.tc : Thread Cert.IntoKernelIdeal.nD Cert.IntoKernelIdeal.τ).loc Cert.IntoKernelIdeal.main_arg1)), ?_, ?_⟩
  · refine (θ_run _ _ _).mono (fun r h c => ?_) (Cert.IntoKernelIdeal.Value.run_blocks (F := Ideal) m g)
    have h := h c
    exact ⟨(h.1).trans (Cert.IntoKernelIdeal.Into.final m c), h.2⟩
  · refine (θ_run _ _ _).mono (fun r h c => ?_) (Cert.IntoReferenceIdeal.Value.run (F := Ideal) m' g')
    have h := h c
    obtain ⟨a0, a1⟩ := hargs c
    refine ⟨(h.1).trans ?_, h.2⟩
    · clear h
      rw [a0, a1]
      exact (Cert.IntoKernelIdeal.Into.left_eq _ _).symm

/-! The call of the last projection of a half-step with the residual and the norm: both kernels run as the pipeline does, and the reference is host code alone. -/

theorem residual_kernel : Cert.quiescent_ResidualKernel (hResidualKernel := Cert.ResidualKernel.Gen.facts) := fun m ρ _ => Cert.ResidualKernel.Gen.frame m ρ

theorem residual_ideal : Cert.quiescent_ResidualKernelIdeal (hResidualKernelIdeal := Cert.ResidualKernelIdeal.Gen.facts) := fun m ρ _ => Cert.ResidualKernelIdeal.Gen.frame m ρ

theorem residual_reference : Cert.quiescent_ResidualReferenceIdeal (hResidualReferenceIdeal := Cert.ResidualReferenceIdeal.Gen.facts) := fun m ρ _ =>
  (θ_run _ _ _).mono (fun r h => ⟨fun c => (h c).2.2, sem_eq_zero_of_no_sems (by decide) r.2⟩) (Cert.ResidualReferenceIdeal.Value.run (F := Ideal) m ρ)

/-- What the call leaves and what the reference leaves are the same functions of the same arguments. -/
theorem residual_value : Cert.algebraic_ResidualKernelIdeal_ResidualReferenceIdeal (hResidualKernelIdeal := Cert.ResidualKernelIdeal.Gen.facts)
    (hResidualReferenceIdeal := Cert.ResidualReferenceIdeal.Gen.facts) := fun m g m' g' hpre hargs => by
  refine ⟨fun c => Cert.ResidualKernelIdeal.Residual.sums (m ((c.tc : Thread Cert.ResidualKernelIdeal.nD Cert.ResidualKernelIdeal.τ).loc Cert.ResidualKernelIdeal.main_arg0)) (m ((c.tc : Thread Cert.ResidualKernelIdeal.nD Cert.ResidualKernelIdeal.τ).loc Cert.ResidualKernelIdeal.main_arg1)) (m ((c.tc : Thread Cert.ResidualKernelIdeal.nD Cert.ResidualKernelIdeal.τ).loc Cert.ResidualKernelIdeal.main_arg2)),
    fun c => Cert.ResidualKernelIdeal.Residual.normed (Cert.ResidualKernelIdeal.Residual.sums (m ((c.tc : Thread Cert.ResidualKernelIdeal.nD Cert.ResidualKernelIdeal.τ).loc Cert.ResidualKernelIdeal.main_arg0)) (m ((c.tc : Thread Cert.ResidualKernelIdeal.nD Cert.ResidualKernelIdeal.τ).loc Cert.ResidualKernelIdeal.main_arg1)) (m ((c.tc : Thread Cert.ResidualKernelIdeal.nD Cert.ResidualKernelIdeal.τ).loc Cert.ResidualKernelIdeal.main_arg2))) (m ((c.tc : Thread Cert.ResidualKernelIdeal.nD Cert.ResidualKernelIdeal.τ).loc Cert.ResidualKernelIdeal.main_arg3)), ?_, ?_⟩
  · refine (θ_run _ _ _).mono (fun r h c => ?_) (Cert.ResidualKernelIdeal.Value.run_blocks (F := Ideal) m g)
    have h := h c
    exact ⟨(h.1).trans (Cert.ResidualKernelIdeal.Residual.final4 m c), (h.2.1).trans (Cert.ResidualKernelIdeal.Residual.final5 m c), h.2.2⟩
  · refine (θ_run _ _ _).mono (fun r h c => ?_) (Cert.ResidualReferenceIdeal.Value.run (F := Ideal) m' g')
    have h := h c
    obtain ⟨a0, a1, a2, a3⟩ := hargs c
    refine ⟨(h.1).trans ?_, (h.2.1).trans ?_, h.2.2⟩
    · clear h
      rw [a0, a1, a2]
      exact (Cert.ResidualKernelIdeal.Residual.sums_eq _ _ _).symm
    · clear h
      rw [a0, a1, a2, a3]
      exact ((congrArg (fun o => Cert.ResidualKernelIdeal.Residual.refNormed o _) (Cert.ResidualKernelIdeal.Residual.sums_eq _ _ _).symm).trans (Cert.ResidualKernelIdeal.Residual.normed_eq _ _).symm)

/-! The call of the sum of the gradients and the step of the optimiser: both kernels run as the pipeline does, and the reference is host code alone. -/

theorem update_kernel : Cert.quiescent_UpdateKernel (hUpdateKernel := Cert.UpdateKernel.Gen.facts) := fun m ρ _ => Cert.UpdateKernel.Gen.frame m ρ

theorem update_ideal : Cert.quiescent_UpdateKernelIdeal (hUpdateKernelIdeal := Cert.UpdateKernelIdeal.Gen.facts) := fun m ρ _ => Cert.UpdateKernelIdeal.Gen.frame m ρ

theorem update_reference : Cert.quiescent_UpdateReferenceIdeal (hUpdateReferenceIdeal := Cert.UpdateReferenceIdeal.Gen.facts) := fun m ρ _ =>
  (θ_run _ _ _).mono (fun r h => ⟨fun c => (h c).2.2.2.2, sem_eq_zero_of_no_sems (by decide) r.2⟩) (Cert.UpdateReferenceIdeal.Value.run (F := Ideal) m ρ)

/-- What the call leaves and what the reference leaves are the same functions of the same arguments. -/
theorem update_value : Cert.algebraic_UpdateKernelIdeal_UpdateReferenceIdeal (hUpdateKernelIdeal := Cert.UpdateKernelIdeal.Gen.facts)
    (hUpdateReferenceIdeal := Cert.UpdateReferenceIdeal.Gen.facts) := fun m g m' g' hpre hargs => by
  refine ⟨fun c => Cert.UpdateKernelIdeal.Update.total (m ((c.tc : Thread Cert.UpdateKernelIdeal.nD Cert.UpdateKernelIdeal.τ).loc Cert.UpdateKernelIdeal.main_arg0)) (m ((c.tc : Thread Cert.UpdateKernelIdeal.nD Cert.UpdateKernelIdeal.τ).loc Cert.UpdateKernelIdeal.main_arg1)),
    fun c => Cert.UpdateKernelIdeal.Update.changes (m ((c.tc : Thread Cert.UpdateKernelIdeal.nD Cert.UpdateKernelIdeal.τ).loc Cert.UpdateKernelIdeal.main_arg2)) (Cert.UpdateKernelIdeal.Update.firsts (Cert.UpdateKernelIdeal.Update.total (m ((c.tc : Thread Cert.UpdateKernelIdeal.nD Cert.UpdateKernelIdeal.τ).loc Cert.UpdateKernelIdeal.main_arg0)) (m ((c.tc : Thread Cert.UpdateKernelIdeal.nD Cert.UpdateKernelIdeal.τ).loc Cert.UpdateKernelIdeal.main_arg1))) (m ((c.tc : Thread Cert.UpdateKernelIdeal.nD Cert.UpdateKernelIdeal.τ).loc Cert.UpdateKernelIdeal.main_arg3))) (Cert.UpdateKernelIdeal.Update.seconds (Cert.UpdateKernelIdeal.Update.total (m ((c.tc : Thread Cert.UpdateKernelIdeal.nD Cert.UpdateKernelIdeal.τ).loc Cert.UpdateKernelIdeal.main_arg0)) (m ((c.tc : Thread Cert.UpdateKernelIdeal.nD Cert.UpdateKernelIdeal.τ).loc Cert.UpdateKernelIdeal.main_arg1))) (m ((c.tc : Thread Cert.UpdateKernelIdeal.nD Cert.UpdateKernelIdeal.τ).loc Cert.UpdateKernelIdeal.main_arg4))),
    fun c => Cert.UpdateKernelIdeal.Update.firsts (Cert.UpdateKernelIdeal.Update.total (m ((c.tc : Thread Cert.UpdateKernelIdeal.nD Cert.UpdateKernelIdeal.τ).loc Cert.UpdateKernelIdeal.main_arg0)) (m ((c.tc : Thread Cert.UpdateKernelIdeal.nD Cert.UpdateKernelIdeal.τ).loc Cert.UpdateKernelIdeal.main_arg1))) (m ((c.tc : Thread Cert.UpdateKernelIdeal.nD Cert.UpdateKernelIdeal.τ).loc Cert.UpdateKernelIdeal.main_arg3)),
    fun c => Cert.UpdateKernelIdeal.Update.seconds (Cert.UpdateKernelIdeal.Update.total (m ((c.tc : Thread Cert.UpdateKernelIdeal.nD Cert.UpdateKernelIdeal.τ).loc Cert.UpdateKernelIdeal.main_arg0)) (m ((c.tc : Thread Cert.UpdateKernelIdeal.nD Cert.UpdateKernelIdeal.τ).loc Cert.UpdateKernelIdeal.main_arg1))) (m ((c.tc : Thread Cert.UpdateKernelIdeal.nD Cert.UpdateKernelIdeal.τ).loc Cert.UpdateKernelIdeal.main_arg4)), ?_, ?_⟩
  · refine (θ_run _ _ _).mono (fun r h c => ?_) (Cert.UpdateKernelIdeal.Value.run_blocks (F := Ideal) m g)
    have h := h c
    exact ⟨(h.1).trans (Cert.UpdateKernelIdeal.Update.final5 m c), (h.2.1).trans (Cert.UpdateKernelIdeal.Update.final6 m c), (h.2.2.1).trans (Cert.UpdateKernelIdeal.Update.final7 m c), (h.2.2.2.1).trans (Cert.UpdateKernelIdeal.Update.final8 m c), h.2.2.2.2⟩
  · refine (θ_run _ _ _).mono (fun r h c => ?_) (Cert.UpdateReferenceIdeal.Value.run (F := Ideal) m' g')
    have h := h c
    obtain ⟨a0, a1, a2, a3, a4⟩ := hargs c
    refine ⟨(h.1).trans ?_, (h.2.1).trans ?_, (h.2.2.1).trans ?_, (h.2.2.2.1).trans ?_, h.2.2.2.2⟩
    · clear h
      rw [a0, a1]
      exact (Cert.UpdateKernelIdeal.Update.total_eq _ _).symm
    · clear h
      rw [a0, a1, a2, a3, a4]
      exact (congrArg (fun g => Cert.UpdateKernelIdeal.Update.refStep _ (Cert.UpdateKernelIdeal.Update.refFirst g _) (Cert.UpdateKernelIdeal.Update.refSecond g _)) (Cert.UpdateKernelIdeal.Update.total_eq _ _).symm)
    · clear h
      rw [a0, a1, a3]
      exact (congrArg (fun g => Cert.UpdateKernelIdeal.Update.refFirst g _) (Cert.UpdateKernelIdeal.Update.total_eq _ _).symm)
    · clear h
      rw [a0, a1, a4]
      exact (congrArg (fun g => Cert.UpdateKernelIdeal.Update.refSecond g _) (Cert.UpdateKernelIdeal.Update.total_eq _ _).symm)

/-! The call of the step of the optimiser on the gains: both kernels run as the pipeline does, and the reference is host code alone. -/

theorem gain_kernel : Cert.quiescent_GainKernel (hGainKernel := Cert.GainKernel.Gen.facts) := fun m ρ _ => Cert.GainKernel.Gen.frame m ρ

theorem gain_ideal : Cert.quiescent_GainKernelIdeal (hGainKernelIdeal := Cert.GainKernelIdeal.Gen.facts) := fun m ρ _ => Cert.GainKernelIdeal.Gen.frame m ρ

theorem gain_reference : Cert.quiescent_GainReferenceIdeal (hGainReferenceIdeal := Cert.GainReferenceIdeal.Gen.facts) := fun m ρ _ =>
  (θ_run _ _ _).mono (fun r h => ⟨fun c => (h c).2.2.2, sem_eq_zero_of_no_sems (by decide) r.2⟩) (Cert.GainReferenceIdeal.Value.run (F := Ideal) m ρ)

/-- What the call leaves and what the reference leaves are the same functions of the same arguments. -/
theorem gain_value : Cert.algebraic_GainKernelIdeal_GainReferenceIdeal (hGainKernelIdeal := Cert.GainKernelIdeal.Gen.facts)
    (hGainReferenceIdeal := Cert.GainReferenceIdeal.Gen.facts) := fun m g m' g' hpre hargs => by
  refine ⟨fun c => Cert.GainKernelIdeal.Value.G4 (F := Ideal) (m ((c.tc : Thread Cert.GainKernelIdeal.nD Cert.GainKernelIdeal.τ).loc Cert.GainKernelIdeal.main_arg0)) (m ((c.tc : Thread Cert.GainKernelIdeal.nD Cert.GainKernelIdeal.τ).loc Cert.GainKernelIdeal.main_arg1)) (m ((c.tc : Thread Cert.GainKernelIdeal.nD Cert.GainKernelIdeal.τ).loc Cert.GainKernelIdeal.main_arg2)) (m ((c.tc : Thread Cert.GainKernelIdeal.nD Cert.GainKernelIdeal.τ).loc Cert.GainKernelIdeal.main_arg3)),
    fun c => Cert.GainKernelIdeal.Value.G5 (F := Ideal) (m ((c.tc : Thread Cert.GainKernelIdeal.nD Cert.GainKernelIdeal.τ).loc Cert.GainKernelIdeal.main_arg0)) (m ((c.tc : Thread Cert.GainKernelIdeal.nD Cert.GainKernelIdeal.τ).loc Cert.GainKernelIdeal.main_arg1)) (m ((c.tc : Thread Cert.GainKernelIdeal.nD Cert.GainKernelIdeal.τ).loc Cert.GainKernelIdeal.main_arg2)) (m ((c.tc : Thread Cert.GainKernelIdeal.nD Cert.GainKernelIdeal.τ).loc Cert.GainKernelIdeal.main_arg3)),
    fun c => Cert.GainKernelIdeal.Value.G6 (F := Ideal) (m ((c.tc : Thread Cert.GainKernelIdeal.nD Cert.GainKernelIdeal.τ).loc Cert.GainKernelIdeal.main_arg0)) (m ((c.tc : Thread Cert.GainKernelIdeal.nD Cert.GainKernelIdeal.τ).loc Cert.GainKernelIdeal.main_arg1)) (m ((c.tc : Thread Cert.GainKernelIdeal.nD Cert.GainKernelIdeal.τ).loc Cert.GainKernelIdeal.main_arg2)) (m ((c.tc : Thread Cert.GainKernelIdeal.nD Cert.GainKernelIdeal.τ).loc Cert.GainKernelIdeal.main_arg3)), ?_, ?_⟩
  · refine (θ_run _ _ _).mono (fun r h c => ?_) (Cert.GainKernelIdeal.Value.run (F := Ideal) m g)
    have h := h c
    exact ⟨h.1, h.2.1, h.2.2.1, h.2.2.2⟩
  · refine (θ_run _ _ _).mono (fun r h c => ?_) (Cert.GainReferenceIdeal.Value.run (F := Ideal) m' g')
    have h := h c
    obtain ⟨a0, a1, a2, a3⟩ := hargs c
    refine ⟨(h.1).trans ?_, (h.2.1).trans ?_, (h.2.2.1).trans ?_, h.2.2.2⟩
    · clear h
      rw [a0, a1, a2, a3]
      exact (Cert.GainKernelIdeal.Gain.step_eq _ _ _ _).symm
    · clear h
      rw [a0, a2]
      exact (Cert.GainKernelIdeal.Gain.first_eq _ _ _ _).symm
    · clear h
      rw [a0, a3]
      exact (Cert.GainKernelIdeal.Gain.second_eq _ _ _ _).symm

/-! The call of the sum of the devices’ gradients of the gains: both kernels run as the pipeline does, and the reference is host code alone. -/

theorem sum_kernel : Cert.quiescent_SumKernel (hSumKernel := Cert.SumKernel.Gen.facts) := fun m ρ _ => Cert.SumKernel.Gen.frame m ρ

theorem sum_ideal : Cert.quiescent_SumKernelIdeal (hSumKernelIdeal := Cert.SumKernelIdeal.Gen.facts) := fun m ρ _ => Cert.SumKernelIdeal.Gen.frame m ρ

theorem sum_reference : Cert.quiescent_SumReferenceIdeal (hSumReferenceIdeal := Cert.SumReferenceIdeal.Gen.facts) := fun m ρ _ =>
  (θ_run _ _ _).mono (fun r h => ⟨fun c => (h c).2, sem_eq_zero_of_no_sems (by decide) r.2⟩) (Cert.SumReferenceIdeal.Value.run (F := Ideal) m ρ)

/-- What the call leaves and what the reference leaves are the same functions of the same arguments. -/
theorem sum_value : Cert.algebraic_SumKernelIdeal_SumReferenceIdeal (hSumKernelIdeal := Cert.SumKernelIdeal.Gen.facts)
    (hSumReferenceIdeal := Cert.SumReferenceIdeal.Gen.facts) := fun m g m' g' hpre hargs => by
  refine ⟨fun c => Cert.SumKernelIdeal.Value.G1 (F := Ideal) (m ((c.tc : Thread Cert.SumKernelIdeal.nD Cert.SumKernelIdeal.τ).loc Cert.SumKernelIdeal.main_arg0)), ?_, ?_⟩
  · refine (θ_run _ _ _).mono (fun r h c => ?_) (Cert.SumKernelIdeal.Value.run (F := Ideal) m g)
    have h := h c
    exact ⟨h.1, h.2⟩
  · refine (θ_run _ _ _).mono (fun r h c => ?_) (Cert.SumReferenceIdeal.Value.run (F := Ideal) m' g')
    have h := h c
    obtain a0 := hargs c
    refine ⟨(h.1).trans ?_, h.2⟩
    · clear h
      rw [a0]
      exact (Cert.SumKernelIdeal.Sum.sum_eq _).symm

/-! The call of the sum of the gradients and the step of the optimiser for the output projection: both kernels run as the pipeline does, and the reference is host code alone. -/

theorem updateout_kernel : Cert.quiescent_UpdateOutKernel (hUpdateOutKernel := Cert.UpdateOutKernel.Gen.facts) := fun m ρ _ => Cert.UpdateOutKernel.Gen.frame m ρ

theorem updateout_ideal : Cert.quiescent_UpdateOutKernelIdeal (hUpdateOutKernelIdeal := Cert.UpdateOutKernelIdeal.Gen.facts) := fun m ρ _ => Cert.UpdateOutKernelIdeal.Gen.frame m ρ

theorem updateout_reference : Cert.quiescent_UpdateOutReferenceIdeal (hUpdateOutReferenceIdeal := Cert.UpdateOutReferenceIdeal.Gen.facts) := fun m ρ _ =>
  (θ_run _ _ _).mono (fun r h => ⟨fun c => (h c).2.2.2.2, sem_eq_zero_of_no_sems (by decide) r.2⟩) (Cert.UpdateOutReferenceIdeal.Value.run (F := Ideal) m ρ)

/-- What the call leaves and what the reference leaves are the same functions of the same arguments. -/
theorem updateout_value : Cert.algebraic_UpdateOutKernelIdeal_UpdateOutReferenceIdeal (hUpdateOutKernelIdeal := Cert.UpdateOutKernelIdeal.Gen.facts)
    (hUpdateOutReferenceIdeal := Cert.UpdateOutReferenceIdeal.Gen.facts) := fun m g m' g' hpre hargs => by
  refine ⟨fun c => Cert.UpdateOutKernelIdeal.UpdateOut.total (m ((c.tc : Thread Cert.UpdateOutKernelIdeal.nD Cert.UpdateOutKernelIdeal.τ).loc Cert.UpdateOutKernelIdeal.main_arg0)) (m ((c.tc : Thread Cert.UpdateOutKernelIdeal.nD Cert.UpdateOutKernelIdeal.τ).loc Cert.UpdateOutKernelIdeal.main_arg1)),
    fun c => Cert.UpdateOutKernelIdeal.UpdateOut.changes (m ((c.tc : Thread Cert.UpdateOutKernelIdeal.nD Cert.UpdateOutKernelIdeal.τ).loc Cert.UpdateOutKernelIdeal.main_arg2)) (Cert.UpdateOutKernelIdeal.UpdateOut.firsts (Cert.UpdateOutKernelIdeal.UpdateOut.total (m ((c.tc : Thread Cert.UpdateOutKernelIdeal.nD Cert.UpdateOutKernelIdeal.τ).loc Cert.UpdateOutKernelIdeal.main_arg0)) (m ((c.tc : Thread Cert.UpdateOutKernelIdeal.nD Cert.UpdateOutKernelIdeal.τ).loc Cert.UpdateOutKernelIdeal.main_arg1))) (m ((c.tc : Thread Cert.UpdateOutKernelIdeal.nD Cert.UpdateOutKernelIdeal.τ).loc Cert.UpdateOutKernelIdeal.main_arg3))) (Cert.UpdateOutKernelIdeal.UpdateOut.seconds (Cert.UpdateOutKernelIdeal.UpdateOut.total (m ((c.tc : Thread Cert.UpdateOutKernelIdeal.nD Cert.UpdateOutKernelIdeal.τ).loc Cert.UpdateOutKernelIdeal.main_arg0)) (m ((c.tc : Thread Cert.UpdateOutKernelIdeal.nD Cert.UpdateOutKernelIdeal.τ).loc Cert.UpdateOutKernelIdeal.main_arg1))) (m ((c.tc : Thread Cert.UpdateOutKernelIdeal.nD Cert.UpdateOutKernelIdeal.τ).loc Cert.UpdateOutKernelIdeal.main_arg4))),
    fun c => Cert.UpdateOutKernelIdeal.UpdateOut.firsts (Cert.UpdateOutKernelIdeal.UpdateOut.total (m ((c.tc : Thread Cert.UpdateOutKernelIdeal.nD Cert.UpdateOutKernelIdeal.τ).loc Cert.UpdateOutKernelIdeal.main_arg0)) (m ((c.tc : Thread Cert.UpdateOutKernelIdeal.nD Cert.UpdateOutKernelIdeal.τ).loc Cert.UpdateOutKernelIdeal.main_arg1))) (m ((c.tc : Thread Cert.UpdateOutKernelIdeal.nD Cert.UpdateOutKernelIdeal.τ).loc Cert.UpdateOutKernelIdeal.main_arg3)),
    fun c => Cert.UpdateOutKernelIdeal.UpdateOut.seconds (Cert.UpdateOutKernelIdeal.UpdateOut.total (m ((c.tc : Thread Cert.UpdateOutKernelIdeal.nD Cert.UpdateOutKernelIdeal.τ).loc Cert.UpdateOutKernelIdeal.main_arg0)) (m ((c.tc : Thread Cert.UpdateOutKernelIdeal.nD Cert.UpdateOutKernelIdeal.τ).loc Cert.UpdateOutKernelIdeal.main_arg1))) (m ((c.tc : Thread Cert.UpdateOutKernelIdeal.nD Cert.UpdateOutKernelIdeal.τ).loc Cert.UpdateOutKernelIdeal.main_arg4)), ?_, ?_⟩
  · refine (θ_run _ _ _).mono (fun r h c => ?_) (Cert.UpdateOutKernelIdeal.Value.run_blocks (F := Ideal) m g)
    have h := h c
    exact ⟨(h.1).trans (Cert.UpdateOutKernelIdeal.UpdateOut.final5 m c), (h.2.1).trans (Cert.UpdateOutKernelIdeal.UpdateOut.final6 m c), (h.2.2.1).trans (Cert.UpdateOutKernelIdeal.UpdateOut.final7 m c), (h.2.2.2.1).trans (Cert.UpdateOutKernelIdeal.UpdateOut.final8 m c), h.2.2.2.2⟩
  · refine (θ_run _ _ _).mono (fun r h c => ?_) (Cert.UpdateOutReferenceIdeal.Value.run (F := Ideal) m' g')
    have h := h c
    obtain ⟨a0, a1, a2, a3, a4⟩ := hargs c
    refine ⟨(h.1).trans ?_, (h.2.1).trans ?_, (h.2.2.1).trans ?_, (h.2.2.2.1).trans ?_, h.2.2.2.2⟩
    · clear h
      rw [a0, a1]
      exact (Cert.UpdateOutKernelIdeal.UpdateOut.total_eq _ _).symm
    · clear h
      rw [a0, a1, a2, a3, a4]
      exact (congrArg (fun g => Cert.UpdateOutKernelIdeal.UpdateOut.refStep _ (Cert.UpdateOutKernelIdeal.UpdateOut.refFirst g _) (Cert.UpdateOutKernelIdeal.UpdateOut.refSecond g _)) (Cert.UpdateOutKernelIdeal.UpdateOut.total_eq _ _).symm)
    · clear h
      rw [a0, a1, a3]
      exact (congrArg (fun g => Cert.UpdateOutKernelIdeal.UpdateOut.refFirst g _) (Cert.UpdateOutKernelIdeal.UpdateOut.total_eq _ _).symm)
    · clear h
      rw [a0, a1, a4]
      exact (congrArg (fun g => Cert.UpdateOutKernelIdeal.UpdateOut.refSecond g _) (Cert.UpdateOutKernelIdeal.UpdateOut.total_eq _ _).symm)

/-! The call of the sum of the gradients and the step of the optimiser for the projections of the mixer: both kernels run as the pipeline does, and the reference is host code alone. -/

theorem updatein_kernel : Cert.quiescent_UpdateInKernel (hUpdateInKernel := Cert.UpdateInKernel.Gen.facts) := fun m ρ _ => Cert.UpdateInKernel.Gen.frame m ρ

theorem updatein_ideal : Cert.quiescent_UpdateInKernelIdeal (hUpdateInKernelIdeal := Cert.UpdateInKernelIdeal.Gen.facts) := fun m ρ _ => Cert.UpdateInKernelIdeal.Gen.frame m ρ

theorem updatein_reference : Cert.quiescent_UpdateInReferenceIdeal (hUpdateInReferenceIdeal := Cert.UpdateInReferenceIdeal.Gen.facts) := fun m ρ _ =>
  (θ_run _ _ _).mono (fun r h => ⟨fun c => (h c).2.2.2.2, sem_eq_zero_of_no_sems (by decide) r.2⟩) (Cert.UpdateInReferenceIdeal.Value.run (F := Ideal) m ρ)

/-- What the call leaves and what the reference leaves are the same functions of the same arguments. -/
theorem updatein_value : Cert.algebraic_UpdateInKernelIdeal_UpdateInReferenceIdeal (hUpdateInKernelIdeal := Cert.UpdateInKernelIdeal.Gen.facts)
    (hUpdateInReferenceIdeal := Cert.UpdateInReferenceIdeal.Gen.facts) := fun m g m' g' hpre hargs => by
  refine ⟨fun c => Cert.UpdateInKernelIdeal.UpdateIn.total (m ((c.tc : Thread Cert.UpdateInKernelIdeal.nD Cert.UpdateInKernelIdeal.τ).loc Cert.UpdateInKernelIdeal.main_arg0)) (m ((c.tc : Thread Cert.UpdateInKernelIdeal.nD Cert.UpdateInKernelIdeal.τ).loc Cert.UpdateInKernelIdeal.main_arg1)),
    fun c => Cert.UpdateInKernelIdeal.UpdateIn.changes (m ((c.tc : Thread Cert.UpdateInKernelIdeal.nD Cert.UpdateInKernelIdeal.τ).loc Cert.UpdateInKernelIdeal.main_arg2)) (Cert.UpdateInKernelIdeal.UpdateIn.firsts (Cert.UpdateInKernelIdeal.UpdateIn.total (m ((c.tc : Thread Cert.UpdateInKernelIdeal.nD Cert.UpdateInKernelIdeal.τ).loc Cert.UpdateInKernelIdeal.main_arg0)) (m ((c.tc : Thread Cert.UpdateInKernelIdeal.nD Cert.UpdateInKernelIdeal.τ).loc Cert.UpdateInKernelIdeal.main_arg1))) (m ((c.tc : Thread Cert.UpdateInKernelIdeal.nD Cert.UpdateInKernelIdeal.τ).loc Cert.UpdateInKernelIdeal.main_arg3))) (Cert.UpdateInKernelIdeal.UpdateIn.seconds (Cert.UpdateInKernelIdeal.UpdateIn.total (m ((c.tc : Thread Cert.UpdateInKernelIdeal.nD Cert.UpdateInKernelIdeal.τ).loc Cert.UpdateInKernelIdeal.main_arg0)) (m ((c.tc : Thread Cert.UpdateInKernelIdeal.nD Cert.UpdateInKernelIdeal.τ).loc Cert.UpdateInKernelIdeal.main_arg1))) (m ((c.tc : Thread Cert.UpdateInKernelIdeal.nD Cert.UpdateInKernelIdeal.τ).loc Cert.UpdateInKernelIdeal.main_arg4))),
    fun c => Cert.UpdateInKernelIdeal.UpdateIn.firsts (Cert.UpdateInKernelIdeal.UpdateIn.total (m ((c.tc : Thread Cert.UpdateInKernelIdeal.nD Cert.UpdateInKernelIdeal.τ).loc Cert.UpdateInKernelIdeal.main_arg0)) (m ((c.tc : Thread Cert.UpdateInKernelIdeal.nD Cert.UpdateInKernelIdeal.τ).loc Cert.UpdateInKernelIdeal.main_arg1))) (m ((c.tc : Thread Cert.UpdateInKernelIdeal.nD Cert.UpdateInKernelIdeal.τ).loc Cert.UpdateInKernelIdeal.main_arg3)),
    fun c => Cert.UpdateInKernelIdeal.UpdateIn.seconds (Cert.UpdateInKernelIdeal.UpdateIn.total (m ((c.tc : Thread Cert.UpdateInKernelIdeal.nD Cert.UpdateInKernelIdeal.τ).loc Cert.UpdateInKernelIdeal.main_arg0)) (m ((c.tc : Thread Cert.UpdateInKernelIdeal.nD Cert.UpdateInKernelIdeal.τ).loc Cert.UpdateInKernelIdeal.main_arg1))) (m ((c.tc : Thread Cert.UpdateInKernelIdeal.nD Cert.UpdateInKernelIdeal.τ).loc Cert.UpdateInKernelIdeal.main_arg4)), ?_, ?_⟩
  · refine (θ_run _ _ _).mono (fun r h c => ?_) (Cert.UpdateInKernelIdeal.Value.run_blocks (F := Ideal) m g)
    have h := h c
    exact ⟨(h.1).trans (Cert.UpdateInKernelIdeal.UpdateIn.final5 m c), (h.2.1).trans (Cert.UpdateInKernelIdeal.UpdateIn.final6 m c), (h.2.2.1).trans (Cert.UpdateInKernelIdeal.UpdateIn.final7 m c), (h.2.2.2.1).trans (Cert.UpdateInKernelIdeal.UpdateIn.final8 m c), h.2.2.2.2⟩
  · refine (θ_run _ _ _).mono (fun r h c => ?_) (Cert.UpdateInReferenceIdeal.Value.run (F := Ideal) m' g')
    have h := h c
    obtain ⟨a0, a1, a2, a3, a4⟩ := hargs c
    refine ⟨(h.1).trans ?_, (h.2.1).trans ?_, (h.2.2.1).trans ?_, (h.2.2.2.1).trans ?_, h.2.2.2.2⟩
    · clear h
      rw [a0, a1]
      exact (Cert.UpdateInKernelIdeal.UpdateIn.total_eq _ _).symm
    · clear h
      rw [a0, a1, a2, a3, a4]
      exact (congrArg (fun g => Cert.UpdateInKernelIdeal.UpdateIn.refStep _ (Cert.UpdateInKernelIdeal.UpdateIn.refFirst g _) (Cert.UpdateInKernelIdeal.UpdateIn.refSecond g _)) (Cert.UpdateInKernelIdeal.UpdateIn.total_eq _ _).symm)
    · clear h
      rw [a0, a1, a3]
      exact (congrArg (fun g => Cert.UpdateInKernelIdeal.UpdateIn.refFirst g _) (Cert.UpdateInKernelIdeal.UpdateIn.total_eq _ _).symm)
    · clear h
      rw [a0, a1, a4]
      exact (congrArg (fun g => Cert.UpdateInKernelIdeal.UpdateIn.refSecond g _) (Cert.UpdateInKernelIdeal.UpdateIn.total_eq _ _).symm)

/-! The call of the sum of the gradients and the step of the optimiser for the projections of the attentions’ outputs: both kernels run as the pipeline does, and the reference is host code alone. -/

theorem updateproj_kernel : Cert.quiescent_UpdateProjKernel (hUpdateProjKernel := Cert.UpdateProjKernel.Gen.facts) := fun m ρ _ => Cert.UpdateProjKernel.Gen.frame m ρ

theorem updateproj_ideal : Cert.quiescent_UpdateProjKernelIdeal (hUpdateProjKernelIdeal := Cert.UpdateProjKernelIdeal.Gen.facts) := fun m ρ _ => Cert.UpdateProjKernelIdeal.Gen.frame m ρ

theorem updateproj_reference : Cert.quiescent_UpdateProjReferenceIdeal (hUpdateProjReferenceIdeal := Cert.UpdateProjReferenceIdeal.Gen.facts) := fun m ρ _ =>
  (θ_run _ _ _).mono (fun r h => ⟨fun c => (h c).2.2.2.2, sem_eq_zero_of_no_sems (by decide) r.2⟩) (Cert.UpdateProjReferenceIdeal.Value.run (F := Ideal) m ρ)

/-- What the call leaves and what the reference leaves are the same functions of the same arguments. -/
theorem updateproj_value : Cert.algebraic_UpdateProjKernelIdeal_UpdateProjReferenceIdeal (hUpdateProjKernelIdeal := Cert.UpdateProjKernelIdeal.Gen.facts)
    (hUpdateProjReferenceIdeal := Cert.UpdateProjReferenceIdeal.Gen.facts) := fun m g m' g' hpre hargs => by
  refine ⟨fun c => Cert.UpdateProjKernelIdeal.UpdateProj.total (m ((c.tc : Thread Cert.UpdateProjKernelIdeal.nD Cert.UpdateProjKernelIdeal.τ).loc Cert.UpdateProjKernelIdeal.main_arg0)) (m ((c.tc : Thread Cert.UpdateProjKernelIdeal.nD Cert.UpdateProjKernelIdeal.τ).loc Cert.UpdateProjKernelIdeal.main_arg1)),
    fun c => Cert.UpdateProjKernelIdeal.UpdateProj.changes (m ((c.tc : Thread Cert.UpdateProjKernelIdeal.nD Cert.UpdateProjKernelIdeal.τ).loc Cert.UpdateProjKernelIdeal.main_arg2)) (Cert.UpdateProjKernelIdeal.UpdateProj.firsts (Cert.UpdateProjKernelIdeal.UpdateProj.total (m ((c.tc : Thread Cert.UpdateProjKernelIdeal.nD Cert.UpdateProjKernelIdeal.τ).loc Cert.UpdateProjKernelIdeal.main_arg0)) (m ((c.tc : Thread Cert.UpdateProjKernelIdeal.nD Cert.UpdateProjKernelIdeal.τ).loc Cert.UpdateProjKernelIdeal.main_arg1))) (m ((c.tc : Thread Cert.UpdateProjKernelIdeal.nD Cert.UpdateProjKernelIdeal.τ).loc Cert.UpdateProjKernelIdeal.main_arg3))) (Cert.UpdateProjKernelIdeal.UpdateProj.seconds (Cert.UpdateProjKernelIdeal.UpdateProj.total (m ((c.tc : Thread Cert.UpdateProjKernelIdeal.nD Cert.UpdateProjKernelIdeal.τ).loc Cert.UpdateProjKernelIdeal.main_arg0)) (m ((c.tc : Thread Cert.UpdateProjKernelIdeal.nD Cert.UpdateProjKernelIdeal.τ).loc Cert.UpdateProjKernelIdeal.main_arg1))) (m ((c.tc : Thread Cert.UpdateProjKernelIdeal.nD Cert.UpdateProjKernelIdeal.τ).loc Cert.UpdateProjKernelIdeal.main_arg4))),
    fun c => Cert.UpdateProjKernelIdeal.UpdateProj.firsts (Cert.UpdateProjKernelIdeal.UpdateProj.total (m ((c.tc : Thread Cert.UpdateProjKernelIdeal.nD Cert.UpdateProjKernelIdeal.τ).loc Cert.UpdateProjKernelIdeal.main_arg0)) (m ((c.tc : Thread Cert.UpdateProjKernelIdeal.nD Cert.UpdateProjKernelIdeal.τ).loc Cert.UpdateProjKernelIdeal.main_arg1))) (m ((c.tc : Thread Cert.UpdateProjKernelIdeal.nD Cert.UpdateProjKernelIdeal.τ).loc Cert.UpdateProjKernelIdeal.main_arg3)),
    fun c => Cert.UpdateProjKernelIdeal.UpdateProj.seconds (Cert.UpdateProjKernelIdeal.UpdateProj.total (m ((c.tc : Thread Cert.UpdateProjKernelIdeal.nD Cert.UpdateProjKernelIdeal.τ).loc Cert.UpdateProjKernelIdeal.main_arg0)) (m ((c.tc : Thread Cert.UpdateProjKernelIdeal.nD Cert.UpdateProjKernelIdeal.τ).loc Cert.UpdateProjKernelIdeal.main_arg1))) (m ((c.tc : Thread Cert.UpdateProjKernelIdeal.nD Cert.UpdateProjKernelIdeal.τ).loc Cert.UpdateProjKernelIdeal.main_arg4)), ?_, ?_⟩
  · refine (θ_run _ _ _).mono (fun r h c => ?_) (Cert.UpdateProjKernelIdeal.Value.run_blocks (F := Ideal) m g)
    have h := h c
    exact ⟨(h.1).trans (Cert.UpdateProjKernelIdeal.UpdateProj.final5 m c), (h.2.1).trans (Cert.UpdateProjKernelIdeal.UpdateProj.final6 m c), (h.2.2.1).trans (Cert.UpdateProjKernelIdeal.UpdateProj.final7 m c), (h.2.2.2.1).trans (Cert.UpdateProjKernelIdeal.UpdateProj.final8 m c), h.2.2.2.2⟩
  · refine (θ_run _ _ _).mono (fun r h c => ?_) (Cert.UpdateProjReferenceIdeal.Value.run (F := Ideal) m' g')
    have h := h c
    obtain ⟨a0, a1, a2, a3, a4⟩ := hargs c
    refine ⟨(h.1).trans ?_, (h.2.1).trans ?_, (h.2.2.1).trans ?_, (h.2.2.2.1).trans ?_, h.2.2.2.2⟩
    · clear h
      rw [a0, a1]
      exact (Cert.UpdateProjKernelIdeal.UpdateProj.total_eq _ _).symm
    · clear h
      rw [a0, a1, a2, a3, a4]
      exact (congrArg (fun g => Cert.UpdateProjKernelIdeal.UpdateProj.refStep _ (Cert.UpdateProjKernelIdeal.UpdateProj.refFirst g _) (Cert.UpdateProjKernelIdeal.UpdateProj.refSecond g _)) (Cert.UpdateProjKernelIdeal.UpdateProj.total_eq _ _).symm)
    · clear h
      rw [a0, a1, a3]
      exact (congrArg (fun g => Cert.UpdateProjKernelIdeal.UpdateProj.refFirst g _) (Cert.UpdateProjKernelIdeal.UpdateProj.total_eq _ _).symm)
    · clear h
      rw [a0, a1, a4]
      exact (congrArg (fun g => Cert.UpdateProjKernelIdeal.UpdateProj.refSecond g _) (Cert.UpdateProjKernelIdeal.UpdateProj.total_eq _ _).symm)

/-! The call of the gradient of the output projection: both kernels run as the pipeline does, and the reference is host code alone. -/

theorem outgrad_kernel : Cert.quiescent_OutGradKernel (hOutGradKernel := Cert.OutGradKernel.Gen.facts) := fun m ρ _ => Cert.OutGradKernel.Gen.frame m ρ

theorem outgrad_ideal : Cert.quiescent_OutGradKernelIdeal (hOutGradKernelIdeal := Cert.OutGradKernelIdeal.Gen.facts) := fun m ρ _ => Cert.OutGradKernelIdeal.Gen.frame m ρ

theorem outgrad_reference : Cert.quiescent_OutGradReferenceIdeal (hOutGradReferenceIdeal := Cert.OutGradReferenceIdeal.Gen.facts) := fun m ρ _ =>
  (θ_run _ _ _).mono (fun r h => ⟨fun c => (h c).2, sem_eq_zero_of_no_sems (by decide) r.2⟩) (Cert.OutGradReferenceIdeal.Value.run (F := Ideal) m ρ)

/-- What the call leaves and what the reference leaves are the same functions of the same arguments. -/
theorem outgrad_value : Cert.algebraic_OutGradKernelIdeal_OutGradReferenceIdeal (hOutGradKernelIdeal := Cert.OutGradKernelIdeal.Gen.facts)
    (hOutGradReferenceIdeal := Cert.OutGradReferenceIdeal.Gen.facts) := fun m g m' g' hpre hargs => by
  refine ⟨fun c => Cert.OutGradKernelIdeal.OutGrad.left (m ((c.tc : Thread Cert.OutGradKernelIdeal.nD Cert.OutGradKernelIdeal.τ).loc Cert.OutGradKernelIdeal.main_arg0)) (m ((c.tc : Thread Cert.OutGradKernelIdeal.nD Cert.OutGradKernelIdeal.τ).loc Cert.OutGradKernelIdeal.main_arg1)), ?_, ?_⟩
  · refine (θ_run _ _ _).mono (fun r h c => ?_) (Cert.OutGradKernelIdeal.Value.run_blocks (F := Ideal) m g)
    have h := h c
    exact ⟨(h.1).trans (Cert.OutGradKernelIdeal.OutGrad.final m c), h.2⟩
  · refine (θ_run _ _ _).mono (fun r h c => ?_) (Cert.OutGradReferenceIdeal.Value.run (F := Ideal) m' g')
    have h := h c
    obtain ⟨a0, a1⟩ := hargs c
    refine ⟨(h.1).trans ?_, h.2⟩
    · clear h
      rw [a0, a1]
      exact (Cert.OutGradKernelIdeal.OutGrad.left_eq _ _).symm

/-! The call of the output projection with the residual and the norm: both kernels run as the pipeline does, and the reference is host code alone. -/

theorem out_kernel : Cert.quiescent_OutKernel (hOutKernel := Cert.OutKernel.Gen.facts) := fun m ρ _ => Cert.OutKernel.Gen.frame m ρ

theorem out_ideal : Cert.quiescent_OutKernelIdeal (hOutKernelIdeal := Cert.OutKernelIdeal.Gen.facts) := fun m ρ _ => Cert.OutKernelIdeal.Gen.frame m ρ

theorem out_reference : Cert.quiescent_OutReferenceIdeal (hOutReferenceIdeal := Cert.OutReferenceIdeal.Gen.facts) := fun m ρ _ =>
  (θ_run _ _ _).mono (fun r h => ⟨fun c => (h c).2.2, sem_eq_zero_of_no_sems (by decide) r.2⟩) (Cert.OutReferenceIdeal.Value.run (F := Ideal) m ρ)

/-- What the call leaves and what the reference leaves are the same functions of the same arguments. -/
theorem out_value : Cert.algebraic_OutKernelIdeal_OutReferenceIdeal (hOutKernelIdeal := Cert.OutKernelIdeal.Gen.facts)
    (hOutReferenceIdeal := Cert.OutReferenceIdeal.Gen.facts) := fun m g m' g' hpre hargs => by
  refine ⟨fun c => Cert.OutKernelIdeal.Out.sums (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)),
    fun c => Cert.OutKernelIdeal.Out.normed (Cert.OutKernelIdeal.Out.sums (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2))) (m ((c.tc : Thread Cert.OutKernelIdeal.nD Cert.OutKernelIdeal.τ).loc Cert.OutKernelIdeal.main_arg3)), ?_, ?_⟩
  · refine (θ_run _ _ _).mono (fun r h c => ?_) (Cert.OutKernelIdeal.Value.run_blocks (F := Ideal) m g)
    have h := h c
    exact ⟨(h.1).trans (Cert.OutKernelIdeal.Out.final4 m c), (h.2.1).trans (Cert.OutKernelIdeal.Out.final5 m c), h.2.2⟩
  · refine (θ_run _ _ _).mono (fun r h c => ?_) (Cert.OutReferenceIdeal.Value.run (F := Ideal) m' g')
    have h := h c
    obtain ⟨a0, a1, a2, a3⟩ := hargs c
    refine ⟨(h.1).trans ?_, (h.2.1).trans ?_, h.2.2⟩
    · clear h
      rw [a0, a1, a2]
      exact (Cert.OutKernelIdeal.Out.sums_eq _ _ _).symm
    · clear h
      rw [a0, a1, a2, a3]
      exact ((congrArg (fun o => Cert.OutKernelIdeal.Out.refNormed o _) (Cert.OutKernelIdeal.Out.sums_eq _ _ _).symm).trans (Cert.OutKernelIdeal.Out.normed_eq _ _).symm)

/-! The call of the gated sum: both kernels run as the pipeline does, and the reference is host code alone. -/

theorem blend_kernel : Cert.quiescent_BlendKernel (hBlendKernel := Cert.BlendKernel.Gen.facts) := fun m ρ _ => Cert.BlendKernel.Gen.frame m ρ

theorem blend_ideal : Cert.quiescent_BlendKernelIdeal (hBlendKernelIdeal := Cert.BlendKernelIdeal.Gen.facts) := fun m ρ _ => Cert.BlendKernelIdeal.Gen.frame m ρ

theorem blend_reference : Cert.quiescent_BlendReferenceIdeal (hBlendReferenceIdeal := Cert.BlendReferenceIdeal.Gen.facts) := fun m ρ _ =>
  (θ_run _ _ _).mono (fun r h => ⟨fun c => (h c).2.2.2, sem_eq_zero_of_no_sems (by decide) r.2⟩) (Cert.BlendReferenceIdeal.Value.run (F := Ideal) m ρ)

/-- What the call leaves and what the reference leaves are the same functions of the same arguments. -/
theorem blend_value : Cert.algebraic_BlendKernelIdeal_BlendReferenceIdeal (hBlendKernelIdeal := Cert.BlendKernelIdeal.Gen.facts)
    (hBlendReferenceIdeal := Cert.BlendReferenceIdeal.Gen.facts) := fun m g m' g' hpre hargs => by
  refine ⟨fun c => Cert.BlendKernelIdeal.Blend.gated (m ((c.tc : Thread Cert.BlendKernelIdeal.nD Cert.BlendKernelIdeal.τ).loc Cert.BlendKernelIdeal.main_arg4)) (Cert.BlendKernelIdeal.Blend.proj (m ((c.tc : Thread Cert.BlendKernelIdeal.nD Cert.BlendKernelIdeal.τ).loc Cert.BlendKernelIdeal.main_arg0)) (m ((c.tc : Thread Cert.BlendKernelIdeal.nD Cert.BlendKernelIdeal.τ).loc Cert.BlendKernelIdeal.main_arg2))) (Cert.BlendKernelIdeal.Blend.proj (m ((c.tc : Thread Cert.BlendKernelIdeal.nD Cert.BlendKernelIdeal.τ).loc Cert.BlendKernelIdeal.main_arg1)) (m ((c.tc : Thread Cert.BlendKernelIdeal.nD Cert.BlendKernelIdeal.τ).loc Cert.BlendKernelIdeal.main_arg3))),
    fun c => Cert.BlendKernelIdeal.Blend.proj (m ((c.tc : Thread Cert.BlendKernelIdeal.nD Cert.BlendKernelIdeal.τ).loc Cert.BlendKernelIdeal.main_arg0)) (m ((c.tc : Thread Cert.BlendKernelIdeal.nD Cert.BlendKernelIdeal.τ).loc Cert.BlendKernelIdeal.main_arg2)),
    fun c => Cert.BlendKernelIdeal.Blend.proj (m ((c.tc : Thread Cert.BlendKernelIdeal.nD Cert.BlendKernelIdeal.τ).loc Cert.BlendKernelIdeal.main_arg1)) (m ((c.tc : Thread Cert.BlendKernelIdeal.nD Cert.BlendKernelIdeal.τ).loc Cert.BlendKernelIdeal.main_arg3)), ?_, ?_⟩
  · refine (θ_run _ _ _).mono (fun r h c => ?_) (Cert.BlendKernelIdeal.Value.run_blocks (F := Ideal) m g)
    have h := h c
    exact ⟨(h.1).trans (Cert.BlendKernelIdeal.Blend.final6 m c), (h.2.1).trans (Cert.BlendKernelIdeal.Blend.final7 m c), (h.2.2.1).trans (Cert.BlendKernelIdeal.Blend.final8 m c), h.2.2.2⟩
  · refine (θ_run _ _ _).mono (fun r h c => ?_) (Cert.BlendReferenceIdeal.Value.run (F := Ideal) m' g')
    have h := h c
    obtain ⟨a0, a1, a2, a3, a4⟩ := hargs c
    refine ⟨(h.1).trans ?_, (h.2.1).trans ?_, (h.2.2.1).trans ?_, h.2.2.2⟩
    · clear h
      rw [a0, a1, a2, a3, a4]
      exact (Cert.BlendKernelIdeal.Blend.gated_eq _ _ _ _ _).symm
    · clear h
      rw [a0, a2]
      exact (Cert.BlendKernelIdeal.Blend.proj_eq _ _).symm
    · clear h
      rw [a1, a3]
      exact (Cert.BlendKernelIdeal.Blend.proj_eq _ _).symm

/-! The call of the gradients of the gated sum: both kernels run as the pipeline does, and the reference is host code alone. -/

theorem unblend_kernel : Cert.quiescent_UnblendKernel (hUnblendKernel := Cert.UnblendKernel.Gen.facts) := fun m ρ _ => Cert.UnblendKernel.Gen.frame m ρ

theorem unblend_ideal : Cert.quiescent_UnblendKernelIdeal (hUnblendKernelIdeal := Cert.UnblendKernelIdeal.Gen.facts) := fun m ρ _ => Cert.UnblendKernelIdeal.Gen.frame m ρ

theorem unblend_reference : Cert.quiescent_UnblendReferenceIdeal (hUnblendReferenceIdeal := Cert.UnblendReferenceIdeal.Gen.facts) := fun m ρ _ =>
  (θ_run _ _ _).mono (fun r h => ⟨fun c => (h c).2.2.2, sem_eq_zero_of_no_sems (by decide) r.2⟩) (Cert.UnblendReferenceIdeal.Value.run (F := Ideal) m ρ)

/-- What the call leaves and what the reference leaves are the same functions of the same arguments. -/
theorem unblend_value : Cert.algebraic_UnblendKernelIdeal_UnblendReferenceIdeal (hUnblendKernelIdeal := Cert.UnblendKernelIdeal.Gen.facts)
    (hUnblendReferenceIdeal := Cert.UnblendReferenceIdeal.Gen.facts) := fun m g m' g' hpre hargs => by
  refine ⟨fun c => Cert.UnblendKernelIdeal.Unblend.termD (Cert.UnblendKernelIdeal.Unblend.back (m ((c.tc : Thread Cert.UnblendKernelIdeal.nD Cert.UnblendKernelIdeal.τ).loc Cert.UnblendKernelIdeal.main_arg0)) (m ((c.tc : Thread Cert.UnblendKernelIdeal.nD Cert.UnblendKernelIdeal.τ).loc Cert.UnblendKernelIdeal.main_arg1))) (m ((c.tc : Thread Cert.UnblendKernelIdeal.nD Cert.UnblendKernelIdeal.τ).loc Cert.UnblendKernelIdeal.main_arg4)),
    fun c => Cert.UnblendKernelIdeal.Unblend.termS (Cert.UnblendKernelIdeal.Unblend.back (m ((c.tc : Thread Cert.UnblendKernelIdeal.nD Cert.UnblendKernelIdeal.τ).loc Cert.UnblendKernelIdeal.main_arg0)) (m ((c.tc : Thread Cert.UnblendKernelIdeal.nD Cert.UnblendKernelIdeal.τ).loc Cert.UnblendKernelIdeal.main_arg1))) (m ((c.tc : Thread Cert.UnblendKernelIdeal.nD Cert.UnblendKernelIdeal.τ).loc Cert.UnblendKernelIdeal.main_arg4)),
    fun c => Cert.UnblendKernelIdeal.Unblend.beside (Cert.UnblendKernelIdeal.Unblend.slopeD (Cert.UnblendKernelIdeal.Unblend.back (m ((c.tc : Thread Cert.UnblendKernelIdeal.nD Cert.UnblendKernelIdeal.τ).loc Cert.UnblendKernelIdeal.main_arg0)) (m ((c.tc : Thread Cert.UnblendKernelIdeal.nD Cert.UnblendKernelIdeal.τ).loc Cert.UnblendKernelIdeal.main_arg1))) (m ((c.tc : Thread Cert.UnblendKernelIdeal.nD Cert.UnblendKernelIdeal.τ).loc Cert.UnblendKernelIdeal.main_arg2)) (m ((c.tc : Thread Cert.UnblendKernelIdeal.nD Cert.UnblendKernelIdeal.τ).loc Cert.UnblendKernelIdeal.main_arg4))) (Cert.UnblendKernelIdeal.Unblend.slopeS (Cert.UnblendKernelIdeal.Unblend.back (m ((c.tc : Thread Cert.UnblendKernelIdeal.nD Cert.UnblendKernelIdeal.τ).loc Cert.UnblendKernelIdeal.main_arg0)) (m ((c.tc : Thread Cert.UnblendKernelIdeal.nD Cert.UnblendKernelIdeal.τ).loc Cert.UnblendKernelIdeal.main_arg1))) (m ((c.tc : Thread Cert.UnblendKernelIdeal.nD Cert.UnblendKernelIdeal.τ).loc Cert.UnblendKernelIdeal.main_arg3)) (m ((c.tc : Thread Cert.UnblendKernelIdeal.nD Cert.UnblendKernelIdeal.τ).loc Cert.UnblendKernelIdeal.main_arg4))), ?_, ?_⟩
  · refine (θ_run _ _ _).mono (fun r h c => ?_) (Cert.UnblendKernelIdeal.Value.run_blocks (F := Ideal) m g)
    have h := h c
    exact ⟨(h.1).trans (Cert.UnblendKernelIdeal.Unblend.final6 m c), (h.2.1).trans (Cert.UnblendKernelIdeal.Unblend.final7 m c), (h.2.2.1).trans (Cert.UnblendKernelIdeal.Unblend.final8 m c), h.2.2.2⟩
  · refine (θ_run _ _ _).mono (fun r h c => ?_) (Cert.UnblendReferenceIdeal.Value.run (F := Ideal) m' g')
    have h := h c
    obtain ⟨a0, a1, a2, a3, a4⟩ := hargs c
    refine ⟨(h.1).trans ?_, (h.2.1).trans ?_, (h.2.2.1).trans ?_, h.2.2.2⟩
    · clear h
      rw [a0, a1, a4]
      exact (Cert.UnblendKernelIdeal.Unblend.outsD_eq _ _ _).symm
    · clear h
      rw [a0, a1, a4]
      exact (Cert.UnblendKernelIdeal.Unblend.outsS_eq _ _ _).symm
    · clear h
      rw [a0, a1, a2, a3, a4]
      exact (Cert.UnblendKernelIdeal.Unblend.slopes_eq _ _ _ _ _).symm

/-! The call of the gradient of the projection of an attention’s output: both kernels run as the pipeline does, and the reference is host code alone. -/

theorem projgrad_kernel : Cert.quiescent_ProjGradKernel (hProjGradKernel := Cert.ProjGradKernel.Gen.facts) := fun m ρ _ => Cert.ProjGradKernel.Gen.frame m ρ

theorem projgrad_ideal : Cert.quiescent_ProjGradKernelIdeal (hProjGradKernelIdeal := Cert.ProjGradKernelIdeal.Gen.facts) := fun m ρ _ => Cert.ProjGradKernelIdeal.Gen.frame m ρ

theorem projgrad_reference : Cert.quiescent_ProjGradReferenceIdeal (hProjGradReferenceIdeal := Cert.ProjGradReferenceIdeal.Gen.facts) := fun m ρ _ =>
  (θ_run _ _ _).mono (fun r h => ⟨fun c => (h c).2, sem_eq_zero_of_no_sems (by decide) r.2⟩) (Cert.ProjGradReferenceIdeal.Value.run (F := Ideal) m ρ)

/-- What the call leaves and what the reference leaves are the same functions of the same arguments. -/
theorem projgrad_value : Cert.algebraic_ProjGradKernelIdeal_ProjGradReferenceIdeal (hProjGradKernelIdeal := Cert.ProjGradKernelIdeal.Gen.facts)
    (hProjGradReferenceIdeal := Cert.ProjGradReferenceIdeal.Gen.facts) := fun m g m' g' hpre hargs => by
  refine ⟨fun c => Cert.ProjGradKernelIdeal.ProjGrad.left (m ((c.tc : Thread Cert.ProjGradKernelIdeal.nD Cert.ProjGradKernelIdeal.τ).loc Cert.ProjGradKernelIdeal.main_arg1)) (m ((c.tc : Thread Cert.ProjGradKernelIdeal.nD Cert.ProjGradKernelIdeal.τ).loc Cert.ProjGradKernelIdeal.main_arg0)), ?_, ?_⟩
  · refine (θ_run _ _ _).mono (fun r h c => ?_) (Cert.ProjGradKernelIdeal.Value.run_blocks (F := Ideal) m g)
    have h := h c
    exact ⟨(h.1).trans (Cert.ProjGradKernelIdeal.ProjGrad.final m c), h.2⟩
  · refine (θ_run _ _ _).mono (fun r h c => ?_) (Cert.ProjGradReferenceIdeal.Value.run (F := Ideal) m' g')
    have h := h c
    obtain ⟨a0, a1⟩ := hargs c
    refine ⟨(h.1).trans ?_, h.2⟩
    · clear h
      rw [a0, a1]
      exact (Cert.ProjGradKernelIdeal.ProjGrad.left_eq _ _).symm

/-! The call of the gradient of an attention’s output: both kernels run as the pipeline does, and the reference is host code alone. -/

theorem projback_kernel : Cert.quiescent_ProjBackKernel (hProjBackKernel := Cert.ProjBackKernel.Gen.facts) := fun m ρ _ => Cert.ProjBackKernel.Gen.frame m ρ

theorem projback_ideal : Cert.quiescent_ProjBackKernelIdeal (hProjBackKernelIdeal := Cert.ProjBackKernelIdeal.Gen.facts) := fun m ρ _ => Cert.ProjBackKernelIdeal.Gen.frame m ρ

theorem projback_reference : Cert.quiescent_ProjBackReferenceIdeal (hProjBackReferenceIdeal := Cert.ProjBackReferenceIdeal.Gen.facts) := fun m ρ _ =>
  (θ_run _ _ _).mono (fun r h => ⟨fun c => (h c).2, sem_eq_zero_of_no_sems (by decide) r.2⟩) (Cert.ProjBackReferenceIdeal.Value.run (F := Ideal) m ρ)

/-- What the call leaves and what the reference leaves are the same functions of the same arguments. -/
theorem projback_value : Cert.algebraic_ProjBackKernelIdeal_ProjBackReferenceIdeal (hProjBackKernelIdeal := Cert.ProjBackKernelIdeal.Gen.facts)
    (hProjBackReferenceIdeal := Cert.ProjBackReferenceIdeal.Gen.facts) := fun m g m' g' hpre hargs => by
  refine ⟨fun c => Cert.ProjBackKernelIdeal.ProjBack.left (m ((c.tc : Thread Cert.ProjBackKernelIdeal.nD Cert.ProjBackKernelIdeal.τ).loc Cert.ProjBackKernelIdeal.main_arg0)) (m ((c.tc : Thread Cert.ProjBackKernelIdeal.nD Cert.ProjBackKernelIdeal.τ).loc Cert.ProjBackKernelIdeal.main_arg1)), ?_, ?_⟩
  · refine (θ_run _ _ _).mono (fun r h c => ?_) (Cert.ProjBackKernelIdeal.Value.run_blocks (F := Ideal) m g)
    have h := h c
    exact ⟨(h.1).trans (Cert.ProjBackKernelIdeal.ProjBack.final m c), h.2⟩
  · refine (θ_run _ _ _).mono (fun r h c => ?_) (Cert.ProjBackReferenceIdeal.Value.run (F := Ideal) m' g')
    have h := h c
    obtain ⟨a0, a1⟩ := hargs c
    refine ⟨(h.1).trans ?_, h.2⟩
    · clear h
      rw [a0, a1]
      exact (Cert.ProjBackKernelIdeal.ProjBack.left_eq _ _).symm

/-! The call of the first norm: both kernels run as the pipeline does, and the reference is host code alone. -/

theorem firstnorm_kernel : Cert.quiescent_FirstNormKernel (hFirstNormKernel := Cert.FirstNormKernel.Gen.facts) := fun m ρ _ => Cert.FirstNormKernel.Gen.frame m ρ

theorem firstnorm_ideal : Cert.quiescent_FirstNormKernelIdeal (hFirstNormKernelIdeal := Cert.FirstNormKernelIdeal.Gen.facts) := fun m ρ _ => Cert.FirstNormKernelIdeal.Gen.frame m ρ

theorem firstnorm_reference : Cert.quiescent_FirstNormReferenceIdeal (hFirstNormReferenceIdeal := Cert.FirstNormReferenceIdeal.Gen.facts) := fun m ρ _ =>
  (θ_run _ _ _).mono (fun r h => ⟨fun c => (h c).2, sem_eq_zero_of_no_sems (by decide) r.2⟩) (Cert.FirstNormReferenceIdeal.Value.run (F := Ideal) m ρ)

/-- What the call leaves and what the reference leaves are the same functions of the same arguments. -/
theorem firstnorm_value : Cert.algebraic_FirstNormKernelIdeal_FirstNormReferenceIdeal (hFirstNormKernelIdeal := Cert.FirstNormKernelIdeal.Gen.facts)
    (hFirstNormReferenceIdeal := Cert.FirstNormReferenceIdeal.Gen.facts) := fun m g m' g' hpre hargs => by
  refine ⟨fun c => Cert.FirstNormKernelIdeal.FirstNorm.normed (m ((c.tc : Thread Cert.FirstNormKernelIdeal.nD Cert.FirstNormKernelIdeal.τ).loc Cert.FirstNormKernelIdeal.main_arg0)) (m ((c.tc : Thread Cert.FirstNormKernelIdeal.nD Cert.FirstNormKernelIdeal.τ).loc Cert.FirstNormKernelIdeal.main_arg1)), ?_, ?_⟩
  · refine (θ_run _ _ _).mono (fun r h c => ?_) (Cert.FirstNormKernelIdeal.Value.run_blocks (F := Ideal) m g)
    have h := h c
    exact ⟨(h.1).trans (Cert.FirstNormKernelIdeal.FirstNorm.final2 m c), h.2⟩
  · refine (θ_run _ _ _).mono (fun r h c => ?_) (Cert.FirstNormReferenceIdeal.Value.run (F := Ideal) m' g')
    have h := h c
    obtain ⟨a0, a1⟩ := hargs c
    refine ⟨(h.1).trans ?_, h.2⟩
    · clear h
      rw [a0, a1]
      exact (Cert.FirstNormKernelIdeal.FirstNorm.normed_eq _ _).symm

/-! The call of the last projection of the last half-step: both kernels run as the pipeline does, and the reference is host code alone. -/

theorem last_kernel : Cert.quiescent_LastKernel (hLastKernel := Cert.LastKernel.Gen.facts) := fun m ρ _ => Cert.LastKernel.Gen.frame m ρ

theorem last_ideal : Cert.quiescent_LastKernelIdeal (hLastKernelIdeal := Cert.LastKernelIdeal.Gen.facts) := fun m ρ _ => Cert.LastKernelIdeal.Gen.frame m ρ

theorem last_reference : Cert.quiescent_LastReferenceIdeal (hLastReferenceIdeal := Cert.LastReferenceIdeal.Gen.facts) := fun m ρ _ =>
  (θ_run _ _ _).mono (fun r h => ⟨fun c => (h c).2, sem_eq_zero_of_no_sems (by decide) r.2⟩) (Cert.LastReferenceIdeal.Value.run (F := Ideal) m ρ)

/-- What the call leaves and what the reference leaves are the same functions of the same arguments. -/
theorem last_value : Cert.algebraic_LastKernelIdeal_LastReferenceIdeal (hLastKernelIdeal := Cert.LastKernelIdeal.Gen.facts)
    (hLastReferenceIdeal := Cert.LastReferenceIdeal.Gen.facts) := fun m g m' g' hpre hargs => by
  refine ⟨fun c => Cert.LastKernelIdeal.Last.sums (m ((c.tc : Thread Cert.LastKernelIdeal.nD Cert.LastKernelIdeal.τ).loc Cert.LastKernelIdeal.main_arg0)) (m ((c.tc : Thread Cert.LastKernelIdeal.nD Cert.LastKernelIdeal.τ).loc Cert.LastKernelIdeal.main_arg1)) (m ((c.tc : Thread Cert.LastKernelIdeal.nD Cert.LastKernelIdeal.τ).loc Cert.LastKernelIdeal.main_arg2)), ?_, ?_⟩
  · refine (θ_run _ _ _).mono (fun r h c => ?_) (Cert.LastKernelIdeal.Value.run_blocks (F := Ideal) m g)
    have h := h c
    exact ⟨(h.1).trans (Cert.LastKernelIdeal.Last.final3 m c), h.2⟩
  · refine (θ_run _ _ _).mono (fun r h c => ?_) (Cert.LastReferenceIdeal.Value.run (F := Ideal) m' g')
    have h := h c
    obtain ⟨a0, a1, a2⟩ := hargs c
    refine ⟨(h.1).trans ?_, h.2⟩
    · clear h
      rw [a0, a1, a2]
      exact (Cert.LastKernelIdeal.Last.sums_eq _ _ _).symm

/-! The call of the inner products of the heads’ rows: both kernels run as the pipeline does, and the reference is host code alone. -/

theorem inner_kernel : Cert.quiescent_InnerKernel (hInnerKernel := Cert.InnerKernel.Gen.facts) := fun m ρ _ => Cert.InnerKernel.Gen.frame m ρ

theorem inner_ideal : Cert.quiescent_InnerKernelIdeal (hInnerKernelIdeal := Cert.InnerKernelIdeal.Gen.facts) := fun m ρ _ => Cert.InnerKernelIdeal.Gen.frame m ρ

theorem inner_reference : Cert.quiescent_InnerReferenceIdeal (hInnerReferenceIdeal := Cert.InnerReferenceIdeal.Gen.facts) := fun m ρ _ =>
  (θ_run _ _ _).mono (fun r h => ⟨fun c => (h c).2, sem_eq_zero_of_no_sems (by decide) r.2⟩) (Cert.InnerReferenceIdeal.Value.run (F := Ideal) m ρ)

/-- What the call leaves and what the reference leaves are the same functions of the same arguments. -/
theorem inner_value : Cert.algebraic_InnerKernelIdeal_InnerReferenceIdeal (hInnerKernelIdeal := Cert.InnerKernelIdeal.Gen.facts)
    (hInnerReferenceIdeal := Cert.InnerReferenceIdeal.Gen.facts) := fun m g m' g' hpre hargs => by
  refine ⟨fun c => Cert.InnerKernelIdeal.Inner.sums (m ((c.tc : Thread Cert.InnerKernelIdeal.nD Cert.InnerKernelIdeal.τ).loc Cert.InnerKernelIdeal.main_arg0)) (m ((c.tc : Thread Cert.InnerKernelIdeal.nD Cert.InnerKernelIdeal.τ).loc Cert.InnerKernelIdeal.main_arg1)), ?_, ?_⟩
  · refine (θ_run _ _ _).mono (fun r h c => ?_) (Cert.InnerKernelIdeal.Value.run_blocks (F := Ideal) m g)
    have h := h c
    exact ⟨(h.1).trans (Cert.InnerKernelIdeal.Inner.final2 m c), h.2⟩
  · refine (θ_run _ _ _).mono (fun r h c => ?_) (Cert.InnerReferenceIdeal.Value.run (F := Ideal) m' g')
    have h := h c
    obtain ⟨a0, a1⟩ := hargs c
    refine ⟨(h.1).trans ?_, h.2⟩
    · clear h
      rw [a0, a1]
      exact (Cert.InnerKernelIdeal.Inner.sums_eq _ _).symm

/-! The call of the last norm and the loss: both kernels run as the pipeline does, and the reference is host code alone. -/

theorem loss_kernel : Cert.quiescent_LossKernel (hLossKernel := Cert.LossKernel.Gen.facts) := fun m ρ _ => Cert.LossKernel.Gen.frame m ρ

theorem loss_ideal : Cert.quiescent_LossKernelIdeal (hLossKernelIdeal := Cert.LossKernelIdeal.Gen.facts) := fun m ρ _ => Cert.LossKernelIdeal.Gen.frame m ρ

theorem loss_reference : Cert.quiescent_LossReferenceIdeal (hLossReferenceIdeal := Cert.LossReferenceIdeal.Gen.facts) := fun m ρ _ =>
  (θ_run _ _ _).mono (fun r h => ⟨fun c => (h c).2.2.2.2, sem_eq_zero_of_no_sems (by decide) r.2⟩) (Cert.LossReferenceIdeal.Value.run (F := Ideal) m ρ)

/-- What the call leaves and what the reference leaves are the same functions of the same arguments. -/
theorem loss_value : Cert.algebraic_LossKernelIdeal_LossReferenceIdeal_pre_loss_finite (hLossKernelIdeal := Cert.LossKernelIdeal.Gen.facts)
    (hLossReferenceIdeal := Cert.LossReferenceIdeal.Gen.facts) (hPre_loss_finite := Cert.Pre_loss_finite.Gen.facts) := fun m g m' g' hpre hargs => by
  refine ⟨fun c => Cert.LossKernelIdeal.Loss.slopes (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (Cert.LossKernelIdeal.Loss.incoming (Cert.LossKernelIdeal.Loss.errs (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)))),
    fun c => truncf .bf16 (Cert.LossKernelIdeal.Loss.slopes (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (Cert.LossKernelIdeal.Loss.incoming (Cert.LossKernelIdeal.Loss.errs (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))))) Cert.LossReferenceIdeal.Gen.bitsLt_bf16_f32,
    fun c => Cert.Norm.gains (m ((c.tc : Thread Cert.LossKernelIdeal.nD Cert.LossKernelIdeal.τ).loc Cert.LossKernelIdeal.main_arg0)) (Cert.LossKernelIdeal.Loss.incoming (Cert.LossKernelIdeal.Loss.errs (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)))),
    fun c => Cert.LossKernelIdeal.Loss.loss (Cert.LossKernelIdeal.Loss.errs (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))), ?_, ?_⟩
  · refine (θ_run _ _ _).mono (fun r h c => ?_) (Cert.LossKernelIdeal.Value.run_blocks (F := Ideal) m g)
    have h := h c
    exact ⟨(h.1).trans (Cert.LossKernelIdeal.Loss.final3 m c), (h.2.1).trans (Cert.LossKernelIdeal.Loss.final4 m c), (h.2.2.1).trans (Cert.LossKernelIdeal.Loss.final5 m c), (h.2.2.2.1).trans (Cert.LossKernelIdeal.Loss.final6 m c), h.2.2.2.2⟩
  · refine (θ_run _ _ _).mono (fun r h c => ?_) (Cert.LossReferenceIdeal.Value.run (F := Ideal) m' g')
    have h := h c
    obtain ⟨a0, a1, a2⟩ := hargs c
    obtain ⟨hx, hg, hd⟩ := Cert.LossKernelIdeal.Loss.reals_of_pre (hpre c)
    refine ⟨(h.1).trans ?_, (h.2.1).trans ?_, (h.2.2.1).trans ?_, (h.2.2.2.1).trans ?_, h.2.2.2.2⟩
    · show Cert.LossReferenceIdeal.Value.res_main_v50 m' c = _; unfold Cert.LossReferenceIdeal.Value.res_main_v50
      rw [a0, a1, a2]
      exact (Cert.LossKernelIdeal.Loss.slopes_all _ _ _ hx hg hd)
    · show Cert.LossReferenceIdeal.Value.res_main_v51 m' c = _; unfold Cert.LossReferenceIdeal.Value.res_main_v51
      rw [a0, a1, a2]
      exact (congrArg (fun v => truncf (F := Ideal) .bf16 v Cert.LossReferenceIdeal.Gen.bitsLt_bf16_f32) (Cert.LossKernelIdeal.Loss.slopes_all _ _ _ hx hg hd))
    · clear h
      rw [a0, a1, a2]
      exact (Cert.LossKernelIdeal.Loss.gains_all _ _ _)
    · clear h
      rw [a0, a1, a2]
      exact (Cert.LossKernelIdeal.Loss.loss_all _ _ _)

theorem claim : Cert.Claim :=
  ⟨Cert.Kernel.Gen.facts, Cert.KernelIdeal.Gen.facts, Cert.ReferenceIdeal.Gen.facts, Cert.NormKernel.Gen.facts, Cert.NormKernelIdeal.Gen.facts, Cert.NormReferenceIdeal.Gen.facts, Cert.GluKernel.Gen.facts, Cert.GluKernelIdeal.Gen.facts, Cert.GluReferenceIdeal.Gen.facts, Cert.DownKernel.Gen.facts, Cert.DownKernelIdeal.Gen.facts, Cert.DownReferenceIdeal.Gen.facts, Cert.GateKernel.Gen.facts, Cert.GateKernelIdeal.Gen.facts, Cert.GateReferenceIdeal.Gen.facts, Cert.HiddenKernel.Gen.facts, Cert.HiddenKernelIdeal.Gen.facts, Cert.HiddenReferenceIdeal.Gen.facts, Cert.MixKernel.Gen.facts, Cert.MixKernelIdeal.Gen.facts, Cert.MixReferenceIdeal.Gen.facts, Cert.InGradKernel.Gen.facts, Cert.InGradKernelIdeal.Gen.facts, Cert.InGradReferenceIdeal.Gen.facts, Cert.IntoKernel.Gen.facts, Cert.IntoKernelIdeal.Gen.facts, Cert.IntoReferenceIdeal.Gen.facts, Cert.ResidualKernel.Gen.facts, Cert.ResidualKernelIdeal.Gen.facts, Cert.ResidualReferenceIdeal.Gen.facts, Cert.UpdateKernel.Gen.facts, Cert.UpdateKernelIdeal.Gen.facts, Cert.UpdateReferenceIdeal.Gen.facts, Cert.GainKernel.Gen.facts, Cert.GainKernelIdeal.Gen.facts, Cert.GainReferenceIdeal.Gen.facts, Cert.SumKernel.Gen.facts, Cert.SumKernelIdeal.Gen.facts, Cert.SumReferenceIdeal.Gen.facts, Cert.UpdateOutKernel.Gen.facts, Cert.UpdateOutKernelIdeal.Gen.facts, Cert.UpdateOutReferenceIdeal.Gen.facts, Cert.UpdateInKernel.Gen.facts, Cert.UpdateInKernelIdeal.Gen.facts, Cert.UpdateInReferenceIdeal.Gen.facts, Cert.UpdateProjKernel.Gen.facts, Cert.UpdateProjKernelIdeal.Gen.facts, Cert.UpdateProjReferenceIdeal.Gen.facts, Cert.OutGradKernel.Gen.facts, Cert.OutGradKernelIdeal.Gen.facts, Cert.OutGradReferenceIdeal.Gen.facts, Cert.OutKernel.Gen.facts, Cert.OutKernelIdeal.Gen.facts, Cert.OutReferenceIdeal.Gen.facts, Cert.BlendKernel.Gen.facts, Cert.BlendKernelIdeal.Gen.facts, Cert.BlendReferenceIdeal.Gen.facts, Cert.UnblendKernel.Gen.facts, Cert.UnblendKernelIdeal.Gen.facts, Cert.UnblendReferenceIdeal.Gen.facts, Cert.ProjGradKernel.Gen.facts, Cert.ProjGradKernelIdeal.Gen.facts, Cert.ProjGradReferenceIdeal.Gen.facts, Cert.ProjBackKernel.Gen.facts, Cert.ProjBackKernelIdeal.Gen.facts, Cert.ProjBackReferenceIdeal.Gen.facts, Cert.FirstNormKernel.Gen.facts, Cert.FirstNormKernelIdeal.Gen.facts, Cert.FirstNormReferenceIdeal.Gen.facts, Cert.LastKernel.Gen.facts, Cert.LastKernelIdeal.Gen.facts, Cert.LastReferenceIdeal.Gen.facts, Cert.InnerKernel.Gen.facts, Cert.InnerKernelIdeal.Gen.facts, Cert.InnerReferenceIdeal.Gen.facts, Cert.LossKernel.Gen.facts, Cert.LossKernelIdeal.Gen.facts, Cert.LossReferenceIdeal.Gen.facts, Cert.KernelIdeal.Sb.preFacts, Cert.Pre_norm_finite.Gen.facts, Cert.Pre_glu_finite.Gen.facts, Cert.Pre_hidden_finite.Gen.facts, Cert.Pre_mix_finite.Gen.facts, Cert.Pre_loss_finite.Gen.facts,
    frame_kernel,
    frame_ideal,
    fun m ρ _ => frame_ideal m ρ trivial,
    frame_reference,
    fun m ρ _ => frame_reference m ρ trivial,
    norm_kernel,
    norm_ideal,
    fun m ρ _ => norm_ideal m ρ trivial,
    norm_reference,
    fun m ρ _ => norm_reference m ρ trivial,
    glu_kernel,
    glu_ideal,
    fun m ρ _ => glu_ideal m ρ trivial,
    glu_reference,
    fun m ρ _ => glu_reference m ρ trivial,
    down_kernel,
    down_ideal,
    down_reference,
    gate_kernel,
    gate_ideal,
    gate_reference,
    hidden_kernel,
    hidden_ideal,
    fun m ρ _ => hidden_ideal m ρ trivial,
    hidden_reference,
    fun m ρ _ => hidden_reference m ρ trivial,
    mix_kernel,
    mix_ideal,
    fun m ρ _ => mix_ideal m ρ trivial,
    mix_reference,
    fun m ρ _ => mix_reference m ρ trivial,
    ingrad_kernel,
    ingrad_ideal,
    ingrad_reference,
    into_kernel,
    into_ideal,
    into_reference,
    residual_kernel,
    residual_ideal,
    residual_reference,
    update_kernel,
    update_ideal,
    update_reference,
    gain_kernel,
    gain_ideal,
    gain_reference,
    sum_kernel,
    sum_ideal,
    sum_reference,
    updateout_kernel,
    updateout_ideal,
    updateout_reference,
    updatein_kernel,
    updatein_ideal,
    updatein_reference,
    updateproj_kernel,
    updateproj_ideal,
    updateproj_reference,
    outgrad_kernel,
    outgrad_ideal,
    outgrad_reference,
    out_kernel,
    out_ideal,
    out_reference,
    blend_kernel,
    blend_ideal,
    blend_reference,
    unblend_kernel,
    unblend_ideal,
    unblend_reference,
    projgrad_kernel,
    projgrad_ideal,
    projgrad_reference,
    projback_kernel,
    projback_ideal,
    projback_reference,
    firstnorm_kernel,
    firstnorm_ideal,
    firstnorm_reference,
    last_kernel,
    last_ideal,
    last_reference,
    inner_kernel,
    inner_ideal,
    inner_reference,
    loss_kernel,
    loss_ideal,
    fun m ρ _ => loss_ideal m ρ trivial,
    loss_reference,
    fun m ρ _ => loss_reference m ρ trivial,
    trivial,
    value,
    trivial,
    norm_value,
    trivial,
    glu_value,
    trivial,
    down_value,
    trivial,
    gate_value,
    trivial,
    hidden_value,
    trivial,
    mix_value,
    trivial,
    ingrad_value,
    trivial,
    into_value,
    trivial,
    residual_value,
    trivial,
    update_value,
    trivial,
    gain_value,
    trivial,
    sum_value,
    trivial,
    updateout_value,
    trivial,
    updatein_value,
    trivial,
    updateproj_value,
    trivial,
    outgrad_value,
    trivial,
    out_value,
    trivial,
    blend_value,
    trivial,
    unblend_value,
    trivial,
    projgrad_value,
    trivial,
    projback_value,
    trivial,
    firstnorm_value,
    trivial,
    last_value,
    trivial,
    inner_value,
    trivial,
    loss_value⟩

end Cert.Proof

end
